-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Context (m : (ℓ : Loc Cert.Context.nD Cert.Context.τ Cert.Context.sig) → Buf (Elt Bits) ℓ) : Prop :=
  True

def Pre_ContextIdeal (m : (ℓ : Loc Cert.ContextIdeal.nD Cert.ContextIdeal.τ Cert.ContextIdeal.sig) → Buf (Elt Ideal) ℓ) : Prop :=
  True

def Pre_ContextRefIdeal (m : (ℓ : Loc Cert.ContextRefIdeal.nD Cert.ContextRefIdeal.τ Cert.ContextRefIdeal.sig) → Buf (Elt Ideal) ℓ) : Prop :=
  True

def Pre_Next (m : (ℓ : Loc Cert.Next.nD Cert.Next.τ Cert.Next.sig) → Buf (Elt Bits) ℓ) : Prop :=
  True

def Pre_NextIdeal (m : (ℓ : Loc Cert.NextIdeal.nD Cert.NextIdeal.τ Cert.NextIdeal.sig) → Buf (Elt Ideal) ℓ) : Prop :=
  True

def Pre_NextRefIdeal (m : (ℓ : Loc Cert.NextRefIdeal.nD Cert.NextRefIdeal.τ Cert.NextRefIdeal.sig) → Buf (Elt Ideal) ℓ) : Prop :=
  True

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinRefIdeal (m : (ℓ : Loc Cert.JoinRefIdeal.nD Cert.JoinRefIdeal.τ Cert.JoinRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1))
      ∧ r.2.sem = fun _ => 0)

def quiescent_Context [hContext : Cert.Context.Facts] : Prop :=
  ∀ (m : (ℓ : Loc Cert.Context.nD Cert.Context.τ Cert.Context.sig) → Buf (Elt Bits) ℓ) (g : Dev Cert.Context.nD → PrngReg), Pre_Context m →
    θ_run (Cert.Context.defs (F := Bits)) (onTc (τ := Cert.Context.τ) (Cert.Context.main (F := Bits))) ⟨m, fun _ => 0, g⟩ (fun r => (∀ c : Dev Cert.Context.nD,
      r.2.mem ((c.tc : Thread Cert.Context.nD Cert.Context.τ).loc Cert.Context.main_arg0) = m ((c.tc : Thread Cert.Context.nD Cert.Context.τ).loc Cert.Context.main_arg0)
      ∧ r.2.mem ((c.tc : Thread Cert.Context.nD Cert.Context.τ).loc Cert.Context.main_arg1) = m ((c.tc : Thread Cert.Context.nD Cert.Context.τ).loc Cert.Context.main_arg1))
      ∧ r.2.sem = fun _ => 0)

def quiescent_ContextIdeal [hContextIdeal : Cert.ContextIdeal.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1))
      ∧ r.2.sem = fun _ => 0)

def quiescent_ContextRefIdeal [hContextRefIdeal : Cert.ContextRefIdeal.Facts] : Prop :=
  ∀ (m : (ℓ : Loc Cert.ContextRefIdeal.nD Cert.ContextRefIdeal.τ Cert.ContextRefIdeal.sig) → Buf (Elt Ideal) ℓ) (g : Dev Cert.ContextRefIdeal.nD → PrngReg), Pre_ContextRefIdeal m →
    θ_run (Cert.ContextRefIdeal.defs (F := Ideal)) (onTc (τ := Cert.ContextRefIdeal.τ) (Cert.ContextRefIdeal.main (F := Ideal))) ⟨m, fun _ => 0, g⟩ (fun r => (∀ c : Dev Cert.ContextRefIdeal.nD,
      r.2.mem ((c.tc : Thread Cert.ContextRefIdeal.nD Cert.ContextRefIdeal.τ).loc Cert.ContextRefIdeal.main_arg0) = m ((c.tc : Thread Cert.ContextRefIdeal.nD Cert.ContextRefIdeal.τ).loc Cert.ContextRefIdeal.main_arg0)
      ∧ r.2.mem ((c.tc : Thread Cert.ContextRefIdeal.nD Cert.ContextRefIdeal.τ).loc Cert.ContextRefIdeal.main_arg1) = m ((c.tc : Thread Cert.ContextRefIdeal.nD Cert.ContextRefIdeal.τ).loc Cert.ContextRefIdeal.main_arg1))
      ∧ r.2.sem = fun _ => 0)

def quiescent_Next [hNext : Cert.Next.Facts] : Prop :=
  ∀ (m : (ℓ : Loc Cert.Next.nD Cert.Next.τ Cert.Next.sig) → Buf (Elt Bits) ℓ) (g : Dev Cert.Next.nD → PrngReg), Pre_Next m →
    θ_run (Cert.Next.defs (F := Bits)) (onTc (τ := Cert.Next.τ) (Cert.Next.main (F := Bits))) ⟨m, fun _ => 0, g⟩ (fun r => (∀ c : Dev Cert.Next.nD,
      r.2.mem ((c.tc : Thread Cert.Next.nD Cert.Next.τ).loc Cert.Next.main_arg0) = m ((c.tc : Thread Cert.Next.nD Cert.Next.τ).loc Cert.Next.main_arg0)
      ∧ r.2.mem ((c.tc : Thread Cert.Next.nD Cert.Next.τ).loc Cert.Next.main_arg1) = m ((c.tc : Thread Cert.Next.nD Cert.Next.τ).loc Cert.Next.main_arg1)
      ∧ r.2.mem ((c.tc : Thread Cert.Next.nD Cert.Next.τ).loc Cert.Next.main_arg2) = m ((c.tc : Thread Cert.Next.nD Cert.Next.τ).loc Cert.Next.main_arg2)
      ∧ r.2.mem ((c.tc : Thread Cert.Next.nD Cert.Next.τ).loc Cert.Next.main_arg3) = m ((c.tc : Thread Cert.Next.nD Cert.Next.τ).loc Cert.Next.main_arg3)
      ∧ r.2.mem ((c.tc : Thread Cert.Next.nD Cert.Next.τ).loc Cert.Next.main_arg4) = m ((c.tc : Thread Cert.Next.nD Cert.Next.τ).loc Cert.Next.main_arg4)
      ∧ r.2.mem ((c.tc : Thread Cert.Next.nD Cert.Next.τ).loc Cert.Next.main_arg5) = m ((c.tc : Thread Cert.Next.nD Cert.Next.τ).loc Cert.Next.main_arg5)
      ∧ r.2.mem ((c.tc : Thread Cert.Next.nD Cert.Next.τ).loc Cert.Next.main_arg6) = m ((c.tc : Thread Cert.Next.nD Cert.Next.τ).loc Cert.Next.main_arg6)
      ∧ r.2.mem ((c.tc : Thread Cert.Next.nD Cert.Next.τ).loc Cert.Next.main_arg7) = m ((c.tc : Thread Cert.Next.nD Cert.Next.τ).loc Cert.Next.main_arg7)
      ∧ r.2.mem ((c.tc : Thread Cert.Next.nD Cert.Next.τ).loc Cert.Next.main_arg8) = m ((c.tc : Thread Cert.Next.nD Cert.Next.τ).loc Cert.Next.main_arg8))
      ∧ r.2.sem = fun _ => 0)

def quiescent_NextIdeal [hNextIdeal : Cert.NextIdeal.Facts] : Prop :=
  ∀ (m : (ℓ : Loc Cert.NextIdeal.nD Cert.NextIdeal.τ Cert.NextIdeal.sig) → Buf (Elt Ideal) ℓ) (g : Dev Cert.NextIdeal.nD → PrngReg), Pre_NextIdeal m →
    θ_run (Cert.NextIdeal.defs (F := Ideal)) (onTc (τ := Cert.NextIdeal.τ) (Cert.NextIdeal.main (F := Ideal))) ⟨m, fun _ => 0, g⟩ (fun r => (∀ c : Dev Cert.NextIdeal.nD,
      r.2.mem ((c.tc : Thread Cert.NextIdeal.nD Cert.NextIdeal.τ).loc Cert.NextIdeal.main_arg0) = m ((c.tc : Thread Cert.NextIdeal.nD Cert.NextIdeal.τ).loc Cert.NextIdeal.main_arg0)
      ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
      ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
      ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
      ∧ r.2.mem ((c.tc : Thread Cert.NextIdeal.nD Cert.NextIdeal.τ).loc Cert.NextIdeal.main_arg4) = m ((c.tc : Thread Cert.NextIdeal.nD Cert.NextIdeal.τ).loc Cert.NextIdeal.main_arg4)
      ∧ r.2.mem ((c.tc : Thread Cert.NextIdeal.nD Cert.NextIdeal.τ).loc Cert.NextIdeal.main_arg5) = m ((c.tc : Thread Cert.NextIdeal.nD Cert.NextIdeal.τ).loc Cert.NextIdeal.main_arg5)
      ∧ r.2.mem ((c.tc : Thread Cert.NextIdeal.nD Cert.NextIdeal.τ).loc Cert.NextIdeal.main_arg6) = m ((c.tc : Thread Cert.NextIdeal.nD Cert.NextIdeal.τ).loc Cert.NextIdeal.main_arg6)
      ∧ r.2.mem ((c.tc : Thread Cert.NextIdeal.nD Cert.NextIdeal.τ).loc Cert.NextIdeal.main_arg7) = m ((c.tc : Thread Cert.NextIdeal.nD Cert.NextIdeal.τ).loc Cert.NextIdeal.main_arg7)
      ∧ r.2.mem ((c.tc : Thread Cert.NextIdeal.nD Cert.NextIdeal.τ).loc Cert.NextIdeal.main_arg8) = m ((c.tc : Thread Cert.NextIdeal.nD Cert.NextIdeal.τ).loc Cert.NextIdeal.main_arg8))
      ∧ r.2.sem = fun _ => 0)

def quiescent_NextRefIdeal [hNextRefIdeal : Cert.NextRefIdeal.Facts] : Prop :=
  ∀ (m : (ℓ : Loc Cert.NextRefIdeal.nD Cert.NextRefIdeal.τ Cert.NextRefIdeal.sig) → Buf (Elt Ideal) ℓ) (g : Dev Cert.NextRefIdeal.nD → PrngReg), Pre_NextRefIdeal m →
    θ_run (Cert.NextRefIdeal.defs (F := Ideal)) (onTc (τ := Cert.NextRefIdeal.τ) (Cert.NextRefIdeal.main (F := Ideal))) ⟨m, fun _ => 0, g⟩ (fun r => (∀ c : Dev Cert.NextRefIdeal.nD,
      r.2.mem ((c.tc : Thread Cert.NextRefIdeal.nD Cert.NextRefIdeal.τ).loc Cert.NextRefIdeal.main_arg0) = m ((c.tc : Thread Cert.NextRefIdeal.nD Cert.NextRefIdeal.τ).loc Cert.NextRefIdeal.main_arg0)
      ∧ r.2.mem ((c.tc : Thread Cert.NextRefIdeal.nD Cert.NextRefIdeal.τ).loc Cert.NextRefIdeal.main_arg1) = m ((c.tc : Thread Cert.NextRefIdeal.nD Cert.NextRefIdeal.τ).loc Cert.NextRefIdeal.main_arg1)
      ∧ r.2.mem ((c.tc : Thread Cert.NextRefIdeal.nD Cert.NextRefIdeal.τ).loc Cert.NextRefIdeal.main_arg2) = m ((c.tc : Thread Cert.NextRefIdeal.nD Cert.NextRefIdeal.τ).loc Cert.NextRefIdeal.main_arg2)
      ∧ r.2.mem ((c.tc : Thread Cert.NextRefIdeal.nD Cert.NextRefIdeal.τ).loc Cert.NextRefIdeal.main_arg3) = m ((c.tc : Thread Cert.NextRefIdeal.nD Cert.NextRefIdeal.τ).loc Cert.NextRefIdeal.main_arg3)
      ∧ r.2.mem ((c.tc : Thread Cert.NextRefIdeal.nD Cert.NextRefIdeal.τ).loc Cert.NextRefIdeal.main_arg4) = m ((c.tc : Thread Cert.NextRefIdeal.nD Cert.NextRefIdeal.τ).loc Cert.NextRefIdeal.main_arg4)
      ∧ r.2.mem ((c.tc : Thread Cert.NextRefIdeal.nD Cert.NextRefIdeal.τ).loc Cert.NextRefIdeal.main_arg5) = m ((c.tc : Thread Cert.NextRefIdeal.nD Cert.NextRefIdeal.τ).loc Cert.NextRefIdeal.main_arg5)
      ∧ r.2.mem ((c.tc : Thread Cert.NextRefIdeal.nD Cert.NextRefIdeal.τ).loc Cert.NextRefIdeal.main_arg6) = m ((c.tc : Thread Cert.NextRefIdeal.nD Cert.NextRefIdeal.τ).loc Cert.NextRefIdeal.main_arg6)
      ∧ r.2.mem ((c.tc : Thread Cert.NextRefIdeal.nD Cert.NextRefIdeal.τ).loc Cert.NextRefIdeal.main_arg7) = m ((c.tc : Thread Cert.NextRefIdeal.nD Cert.NextRefIdeal.τ).loc Cert.NextRefIdeal.main_arg7)
      ∧ r.2.mem ((c.tc : Thread Cert.NextRefIdeal.nD Cert.NextRefIdeal.τ).loc Cert.NextRefIdeal.main_arg8) = m ((c.tc : Thread Cert.NextRefIdeal.nD Cert.NextRefIdeal.τ).loc Cert.NextRefIdeal.main_arg8))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0)
      ∧ r.2.mem ((c.tc : Thread Cert.Join.nD Cert.Join.τ).loc Cert.Join.main_arg1) = m ((c.tc : Thread Cert.Join.nD Cert.Join.τ).loc Cert.Join.main_arg1)
      ∧ r.2.mem ((c.tc : Thread Cert.Join.nD Cert.Join.τ).loc Cert.Join.main_arg2) = m ((c.tc : Thread Cert.Join.nD Cert.Join.τ).loc Cert.Join.main_arg2)
      ∧ r.2.mem ((c.tc : Thread Cert.Join.nD Cert.Join.τ).loc Cert.Join.main_arg3) = m ((c.tc : Thread Cert.Join.nD Cert.Join.τ).loc Cert.Join.main_arg3)
      ∧ r.2.mem ((c.tc : Thread Cert.Join.nD Cert.Join.τ).loc Cert.Join.main_arg4) = m ((c.tc : Thread Cert.Join.nD Cert.Join.τ).loc Cert.Join.main_arg4)
      ∧ r.2.mem ((c.tc : Thread Cert.Join.nD Cert.Join.τ).loc Cert.Join.main_arg5) = m ((c.tc : Thread Cert.Join.nD Cert.Join.τ).loc Cert.Join.main_arg5)
      ∧ r.2.mem ((c.tc : Thread Cert.Join.nD Cert.Join.τ).loc Cert.Join.main_arg6) = m ((c.tc : Thread Cert.Join.nD Cert.Join.τ).loc Cert.Join.main_arg6)
      ∧ r.2.mem ((c.tc : Thread Cert.Join.nD Cert.Join.τ).loc Cert.Join.main_arg7) = m ((c.tc : Thread Cert.Join.nD Cert.Join.τ).loc Cert.Join.main_arg7)
      ∧ r.2.mem ((c.tc : Thread Cert.Join.nD Cert.Join.τ).loc Cert.Join.main_arg8) = m ((c.tc : Thread Cert.Join.nD Cert.Join.τ).loc Cert.Join.main_arg8))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
      ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
      ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
      ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
      ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
      ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
      ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6)
      ∧ r.2.mem ((c.tc : Thread Cert.JoinIdeal.nD Cert.JoinIdeal.τ).loc Cert.JoinIdeal.main_arg7) = m ((c.tc : Thread Cert.JoinIdeal.nD Cert.JoinIdeal.τ).loc Cert.JoinIdeal.main_arg7)
      ∧ r.2.mem ((c.tc : Thread Cert.JoinIdeal.nD Cert.JoinIdeal.τ).loc Cert.JoinIdeal.main_arg8) = m ((c.tc : Thread Cert.JoinIdeal.nD Cert.JoinIdeal.τ).loc Cert.JoinIdeal.main_arg8))
      ∧ r.2.sem = fun _ => 0)

def quiescent_JoinRefIdeal [hJoinRefIdeal : Cert.JoinRefIdeal.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0)
      ∧ r.2.mem ((c.tc : Thread Cert.JoinRefIdeal.nD Cert.JoinRefIdeal.τ).loc Cert.JoinRefIdeal.main_arg1) = m ((c.tc : Thread Cert.JoinRefIdeal.nD Cert.JoinRefIdeal.τ).loc Cert.JoinRefIdeal.main_arg1)
      ∧ r.2.mem ((c.tc : Thread Cert.JoinRefIdeal.nD Cert.JoinRefIdeal.τ).loc Cert.JoinRefIdeal.main_arg2) = m ((c.tc : Thread Cert.JoinRefIdeal.nD Cert.JoinRefIdeal.τ).loc Cert.JoinRefIdeal.main_arg2)
      ∧ r.2.mem ((c.tc : Thread Cert.JoinRefIdeal.nD Cert.JoinRefIdeal.τ).loc Cert.JoinRefIdeal.main_arg3) = m ((c.tc : Thread Cert.JoinRefIdeal.nD Cert.JoinRefIdeal.τ).loc Cert.JoinRefIdeal.main_arg3)
      ∧ r.2.mem ((c.tc : Thread Cert.JoinRefIdeal.nD Cert.JoinRefIdeal.τ).loc Cert.JoinRefIdeal.main_arg4) = m ((c.tc : Thread Cert.JoinRefIdeal.nD Cert.JoinRefIdeal.τ).loc Cert.JoinRefIdeal.main_arg4)
      ∧ r.2.mem ((c.tc : Thread Cert.JoinRefIdeal.nD Cert.JoinRefIdeal.τ).loc Cert.JoinRefIdeal.main_arg5) = m ((c.tc : Thread Cert.JoinRefIdeal.nD Cert.JoinRefIdeal.τ).loc Cert.JoinRefIdeal.main_arg5)
      ∧ r.2.mem ((c.tc : Thread Cert.JoinRefIdeal.nD Cert.JoinRefIdeal.τ).loc Cert.JoinRefIdeal.main_arg6) = m ((c.tc : Thread Cert.JoinRefIdeal.nD Cert.JoinRefIdeal.τ).loc Cert.JoinRefIdeal.main_arg6)
      ∧ r.2.mem ((c.tc : Thread Cert.JoinRefIdeal.nD Cert.JoinRefIdeal.τ).loc Cert.JoinRefIdeal.main_arg7) = m ((c.tc : Thread Cert.JoinRefIdeal.nD Cert.JoinRefIdeal.τ).loc Cert.JoinRefIdeal.main_arg7)
      ∧ r.2.mem ((c.tc : Thread Cert.JoinRefIdeal.nD Cert.JoinRefIdeal.τ).loc Cert.JoinRefIdeal.main_arg8) = m ((c.tc : Thread Cert.JoinRefIdeal.nD Cert.JoinRefIdeal.τ).loc Cert.JoinRefIdeal.main_arg8))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v7)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v7) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v16) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v6)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v6) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v26) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v1)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v1) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v2) = v0 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v2) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1))

def preserves_Context_ContextIdeal : Prop :=
  True

def algebraic_ContextIdeal_ContextRefIdeal [hContextIdeal : Cert.ContextIdeal.Facts] [hContextRefIdeal : Cert.ContextRefIdeal.Facts] : Prop :=
  ∀ (m : (ℓ : Loc Cert.ContextIdeal.nD Cert.ContextIdeal.τ Cert.ContextIdeal.sig) → Buf (Elt Ideal) ℓ) (g : Dev Cert.ContextIdeal.nD → PrngReg)
    (m' : (ℓ : Loc Cert.ContextRefIdeal.nD Cert.ContextRefIdeal.τ Cert.ContextRefIdeal.sig) → Buf (Elt Ideal) ℓ) (g' : Dev Cert.ContextRefIdeal.nD → PrngReg), Pre_ContextIdeal m →
    (∀ c : Dev Cert.ContextIdeal.nD,
      m' ((c.tc : Thread Cert.ContextRefIdeal.nD Cert.ContextRefIdeal.τ).loc Cert.ContextRefIdeal.main_arg0) = m ((c.tc : Thread Cert.ContextIdeal.nD Cert.ContextIdeal.τ).loc Cert.ContextIdeal.main_arg0)
      ∧ m' ((c.tc : Thread Cert.ContextRefIdeal.nD Cert.ContextRefIdeal.τ).loc Cert.ContextRefIdeal.main_arg1) = m ((c.tc : Thread Cert.ContextIdeal.nD Cert.ContextIdeal.τ).loc Cert.ContextIdeal.main_arg1)) →
    ∃ (v0 : (c : Dev Cert.ContextIdeal.nD) → Buf (Elt Ideal) ((c.tc : Thread Cert.ContextIdeal.nD Cert.ContextIdeal.τ).loc Cert.ContextIdeal.main_v4)),
      θ_run (Cert.ContextIdeal.defs (F := Ideal)) (onTc (τ := Cert.ContextIdeal.τ) (Cert.ContextIdeal.main (F := Ideal))) ⟨m, fun _ => 0, g⟩ (fun r => ∀ c : Dev Cert.ContextIdeal.nD,
          r.2.mem ((c.tc : Thread Cert.ContextIdeal.nD Cert.ContextIdeal.τ).loc Cert.ContextIdeal.main_v4) = v0 c
          ∧ r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
          ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1))
      ∧ θ_run (Cert.ContextRefIdeal.defs (F := Ideal)) (onTc (τ := Cert.ContextRefIdeal.τ) (Cert.ContextRefIdeal.main (F := Ideal))) ⟨m', fun _ => 0, g'⟩ (fun r => ∀ c : Dev Cert.ContextRefIdeal.nD,
          r.2.mem ((c.tc : Thread Cert.ContextRefIdeal.nD Cert.ContextRefIdeal.τ).loc Cert.ContextRefIdeal.main_v9) = v0 c
          ∧ r.2.mem ((c.tc : Thread Cert.ContextRefIdeal.nD Cert.ContextRefIdeal.τ).loc Cert.ContextRefIdeal.main_arg0) = m' ((c.tc : Thread Cert.ContextRefIdeal.nD Cert.ContextRefIdeal.τ).loc Cert.ContextRefIdeal.main_arg0)
          ∧ r.2.mem ((c.tc : Thread Cert.ContextRefIdeal.nD Cert.ContextRefIdeal.τ).loc Cert.ContextRefIdeal.main_arg1) = m' ((c.tc : Thread Cert.ContextRefIdeal.nD Cert.ContextRefIdeal.τ).loc Cert.ContextRefIdeal.main_arg1))

def preserves_Next_NextIdeal : Prop :=
  True

def algebraic_NextIdeal_NextRefIdeal [hNextIdeal : Cert.NextIdeal.Facts] [hNextRefIdeal : Cert.NextRefIdeal.Facts] : Prop :=
  ∀ (m : (ℓ : Loc Cert.NextIdeal.nD Cert.NextIdeal.τ Cert.NextIdeal.sig) → Buf (Elt Ideal) ℓ) (g : Dev Cert.NextIdeal.nD → PrngReg)
    (m' : (ℓ : Loc Cert.NextRefIdeal.nD Cert.NextRefIdeal.τ Cert.NextRefIdeal.sig) → Buf (Elt Ideal) ℓ) (g' : Dev Cert.NextRefIdeal.nD → PrngReg), Pre_NextIdeal m →
    (∀ c : Dev Cert.NextIdeal.nD,
      m' ((c.tc : Thread Cert.NextRefIdeal.nD Cert.NextRefIdeal.τ).loc Cert.NextRefIdeal.main_arg0) = m ((c.tc : Thread Cert.NextIdeal.nD Cert.NextIdeal.τ).loc Cert.NextIdeal.main_arg0)
      ∧ m' ((c.tc : Thread Cert.NextRefIdeal.nD Cert.NextRefIdeal.τ).loc Cert.NextRefIdeal.main_arg1) = m ((c.tc : Thread Cert.NextIdeal.nD Cert.NextIdeal.τ).loc Cert.NextIdeal.main_arg1)
      ∧ m' ((c.tc : Thread Cert.NextRefIdeal.nD Cert.NextRefIdeal.τ).loc Cert.NextRefIdeal.main_arg2) = m ((c.tc : Thread Cert.NextIdeal.nD Cert.NextIdeal.τ).loc Cert.NextIdeal.main_arg2)
      ∧ m' ((c.tc : Thread Cert.NextRefIdeal.nD Cert.NextRefIdeal.τ).loc Cert.NextRefIdeal.main_arg3) = m ((c.tc : Thread Cert.NextIdeal.nD Cert.NextIdeal.τ).loc Cert.NextIdeal.main_arg3)
      ∧ m' ((c.tc : Thread Cert.NextRefIdeal.nD Cert.NextRefIdeal.τ).loc Cert.NextRefIdeal.main_arg4) = m ((c.tc : Thread Cert.NextIdeal.nD Cert.NextIdeal.τ).loc Cert.NextIdeal.main_arg4)
      ∧ m' ((c.tc : Thread Cert.NextRefIdeal.nD Cert.NextRefIdeal.τ).loc Cert.NextRefIdeal.main_arg5) = m ((c.tc : Thread Cert.NextIdeal.nD Cert.NextIdeal.τ).loc Cert.NextIdeal.main_arg5)
      ∧ m' ((c.tc : Thread Cert.NextRefIdeal.nD Cert.NextRefIdeal.τ).loc Cert.NextRefIdeal.main_arg6) = m ((c.tc : Thread Cert.NextIdeal.nD Cert.NextIdeal.τ).loc Cert.NextIdeal.main_arg6)
      ∧ m' ((c.tc : Thread Cert.NextRefIdeal.nD Cert.NextRefIdeal.τ).loc Cert.NextRefIdeal.main_arg7) = m ((c.tc : Thread Cert.NextIdeal.nD Cert.NextIdeal.τ).loc Cert.NextIdeal.main_arg7)
      ∧ m' ((c.tc : Thread Cert.NextRefIdeal.nD Cert.NextRefIdeal.τ).loc Cert.NextRefIdeal.main_arg8) = m ((c.tc : Thread Cert.NextIdeal.nD Cert.NextIdeal.τ).loc Cert.NextIdeal.main_arg8)) →
    ∃ (v0 : (c : Dev Cert.NextIdeal.nD) → Buf (Elt Ideal) ((c.tc : Thread Cert.NextIdeal.nD Cert.NextIdeal.τ).loc Cert.NextIdeal.main_v7_0)) (v1 : (c : Dev Cert.NextIdeal.nD) → Buf (Elt Ideal) ((c.tc : Thread Cert.NextIdeal.nD Cert.NextIdeal.τ).loc Cert.NextIdeal.main_v7_1)),
      θ_run (Cert.NextIdeal.defs (F := Ideal)) (onTc (τ := Cert.NextIdeal.τ) (Cert.NextIdeal.main (F := Ideal))) ⟨m, fun _ => 0, g⟩ (fun r => ∀ c : Dev Cert.NextIdeal.nD,
          r.2.mem ((c.tc : Thread Cert.NextIdeal.nD Cert.NextIdeal.τ).loc Cert.NextIdeal.main_v7_0) = v0 c
          ∧ r.2.mem ((c.tc : Thread Cert.NextIdeal.nD Cert.NextIdeal.τ).loc Cert.NextIdeal.main_v7_1) = v1 c
          ∧ r.2.mem ((c.tc : Thread Cert.NextIdeal.nD Cert.NextIdeal.τ).loc Cert.NextIdeal.main_arg0) = m ((c.tc : Thread Cert.NextIdeal.nD Cert.NextIdeal.τ).loc Cert.NextIdeal.main_arg0)
          ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
          ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
          ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
          ∧ r.2.mem ((c.tc : Thread Cert.NextIdeal.nD Cert.NextIdeal.τ).loc Cert.NextIdeal.main_arg4) = m ((c.tc : Thread Cert.NextIdeal.nD Cert.NextIdeal.τ).loc Cert.NextIdeal.main_arg4)
          ∧ r.2.mem ((c.tc : Thread Cert.NextIdeal.nD Cert.NextIdeal.τ).loc Cert.NextIdeal.main_arg5) = m ((c.tc : Thread Cert.NextIdeal.nD Cert.NextIdeal.τ).loc Cert.NextIdeal.main_arg5)
          ∧ r.2.mem ((c.tc : Thread Cert.NextIdeal.nD Cert.NextIdeal.τ).loc Cert.NextIdeal.main_arg6) = m ((c.tc : Thread Cert.NextIdeal.nD Cert.NextIdeal.τ).loc Cert.NextIdeal.main_arg6)
          ∧ r.2.mem ((c.tc : Thread Cert.NextIdeal.nD Cert.NextIdeal.τ).loc Cert.NextIdeal.main_arg7) = m ((c.tc : Thread Cert.NextIdeal.nD Cert.NextIdeal.τ).loc Cert.NextIdeal.main_arg7)
          ∧ r.2.mem ((c.tc : Thread Cert.NextIdeal.nD Cert.NextIdeal.τ).loc Cert.NextIdeal.main_arg8) = m ((c.tc : Thread Cert.NextIdeal.nD Cert.NextIdeal.τ).loc Cert.NextIdeal.main_arg8))
      ∧ θ_run (Cert.NextRefIdeal.defs (F := Ideal)) (onTc (τ := Cert.NextRefIdeal.τ) (Cert.NextRefIdeal.main (F := Ideal))) ⟨m', fun _ => 0, g'⟩ (fun r => ∀ c : Dev Cert.NextRefIdeal.nD,
          r.2.mem ((c.tc : Thread Cert.NextRefIdeal.nD Cert.NextRefIdeal.τ).loc Cert.NextRefIdeal.main_v45) = v0 c
          ∧ r.2.mem ((c.tc : Thread Cert.NextRefIdeal.nD Cert.NextRefIdeal.τ).loc Cert.NextRefIdeal.main_v47) = v1 c
          ∧ r.2.mem ((c.tc : Thread Cert.NextRefIdeal.nD Cert.NextRefIdeal.τ).loc Cert.NextRefIdeal.main_arg0) = m' ((c.tc : Thread Cert.NextRefIdeal.nD Cert.NextRefIdeal.τ).loc Cert.NextRefIdeal.main_arg0)
          ∧ r.2.mem ((c.tc : Thread Cert.NextRefIdeal.nD Cert.NextRefIdeal.τ).loc Cert.NextRefIdeal.main_arg1) = m' ((c.tc : Thread Cert.NextRefIdeal.nD Cert.NextRefIdeal.τ).loc Cert.NextRefIdeal.main_arg1)
          ∧ r.2.mem ((c.tc : Thread Cert.NextRefIdeal.nD Cert.NextRefIdeal.τ).loc Cert.NextRefIdeal.main_arg2) = m' ((c.tc : Thread Cert.NextRefIdeal.nD Cert.NextRefIdeal.τ).loc Cert.NextRefIdeal.main_arg2)
          ∧ r.2.mem ((c.tc : Thread Cert.NextRefIdeal.nD Cert.NextRefIdeal.τ).loc Cert.NextRefIdeal.main_arg3) = m' ((c.tc : Thread Cert.NextRefIdeal.nD Cert.NextRefIdeal.τ).loc Cert.NextRefIdeal.main_arg3)
          ∧ r.2.mem ((c.tc : Thread Cert.NextRefIdeal.nD Cert.NextRefIdeal.τ).loc Cert.NextRefIdeal.main_arg4) = m' ((c.tc : Thread Cert.NextRefIdeal.nD Cert.NextRefIdeal.τ).loc Cert.NextRefIdeal.main_arg4)
          ∧ r.2.mem ((c.tc : Thread Cert.NextRefIdeal.nD Cert.NextRefIdeal.τ).loc Cert.NextRefIdeal.main_arg5) = m' ((c.tc : Thread Cert.NextRefIdeal.nD Cert.NextRefIdeal.τ).loc Cert.NextRefIdeal.main_arg5)
          ∧ r.2.mem ((c.tc : Thread Cert.NextRefIdeal.nD Cert.NextRefIdeal.τ).loc Cert.NextRefIdeal.main_arg6) = m' ((c.tc : Thread Cert.NextRefIdeal.nD Cert.NextRefIdeal.τ).loc Cert.NextRefIdeal.main_arg6)
          ∧ r.2.mem ((c.tc : Thread Cert.NextRefIdeal.nD Cert.NextRefIdeal.τ).loc Cert.NextRefIdeal.main_arg7) = m' ((c.tc : Thread Cert.NextRefIdeal.nD Cert.NextRefIdeal.τ).loc Cert.NextRefIdeal.main_arg7)
          ∧ r.2.mem ((c.tc : Thread Cert.NextRefIdeal.nD Cert.NextRefIdeal.τ).loc Cert.NextRefIdeal.main_arg8) = m' ((c.tc : Thread Cert.NextRefIdeal.nD Cert.NextRefIdeal.τ).loc Cert.NextRefIdeal.main_arg8))

def preserves_Join_JoinIdeal : Prop :=
  True

def algebraic_JoinIdeal_JoinRefIdeal [hJoinIdeal : Cert.JoinIdeal.Facts] [hJoinRefIdeal : Cert.JoinRefIdeal.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.JoinRefIdeal.nD Cert.JoinRefIdeal.τ Cert.JoinRefIdeal.sig) → Buf (Elt Ideal) ℓ) (g' : Dev Cert.JoinRefIdeal.nD → PrngReg), Pre_JoinIdeal m →
    (∀ c : Dev Cert.JoinIdeal.nD,
      m' ((c.tc : Thread Cert.JoinRefIdeal.nD Cert.JoinRefIdeal.τ).loc Cert.JoinRefIdeal.main_arg0) = m ((c.tc : Thread Cert.JoinIdeal.nD Cert.JoinIdeal.τ).loc Cert.JoinIdeal.main_arg0)
      ∧ m' ((c.tc : Thread Cert.JoinRefIdeal.nD Cert.JoinRefIdeal.τ).loc Cert.JoinRefIdeal.main_arg1) = m ((c.tc : Thread Cert.JoinIdeal.nD Cert.JoinIdeal.τ).loc Cert.JoinIdeal.main_arg1)
      ∧ m' ((c.tc : Thread Cert.JoinRefIdeal.nD Cert.JoinRefIdeal.τ).loc Cert.JoinRefIdeal.main_arg2) = m ((c.tc : Thread Cert.JoinIdeal.nD Cert.JoinIdeal.τ).loc Cert.JoinIdeal.main_arg2)
      ∧ m' ((c.tc : Thread Cert.JoinRefIdeal.nD Cert.JoinRefIdeal.τ).loc Cert.JoinRefIdeal.main_arg3) = m ((c.tc : Thread Cert.JoinIdeal.nD Cert.JoinIdeal.τ).loc Cert.JoinIdeal.main_arg3)
      ∧ m' ((c.tc : Thread Cert.JoinRefIdeal.nD Cert.JoinRefIdeal.τ).loc Cert.JoinRefIdeal.main_arg4) = m ((c.tc : Thread Cert.JoinIdeal.nD Cert.JoinIdeal.τ).loc Cert.JoinIdeal.main_arg4)
      ∧ m' ((c.tc : Thread Cert.JoinRefIdeal.nD Cert.JoinRefIdeal.τ).loc Cert.JoinRefIdeal.main_arg5) = m ((c.tc : Thread Cert.JoinIdeal.nD Cert.JoinIdeal.τ).loc Cert.JoinIdeal.main_arg5)
      ∧ m' ((c.tc : Thread Cert.JoinRefIdeal.nD Cert.JoinRefIdeal.τ).loc Cert.JoinRefIdeal.main_arg6) = m ((c.tc : Thread Cert.JoinIdeal.nD Cert.JoinIdeal.τ).loc Cert.JoinIdeal.main_arg6)
      ∧ m' ((c.tc : Thread Cert.JoinRefIdeal.nD Cert.JoinRefIdeal.τ).loc Cert.JoinRefIdeal.main_arg7) = m ((c.tc : Thread Cert.JoinIdeal.nD Cert.JoinIdeal.τ).loc Cert.JoinIdeal.main_arg7)
      ∧ m' ((c.tc : Thread Cert.JoinRefIdeal.nD Cert.JoinRefIdeal.τ).loc Cert.JoinRefIdeal.main_arg8) = m ((c.tc : Thread Cert.JoinIdeal.nD Cert.JoinIdeal.τ).loc Cert.JoinIdeal.main_arg8)) →
    ∃ (v0 : (c : Dev Cert.JoinIdeal.nD) → Buf (Elt Ideal) ((c.tc : Thread Cert.JoinIdeal.nD Cert.JoinIdeal.τ).loc Cert.JoinIdeal.main_v3_0)) (v1 : (c : Dev Cert.JoinIdeal.nD) → Buf (Elt Ideal) ((c.tc : Thread Cert.JoinIdeal.nD Cert.JoinIdeal.τ).loc Cert.JoinIdeal.main_v3_1)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v3_0) = v0 c
          ∧ r.2.mem ((c.tc : Thread Cert.JoinIdeal.nD Cert.JoinIdeal.τ).loc Cert.JoinIdeal.main_v3_1) = v1 c
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
          ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
          ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
          ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
          ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
          ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
          ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6)
          ∧ r.2.mem ((c.tc : Thread Cert.JoinIdeal.nD Cert.JoinIdeal.τ).loc Cert.JoinIdeal.main_arg7) = m ((c.tc : Thread Cert.JoinIdeal.nD Cert.JoinIdeal.τ).loc Cert.JoinIdeal.main_arg7)
          ∧ r.2.mem ((c.tc : Thread Cert.JoinIdeal.nD Cert.JoinIdeal.τ).loc Cert.JoinIdeal.main_arg8) = m ((c.tc : Thread Cert.JoinIdeal.nD Cert.JoinIdeal.τ).loc Cert.JoinIdeal.main_arg8))
      ∧ θ_run (Cert.JoinRefIdeal.defs (F := Ideal)) (onTc (τ := Cert.JoinRefIdeal.τ) (Cert.JoinRefIdeal.main (F := Ideal))) ⟨m', fun _ => 0, g'⟩ (fun r => ∀ c : Dev Cert.JoinRefIdeal.nD,
          r.2.mem ((c.tc : Thread Cert.JoinRefIdeal.nD Cert.JoinRefIdeal.τ).loc Cert.JoinRefIdeal.main_v40) = v0 c
          ∧ r.2.mem ((c.tc : Thread Cert.JoinRefIdeal.nD Cert.JoinRefIdeal.τ).loc Cert.JoinRefIdeal.main_v42) = v1 c
          ∧ r.2.mem ((c.tc : Thread Cert.JoinRefIdeal.nD Cert.JoinRefIdeal.τ).loc Cert.JoinRefIdeal.main_arg0) = m' ((c.tc : Thread Cert.JoinRefIdeal.nD Cert.JoinRefIdeal.τ).loc Cert.JoinRefIdeal.main_arg0)
          ∧ r.2.mem ((c.tc : Thread Cert.JoinRefIdeal.nD Cert.JoinRefIdeal.τ).loc Cert.JoinRefIdeal.main_arg1) = m' ((c.tc : Thread Cert.JoinRefIdeal.nD Cert.JoinRefIdeal.τ).loc Cert.JoinRefIdeal.main_arg1)
          ∧ r.2.mem ((c.tc : Thread Cert.JoinRefIdeal.nD Cert.JoinRefIdeal.τ).loc Cert.JoinRefIdeal.main_arg2) = m' ((c.tc : Thread Cert.JoinRefIdeal.nD Cert.JoinRefIdeal.τ).loc Cert.JoinRefIdeal.main_arg2)
          ∧ r.2.mem ((c.tc : Thread Cert.JoinRefIdeal.nD Cert.JoinRefIdeal.τ).loc Cert.JoinRefIdeal.main_arg3) = m' ((c.tc : Thread Cert.JoinRefIdeal.nD Cert.JoinRefIdeal.τ).loc Cert.JoinRefIdeal.main_arg3)
          ∧ r.2.mem ((c.tc : Thread Cert.JoinRefIdeal.nD Cert.JoinRefIdeal.τ).loc Cert.JoinRefIdeal.main_arg4) = m' ((c.tc : Thread Cert.JoinRefIdeal.nD Cert.JoinRefIdeal.τ).loc Cert.JoinRefIdeal.main_arg4)
          ∧ r.2.mem ((c.tc : Thread Cert.JoinRefIdeal.nD Cert.JoinRefIdeal.τ).loc Cert.JoinRefIdeal.main_arg5) = m' ((c.tc : Thread Cert.JoinRefIdeal.nD Cert.JoinRefIdeal.τ).loc Cert.JoinRefIdeal.main_arg5)
          ∧ r.2.mem ((c.tc : Thread Cert.JoinRefIdeal.nD Cert.JoinRefIdeal.τ).loc Cert.JoinRefIdeal.main_arg6) = m' ((c.tc : Thread Cert.JoinRefIdeal.nD Cert.JoinRefIdeal.τ).loc Cert.JoinRefIdeal.main_arg6)
          ∧ r.2.mem ((c.tc : Thread Cert.JoinRefIdeal.nD Cert.JoinRefIdeal.τ).loc Cert.JoinRefIdeal.main_arg7) = m' ((c.tc : Thread Cert.JoinRefIdeal.nD Cert.JoinRefIdeal.τ).loc Cert.JoinRefIdeal.main_arg7)
          ∧ r.2.mem ((c.tc : Thread Cert.JoinRefIdeal.nD Cert.JoinRefIdeal.τ).loc Cert.JoinRefIdeal.main_arg8) = m' ((c.tc : Thread Cert.JoinRefIdeal.nD Cert.JoinRefIdeal.τ).loc Cert.JoinRefIdeal.main_arg8))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v9_0)) (v1 : (c : Dev Cert.MergeIdeal.nD) → Buf (Elt Ideal) ((c.tc : Thread Cert.MergeIdeal.nD Cert.MergeIdeal.τ).loc Cert.MergeIdeal.main_v9_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9_0) = v0 c
          ∧ r.2.mem ((c.tc : Thread Cert.MergeIdeal.nD Cert.MergeIdeal.τ).loc Cert.MergeIdeal.main_v9_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v45) = v0 c
          ∧ r.2.mem ((c.tc : Thread Cert.MergeRefIdeal.nD Cert.MergeRefIdeal.τ).loc Cert.MergeRefIdeal.main_v47) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)) →
    ∃ (v0 : (c : Dev Cert.MixerIdeal.nD) → Buf (Elt Ideal) ((c.tc : Thread Cert.MixerIdeal.nD Cert.MixerIdeal.τ).loc Cert.MixerIdeal.main_v2)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v2) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v56) = v0 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)) →
    ∃ (v0 : (c : Dev Cert.FirstIdeal.nD) → Buf (Elt Ideal) ((c.tc : Thread Cert.FirstIdeal.nD Cert.FirstIdeal.τ).loc Cert.FirstIdeal.main_v1)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v1) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v21) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsRefIdeal : Cert.ExpertsRefIdeal.Facts) (hDown : Cert.Down.Facts) (hDownIdeal : Cert.DownIdeal.Facts) (hDownRefIdeal : Cert.DownRefIdeal.Facts) (hProject : Cert.Project.Facts) (hProjectIdeal : Cert.ProjectIdeal.Facts) (hProjectRefIdeal : Cert.ProjectRefIdeal.Facts) (hMix : Cert.Mix.Facts) (hMixIdeal : Cert.MixIdeal.Facts) (hMixRefIdeal : Cert.MixRefIdeal.Facts) (hContext : Cert.Context.Facts) (hContextIdeal : Cert.ContextIdeal.Facts) (hContextRefIdeal : Cert.ContextRefIdeal.Facts) (hNext : Cert.Next.Facts) (hNextIdeal : Cert.NextIdeal.Facts) (hNextRefIdeal : Cert.NextRefIdeal.Facts) (hJoin : Cert.Join.Facts) (hJoinIdeal : Cert.JoinIdeal.Facts) (hJoinRefIdeal : Cert.JoinRefIdeal.Facts) (hMerge : Cert.Merge.Facts) (hMergeIdeal : Cert.MergeIdeal.Facts) (hMergeRefIdeal : Cert.MergeRefIdeal.Facts) (hMixer : Cert.Mixer.Facts) (hMixerIdeal : Cert.MixerIdeal.Facts) (hMixerRefIdeal : Cert.MixerRefIdeal.Facts) (hAda : Cert.Ada.Facts) (hAdaIdeal : Cert.AdaIdeal.Facts) (hAdaRefIdeal : Cert.AdaRefIdeal.Facts) (hFirst : Cert.First.Facts) (hFirstIdeal : Cert.FirstIdeal.Facts) (hFirstRefIdeal : Cert.FirstRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts)
    ∧ quiescent_ExpertsIdeal (hExpertsIdeal := hExpertsIdeal)
    ∧ quiescent_ExpertsRefIdeal (hExpertsRefIdeal := hExpertsRefIdeal)
    ∧ quiescent_Down (hDown := hDown)
    ∧ quiescent_DownIdeal (hDownIdeal := hDownIdeal)
    ∧ quiescent_DownRefIdeal (hDownRefIdeal := hDownRefIdeal)
    ∧ quiescent_Project (hProject := hProject)
    ∧ quiescent_ProjectIdeal (hProjectIdeal := hProjectIdeal)
    ∧ quiescent_ProjectRefIdeal (hProjectRefIdeal := hProjectRefIdeal)
    ∧ quiescent_Mix (hMix := hMix)
    ∧ quiescent_MixIdeal (hMixIdeal := hMixIdeal)
    ∧ quiescent_MixRefIdeal (hMixRefIdeal := hMixRefIdeal)
    ∧ quiescent_Context (hContext := hContext)
    ∧ quiescent_ContextIdeal (hContextIdeal := hContextIdeal)
    ∧ quiescent_ContextRefIdeal (hContextRefIdeal := hContextRefIdeal)
    ∧ quiescent_Next (hNext := hNext)
    ∧ quiescent_NextIdeal (hNextIdeal := hNextIdeal)
    ∧ quiescent_NextRefIdeal (hNextRefIdeal := hNextRefIdeal)
    ∧ quiescent_Join (hJoin := hJoin)
    ∧ quiescent_JoinIdeal (hJoinIdeal := hJoinIdeal)
    ∧ quiescent_JoinRefIdeal (hJoinRefIdeal := hJoinRefIdeal)
    ∧ quiescent_Merge (hMerge := hMerge)
    ∧ quiescent_MergeIdeal (hMergeIdeal := hMergeIdeal)
    ∧ quiescent_MergeRefIdeal (hMergeRefIdeal := hMergeRefIdeal)
    ∧ quiescent_Mixer (hMixer := hMixer)
    ∧ quiescent_MixerIdeal (hMixerIdeal := hMixerIdeal)
    ∧ quiescent_MixerRefIdeal (hMixerRefIdeal := hMixerRefIdeal)
    ∧ quiescent_Ada (hAda := hAda)
    ∧ quiescent_AdaIdeal (hAdaIdeal := hAdaIdeal)
    ∧ quiescent_AdaRefIdeal (hAdaRefIdeal := hAdaRefIdeal)
    ∧ quiescent_First (hFirst := hFirst)
    ∧ quiescent_FirstIdeal (hFirstIdeal := hFirstIdeal)
    ∧ quiescent_FirstRefIdeal (hFirstRefIdeal := hFirstRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsRefIdeal (hExpertsIdeal := hExpertsIdeal) (hExpertsRefIdeal := hExpertsRefIdeal)
    ∧ preserves_Down_DownIdeal
    ∧ algebraic_DownIdeal_DownRefIdeal (hDownIdeal := hDownIdeal) (hDownRefIdeal := hDownRefIdeal)
    ∧ preserves_Project_ProjectIdeal
    ∧ algebraic_ProjectIdeal_ProjectRefIdeal (hProjectIdeal := hProjectIdeal) (hProjectRefIdeal := hProjectRefIdeal)
    ∧ preserves_Mix_MixIdeal
    ∧ algebraic_MixIdeal_MixRefIdeal (hMixIdeal := hMixIdeal) (hMixRefIdeal := hMixRefIdeal)
    ∧ preserves_Context_ContextIdeal
    ∧ algebraic_ContextIdeal_ContextRefIdeal (hContextIdeal := hContextIdeal) (hContextRefIdeal := hContextRefIdeal)
    ∧ preserves_Next_NextIdeal
    ∧ algebraic_NextIdeal_NextRefIdeal (hNextIdeal := hNextIdeal) (hNextRefIdeal := hNextRefIdeal)
    ∧ preserves_Join_JoinIdeal
    ∧ algebraic_JoinIdeal_JoinRefIdeal (hJoinIdeal := hJoinIdeal) (hJoinRefIdeal := hJoinRefIdeal)
    ∧ preserves_Merge_MergeIdeal
    ∧ algebraic_MergeIdeal_MergeRefIdeal (hMergeIdeal := hMergeIdeal) (hMergeRefIdeal := hMergeRefIdeal)
    ∧ preserves_Mixer_MixerIdeal
    ∧ algebraic_MixerIdeal_MixerRefIdeal (hMixerIdeal := hMixerIdeal) (hMixerRefIdeal := hMixerRefIdeal)
    ∧ preserves_Ada_AdaIdeal
    ∧ algebraic_AdaIdeal_AdaRefIdeal (hAdaIdeal := hAdaIdeal) (hAdaRefIdeal := hAdaRefIdeal)
    ∧ preserves_First_FirstIdeal
    ∧ algebraic_FirstIdeal_FirstRefIdeal (hFirstIdeal := hFirstIdeal) (hFirstRefIdeal := hFirstRefIdeal)
-- ==== Pre_finite.lean ====
abbrev S16384x2048 : Shape := ⟨2, ![16384, 2048]⟩
abbrev S16384x512 : Shape := ⟨2, ![16384, 512]⟩
abbrev S16384x9216 : Shape := ⟨2, ![16384, 9216]⟩
abbrev S2048x512 : Shape := ⟨2, ![2048, 512]⟩
abbrev S2048x5120 : Shape := ⟨2, ![2048, 5120]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S16384x2048 .bf16) (main_arg1 : FVec F S16384x512 .bf16) (main_arg2 : FVec F S16384x9216 .bf16) (main_arg3 : FVec F S2048x512 .bf16) (main_arg4 : FVec F S2048x5120 .bf16) : IVec S_ 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_c : IVec S_ 1 := constantI S_ 1 1#1
  let main_v4 : IVec S_ 1 := (fun x v => Host.reduce IntOp.andi x v reducesTo_S16384x2048_S_d0_1 h_S_) main_v3 main_c
  let main_v5 : FVec F S16384x512 .f32 := (extf .f32 · bitsLt_bf16_f32) main_arg1
  let main_v6 : FVec F S16384x512 .f32 := Host.absf main_v5
  let main_cst_0 : FVec F S_ .f32 := constant S_ .f32 0x7F800000#32
  let main_v7 : FVec F S16384x512 .f32 := broadcastInDim S16384x512 ![] bcast_S_S16384x512 main_cst_0
  let main_v8 : IVec S16384x512 1 := cmpf .olt main_v6 main_v7
  let main_c_1 : IVec S_ 1 := constantI S_ 1 1#1
  let main_v9 : IVec S_ 1 := (fun x v => Host.reduce IntOp.andi x v reducesTo_S16384x512_S_d0_1 h_S_) main_v8 main_c_1
  let main_v10 : IVec S_ 1 := andi main_v4 main_v9
  let main_v11 : FVec F S2048x512 .f32 := (extf .f32 · bitsLt_bf16_f32) main_arg3
  let main_v12 : FVec F S2048x512 .f32 := Host.absf main_v11
  let main_cst_2 : FVec F S_ .f32 := constant S_ .f32 0x7F800000#32
  let main_v13 : FVec F S2048x512 .f32 := broadcastInDim S2048x512 ![] bcast_S_S2048x512 main_cst_2
  let main_v14 : IVec S2048x512 1 := cmpf .olt main_v12 main_v13
  let main_c_3 : IVec S_ 1 := constantI S_ 1 1#1
  let main_v15 : IVec S_ 1 := (fun x v => Host.reduce IntOp.andi x v reducesTo_S2048x512_S_d0_1 h_S_) main_v14 main_c_3
  let main_v16 : IVec S_ 1 := andi main_v10 main_v15
  main_v16
-- ==== Kernel.lean ====
abbrev S16384x2048 : Shape := ⟨2, ![16384, 2048]⟩
abbrev S16384x512 : Shape := ⟨2, ![16384, 512]⟩
abbrev S16384x9216 : Shape := ⟨2, ![16384, 9216]⟩
abbrev S2048x512 : Shape := ⟨2, ![2048, 512]⟩
abbrev S2048x5120 : Shape := ⟨2, ![2048, 5120]⟩
abbrev S256x512 : Shape := ⟨2, ![256, 512]⟩
abbrev S2048x128 : Shape := ⟨2, ![2048, 128]⟩
abbrev S256x128 : Shape := ⟨2, ![256, 128]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x512, .bf16⟩
  | .hbm, ⟨2, _⟩ => ⟨S16384x9216, .bf16⟩
  | .hbm, ⟨3, _⟩ => ⟨S2048x512, .bf16⟩
  | .hbm, ⟨4, _⟩ => ⟨S2048x5120, .bf16⟩
  | .hbm, ⟨5, _⟩ => ⟨S16384x2048, .bf16⟩
  | .local _ .vmem, ⟨0, _⟩ => ⟨S256x512, .bf16⟩
  | .local _ .vmem, ⟨1, _⟩ => ⟨S256x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x512, .bf16⟩
  | .local _ .vmem, ⟨11, _⟩ => ⟨S256x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c68_i32 : BitVec 32 := 68#32
  let v0 : BitVec 32 := Scalar.addi c68_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16384x2048 : Shape := ⟨2, ![16384, 2048]⟩
abbrev S16384x512 : Shape := ⟨2, ![16384, 512]⟩
abbrev S16384x9216 : Shape := ⟨2, ![16384, 9216]⟩
abbrev S2048x512 : Shape := ⟨2, ![2048, 512]⟩
abbrev S2048x5120 : Shape := ⟨2, ![2048, 5120]⟩
abbrev S8x2048x16x128 : Shape := ⟨4, ![8, 2048, 16, 128]⟩
abbrev S8x2048x4x128 : Shape := ⟨4, ![8, 2048, 4, 128]⟩
abbrev S8x256x4x128 : Shape := ⟨4, ![8, 256, 4, 128]⟩
abbrev S8x2304x4x128 : Shape := ⟨4, ![8, 2304, 4, 128]⟩
abbrev S8x2048x4x4x128 : Shape := ⟨5, ![8, 2048, 4, 4, 128]⟩
abbrev S8x4x2304x2048x4 : Shape := ⟨5, ![8, 4, 2304, 2048, 4]⟩
abbrev S8x4x4x2048x2304 : Shape := ⟨5, ![8, 4, 4, 2048, 2304]⟩
abbrev S_ : Shape := ⟨0, ![]⟩
abbrev S8x4x4x2048 : Shape := ⟨4, ![8, 4, 4, 2048]⟩
abbrev S8x4x4x2048x1 : Shape := ⟨5, ![8, 4, 4, 2048, 1]⟩
abbrev S8x4x128x4x2048 : Shape := ⟨5, ![8, 4, 128, 4, 2048]⟩

abbrev nBuf : Space → Nat
  | .hbm => 43
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x512, .bf16⟩
  | .hbm, ⟨2, _⟩ => ⟨S16384x9216, .bf16⟩
  | .hbm, ⟨3, _⟩ => ⟨S2048x512, .bf16⟩
  | .hbm, ⟨4, _⟩ => ⟨S2048x5120, .bf16⟩
  | .hbm, ⟨5, _⟩ => ⟨S16384x2048, .f32⟩
  | .hbm, ⟨6, _⟩ => ⟨S8x2048x16x128, .f32⟩
  | .hbm, ⟨7, _⟩ => ⟨S16384x512, .f32⟩
  | .hbm, ⟨8, _⟩ => ⟨S8x2048x4x128, .f32⟩
  | .hbm, ⟨9, _⟩ => ⟨S2048x512, .f32⟩
  | .hbm, ⟨10, _⟩ => ⟨S8x256x4x128, .f32⟩
  | .hbm, ⟨11, _⟩ => ⟨S16384x512, .bf16⟩
  | .hbm, ⟨12, _⟩ => ⟨S16384x512, .f32⟩
  | .hbm, ⟨13, _⟩ => ⟨S8x2048x4x128, .f32⟩
  | .hbm, ⟨14, _⟩ => ⟨S2048x512, .bf16⟩
  | .hbm, ⟨15, _⟩ => ⟨S2048x512, .f32⟩
  | .hbm, ⟨16, _⟩ => ⟨S8x256x4x128, .f32⟩
  | .hbm, ⟨17, _⟩ => ⟨S8x2304x4x128, .f32⟩
  | .hbm, ⟨18, _⟩ => ⟨S8x2304x4x128, .f32⟩
  | .hbm, ⟨19, _⟩ => ⟨S8x2048x4x4x128, .f32⟩
  | .hbm, ⟨20, _⟩ => ⟨S8x4x2304x2048x4, .f32⟩
  | .hbm, ⟨21, _⟩ => ⟨S8x4x4x2048x2304, .f32⟩
  | .hbm, ⟨22, _⟩ => ⟨S_, .f32⟩
  | .hbm, ⟨23, _⟩ => ⟨S8x4x4x2048x2304, .f32⟩
  | .hbm, ⟨24, _⟩ => ⟨S8x4x4x2048x2304, .f32⟩
  | .hbm, ⟨25, _⟩ => ⟨S_, .f32⟩
  | .hbm, ⟨26, _⟩ => ⟨S8x4x4x2048, .f32⟩
  | .hbm, ⟨27, _⟩ => ⟨S_, .f32⟩
  | .hbm, ⟨28, _⟩ => ⟨S8x4x4x2048, .f32⟩
  | .hbm, ⟨29, _⟩ => ⟨S8x4x4x2048, .f32⟩
  | .hbm, ⟨30, _⟩ => ⟨S8x4x4x2048x1, .f32⟩
  | .hbm, ⟨31, _⟩ => ⟨S8x4x4x2048x2304, .f32⟩
  | .hbm, ⟨32, _⟩ => ⟨S8x4x4x2048x2304, .f32⟩
  | .hbm, ⟨33, _⟩ => ⟨S8x4x4x2048x2304, .f32⟩
  | .hbm, ⟨34, _⟩ => ⟨S_, .f32⟩
  | .hbm, ⟨35, _⟩ => ⟨S8x4x4x2048, .f32⟩
  | .hbm, ⟨36, _⟩ => ⟨S8x4x4x2048x1, .f32⟩
  | .hbm, ⟨37, _⟩ => ⟨S8x4x4x2048x2304, .f32⟩
  | .hbm, ⟨38, _⟩ => ⟨S8x4x4x2048x2304, .f32⟩
  | .hbm, ⟨39, _⟩ => ⟨S8x4x128x4x2048, .f32⟩
  | .hbm, ⟨40, _⟩ => ⟨S8x2048x4x4x128, .f32⟩
  | .hbm, ⟨41, _⟩ => ⟨S16384x2048, .f32⟩
  | .hbm, ⟨42, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Experts.lean ====
abbrev S16384x4096 : Shape := ⟨2, ![16384, 4096]⟩
abbrev S16384x128 : Shape := ⟨2, ![16384, 128]⟩
abbrev S64x4096x256 : Shape := ⟨3, ![64, 4096, 256]⟩
abbrev S4096x256 : Shape := ⟨2, ![4096, 256]⟩
abbrev S_ : Shape := ⟨0, ![]⟩
abbrev S1x4096x512 : Shape := ⟨3, ![1, 4096, 512]⟩
abbrev S64x4096x512 : Shape := ⟨3, ![64, 4096, 512]⟩
abbrev S4096x512 : Shape := ⟨2, ![4096, 512]⟩
abbrev S66x4096x512 : Shape := ⟨3, ![66, 4096, 512]⟩
abbrev S16384x16896 : Shape := ⟨2, ![16384, 16896]⟩
abbrev S1024x4096 : Shape := ⟨2, ![1024, 4096]⟩
abbrev S1024x128 : Shape := ⟨2, ![1024, 128]⟩
abbrev S1024x256 : Shape := ⟨2, ![1024, 256]⟩
abbrev S1024x512 : Shape := ⟨2, ![1024, 512]⟩
abbrev S1024 : Shape := ⟨1, ![1024]⟩
abbrev S1024x1 : Shape := ⟨2, ![1024, 1]⟩

abbrev nBuf : Space → Nat
  | .hbm => 15
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S64x4096x256, .f32⟩
  | .hbm, ⟨3, _⟩ => ⟨S64x4096x256, .f32⟩
  | .hbm, ⟨4, _⟩ => ⟨S4096x256, .f32⟩
  | .hbm, ⟨5, _⟩ => ⟨S4096x256, .f32⟩
  | .hbm, ⟨6, _⟩ => ⟨S_, .bf16⟩
  | .hbm, ⟨7, _⟩ => ⟨S1x4096x512, .bf16⟩
  | .hbm, ⟨8, _⟩ => ⟨S64x4096x512, .f32⟩
  | .hbm, ⟨9, _⟩ => ⟨S64x4096x512, .bf16⟩
  | .hbm, ⟨10, _⟩ => ⟨S4096x512, .f32⟩
  | .hbm, ⟨11, _⟩ => ⟨S4096x512, .bf16⟩
  | .hbm, ⟨12, _⟩ => ⟨S1x4096x512, .bf16⟩
  | .hbm, ⟨13, _⟩ => ⟨S66x4096x512, .bf16⟩
  | .hbm, ⟨14, _⟩ => ⟨S16384x16896, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x128, .f32⟩
  | .local _ .vmem, ⟨5, _⟩ => ⟨S1024x128, .f32⟩
  | .local _ .vmem, ⟨6, _⟩ => ⟨S1024x256, .bf16⟩
  | .local _ .vmem, ⟨7, _⟩ => ⟨S1024x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 66], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ExpertsRefIdeal.lean ====
abbrev S16384x4096 : Shape := ⟨2, ![16384, 4096]⟩
abbrev S16384x128 : Shape := ⟨2, ![16384, 128]⟩
abbrev S64x4096x256 : Shape := ⟨3, ![64, 4096, 256]⟩
abbrev S4096x256 : Shape := ⟨2, ![4096, 256]⟩
abbrev S16384x64x256 : Shape := ⟨3, ![16384, 64, 256]⟩
abbrev S_ : Shape := ⟨0, ![]⟩
abbrev S16384x64 : Shape := ⟨2, ![16384, 64]⟩
abbrev S16384x64x1 : Shape := ⟨3, ![16384, 64, 1]⟩
abbrev S16384x16384 : Shape := ⟨2, ![16384, 16384]⟩
abbrev S16384x256 : Shape := ⟨2, ![16384, 256]⟩
abbrev S16384x16896 : Shape := ⟨2, ![16384, 16896]⟩

abbrev nBuf : Space → Nat
  | .hbm => 40
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S64x4096x256, .f32⟩
  | .hbm, ⟨3, _⟩ => ⟨S64x4096x256, .f32⟩
  | .hbm, ⟨4, _⟩ => ⟨S4096x256, .f32⟩
  | .hbm, ⟨5, _⟩ => ⟨S4096x256, .f32⟩
  | .hbm, ⟨6, _⟩ => ⟨S16384x4096, .f32⟩
  | .hbm, ⟨7, _⟩ => ⟨S16384x64x256, .f32⟩
  | .hbm, ⟨8, _⟩ => ⟨S16384x64x256, .f32⟩
  | .hbm, ⟨9, _⟩ => ⟨S16384x64x256, .f32⟩
  | .hbm, ⟨10, _⟩ => ⟨S_, .f32⟩
  | .hbm, ⟨11, _⟩ => ⟨S16384x64x256, .f32⟩
  | .hbm, ⟨12, _⟩ => ⟨S16384x64x256, .f32⟩
  | .hbm, ⟨13, _⟩ => ⟨S_, .f32⟩
  | .hbm, ⟨14, _⟩ => ⟨S16384x64x256, .f32⟩
  | .hbm, ⟨15, _⟩ => ⟨S16384x64x256, .f32⟩
  | .hbm, ⟨16, _⟩ => ⟨S16384x64x256, .f32⟩
  | .hbm, ⟨17, _⟩ => ⟨S16384x64x256, .f32⟩
  | .hbm, ⟨18, _⟩ => ⟨S16384x64x256, .f32⟩
  | .hbm, ⟨19, _⟩ => ⟨S16384x64, .f32⟩
  | .hbm, ⟨20, _⟩ => ⟨S16384x64x1, .f32⟩
  | .hbm, ⟨21, _⟩ => ⟨S16384x64x256, .f32⟩
  | .hbm, ⟨22, _⟩ => ⟨S16384x64x256, .f32⟩
  | .hbm, ⟨23, _⟩ => ⟨S16384x16384, .f32⟩
  | .hbm, ⟨24, _⟩ => ⟨S16384x256, .f32⟩
  | .hbm, ⟨25, _⟩ => ⟨S16384x256, .f32⟩
  | .hbm, ⟨26, _⟩ => ⟨S16384x256, .f32⟩
  | .hbm, ⟨27, _⟩ => ⟨S_, .f32⟩
  | .hbm, ⟨28, _⟩ => ⟨S16384x256, .f32⟩
  | .hbm, ⟨29, _⟩ => ⟨S16384x256, .f32⟩
  | .hbm, ⟨30, _⟩ => ⟨S_, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S16384x256, .f32⟩
  | .hbm, ⟨36, _⟩ => ⟨S_, .f32⟩
  | .hbm, ⟨37, _⟩ => ⟨S16384x256, .f32⟩
  | .hbm, ⟨38, _⟩ => ⟨S16384x16896, .f32⟩
  | .hbm, ⟨39, _⟩ => ⟨S16384x16896, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩

abbrev nD : Nat := 1
abbrev τ : Topo := Topo.v7x

variable {F : FTy → Type} [FloatOps F]
-- ==== Down.lean ====
abbrev S16384x16896 : Shape := ⟨2, ![16384, 16896]⟩
abbrev S64x256x4096 : Shape := ⟨3, ![64, 256, 4096]⟩
abbrev S256x4096 : Shape := ⟨2, ![256, 4096]⟩
abbrev S16384x4096 : Shape := ⟨2, ![16384, 4096]⟩
abbrev S8x1x4096 : Shape := ⟨3, ![8, 1, 4096]⟩
abbrev S4096 : Shape := ⟨1, ![4096]⟩
abbrev S_ : Shape := ⟨0, ![]⟩
abbrev S16896x4096 : Shape := ⟨2, ![16896, 4096]⟩
abbrev S1x4096 : Shape := ⟨2, ![1, 4096]⟩
abbrev S512x512 : Shape := ⟨2, ![512, 512]⟩
abbrev S512x4096 : Shape := ⟨2, ![512, 4096]⟩
abbrev S1x1x4096 : Shape := ⟨3, ![1, 1, 4096]⟩
abbrev S512x1024 : Shape := ⟨2, ![512, 1024]⟩
abbrev S64x4096 : Shape := ⟨2, ![64, 4096]⟩
abbrev S64 : Shape := ⟨1, ![64]⟩
abbrev S64x1 : Shape := ⟨2, ![64, 1]⟩

abbrev nBuf : Space → Nat
  | .hbm => 14
  | .vmem => 11
  | .smem => 0
  | _ => 0

abbrev bufTy : (tb : Table) → Fin (tcTables nBuf tb) → BufTy
  | .hbm, ⟨0, _⟩ => ⟨S16384x16896, .bf16⟩
  | .hbm, ⟨1, _⟩ => ⟨S64x256x4096, .f32⟩
  | .hbm, ⟨2, _⟩ => ⟨S256x4096, .f32⟩
  | .hbm, ⟨3, _⟩ => ⟨S16384x4096, .f32⟩
  | .hbm, ⟨4, _⟩ => ⟨S8x1x4096, .f32⟩
  | .hbm, ⟨5, _⟩ => ⟨S4096, .f32⟩
  | .hbm, ⟨6, _⟩ => ⟨S16384x4096, .f32⟩
  | .hbm, ⟨7, _⟩ => ⟨S16384x4096, .bf16⟩
  | .hbm, ⟨8, _⟩ => ⟨S256x4096, .bf16⟩
  | .hbm, ⟨9, _⟩ => ⟨S_, .bf16⟩
  | .hbm, ⟨10, _⟩ => ⟨S256x4096, .bf16⟩
  | .hbm, ⟨11, _⟩ => ⟨S16896x4096, .bf16⟩
  | .hbm, ⟨12, _⟩ => ⟨S1x4096, .f32⟩
  | .hbm, ⟨13, _⟩ => ⟨S16384x4096, .f32⟩
  | .local _ .vmem, ⟨0, _⟩ => ⟨S512x512, .bf16⟩
  | .local _ .vmem, ⟨1, _⟩ => ⟨S512x512, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | .local _ .vmem, ⟨9, _⟩ => ⟨S512x4096, .f32⟩
  | .local _ .vmem, ⟨10, _⟩ => ⟨S512x4096, .f32⟩
  | _, _ => ⟨S16384x16896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 33], ![false, false]⟩

def k0_cond3 (i : grid0.Coords) : BitVec 1 :=
  let arg1 : BitVec 32 := BitVec.ofNat 32 (i 1).val
  let c32_i32 : BitVec 32 := 32#32
  let v6 : BitVec 1 := Scalar.cmpi .eq arg1 c32_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c8_i32 : BitVec 32 := 8#32
  let v9 : BitVec 32 := Scalar.addi c0_i32_4 c8_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  v10
def k0_off1 (k0_t1 : Fin k0_t1_loop.trips) : Fin 2 → Nat :=
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  let v11 : BitVec 32 := v10
  let v12 : Index := Scalar.indexCast v11
  let c0 : Index := 0#32
  ![v12.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DownRefIdeal.lean ====
abbrev S16384x16896 : Shape := ⟨2, ![16384, 16896]⟩
abbrev S64x256x4096 : Shape := ⟨3, ![64, 256, 4096]⟩
abbrev S256x4096 : Shape := ⟨2, ![256, 4096]⟩
abbrev S16384x4096 : Shape := ⟨2, ![16384, 4096]⟩
abbrev S8x1x4096 : Shape := ⟨3, ![8, 1, 4096]⟩
abbrev S4096 : Shape := ⟨1, ![4096]⟩
abbrev S16384x16384 : Shape := ⟨2, ![16384, 16384]⟩
abbrev S16384x64x256 : Shape := ⟨3, ![16384, 64, 256]⟩
abbrev S16384x256 : Shape := ⟨2, ![16384, 256]⟩
abbrev S8x2048x4096 : Shape := ⟨3, ![8, 2048, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S16384x16896, .bf16⟩
  | .hbm, ⟨1, _⟩ => ⟨S64x256x4096, .f32⟩
  | .hbm, ⟨2, _⟩ => ⟨S256x4096, .f32⟩
  | .hbm, ⟨3, _⟩ => ⟨S16384x4096, .f32⟩
  | .hbm, ⟨4, _⟩ => ⟨S8x1x4096, .f32⟩
  | .hbm, ⟨5, _⟩ => ⟨S4096, .f32⟩
  | .hbm, ⟨6, _⟩ => ⟨S16384x16384, .bf16⟩
  | .hbm, ⟨7, _⟩ => ⟨S16384x16384, .f32⟩
  | .hbm, ⟨8, _⟩ => ⟨S16384x64x256, .f32⟩
  | .hbm, ⟨9, _⟩ => ⟨S16384x256, .bf16⟩
  | .hbm, ⟨10, _⟩ => ⟨S16384x256, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S8x2048x4096, .f32⟩
  | .hbm, ⟨15, _⟩ => ⟨S16384x4096, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x4096, .f32⟩
  | .hbm, ⟨27, _⟩ => ⟨S16384x4096, .f32⟩
  | .hbm, ⟨28, _⟩ => ⟨S1x4096, .f32⟩
  | .hbm, ⟨29, _⟩ => ⟨S16384x4096, .f32⟩
  | .hbm, ⟨30, _⟩ => ⟨S16384x4096, .f32⟩
  | .hbm, ⟨31, _⟩ => ⟨S8x2048x4096, .f32⟩
  | .hbm, ⟨32, _⟩ => ⟨S8x2048x4096, .f32⟩
  | .hbm, ⟨33, _⟩ => ⟨S8x2048x4096, .f32⟩
  | .hbm, ⟨34, _⟩ => ⟨S8x2048x4096, .f32⟩
  | .hbm, ⟨35, _⟩ => ⟨S16384x4096, .f32⟩
  | _, _ => ⟨S16384x16896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Project.lean ====
abbrev S16384x4096 : Shape := ⟨2, ![16384, 4096]⟩
abbrev S4096x9216 : Shape := ⟨2, ![4096, 9216]⟩
abbrev S16384x9216 : Shape := ⟨2, ![16384, 9216]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x9216, .f32⟩
  | .hbm, ⟨2, _⟩ => ⟨S4096x9216, .bf16⟩
  | .hbm, ⟨3, _⟩ => ⟨S16384x9216, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectIdeal.lean ====
abbrev S16384x4096 : Shape := ⟨2, ![16384, 4096]⟩
abbrev S4096x9216 : Shape := ⟨2, ![4096, 9216]⟩
abbrev S16384x9216 : Shape := ⟨2, ![16384, 9216]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x9216, .f32⟩
  | .hbm, ⟨2, _⟩ => ⟨S4096x9216, .bf16⟩
  | .hbm, ⟨3, _⟩ => ⟨S16384x9216, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectRefIdeal.lean ====
abbrev S16384x4096 : Shape := ⟨2, ![16384, 4096]⟩
abbrev S4096x9216 : Shape := ⟨2, ![4096, 9216]⟩
abbrev S16384x9216 : Shape := ⟨2, ![16384, 9216]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x9216, .f32⟩
  | .hbm, ⟨2, _⟩ => ⟨S16384x4096, .f32⟩
  | .hbm, ⟨3, _⟩ => ⟨S16384x9216, .f32⟩
  | .hbm, ⟨4, _⟩ => ⟨S16384x9216, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mix.lean ====
abbrev S16384x4096 : Shape := ⟨2, ![16384, 4096]⟩
abbrev S4096x10240 : Shape := ⟨2, ![4096, 10240]⟩
abbrev S16384x10240 : Shape := ⟨2, ![16384, 10240]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x10240, .f32⟩
  | .hbm, ⟨2, _⟩ => ⟨S4096x10240, .bf16⟩
  | .hbm, ⟨3, _⟩ => ⟨S16384x10240, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixRefIdeal.lean ====
abbrev S16384x4096 : Shape := ⟨2, ![16384, 4096]⟩
abbrev S4096x10240 : Shape := ⟨2, ![4096, 10240]⟩
abbrev S16384x10240 : Shape := ⟨2, ![16384, 10240]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x10240, .f32⟩
  | .hbm, ⟨2, _⟩ => ⟨S16384x4096, .f32⟩
  | .hbm, ⟨3, _⟩ => ⟨S16384x10240, .f32⟩
  | .hbm, ⟨4, _⟩ => ⟨S16384x10240, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Context.lean ====
abbrev S2048x4096 : Shape := ⟨2, ![2048, 4096]⟩
abbrev S4096x9216 : Shape := ⟨2, ![4096, 9216]⟩
abbrev S4096x4096 : Shape := ⟨2, ![4096, 4096]⟩
abbrev S4096x1024 : Shape := ⟨2, ![4096, 1024]⟩
abbrev S4096x5120 : Shape := ⟨2, ![4096, 5120]⟩
abbrev S2048x5120 : Shape := ⟨2, ![2048, 5120]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S4096x9216, .f32⟩
  | .hbm, ⟨2, _⟩ => ⟨S4096x4096, .f32⟩
  | .hbm, ⟨3, _⟩ => ⟨S4096x1024, .f32⟩
  | .hbm, ⟨4, _⟩ => ⟨S4096x5120, .f32⟩
  | .hbm, ⟨5, _⟩ => ⟨S4096x5120, .bf16⟩
  | .hbm, ⟨6, _⟩ => ⟨S2048x5120, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ContextRefIdeal.lean ====
abbrev S2048x4096 : Shape := ⟨2, ![2048, 4096]⟩
abbrev S4096x9216 : Shape := ⟨2, ![4096, 9216]⟩
abbrev S2048x9216 : Shape := ⟨2, ![2048, 9216]⟩
abbrev S2048x2048 : Shape := ⟨2, ![2048, 2048]⟩
abbrev S2048x512 : Shape := ⟨2, ![2048, 512]⟩
abbrev S2048x5120 : Shape := ⟨2, ![2048, 5120]⟩

abbrev nBuf : Space → Nat
  | .hbm => 12
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x9216, .f32⟩
  | .hbm, ⟨2, _⟩ => ⟨S2048x4096, .f32⟩
  | .hbm, ⟨3, _⟩ => ⟨S2048x9216, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x512, .f32⟩
  | .hbm, ⟨9, _⟩ => ⟨S2048x512, .f32⟩
  | .hbm, ⟨10, _⟩ => ⟨S2048x5120, .f32⟩
  | .hbm, ⟨11, _⟩ => ⟨S2048x5120, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Next.lean ====
abbrev S16384x16896 : Shape := ⟨2, ![16384, 16896]⟩
abbrev S64x256x4096 : Shape := ⟨3, ![64, 256, 4096]⟩
abbrev S256x4096 : Shape := ⟨2, ![256, 4096]⟩
abbrev S16384x4096 : Shape := ⟨2, ![16384, 4096]⟩
abbrev S8x1x4096 : Shape := ⟨3, ![8, 1, 4096]⟩
abbrev S4096 : Shape := ⟨1, ![4096]⟩
abbrev S_ : Shape := ⟨0, ![]⟩
abbrev S16896x4096 : Shape := ⟨2, ![16896, 4096]⟩
abbrev S1x4096 : Shape := ⟨2, ![1, 4096]⟩
abbrev S512x512 : Shape := ⟨2, ![512, 512]⟩
abbrev S512x4096 : Shape := ⟨2, ![512, 4096]⟩
abbrev S1x1x4096 : Shape := ⟨3, ![1, 1, 4096]⟩
abbrev S512x1024 : Shape := ⟨2, ![512, 1024]⟩
abbrev S64x4096 : Shape := ⟨2, ![64, 4096]⟩
abbrev S64 : Shape := ⟨1, ![64]⟩
abbrev S64x1 : Shape := ⟨2, ![64, 1]⟩

abbrev nBuf : Space → Nat
  | .hbm => 19
  | .vmem => 18
  | .smem => 0
  | _ => 0

abbrev bufTy : (tb : Table) → Fin (tcTables nBuf tb) → BufTy
  | .hbm, ⟨0, _⟩ => ⟨S16384x16896, .bf16⟩
  | .hbm, ⟨1, _⟩ => ⟨S64x256x4096, .f32⟩
  | .hbm, ⟨2, _⟩ => ⟨S256x4096, .f32⟩
  | .hbm, ⟨3, _⟩ => ⟨S16384x4096, .f32⟩
  | .hbm, ⟨4, _⟩ => ⟨S8x1x4096, .f32⟩
  | .hbm, ⟨5, _⟩ => ⟨S4096, .f32⟩
  | .hbm, ⟨6, _⟩ => ⟨S4096, .f32⟩
  | .hbm, ⟨7, _⟩ => ⟨S8x1x4096, .f32⟩
  | .hbm, ⟨8, _⟩ => ⟨S8x1x4096, .f32⟩
  | .hbm, ⟨9, _⟩ => ⟨S16384x4096, .f32⟩
  | .hbm, ⟨10, _⟩ => ⟨S16384x4096, .bf16⟩
  | .hbm, ⟨11, _⟩ => ⟨S256x4096, .bf16⟩
  | .hbm, ⟨12, _⟩ => ⟨S_, .bf16⟩
  | .hbm, ⟨13, _⟩ => ⟨S256x4096, .bf16⟩
  | .hbm, ⟨14, _⟩ => ⟨S16896x4096, .bf16⟩
  | .hbm, ⟨15, _⟩ => ⟨S1x4096, .f32⟩
  | .hbm, ⟨16, _⟩ => ⟨S1x4096, .f32⟩
  | .hbm, ⟨17, _⟩ => ⟨S16384x4096, .f32⟩
  | .hbm, ⟨18, _⟩ => ⟨S16384x4096, .bf16⟩
  | .local _ .vmem, ⟨0, _⟩ => ⟨S512x512, .bf16⟩
  | .local _ .vmem, ⟨1, _⟩ => ⟨S512x512, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | .local _ .vmem, ⟨9, _⟩ => ⟨S1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x1x4096, .f32⟩
  | .local _ .vmem, ⟨13, _⟩ => ⟨S1x1x4096, .f32⟩
  | .local _ .vmem, ⟨14, _⟩ => ⟨S512x4096, .f32⟩
  | .local _ .vmem, ⟨15, _⟩ => ⟨S512x4096, .f32⟩
  | .local _ .vmem, ⟨16, _⟩ => ⟨S512x4096, .bf16⟩
  | .local _ .vmem, ⟨17, _⟩ => ⟨S512x4096, .bf16⟩
  | _, _ => ⟨S16384x16896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 33], ![false, false]⟩

def k0_cond3 (i : grid0.Coords) : BitVec 1 :=
  let arg1 : BitVec 32 := BitVec.ofNat 32 (i 1).val
  let c32_i32 : BitVec 32 := 32#32
  let v6 : BitVec 1 := Scalar.cmpi .eq arg1 c32_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c8_i32 : BitVec 32 := 8#32
  let v9 : BitVec 32 := Scalar.addi c0_i32_4 c8_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg12 : BitVec 32 := Scf.iv c0_i32_4 c1_i32 k0_t1
  let c64_i32 : BitVec 32 := 64#32
  let v10 : BitVec 32 := Scalar.muli arg12 c64_i32
  v10
def k0_off1 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let c64_i32 : BitVec 32 := 64#32
  let v10 : BitVec 32 := Scalar.muli arg12 c64_i32
  let v11 : BitVec 32 := v10
  let v12 : Index := Scalar.indexCast v11
  let c0 : Index := 0#32
  ![v12.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== NextRefIdeal.lean ====
abbrev S16384x16896 : Shape := ⟨2, ![16384, 16896]⟩
abbrev S64x256x4096 : Shape := ⟨3, ![64, 256, 4096]⟩
abbrev S256x4096 : Shape := ⟨2, ![256, 4096]⟩
abbrev S16384x4096 : Shape := ⟨2, ![16384, 4096]⟩
abbrev S8x1x4096 : Shape := ⟨3, ![8, 1, 4096]⟩
abbrev S4096 : Shape := ⟨1, ![4096]⟩
abbrev S16384x16384 : Shape := ⟨2, ![16384, 16384]⟩
abbrev S16384x64x256 : Shape := ⟨3, ![16384, 64, 256]⟩
abbrev S16384x256 : Shape := ⟨2, ![16384, 256]⟩
abbrev S8x2048x4096 : Shape := ⟨3, ![8, 2048, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S8x2048 : Shape := ⟨2, ![8, 2048]⟩
abbrev S8x2048x1 : Shape := ⟨3, ![8, 2048, 1]⟩
abbrev S1x1x4096 : Shape := ⟨3, ![1, 1, 4096]⟩

abbrev nBuf : Space → Nat
  | .hbm => 64
  | .vmem => 0
  | .smem => 0
  | _ => 0

abbrev bufTy : (tb : Table) → Fin (tcTables nBuf tb) → BufTy
  | .hbm, ⟨0, _⟩ => ⟨S16384x16896, .bf16⟩
  | .hbm, ⟨1, _⟩ => ⟨S64x256x4096, .f32⟩
  | .hbm, ⟨2, _⟩ => ⟨S256x4096, .f32⟩
  | .hbm, ⟨3, _⟩ => ⟨S16384x4096, .f32⟩
  | .hbm, ⟨4, _⟩ => ⟨S8x1x4096, .f32⟩
  | .hbm, ⟨5, _⟩ => ⟨S4096, .f32⟩
  | .hbm, ⟨6, _⟩ => ⟨S4096, .f32⟩
  | .hbm, ⟨7, _⟩ => ⟨S8x1x4096, .f32⟩
  | .hbm, ⟨8, _⟩ => ⟨S8x1x4096, .f32⟩
  | .hbm, ⟨9, _⟩ => ⟨S16384x16384, .bf16⟩
  | .hbm, ⟨10, _⟩ => ⟨S16384x16384, .f32⟩
  | .hbm, ⟨11, _⟩ => ⟨S16384x64x256, .f32⟩
  | .hbm, ⟨12, _⟩ => ⟨S16384x256, .bf16⟩
  | .hbm, ⟨13, _⟩ => ⟨S16384x256, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S8x2048x4096, .f32⟩
  | .hbm, ⟨18, _⟩ => ⟨S16384x4096, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x4096, .f32⟩
  | .hbm, ⟨30, _⟩ => ⟨S16384x4096, .f32⟩
  | .hbm, ⟨31, _⟩ => ⟨S1x4096, .f32⟩
  | .hbm, ⟨32, _⟩ => ⟨S16384x4096, .f32⟩
  | .hbm, ⟨33, _⟩ => ⟨S16384x4096, .f32⟩
  | .hbm, ⟨34, _⟩ => ⟨S8x2048x4096, .f32⟩
  | .hbm, ⟨35, _⟩ => ⟨S8x2048x4096, .f32⟩
  | .hbm, ⟨36, _⟩ => ⟨S8x2048x4096, .f32⟩
  | .hbm, ⟨37, _⟩ => ⟨S8x2048x4096, .f32⟩
  | .hbm, ⟨38, _⟩ => ⟨S8x2048x4096, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S8x2048x1, .f32⟩
  | .hbm, ⟨49, _⟩ => ⟨S8x2048x4096, .f32⟩
  | .hbm, ⟨50, _⟩ => ⟨S8x2048x4096, .f32⟩
  | .hbm, ⟨51, _⟩ => ⟨S1x1x4096, .f32⟩
  | .hbm, ⟨52, _⟩ => ⟨S8x2048x4096, .f32⟩
  | .hbm, ⟨53, _⟩ => ⟨S8x2048x4096, .f32⟩
  | .hbm, ⟨54, _⟩ => ⟨S_, .f32⟩
  | .hbm, ⟨55, _⟩ => ⟨S8x1x4096, .f32⟩
  | .hbm, ⟨56, _⟩ => ⟨S8x1x4096, .f32⟩
  | .hbm, ⟨57, _⟩ => ⟨S8x2048x4096, .f32⟩
  | .hbm, ⟨58, _⟩ => ⟨S8x2048x4096, .f32⟩
  | .hbm, ⟨59, _⟩ => ⟨S8x2048x4096, .f32⟩
  | .hbm, ⟨60, _⟩ => ⟨S8x2048x4096, .f32⟩
  | .hbm, ⟨61, _⟩ => ⟨S16384x4096, .f32⟩
  | .hbm, ⟨62, _⟩ => ⟨S16384x4096, .f32⟩
  | .hbm, ⟨63, _⟩ => ⟨S16384x4096, .bf16⟩
  | _, _ => ⟨S16384x16896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Join.lean ====
abbrev S16384x2048 : Shape := ⟨2, ![16384, 2048]⟩
abbrev S4096x4096 : Shape := ⟨2, ![4096, 4096]⟩
abbrev S16384x4096 : Shape := ⟨2, ![16384, 4096]⟩
abbrev S8x1x4096 : Shape := ⟨3, ![8, 1, 4096]⟩
abbrev S4096 : Shape := ⟨1, ![4096]⟩
abbrev S1x4096 : Shape := ⟨2, ![1, 4096]⟩
abbrev S512x256 : Shape := ⟨2, ![512, 256]⟩
abbrev S256x4096 : Shape := ⟨2, ![256, 4096]⟩
abbrev S512x4096 : Shape := ⟨2, ![512, 4096]⟩
abbrev S1x1x4096 : Shape := ⟨3, ![1, 1, 4096]⟩
abbrev S256x1024 : Shape := ⟨2, ![256, 1024]⟩
abbrev S512x1024 : Shape := ⟨2, ![512, 1024]⟩
abbrev S64x4096 : Shape := ⟨2, ![64, 4096]⟩
abbrev S64 : Shape := ⟨1, ![64]⟩
abbrev S64x1 : Shape := ⟨2, ![64, 1]⟩

abbrev nBuf : Space → Nat
  | .hbm => 14
  | .vmem => 22
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .f32⟩
  | .hbm, ⟨4, _⟩ => ⟨S8x1x4096, .f32⟩
  | .hbm, ⟨5, _⟩ => ⟨S4096, .f32⟩
  | .hbm, ⟨6, _⟩ => ⟨S4096, .f32⟩
  | .hbm, ⟨7, _⟩ => ⟨S8x1x4096, .f32⟩
  | .hbm, ⟨8, _⟩ => ⟨S8x1x4096, .f32⟩
  | .hbm, ⟨9, _⟩ => ⟨S4096x4096, .bf16⟩
  | .hbm, ⟨10, _⟩ => ⟨S1x4096, .f32⟩
  | .hbm, ⟨11, _⟩ => ⟨S1x4096, .f32⟩
  | .hbm, ⟨12, _⟩ => ⟨S16384x4096, .f32⟩
  | .hbm, ⟨13, _⟩ => ⟨S16384x4096, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S512x4096, .f32⟩
  | .local _ .vmem, ⟨9, _⟩ => ⟨S512x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x4096, .f32⟩
  | .local _ .vmem, ⟨13, _⟩ => ⟨S1x4096, .f32⟩
  | .local _ .vmem, ⟨14, _⟩ => ⟨S1x1x4096, .f32⟩
  | .local _ .vmem, ⟨15, _⟩ => ⟨S1x1x4096, .f32⟩
  | .local _ .vmem, ⟨16, _⟩ => ⟨S1x1x4096, .f32⟩
  | .local _ .vmem, ⟨17, _⟩ => ⟨S1x1x4096, .f32⟩
  | .local _ .vmem, ⟨18, _⟩ => ⟨S512x4096, .f32⟩
  | .local _ .vmem, ⟨19, _⟩ => ⟨S512x4096, .f32⟩
  | .local _ .vmem, ⟨20, _⟩ => ⟨S512x4096, .bf16⟩
  | .local _ .vmem, ⟨21, _⟩ => ⟨S512x4096, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![32, 8], ![false, false]⟩

def k0_cond3 (i : grid0.Coords) : BitVec 1 :=
  let arg1 : BitVec 32 := BitVec.ofNat 32 (i 1).val
  let c7_i32 : BitVec 32 := 7#32
  let v6 : BitVec 1 := Scalar.cmpi .eq arg1 c7_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c8_i32 : BitVec 32 := 8#32
  let v9 : BitVec 32 := Scalar.addi c0_i32_4 c8_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg14 : BitVec 32 := Scf.iv c0_i32_4 c1_i32 k0_t1
  let c64_i32 : BitVec 32 := 64#32
  let v10 : BitVec 32 := Scalar.muli arg14 c64_i32
  v10
def k0_off1 (k0_t1 : Fin k0_t1_loop.trips) : Fin 2 → Nat :=
  let c0_i32_4 : BitVec 32 := 0#32
  let c1_i32 : BitVec 32 := 1#32
  let arg14 : BitVec 32 := Scf.iv c0_i32_4 c1_i32 k0_t1
  let c64_i32 : BitVec 32 := 64#32
  let v10 : BitVec 32 := Scalar.muli arg14 c64_i32
  let v11 : BitVec 32 := v10
  let v12 : Index := Scalar.indexCast v11
  let c0 : Index := 0#32
  ![v12.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_9 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== JoinRefIdeal.lean ====
abbrev S16384x2048 : Shape := ⟨2, ![16384, 2048]⟩
abbrev S4096x4096 : Shape := ⟨2, ![4096, 4096]⟩
abbrev S16384x4096 : Shape := ⟨2, ![16384, 4096]⟩
abbrev S8x1x4096 : Shape := ⟨3, ![8, 1, 4096]⟩
abbrev S4096 : Shape := ⟨1, ![4096]⟩
abbrev S8x2048x4096 : Shape := ⟨3, ![8, 2048, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S8x2048 : Shape := ⟨2, ![8, 2048]⟩
abbrev S8x2048x1 : Shape := ⟨3, ![8, 2048, 1]⟩
abbrev S1x1x4096 : Shape := ⟨3, ![1, 1, 4096]⟩

abbrev nBuf : Space → Nat
  | .hbm => 59
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .f32⟩
  | .hbm, ⟨4, _⟩ => ⟨S8x1x4096, .f32⟩
  | .hbm, ⟨5, _⟩ => ⟨S4096, .f32⟩
  | .hbm, ⟨6, _⟩ => ⟨S4096, .f32⟩
  | .hbm, ⟨7, _⟩ => ⟨S8x1x4096, .f32⟩
  | .hbm, ⟨8, _⟩ => ⟨S8x1x4096, .f32⟩
  | .hbm, ⟨9, _⟩ => ⟨S16384x4096, .bf16⟩
  | .hbm, ⟨10, _⟩ => ⟨S16384x4096, .f32⟩
  | .hbm, ⟨11, _⟩ => ⟨S16384x4096, .f32⟩
  | .hbm, ⟨12, _⟩ => ⟨S8x2048x4096, .f32⟩
  | .hbm, ⟨13, _⟩ => ⟨S16384x4096, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S1x4096, .f32⟩
  | .hbm, ⟨27, _⟩ => ⟨S16384x4096, .f32⟩
  | .hbm, ⟨28, _⟩ => ⟨S16384x4096, .f32⟩
  | .hbm, ⟨29, _⟩ => ⟨S8x2048x4096, .f32⟩
  | .hbm, ⟨30, _⟩ => ⟨S8x2048x4096, .f32⟩
  | .hbm, ⟨31, _⟩ => ⟨S8x2048x4096, .f32⟩
  | .hbm, ⟨32, _⟩ => ⟨S8x2048x4096, .f32⟩
  | .hbm, ⟨33, _⟩ => ⟨S8x2048x4096, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1, .f32⟩
  | .hbm, ⟨44, _⟩ => ⟨S8x2048x4096, .f32⟩
  | .hbm, ⟨45, _⟩ => ⟨S8x2048x4096, .f32⟩
  | .hbm, ⟨46, _⟩ => ⟨S1x1x4096, .f32⟩
  | .hbm, ⟨47, _⟩ => ⟨S8x2048x4096, .f32⟩
  | .hbm, ⟨48, _⟩ => ⟨S8x2048x4096, .f32⟩
  | .hbm, ⟨49, _⟩ => ⟨S_, .f32⟩
  | .hbm, ⟨50, _⟩ => ⟨S8x1x4096, .f32⟩
  | .hbm, ⟨51, _⟩ => ⟨S8x1x4096, .f32⟩
  | .hbm, ⟨52, _⟩ => ⟨S8x2048x4096, .f32⟩
  | .hbm, ⟨53, _⟩ => ⟨S8x2048x4096, .f32⟩
  | .hbm, ⟨54, _⟩ => ⟨S8x2048x4096, .f32⟩
  | .hbm, ⟨55, _⟩ => ⟨S8x2048x4096, .f32⟩
  | .hbm, ⟨56, _⟩ => ⟨S16384x4096, .f32⟩
  | .hbm, ⟨57, _⟩ => ⟨S16384x4096, .f32⟩
  | .hbm, ⟨58, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Merge.lean ====
abbrev S16384x4096 : Shape := ⟨2, ![16384, 4096]⟩
abbrev S4096x4096 : Shape := ⟨2, ![4096, 4096]⟩
abbrev S8x1x4096 : Shape := ⟨3, ![8, 1, 4096]⟩
abbrev S4096 : Shape := ⟨1, ![4096]⟩
abbrev S2048x4096 : Shape := ⟨2, ![2048, 4096]⟩
abbrev S8x256x4096 : Shape := ⟨3, ![8, 256, 4096]⟩
abbrev S8x512x4096 : Shape := ⟨3, ![8, 512, 4096]⟩
abbrev S1x4096 : Shape := ⟨2, ![1, 4096]⟩
abbrev S512x512 : Shape := ⟨2, ![512, 512]⟩
abbrev S512x4096 : Shape := ⟨2, ![512, 4096]⟩
abbrev S1x1x4096 : Shape := ⟨3, ![1, 1, 4096]⟩
abbrev S512x1024 : Shape := ⟨2, ![512, 1024]⟩
abbrev S64x4096 : Shape := ⟨2, ![64, 4096]⟩
abbrev S64 : Shape := ⟨1, ![64]⟩
abbrev S64x1 : Shape := ⟨2, ![64, 1]⟩

abbrev nBuf : Space → Nat
  | .hbm => 19
  | .vmem => 18
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S8x1x4096, .f32⟩
  | .hbm, ⟨4, _⟩ => ⟨S4096, .f32⟩
  | .hbm, ⟨5, _⟩ => ⟨S4096, .f32⟩
  | .hbm, ⟨6, _⟩ => ⟨S8x1x4096, .f32⟩
  | .hbm, ⟨7, _⟩ => ⟨S8x1x4096, .f32⟩
  | .hbm, ⟨8, _⟩ => ⟨S2048x4096, .f32⟩
  | .hbm, ⟨9, _⟩ => ⟨S8x256x4096, .f32⟩
  | .hbm, ⟨10, _⟩ => ⟨S2048x4096, .f32⟩
  | .hbm, ⟨11, _⟩ => ⟨S8x256x4096, .f32⟩
  | .hbm, ⟨12, _⟩ => ⟨S8x512x4096, .f32⟩
  | .hbm, ⟨13, _⟩ => ⟨S4096x4096, .f32⟩
  | .hbm, ⟨14, _⟩ => ⟨S4096x4096, .bf16⟩
  | .hbm, ⟨15, _⟩ => ⟨S1x4096, .f32⟩
  | .hbm, ⟨16, _⟩ => ⟨S1x4096, .f32⟩
  | .hbm, ⟨17, _⟩ => ⟨S16384x4096, .f32⟩
  | .hbm, ⟨18, _⟩ => ⟨S16384x4096, .bf16⟩
  | .local _ .vmem, ⟨0, _⟩ => ⟨S512x512, .bf16⟩
  | .local _ .vmem, ⟨1, _⟩ => ⟨S512x512, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | .local _ .vmem, ⟨9, _⟩ => ⟨S1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x1x4096, .f32⟩
  | .local _ .vmem, ⟨13, _⟩ => ⟨S1x1x4096, .f32⟩
  | .local _ .vmem, ⟨14, _⟩ => ⟨S512x4096, .f32⟩
  | .local _ .vmem, ⟨15, _⟩ => ⟨S512x4096, .f32⟩
  | .local _ .vmem, ⟨16, _⟩ => ⟨S512x4096, .bf16⟩
  | .local _ .vmem, ⟨17, _⟩ => ⟨S512x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 8], ![false, false]⟩

def k0_cond3 (i : grid0.Coords) : BitVec 1 :=
  let arg1 : BitVec 32 := BitVec.ofNat 32 (i 1).val
  let c7_i32 : BitVec 32 := 7#32
  let v6 : BitVec 1 := Scalar.cmpi .eq arg1 c7_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c8_i32 : BitVec 32 := 8#32
  let v9 : BitVec 32 := Scalar.addi c0_i32_4 c8_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg12 : BitVec 32 := Scf.iv c0_i32_4 c1_i32 k0_t1
  let c64_i32 : BitVec 32 := 64#32
  let v10 : BitVec 32 := Scalar.muli arg12 c64_i32
  v10
def k0_off1 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let c64_i32 : BitVec 32 := 64#32
  let v10 : BitVec 32 := Scalar.muli arg12 c64_i32
  let v11 : BitVec 32 := v10
  let v12 : Index := Scalar.indexCast v11
  let c0 : Index := 0#32
  ![v12.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== MergeRefIdeal.lean ====
abbrev S16384x4096 : Shape := ⟨2, ![16384, 4096]⟩
abbrev S4096x4096 : Shape := ⟨2, ![4096, 4096]⟩
abbrev S8x1x4096 : Shape := ⟨3, ![8, 1, 4096]⟩
abbrev S4096 : Shape := ⟨1, ![4096]⟩
abbrev S16384x8x512 : Shape := ⟨3, ![16384, 8, 512]⟩
abbrev S16384x8x256 : Shape := ⟨3, ![16384, 8, 256]⟩
abbrev S16384x2048 : Shape := ⟨2, ![16384, 2048]⟩
abbrev S8x2048x4096 : Shape := ⟨3, ![8, 2048, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S8x2048 : Shape := ⟨2, ![8, 2048]⟩
abbrev S8x2048x1 : Shape := ⟨3, ![8, 2048, 1]⟩
abbrev S1x1x4096 : Shape := ⟨3, ![1, 1, 4096]⟩

abbrev nBuf : Space → Nat
  | .hbm => 63
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S8x1x4096, .f32⟩
  | .hbm, ⟨4, _⟩ => ⟨S4096, .f32⟩
  | .hbm, ⟨5, _⟩ => ⟨S4096, .f32⟩
  | .hbm, ⟨6, _⟩ => ⟨S8x1x4096, .f32⟩
  | .hbm, ⟨7, _⟩ => ⟨S8x1x4096, .f32⟩
  | .hbm, ⟨8, _⟩ => ⟨S16384x4096, .f32⟩
  | .hbm, ⟨9, _⟩ => ⟨S16384x8x512, .f32⟩
  | .hbm, ⟨10, _⟩ => ⟨S16384x8x256, .f32⟩
  | .hbm, ⟨11, _⟩ => ⟨S16384x2048, .f32⟩
  | .hbm, ⟨12, _⟩ => ⟨S16384x8x256, .f32⟩
  | .hbm, ⟨13, _⟩ => ⟨S16384x2048, .f32⟩
  | .hbm, ⟨14, _⟩ => ⟨S16384x4096, .f32⟩
  | .hbm, ⟨15, _⟩ => ⟨S16384x4096, .f32⟩
  | .hbm, ⟨16, _⟩ => ⟨S8x2048x4096, .f32⟩
  | .hbm, ⟨17, _⟩ => ⟨S16384x4096, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x4096, .f32⟩
  | .hbm, ⟨29, _⟩ => ⟨S16384x4096, .f32⟩
  | .hbm, ⟨30, _⟩ => ⟨S1x4096, .f32⟩
  | .hbm, ⟨31, _⟩ => ⟨S16384x4096, .f32⟩
  | .hbm, ⟨32, _⟩ => ⟨S16384x4096, .f32⟩
  | .hbm, ⟨33, _⟩ => ⟨S8x2048x4096, .f32⟩
  | .hbm, ⟨34, _⟩ => ⟨S8x2048x4096, .f32⟩
  | .hbm, ⟨35, _⟩ => ⟨S8x2048x4096, .f32⟩
  | .hbm, ⟨36, _⟩ => ⟨S8x2048x4096, .f32⟩
  | .hbm, ⟨37, _⟩ => ⟨S8x2048x4096, .f32⟩
  | .hbm, ⟨38, _⟩ => ⟨S_, .f32⟩
  | .hbm, ⟨39, _⟩ => ⟨S8x2048, .f32⟩
  | .hbm, ⟨40, _⟩ => ⟨S8x2048x1, .f32⟩
  | .hbm, ⟨41, _⟩ => ⟨S_, .f32⟩
  | .hbm, ⟨42, _⟩ => ⟨S8x2048x1, .f32⟩
  | .hbm, ⟨43, _⟩ => ⟨S8x2048x1, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S8x2048x1, .f32⟩
  | .hbm, ⟨48, _⟩ => ⟨S8x2048x4096, .f32⟩
  | .hbm, ⟨49, _⟩ => ⟨S8x2048x4096, .f32⟩
  | .hbm, ⟨50, _⟩ => ⟨S1x1x4096, .f32⟩
  | .hbm, ⟨51, _⟩ => ⟨S8x2048x4096, .f32⟩
  | .hbm, ⟨52, _⟩ => ⟨S8x2048x4096, .f32⟩
  | .hbm, ⟨53, _⟩ => ⟨S_, .f32⟩
  | .hbm, ⟨54, _⟩ => ⟨S8x1x4096, .f32⟩
  | .hbm, ⟨55, _⟩ => ⟨S8x1x4096, .f32⟩
  | .hbm, ⟨56, _⟩ => ⟨S8x2048x4096, .f32⟩
  | .hbm, ⟨57, _⟩ => ⟨S8x2048x4096, .f32⟩
  | .hbm, ⟨58, _⟩ => ⟨S8x2048x4096, .f32⟩
  | .hbm, ⟨59, _⟩ => ⟨S8x2048x4096, .f32⟩
  | .hbm, ⟨60, _⟩ => ⟨S16384x4096, .f32⟩
  | .hbm, ⟨61, _⟩ => ⟨S16384x4096, .f32⟩
  | .hbm, ⟨62, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Mixer.lean ====
abbrev S16384x10240 : Shape := ⟨2, ![16384, 10240]⟩
abbrev S3x2048 : Shape := ⟨2, ![3, 2048]⟩
abbrev S8x128x128 : Shape := ⟨3, ![8, 128, 128]⟩
abbrev S8x128 : Shape := ⟨2, ![8, 128]⟩
abbrev S8x256 : Shape := ⟨2, ![8, 256]⟩
abbrev S8x128x1 : Shape := ⟨3, ![8, 128, 1]⟩
abbrev S8x1x256 : Shape := ⟨3, ![8, 1, 256]⟩
abbrev S16384x4096 : Shape := ⟨2, ![16384, 4096]⟩
abbrev S2048x256 : Shape := ⟨2, ![2048, 256]⟩
abbrev S3x256 : Shape := ⟨2, ![3, 256]⟩
abbrev S1x128x128 : Shape := ⟨3, ![1, 128, 128]⟩
abbrev S1x128x1 : Shape := ⟨3, ![1, 128, 1]⟩
abbrev S1x1x256 : Shape := ⟨3, ![1, 1, 256]⟩
abbrev S2048x512 : Shape := ⟨2, ![2048, 512]⟩
abbrev S1x256 : Shape := ⟨2, ![1, 256]⟩
abbrev S128x128 : Shape := ⟨2, ![128, 128]⟩
abbrev S128x256 : Shape := ⟨2, ![128, 256]⟩
abbrev S128 : Shape := ⟨1, ![128]⟩
abbrev S128x1 : Shape := ⟨2, ![128, 1]⟩

abbrev nBuf : Space → Nat
  | .hbm => 8
  | .vmem => 20
  | .smem => 0
  | _ => 0

abbrev bufTy : (tb : Table) → Fin (tcTables nBuf tb) → BufTy
  | .hbm, ⟨0, _⟩ => ⟨S16384x10240, .bf16⟩
  | .hbm, ⟨1, _⟩ => ⟨S3x2048, .f32⟩
  | .hbm, ⟨2, _⟩ => ⟨S8x128x128, .f32⟩
  | .hbm, ⟨3, _⟩ => ⟨S8x128, .f32⟩
  | .hbm, ⟨4, _⟩ => ⟨S8x256, .f32⟩
  | .hbm, ⟨5, _⟩ => ⟨S8x128x1, .f32⟩
  | .hbm, ⟨6, _⟩ => ⟨S8x1x256, .f32⟩
  | .hbm, ⟨7, _⟩ => ⟨S16384x4096, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S3x256, .f32⟩
  | .local _ .vmem, ⟨11, _⟩ => ⟨S3x256, .f32⟩
  | .local _ .vmem, ⟨12, _⟩ => ⟨S1x128x128, .f32⟩
  | .local _ .vmem, ⟨13, _⟩ => ⟨S1x128x128, .f32⟩
  | .local _ .vmem, ⟨14, _⟩ => ⟨S1x128x1, .f32⟩
  | .local _ .vmem, ⟨15, _⟩ => ⟨S1x128x1, .f32⟩
  | .local _ .vmem, ⟨16, _⟩ => ⟨S1x1x256, .f32⟩
  | .local _ .vmem, ⟨17, _⟩ => ⟨S1x1x256, .f32⟩
  | .local _ .vmem, ⟨18, _⟩ => ⟨S2048x512, .bf16⟩
  | .local _ .vmem, ⟨19, _⟩ => ⟨S2048x512, .bf16⟩
  | _, _ => ⟨S16384x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MixerRefIdeal.lean ====
abbrev S16384x10240 : Shape := ⟨2, ![16384, 10240]⟩
abbrev S3x2048 : Shape := ⟨2, ![3, 2048]⟩
abbrev S8x128x128 : Shape := ⟨3, ![8, 128, 128]⟩
abbrev S8x128 : Shape := ⟨2, ![8, 128]⟩
abbrev S8x256 : Shape := ⟨2, ![8, 256]⟩
abbrev S8x2048x10240 : Shape := ⟨3, ![8, 2048, 10240]⟩
abbrev S8x2048x2048 : Shape := ⟨3, ![8, 2048, 2048]⟩
abbrev S_ : Shape := ⟨0, ![]⟩
abbrev S8x2050x2048 : Shape := ⟨3, ![8, 2050, 2048]⟩
abbrev S1x2048 : Shape := ⟨2, ![1, 2048]⟩
abbrev S2048 : Shape := ⟨1, ![2048]⟩
abbrev S1x1x2048 : Shape := ⟨3, ![1, 1, 2048]⟩
abbrev S8x16x128x8x256 : Shape := ⟨5, ![8, 16, 128, 8, 256]⟩
abbrev S8x16x128x8 : Shape := ⟨4, ![8, 16, 128, 8]⟩
abbrev S8x16x128x8x1 : Shape := ⟨5, ![8, 16, 128, 8, 1]⟩
abbrev S1x1x1x8x256 : Shape := ⟨5, ![1, 1, 1, 8, 256]⟩
abbrev S8x8x16x256x128 : Shape := ⟨5, ![8, 8, 16, 256, 128]⟩
abbrev S128x8 : Shape := ⟨2, ![128, 8]⟩
abbrev S1x1x128x8x1 : Shape := ⟨5, ![1, 1, 128, 8, 1]⟩
abbrev S16384x8x256 : Shape := ⟨3, ![16384, 8, 256]⟩
abbrev S16384x8x512 : Shape := ⟨3, ![16384, 8, 512]⟩
abbrev S16384x4096 : Shape := ⟨2, ![16384, 4096]⟩

abbrev nBuf : Space → Nat
  | .hbm => 67
  | .vmem => 0
  | .smem => 0
  | _ => 0

abbrev bufTy : (tb : Table) → Fin (tcTables nBuf tb) → BufTy
  | .hbm, ⟨0, _⟩ => ⟨S16384x10240, .bf16⟩
  | .hbm, ⟨1, _⟩ => ⟨S3x2048, .f32⟩
  | .hbm, ⟨2, _⟩ => ⟨S8x128x128, .f32⟩
  | .hbm, ⟨3, _⟩ => ⟨S8x128, .f32⟩
  | .hbm, ⟨4, _⟩ => ⟨S8x256, .f32⟩
  | .hbm, ⟨5, _⟩ => ⟨S16384x10240, .f32⟩
  | .hbm, ⟨6, _⟩ => ⟨S8x2048x10240, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S_, .i32⟩
  | .hbm, ⟨14, _⟩ => ⟨S_, .f32⟩
  | .hbm, ⟨15, _⟩ => ⟨S8x2050x2048, .f32⟩
  | .hbm, ⟨16, _⟩ => ⟨S8x2048x2048, .f32⟩
  | .hbm, ⟨17, _⟩ => ⟨S1x2048, .f32⟩
  | .hbm, ⟨18, _⟩ => ⟨S2048, .f32⟩
  | .hbm, ⟨19, _⟩ => ⟨S1x1x2048, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S1x2048, .f32⟩
  | .hbm, ⟨24, _⟩ => ⟨S2048, .f32⟩
  | .hbm, ⟨25, _⟩ => ⟨S1x1x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S1x2048, .f32⟩
  | .hbm, ⟨31, _⟩ => ⟨S2048, .f32⟩
  | .hbm, ⟨32, _⟩ => ⟨S1x1x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S8x16x128x8x256, .f32⟩
  | .hbm, ⟨38, _⟩ => ⟨S8x16x128x8x256, .f32⟩
  | .hbm, ⟨39, _⟩ => ⟨S_, .f32⟩
  | .hbm, ⟨40, _⟩ => ⟨S8x16x128x8, .f32⟩
  | .hbm, ⟨41, _⟩ => ⟨S8x16x128x8x1, .f32⟩
  | .hbm, ⟨42, _⟩ => ⟨S_, .f32⟩
  | .hbm, ⟨43, _⟩ => ⟨S8x16x128x8x1, .f32⟩
  | .hbm, ⟨44, _⟩ => ⟨S8x16x128x8x1, .f32⟩
  | .hbm, ⟨45, _⟩ => ⟨S_, .f32⟩
  | .hbm, ⟨46, _⟩ => ⟨S8x16x128x8x1, .f32⟩
  | .hbm, ⟨47, _⟩ => ⟨S8x16x128x8x1, .f32⟩
  | .hbm, ⟨48, _⟩ => ⟨S8x16x128x8x1, .f32⟩
  | .hbm, ⟨49, _⟩ => ⟨S8x16x128x8x256, .f32⟩
  | .hbm, ⟨50, _⟩ => ⟨S8x16x128x8x256, .f32⟩
  | .hbm, ⟨51, _⟩ => ⟨S1x1x1x8x256, .f32⟩
  | .hbm, ⟨52, _⟩ => ⟨S8x16x128x8x256, .f32⟩
  | .hbm, ⟨53, _⟩ => ⟨S8x16x128x8x256, .f32⟩
  | .hbm, ⟨54, _⟩ => ⟨S8x8x16x256x128, .f32⟩
  | .hbm, ⟨55, _⟩ => ⟨S8x16x128x8x256, .f32⟩
  | .hbm, ⟨56, _⟩ => ⟨S128x8, .f32⟩
  | .hbm, ⟨57, _⟩ => ⟨S1x1x128x8x1, .f32⟩
  | .hbm, ⟨58, _⟩ => ⟨S8x16x128x8x256, .f32⟩
  | .hbm, ⟨59, _⟩ => ⟨S8x16x128x8x256, .f32⟩
  | .hbm, ⟨60, _⟩ => ⟨S8x2048x2048, .f32⟩
  | .hbm, ⟨61, _⟩ => ⟨S8x2048x2048, .f32⟩
  | .hbm, ⟨62, _⟩ => ⟨S16384x8x256, .f32⟩
  | .hbm, ⟨63, _⟩ => ⟨S16384x8x256, .f32⟩
  | .hbm, ⟨64, _⟩ => ⟨S16384x8x512, .f32⟩
  | .hbm, ⟨65, _⟩ => ⟨S16384x4096, .f32⟩
  | .hbm, ⟨66, _⟩ => ⟨S16384x4096, .bf16⟩
  | _, _ => ⟨S16384x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst : Ref sig .tc := ⟨.hbm, 39, rfl⟩
abbrev main_v32 : Ref sig .tc := ⟨.hbm, 40, rfl⟩
abbrev main_v33 : Ref sig .tc := ⟨.hbm, 41, rfl⟩
abbrev main_cst_0 : Ref sig .tc := ⟨.hbm, 42, rfl⟩
abbrev main_v34 : Ref sig .tc := ⟨.hbm, 43, rfl⟩
abbrev main_v35 : Ref sig .tc := ⟨.hbm, 44, rfl⟩
abbrev main_cst_1 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩

abbrev nD : Nat := 1
abbrev τ : Topo := Topo.v7x

variable {F : FTy → Type} [FloatOps F]
-- ==== Ada.lean ====
abbrev S16x4096 : Shape := ⟨2, ![16, 4096]⟩
abbrev S2x4096x24576 : Shape := ⟨3, ![2, 4096, 24576]⟩
abbrev S2x24576 : Shape := ⟨2, ![2, 24576]⟩
abbrev S2x1x24576 : Shape := ⟨3, ![2, 1, 24576]⟩
abbrev S2x16x24576 : Shape := ⟨3, ![2, 16, 24576]⟩
abbrev S1x4096x512 : Shape := ⟨3, ![1, 4096, 512]⟩
abbrev S1x1x512 : Shape := ⟨3, ![1, 1, 512]⟩
abbrev S1x16x512 : Shape := ⟨3, ![1, 16, 512]⟩
abbrev S4096x512 : Shape := ⟨2, ![4096, 512]⟩
abbrev S16x512 : Shape := ⟨2, ![16, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S16x4096, .f32⟩
  | .hbm, ⟨1, _⟩ => ⟨S2x4096x24576, .f32⟩
  | .hbm, ⟨2, _⟩ => ⟨S2x24576, .f32⟩
  | .hbm, ⟨3, _⟩ => ⟨S2x1x24576, .f32⟩
  | .hbm, ⟨4, _⟩ => ⟨S2x16x24576, .f32⟩
  | .local _ .vmem, ⟨0, _⟩ => ⟨S16x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x16x512, .f32⟩
  | .local _ .vmem, ⟨6, _⟩ => ⟨S1x16x512, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S16x4096 : Shape := ⟨2, ![16, 4096]⟩
abbrev S2x4096x24576 : Shape := ⟨3, ![2, 4096, 24576]⟩
abbrev S2x24576 : Shape := ⟨2, ![2, 24576]⟩
abbrev S_ : Shape := ⟨0, ![]⟩
abbrev S2x24576x16 : Shape := ⟨3, ![2, 24576, 16]⟩
abbrev S2x16x24576 : Shape := ⟨3, ![2, 16, 24576]⟩
abbrev S2x1x24576 : Shape := ⟨3, ![2, 1, 24576]⟩

abbrev nBuf : Space → Nat
  | .hbm => 17
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S2x4096x24576, .f32⟩
  | .hbm, ⟨2, _⟩ => ⟨S2x24576, .f32⟩
  | .hbm, ⟨3, _⟩ => ⟨S16x4096, .f32⟩
  | .hbm, ⟨4, _⟩ => ⟨S16x4096, .f32⟩
  | .hbm, ⟨5, _⟩ => ⟨S_, .f32⟩
  | .hbm, ⟨6, _⟩ => ⟨S16x4096, .f32⟩
  | .hbm, ⟨7, _⟩ => ⟨S16x4096, .f32⟩
  | .hbm, ⟨8, _⟩ => ⟨S_, .f32⟩
  | .hbm, ⟨9, _⟩ => ⟨S16x4096, .f32⟩
  | .hbm, ⟨10, _⟩ => ⟨S16x4096, .f32⟩
  | .hbm, ⟨11, _⟩ => ⟨S16x4096, .f32⟩
  | .hbm, ⟨12, _⟩ => ⟨S2x24576x16, .f32⟩
  | .hbm, ⟨13, _⟩ => ⟨S2x16x24576, .f32⟩
  | .hbm, ⟨14, _⟩ => ⟨S2x1x24576, .f32⟩
  | .hbm, ⟨15, _⟩ => ⟨S2x16x24576, .f32⟩
  | .hbm, ⟨16, _⟩ => ⟨S2x16x24576, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== First.lean ====
abbrev S16384x4096 : Shape := ⟨2, ![16384, 4096]⟩
abbrev S4096 : Shape := ⟨1, ![4096]⟩
abbrev S8x1x4096 : Shape := ⟨3, ![8, 1, 4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S8x1x4096, .f32⟩
  | .hbm, ⟨3, _⟩ => ⟨S8x1x4096, .f32⟩
  | .hbm, ⟨4, _⟩ => ⟨S1x4096, .f32⟩
  | .hbm, ⟨5, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FirstRefIdeal.lean ====
abbrev S16384x4096 : Shape := ⟨2, ![16384, 4096]⟩
abbrev S4096 : Shape := ⟨1, ![4096]⟩
abbrev S8x1x4096 : Shape := ⟨3, ![8, 1, 4096]⟩
abbrev S8x2048x4096 : Shape := ⟨3, ![8, 2048, 4096]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S8x1x4096, .f32⟩
  | .hbm, ⟨3, _⟩ => ⟨S8x1x4096, .f32⟩
  | .hbm, ⟨4, _⟩ => ⟨S8x2048x4096, .f32⟩
  | .hbm, ⟨5, _⟩ => ⟨S8x2048x4096, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x4096, .f32⟩
  | .hbm, ⟨17, _⟩ => ⟨S8x2048x4096, .f32⟩
  | .hbm, ⟨18, _⟩ => ⟨S1x1x4096, .f32⟩
  | .hbm, ⟨19, _⟩ => ⟨S8x2048x4096, .f32⟩
  | .hbm, ⟨20, _⟩ => ⟨S8x2048x4096, .f32⟩
  | .hbm, ⟨21, _⟩ => ⟨S_, .f32⟩
  | .hbm, ⟨22, _⟩ => ⟨S8x1x4096, .f32⟩
  | .hbm, ⟨23, _⟩ => ⟨S8x1x4096, .f32⟩
  | .hbm, ⟨24, _⟩ => ⟨S8x2048x4096, .f32⟩
  | .hbm, ⟨25, _⟩ => ⟨S8x2048x4096, .f32⟩
  | .hbm, ⟨26, _⟩ => ⟨S8x2048x4096, .f32⟩
  | .hbm, ⟨27, _⟩ => ⟨S8x2048x4096, .f32⟩
  | .hbm, ⟨28, _⟩ => ⟨S16384x4096, .f32⟩
  | .hbm, ⟨29, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.Softmax.lean ====
/-
  The softmax average on the extended reals, in the two forms the two programs use.

  A row of real scores is given in two pieces (the image's keys and the context's keys). The kernel takes the maximum
  of each piece, exponentiates against the larger one, sums both pieces, multiplies both with their values and divides
  ONCE at the end. The reference works on the pieces joined into one row: it divides every weight first and then takes
  the weighted sum. With real scores the denominator is a positive real number, so dividing distributes over the sum
  whatever the values are, infinite ones included.
-/
module

public import Idealize.ShloMosaic.PureOps.Ideal.Laws
public import Idealize.ShloMosaic.Lib.ValueIdx

@[expose] public section

noncomputable section

namespace Cert.Attention

open Idealize.ShloMosaic

/-- The largest score of a row, `⊥` for an empty one. -/
def top {ι : Type} [Fintype ι] (s : ι → EReal) : EReal := Finset.univ.fold max ⊥ s

/-- The softmax average of two pieces of a row, divided once at the end. -/
def twoPart {ι κ : Type} [Fintype ι] [Fintype κ] (s : ι → EReal) (t : κ → EReal) (v : ι → EReal) (w : κ → EReal) : EReal :=
  Ideal.div ((∑ i, Ideal.exp (s i - max (top s) (top t)) * v i) + ∑ j, Ideal.exp (t j - max (top s) (top t)) * w j)
    ((∑ i, Ideal.exp (s i - max (top s) (top t))) + ∑ j, Ideal.exp (t j - max (top s) (top t)))

/-- The softmax average of a whole row, every weight divided before the sum. -/
def whole {ι : Type} [Fintype ι] (s : ι → EReal) (v : ι → EReal) : EReal :=
  ∑ k, v k * Ideal.div (Ideal.exp (s k - max ⊥ (top s))) (0 + ∑ l, Ideal.exp (s l - max ⊥ (top s)))

/-- The extended real is a real number. -/
def Real (x : EReal) : Prop := ∃ r : ℝ, x = (r : EReal)

/-- The product of two real numbers is real. -/
theorem Real.mul {x y : EReal} (hx : Real x) (hy : Real y) : Real (x * y) := by
  obtain ⟨a, rfl⟩ := hx; obtain ⟨b, rfl⟩ := hy; exact ⟨a * b, (EReal.coe_mul a b).symm⟩

/-- The sum of two real numbers is real. -/
theorem Real.add {x y : EReal} (hx : Real x) (hy : Real y) : Real (x + y) := by
  obtain ⟨a, rfl⟩ := hx; obtain ⟨b, rfl⟩ := hy; exact ⟨a + b, (EReal.coe_add a b).symm⟩

/-- A finite sum of real numbers is real. -/
theorem Real.sum {ι : Type} (S : Finset ι) (f : ι → EReal) (hf : ∀ i, Real (f i)) : Real (∑ i ∈ S, f i) := by
  classical
  induction S using Finset.induction_on with
  | empty => exact ⟨0, by simp⟩
  | insert a S ha ih => rw [Finset.sum_insert ha]; exact (hf a).add ih

/-- Multiplying by a real number that is not negative distributes over a sum of extended reals. -/
theorem sum_mul_nonneg {ι : Type} (S : Finset ι) (f : ι → EReal) (r : ℝ) (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha,
      EReal.right_distrib_of_nonneg_of_ne_top (EReal.coe_nonneg.mpr hr) (EReal.coe_ne_top r), ih]

/-- A finite sum of coerced reals is the coercion of the sum. -/
theorem sum_coe {ι : Type} (S : Finset ι) (f : ι → ℝ) : (∑ i ∈ S, (f i : EReal)) = ((∑ i ∈ S, f i : ℝ) : EReal) := by
  classical
  induction S using Finset.induction_on with
  | empty => simp
  | insert a S ha ih => rw [Finset.sum_insert ha, Finset.sum_insert ha, ih, EReal.coe_add]

/-- The largest of a nonempty row of scores is one of them. -/
theorem top_mem {ι : Type} [Fintype ι] [Nonempty ι] (s : ι → EReal) : ∃ k, top s = s k := by
  obtain ⟨k, -, h⟩ := Finset.exists_mem_eq_sup (Finset.univ : Finset ι) Finset.univ_nonempty s
  exact ⟨k, h⟩

/-- The largest score of a joined row is the larger of the two pieces' largest. -/
theorem top_append {a b : ℕ} (s : Fin (a + b) → EReal) :
    top s = max (top fun i : Fin a => s (Fin.castAdd b i)) (top fun j : Fin b => s (Fin.natAdd a j)) := by
  show Finset.univ.sup s = max (Finset.univ.sup fun i : Fin a => s (Fin.castAdd b i)) (Finset.univ.sup fun j : Fin b => s (Fin.natAdd a j))
  apply le_antisymm
  · refine Finset.sup_le fun k _ => ?_
    refine Fin.addCases (fun i => ?_) (fun j => ?_) k
    · exact le_max_of_le_left (Finset.le_sup (f := fun i : Fin a => s (Fin.castAdd b i)) (Finset.mem_univ i))
    · exact le_max_of_le_right (Finset.le_sup (f := fun j : Fin b => s (Fin.natAdd a j)) (Finset.mem_univ j))
  · exact max_le (Finset.sup_le fun i _ => Finset.le_sup (f := s) (Finset.mem_univ _))
      (Finset.sup_le fun j _ => Finset.le_sup (f := s) (Finset.mem_univ _))

/-- With real scores, dividing every weight first and dividing once at the end give the same average. -/
theorem whole_eq_twoPart {a b : ℕ} (ha : 0 < a) (s : Fin (a + b) → EReal) (v : Fin (a + b) → EReal) (hs : ∀ k, Real (s k)) :
    whole s v = twoPart (fun i : Fin a => s (Fin.castAdd b i)) (fun j : Fin b => s (Fin.natAdd a j))
      (fun i => v (Fin.castAdd b i)) (fun j => v (Fin.natAdd a j)) := by
  haveI : Nonempty (Fin (a + b)) := ⟨⟨0, by omega⟩⟩
  obtain ⟨k₀, hk₀⟩ := top_mem s
  choose r hr using hs
  unfold whole twoPart
  rw [← top_append, max_eq_right bot_le, zero_add, hk₀, hr k₀]
  have hp : ∀ k, Ideal.exp (s k - (r k₀ : EReal)) = ((Real.exp (r k - r k₀) : ℝ) : EReal) := fun k => by
    rw [hr k, ← EReal.coe_sub, Ideal.exp_coe]
  simp only [hp]
  rw [← Fin.sum_univ_add (fun k : Fin (a + b) => ((Real.exp (r k - r k₀) : ℝ) : EReal)),
    ← Fin.sum_univ_add (fun k : Fin (a + b) => ((Real.exp (r k - r k₀) : ℝ) : EReal) * v k), sum_coe]
  have hd : 0 < ∑ k, Real.exp (r k - r k₀) := Finset.sum_pos (fun k _ => Real.exp_pos _) Finset.univ_nonempty
  simp only [Ideal.div_coe hd.ne']
  rw [sum_mul_nonneg _ _ _ (one_div_pos.mpr hd).le]
  exact Finset.sum_congr rfl fun k _ => by rw [← mul_assoc, mul_comm (v k)]

/-- An array of two axes read at natural numbers, `0` outside it. -/
def at2 {n p : ℕ} (x : (⟨2, ![n, p]⟩ : Shape).Idx → EReal) (r c : ℕ) : EReal :=
  if h : r < n ∧ c < p then x (ValueIdx.ix2 ⟨r, h.1⟩ ⟨c, h.2⟩) else 0

/-- Reading at an index is reading at its two coordinates. -/
theorem at2_of {n p : ℕ} (x : (⟨2, ![n, p]⟩ : Shape).Idx → EReal) (i : (⟨2, ![n, p]⟩ : Shape).Idx) (r c : ℕ)
    (h0 : (i 0).val = r) (h1 : (i 1).val = c) : x i = at2 x r c := by
  subst h0 h1
  have hlt : (i 0).val < n ∧ (i 1).val < p := ⟨(i 0).isLt, (i 1).isLt⟩
  unfold at2
  rw [dif_pos hlt]
  exact congrArg x (ValueIdx.eq_ix2 i)

/-- An array of real numbers reads real numbers everywhere. -/
theorem at2_real {n p : ℕ} (x : (⟨2, ![n, p]⟩ : Shape).Idx → EReal) (hx : ∀ i, Real (x i)) (r c : ℕ) : Real (at2 x r c) := by
  unfold at2
  split
  · exact hx _
  · exact ⟨0, EReal.coe_zero.symm⟩

end Cert.Attention

end
-- ==== Proof.Finite.lean ====
/-
  The precondition, read: every entry of the queries, the keys and the context keys is a real number.
-/
module

public import proofs.«01_k».proof.Proof.Softmax
public import proofs.«01_k».proof.Defs
public import Idealize.ShloMosaic.Lib.ReduceAll

@[expose] public section

noncomputable section

namespace Cert.Attention

open Idealize.ShloMosaic

/-- A number whose absolute value is below plus infinity is real. -/
theorem real_of_abs {x : EReal} (h : max x (-x) < ⊤) : Real x := by
  induction x using EReal.rec with
  | bot => simp at h
  | top => simp at h
  | coe r => exact ⟨r, rfl⟩

/-- If "every absolute value is below plus infinity" is 1 of an array, the array's entries are real. -/
theorem real_of_all {s : Shape} (x : FVec Ideal s .f32) (bc : Cert.Pre_finite.S_.BroadcastsInDim s (![] : Fin 0 → Fin s.rank))
    {axes : List (Fin s.rank)} (hr : s.ReducesTo axes Cert.Pre_finite.S_) (hp : 0 < Cert.Pre_finite.S_.numel) (j : Cert.Pre_finite.S_.Idx)
    (h : Host.reduce IntOp.andi (cmpf .olt (Host.absf x) (broadcastInDim s ![] bc (constant Cert.Pre_finite.S_ .f32 0x7F800000#32)))
      (constantI Cert.Pre_finite.S_ 1 1#1) hr hp j = 1#1) (i : s.Idx) : Real (x i) := by
  haveI : Subsingleton Cert.Pre_finite.S_.Idx := ⟨fun a b => funext fun k => k.elim0⟩
  have hi := Host.reduce_andi_all _ _ hr hp j h i
  refine real_of_abs ?_
  have hinf : Ideal.ofBits .f32 0x7F800000#32 = ⊤ := by simp [Ideal.ofBits, Ideal.ieee]
  have hc : Ideal.cmp .olt (max (x i) (-(x i))) (Ideal.ofBits .f32 0x7F800000#32) = 1#1 := hi
  rw [hinf] at hc
  by_contra hn
  simp [Ideal.cmp, hn] at hc

open Cert.Pre_finite in
/-- The precondition gives real queries, keys and context keys. -/
theorem real_args [Facts] (x0 : FVec Ideal S16384x2048 .bf16) (x1 : FVec Ideal S16384x512 .bf16) (x2 : FVec Ideal S16384x9216 .bf16)
    (x3 : FVec Ideal S2048x512 .bf16) (x4 : FVec Ideal S2048x5120 .bf16)
    (h : Cert.Pre_finite.fn (F := Ideal) x0 x1 x2 x3 x4 = fun _ => 1#1) :
    (∀ i, Real (x0 i)) ∧ (∀ i, Real (x1 i)) ∧ ∀ i, Real (x3 i) := by
  have h' := congrFun h (fun k => k.elim0)
  unfold Cert.Pre_finite.fn at h'
  obtain ⟨h2, hc⟩ := IntOp.andi_eq_one.1 h'
  obtain ⟨ha, hb⟩ := IntOp.andi_eq_one.1 h2
  exact ⟨fun i => real_of_all (extf .f32 x0 Facts.bitsLt_bf16_f32) _ _ _ _ ha i,
    fun i => real_of_all (extf .f32 x1 Facts.bitsLt_bf16_f32) _ _ _ _ hb i,
    fun i => real_of_all (extf .f32 x3 Facts.bitsLt_bf16_f32) _ _ _ _ hc i⟩

end Cert.Attention

end
-- ==== Proof.RefValue.lean ====
/-
  What the reference computes: at a token and a column, the softmax average (weights divided first, Proof/Softmax.lean)
  over the 2048 keys of the token's own batch element followed by its 256 context keys.
-/
module

public import proofs.«01_k».proof.Proof.Softmax
public import proofs.«01_k».proof.Proof.Gen.ReferenceIdeal.Read

@[expose] public section

set_option maxRecDepth 16384

noncomputable section

namespace Cert.ReferenceIdeal.RefValue

open Cert.ReferenceIdeal Cert.ReferenceIdeal.Gen Cert.ReferenceIdeal.Read Cert.Attention Idealize.ShloMosaic
  Idealize.ShloMosaic.ValueIdx Idealize.ShloMosaic.StableHlo

/-- Key `j` of batch element `b`, head group `g`, at feature `e`: an image key below 2048, a context key from there on. -/
def key (x1 : FVec Ideal S16384x512 .bf16) (x3 : FVec Ideal S2048x512 .bf16) (b g j e : ℕ) : EReal :=
  if j < 2048 then at2 x1 (b * 2048 + j) (g * 128 + e) else at2 x3 (b * 256 + (j - 2048)) (g * 128 + e)

/-- The value that goes with it, cut out of the projections' last 512 columns. -/
def value (x2 : FVec Ideal S16384x9216 .bf16) (x4 : FVec Ideal S2048x5120 .bf16) (b g j e : ℕ) : EReal :=
  if j < 2048 then at2 x2 (b * 2048 + j) (8704 + (g * 128 + e)) else at2 x4 (b * 256 + (j - 2048)) (4608 + (g * 128 + e))

/-- The joined keys, at an index. -/
theorem keys_apply (x1 : FVec Ideal S16384x512 .bf16) (x3 : FVec Ideal S2048x512 .bf16) (i : S8x2304x4x128.Idx) :
    val_main_v12 (F := Ideal) x1 x3 i = key x1 x3 (i 0) (i 2) (i 1) (i 3) := by
  have h0 : (i 0).val < 8 := (i 0).isLt
  have h1 : (i 1).val < 2304 := (i 1).isLt
  have h2 : (i 2).val < 4 := (i 2).isLt
  have h3 : (i 3).val < 128 := (i 3).isLt
  unfold val_main_v12 key
  split
  · rename_i hj
    rw [concatenate_pair_apply_left (s₁ := S8x2048x4x128) (s₂ := S8x256x4x128) (1 : Fin S8x2304x4x128.rank) _ _ _ i rfl
      (ix4 ⟨(i 0).val, h0⟩ ⟨(i 1).val, hj⟩ ⟨(i 2).val, h2⟩ ⟨(i 3).val, h3⟩)
      (fun a => by match a with | ⟨0, _⟩ => rfl | ⟨1, _⟩ => rfl | ⟨2, _⟩ => rfl | ⟨3, _⟩ => rfl), val_main_v3_apply]
    exact at2_of x1 _ _ _
      (by show ((((i 0).val * 2048 + (i 1).val) * 4 + (i 2).val) * 128 + (i 3).val) / 512 = _; omega)
      (by show ((((i 0).val * 2048 + (i 1).val) * 4 + (i 2).val) * 128 + (i 3).val) % 512 = _; omega)
  · rename_i hj
    rw [concatenate_pair_apply_right (s₁ := S8x2048x4x128) (s₂ := S8x256x4x128) (1 : Fin S8x2304x4x128.rank) _ _ _ i rfl rfl
      (ix4 ⟨(i 0).val, h0⟩ ⟨(i 1).val - 2048, by omega⟩ ⟨(i 2).val, h2⟩ ⟨(i 3).val, h3⟩)
      (fun a ha => by match a with | ⟨0, _⟩ => rfl | ⟨1, _⟩ => exact absurd rfl ha | ⟨2, _⟩ => rfl | ⟨3, _⟩ => rfl)
      (by show (i 1).val - 2048 + 2048 = (i 1).val; omega), val_main_v5_apply]
    exact at2_of x3 _ _ _
      (by show ((((i 0).val * 256 + ((i 1).val - 2048)) * 4 + (i 2).val) * 128 + (i 3).val) / 512 = _; omega)
      (by show ((((i 0).val * 256 + ((i 1).val - 2048)) * 4 + (i 2).val) * 128 + (i 3).val) % 512 = _; omega)

/-- The joined values, at an index. -/
theorem values_apply (x2 : FVec Ideal S16384x9216 .bf16) (x4 : FVec Ideal S2048x5120 .bf16) (i : S8x2304x4x128.Idx) :
    val_main_v13 (F := Ideal) x2 x4 i = value x2 x4 (i 0) (i 2) (i 1) (i 3) := by
  have h0 : (i 0).val < 8 := (i 0).isLt
  have h1 : (i 1).val < 2304 := (i 1).isLt
  have h2 : (i 2).val < 4 := (i 2).isLt
  have h3 : (i 3).val < 128 := (i 3).isLt
  unfold val_main_v13 value
  split
  · rename_i hj
    rw [concatenate_pair_apply_left (s₁ := S8x2048x4x128) (s₂ := S8x256x4x128) (1 : Fin S8x2304x4x128.rank) _ _ _ i rfl
      (ix4 ⟨(i 0).val, h0⟩ ⟨(i 1).val, hj⟩ ⟨(i 2).val, h2⟩ ⟨(i 3).val, h3⟩)
      (fun a => by match a with | ⟨0, _⟩ => rfl | ⟨1, _⟩ => rfl | ⟨2, _⟩ => rfl | ⟨3, _⟩ => rfl), val_main_v8_apply]
    show val_main_v6 (F := Ideal) x2 _ = _
    rw [val_main_v6_apply]
    exact at2_of x2 _ _ _
      (by show ((((i 0).val * 2048 + (i 1).val) * 4 + (i 2).val) * 128 + (i 3).val) / 512 = _; omega)
      (by show 8704 + ((((i 0).val * 2048 + (i 1).val) * 4 + (i 2).val) * 128 + (i 3).val) % 512 = _; omega)
  · rename_i hj
    rw [concatenate_pair_apply_right (s₁ := S8x2048x4x128) (s₂ := S8x256x4x128) (1 : Fin S8x2304x4x128.rank) _ _ _ i rfl rfl
      (ix4 ⟨(i 0).val, h0⟩ ⟨(i 1).val - 2048, by omega⟩ ⟨(i 2).val, h2⟩ ⟨(i 3).val, h3⟩)
      (fun a ha => by match a with | ⟨0, _⟩ => rfl | ⟨1, _⟩ => exact absurd rfl ha | ⟨2, _⟩ => rfl | ⟨3, _⟩ => rfl)
      (by show (i 1).val - 2048 + 2048 = (i 1).val; omega), val_main_v11_apply]
    show val_main_v9 (F := Ideal) x4 _ = _
    rw [val_main_v9_apply]
    exact at2_of x4 _ _ _
      (by show ((((i 0).val * 256 + ((i 1).val - 2048)) * 4 + (i 2).val) * 128 + (i 3).val) / 512 = _; omega)
      (by show 4608 + ((((i 0).val * 256 + ((i 1).val - 2048)) * 4 + (i 2).val) * 128 + (i 3).val) % 512 = _; omega)

/-- The queries, head by head. -/
theorem query_apply (x0 : FVec Ideal S16384x2048 .bf16) (i : S8x2048x4x4x128.Idx) :
    val_main_v14 (F := Ideal) x0 i = at2 x0 ((i 0).val * 2048 + (i 1).val) (((i 2).val * 4 + (i 3).val) * 128 + (i 4).val) := by
  have h0 : (i 0).val < 8 := (i 0).isLt
  have h1 : (i 1).val < 2048 := (i 1).isLt
  have h2 : (i 2).val < 4 := (i 2).isLt
  have h3 : (i 3).val < 4 := (i 3).isLt
  have h4 : (i 4).val < 128 := (i 4).isLt
  rw [val_main_v14_apply, val_main_v1_apply]
  have e0 : (idx_main_v14 i 0).val = (i 0).val := by
    show (((((i 0).val * 2048 + (i 1).val) * 4 + (i 2).val) * 4 + (i 3).val) * 128 + (i 4).val) / 4194304 = _; omega
  have e1 : (idx_main_v14 i 1).val = (i 1).val := by
    show (((((i 0).val * 2048 + (i 1).val) * 4 + (i 2).val) * 4 + (i 3).val) * 128 + (i 4).val) / 2048 % 2048 = _; omega
  have e2 : (idx_main_v14 i 2).val = (i 2).val * 4 + (i 3).val := by
    show (((((i 0).val * 2048 + (i 1).val) * 4 + (i 2).val) * 4 + (i 3).val) * 128 + (i 4).val) / 128 % 16 = _; omega
  have e3 : (idx_main_v14 i 3).val = (i 4).val := by
    show (((((i 0).val * 2048 + (i 1).val) * 4 + (i 2).val) * 4 + (i 3).val) * 128 + (i 4).val) % 128 = _; omega
  refine at2_of x0 _ _ _ ?_ ?_
  · show ((((idx_main_v14 i 0).val * 2048 + (idx_main_v14 i 1).val) * 16 + (idx_main_v14 i 2).val) * 128 + (idx_main_v14 i 3).val) / 2048 = _
    rw [e0, e1, e2, e3]; omega
  · show ((((idx_main_v14 i 0).val * 2048 + (idx_main_v14 i 1).val) * 16 + (idx_main_v14 i 2).val) * 128 + (idx_main_v14 i 3).val) % 2048 = _
    rw [e0, e1, e2, e3]; omega

/-- The score of token `n` of batch element `b`, query head `4 g + r`, against key `j`. -/
def score (x0 : FVec Ideal S16384x2048 .bf16) (x1 : FVec Ideal S16384x512 .bf16) (x3 : FVec Ideal S2048x512 .bf16)
    (b g r n j : ℕ) : EReal :=
  (∑ e : Fin 128, key x1 x3 b g j e * at2 x0 (b * 2048 + n) ((g * 4 + r) * 128 + e)) * Ideal.ofBits .f32 0x3DB504F3#32

/-- The scaled scores, at an index. -/
theorem scores_apply (x0 : FVec Ideal S16384x2048 .bf16) (x1 : FVec Ideal S16384x512 .bf16) (x3 : FVec Ideal S2048x512 .bf16)
    (i : S8x4x4x2048x2304.Idx) :
    val_main_v18 (F := Ideal) x0 x1 x3 i = score x0 x1 x3 (i 0) (i 1) (i 2) (i 3) (i 4) := by
  rw [val_main_v18_apply, val_main_v17_apply, val_main_cst_apply, val_main_v16_apply, val_main_v15_apply]
  unfold score
  refine congrArg (· * Ideal.ofBits .f32 0x3DB504F3#32) (Finset.sum_congr rfl fun e _ => ?_)
  rw [keys_apply, query_apply]

/-- The row maximum the reference subtracts. -/
theorem max_apply (x0 : FVec Ideal S16384x2048 .bf16) (x1 : FVec Ideal S16384x512 .bf16) (x3 : FVec Ideal S2048x512 .bf16)
    (i : S8x4x4x2048.Idx) :
    val_main_v21 (F := Ideal) x0 x1 x3 i = max ⊥ (top fun j : Fin 2304 => score x0 x1 x3 (i 0) (i 1) (i 2) (i 3) j) := by
  have hb : Ideal.ofBits .f32 0xFF800000#32 = ⊥ := by simp [Ideal.ofBits, Ideal.ieee]
  rw [val_main_v21_apply, val_main_v20_apply, val_main_cst_1_apply]
  show max (Ideal.ofBits .f32 0xFF800000#32) _ = _
  rw [hb]
  refine congrArg (max ⊥) ?_
  unfold val_main_v19
  refine (Host.reduce_eq_fold_single FloatOps.maximumf _ _ reducesTo_S8x4x4x2048x2304_S8x4x4x2048_d4 (by decide) h_S_ i).trans ?_
  show Finset.univ.fold max (Ideal.ofBits .f32 0xFF800000#32) _ = _
  rw [hb]
  exact congrArg (Finset.univ.fold max ⊥) (funext fun j => scores_apply x0 x1 x3 _)

/-- The unnormalised weights, at an index. -/
theorem weight_apply (x0 : FVec Ideal S16384x2048 .bf16) (x1 : FVec Ideal S16384x512 .bf16) (x3 : FVec Ideal S2048x512 .bf16)
    (i : S8x4x4x2048x2304.Idx) :
    val_main_v25 (F := Ideal) x0 x1 x3 i = Ideal.exp (score x0 x1 x3 (i 0) (i 1) (i 2) (i 3) (i 4)
      - max ⊥ (top fun j : Fin 2304 => score x0 x1 x3 (i 0) (i 1) (i 2) (i 3) j)) := by
  rw [val_main_v25_apply, val_main_v24_apply, scores_apply, val_main_v23_apply, val_main_v22_apply, max_apply]
  rfl

/-- The normalised weights, at an index. -/
theorem softmax_apply (x0 : FVec Ideal S16384x2048 .bf16) (x1 : FVec Ideal S16384x512 .bf16) (x3 : FVec Ideal S2048x512 .bf16)
    (i : S8x4x4x2048x2304.Idx) :
    val_main_v29 (F := Ideal) x0 x1 x3 i = Ideal.div (Ideal.exp (score x0 x1 x3 (i 0) (i 1) (i 2) (i 3) (i 4)
        - max ⊥ (top fun j : Fin 2304 => score x0 x1 x3 (i 0) (i 1) (i 2) (i 3) j)))
      (0 + ∑ l : Fin 2304, Ideal.exp (score x0 x1 x3 (i 0) (i 1) (i 2) (i 3) l
        - max ⊥ (top fun j : Fin 2304 => score x0 x1 x3 (i 0) (i 1) (i 2) (i 3) j))) := by
  rw [val_main_v29_apply, weight_apply, val_main_v28_apply, val_main_v27_apply, val_main_v26_apply, val_main_cst_2_apply]
  show Ideal.div _ (Ideal.ofBits .f32 0x00000000#32 + _) = _
  rw [Ideal.ofBits_zero_f32]
  exact congrArg (fun s => Ideal.div _ (0 + s)) (Finset.sum_congr rfl fun l _ => weight_apply x0 x1 x3 _)

/-- THE REFERENCE'S RESULT at token `i 0` and column `i 1`: head `c / 128` of group `c / 512`. -/
theorem result_apply (x0 : FVec Ideal S16384x2048 .bf16) (x1 : FVec Ideal S16384x512 .bf16) (x2 : FVec Ideal S16384x9216 .bf16)
    (x3 : FVec Ideal S2048x512 .bf16) (x4 : FVec Ideal S2048x5120 .bf16) (i : S16384x2048.Idx) :
    val_main_v33 (F := Ideal) x0 x1 x2 x3 x4 i
      = whole (fun j : Fin 2304 => score x0 x1 x3 ((i 0).val / 2048) ((i 1).val / 512) ((i 1).val / 128 % 4) ((i 0).val % 2048) j)
          (fun j : Fin 2304 => value x2 x4 ((i 0).val / 2048) ((i 1).val / 512) j ((i 1).val % 128)) := by
  have h0 : (i 0).val < 16384 := (i 0).isLt
  have h1 : (i 1).val < 2048 := (i 1).isLt
  have e0 : (idx_main_v32 i 0).val = (i 0).val / 2048 := by
    show ((i 0).val * 2048 + (i 1).val) / 4194304 = _; omega
  have e1 : (idx_main_v32 i 1).val = (i 0).val % 2048 := by
    show ((i 0).val * 2048 + (i 1).val) / 2048 % 2048 = _; omega
  have e2 : (idx_main_v32 i 2).val = (i 1).val / 512 := by
    show ((i 0).val * 2048 + (i 1).val) / 512 % 4 = _; omega
  have e3 : (idx_main_v32 i 3).val = (i 1).val / 128 % 4 := by
    show ((i 0).val * 2048 + (i 1).val) / 128 % 4 = _; omega
  have e4 : (idx_main_v32 i 4).val = (i 1).val % 128 := by
    show ((i 0).val * 2048 + (i 1).val) % 128 = _; omega
  rw [val_main_v33_apply]
  show val_main_v32 (F := Ideal) x0 x1 x2 x3 x4 i = _
  rw [val_main_v32_apply, val_main_v31_apply, val_main_v30_apply]
  unfold whole
  refine Finset.sum_congr rfl fun j _ => ?_
  rw [values_apply, softmax_apply, ← e0, ← e1, ← e2, ← e3, ← e4]

end Cert.ReferenceIdeal.RefValue

end
-- ==== Proof.Block.lean ====
/-
  What one grid point of the kernel computes: each of the four query heads of its tile, at a row and a column, is the
  two-part softmax average (Proof/Softmax.lean) of the tile's scores against the image's keys and the context's keys.
-/
module

public import proofs.«01_k».proof.Proof.Softmax
public import proofs.«01_k».proof.Proof.Gen.KernelIdeal.Value
public import Idealize.ShloMosaic.Lib.MatmulPlain

@[expose] public section

set_option maxRecDepth 16384

noncomputable section

namespace Cert.KernelIdeal.Block

open Cert.KernelIdeal Cert.KernelIdeal.Gen Cert.Attention Idealize.ShloMosaic Idealize.ShloMosaic.ValueIdx

/-- The scale both programs multiply the scores with. -/
abbrev scale : EReal := Ideal.ofBits .f32 0x3DB504F3#32

/-- The score of a query row against a key row. -/
def score (q k : ℕ → EReal) : EReal := (∑ e : Fin 128, q e * k e) * scale

/-- A tile's scores against `n` keys: the transposed product, scaled. -/
theorem score_apply {n : ℕ} (x : FVec Ideal S256x128 .bf16) (y : FVec Ideal ⟨2, ![n, 128]⟩ .bf16) (r : Fin 256) (j : Fin n) :
    mulf (matmul (F := Ideal) (DotDims.transposedRhs 256 128 n) none x y (constant ⟨2, ![256, n]⟩ .f32 0x00000000#32))
      (broadcast ⟨2, ![256, n]⟩ (Scalar.ofBits (F := Ideal) .f32 0x3DB504F3#32)) (ix2 r j)
      = score (at2 x r) (at2 y j) := by
  rw [mulf_apply, broadcast_apply]
  refine congrArg (· * scale) ?_
  show FloatOps.matmul _ _ _ _ _ _ = _
  rw [Ideal.matmul_transposedRhs_apply, constant_apply, Ideal.ofBits_zero_f32, zero_add]
  exact Finset.sum_congr rfl fun e _ => by
    rw [at2_of x (ix2 r e) r e rfl rfl, at2_of y (ix2 j e) j e rfl rfl]

/-- The row maximum of a tile of scores. -/
theorem rowmax_apply {n : ℕ} (x : FVec Ideal ⟨2, ![256, n]⟩ .f32) (h : (⟨2, ![256, n]⟩ : Shape).Reduces [1] S256)
    (hs : S256.ShapeCasts S256x1) (r : Fin 256) (z : Fin 1) :
    shapeCast S256x1 (multiReduction .maximumf [1] S256 x 0xFF800000#32 h (.inl rfl) rfl) hs (ix2 r z)
      = top fun j => x (ix2 r j) := by
  rw [shapeCast_apply _ hs (ix2 r z) (ix1 r) (by
    rw [Shape.rowMajor_val_one, Shape.rowMajor_val_two]; show r.val = r.val * 1 + z.val; omega)]
  refine (Ideal.multiReduction_maximumf_single x _ h _ _ (ix1 r)).trans ?_
  show Finset.univ.fold max (Ideal.ofBits .f32 0xFF800000#32) _ = _
  rw [show Ideal.ofBits .f32 0xFF800000#32 = ⊥ by simp [Ideal.ofBits, Ideal.ieee]]
  exact congrArg (Finset.univ.fold max ⊥) (funext fun j => congrArg x (Shape.idx_ext₂ rfl rfl))

/-- The row sum of a tile of weights. -/
theorem rowsum_apply {n : ℕ} (x : FVec Ideal ⟨2, ![256, n]⟩ .f32) (h : (⟨2, ![256, n]⟩ : Shape).Reduces [1] S256)
    (hs : S256.ShapeCasts S256x1) (r : Fin 256) (z : Fin 1) :
    shapeCast S256x1 (multiReduction .add [1] S256 x 0x00000000#32 h (.inl rfl) rfl) hs (ix2 r z)
      = ∑ j, x (ix2 r j) := by
  rw [shapeCast_apply _ hs (ix2 r z) (ix1 r) (by
    rw [Shape.rowMajor_val_one, Shape.rowMajor_val_two]; show r.val = r.val * 1 + z.val; omega)]
  refine (Ideal.multiReduction_add_single x _ h _ _ (ix1 r)).trans ?_
  exact Finset.sum_congr rfl fun j _ => congrArg x (Shape.idx_ext₂ rfl rfl)

/-- A column of row statistics spread over a tile reads the row's own. -/
theorem spread_apply {n : ℕ} (x : FVec Ideal S256x1 .f32) (h : S256x1.Broadcasts ⟨2, ![256, n]⟩) (r : Fin 256) (j : Fin n) :
    broadcastTo ⟨2, ![256, n]⟩ x h (ix2 r j) = x (ix2 r 0) :=
  broadcastTo_apply x h (ix2 r j) (ix2 r 0) fun a => match a with
    | ⟨0, _⟩ => by show r.val = if (256 : ℕ) = 1 then 0 else r.val; rw [if_neg (by decide)]
    | ⟨1, _⟩ => by show 0 = if (1 : ℕ) = 1 then 0 else j.val; rw [if_pos rfl]

/-- A tile of weights times the values. -/
theorem weighted_apply {n : ℕ} (p : FVec Ideal ⟨2, ![256, n]⟩ .bf16) (y : FVec Ideal ⟨2, ![n, 128]⟩ .bf16) (r : Fin 256) (d : Fin 128) :
    matmul (F := Ideal) (DotDims.plain 256 n 128) none p y (constant ⟨2, ![256, 128]⟩ .f32 0x00000000#32) (ix2 r d)
      = ∑ j : Fin n, p (ix2 r j) * at2 y j d := by
  show FloatOps.matmul _ _ _ _ _ _ = _
  rw [Ideal.matmul_plain_apply, constant_apply, Ideal.ofBits_zero_f32, zero_add]
  exact Finset.sum_congr rfl fun j _ => by rw [at2_of y (ix2 j d) j d rfl rfl]

/-- The exponential of a tile reads elementwise. -/
theorem exp_at {s : Shape} (x : FVec Ideal s .f32) (i : s.Idx) : exp x i = Ideal.exp (x i) := rfl

/-- What the kernel does with a head's two tiles of scores: exponentials against the joint row maximum, both row sums,
    both products with the values, one division. -/
def average (s : FVec Ideal S256x2048 .f32) (t : FVec Ideal S256x256 .f32) (v : FVec Ideal S2048x128 .bf16)
    (vc : FVec Ideal S256x128 .bf16) : FVec Ideal S256x128 .bf16 :=
  have mx : FVec Ideal S256x1 .f32 := maximumf
    (shapeCast S256x1 (multiReduction .maximumf [1] S256 s 0xFF800000#32 reduces_S256x2048_S256 (.inl rfl) rfl) shapeCasts_S256_S256x1)
    (shapeCast S256x1 (multiReduction .maximumf [1] S256 t 0xFF800000#32 reduces_S256x256_S256 (.inl rfl) rfl) shapeCasts_S256_S256x1)
  have p : FVec Ideal S256x2048 .f32 := exp (subf s (broadcastTo S256x2048 mx broadcasts_S256x1_S256x2048))
  have pc : FVec Ideal S256x256 .f32 := exp (subf t (broadcastTo S256x256 mx broadcasts_S256x1_S256x256))
  have den : FVec Ideal S256x1 .f32 := addf
    (shapeCast S256x1 (multiReduction .add [1] S256 p 0x00000000#32 reduces_S256x2048_S256 (.inl rfl) rfl) shapeCasts_S256_S256x1)
    (shapeCast S256x1 (multiReduction .add [1] S256 pc 0x00000000#32 reduces_S256x256_S256 (.inl rfl) rfl) shapeCasts_S256_S256x1)
  truncf .bf16 (divf
    (addf (matmul dot_S256x2048_S2048x128_S256x128_1_0_0_1_n_n none (truncf .bf16 p bitsLt_bf16_f32) v (constant S256x128 .f32 0x00000000#32))
      (matmul dot_S256x256_S256x128_S256x128_1_0_0_1_n_n none (truncf .bf16 pc bitsLt_bf16_f32) vc (constant S256x128 .f32 0x00000000#32)))
    (broadcastTo S256x128 den broadcasts_S256x1_S256x128)) bitsLt_bf16_f32

/-- That is the two-part average of the row's scores. -/
theorem average_apply (s : FVec Ideal S256x2048 .f32) (t : FVec Ideal S256x256 .f32) (v : FVec Ideal S2048x128 .bf16)
    (vc : FVec Ideal S256x128 .bf16) (r : Fin 256) (d : Fin 128) :
    average s t v vc (ix2 r d)
      = twoPart (fun j : Fin 2048 => s (ix2 r j)) (fun j : Fin 256 => t (ix2 r j)) (fun j => at2 v j d) (fun j => at2 vc j d) := by
  have w1 : ∀ p : FVec Ideal S256x2048 .bf16, matmul (F := Ideal) dot_S256x2048_S2048x128_S256x128_1_0_0_1_n_n none p v (constant S256x128 .f32 0x00000000#32) (ix2 r d)
      = ∑ j : Fin 2048, p (ix2 r j) * at2 v j d := fun p => weighted_apply p v r d
  have w2 : ∀ p : FVec Ideal S256x256 .bf16, matmul (F := Ideal) dot_S256x256_S256x128_S256x128_1_0_0_1_n_n none p vc (constant S256x128 .f32 0x00000000#32) (ix2 r d)
      = ∑ j : Fin 256, p (ix2 r j) * at2 vc j d := fun p => weighted_apply p vc r d
  unfold average
  dsimp only
  rw [truncf_apply, divf_apply, addf_apply, spread_apply, addf_apply, rowsum_apply, rowsum_apply, w1, w2]
  simp only [truncf_apply, exp_at, subf_apply, spread_apply, maximumf_apply]
  rw [rowmax_apply s, rowmax_apply t]
  rfl

/-- A head of the tile, from the query head, the keys and the values the point reads. -/
def head (k v : FVec Ideal S2048x128 .bf16) (kc vc q : FVec Ideal S256x128 .bf16) : FVec Ideal S256x128 .bf16 :=
  average
    (mulf (matmul (F := Ideal) dot_S256x128_S2048x128_S256x2048_1_1_0_0_n_n none q k (constant S256x2048 .f32 0x00000000#32))
      (broadcast S256x2048 (Scalar.ofBits (F := Ideal) .f32 0x3DB504F3#32)))
    (mulf (matmul (F := Ideal) dot_S256x128_S256x128_S256x256_1_1_0_0_n_n none q kc (constant S256x256 .f32 0x00000000#32))
      (broadcast S256x256 (Scalar.ofBits (F := Ideal) .f32 0x3DB504F3#32))) v vc

/-- A head at a row and a column. -/
theorem head_apply (k v : FVec Ideal S2048x128 .bf16) (kc vc q : FVec Ideal S256x128 .bf16) (r : Fin 256) (d : Fin 128) :
    head k v kc vc q (ix2 r d)
      = twoPart (fun j : Fin 2048 => score (at2 q r) (at2 k j)) (fun j : Fin 256 => score (at2 q r) (at2 kc j))
          (fun j => at2 v j d) (fun j => at2 vc j d) := by
  unfold head
  rw [average_apply]
  exact congrArg₂ (fun a b => twoPart a b _ _) (funext fun j => score_apply q k r j) (funext fun j => score_apply q kc r j)

/-- The rows of four heads side by side: what the point leaves in its output block. -/
def tile (q : FVec Ideal S256x512 .bf16) (k v : FVec Ideal S2048x128 .bf16) (kc vc : FVec Ideal S256x128 .bf16) (r c : ℕ) : EReal :=
  twoPart (fun j : Fin 2048 => score (fun e => at2 q r (c / 128 * 128 + e)) (at2 k j))
    (fun j : Fin 256 => score (fun e => at2 q r (c / 128 * 128 + e)) (at2 kc j))
    (fun j => at2 v j (c % 128)) (fun j => at2 vc j (c % 128))

theorem hz : (![0, 0] : Fin 2 → Nat) = fun _ => 0 := funext fun a => by fin_cases a <;> rfl

/-- A head computed from the query's columns `128 h …` is those columns of the tile. -/
theorem head_tile (q : FVec Ideal S256x512 .bf16) (k v : FVec Ideal S2048x128 .bf16) (kc vc : FVec Ideal S256x128 .bf16)
    (h : ℕ) (hh : h < 4) (inb : ∀ a, (![0, h * 128] : Fin 2 → ℕ) a + S256x128.size a ≤ S256x512.size a)
    (x : S256x128.Idx) :
    head k v kc vc (View.ld (Val := Elt Ideal) (e' := .bf16) q (Rect.unit (s := S256x512) ![0, h * 128] S256x128.size inb)) x
      = tile q k v kc vc (((Rect.unit (s := S256x512) ![0, h * 128] S256x128.size inb).emb x 0 : Fin _) : ℕ)
          (((Rect.unit (s := S256x512) ![0, h * 128] S256x128.size inb).emb x 1 : Fin _) : ℕ) := by
  have h0 : (x 0).val < 256 := (x 0).isLt
  have h1 : (x 1).val < 128 := (x 1).isLt
  have e0 : (((Rect.unit (s := S256x512) ![0, h * 128] S256x128.size inb).emb x 0 : Fin _) : ℕ) = (x 0).val := by
    rw [Rect.emb_apply]; show 0 + 1 * (x 0).val = _; omega
  have e1 : (((Rect.unit (s := S256x512) ![0, h * 128] S256x128.size inb).emb x 1 : Fin _) : ℕ) = h * 128 + (x 1).val := by
    rw [Rect.emb_apply]; show h * 128 + 1 * (x 1).val = _; omega
  rw [e0, e1]
  refine (congrArg (head k v kc vc _) (eq_ix2 x)).trans ((head_apply k v kc vc _ (x 0) (x 1)).trans ?_)
  have d1 : (h * 128 + (x 1).val) / 128 = h := by omega
  have d2 : (h * 128 + (x 1).val) % 128 = (x 1).val := by omega
  unfold tile
  show _ = twoPart (fun j : Fin 2048 => score (fun e => at2 q (x 0).val ((h * 128 + (x 1).val) / 128 * 128 + e)) (at2 k j))
    (fun j : Fin 256 => score (fun e => at2 q (x 0).val ((h * 128 + (x 1).val) / 128 * 128 + e)) (at2 kc j))
    (fun j => at2 v j ((h * 128 + (x 1).val) % 128)) (fun j => at2 vc j ((h * 128 + (x 1).val) % 128))
  rw [d1, d2]
  have hq : ∀ e : Fin 128, at2 (View.ld (Val := Elt Ideal) (e' := .bf16) q (Rect.unit (s := S256x512) ![0, h * 128] S256x128.size inb)) (x 0).val e
      = at2 q (x 0).val (h * 128 + e) := fun e => by
    rw [← at2_of (View.ld (Val := Elt Ideal) (e' := .bf16) q (Rect.unit (s := S256x512) ![0, h * 128] S256x128.size inb)) (ix2 (x 0) e) (x 0).val e rfl rfl]
    exact at2_of q _ _ _ (by show 0 + 1 * (x 0).val = _; omega)
      (by show h * 128 + 1 * e.val = _; omega)
  have hsc : ∀ y : ℕ → EReal, score (at2 (View.ld (Val := Elt Ideal) (e' := .bf16) q (Rect.unit (s := S256x512) ![0, h * 128] S256x128.size inb)) (x 0).val) y
      = score (fun e => at2 q (x 0).val (h * 128 + e)) y := fun y => by
    unfold score; exact congrArg (· * scale) (Finset.sum_congr rfl fun e _ => by rw [hq])
  exact congrArg₂ (fun a b => twoPart a b _ _) (funext fun j => hsc _) (funext fun j => hsc _)

/-- WHAT A POINT LEAVES in its output block, at a row and a column. -/
theorem out_apply (q : Vec Ideal S256x512 .bf16) (k v : Vec Ideal S2048x128 .bf16) (kc vc : Vec Ideal S256x128 .bf16) (y : S256x512.Idx) :
    out0_5 (F := Ideal) q k v kc vc y = tile q k v kc vc (y 0) (y 1) := by
  unfold out0_5
  rw [View.ld_unit_zero (S := S2048x128) hz, View.ld_unit_zero (S := S2048x128) hz, View.ld_unit_zero (S := S256x128) hz, View.ld_unit_zero (S := S256x128) hz]
  refine View.canon_apply_of_pieces (Val := Elt Ideal) (fun y : S256x512.Idx => (tile q k v kc vc (y 0) (y 1) : Elt Ideal .bf16)) _ ?_ y (cover0_5 _ _ _ _ y)
  intro p hp x
  simp only [List.mem_cons, List.mem_singleton, List.not_mem_nil, or_false] at hp
  rcases hp with rfl | rfl | rfl | rfl
  · exact head_tile q k v kc vc 3 (by decide) inb_S256x512_S256x128_0_384 x
  · exact head_tile q k v kc vc 2 (by decide) inb_S256x512_S256x128_0_256 x
  · exact head_tile q k v kc vc 1 (by decide) inb_S256x512_S256x128_0_128 x
  · exact head_tile q k v kc vc 0 (by decide) inb_S256x512_S256x128_0_0 x

end Cert.KernelIdeal.Block

end
-- ==== Proof.Array.lean ====
/-
  The kernel's result array: at a token and a column it holds the two-part softmax average (Proof/Softmax.lean) of the
  token's query head against the 2048 keys of its own batch element and the 256 context keys of that element.
-/
module

public import proofs.«01_k».proof.Proof.Block

@[expose] public section

set_option maxRecDepth 16384

noncomputable section

namespace Cert.KernelIdeal.Block

open Cert.KernelIdeal Cert.KernelIdeal.Gen Cert.Attention Idealize.ShloMosaic Idealize.ShloMosaic.ValueIdx
  Idealize.ShloMosaic.TcCoe Idealize.SL.Sem

/-- The attention's value at token `r` and column `c`, from the five argument arrays. -/
def attn (x0 : FVec Ideal S16384x2048 .bf16) (x1 : FVec Ideal S16384x512 .bf16) (x2 : FVec Ideal S16384x9216 .bf16)
    (x3 : FVec Ideal S2048x512 .bf16) (x4 : FVec Ideal S2048x5120 .bf16) (r c : ℕ) : EReal :=
  twoPart (fun j : Fin 2048 => score (fun e => at2 x0 r (c / 128 * 128 + e)) fun e => at2 x1 (r / 2048 * 2048 + j) (c / 512 * 128 + e))
    (fun j : Fin 256 => score (fun e => at2 x0 r (c / 128 * 128 + e)) fun e => at2 x3 (r / 2048 * 256 + j) (c / 512 * 128 + e))
    (fun j => at2 x2 (r / 2048 * 2048 + j) (8704 + (c / 512 * 128 + c % 128)))
    (fun j => at2 x4 (r / 2048 * 256 + j) (4608 + (c / 512 * 128 + c % 128)))

/-- Which block each window reads or writes at point `t`: batch element `t / 32`, group `t / 8 % 4`, query tile `t % 8`. -/
theorem idx_facts : ∀ t : Fin cfg0.N,
    (win0_0.index t (0 : Fin 2) = t.val / 32 * 8 + t.val % 8 ∧ win0_0.index t (1 : Fin 2) = t.val / 8 % 4)
    ∧ (win0_1.index t (0 : Fin 2) = t.val / 32 ∧ win0_1.index t (1 : Fin 2) = t.val / 8 % 4)
    ∧ (win0_2.index t (0 : Fin 2) = t.val / 32 ∧ win0_2.index t (1 : Fin 2) = 68 + t.val / 8 % 4)
    ∧ (win0_3.index t (0 : Fin 2) = t.val / 32 ∧ win0_3.index t (1 : Fin 2) = t.val / 8 % 4)
    ∧ (win0_4.index t (0 : Fin 2) = t.val / 32 ∧ win0_4.index t (1 : Fin 2) = 36 + t.val / 8 % 4)
    ∧ (win0_5.index t (0 : Fin 2) = t.val / 32 * 8 + t.val % 8 ∧ win0_5.index t (1 : Fin 2) = t.val / 8 % 4) :=
  (by decide +kernel : ∀ t : Fin grid0.N, _)

variable (m : (ℓ : Loc nD τ sig) → Buf (Elt Ideal) ℓ)

/-- The query tile point `t` reads, in the array. -/
theorem blk0_at (c : Dev nD) (t : Fin cfg0.N) (r e : ℕ) (hr : r < 256) (he : e < 512) :
    at2 (n := 256) (p := 512) (iblk m c 0 t) r e
      = at2 (n := 16384) (p := 2048) (m ((c : Thread nD τ).loc main_arg0)) ((t.val / 32 * 8 + t.val % 8) * 256 + r) (t.val / 8 % 4 * 512 + e) := by
  obtain ⟨⟨f0, f1⟩, -⟩ := idx_facts t
  rw [← at2_of (n := 256) (p := 512) (iblk m c 0 t) (ix2 ⟨r, hr⟩ ⟨e, he⟩) r e rfl rfl]
  refine at2_of (n := 16384) (p := 2048) (m ((c : Thread nD τ).loc main_arg0)) ((win0_0.rect t).emb (ix2 ⟨r, hr⟩ ⟨e, he⟩)) _ _ ?_ ?_
  · rw [← f0]; exact win0_0.rect_emb_val t _ (0 : Fin 2)
  · rw [← f1]; exact win0_0.rect_emb_val t _ (1 : Fin 2)

/-- The image keys point `t` reads, in the array. -/
theorem blk1_at (c : Dev nD) (t : Fin cfg0.N) (r e : ℕ) (hr : r < 2048) (he : e < 128) :
    at2 (n := 2048) (p := 128) (iblk m c 1 t) r e
      = at2 (n := 16384) (p := 512) (m ((c : Thread nD τ).loc main_arg1)) (t.val / 32 * 2048 + r) (t.val / 8 % 4 * 128 + e) := by
  obtain ⟨-, ⟨f0, f1⟩, -⟩ := idx_facts t
  rw [← at2_of (n := 2048) (p := 128) (iblk m c 1 t) (ix2 ⟨r, hr⟩ ⟨e, he⟩) r e rfl rfl]
  refine at2_of (n := 16384) (p := 512) (m ((c : Thread nD τ).loc main_arg1)) ((win0_1.rect t).emb (ix2 ⟨r, hr⟩ ⟨e, he⟩)) _ _ ?_ ?_
  · rw [← f0]; exact win0_1.rect_emb_val t _ (0 : Fin 2)
  · rw [← f1]; exact win0_1.rect_emb_val t _ (1 : Fin 2)

/-- The image values point `t` reads, in the projection's last columns. -/
theorem blk2_at (c : Dev nD) (t : Fin cfg0.N) (r e : ℕ) (hr : r < 2048) (he : e < 128) :
    at2 (n := 2048) (p := 128) (iblk m c 2 t) r e
      = at2 (n := 16384) (p := 9216) (m ((c : Thread nD τ).loc main_arg2)) (t.val / 32 * 2048 + r) ((68 + t.val / 8 % 4) * 128 + e) := by
  obtain ⟨-, -, ⟨f0, f1⟩, -⟩ := idx_facts t
  rw [← at2_of (n := 2048) (p := 128) (iblk m c 2 t) (ix2 ⟨r, hr⟩ ⟨e, he⟩) r e rfl rfl]
  refine at2_of (n := 16384) (p := 9216) (m ((c : Thread nD τ).loc main_arg2)) ((win0_2.rect t).emb (ix2 ⟨r, hr⟩ ⟨e, he⟩)) _ _ ?_ ?_
  · rw [← f0]; exact win0_2.rect_emb_val t _ (0 : Fin 2)
  · rw [← f1]; exact win0_2.rect_emb_val t _ (1 : Fin 2)

/-- The context keys point `t` reads, in the array. -/
theorem blk3_at (c : Dev nD) (t : Fin cfg0.N) (r e : ℕ) (hr : r < 256) (he : e < 128) :
    at2 (n := 256) (p := 128) (iblk m c 3 t) r e
      = at2 (n := 2048) (p := 512) (m ((c : Thread nD τ).loc main_arg3)) (t.val / 32 * 256 + r) (t.val / 8 % 4 * 128 + e) := by
  obtain ⟨-, -, -, ⟨f0, f1⟩, -⟩ := idx_facts t
  rw [← at2_of (n := 256) (p := 128) (iblk m c 3 t) (ix2 ⟨r, hr⟩ ⟨e, he⟩) r e rfl rfl]
  refine at2_of (n := 2048) (p := 512) (m ((c : Thread nD τ).loc main_arg3)) ((win0_3.rect t).emb (ix2 ⟨r, hr⟩ ⟨e, he⟩)) _ _ ?_ ?_
  · rw [← f0]; exact win0_3.rect_emb_val t _ (0 : Fin 2)
  · rw [← f1]; exact win0_3.rect_emb_val t _ (1 : Fin 2)

/-- The context values point `t` reads, in the context projection's last columns. -/
theorem blk4_at (c : Dev nD) (t : Fin cfg0.N) (r e : ℕ) (hr : r < 256) (he : e < 128) :
    at2 (n := 256) (p := 128) (iblk m c 4 t) r e
      = at2 (n := 2048) (p := 5120) (m ((c : Thread nD τ).loc main_arg4)) (t.val / 32 * 256 + r) ((36 + t.val / 8 % 4) * 128 + e) := by
  obtain ⟨-, -, -, -, ⟨f0, f1⟩, -⟩ := idx_facts t
  rw [← at2_of (n := 256) (p := 128) (iblk m c 4 t) (ix2 ⟨r, hr⟩ ⟨e, he⟩) r e rfl rfl]
  refine at2_of (n := 2048) (p := 5120) (m ((c : Thread nD τ).loc main_arg4)) ((win0_4.rect t).emb (ix2 ⟨r, hr⟩ ⟨e, he⟩)) _ _ ?_ ?_
  · rw [← f0]; exact win0_4.rect_emb_val t _ (0 : Fin 2)
  · rw [← f1]; exact win0_4.rect_emb_val t _ (1 : Fin 2)

/-- What the result array is shown to hold. -/
def result (c : Dev nD) : Buf (Elt Ideal) ((c : Thread nD τ).loc main_v0) :=
  (fun i : S16384x2048.Idx => (attn (m ((c : Thread nD τ).loc main_arg0)) (m ((c : Thread nD τ).loc main_arg1))
    (m ((c : Thread nD τ).loc main_arg2)) (m ((c : Thread nD τ).loc main_arg3)) (m ((c : Thread nD τ).loc main_arg4)) (i 0) (i 1) : Elt Ideal .bf16))

/-- A point's output tile at a row and a column is the attention's value at the token and column it stands for. -/
theorem tile_eq (c : Dev nD) (t : Fin cfg0.N) (r e : ℕ) (hr : r < 256) (he : e < 512) :
    tile (iblk m c 0 t) (iblk m c 1 t) (iblk m c 2 t) (iblk m c 3 t) (iblk m c 4 t) r e
      = attn (m ((c : Thread nD τ).loc main_arg0)) (m ((c : Thread nD τ).loc main_arg1)) (m ((c : Thread nD τ).loc main_arg2))
          (m ((c : Thread nD τ).loc main_arg3)) (m ((c : Thread nD τ).loc main_arg4))
          ((t.val / 32 * 8 + t.val % 8) * 256 + r) (t.val / 8 % 4 * 512 + e) := by
  have a1 : ((t.val / 32 * 8 + t.val % 8) * 256 + r) / 2048 = t.val / 32 := by omega
  have a2 : (t.val / 8 % 4 * 512 + e) / 512 = t.val / 8 % 4 := by omega
  have a3 : (t.val / 8 % 4 * 512 + e) % 128 = e % 128 := by omega
  have a4 : (t.val / 8 % 4 * 512 + e) / 128 * 128 = t.val / 8 % 4 * 512 + e / 128 * 128 := by omega
  unfold tile attn
  rw [a1, a2, a3, a4]
  congr 1
  · funext j
    exact congrArg (· * scale) (Finset.sum_congr rfl fun q _ => congrArg₂ (· * ·)
      ((blk0_at m c t r _ hr (by omega)).trans (congrArg (at2 _ _) (Nat.add_assoc _ _ _).symm)) (blk1_at m c t j q j.isLt q.isLt))
  · funext j
    exact congrArg (· * scale) (Finset.sum_congr rfl fun q _ => congrArg₂ (· * ·)
      ((blk0_at m c t r _ hr (by omega)).trans (congrArg (at2 _ _) (Nat.add_assoc _ _ _).symm)) (blk3_at m c t j q j.isLt q.isLt))
  · funext j
    rw [blk2_at m c t j _ j.isLt (by omega)]
    exact congrArg (at2 _ _) (by omega)
  · funext j
    rw [blk4_at m c t j _ j.isLt (by omega)]
    exact congrArg (at2 _ _) (by omega)

/-- What point `t` writes back is its block of the result. -/
theorem flushed_eq (c : Dev nD) (t : Fin cfg0.N) :
    (dats m 0 c).flushed 5 t = ((cfg0.win 5).blk t).view.read (Elt Ideal) (result m c) := by
  rw [Value.flushed5]
  funext y
  have h0 : (y 0).val < 256 := (y 0).isLt
  have h1 : (y 1).val < 512 := (y 1).isLt
  obtain ⟨-, -, -, -, -, f0, f1⟩ := idx_facts t
  refine (out_apply (iblk m c 0 t) (iblk m c 1 t) (iblk m c 2 t) (iblk m c 3 t) (iblk m c 4 t) y).trans
    ((tile_eq m c t (y 0).val (y 1).val h0 h1).trans ?_)
  show _ = attn _ _ _ _ _ (((win0_5.rect t).emb y 0 : Fin _) : ℕ) (((win0_5.rect t).emb y 1 : Fin _) : ℕ)
  rw [show (((win0_5.rect t).emb y 0 : Fin _) : ℕ) = (t.val / 32 * 8 + t.val % 8) * 256 + (y 0).val by
      rw [← f0]; exact win0_5.rect_emb_val t y (0 : Fin 2),
    show (((win0_5.rect t).emb y 1 : Fin _) : ℕ) = t.val / 8 % 4 * 512 + (y 1).val by
      rw [← f1]; exact win0_5.rect_emb_val t y (1 : Fin 2)]

/-- Every index of the result array lies in the block of a point that is written back. -/
theorem cover (i : S16384x2048.Idx) :
    ∃ t : Fin cfg0.N, (cfg0.win 5).flush t = true ∧ i ∈ ((cfg0.win 5).blk t).view.set := by
  have h0 : (i 0).val < 16384 := (i 0).isLt
  have h1 : (i 1).val < 2048 := (i 1).isLt
  have hN : cfg0.N = 256 := N_0
  have ht : (i 0).val / 2048 * 32 + (i 1).val / 512 * 8 + (i 0).val / 256 % 8 < cfg0.N := by omega
  refine ⟨⟨_, ht⟩, flush0_5 _, ?_⟩
  obtain ⟨-, -, -, -, -, f0, f1⟩ := idx_facts ⟨_, ht⟩
  have g0 : win0_5.index ⟨_, ht⟩ (0 : Fin 2) = (i 0).val / 256 := by rw [f0]; dsimp only; omega
  have g1 : win0_5.index ⟨_, ht⟩ (1 : Fin 2) = (i 1).val / 512 := by rw [f1]; dsimp only; omega
  show i ∈ ((View.whole main_v0).slice (win0_5.rect ⟨_, ht⟩)).set
  rw [View.set_slice_whole, Rect.mem_set_unit]
  intro a
  match a with
  | ⟨0, _⟩ =>
    show win0_5.index ⟨_, ht⟩ (0 : Fin 2) * 256 ≤ (i 0).val ∧ (i 0).val < win0_5.index ⟨_, ht⟩ (0 : Fin 2) * 256 + 256
    rw [g0]; omega
  | ⟨1, _⟩ =>
    show win0_5.index ⟨_, ht⟩ (1 : Fin 2) * 512 ≤ (i 1).val ∧ (i 1).val < win0_5.index ⟨_, ht⟩ (1 : Fin 2) * 512 + 512
    rw [g1]; omega

/-- So the array ends holding the attention. -/
theorem final (c : Dev nD) : (dats m 0 c).arrAt 5 cfg0.N = result m c :=
  (dats m 0 c).arrAt_eq_of_cover 5 (result m c) (fun t _ => flushed_eq m c t) cover

end Cert.KernelIdeal.Block

end
-- ==== Proof.Equation.lean ====
/-
  The equation: with real queries and keys, the reference's softmax average over the 2304 joined keys is the kernel's
  two-part average over the 2048 image keys and the 256 context keys.
-/
module

public import proofs.«01_k».proof.Proof.RefValue
public import proofs.«01_k».proof.Proof.Array

@[expose] public section

set_option maxRecDepth 16384

noncomputable section

namespace Cert.Attention

open Idealize.ShloMosaic Cert.KernelIdeal Cert.ReferenceIdeal.RefValue

/-- The scale of the scores is a real number. -/
theorem real_scale : Real (Ideal.ofBits .f32 0x3DB504F3#32) :=
  ⟨_, by simp only [Ideal.ofBits, Ideal.ieee]; rfl⟩

/-- The reference's scores are real. -/
theorem real_score (x0 : FVec Ideal S16384x2048 .bf16) (x1 : FVec Ideal S16384x512 .bf16) (x3 : FVec Ideal S2048x512 .bf16)
    (h0 : ∀ i, Real (x0 i)) (h1 : ∀ i, Real (x1 i)) (h3 : ∀ i, Real (x3 i)) (b g r n j : ℕ) :
    Real (Cert.ReferenceIdeal.RefValue.score x0 x1 x3 b g r n j) := by
  refine (Real.sum _ _ fun e => Real.mul ?_ (at2_real x0 h0 _ _)).mul real_scale
  unfold key
  split
  · exact at2_real x1 h1 _ _
  · exact at2_real x3 h3 _ _

/-- THE EQUATION. -/
theorem reference_eq (x0 : FVec Ideal S16384x2048 .bf16) (x1 : FVec Ideal S16384x512 .bf16) (x2 : FVec Ideal S16384x9216 .bf16)
    (x3 : FVec Ideal S2048x512 .bf16) (x4 : FVec Ideal S2048x5120 .bf16)
    (h0 : ∀ i, Real (x0 i)) (h1 : ∀ i, Real (x1 i)) (h3 : ∀ i, Real (x3 i)) (i : S16384x2048.Idx) :
    Cert.ReferenceIdeal.Read.val_main_v33 (F := Ideal) x0 x1 x2 x3 x4 i = Block.attn x0 x1 x2 x3 x4 (i 0) (i 1) := by
  have a1 : (i 0).val / 2048 * 2048 + (i 0).val % 2048 = (i 0).val := by omega
  have a2 : ((i 1).val / 512 * 4 + (i 1).val / 128 % 4) * 128 = (i 1).val / 128 * 128 := by omega
  rw [result_apply]
  refine (whole_eq_twoPart (a := 2048) (b := 256) (by decide) _ _ fun k => real_score x0 x1 x3 h0 h1 h3 _ _ _ _ _).trans ?_
  unfold Block.attn
  congr 1
  · funext j
    have hj : j.val < 2048 := j.isLt
    show (∑ e : Fin 128, key x1 x3 _ _ j.val e * _) * _ = (∑ e : Fin 128, _) * _
    refine congrArg (· * Ideal.ofBits .f32 0x3DB504F3#32) (Finset.sum_congr rfl fun e _ => ?_)
    unfold key
    rw [if_pos hj, mul_comm, a1, a2]
  · funext j
    have hj : ¬ 2048 + j.val < 2048 := by omega
    show (∑ e : Fin 128, key x1 x3 _ _ (2048 + j.val) e * _) * _ = (∑ e : Fin 128, _) * _
    refine congrArg (· * Ideal.ofBits .f32 0x3DB504F3#32) (Finset.sum_congr rfl fun e _ => ?_)
    unfold key
    rw [if_neg hj, mul_comm, a1, a2, Nat.add_sub_cancel_left]
  · funext j
    have hj : j.val < 2048 := j.isLt
    show value x2 x4 _ _ j.val _ = _
    unfold value
    rw [if_pos hj]
  · funext j
    have hj : ¬ 2048 + j.val < 2048 := by omega
    show value x2 x4 _ _ (2048 + j.val) _ = _
    unfold value
    rw [if_neg hj, Nat.add_sub_cancel_left]

end Cert.Attention

end
-- ==== Proof.Products.lean ====
/-
  Products over the extended reals: a matrix product with a zero accumulator, read at a row and a column, and an array of
  three axes read at natural numbers.
-/
module

public import proofs.«01_k».proof.Proof.Softmax
public import Idealize.ShloMosaic.Lib.MatmulPlain

@[expose] public section

noncomputable section

namespace Cert.Attention

open Idealize.ShloMosaic Idealize.ShloMosaic.ValueIdx

/-- An array of three axes read at natural numbers, `0` outside it. -/
def at3 {n p q : ℕ} (x : (⟨3, ![n, p, q]⟩ : Shape).Idx → EReal) (a b c : ℕ) : EReal :=
  if h : a < n ∧ b < p ∧ c < q then x (ix3 ⟨a, h.1⟩ ⟨b, h.2.1⟩ ⟨c, h.2.2⟩) else 0

/-- Reading at an index is reading at its three coordinates. -/
theorem at3_of {n p q : ℕ} (x : (⟨3, ![n, p, q]⟩ : Shape).Idx → EReal) (i : (⟨3, ![n, p, q]⟩ : Shape).Idx) (a b c : ℕ)
    (h0 : (i 0).val = a) (h1 : (i 1).val = b) (h2 : (i 2).val = c) : x i = at3 x a b c := by
  subst h0 h1 h2
  have hlt : (i 0).val < n ∧ (i 1).val < p ∧ (i 2).val < q := ⟨(i 0).isLt, (i 1).isLt, (i 2).isLt⟩
  unfold at3
  rw [dif_pos hlt]
  exact congrArg x (eq_ix3 i)

/-- The sum over `n` shared coordinates of a row's entries times a column's. -/
def dot (n : ℕ) (u v : ℕ → EReal) : EReal := ∑ j : Fin n, u j * v j

theorem dot_congr {n : ℕ} {u v u' v' : ℕ → EReal} (hu : ∀ j < n, u j = u' j) (hv : ∀ j < n, v j = v' j) :
    dot n u v = dot n u' v' :=
  Finset.sum_congr rfl fun j _ => congrArg₂ (· * ·) (hu j j.isLt) (hv j j.isLt)

/-- A product with a zero accumulator, at a row and a column. -/
theorem product_apply {a b n : ℕ} (x : FVec Ideal ⟨2, ![a, b]⟩ .bf16) (y : FVec Ideal ⟨2, ![b, n]⟩ .bf16) (r : Fin a) (d : Fin n) :
    matmul (F := Ideal) (DotDims.plain a b n) none x y (constant ⟨2, ![a, n]⟩ .f32 0x00000000#32) (ix2 r d)
      = dot b (at2 x r) (fun j => at2 y j d) := by
  show FloatOps.matmul _ _ _ _ _ _ = _
  rw [Ideal.matmul_plain_apply, constant_apply, Ideal.ofBits_zero_f32, zero_add]
  exact Finset.sum_congr rfl fun j _ => by
    rw [at2_of x (ix2 r j) r j rfl rfl, at2_of y (ix2 j d) j d rfl rfl]

/-- The first load or store of a whole buffer starts at the origin. -/
theorem origin2 : (![0, 0] : Fin 2 → Nat) = fun _ => 0 := funext fun a => by fin_cases a <;> rfl
theorem origin3 : (![0, 0, 0] : Fin 3 → Nat) = fun _ => 0 := funext fun a => by fin_cases a <;> rfl

end Cert.Attention

end
-- ==== Proof.Silu.lean ====
/-
  The activation of the gated feed-forward: `x / (1 + exp (-x))`, as a quotient and as `x` times a reciprocal. Over the
  extended reals the two are one function, at the infinities as well.
-/
module

public import proofs.«01_k».proof.Proof.Products

@[expose] public section

noncomputable section

namespace Cert.Attention

open Idealize.ShloMosaic

/-- The number both programs write for one. -/
theorem one_f32 : Ideal.ofBits .f32 0x3F800000#32 = 1 := by
  simp [Ideal.ofBits, Ideal.ieee]
  norm_cast
  norm_num

theorem exp_nonneg (x : EReal) : 0 ≤ Ideal.exp x := by
  induction x with
  | bot => exact le_refl _
  | top => exact le_top
  | coe r => exact EReal.coe_nonneg.mpr (Real.exp_pos r).le

/-- The activation. -/
def silu (x : EReal) : EReal := x * (1 + Ideal.exp (-x))⁻¹

theorem one_add_exp_ne (x : EReal) : 1 + Ideal.exp (-x) ≠ 0 :=
  (lt_of_lt_of_le zero_lt_one (le_add_of_nonneg_right (exp_nonneg _))).ne'

/-- As the kernel writes it. -/
theorem silu_quotient (x : EReal) : Ideal.div x (1 + Ideal.exp (0 - x)) = silu x := by
  rw [zero_sub]
  exact if_neg (one_add_exp_ne x)

/-- As the reference writes it. -/
theorem silu_product (x : EReal) : x * Ideal.div 1 (1 + Ideal.exp (-x)) = silu x := by
  unfold Ideal.div
  rw [if_neg (one_add_exp_ne x), one_mul]
  rfl

end Cert.Attention

end
-- ==== Proof.ExpertsBlock.lean ====
/-
  What one grid point of the experts' call computes: for its tile of tokens and its expert, the activation of the first
  product times the second, times the token's gate for that expert (one for the shared expert, which every token takes).
-/
module

public import proofs.«01_k».proof.Proof.Silu
public import proofs.«01_k».proof.Proof.Gen.ExpertsIdeal.Value

@[expose] public section

set_option maxRecDepth 16384

noncomputable section

namespace Cert.ExpertsIdeal.Block

open Cert.ExpertsIdeal Cert.ExpertsIdeal.Gen Cert.Attention Idealize.ShloMosaic Idealize.ShloMosaic.ValueIdx
  Idealize.ShloMosaic.TcCoe Idealize.SL.Sem

/-- One entry of an expert's hidden layer: from a token's row, the expert's two columns and the weight of the expert. -/
def unit (x u v : ℕ → EReal) (g : EReal) : EReal := silu (dot 4096 x u) * dot 4096 x v * g

/-- The weight of expert `e`: the token's gate, and one from the shared expert on. -/
def share (g : ℕ → EReal) (e : ℕ) : EReal := if 64 ≤ e then 1 else g e

/-- Past the routed experts the kernel takes the weight one. -/
theorem past_routed : ∀ e : Fin 66, Scalar.cmpi .sge (BitVec.ofNat 32 e.val) 64#32 = 1 ↔ 64 ≤ e.val := by decide +kernel

/-- The comparison of a lane's number with the expert's. -/
theorem lane_eq (l e : ℕ) (hl : l < 128) (he : e < 66) : IntOp.cmpi .eq (BitVec.ofNat 32 l) (BitVec.ofNat 32 e) = 1 ↔ l = e := by
  rw [show IntOp.cmpi .eq (BitVec.ofNat 32 l) (BitVec.ofNat 32 e) = BitVec.ofBool (BitVec.ofNat 32 l == BitVec.ofNat 32 e) from rfl]
  by_cases h : l = e
  · subst h; simp
  · have hne : BitVec.ofNat 32 l ≠ BitVec.ofNat 32 e := fun h' => h (by
      have := congrArg BitVec.toNat h'
      simp only [BitVec.toNat_ofNat] at this
      omega)
    rw [beq_false_of_ne hne]
    exact ⟨fun h' => absurd h' (by decide), fun h' => absurd h' h⟩

/-- The exponential and the comparison act entry by entry. -/
theorem exp_at {s : Shape} (x : FVec Ideal s .f32) (i : s.Idx) : exp x i = Ideal.exp (x i) := rfl
theorem cmpi_at {s : Shape} (p : CmpIPredicate) (x y : IVec s 32) (i : s.Idx) : cmpi p x y i = IntOp.cmpi p (x i) (y i) := rfl

/-- The expert's gate, picked from the row of gates by a comparison and a sum. -/
theorem picked (g : FVec Ideal S1024x128 .f32) (e : ℕ) (he : e < 66) (r : Fin 1024) (z : Fin 1) :
    shapeCast S1024x1 (multiReduction (F := Ideal) .add [1] S1024
      (select (cmpi .eq (iota .tc S1024x128 32 [1] iota_S1024x128_d1_w32) (broadcast S1024x128 (BitVec.ofNat 32 e))) g
        (broadcast S1024x128 (Scalar.ofBits (F := Ideal) .f32 0x00000000#32)))
      0x00000000#32 reduces_S1024x128_S1024 (.inl rfl) rfl) shapeCasts_S1024_S1024x1 (ix2 r z) = at2 g r e := by
  rw [shapeCast_apply _ shapeCasts_S1024_S1024x1 (ix2 r z) (ix1 r) (by
    rw [Shape.rowMajor_val_one, Shape.rowMajor_val_two]; show r.val = r.val * 1 + z.val; omega)]
  refine (Ideal.multiReduction_add_single _ _ reduces_S1024x128_S1024 _ _ (ix1 r)).trans ?_
  have key : ∀ l : Fin 128, select (cmpi .eq (iota .tc S1024x128 32 [1] iota_S1024x128_d1_w32) (broadcast S1024x128 (BitVec.ofNat 32 e))) g
        (broadcast S1024x128 (Scalar.ofBits (F := Ideal) .f32 0x00000000#32)) (ix2 r l) = if l = ⟨e, by omega⟩ then at2 g r e else 0 := by
    intro l
    rw [select_apply, cmpi_at, iota_single_apply, broadcast_apply, broadcast_apply]
    unfold Scalar.select
    by_cases h : l = ⟨e, by omega⟩
    · rw [if_pos h, if_pos ((lane_eq l.val e l.isLt he).mpr (congrArg Fin.val h))]
      exact at2_of g (ix2 r l) r e rfl (congrArg Fin.val h)
    · rw [if_neg h, if_neg (fun h' => h (Fin.ext ((lane_eq l.val e l.isLt he).mp h')))]
      exact Ideal.ofBits_zero_f32
  refine (Finset.sum_congr (g := fun l : Fin 128 => if l = ⟨e, by omega⟩ then at2 g r e else 0) rfl fun l _ => ?_).trans ?_
  · refine Eq.trans ?_ (key l)
    exact congrArg _ (Shape.idx_ext₂ rfl rfl)
  exact (Finset.sum_ite_eq' Finset.univ (⟨e, by omega⟩ : Fin 128) fun _ => at2 g r e).trans (if_pos (Finset.mem_univ _))

/-- The two products of a point, at a row and a column. -/
theorem columns_apply (x : FVec Ideal S1024x4096 .bf16) (w : FVec Ideal S1x4096x512 .bf16) (r : Fin 1024) (d : Fin 512) :
    matmul (F := Ideal) dot_S1024x4096_S4096x512_S1024x512_1_0_0_1_n_n none x
      (shapeCast S4096x512 w shapeCasts_S1x4096x512_S4096x512) (constant S1024x512 .f32 0x00000000#32) (ix2 r d)
      = dot 4096 (at2 x r) (fun k => at3 w 0 k d) := by
  refine (product_apply x _ r d).trans (dot_congr (fun _ _ => rfl) fun k hk => ?_)
  rw [← at2_of _ (ix2 ⟨k, hk⟩ d) k d rfl rfl,
    shapeCast_apply w shapeCasts_S1x4096x512_S4096x512 (ix2 ⟨k, hk⟩ d) (ix3 0 ⟨k, hk⟩ d) (by
      rw [Shape.rowMajor_val_three, Shape.rowMajor_val_two]; show (0 * 4096 + k) * 512 + d.val = k * 512 + d.val; omega)]
  exact at3_of w _ _ _ _ rfl rfl rfl

/-- What a point computes, at a row and a column. -/
theorem pay_apply (i : grid0.Coords) (x : FVec Ideal S1024x4096 .bf16) (w : FVec Ideal S1x4096x512 .bf16)
    (g : FVec Ideal S1024x128 .f32) (r : Fin 1024) (d : Fin 256) :
    k0_pay1 (F := Ideal) i x w g (ix2 r d)
      = unit (at2 x r) (fun k => at3 w 0 k d) (fun k => at3 w 0 k (256 + d)) (share (at2 g r) (i 1)) := by
  have he : (i 1).val < 66 := (i 1).isLt
  unfold k0_pay1
  dsimp only
  rw [truncf_apply, mulf_apply]
  unfold unit
  refine congrArg₂ (fun a b : EReal => a * b) ?_ ?_
  · rw [mulf_apply, divf_apply, addf_apply, broadcast_apply, exp_at, subf_apply, broadcast_apply,
      extractStridedSlice_apply ![0, 0] _ slices_S1024x512_o0_0_S1024x256 (ix2 r d) (ix2 r ⟨d.val, by omega⟩)
        (fun a => match a with | ⟨0, _⟩ => (Nat.zero_add _).symm | ⟨1, _⟩ => (Nat.zero_add _).symm),
      extractStridedSlice_apply ![0, 256] _ slices_S1024x512_o0_256_S1024x256 (ix2 r d) (ix2 r ⟨256 + d.val, by omega⟩)
        (fun a => match a with | ⟨0, _⟩ => (Nat.zero_add _).symm | ⟨1, _⟩ => rfl),
      columns_apply, columns_apply]
    refine congrArg₂ (fun a b : EReal => a * b) ?_ rfl
    show Ideal.div _ (Ideal.ofBits .f32 0x3F800000#32 + Ideal.exp (Ideal.ofBits .f32 0x00000000#32 - _)) = _
    rw [one_f32, Ideal.ofBits_zero_f32]
    exact silu_quotient _
  · rw [broadcastTo_apply _ broadcasts_S1024x1_S1024x256 (ix2 r d) (ix2 r 0) (fun a => match a with
      | ⟨0, _⟩ => by show r.val = if (1024 : ℕ) = 1 then 0 else r.val; rw [if_neg (by decide)]
      | ⟨1, _⟩ => by show 0 = if (1 : ℕ) = 1 then 0 else d.val; rw [if_pos rfl])]
    unfold Scalar.select share
    by_cases h : 64 ≤ (i 1).val
    · rw [if_pos h, if_pos ((past_routed ⟨(i 1).val, he⟩).mpr h)]
      exact one_f32
    · rw [if_neg h, if_neg (fun h' => h ((past_routed ⟨(i 1).val, he⟩).mp h'))]
      exact picked g (i 1).val he r 0

/-- What a point leaves in its output block. -/
theorem out_apply (i : grid0.Coords) (x : Vec Ideal S1024x4096 .bf16) (w : Vec Ideal S1x4096x512 .bf16)
    (g : Vec Ideal S1024x128 .f32) (y : S1024x256.Idx) :
    out0_3 (F := Ideal) i x w g y
      = unit (at2 x (y 0)) (fun k => at3 w 0 k (y 1)) (fun k => at3 w 0 k (256 + (y 1))) (share (at2 g (y 0)) (i 1)) := by
  unfold out0_3
  rw [View.ld_unit_zero (S := S1024x4096) origin2, View.ld_unit_zero (S := S1x4096x512) origin3,
    View.ld_unit_zero (S := S1024x128) origin2]
  refine View.canon_apply_of_pieces (Val := Elt Ideal) (fun y : S1024x256.Idx => (unit (at2 x (y 0)) (fun k => at3 w 0 k (y 1))
    (fun k => at3 w 0 k (256 + (y 1))) (share (at2 g (y 0)) (i 1)) : Elt Ideal .bf16)) _ ?_ y (cover0_3 _ y)
  intro p hp z
  simp only [List.mem_singleton] at hp
  subst hp
  have e0 : ((r0_3.emb z 0 : Fin _) : ℕ) = (z 0).val := by rw [Rect.emb_apply]; show 0 + 1 * (z 0).val = _; omega
  have e1 : ((r0_3.emb z 1 : Fin _) : ℕ) = (z 1).val := by rw [Rect.emb_apply]; show 0 + 1 * (z 1).val = _; omega
  show k0_pay1 i x w g z = unit (at2 x ((r0_3.emb z 0 : Fin _) : ℕ)) (fun k => at3 w 0 k ((r0_3.emb z 1 : Fin _) : ℕ))
    (fun k => at3 w 0 k (256 + ((r0_3.emb z 1 : Fin _) : ℕ))) (share (at2 g ((r0_3.emb z 0 : Fin _) : ℕ)) (i 1))
  rw [e0, e1]
  exact (congrArg _ (eq_ix2 z)).trans (pay_apply i x w g (z 0) (z 1))

end Cert.ExpertsIdeal.Block

end
-- ==== Proof.Experts.lean ====
/-
  The experts' call as a whole: the weights its second operand holds, the blocks its points read and write, and the array they leave.
-/
module

public import proofs.«01_k».proof.Proof.ExpertsBlock

@[expose] public section

set_option maxRecDepth 16384

noncomputable section

namespace Cert.ExpertsIdeal.Block

open Cert.ExpertsIdeal Cert.ExpertsIdeal.Gen Cert.Attention Idealize.ShloMosaic Idealize.ShloMosaic.ValueIdx
  Idealize.ShloMosaic.TcCoe Idealize.SL.Sem

/-- Two matrices of an expert side by side: the gate's columns, then the up-projection's. -/
def beside (a b : ℕ → ℕ → EReal) (k d : ℕ) : EReal := if d < 256 then a k d else b k (d - 256)

/-- The weights of all experts: the routed ones, the shared one, and one of zeros. -/
def weights (a b : ℕ → ℕ → ℕ → EReal) (sa sb : ℕ → ℕ → EReal) (e k d : ℕ) : EReal :=
  if e < 64 then beside (a e) (b e) k d else if e = 64 then beside sa sb k d else 0

/-- The routed experts' matrices side by side, at an index. -/
theorem routed_apply (a b : FVec Ideal S64x4096x256 .f32) (e : Fin 64) (k : Fin 4096) (d : Fin 512) :
    concatenate S64x4096x512 2 [⟨S64x4096x256, a⟩, ⟨S64x4096x256, b⟩] concatenates_S64x4096x256_S64x4096x256_S64x4096x512_d2 (ix3 e k d)
      = beside (at3 a e) (at3 b e) k d := by
  unfold beside
  by_cases h : d.val < 256
  · rw [if_pos h, concatenate_pair_apply_left _ a b _ (ix3 e k d) rfl (ix3 e k ⟨d.val, h⟩)
      (fun x => match x with | ⟨0, _⟩ => rfl | ⟨1, _⟩ => rfl | ⟨2, _⟩ => rfl)]
    exact at3_of a _ _ _ _ rfl rfl rfl
  · have hd := d.isLt
    rw [if_neg h, concatenate_pair_apply_right _ a b _ (ix3 e k d) rfl rfl (ix3 e k ⟨d.val - 256, by omega⟩)
      (fun x hx => match x with | ⟨0, _⟩ => rfl | ⟨1, _⟩ => rfl | ⟨2, _⟩ => absurd rfl hx)
      (by show d.val - 256 + 256 = d.val; omega)]
    exact at3_of b _ _ _ _ rfl rfl rfl

/-- The shared expert's matrices side by side, at an index. -/
theorem shared_apply (a b : FVec Ideal S4096x256 .f32) (k : Fin 4096) (d : Fin 512) :
    concatenate S4096x512 1 [⟨S4096x256, a⟩, ⟨S4096x256, b⟩] concatenates_S4096x256_S4096x256_S4096x512_d1 (ix2 k d)
      = beside (at2 a) (at2 b) k d := by
  unfold beside
  by_cases h : d.val < 256
  · rw [if_pos h, concatenate_pair_apply_left _ a b _ (ix2 k d) rfl (ix2 k ⟨d.val, h⟩)
      (fun x => match x with | ⟨0, _⟩ => rfl | ⟨1, _⟩ => rfl)]
    exact at2_of a _ _ _ rfl rfl
  · have hd := d.isLt
    rw [if_neg h, concatenate_pair_apply_right _ a b _ (ix2 k d) rfl rfl (ix2 k ⟨d.val - 256, by omega⟩)
      (fun x hx => match x with | ⟨0, _⟩ => rfl | ⟨1, _⟩ => absurd rfl hx)
      (by show d.val - 256 + 256 = d.val; omega)]
    exact at2_of b _ _ _ rfl rfl

/-- The operand the host builds from the four weight arguments. -/
def stacked (a b : FVec Ideal S64x4096x256 .f32) (sa sb : FVec Ideal S4096x256 .f32) : FVec Ideal S66x4096x512 .bf16 :=
  concatenate S66x4096x512 0
    [⟨S64x4096x512, (truncf .bf16 (concatenate S64x4096x512 2 [⟨S64x4096x256, a⟩, ⟨S64x4096x256, b⟩]
        concatenates_S64x4096x256_S64x4096x256_S64x4096x512_d2 : FVec Ideal S64x4096x512 .f32) bitsLt_bf16_f32 : FVec Ideal S64x4096x512 .bf16)⟩,
     ⟨S1x4096x512, (broadcastInDim S1x4096x512 ![1, 2] bcast_S4096x512_S1x4096x512_1_2
        (truncf .bf16 (concatenate S4096x512 1 [⟨S4096x256, sa⟩, ⟨S4096x256, sb⟩]
          concatenates_S4096x256_S4096x256_S4096x512_d1 : FVec Ideal S4096x512 .f32) bitsLt_bf16_f32 : FVec Ideal S4096x512 .bf16) : FVec Ideal S1x4096x512 .bf16)⟩,
     ⟨S1x4096x512, (broadcastInDim S1x4096x512 ![] bcast_S_S1x4096x512 (constant (F := Ideal) S_ .bf16 0x0000#16) : FVec Ideal S1x4096x512 .bf16)⟩]
    concatenates_S64x4096x512_S1x4096x512_S1x4096x512_S66x4096x512_d0

/-- The zeros the host writes. -/
theorem zero_bf16 : Ideal.ofBits .bf16 0x0000#16 = 0 := by simp [Ideal.ofBits, Ideal.ieee]

/-- It holds the weights. -/
theorem stacked_apply (a b : FVec Ideal S64x4096x256 .f32) (sa sb : FVec Ideal S4096x256 .f32) (e : Fin 66) (k : Fin 4096) (d : Fin 512) :
    stacked a b sa sb (ix3 e k d) = weights (at3 a) (at3 b) (at2 sa) (at2 sb) e k d := by
  have he := e.isLt
  unfold stacked weights
  by_cases h0 : e.val < 64
  · rw [if_pos h0]
    refine (concatenate_apply_piece 0 _ _ (ix3 e k d) 0 (by show 0 < 3; omega) S64x4096x512 _ rfl rfl 0 rfl (ix3 ⟨e.val, h0⟩ k d)
      (fun x hx => match x with | ⟨0, _⟩ => absurd rfl hx | ⟨1, _⟩ => rfl | ⟨2, _⟩ => rfl) (by show 0 + e.val = e.val; omega)).trans ?_
    rw [truncf_apply]
    exact routed_apply a b ⟨e.val, h0⟩ k d
  · rw [if_neg h0]
    by_cases h1 : e.val = 64
    · rw [if_pos h1]
      refine (concatenate_apply_piece 0 _ _ (ix3 e k d) 1 (by show 1 < 3; omega) S1x4096x512 _ rfl rfl 64 rfl (ix3 0 k d)
        (fun x hx => match x with | ⟨0, _⟩ => absurd rfl hx | ⟨1, _⟩ => rfl | ⟨2, _⟩ => rfl) (by show 64 + 0 = e.val; omega)).trans ?_
      rw [broadcastInDim_apply _ bcast_S4096x512_S1x4096x512_1_2 _ (ix3 0 k d) (ix2 k d) (fun x => match x with
          | ⟨0, _⟩ => by show k.val = if (4096 : ℕ) = 1 then 0 else k.val; rw [if_neg (by decide)]
          | ⟨1, _⟩ => by show d.val = if (512 : ℕ) = 1 then 0 else d.val; rw [if_neg (by decide)]),
        truncf_apply]
      exact shared_apply sa sb k d
    · rw [if_neg h1]
      refine (concatenate_apply_piece 0 _ _ (ix3 e k d) 2 (by show 2 < 3; omega) S1x4096x512 _ rfl rfl 65 rfl (ix3 0 k d)
        (fun x hx => match x with | ⟨0, _⟩ => absurd rfl hx | ⟨1, _⟩ => rfl | ⟨2, _⟩ => rfl) (by show 65 + 0 = e.val; omega)).trans ?_
      rw [broadcastInDim_apply _ bcast_S_S1x4096x512 _ (ix3 0 k d) (fun x => x.elim0) (fun x => x.elim0)]
      exact zero_bf16

/-- Which block each window reads or writes at point `t`: row tile `t / 66`, expert `t % 66`. -/
theorem idx_facts : ∀ t : Fin cfg0.N,
    (win0_0.index t (0 : Fin 2) = t.val / 66 ∧ win0_0.index t (1 : Fin 2) = 0)
    ∧ (win0_1.index t (0 : Fin 3) = t.val % 66 ∧ win0_1.index t (1 : Fin 3) = 0 ∧ win0_1.index t (2 : Fin 3) = 0)
    ∧ (win0_2.index t (0 : Fin 2) = t.val / 66 ∧ win0_2.index t (1 : Fin 2) = 0)
    ∧ (win0_3.index t (0 : Fin 2) = t.val / 66 ∧ win0_3.index t (1 : Fin 2) = t.val % 66)
    ∧ (grid0.coords t 1).val = t.val % 66 :=
  (by decide +kernel : ∀ t : Fin grid0.N, _)

variable (m : (ℓ : Loc nD τ sig) → Buf (Elt Ideal) ℓ)

/-- The weights, from the arguments. -/
def weight (c : Dev nD) : ℕ → ℕ → ℕ → EReal :=
  weights (at3 (n := 64) (p := 4096) (q := 256) (m ((c : Thread nD τ).loc main_arg2)))
    (at3 (n := 64) (p := 4096) (q := 256) (m ((c : Thread nD τ).loc main_arg3)))
    (at2 (n := 4096) (p := 256) (m ((c : Thread nD τ).loc main_arg4)))
    (at2 (n := 4096) (p := 256) (m ((c : Thread nD τ).loc main_arg5)))

/-- What the kernel's second operand holds when it starts. -/
theorem V_weight (c : Dev nD) (e k d : ℕ) (he : e < 66) (hk : k < 4096) (hd : d < 512) :
    at3 (n := 66) (p := 4096) (q := 512) (V m c main_v6) e k d = weight m c e k d := by
  have hV : @Eq (FVec Ideal S66x4096x512 .bf16) (V m c main_v6)
      (stacked (m ((c : Thread nD τ).loc main_arg2)) (m ((c : Thread nD τ).loc main_arg3))
        (m ((c : Thread nD τ).loc main_arg4)) (m ((c : Thread nD τ).loc main_arg5))) := by
    show StableHlo.after hostOps0 _ _ = _
    after_results
    rfl
  rw [hV, ← at3_of (n := 66) (p := 4096) (q := 512) _ (ix3 ⟨e, he⟩ ⟨k, hk⟩ ⟨d, hd⟩) e k d rfl rfl rfl]
  exact stacked_apply _ _ _ _ ⟨e, he⟩ ⟨k, hk⟩ ⟨d, hd⟩

/-- The tokens point `t` reads. -/
theorem blk0_at (c : Dev nD) (t : Fin cfg0.N) (r e : ℕ) (hr : r < 1024) (he : e < 4096) :
    at2 (n := 1024) (p := 4096) (iblk m c 0 t) r e
      = at2 (n := 16384) (p := 4096) (m ((c : Thread nD τ).loc main_arg0)) (t.val / 66 * 1024 + r) e := by
  obtain ⟨⟨f0, f1⟩, -⟩ := idx_facts t
  rw [← at2_of (n := 1024) (p := 4096) (iblk m c 0 t) (ix2 ⟨r, hr⟩ ⟨e, he⟩) r e rfl rfl]
  refine at2_of (n := 16384) (p := 4096) (m ((c : Thread nD τ).loc main_arg0)) ((win0_0.rect t).emb (ix2 ⟨r, hr⟩ ⟨e, he⟩)) _ _ ?_ ?_
  · rw [← f0]; exact win0_0.rect_emb_val t _ (0 : Fin 2)
  · refine (win0_0.rect_emb_val t _ (1 : Fin 2)).trans ?_
    rw [f1]; show 0 * 4096 + e = e; omega

/-- The weights point `t` reads: its expert's. -/
theorem blk1_at (c : Dev nD) (t : Fin cfg0.N) (k d : ℕ) (hk : k < 4096) (hd : d < 512) :
    at3 (n := 1) (p := 4096) (q := 512) (iblk m c 1 t) 0 k d = weight m c (t.val % 66) k d := by
  obtain ⟨-, ⟨f0, f1, f2⟩, -⟩ := idx_facts t
  rw [← at3_of (n := 1) (p := 4096) (q := 512) (iblk m c 1 t) (ix3 0 ⟨k, hk⟩ ⟨d, hd⟩) 0 k d rfl rfl rfl]
  refine (at3_of (n := 66) (p := 4096) (q := 512) (V m c main_v6) ((win0_1.rect t).emb (ix3 0 ⟨k, hk⟩ ⟨d, hd⟩)) (t.val % 66) k d ?_ ?_ ?_).trans
    (V_weight m c _ k d (by omega) hk hd)
  · refine (win0_1.rect_emb_val t _ (0 : Fin 3)).trans ?_
    rw [f0]; show t.val % 66 * 1 + 0 = t.val % 66; omega
  · refine (win0_1.rect_emb_val t _ (1 : Fin 3)).trans ?_
    rw [f1]; show 0 * 4096 + k = k; omega
  · refine (win0_1.rect_emb_val t _ (2 : Fin 3)).trans ?_
    rw [f2]; show 0 * 512 + d = d; omega

/-- The gates point `t` reads. -/
theorem blk2_at (c : Dev nD) (t : Fin cfg0.N) (r e : ℕ) (hr : r < 1024) (he : e < 128) :
    at2 (n := 1024) (p := 128) (iblk m c 2 t) r e
      = at2 (n := 16384) (p := 128) (m ((c : Thread nD τ).loc main_arg1)) (t.val / 66 * 1024 + r) e := by
  obtain ⟨-, -, ⟨f0, f1⟩, -⟩ := idx_facts t
  rw [← at2_of (n := 1024) (p := 128) (iblk m c 2 t) (ix2 ⟨r, hr⟩ ⟨e, he⟩) r e rfl rfl]
  refine at2_of (n := 16384) (p := 128) (m ((c : Thread nD τ).loc main_arg1)) ((win0_2.rect t).emb (ix2 ⟨r, hr⟩ ⟨e, he⟩)) _ _ ?_ ?_
  · rw [← f0]; exact win0_2.rect_emb_val t _ (0 : Fin 2)
  · refine (win0_2.rect_emb_val t _ (1 : Fin 2)).trans ?_
    rw [f1]; show 0 * 128 + e = e; omega

/-- The hidden layer of expert `e` at a token and a column. -/
def hidden (c : Dev nD) (r e d : ℕ) : EReal :=
  unit (at2 (n := 16384) (p := 4096) (m ((c : Thread nD τ).loc main_arg0)) r) (fun k => weight m c e k d)
    (fun k => weight m c e k (256 + d)) (share (at2 (n := 16384) (p := 128) (m ((c : Thread nD τ).loc main_arg1)) r) e)

/-- What the result array is shown to hold: the experts' hidden layers side by side. -/
def result (c : Dev nD) : Buf (Elt Ideal) ((c : Thread nD τ).loc main_v7) :=
  (fun i : S16384x16896.Idx => (hidden m c (i 0) ((i 1).val / 256) ((i 1).val % 256) : Elt Ideal .bf16))

theorem unit_congr {x x' u u' v v' : ℕ → EReal} {g g' : EReal} (hx : ∀ k < 4096, x k = x' k) (hu : ∀ k < 4096, u k = u' k)
    (hv : ∀ k < 4096, v k = v' k) (hg : g = g') : unit x u v g = unit x' u' v' g' := by
  unfold unit
  rw [dot_congr hx hu, dot_congr hx hv, hg]

/-- What point `t` writes back is its block of the result. -/
theorem flushed_eq (c : Dev nD) (t : Fin cfg0.N) :
    (dats m 0 c).flushed 3 t = ((cfg0.win 3).blk t).view.read (Elt Ideal) (result m c) := by
  rw [Value.flushed3]
  funext y
  have h0 : (y 0).val < 1024 := (y 0).isLt
  have h1 : (y 1).val < 256 := (y 1).isLt
  obtain ⟨-, -, -, ⟨f0, f1⟩, f2⟩ := idx_facts t
  have e0 : (((win0_3.rect t).emb y 0 : Fin _) : ℕ) = t.val / 66 * 1024 + (y 0).val := by
    rw [← f0]; exact win0_3.rect_emb_val t y (0 : Fin 2)
  have e1 : (((win0_3.rect t).emb y 1 : Fin _) : ℕ) = t.val % 66 * 256 + (y 1).val := by
    rw [← f1]; exact win0_3.rect_emb_val t y (1 : Fin 2)
  refine (out_apply (grid0.coords t) (iblk m c 0 t) (iblk m c 1 t) (iblk m c 2 t) y).trans ?_
  show _ = hidden m c (((win0_3.rect t).emb y 0 : Fin _) : ℕ) ((((win0_3.rect t).emb y 1 : Fin _) : ℕ) / 256)
    ((((win0_3.rect t).emb y 1 : Fin _) : ℕ) % 256)
  rw [e0, e1, f2, show (t.val % 66 * 256 + (y 1).val) / 256 = t.val % 66 by omega,
    show (t.val % 66 * 256 + (y 1).val) % 256 = (y 1).val by omega]
  refine unit_congr (fun k hk => blk0_at m c t _ k h0 hk) (fun k hk => blk1_at m c t k _ hk (by omega))
    (fun k hk => blk1_at m c t k _ hk (by omega)) ?_
  unfold share
  by_cases h : 64 ≤ t.val % 66
  · rw [if_pos h, if_pos h]
  · rw [if_neg h, if_neg h]
    exact blk2_at m c t _ _ h0 (by omega)

/-- Every index of the result array lies in the block of a point that is written back. -/
theorem cover (i : S16384x16896.Idx) :
    ∃ t : Fin cfg0.N, (cfg0.win 3).flush t = true ∧ i ∈ ((cfg0.win 3).blk t).view.set := by
  have h0 : (i 0).val < 16384 := (i 0).isLt
  have h1 : (i 1).val < 16896 := (i 1).isLt
  have hN : cfg0.N = 1056 := N_0
  have ht : (i 0).val / 1024 * 66 + (i 1).val / 256 < cfg0.N := by omega
  refine ⟨⟨_, ht⟩, flush0_3 _, ?_⟩
  obtain ⟨-, -, -, ⟨f0, f1⟩, -⟩ := idx_facts ⟨_, ht⟩
  have g0 : win0_3.index ⟨_, ht⟩ (0 : Fin 2) = (i 0).val / 1024 := by rw [f0]; dsimp only; omega
  have g1 : win0_3.index ⟨_, ht⟩ (1 : Fin 2) = (i 1).val / 256 := by rw [f1]; dsimp only; omega
  show i ∈ ((View.whole main_v7).slice (win0_3.rect ⟨_, ht⟩)).set
  rw [View.set_slice_whole, Rect.mem_set_unit]
  intro a
  match a with
  | ⟨0, _⟩ =>
    show win0_3.index ⟨_, ht⟩ (0 : Fin 2) * 1024 ≤ (i 0).val ∧ (i 0).val < win0_3.index ⟨_, ht⟩ (0 : Fin 2) * 1024 + 1024
    rw [g0]; omega
  | ⟨1, _⟩ =>
    show win0_3.index ⟨_, ht⟩ (1 : Fin 2) * 256 ≤ (i 1).val ∧ (i 1).val < win0_3.index ⟨_, ht⟩ (1 : Fin 2) * 256 + 256
    rw [g1]; omega

/-- So the array ends holding the hidden layers. -/
theorem final (c : Dev nD) : (dats m 0 c).arrAt 3 cfg0.N = result m c :=
  (dats m 0 c).arrAt_eq_of_cover 3 (result m c) (fun t _ => flushed_eq m c t) cover

end Cert.ExpertsIdeal.Block

end
-- ==== Proof.ExpertsValue.lean ====
/-
  The experts' reference: what it computes at an index, and that the kernel's array holds just that.
-/
module

public import proofs.«01_k».proof.Proof.Experts
public import proofs.«01_k».proof.Proof.Gen.ExpertsRefIdeal.Read

@[expose] public section

set_option maxRecDepth 16384

noncomputable section

namespace Cert.ExpertsRefIdeal.Hidden

open Cert.ExpertsRefIdeal Cert.ExpertsRefIdeal.Gen Cert.ExpertsRefIdeal.Read Cert.Attention Idealize.ShloMosaic
  Idealize.ShloMosaic.ValueIdx

variable (h : FVec Ideal S16384x4096 .bf16) (g : FVec Ideal S16384x128 .f32) (a b : FVec Ideal S64x4096x256 .f32)
  (sa sb : FVec Ideal S4096x256 .f32)

/-- A routed expert's two products. -/
theorem gate_apply (r : Fin 16384) (e : Fin 64) (d : Fin 256) :
    val_main_v1 (F := Ideal) h a (ix3 r e d) = dot 4096 (at2 h r) (fun k => at3 a e k d) := by
  refine (val_main_v1_apply h a _).trans ?_
  show _ = dot 4096 (at2 h r) (fun k => at3 a e k d)
  unfold dot
  refine Finset.sum_congr rfl fun k _ => congrArg₂ (fun a b : EReal => a * b) ?_ ?_
  · exact at2_of h _ _ _ rfl rfl
  · exact at3_of a _ _ _ _ rfl rfl rfl

theorem up_apply (r : Fin 16384) (e : Fin 64) (d : Fin 256) :
    val_main_v3 (F := Ideal) h b (ix3 r e d) = dot 4096 (at2 h r) (fun k => at3 b e k d) :=
  gate_apply h b r e d

/-- The shared expert's two products. -/
theorem shared_gate_apply (r : Fin 16384) (d : Fin 256) :
    val_main_v10 (F := Ideal) h sa (ix2 r d) = dot 4096 (at2 h r) (fun k => at2 sa k d) := by
  refine (val_main_v10_apply h sa _).trans ?_
  show _ = dot 4096 (at2 h r) (fun k => at2 sa k d)
  unfold dot
  refine Finset.sum_congr rfl fun k _ => congrArg₂ (fun a b : EReal => a * b) ?_ ?_
  · exact at2_of h _ _ _ rfl rfl
  · exact at2_of sa _ _ _ rfl rfl

theorem shared_up_apply (r : Fin 16384) (d : Fin 256) :
    val_main_v12 (F := Ideal) h sb (ix2 r d) = dot 4096 (at2 h r) (fun k => at2 sb k d) :=
  shared_gate_apply h sb r d

/-- A routed expert's hidden layer. -/
theorem routed_apply (r : Fin 16384) (e : Fin 64) (d : Fin 256) :
    val_main_v8 (F := Ideal) h g a b (ix3 r e d)
      = silu (dot 4096 (at2 h r) (fun k => at3 a e k d)) * dot 4096 (at2 h r) (fun k => at3 b e k d) * at2 g r e := by
  rw [val_main_v8_apply, val_main_v4_apply, val_main_v2_apply, val_main_call0_v5_apply, val_main_call0_v4_apply,
    val_main_call0_cst_0_apply, val_main_call0_v3_apply, val_main_call0_v2_apply, val_main_call0_cst_apply,
    val_main_call0_v1_apply, val_main_call0_v0_apply, gate_apply, up_apply, val_main_v7_apply, val_main_v6_apply, val_main_v5_apply]
  rw [at2_of g _ r.val e.val rfl rfl, ← silu_product, ← one_f32]
  rfl

/-- The shared expert's hidden layer. -/
theorem shared_apply (r : Fin 16384) (d : Fin 256) :
    val_main_v13 (F := Ideal) h sa sb (ix2 r d)
      = silu (dot 4096 (at2 h r) (fun k => at2 sa k d)) * dot 4096 (at2 h r) (fun k => at2 sb k d) := by
  rw [val_main_v13_apply, val_main_v11_apply, val_main_call1_v5_apply, val_main_call1_v4_apply, val_main_call1_cst_0_apply,
    val_main_call1_v3_apply, val_main_call1_v2_apply, val_main_call1_cst_apply, val_main_call1_v1_apply, val_main_call1_v0_apply,
    shared_gate_apply, shared_up_apply, ← silu_product, ← one_f32]
  rfl

/-- The three joined parts of the reference's result. -/
theorem left_apply (r : Fin 16384) (j : Fin 16896) (hj : j.val < 16384) :
    val_main_v16 (F := Ideal) h g a b sa sb (ix2 r j)
      = val_main_v8 (F := Ideal) h g a b (ix3 r ⟨j.val / 256, by omega⟩ ⟨j.val % 256, by omega⟩) := by
  have hr := r.isLt
  rw [val_main_v16_apply]
  unfold val_main_v15
  refine (concatenate_apply_piece 1 _ _ (ix2 r j) 0 (by show 0 < 3; omega) S16384x16384 _ rfl rfl 0 rfl (ix2 r ⟨j.val, hj⟩)
    (fun x hx => match x with | ⟨0, _⟩ => rfl | ⟨1, _⟩ => absurd rfl hx) (by show 0 + j.val = j.val; omega)).trans ?_
  rw [val_main_v9_apply]
  refine congrArg _ (funext fun x => Fin.ext ?_)
  match x with
  | ⟨0, _⟩ => show (r.val * 16384 + j.val) / 16384 = r.val; omega
  | ⟨1, _⟩ => show (r.val * 16384 + j.val) / 256 % 64 = j.val / 256; omega
  | ⟨2, _⟩ => show (r.val * 16384 + j.val) % 256 = j.val % 256; omega

theorem middle_apply (r : Fin 16384) (j : Fin 16896) (h1 : 16384 ≤ j.val) (h2 : j.val < 16640) :
    val_main_v16 (F := Ideal) h g a b sa sb (ix2 r j) = val_main_v13 (F := Ideal) h sa sb (ix2 r ⟨j.val - 16384, by omega⟩) := by
  rw [val_main_v16_apply]
  unfold val_main_v15
  exact concatenate_apply_piece 1 _ _ (ix2 r j) 1 (by show 1 < 3; omega) S16384x256 _ rfl rfl 16384 rfl (ix2 r ⟨j.val - 16384, by omega⟩)
    (fun x hx => match x with | ⟨0, _⟩ => rfl | ⟨1, _⟩ => absurd rfl hx) (by show 16384 + (j.val - 16384) = j.val; omega)

theorem right_apply (r : Fin 16384) (j : Fin 16896) (h1 : 16640 ≤ j.val) :
    val_main_v16 (F := Ideal) h g a b sa sb (ix2 r j) = 0 := by
  have hj := j.isLt
  rw [val_main_v16_apply]
  unfold val_main_v15
  refine (concatenate_apply_piece 1 _ _ (ix2 r j) 2 (by show 2 < 3; omega) S16384x256 _ rfl rfl 16640 rfl (ix2 r ⟨j.val - 16640, by omega⟩)
    (fun x hx => match x with | ⟨0, _⟩ => rfl | ⟨1, _⟩ => absurd rfl hx) (by show 16640 + (j.val - 16640) = j.val; omega)).trans ?_
  rw [val_main_v14_apply]
  exact Ideal.ofBits_zero_f32

end Cert.ExpertsRefIdeal.Hidden

namespace Cert.ExpertsIdeal.Block

open Cert.ExpertsIdeal Cert.ExpertsIdeal.Gen Cert.Attention Idealize.ShloMosaic Idealize.ShloMosaic.ValueIdx
  Idealize.ShloMosaic.TcCoe Idealize.SL.Sem

variable (m : (ℓ : Loc nD τ sig) → Buf (Elt Ideal) ℓ)

/-- A column of zeros gives zero, whatever the token. -/
theorem dot_zero (n : ℕ) (u : ℕ → EReal) : dot n u (fun _ => 0) = 0 := by
  unfold dot
  exact Finset.sum_eq_zero fun k _ => mul_zero _

/-- The reference's result is the kernel's, at an index. -/
theorem reference_eq (c : Dev nD) (i : S16384x16896.Idx) :
    Cert.ExpertsRefIdeal.Read.val_main_v16 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) i = result m c i := by
  have hj : (i 1).val < 16896 := (i 1).isLt
  refine (congrArg _ (eq_ix2 i)).trans ?_
  show _ = hidden m c (i 0) ((i 1).val / 256) ((i 1).val % 256)
  unfold hidden unit share weight weights beside
  by_cases h1 : (i 1).val < 16384
  · have he : (i 1).val / 256 < 64 := by omega
    refine (Cert.ExpertsRefIdeal.Hidden.left_apply _ _ _ _ _ _ (i 0) (i 1) h1).trans ?_
    refine (Cert.ExpertsRefIdeal.Hidden.routed_apply _ _ _ _ (i 0) _ _).trans ?_
    simp only [if_pos he, if_neg (show ¬ 64 ≤ (i 1).val / 256 by omega), if_pos (show (i 1).val % 256 < 256 by omega),
      if_neg (show ¬ 256 + (i 1).val % 256 < 256 by omega), show 256 + (i 1).val % 256 - 256 = (i 1).val % 256 by omega]
  · by_cases h2 : (i 1).val < 16640
    · have he : (i 1).val / 256 = 64 := by omega
      refine (Cert.ExpertsRefIdeal.Hidden.middle_apply _ _ _ _ _ _ (i 0) (i 1) (by omega) h2).trans ?_
      refine (Cert.ExpertsRefIdeal.Hidden.shared_apply _ _ _ (i 0) _).trans ?_
      simp only [he, if_neg (show ¬ 64 < 64 by omega), if_true, le_refl, if_pos (show (i 1).val % 256 < 256 by omega),
        if_neg (show ¬ 256 + (i 1).val % 256 < 256 by omega), show 256 + (i 1).val % 256 - 256 = (i 1).val % 256 by omega,
        show (i 1).val - 16384 = (i 1).val % 256 by omega, mul_one]
    · have he : (i 1).val / 256 = 65 := by omega
      refine (Cert.ExpertsRefIdeal.Hidden.right_apply _ _ _ _ _ _ (i 0) (i 1) (by omega)).trans ?_
      simp only [he, if_neg (show ¬ 65 < 64 by omega), if_neg (show ¬ 65 = 64 by omega), dot_zero, mul_zero, zero_mul]

end Cert.ExpertsIdeal.Block

end
-- ==== Proof.DownBlock.lean ====
/-
  What one grid point of the down-projection computes: the first of a row tile's points writes a product, the others add
  theirs to what stands, and the last then normalises every row, scales it and adds it to the residual stream.
-/
module

public import proofs.«01_k».proof.Proof.Products
public import proofs.«01_k».proof.Proof.Gen.DownIdeal.Value
public import Idealize.ShloMosaic.Lib.WholeRead
public import Idealize.ShloMosaic.Lib.WritesUnit

@[expose] public section

set_option maxRecDepth 16384

noncomputable section

namespace Cert.DownIdeal.Block

open Cert.DownIdeal Cert.DownIdeal.Gen Cert.Attention Idealize.ShloMosaic Idealize.ShloMosaic.ValueIdx
  Idealize.ShloMosaic.TcCoe Idealize.SL.Sem

/-- A product of a 512-by-512 block with 1024 columns, at a row and a column. -/
theorem new_apply (x : Vec Ideal S512x512 .bf16) (w : Vec Ideal S512x1024 .bf16) (r : Fin 512) (d : Fin 1024) :
    k0_pay1 (F := Ideal) x w (ix2 r d) = dot 512 (at2 x r) (fun k => at2 w k d) := by
  unfold k0_pay1
  rw [shapeCast_self]
  exact product_apply x w r d

/-- The same, added to what stands. -/
theorem add_apply (v : Vec Ideal S512x1024 .f32) (x : Vec Ideal S512x512 .bf16) (w : Vec Ideal S512x1024 .bf16) (r : Fin 512)
    (d : Fin 1024) : k0_pay7 (F := Ideal) v x w (ix2 r d) = v (ix2 r d) + dot 512 (at2 x r) (fun k => at2 w k d) := by
  unfold k0_pay7
  rw [shapeCast_self, shapeCast_self, addf_apply]
  exact congrArg (fun a : EReal => v (ix2 r d) + a) (product_apply x w r d)

/-- A row after its normalisation, its scale and its gate, added to the residual stream `x`. -/
def post (y : ℕ → EReal) (x g w : EReal) (d : ℕ) : EReal :=
  x + g * (y d * Ideal.rsqrt (Ideal.div (∑ l : Fin 4096, y l * y l) (Ideal.ofBits .f32 0x45800000#32)
    + Ideal.ofBits .f32 0x358637BD#32) * w)

theorem post_congr {y y' : ℕ → EReal} {x x' g g' w w' : EReal} {d : ℕ} (hd : d < 4096) (hy : ∀ l < 4096, y l = y' l) (hx : x = x')
    (hg : g = g') (hw : w = w') : post y x g w d = post y' x' g' w' d := by
  subst hx hg hw
  unfold post
  rw [hy d hd, Finset.sum_congr rfl fun (l : Fin 4096) _ => congrArg₂ (fun a b : EReal => a * b) (hy l l.isLt) (hy l l.isLt)]

/-- What the last point does to 64 rows, at a row and a column. -/
theorem post_apply (y x : Vec Ideal S64x4096 .f32) (g : Vec Ideal S1x1x4096 .f32) (w : Vec Ideal S1x4096 .f32) (r : Fin 64)
    (d : Fin 4096) :
    k0_pay6 (F := Ideal) y x g w (ix2 r d) = post (at2 y r) (x (ix2 r d)) (g (ix3 0 0 d)) (w (ix2 0 d)) d := by
  unfold k0_pay6 post
  dsimp only
  rw [shapeCast_self, shapeCast_self, addf_apply, mulf_apply, mulf_apply, mulf_apply,
    broadcastTo_apply _ broadcasts_S1x4096_S64x4096 (ix2 r d) (ix2 0 d) (fun a => match a with
      | ⟨0, _⟩ => by show 0 = if (1 : ℕ) = 1 then 0 else r.val; rw [if_pos rfl]
      | ⟨1, _⟩ => by show d.val = if (4096 : ℕ) = 1 then 0 else d.val; rw [if_neg (by decide)]),
    broadcastTo_apply _ broadcasts_S1x4096_S64x4096 (ix2 r d) (ix2 0 d) (fun a => match a with
      | ⟨0, _⟩ => by show 0 = if (1 : ℕ) = 1 then 0 else r.val; rw [if_pos rfl]
      | ⟨1, _⟩ => by show d.val = if (4096 : ℕ) = 1 then 0 else d.val; rw [if_neg (by decide)]),
    broadcastTo_apply _ broadcasts_S64x1_S64x4096 (ix2 r d) (ix2 r 0) (fun a => match a with
      | ⟨0, _⟩ => by show r.val = if (64 : ℕ) = 1 then 0 else r.val; rw [if_neg (by decide)]
      | ⟨1, _⟩ => by show 0 = if (1 : ℕ) = 1 then 0 else d.val; rw [if_pos rfl]),
    shapeCast_apply g shapeCasts_S1x1x4096_S1x4096 (ix2 0 d) (ix3 0 0 d) (by
      rw [Shape.rowMajor_val_three, Shape.rowMajor_val_two]; show (0 * 1 + 0) * 4096 + d.val = 0 * 4096 + d.val; omega)]
  refine congrArg (fun a : EReal => x (ix2 r d) + g (ix3 0 0 d) * a) ?_
  refine congrArg (fun a : EReal => a * w (ix2 0 d)) ?_
  refine congrArg₂ (fun a b : EReal => a * b) (at2_of y (ix2 r d) r d rfl rfl) ?_
  show Ideal.rsqrt (Ideal.div _ _ + _) = _
  refine congrArg (fun a : EReal => Ideal.rsqrt (Ideal.div a _ + _)) ?_
  rw [shapeCast_apply _ shapeCasts_S64_S64x1 (ix2 r 0) (ix1 r) (by
      rw [Shape.rowMajor_val_one, Shape.rowMajor_val_two]; show r.val = r.val * 1 + 0; omega)]
  have key : ∀ l : Fin 4096, mulf (F := Ideal) (s := S64x4096) (φ := .f32) y y (ix2 r l) = at2 y r l * at2 y r l := fun l => by
    rw [mulf_apply, at2_of y (ix2 r l) r l rfl rfl]
  refine (Ideal.multiReduction_add_single _ _ reduces_S64x4096_S64 _ _ (ix1 r)).trans ?_
  refine Finset.sum_congr rfl fun l _ => ?_
  refine Eq.trans ?_ (key l)
  exact congrArg _ (Shape.idx_ext₂ rfl rfl)

section Point

variable (arg2 : Memref sig .tc .vmem S512x512 .bf16) (harg2 : arg2.IsWhole)
  (arg3 : Memref sig .tc .vmem S512x4096 .bf16) (harg3 : arg3.IsWhole)
  (arg4 : Memref sig .tc .vmem S512x4096 .f32) (harg4 : arg4.IsWhole)
  (arg5 : Memref sig .tc .vmem S1x1x4096 .f32) (harg5 : arg5.IsWhole)
  (arg6 : Memref sig .tc .vmem S1x4096 .f32) (harg6 : arg6.IsWhole)
  (arg7 : Memref sig .tc .vmem S512x4096 .f32) (harg7 : arg7.IsWhole)
  (x0 : Vec Ideal S512x512 .bf16) (x1 : Vec Ideal S512x4096 .bf16) (x2 : Vec Ideal S512x4096 .f32)
  (x3 : Vec Ideal S1x1x4096 .f32) (x4 : Vec Ideal S1x4096 .f32) (xo5 : Vec Ideal S512x4096 .f32)

/-- A point's product, at a row and a column of the tile. -/
def prod (y : S512x4096.Idx) : EReal := dot 512 (at2 x0 (y 0)) (fun k => at2 x1 k (y 1))

/-- The left block as loaded is the block. -/
theorem left_load : View.readAt (Elt Ideal) arg2.view (Rect.unit (s := S512x512) ![0, 0] S512x512.size inb_S512x512_S512x512_0_0).toLoadRect
    (harg2.unread x0) = x0 := by
  funext z
  refine (harg2.readAt_unread x0 _ z).trans (congrArg x0 (Shape.idx_ext₂ ?_ ?_))
  · show 0 + 1 * (z 0).val = (z 0).val; omega
  · show 0 + 1 * (z 1).val = (z 1).val; omega

/-- A column chunk of the right block as loaded. -/
theorem right_load (o : ℕ) (inb : ∀ a : Fin 2, (![0, o] : Fin 2 → ℕ) a + S512x1024.size a ≤ S512x4096.size a) (k d : ℕ) (hk : k < 512)
    (hd : d < 1024) :
    at2 (n := 512) (p := 1024) (View.readAt (Elt Ideal) arg3.view (Rect.unit (s := S512x4096) ![0, o] S512x1024.size inb).toLoadRect (harg3.unread x1)) k d
      = at2 (n := 512) (p := 4096) x1 k (o + d) := by
  rw [← at2_of (n := 512) (p := 1024) _ (ix2 ⟨k, hk⟩ ⟨d, hd⟩) k d rfl rfl]
  refine (harg3.readAt_unread x1 _ _).trans (at2_of (n := 512) (p := 4096) x1 _ _ _ ?_ ?_)
  · show 0 + 1 * k = k; omega
  · show o + 1 * d = o + d; omega

/-- A chunk the first point writes. -/
theorem piece_new (o : ℕ) (inb : ∀ a : Fin 2, (![0, o] : Fin 2 → ℕ) a + S512x1024.size a ≤ S512x4096.size a) (z : S512x1024.Idx) :
    k0_pay1 (F := Ideal)
      (View.readAt (Elt Ideal) arg2.view (Rect.unit (s := S512x512) ![0, 0] S512x512.size inb_S512x512_S512x512_0_0).toLoadRect (harg2.unread x0))
      (View.readAt (Elt Ideal) arg3.view (Rect.unit (s := S512x4096) ![0, o] S512x1024.size inb).toLoadRect (harg3.unread x1)) z
      = prod x0 x1 ((Rect.unit (s := S512x4096) ![0, o] S512x1024.size inb).emb z) := by
  have h0 : (z 0).val < 512 := (z 0).isLt
  have h1 : (z 1).val < 1024 := (z 1).isLt
  rw [left_load]
  refine (congrArg _ (eq_ix2 z)).trans ((new_apply _ _ (z 0) (z 1)).trans ?_)
  unfold prod
  have e0 : (((Rect.unit (s := S512x4096) ![0, o] S512x1024.size inb).emb z 0 : Fin _) : ℕ) = (z 0).val := by
    show 0 + 1 * (z 0).val = _; omega
  have e1 : (((Rect.unit (s := S512x4096) ![0, o] S512x1024.size inb).emb z 1 : Fin _) : ℕ) = o + (z 1).val := by
    show o + 1 * (z 1).val = _; omega
  rw [e0, e1]
  exact dot_congr (fun _ _ => rfl) fun k hk => right_load arg3 harg3 x1 o inb k _ hk h1

/-- A chunk a later point writes. -/
theorem piece_add (o : ℕ) (inb : ∀ a : Fin 2, (![0, o] : Fin 2 → ℕ) a + S512x1024.size a ≤ S512x4096.size a) (z : S512x1024.Idx) :
    k0_pay7 (F := Ideal)
      (View.readAt (Elt Ideal) arg7.view (Rect.unit (s := S512x4096) ![0, o] S512x1024.size inb).toLoadRect (harg7.unread xo5))
      (View.readAt (Elt Ideal) arg2.view (Rect.unit (s := S512x512) ![0, 0] S512x512.size inb_S512x512_S512x512_0_0).toLoadRect (harg2.unread x0))
      (View.readAt (Elt Ideal) arg3.view (Rect.unit (s := S512x4096) ![0, o] S512x1024.size inb).toLoadRect (harg3.unread x1)) z
      = xo5 ((Rect.unit (s := S512x4096) ![0, o] S512x1024.size inb).emb z)
        + prod x0 x1 ((Rect.unit (s := S512x4096) ![0, o] S512x1024.size inb).emb z) := by
  refine (congrArg _ (eq_ix2 z)).trans ((add_apply _ _ _ (z 0) (z 1)).trans ?_)
  refine congrArg₂ (fun a b : EReal => a + b) ?_ ?_
  · exact (congrArg _ (eq_ix2 z).symm).trans
      ((harg7.readAt_unread xo5 (Rect.unit (s := S512x4096) ![0, o] S512x1024.size inb).toLoadRect z).trans
        (congrArg xo5 (Shape.idx_ext₂ rfl rfl)))
  · refine Eq.trans ?_ (piece_new arg2 harg2 arg3 harg3 x0 x1 o inb z)
    exact ((congrArg _ (eq_ix2 z)).trans (new_apply _ _ (z 0) (z 1))).symm

variable (c : Dev nD) (i : grid0.Coords)

/-- What a row tile's first point leaves. -/
theorem first_apply (hc0 : cond0_0 i) (hc1 : ¬cond0_1 i) (hc2 : ¬cond0_2 i) (y : S512x4096.Idx) :
    out0_A_5 (F := Ideal) c i arg2 harg2 arg3 harg3 arg4 harg4 arg5 harg5 arg6 harg6 arg7 harg7 hc0 hc1 hc2 x0 x1 x2 x3 x4 y
      = prod x0 x1 y := by
  unfold out0_A_5
  refine View.read_writes_apply_of_pieces (Val := Elt Ideal) _ _ (fun y => (prod x0 x1 y : Elt Ideal .f32)) _ ?_ y
    (cover0_A_5 c i arg2 harg2 arg3 harg3 arg4 harg4 arg5 harg5 arg6 harg6 arg7 harg7 hc0 hc1 hc2 x0 x1 x2 x3 x4 y)
  intro p hp z
  unfold kernelRun0_A at hp
  dsimp only at hp
  simp only [List.mem_cons, List.not_mem_nil, or_false] at hp
  rcases hp with rfl | rfl | rfl | rfl
  · exact piece_new arg2 harg2 arg3 harg3 x0 x1 3072 _ z
  · exact piece_new arg2 harg2 arg3 harg3 x0 x1 2048 _ z
  · exact piece_new arg2 harg2 arg3 harg3 x0 x1 1024 _ z
  · exact piece_new arg2 harg2 arg3 harg3 x0 x1 0 _ z

/-- What a point between leaves. -/
theorem middle_apply (hc0 : ¬cond0_0 i) (hc1 : cond0_1 i) (hc2 : ¬cond0_2 i) (y : S512x4096.Idx) :
    out0_B_5 (F := Ideal) c i arg2 harg2 arg3 harg3 arg4 harg4 arg5 harg5 arg6 harg6 arg7 harg7 hc0 hc1 hc2 x0 x1 x2 x3 x4 xo5 y
      = xo5 y + prod x0 x1 y := by
  unfold out0_B_5
  refine View.read_writes_apply_of_pieces (Val := Elt Ideal) _ _ (fun y => (xo5 y + prod x0 x1 y : EReal)) _ ?_ y
    (cover0_B_5 c i arg2 harg2 arg3 harg3 arg4 harg4 arg5 harg5 arg6 harg6 arg7 harg7 hc0 hc1 hc2 x0 x1 x2 x3 x4 xo5 y)
  intro p hp z
  unfold kernelRun0_B at hp
  dsimp only at hp
  simp only [List.mem_cons, List.not_mem_nil, or_false] at hp
  rcases hp with rfl | rfl | rfl | rfl
  · exact piece_add arg2 harg2 arg3 harg3 arg7 harg7 x0 x1 xo5 3072 _ z
  · exact piece_add arg2 harg2 arg3 harg3 arg7 harg7 x0 x1 xo5 2048 _ z
  · exact piece_add arg2 harg2 arg3 harg3 arg7 harg7 x0 x1 xo5 1024 _ z
  · exact piece_add arg2 harg2 arg3 harg3 arg7 harg7 x0 x1 xo5 0 _ z

/-- What stands at the last point before its rows are normalised. -/
def standing (y : S512x4096.Idx) : EReal := xo5 y + prod x0 x1 y

/-- A row of the tile once normalised. -/
def normal (y : S512x4096.Idx) : EReal :=
  post (at2 (n := 512) (p := 4096) (standing x0 x1 xo5) (y 0)) (x2 y) (x3 (ix3 0 0 (y 1))) (x4 (ix2 0 (y 1))) (y 1)

/-- The pieces the last point writes before its loop. -/
theorem sums_apply {κ : Kind} {sp : Space} (v : View sig κ sp S512x4096 .f32) (f : v.ty.Contents (Elt Ideal)) (y : S512x4096.Idx) :
    v.read (Elt Ideal) (v.writes (Elt Ideal) f (kernelRun0_C.sl.H5_4 c arg2 harg2 arg3 harg3 arg7 harg7 x0 x1 xo5)) y
      = standing x0 x1 xo5 y := by
  refine View.read_writes_apply_of_pieces (Val := Elt Ideal) v f (fun y => (standing x0 x1 xo5 y : Elt Ideal .f32)) _ ?_ y
    (View.cover_of_tiledL (kernelRun0_C.sl.H5_4 c arg2 harg2 arg3 harg3 arg7 harg7 x0 x1 xo5) S512x1024.size (by sl_kernel_rfl) y)
  intro p hp z
  unfold kernelRun0_C.sl.H5_4 at hp
  simp only [List.mem_cons, List.not_mem_nil, or_false] at hp
  rcases hp with rfl | rfl | rfl | rfl
  · exact piece_add arg2 harg2 arg3 harg3 arg7 harg7 x0 x1 xo5 3072 _ z
  · exact piece_add arg2 harg2 arg3 harg3 arg7 harg7 x0 x1 xo5 2048 _ z
  · exact piece_add arg2 harg2 arg3 harg3 arg7 harg7 x0 x1 xo5 1024 _ z
  · exact piece_add arg2 harg2 arg3 harg3 arg7 harg7 x0 x1 xo5 0 _ z

/-- Trip `k` of the loop is at row `64 k`. -/
theorem trip_row : ∀ k : Fin k0_t1_loop.trips, k0_off1 k = ![64 * k.val, 0] := by decide +kernel

theorem trips_eq : k0_t1_loop.trips = 8 := by decide +kernel

/-- What trip `k` writes, over the contents `f` it finds. -/
theorem trip_pieces (hc : k0_cond3 i = 1#1) (f : arg7.view.ty.Contents (Elt Ideal)) (k : Fin k0_t1_loop.trips) :
    tripL_k0_t1 (F := Ideal) Variants.none c none i arg2 harg2 arg3 harg3 arg4 harg4 arg5 harg5
        arg6 harg6 arg7 harg7 hc (harg4.unread x2) (harg5.unread x3) (harg6.unread x4) k f
      = [⟨Rect.unit (s := S512x4096) (k0_off1 k) S64x4096.size (k0_off1_inb i k hc), k0_pay6
          (View.readAt (Elt Ideal) arg7.view (Rect.unit (s := S512x4096) (k0_off1 k) S64x4096.size (k0_off1_inb i k hc)).toLoadRect f)
          (View.readAt (Elt Ideal) arg4.view (Rect.unit (s := S512x4096) (k0_off1 k) S64x4096.size (k0_off1_inb i k hc)).toLoadRect (harg4.unread x2))
          (View.readAt (Elt Ideal) arg5.view (Rect.unit (s := S1x1x4096) ![0, 0, 0] S1x1x4096.size inb_S1x1x4096_S1x1x4096_0_0_0).toLoadRect (harg5.unread x3))
          (View.readAt (Elt Ideal) arg6.view (Rect.unit (s := S1x4096) ![0, 0] S1x4096.size inb_S1x4096_S1x4096_0_0).toLoadRect (harg6.unread x4))⟩] := by
  unfold tripL_k0_t1 trip_k0_t1
  dsimp only

/-- What trip `k` stores at a row and a column, the rows it finds standing. -/
theorem trip_apply (hc : k0_cond3 i = 1#1) (f : arg7.view.ty.Contents (Elt Ideal)) (k : Fin k0_t1_loop.trips) (hk : k.val < 8)
    (hf : ∀ y : S512x4096.Idx, 64 * k.val ≤ (y 0).val → arg7.view.read (Elt Ideal) f y = standing x0 x1 xo5 y)
    (r : Fin 64) (d : Fin 4096) :
    k0_pay6 (F := Ideal)
        (View.readAt (Elt Ideal) arg7.view (Rect.unit (s := S512x4096) (k0_off1 k) S64x4096.size (k0_off1_inb i k hc)).toLoadRect f)
        (View.readAt (Elt Ideal) arg4.view (Rect.unit (s := S512x4096) (k0_off1 k) S64x4096.size (k0_off1_inb i k hc)).toLoadRect (harg4.unread x2))
        (View.readAt (Elt Ideal) arg5.view (Rect.unit (s := S1x1x4096) ![0, 0, 0] S1x1x4096.size inb_S1x1x4096_S1x1x4096_0_0_0).toLoadRect (harg5.unread x3))
        (View.readAt (Elt Ideal) arg6.view (Rect.unit (s := S1x4096) ![0, 0] S1x4096.size inb_S1x4096_S1x4096_0_0).toLoadRect (harg6.unread x4)) (ix2 r d)
      = normal x0 x1 x2 x3 x4 xo5 (ix2 ⟨64 * k.val + r.val, by omega⟩ d) := by
  have hoff : k0_off1 k = ![64 * k.val, 0] := trip_row k
  have o0 : k0_off1 k 0 = 64 * k.val := by rw [hoff]; rfl
  have o1 : k0_off1 k 1 = 0 := by rw [hoff]; rfl
  refine (post_apply _ _ _ _ r d).trans ?_
  unfold normal
  refine post_congr d.isLt (fun l hl => ?_) ?_ ?_ ?_
  · rw [← at2_of (n := 64) (p := 4096) _ (ix2 r ⟨l, hl⟩) _ _ rfl rfl]
    refine Eq.trans ?_ (at2_of (n := 512) (p := 4096) (standing x0 x1 xo5) (ix2 ⟨64 * k.val + r.val, by omega⟩ ⟨l, hl⟩) _ _ rfl rfl)
    refine Eq.trans ?_ (hf (ix2 ⟨64 * k.val + r.val, by omega⟩ ⟨l, hl⟩) (by show 64 * k.val ≤ 64 * k.val + r.val; omega))
    refine congrArg (arg7.view.read (Elt Ideal) f) (Shape.idx_ext₂ ?_ ?_)
    · show k0_off1 k 0 + 1 * r.val = 64 * k.val + r.val
      rw [o0]; omega
    · show k0_off1 k 1 + 1 * l = l
      rw [o1]; omega
  · refine (harg4.readAt_unread x2 _ _).trans (congrArg x2 (Shape.idx_ext₂ ?_ ?_))
    · show k0_off1 k 0 + 1 * r.val = 64 * k.val + r.val
      rw [o0]; omega
    · show k0_off1 k 1 + 1 * d.val = d.val
      rw [o1]; omega
  · refine (harg5.readAt_unread x3 _ _).trans (congrArg x3 (funext fun a => Fin.ext ?_))
    match a with
    | ⟨0, _⟩ => rfl
    | ⟨1, _⟩ => rfl
    | ⟨2, _⟩ => show 0 + 1 * d.val = d.val; omega
  · refine (harg6.readAt_unread x4 _ _).trans (congrArg x4 (Shape.idx_ext₂ rfl ?_))
    show 0 + 1 * d.val = d.val; omega

/-- The rows of the trips before `k` are normalised, the others stand. -/
theorem rows_apply (hc : k0_cond3 i = 1#1) (G : arg7.view.ty.Contents (Elt Ideal))
    (hG : ∀ y, arg7.view.read (Elt Ideal) G y = standing x0 x1 xo5 y) (k : ℕ) (hk : k ≤ 8) :
    ∀ {κ : Kind} {sp : Space} (v : View sig κ sp S512x4096 .f32) (f : v.ty.Contents (Elt Ideal)),
      (∀ y, v.read (Elt Ideal) f y = standing x0 x1 xo5 y) → ∀ y : S512x4096.Idx,
      v.read (Elt Ideal) (v.writes (Elt Ideal) f (pb_k0_t1 (F := Ideal) Variants.none c none i arg2 harg2 arg3 harg3 arg4 harg4 arg5 harg5
        arg6 harg6 arg7 harg7 hc (harg4.unread x2) (harg5.unread x3) (harg6.unread x4) G k)) y
        = if (y 0).val < 64 * k then normal x0 x1 x2 x3 x4 xo5 y else standing x0 x1 xo5 y := by
  induction k with
  | zero =>
    intro κ sp v f hf y
    rw [if_neg (by omega)]
    exact hf y
  | succ k ih =>
    intro κ sp v f hf y
    have hk' : k < k0_t1_loop.trips := by rw [trips_eq]; omega
    have hs := pb_k0_t1_succ (F := Ideal) Variants.none c none i arg2 harg2 arg3 harg3 arg4 harg4 arg5 harg5
        arg6 harg6 arg7 harg7 hc (harg4.unread x2) (harg5.unread x3) (harg6.unread x4) G ⟨k, hk'⟩
    dsimp only at hs
    rw [hs, trip_pieces, List.singleton_append]
    have hp := trip_apply arg4 harg4 arg5 harg5 arg6 harg6 arg7 x0 x1 x2 x3 x4 xo5 i hc (arg7.view.writes (Elt Ideal) G
      (pb_k0_t1 (F := Ideal) Variants.none c none i arg2 harg2 arg3 harg3 arg4 harg4 arg5 harg5
        arg6 harg6 arg7 harg7 hc (harg4.unread x2) (harg5.unread x3) (harg6.unread x4) G k)) ⟨k, hk'⟩ (by show k < 8; omega)
        (fun y hy => (ih (by omega) arg7.view G hG y).trans (if_neg (by show ¬ _ < _; exact Nat.not_lt.mpr hy)))
    have ht := ih (by omega) v f hf y
    clear ih hs
    revert hp ht
    generalize pb_k0_t1 (F := Ideal) Variants.none c none i arg2 harg2 arg3 harg3 arg4 harg4 arg5 harg5
        arg6 harg6 arg7 harg7 hc (harg4.unread x2) (harg5.unread x3) (harg6.unread x4) G k = L
    generalize k0_pay6 (F := Ideal) _ _ _ _ = w
    intro hp ht
    have hoff : k0_off1 ⟨k, hk'⟩ = ![64 * k, 0] := trip_row ⟨k, hk'⟩
    have h0 : (y 0).val < 512 := (y 0).isLt
    have h1 : (y 1).val < 4096 := (y 1).isLt
    by_cases hy : 64 * k ≤ (y 0).val ∧ (y 0).val < 64 * k + 64
    · rw [if_pos (by omega)]
      refine (View.read_writes_cons_rows_of_mem (d := ![512, 4096]) (size := S64x4096.size) (o := 64 * k) v f _ w L y
        (ix2 ⟨(y 0).val - 64 * k, by omega⟩ ⟨(y 1).val, h1⟩) hoff
        (by show (y 0).val = 64 * k + ((y 0).val - 64 * k); omega) rfl).trans ?_
      refine (hp ⟨(y 0).val - 64 * k, by omega⟩ ⟨(y 1).val, h1⟩).trans (congrArg _ (Shape.idx_ext₂ ?_ rfl))
      show 64 * k + ((y 0).val - 64 * k) = (y 0).val
      omega
    · refine (View.read_writes_cons_rows_of_not_mem (d := ![512, 4096]) (size := S64x4096.size) (o := 64 * k) (W := 64) v f _ w L y
        hoff rfl (by omega)).trans (ht.trans ?_)
      by_cases h : (y 0).val < 64 * k
      · rw [if_pos h, if_pos (by omega)]
      · rw [if_neg h, if_neg (by omega)]

/-- What a row tile's last point leaves. -/
theorem last_apply (hc0 : ¬cond0_0 i) (hc1 : cond0_1 i) (hc2 : cond0_2 i) (y : S512x4096.Idx) :
    out0_C_5 (F := Ideal) c i arg2 harg2 arg3 harg3 arg4 harg4 arg5 harg5 arg6 harg6 arg7 harg7 hc0 hc1 hc2 x0 x1 x2 x3 x4 xo5 y
      = normal x0 x1 x2 x3 x4 xo5 y := by
  unfold out0_C_5 kernelRun0_C
  dsimp only
  rw [View.writes_append]
  have h0 : (y 0).val < 512 := (y 0).isLt
  refine (rows_apply arg2 harg2 arg3 harg3 arg4 harg4 arg5 harg5 arg6 harg6 arg7 harg7 x0 x1 x2 x3 x4 xo5 c i _ _ ?_ 8 le_rfl
    VO0_5 _ ?_ y).trans (if_pos (by omega))
  · exact sums_apply arg2 harg2 arg3 harg3 arg7 harg7 x0 x1 xo5 c arg7.view _
  · exact sums_apply arg2 harg2 arg3 harg3 arg7 harg7 x0 x1 xo5 c VO0_5 _

end Point

end Cert.DownIdeal.Block

end
-- ==== Proof.Down.lean ====
/-
  The down-projection as a whole: the weights its second operand holds, the blocks its points read, the sums a row tile's
  points run up, and the array they leave.
-/
module

public import proofs.«01_k».proof.Proof.DownBlock

@[expose] public section

set_option maxRecDepth 16384

noncomputable section

namespace Cert.Attention

open Idealize.ShloMosaic Idealize.ShloMosaic.ValueIdx

/-- An array of one axis read at a natural number, `0` outside it. -/
def at1 {n : ℕ} (x : (⟨1, ![n]⟩ : Shape).Idx → EReal) (a : ℕ) : EReal := if h : a < n then x (ix1 ⟨a, h⟩) else 0

theorem at1_of {n : ℕ} (x : (⟨1, ![n]⟩ : Shape).Idx → EReal) (i : (⟨1, ![n]⟩ : Shape).Idx) (a : ℕ) (h0 : (i 0).val = a) : x i = at1 x a := by
  subst h0
  unfold at1
  rw [dif_pos (show (i 0).val < n from (i 0).isLt)]
  exact congrArg x (eq_ix1 i)

/-- A sum over `a + b` shared coordinates is the sum over the first `a` and the sum over the rest. -/
theorem dot_add (a b : ℕ) (u v : ℕ → EReal) : dot (a + b) u v = dot a u v + dot b (fun j => u (a + j)) (fun j => v (a + j)) := by
  unfold dot
  rw [Fin.sum_univ_add]
  rfl

end Cert.Attention

namespace Cert.DownIdeal.Block

open Cert.DownIdeal Cert.DownIdeal.Gen Cert.Attention Idealize.ShloMosaic Idealize.ShloMosaic.ValueIdx
  Idealize.ShloMosaic.TcCoe Idealize.SL.Sem

/-- The rows of all experts' matrices: the routed ones, one after the other, the shared one, and one of zeros. -/
def weights (a : ℕ → ℕ → ℕ → EReal) (s : ℕ → ℕ → EReal) (k d : ℕ) : EReal :=
  if k < 16384 then a (k / 256) (k % 256) d else if k < 16640 then s (k - 16384) d else 0

/-- The operand the host builds from the two weight arguments. -/
def stacked (a : FVec Ideal S64x256x4096 .f32) (s : FVec Ideal S256x4096 .f32) : FVec Ideal S16896x4096 .bf16 :=
  concatenate S16896x4096 0
    [⟨S16384x4096, (truncf .bf16 (shapeCast S16384x4096 a shapeCasts_S64x256x4096_S16384x4096 : FVec Ideal S16384x4096 .f32) bitsLt_bf16_f32 : FVec Ideal S16384x4096 .bf16)⟩,
     ⟨S256x4096, (truncf .bf16 s bitsLt_bf16_f32 : FVec Ideal S256x4096 .bf16)⟩,
     ⟨S256x4096, (broadcastInDim S256x4096 ![] bcast_S_S256x4096 (constant (F := Ideal) S_ .bf16 0x0000#16) : FVec Ideal S256x4096 .bf16)⟩]
    concatenates_S16384x4096_S256x4096_S256x4096_S16896x4096_d0

/-- It holds the weights. -/
theorem stacked_apply (a : FVec Ideal S64x256x4096 .f32) (s : FVec Ideal S256x4096 .f32) (k : Fin 16896) (d : Fin 4096) :
    stacked a s (ix2 k d) = weights (at3 a) (at2 s) k d := by
  have hk := k.isLt
  unfold stacked weights
  by_cases h0 : k.val < 16384
  · rw [if_pos h0]
    refine (concatenate_apply_piece 0 _ _ (ix2 k d) 0 (by show 0 < 3; omega) S16384x4096 _ rfl rfl 0 rfl (ix2 ⟨k.val, h0⟩ d)
      (fun x hx => match x with | ⟨0, _⟩ => absurd rfl hx | ⟨1, _⟩ => rfl) (by show 0 + k.val = k.val; omega)).trans ?_
    rw [truncf_apply, shapeCast_apply a shapeCasts_S64x256x4096_S16384x4096 (ix2 ⟨k.val, h0⟩ d)
      (ix3 ⟨k.val / 256, by omega⟩ ⟨k.val % 256, by omega⟩ d) (by
        rw [Shape.rowMajor_val_three, Shape.rowMajor_val_two]
        show (k.val / 256 * 256 + k.val % 256) * 4096 + d.val = k.val * 4096 + d.val
        omega)]
    exact at3_of a _ _ _ _ rfl rfl rfl
  · rw [if_neg h0]
    by_cases h1 : k.val < 16640
    · rw [if_pos h1]
      refine (concatenate_apply_piece 0 _ _ (ix2 k d) 1 (by show 1 < 3; omega) S256x4096 _ rfl rfl 16384 rfl (ix2 ⟨k.val - 16384, by omega⟩ d)
        (fun x hx => match x with | ⟨0, _⟩ => absurd rfl hx | ⟨1, _⟩ => rfl) (by show 16384 + (k.val - 16384) = k.val; omega)).trans ?_
      rw [truncf_apply]
      exact at2_of s _ _ _ rfl rfl
    · rw [if_neg h1]
      refine (concatenate_apply_piece 0 _ _ (ix2 k d) 2 (by show 2 < 3; omega) S256x4096 _ rfl rfl 16640 rfl (ix2 ⟨k.val - 16640, by omega⟩ d)
        (fun x hx => match x with | ⟨0, _⟩ => absurd rfl hx | ⟨1, _⟩ => rfl) (by show 16640 + (k.val - 16640) = k.val; omega)).trans ?_
      rw [broadcastInDim_apply _ bcast_S_S256x4096 _ _ (fun x => x.elim0) (fun x => x.elim0)]
      show Ideal.ofBits .bf16 0x0000#16 = 0
      simp [Ideal.ofBits, Ideal.ieee]

/-- Which block each window reads or writes at point `t`: row tile `t / 33`, step `t % 33` of the shared coordinate. -/
theorem idx_facts : ∀ t : Fin cfg0.N,
    (win0_0.index t (0 : Fin 2) = t.val / 33 ∧ win0_0.index t (1 : Fin 2) = t.val % 33)
    ∧ (win0_1.index t (0 : Fin 2) = t.val % 33 ∧ win0_1.index t (1 : Fin 2) = 0)
    ∧ (win0_2.index t (0 : Fin 2) = t.val / 33 ∧ win0_2.index t (1 : Fin 2) = 0)
    ∧ (win0_3.index t (0 : Fin 3) = t.val / 33 / 4 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = t.val / 33 ∧ win0_5.index t (1 : Fin 2) = 0) :=
  (by decide +kernel : ∀ t : Fin grid0.N, _)

variable (m : (ℓ : Loc nD τ sig) → Buf (Elt Ideal) ℓ)

/-- The weights, from the arguments. -/
def weight (c : Dev nD) : ℕ → ℕ → EReal :=
  weights (at3 (n := 64) (p := 256) (q := 4096) (m ((c : Thread nD τ).loc main_arg1)))
    (at2 (n := 256) (p := 4096) (m ((c : Thread nD τ).loc main_arg2)))

/-- What the kernel's second operand holds when it starts. -/
theorem V_weight (c : Dev nD) (k d : ℕ) (hk : k < 16896) (hd : d < 4096) :
    at2 (n := 16896) (p := 4096) (V m c main_v4) k d = weight m c k d := by
  have hV : @Eq (FVec Ideal S16896x4096 .bf16) (V m c main_v4)
      (stacked (m ((c : Thread nD τ).loc main_arg1)) (m ((c : Thread nD τ).loc main_arg2))) := by
    show StableHlo.after hostOps0 _ _ = _
    after_results
    rfl
  rw [hV, ← at2_of (n := 16896) (p := 4096) _ (ix2 ⟨k, hk⟩ ⟨d, hd⟩) k d rfl rfl]
  exact stacked_apply _ _ ⟨k, hk⟩ ⟨d, hd⟩

/-- The normalisation's gain as the kernel reads it: the argument as one row. -/
theorem V_gain (c : Dev nD) (d : ℕ) (hd : d < 4096) :
    at2 (n := 1) (p := 4096) (V m c main_v5) 0 d = at1 (n := 4096) (m ((c : Thread nD τ).loc main_arg5)) d := by
  have hV : @Eq (FVec Ideal S1x4096 .f32) (V m c main_v5)
      (shapeCast S1x4096 (m ((c : Thread nD τ).loc main_arg5)) shapeCasts_S4096_S1x4096) := by
    show StableHlo.after hostOps0 _ _ = _
    after_results
    rfl
  rw [hV, ← at2_of (n := 1) (p := 4096) _ (ix2 0 ⟨d, hd⟩) 0 d rfl rfl,
    shapeCast_apply _ shapeCasts_S4096_S1x4096 (ix2 0 ⟨d, hd⟩) (ix1 ⟨d, hd⟩) (by
      rw [Shape.rowMajor_val_one, Shape.rowMajor_val_two]; show d = 0 * 4096 + d; omega)]
  exact at1_of (n := 4096) _ _ _ rfl

/-- The hidden layers point `t` reads. -/
theorem blk0_at (c : Dev nD) (t : Fin cfg0.N) (r e : ℕ) (hr : r < 512) (he : e < 512) :
    at2 (n := 512) (p := 512) (iblk m c 0 t) r e
      = at2 (n := 16384) (p := 16896) (m ((c : Thread nD τ).loc main_arg0)) (t.val / 33 * 512 + r) (512 * (t.val % 33) + e) := by
  obtain ⟨⟨f0, f1⟩, -⟩ := idx_facts t
  rw [← at2_of (n := 512) (p := 512) (iblk m c 0 t) (ix2 ⟨r, hr⟩ ⟨e, he⟩) r e rfl rfl]
  refine at2_of (n := 16384) (p := 16896) (m ((c : Thread nD τ).loc main_arg0)) ((win0_0.rect t).emb (ix2 ⟨r, hr⟩ ⟨e, he⟩)) _ _ ?_ ?_
  · rw [← f0]; exact win0_0.rect_emb_val t _ (0 : Fin 2)
  · refine (win0_0.rect_emb_val t _ (1 : Fin 2)).trans ?_
    rw [f1]; show t.val % 33 * 512 + e = 512 * (t.val % 33) + e; omega

/-- The weights point `t` reads: its step's rows. -/
theorem blk1_at (c : Dev nD) (t : Fin cfg0.N) (k d : ℕ) (hk : k < 512) (hd : d < 4096) :
    at2 (n := 512) (p := 4096) (iblk m c 1 t) k d = weight m c (512 * (t.val % 33) + k) d := by
  obtain ⟨-, ⟨f0, f1⟩, -⟩ := idx_facts t
  rw [← at2_of (n := 512) (p := 4096) (iblk m c 1 t) (ix2 ⟨k, hk⟩ ⟨d, hd⟩) k d rfl rfl]
  refine (at2_of (n := 16896) (p := 4096) (V m c main_v4) ((win0_1.rect t).emb (ix2 ⟨k, hk⟩ ⟨d, hd⟩)) (512 * (t.val % 33) + k) d ?_ ?_).trans
    (V_weight m c _ d (by omega) hd)
  · refine (win0_1.rect_emb_val t _ (0 : Fin 2)).trans ?_
    rw [f0]; show t.val % 33 * 512 + k = 512 * (t.val % 33) + k; omega
  · refine (win0_1.rect_emb_val t _ (1 : Fin 2)).trans ?_
    rw [f1]; show 0 * 4096 + d = d; omega

/-- The residual stream, the gate and the gain point `t` reads. -/
theorem blk2_at (c : Dev nD) (t : Fin cfg0.N) (y : S512x4096.Idx) :
    (iblk m c 2 t : S512x4096.Idx → EReal) y
      = at2 (n := 16384) (p := 4096) (m ((c : Thread nD τ).loc main_arg3)) (t.val / 33 * 512 + (y 0).val) (y 1).val := by
  obtain ⟨-, -, ⟨f0, f1⟩, -⟩ := idx_facts t
  refine at2_of (n := 16384) (p := 4096) (m ((c : Thread nD τ).loc main_arg3)) ((win0_2.rect t).emb y) _ _ ?_ ?_
  · rw [← f0]; exact win0_2.rect_emb_val t _ (0 : Fin 2)
  · refine (win0_2.rect_emb_val t _ (1 : Fin 2)).trans ?_
    rw [f1]; show 0 * 4096 + (y 1).val = (y 1).val; omega

theorem blk3_at (c : Dev nD) (t : Fin cfg0.N) (d : Fin 4096) :
    (iblk m c 3 t : S1x1x4096.Idx → EReal) (ix3 0 0 d)
      = at3 (n := 8) (p := 1) (q := 4096) (m ((c : Thread nD τ).loc main_arg4)) (t.val / 33 / 4) 0 d := by
  obtain ⟨-, -, -, ⟨f0, f1, f2⟩, -⟩ := idx_facts t
  refine at3_of (n := 8) (p := 1) (q := 4096) (m ((c : Thread nD τ).loc main_arg4)) ((win0_3.rect t).emb (ix3 0 0 d)) _ _ _ ?_ ?_ ?_
  · refine (win0_3.rect_emb_val t _ (0 : Fin 3)).trans ?_
    rw [f0]; show t.val / 33 / 4 * 1 + 0 = t.val / 33 / 4; omega
  · refine (win0_3.rect_emb_val t _ (1 : Fin 3)).trans ?_
    rw [f1]; rfl
  · refine (win0_3.rect_emb_val t _ (2 : Fin 3)).trans ?_
    rw [f2]; show 0 * 4096 + d.val = d.val; omega

theorem blk4_at (c : Dev nD) (t : Fin cfg0.N) (d : Fin 4096) :
    (iblk m c 4 t : S1x4096.Idx → EReal) (ix2 0 d) = at1 (n := 4096) (m ((c : Thread nD τ).loc main_arg5)) d := by
  obtain ⟨-, -, -, -, ⟨f0, f1⟩, -⟩ := idx_facts t
  refine (at2_of (n := 1) (p := 4096) (V m c main_v5) ((win0_4.rect t).emb (ix2 0 d)) 0 d ?_ ?_).trans (V_gain m c d d.isLt)
  · refine (win0_4.rect_emb_val t _ (0 : Fin 2)).trans ?_
    rw [f0]; rfl
  · refine (win0_4.rect_emb_val t _ (1 : Fin 2)).trans ?_
    rw [f1]; show 0 * 4096 + d.val = d.val; omega

/-- The product over the first `n` shared coordinates, at a row and a column. -/
def total (c : Dev nD) (n r d : ℕ) : EReal :=
  dot n (at2 (n := 16384) (p := 16896) (m ((c : Thread nD τ).loc main_arg0)) r) (fun k => weight m c k d)

/-- No coordinate, no product. -/
theorem total_zero (c : Dev nD) (r d : ℕ) : total m c 0 r d = 0 := by
  unfold total dot
  exact Finset.sum_empty

/-- What point `t` multiplies takes the sum 512 coordinates further. -/
theorem total_step (c : Dev nD) (t : Fin cfg0.N) (y : S512x4096.Idx) :
    total m c (512 * (t.val % 33) + 512) (t.val / 33 * 512 + (y 0).val) (y 1).val
      = total m c (512 * (t.val % 33)) (t.val / 33 * 512 + (y 0).val) (y 1).val + prod (iblk m c 0 t) (iblk m c 1 t) y := by
  have h0 : (y 0).val < 512 := (y 0).isLt
  have h1 : (y 1).val < 4096 := (y 1).isLt
  unfold total prod
  rw [dot_add]
  refine congrArg (fun a : EReal => _ + a) (dot_congr (fun k hk => ?_) fun k hk => ?_)
  · exact (blk0_at m c t _ k h0 hk).symm
  · exact (blk1_at m c t k _ hk h1).symm

/-- What stands after point `n` of a row tile other than its last. -/
theorem running (c : Dev nD) (n : ℕ) : ∀ (hn : n < cfg0.N), n % 33 ≠ 32 → ∀ y : S512x4096.Idx,
    outsAt0 m c n hn y = total m c (512 * (n % 33) + 512) (n / 33 * 512 + (y 0).val) (y 1).val := by
  induction n with
  | zero =>
    intro hn h2 y
    rw [outsAt0_A m c ⟨0, hn⟩ (by show 0 % 33 = 0; omega) (by show ¬ 1 ≤ 0 % 33; omega) (by show ¬ 0 % 33 = 32; omega)]
    refine (first_apply _ _ _ _ _ _ _ _ _ _ _ _ _ _ _ _ _ _ _ _ _ _ y).trans ?_
    refine Eq.trans ?_ (total_step m c ⟨0, hn⟩ y).symm
    rw [show 512 * ((⟨0, hn⟩ : Fin cfg0.N).val % 33) = 0 from rfl, total_zero, zero_add]
  | succ n ih =>
    intro hn h2 y
    by_cases h0 : (n + 1) % 33 = 0
    · rw [outsAt0_A m c ⟨n + 1, hn⟩ h0 (by show ¬ 1 ≤ (n + 1) % 33; omega) h2]
      refine (first_apply _ _ _ _ _ _ _ _ _ _ _ _ _ _ _ _ _ _ _ _ _ _ y).trans ?_
      refine Eq.trans ?_ (total_step m c ⟨n + 1, hn⟩ y).symm
      rw [show 512 * ((⟨n + 1, hn⟩ : Fin cfg0.N).val % 33) = 0 by show 512 * ((n + 1) % 33) = 0; omega, total_zero, zero_add]
    · rw [outsAt0_B m c ⟨n + 1, hn⟩ h0 (by show 1 ≤ (n + 1) % 33; omega) h2]
      refine (middle_apply _ _ _ _ _ _ _ _ _ _ _ _ _ _ _ _ _ _ _ _ _ _ _ y).trans ?_
      refine Eq.trans ?_ (total_step m c ⟨n + 1, hn⟩ y).symm
      refine congrArg (fun a : EReal => a + _) ((ih (Nat.lt_of_succ_lt hn) (by omega) y).trans ?_)
      show total m c (512 * (n % 33) + 512) (n / 33 * 512 + (y 0).val) (y 1).val
        = total m c (512 * ((n + 1) % 33)) ((n + 1) / 33 * 512 + (y 0).val) (y 1).val
      rw [show 512 * (n % 33) + 512 = 512 * ((n + 1) % 33) by omega, show n / 33 = (n + 1) / 33 by omega]

/-- What the result array is shown to hold. -/
def result (c : Dev nD) : Buf (Elt Ideal) ((c : Thread nD τ).loc main_v6) :=
  (fun i : S16384x4096.Idx => (post (fun l => total m c 16896 (i 0).val l)
    (at2 (n := 16384) (p := 4096) (m ((c : Thread nD τ).loc main_arg3)) (i 0).val (i 1).val)
    (at3 (n := 8) (p := 1) (q := 4096) (m ((c : Thread nD τ).loc main_arg4)) ((i 0).val / 2048) 0 (i 1).val)
    (at1 (n := 4096) (m ((c : Thread nD τ).loc main_arg5)) (i 1).val) (i 1).val : Elt Ideal .f32))

/-- What the last point of a row tile writes back is its block of the result. -/
theorem flushed_eq (c : Dev nD) (t : Fin cfg0.N) (ht : t.val % 33 = 32) :
    (dats m 0 c).flushed 5 t = ((cfg0.win 5).blk t).view.read (Elt Ideal) (result m c) := by
  rw [Value.flushed5_C m c t (by omega) (by omega) ht]
  funext y
  have h0 : (y 0).val < 512 := (y 0).isLt
  have h1 : (y 1).val < 4096 := (y 1).isLt
  have hN : t.val < 1056 := lt_of_lt_of_eq t.isLt N_0
  obtain ⟨-, -, -, -, -, ⟨f0, f1⟩⟩ := idx_facts t
  have e0 : (((win0_5.rect t).emb y 0 : Fin _) : ℕ) = t.val / 33 * 512 + (y 0).val := by
    rw [← f0]; exact win0_5.rect_emb_val t y (0 : Fin 2)
  have e1 : (((win0_5.rect t).emb y 1 : Fin _) : ℕ) = (y 1).val := by
    refine (win0_5.rect_emb_val t y (1 : Fin 2)).trans ?_
    rw [f1]; show 0 * 4096 + (y 1).val = (y 1).val; omega
  refine (last_apply _ _ _ _ _ _ _ _ _ _ _ _ _ _ _ _ _ _ _ _ _ _ _ y).trans ?_
  show _ = post (fun l => total m c 16896 (((win0_5.rect t).emb y 0 : Fin _) : ℕ) l)
    (at2 (n := 16384) (p := 4096) (m ((c : Thread nD τ).loc main_arg3)) (((win0_5.rect t).emb y 0 : Fin _) : ℕ) (((win0_5.rect t).emb y 1 : Fin _) : ℕ))
    (at3 (n := 8) (p := 1) (q := 4096) (m ((c : Thread nD τ).loc main_arg4)) ((((win0_5.rect t).emb y 0 : Fin _) : ℕ) / 2048) 0 (((win0_5.rect t).emb y 1 : Fin _) : ℕ))
    (at1 (n := 4096) (m ((c : Thread nD τ).loc main_arg5)) (((win0_5.rect t).emb y 1 : Fin _) : ℕ)) (((win0_5.rect t).emb y 1 : Fin _) : ℕ)
  rw [e0, e1]
  unfold normal
  refine post_congr h1 (fun l hl => ?_) (blk2_at m c t y) ((blk3_at m c t ⟨(y 1).val, h1⟩).trans ?_) (blk4_at m c t ⟨(y 1).val, h1⟩)
  · rw [← at2_of (n := 512) (p := 4096) _ (ix2 ⟨(y 0).val, h0⟩ ⟨l, hl⟩) _ _ rfl rfl]
    show _ + _ = _
    have hs := total_step m c t (ix2 ⟨(y 0).val, h0⟩ ⟨l, hl⟩)
    rw [show 512 * (t.val % 33) + 512 = 16896 by omega] at hs
    refine Eq.trans (congrArg (fun a : EReal => a + _) ?_) hs.symm
    refine (running m c (t.val - 1) _ (by omega) (ix2 ⟨(y 0).val, h0⟩ ⟨l, hl⟩)).trans ?_
    rw [show 512 * ((t.val - 1) % 33) + 512 = 512 * (t.val % 33) by omega, show (t.val - 1) / 33 = t.val / 33 by omega]
  · rw [show (t.val / 33 * 512 + (y 0).val) / 2048 = t.val / 33 / 4 by omega]

/-- Every index of the result array lies in the block of a point that is written back. -/
theorem cover (i : S16384x4096.Idx) :
    ∃ t : Fin cfg0.N, (cfg0.win 5).flush t = true ∧ i ∈ ((cfg0.win 5).blk t).view.set := by
  have h0 : (i 0).val < 16384 := (i 0).isLt
  have h1 : (i 1).val < 4096 := (i 1).isLt
  have hN : cfg0.N = 1056 := N_0
  have ht : (i 0).val / 512 * 33 + 32 < cfg0.N := by omega
  refine ⟨⟨_, ht⟩, (flush0_5 _).mpr (by show ((i 0).val / 512 * 33 + 32) % 33 = 32; omega), ?_⟩
  obtain ⟨-, -, -, -, -, ⟨f0, f1⟩⟩ := idx_facts ⟨_, ht⟩
  have g0 : win0_5.index ⟨_, ht⟩ (0 : Fin 2) = (i 0).val / 512 := by rw [f0]; dsimp only; omega
  show i ∈ ((View.whole main_v6).slice (win0_5.rect ⟨_, ht⟩)).set
  rw [View.set_slice_whole, Rect.mem_set_unit]
  intro a
  match a with
  | ⟨0, _⟩ =>
    show win0_5.index ⟨_, ht⟩ (0 : Fin 2) * 512 ≤ (i 0).val ∧ (i 0).val < win0_5.index ⟨_, ht⟩ (0 : Fin 2) * 512 + 512
    rw [g0]; omega
  | ⟨1, _⟩ =>
    show win0_5.index ⟨_, ht⟩ (1 : Fin 2) * 4096 ≤ (i 1).val ∧ (i 1).val < win0_5.index ⟨_, ht⟩ (1 : Fin 2) * 4096 + 4096
    rw [f1]; omega

/-- So the array ends holding the result. -/
theorem final (c : Dev nD) : (dats m 0 c).arrAt 5 cfg0.N = result m c :=
  (dats m 0 c).arrAt_eq_of_cover 5 (result m c) (fun t hf => flushed_eq m c t ((flush0_5 t).mp hf)) cover

end Cert.DownIdeal.Block

end
-- ==== Proof.DownValue.lean ====
/-
  The down-projection's reference: what it computes at an index, and that the kernel's array holds just that.
-/
module

public import proofs.«01_k».proof.Proof.Down
public import proofs.«01_k».proof.Proof.Gen.DownRefIdeal.Read
public import Idealize.ShloMosaic.Lib.TwoAxisContraction

@[expose] public section

set_option maxRecDepth 16384

noncomputable section

namespace Cert.Attention

/-- A sum over pairs is a sum over the one coordinate that counts them row by row. -/
theorem dot_pairs (p q : ℕ) (u v : ℕ → EReal) :
    ∑ a : Fin p, ∑ b : Fin q, u (b + q * a) * v (b + q * a) = dot (p * q) u v := by
  unfold dot
  rw [← Fintype.sum_prod_type' (fun (a : Fin p) (b : Fin q) => u (b + q * a) * v (b + q * a)), ← finProdFinEquiv.sum_comp]
  rfl

end Cert.Attention

namespace Cert.DownRefIdeal.Joined

open Cert.DownRefIdeal Cert.DownRefIdeal.Gen Cert.DownRefIdeal.Read Cert.Attention Cert.DownIdeal.Block Idealize.ShloMosaic
  Idealize.ShloMosaic.ValueIdx

variable (h : FVec Ideal S16384x16896 .bf16) (a : FVec Ideal S64x256x4096 .f32) (s : FVec Ideal S256x4096 .f32)
  (x : FVec Ideal S16384x4096 .f32) (g : FVec Ideal S8x1x4096 .f32) (w : FVec Ideal S4096 .f32)

/-- The routed experts' part: the sum over the experts and their coordinates. -/
theorem routed_apply (r : Fin 16384) (d : Fin 4096) :
    val_main_v5 (F := Ideal) h a (ix2 r d) = dot 16384 (at2 h r) (fun k => weights (at3 a) (at2 s) k d) := by
  unfold val_main_v5
  simp only [Host.dotGeneral]
  rw [Ideal.dotGeneral_apply, sum_contr2 dot_S16384x64x256_S64x256x4096_S16384x4096_12_01_0_2_n_n 64 256 rfl rfl rfl]
  refine Eq.trans ?_ (dot_pairs 64 256 (at2 h r) (fun k => weights (at3 a) (at2 s) k d))
  refine Finset.sum_congr rfl fun e _ => Finset.sum_congr rfl fun f _ => congrArg₂ (fun a b : EReal => a * b) ?_ ?_
  · have hr := r.isLt
    have he := e.isLt
    have hf := f.isLt
    have hl : dot_S16384x64x256_S64x256x4096_S16384x4096_12_01_0_2_n_n.lhsIdx (ix2 r d)
        ((contrEquiv2 dot_S16384x64x256_S64x256x4096_S16384x4096_12_01_0_2_n_n 64 256 rfl rfl rfl).symm (e, f)) = ix3 r e f :=
      funext fun x => Fin.ext (by
        match x with
        | ⟨0, _⟩ => rfl
        | ⟨1, _⟩ => exact contrEquiv2_symm_val0 dot_S16384x64x256_S64x256x4096_S16384x4096_12_01_0_2_n_n 64 256 rfl rfl rfl (e, f)
        | ⟨2, _⟩ => exact contrEquiv2_symm_val1 dot_S16384x64x256_S64x256x4096_S16384x4096_12_01_0_2_n_n 64 256 rfl rfl rfl (e, f))
    rw [hl, val_main_v2_apply, val_main_v1_apply, val_main_v0_apply]
    refine at2_of h _ _ _ ?_ ?_
    · show ((r.val * 64 + e.val) * 256 + f.val) / 16384 = r.val
      omega
    · show ((r.val * 64 + e.val) * 256 + f.val) % 16384 = f.val + 256 * e.val
      omega
  · have he := e.isLt
    have hf := f.isLt
    have hl : dot_S16384x64x256_S64x256x4096_S16384x4096_12_01_0_2_n_n.rhsIdx (ix2 r d)
        ((contrEquiv2 dot_S16384x64x256_S64x256x4096_S16384x4096_12_01_0_2_n_n 64 256 rfl rfl rfl).symm (e, f)) = ix3 e f d :=
      funext fun x => Fin.ext (by
        match x with
        | ⟨0, _⟩ => exact contrEquiv2_symm_val0 dot_S16384x64x256_S64x256x4096_S16384x4096_12_01_0_2_n_n 64 256 rfl rfl rfl (e, f)
        | ⟨1, _⟩ => exact contrEquiv2_symm_val1 dot_S16384x64x256_S64x256x4096_S16384x4096_12_01_0_2_n_n 64 256 rfl rfl rfl (e, f)
        | ⟨2, _⟩ => rfl)
    rw [hl]
    unfold weights
    rw [if_pos (show f.val + 256 * e.val < 16384 by omega)]
    exact at3_of a _ _ _ _ (show e.val = (f.val + 256 * e.val) / 256 by omega) (show f.val = (f.val + 256 * e.val) % 256 by omega) rfl

/-- The shared expert's part. -/
theorem shared_apply (r : Fin 16384) (d : Fin 4096) :
    val_main_v6 (F := Ideal) h s (ix2 r d)
      = dot 256 (fun k => at2 h r (16384 + k)) (fun k => weights (at3 a) (at2 s) (16384 + k) d) := by
  rw [val_main_v6_apply]
  unfold dot
  refine Finset.sum_congr rfl fun k _ => congrArg₂ (fun a b : EReal => a * b) ?_ ?_
  · rw [val_main_v4_apply, val_main_v3_apply]
    exact at2_of h _ _ _ rfl rfl
  · have hk := k.isLt
    show _ = weights (at3 a) (at2 s) (16384 + k) d
    unfold weights
    rw [if_neg (show ¬ 16384 + k.val < 16384 by omega), if_pos (show 16384 + k.val < 16640 by omega)]
    exact at2_of s _ _ _ (show k.val = 16384 + k.val - 16384 by omega) rfl

/-- Together: the sum over all hidden coordinates, the last 256 of which meet zeros. -/
theorem joined_apply (r : Fin 16384) (d : Fin 4096) :
    val_main_v7 (F := Ideal) h a s (ix2 r d) = dot 16896 (at2 h r) (fun k => weights (at3 a) (at2 s) k d) := by
  rw [val_main_v7_apply, routed_apply h a s, shared_apply h a s]
  refine Eq.symm ((dot_add 16640 256 _ _).trans ?_)
  have hz : dot 256 (fun j => at2 h r (16640 + j)) (fun j => weights (at3 a) (at2 s) (16640 + j) d) = 0 := by
    unfold dot weights
    refine Finset.sum_eq_zero fun k _ => ?_
    dsimp only
    rw [if_neg (show ¬ 16640 + k.val < 16384 by omega), if_neg (show ¬ 16640 + k.val < 16640 by omega), mul_zero]
  rw [hz, add_zero]
  exact dot_add 16384 256 _ _

/-- The normalised sum times the gain. -/
theorem normal_apply (r : Fin 16384) (d : Fin 4096) :
    val_main_v21 (F := Ideal) h a s w (ix2 r d)
      = dot 16896 (at2 h r) (fun k => weights (at3 a) (at2 s) k d)
        * Ideal.rsqrt (Ideal.div (∑ l : Fin 4096, dot 16896 (at2 h r) (fun k => weights (at3 a) (at2 s) k l)
            * dot 16896 (at2 h r) (fun k => weights (at3 a) (at2 s) k l)) (Ideal.ofBits .f32 0x45800000#32)
          + Ideal.ofBits .f32 0x358637BD#32) * at1 w d := by
  have hs : ∀ i : S16384.Idx, i 0 = r → val_main_v10 (F := Ideal) h a s i
      = ∑ l : Fin 4096, dot 16896 (at2 h r) (fun k => weights (at3 a) (at2 s) k l) * dot 16896 (at2 h r) (fun k => weights (at3 a) (at2 s) k l) := by
    intro i hi
    rw [val_main_v10_apply, val_main_cst_apply]
    refine (congrArg (fun z : EReal => z + _) Ideal.ofBits_zero_f32).trans ((zero_add _).trans ?_)
    refine Finset.sum_congr rfl fun l _ => ?_
    have hl : idx_main_v10 i l = ix2 r l := funext fun x => Fin.ext (by
      match x with
      | ⟨0, _⟩ => exact congrArg Fin.val hi
      | ⟨1, _⟩ => rfl)
    rw [val_main_v9_apply, hl, joined_apply]
    rfl
  rw [val_main_v21_apply, val_main_v18_apply, joined_apply, val_main_v17_apply, val_main_v16_apply, val_main_v15_apply,
    val_main_v13_apply, val_main_v11_apply, hs _ rfl, val_main_v12_apply, val_main_v14_apply, val_main_cst_0_apply, val_main_cst_1_apply,
    val_main_v20_apply, val_main_v19_apply, at1_of w _ d rfl]
  rfl

/-- The reference's result at an index. -/
theorem result_apply (r : Fin 16384) (d : Fin 4096) :
    val_main_v26 (F := Ideal) h a s x g w (ix2 r d)
      = post (fun l => dot 16896 (at2 h r) (fun k => weights (at3 a) (at2 s) k l)) (at2 x r d) (at3 g (r.val / 2048) 0 d) (at1 w d) d := by
  have hr := r.isLt
  have hd := d.isLt
  have h8 : idx_main_v8 (idx_main_v26 (ix2 r d)) = ix2 r d := Shape.idx_ext₂ (y := ix2 r d)
    (by show (((r.val * 4096 + d.val) / 8388608 * 2048 + (r.val * 4096 + d.val) / 4096 % 2048) * 4096 + (r.val * 4096 + d.val) % 4096) / 4096 = r.val; omega)
    (by show (((r.val * 4096 + d.val) / 8388608 * 2048 + (r.val * 4096 + d.val) / 4096 % 2048) * 4096 + (r.val * 4096 + d.val) % 4096) % 4096 = d.val; omega)
  have h22 : idx_main_v22 (idx_main_v26 (ix2 r d)) = ix2 r d := h8
  rw [val_main_v26_apply, val_main_v25_apply, val_main_v8_apply, h8, val_main_v24_apply, val_main_v23_apply, val_main_v22_apply, h22,
    normal_apply, at2_of x _ r.val d.val rfl rfl,
    at3_of g _ (r.val / 2048) 0 d.val (by show (r.val * 4096 + d.val) / 8388608 = r.val / 2048; omega) rfl
      (by show (r.val * 4096 + d.val) % 4096 = d.val; omega)]
  rfl

end Cert.DownRefIdeal.Joined

namespace Cert.DownIdeal.Block

open Cert.DownIdeal Cert.DownIdeal.Gen Cert.Attention Idealize.ShloMosaic Idealize.ShloMosaic.ValueIdx
  Idealize.ShloMosaic.TcCoe Idealize.SL.Sem

variable (m : (ℓ : Loc nD τ sig) → Buf (Elt Ideal) ℓ)

/-- The reference's result is the kernel's, at an index. -/
theorem reference_eq (c : Dev nD) (i : S16384x4096.Idx) :
    Cert.DownRefIdeal.Read.val_main_v26 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) i = result m c i :=
  (congrArg _ (eq_ix2 i)).trans (Cert.DownRefIdeal.Joined.result_apply _ _ _ _ _ _ (i 0) (i 1))

end Cert.DownIdeal.Block

end
-- ==== Proof.Project.lean ====
/-
  The projection of the latent tokens in the attention layer: each grid point multiplies a tile of rows with a tile of columns, the tiles
  cover the result array, and the reference's product is the same sum.
-/
module

public import proofs.«01_k».proof.Proof.Products
public import proofs.«01_k».proof.Proof.Gen.ProjectIdeal.Value
public import proofs.«01_k».proof.Proof.Gen.ProjectRefIdeal.Read

@[expose] public section

set_option maxRecDepth 16384

noncomputable section

namespace Cert.ProjectIdeal.Block

open Cert.ProjectIdeal Cert.ProjectIdeal.Gen Cert.Attention Idealize.ShloMosaic Idealize.ShloMosaic.ValueIdx
  Idealize.ShloMosaic.TcCoe Idealize.SL.Sem

/-- What a point leaves in its output block: its rows times its columns. -/
theorem out_apply (x : Vec Ideal S1024x4096 .bf16) (w : Vec Ideal S4096x512 .bf16) (y : S1024x512.Idx) :
    out0_2 (F := Ideal) x w y = dot 4096 (at2 x (y 0)) (fun j => at2 w j (y 1)) := by
  unfold out0_2
  rw [View.ld_unit_zero (S := S1024x4096) origin2, View.ld_unit_zero (S := S4096x512) origin2]
  refine View.canon_apply_of_pieces (Val := Elt Ideal) (fun y : S1024x512.Idx => (dot 4096 (at2 x (y 0)) (fun j => at2 w j (y 1)) : Elt Ideal .bf16))
    _ ?_ y (cover0_2 _ y)
  intro p hp z
  simp only [List.mem_singleton] at hp
  subst hp
  have e0 : ((r0_2.emb z 0 : Fin _) : ℕ) = (z 0).val := by rw [Rect.emb_apply]; show 0 + 1 * (z 0).val = _; omega
  have e1 : ((r0_2.emb z 1 : Fin _) : ℕ) = (z 1).val := by rw [Rect.emb_apply]; show 0 + 1 * (z 1).val = _; omega
  show k0_pay1 x w z = dot 4096 (at2 x ((r0_2.emb z 0 : Fin _) : ℕ)) (fun j => at2 w j ((r0_2.emb z 1 : Fin _) : ℕ))
  rw [e0, e1]
  unfold k0_pay1
  dsimp only
  rw [truncf_apply, shapeCast_self]
  refine (congrArg _ (eq_ix2 z)).trans ?_
  exact product_apply x w (z 0) (z 1)

/-- Which block each window reads or writes at point `t`: row tile `t / 18`, column tile `t % 18`. -/
theorem idx_facts : ∀ t : Fin cfg0.N,
    (win0_0.index t (0 : Fin 2) = t.val / 18 ∧ win0_0.index t (1 : Fin 2) = 0)
    ∧ (win0_1.index t (0 : Fin 2) = 0 ∧ win0_1.index t (1 : Fin 2) = t.val % 18)
    ∧ (win0_2.index t (0 : Fin 2) = t.val / 18 ∧ win0_2.index t (1 : Fin 2) = t.val % 18) :=
  (by decide +kernel : ∀ t : Fin grid0.N, _)

variable (m : (ℓ : Loc nD τ sig) → Buf (Elt Ideal) ℓ)

/-- The weights, as the kernel's second operand holds them. -/
def weight (c : Dev nD) (r e : ℕ) : EReal := at2 (n := 4096) (p := 9216) (m ((c : Thread nD τ).loc main_arg1)) r e

/-- The host's conversion leaves the weights what they are. -/
theorem V_weight (c : Dev nD) (r e : ℕ) (_ : r < 4096) (_ : e < 9216) :
    at2 (n := 4096) (p := 9216) (V m c main_v0) r e = weight m c r e := by
  have hV : @Eq (FVec Ideal S4096x9216 .bf16) (V m c main_v0)
      (truncf .bf16 (m ((c : Thread nD τ).loc main_arg1) : FVec Ideal S4096x9216 .f32) bitsLt_bf16_f32) := by
    show StableHlo.after hostOps0 _ _ = _
    after_results
  rw [hV]
  rfl

/-- The rows point `t` reads, in the array. -/
theorem blk0_at (c : Dev nD) (t : Fin cfg0.N) (r e : ℕ) (hr : r < 1024) (he : e < 4096) :
    at2 (n := 1024) (p := 4096) (iblk m c 0 t) r e
      = at2 (n := 16384) (p := 4096) (m ((c : Thread nD τ).loc main_arg0)) (t.val / 18 * 1024 + r) e := by
  obtain ⟨⟨f0, f1⟩, -⟩ := idx_facts t
  rw [← at2_of (n := 1024) (p := 4096) (iblk m c 0 t) (ix2 ⟨r, hr⟩ ⟨e, he⟩) r e rfl rfl]
  refine at2_of (n := 16384) (p := 4096) (m ((c : Thread nD τ).loc main_arg0)) ((win0_0.rect t).emb (ix2 ⟨r, hr⟩ ⟨e, he⟩)) _ _ ?_ ?_
  · rw [← f0]; exact win0_0.rect_emb_val t _ (0 : Fin 2)
  · refine (win0_0.rect_emb_val t _ (1 : Fin 2)).trans ?_
    rw [f1]; show 0 * 4096 + e = e; omega

/-- The columns point `t` reads, in the weights. -/
theorem blk1_at (c : Dev nD) (t : Fin cfg0.N) (r e : ℕ) (hr : r < 4096) (he : e < 512) :
    at2 (n := 4096) (p := 512) (iblk m c 1 t) r e = weight m c r (t.val % 18 * 512 + e) := by
  obtain ⟨-, ⟨f0, f1⟩, -⟩ := idx_facts t
  rw [← at2_of (n := 4096) (p := 512) (iblk m c 1 t) (ix2 ⟨r, hr⟩ ⟨e, he⟩) r e rfl rfl]
  refine (at2_of (n := 4096) (p := 9216) (V m c main_v0) ((win0_1.rect t).emb (ix2 ⟨r, hr⟩ ⟨e, he⟩)) r (t.val % 18 * 512 + e) ?_ ?_).trans (V_weight m c r _ hr (by omega))
  · refine (win0_1.rect_emb_val t _ (0 : Fin 2)).trans ?_
    rw [f0]; show 0 * 4096 + r = r; omega
  · rw [← f1]; exact win0_1.rect_emb_val t _ (1 : Fin 2)

/-- What the result array is shown to hold. -/
def result (c : Dev nD) : Buf (Elt Ideal) ((c : Thread nD τ).loc main_v1) :=
  (fun i : S16384x9216.Idx => (dot 4096 (at2 (n := 16384) (p := 4096) (m ((c : Thread nD τ).loc main_arg0)) (i 0))
    (fun j => weight m c j (i 1)) : Elt Ideal .bf16))

/-- What point `t` writes back is its block of the result. -/
theorem flushed_eq (c : Dev nD) (t : Fin cfg0.N) :
    (dats m 0 c).flushed 2 t = ((cfg0.win 2).blk t).view.read (Elt Ideal) (result m c) := by
  rw [Value.flushed2]
  funext y
  have h0 : (y 0).val < 1024 := (y 0).isLt
  have h1 : (y 1).val < 512 := (y 1).isLt
  obtain ⟨-, -, f0, f1⟩ := idx_facts t
  have e0 : (((win0_2.rect t).emb y 0 : Fin _) : ℕ) = t.val / 18 * 1024 + (y 0).val := by
    rw [← f0]; exact win0_2.rect_emb_val t y (0 : Fin 2)
  have e1 : (((win0_2.rect t).emb y 1 : Fin _) : ℕ) = t.val % 18 * 512 + (y 1).val := by
    rw [← f1]; exact win0_2.rect_emb_val t y (1 : Fin 2)
  refine (out_apply (iblk m c 0 t) (iblk m c 1 t) y).trans ?_
  show _ = dot 4096 (at2 (n := 16384) (p := 4096) (m ((c : Thread nD τ).loc main_arg0)) (((win0_2.rect t).emb y 0 : Fin _) : ℕ))
    (fun j => weight m c j (((win0_2.rect t).emb y 1 : Fin _) : ℕ))
  rw [e0, e1]
  exact dot_congr (fun j hj => blk0_at m c t _ j h0 hj) (fun j hj => blk1_at m c t j _ hj h1)

/-- Every index of the result array lies in the block of a point that is written back. -/
theorem cover (i : S16384x9216.Idx) :
    ∃ t : Fin cfg0.N, (cfg0.win 2).flush t = true ∧ i ∈ ((cfg0.win 2).blk t).view.set := by
  have h0 : (i 0).val < 16384 := (i 0).isLt
  have h1 : (i 1).val < 9216 := (i 1).isLt
  have hN : cfg0.N = 288 := N_0
  have ht : (i 0).val / 1024 * 18 + (i 1).val / 512 < cfg0.N := by omega
  refine ⟨⟨_, ht⟩, flush0_2 _, ?_⟩
  obtain ⟨-, -, f0, f1⟩ := idx_facts ⟨_, ht⟩
  have g0 : win0_2.index ⟨_, ht⟩ (0 : Fin 2) = (i 0).val / 1024 := by rw [f0]; dsimp only; omega
  have g1 : win0_2.index ⟨_, ht⟩ (1 : Fin 2) = (i 1).val / 512 := by rw [f1]; dsimp only; omega
  show i ∈ ((View.whole main_v1).slice (win0_2.rect ⟨_, ht⟩)).set
  rw [View.set_slice_whole, Rect.mem_set_unit]
  intro a
  match a with
  | ⟨0, _⟩ =>
    show win0_2.index ⟨_, ht⟩ (0 : Fin 2) * 1024 ≤ (i 0).val ∧ (i 0).val < win0_2.index ⟨_, ht⟩ (0 : Fin 2) * 1024 + 1024
    rw [g0]; omega
  | ⟨1, _⟩ =>
    show win0_2.index ⟨_, ht⟩ (1 : Fin 2) * 512 ≤ (i 1).val ∧ (i 1).val < win0_2.index ⟨_, ht⟩ (1 : Fin 2) * 512 + 512
    rw [g1]; omega

/-- So the array ends holding the product. -/
theorem final (c : Dev nD) : (dats m 0 c).arrAt 2 cfg0.N = result m c :=
  (dats m 0 c).arrAt_eq_of_cover 2 (result m c) (fun t _ => flushed_eq m c t) cover

/-- The reference's product, at an index. -/
theorem reference_eq (c : Dev nD) (i : S16384x9216.Idx) :
    Cert.ProjectRefIdeal.Read.val_main_v2 (F := Ideal) (m ((c : Thread nD τ).loc main_arg0)) (m ((c : Thread nD τ).loc main_arg1)) i
      = result m c i := by
  rw [Cert.ProjectRefIdeal.Read.val_main_v2_apply]
  refine (Cert.ProjectRefIdeal.Read.val_main_v1_apply _ _ i).trans ?_
  show _ = dot 4096 (at2 (n := 16384) (p := 4096) (m ((c : Thread nD τ).loc main_arg0)) (i 0)) (fun j => weight m c j (i 1))
  unfold dot
  refine Finset.sum_congr rfl fun k _ => congrArg₂ (fun a b : EReal => a * b) ?_ ?_
  · exact at2_of (n := 16384) (p := 4096) (m ((c : Thread nD τ).loc main_arg0)) _ _ _ rfl rfl
  · exact at2_of (n := 4096) (p := 9216) (m ((c : Thread nD τ).loc main_arg1)) _ _ _ rfl rfl

end Cert.ProjectIdeal.Block

end
-- ==== Proof.Mix.lean ====
/-
  The projection of the latent tokens in the mixing layer: each grid point multiplies a tile of rows with a tile of columns, the tiles
  cover the result array, and the reference's product is the same sum.
-/
module

public import proofs.«01_k».proof.Proof.Products
public import proofs.«01_k».proof.Proof.Gen.MixIdeal.Value
public import proofs.«01_k».proof.Proof.Gen.MixRefIdeal.Read

@[expose] public section

set_option maxRecDepth 16384

noncomputable section

namespace Cert.MixIdeal.Block

open Cert.MixIdeal Cert.MixIdeal.Gen Cert.Attention Idealize.ShloMosaic Idealize.ShloMosaic.ValueIdx
  Idealize.ShloMosaic.TcCoe Idealize.SL.Sem

/-- What a point leaves in its output block: its rows times its columns. -/
theorem out_apply (x : Vec Ideal S1024x4096 .bf16) (w : Vec Ideal S4096x512 .bf16) (y : S1024x512.Idx) :
    out0_2 (F := Ideal) x w y = dot 4096 (at2 x (y 0)) (fun j => at2 w j (y 1)) := by
  unfold out0_2
  rw [View.ld_unit_zero (S := S1024x4096) origin2, View.ld_unit_zero (S := S4096x512) origin2]
  refine View.canon_apply_of_pieces (Val := Elt Ideal) (fun y : S1024x512.Idx => (dot 4096 (at2 x (y 0)) (fun j => at2 w j (y 1)) : Elt Ideal .bf16))
    _ ?_ y (cover0_2 _ y)
  intro p hp z
  simp only [List.mem_singleton] at hp
  subst hp
  have e0 : ((r0_2.emb z 0 : Fin _) : ℕ) = (z 0).val := by rw [Rect.emb_apply]; show 0 + 1 * (z 0).val = _; omega
  have e1 : ((r0_2.emb z 1 : Fin _) : ℕ) = (z 1).val := by rw [Rect.emb_apply]; show 0 + 1 * (z 1).val = _; omega
  show k0_pay1 x w z = dot 4096 (at2 x ((r0_2.emb z 0 : Fin _) : ℕ)) (fun j => at2 w j ((r0_2.emb z 1 : Fin _) : ℕ))
  rw [e0, e1]
  unfold k0_pay1
  dsimp only
  rw [truncf_apply, shapeCast_self]
  refine (congrArg _ (eq_ix2 z)).trans ?_
  exact product_apply x w (z 0) (z 1)

/-- Which block each window reads or writes at point `t`: row tile `t / 20`, column tile `t % 20`. -/
theorem idx_facts : ∀ t : Fin cfg0.N,
    (win0_0.index t (0 : Fin 2) = t.val / 20 ∧ win0_0.index t (1 : Fin 2) = 0)
    ∧ (win0_1.index t (0 : Fin 2) = 0 ∧ win0_1.index t (1 : Fin 2) = t.val % 20)
    ∧ (win0_2.index t (0 : Fin 2) = t.val / 20 ∧ win0_2.index t (1 : Fin 2) = t.val % 20) :=
  (by decide +kernel : ∀ t : Fin grid0.N, _)

variable (m : (ℓ : Loc nD τ sig) → Buf (Elt Ideal) ℓ)

/-- The weights, as the kernel's second operand holds them. -/
def weight (c : Dev nD) (r e : ℕ) : EReal := at2 (n := 4096) (p := 10240) (m ((c : Thread nD τ).loc main_arg1)) r e

/-- The host's conversion leaves the weights what they are. -/
theorem V_weight (c : Dev nD) (r e : ℕ) (_ : r < 4096) (_ : e < 10240) :
    at2 (n := 4096) (p := 10240) (V m c main_v0) r e = weight m c r e := by
  have hV : @Eq (FVec Ideal S4096x10240 .bf16) (V m c main_v0)
      (truncf .bf16 (m ((c : Thread nD τ).loc main_arg1) : FVec Ideal S4096x10240 .f32) bitsLt_bf16_f32) := by
    show StableHlo.after hostOps0 _ _ = _
    after_results
  rw [hV]
  rfl

/-- The rows point `t` reads, in the array. -/
theorem blk0_at (c : Dev nD) (t : Fin cfg0.N) (r e : ℕ) (hr : r < 1024) (he : e < 4096) :
    at2 (n := 1024) (p := 4096) (iblk m c 0 t) r e
      = at2 (n := 16384) (p := 4096) (m ((c : Thread nD τ).loc main_arg0)) (t.val / 20 * 1024 + r) e := by
  obtain ⟨⟨f0, f1⟩, -⟩ := idx_facts t
  rw [← at2_of (n := 1024) (p := 4096) (iblk m c 0 t) (ix2 ⟨r, hr⟩ ⟨e, he⟩) r e rfl rfl]
  refine at2_of (n := 16384) (p := 4096) (m ((c : Thread nD τ).loc main_arg0)) ((win0_0.rect t).emb (ix2 ⟨r, hr⟩ ⟨e, he⟩)) _ _ ?_ ?_
  · rw [← f0]; exact win0_0.rect_emb_val t _ (0 : Fin 2)
  · refine (win0_0.rect_emb_val t _ (1 : Fin 2)).trans ?_
    rw [f1]; show 0 * 4096 + e = e; omega

/-- The columns point `t` reads, in the weights. -/
theorem blk1_at (c : Dev nD) (t : Fin cfg0.N) (r e : ℕ) (hr : r < 4096) (he : e < 512) :
    at2 (n := 4096) (p := 512) (iblk m c 1 t) r e = weight m c r (t.val % 20 * 512 + e) := by
  obtain ⟨-, ⟨f0, f1⟩, -⟩ := idx_facts t
  rw [← at2_of (n := 4096) (p := 512) (iblk m c 1 t) (ix2 ⟨r, hr⟩ ⟨e, he⟩) r e rfl rfl]
  refine (at2_of (n := 4096) (p := 10240) (V m c main_v0) ((win0_1.rect t).emb (ix2 ⟨r, hr⟩ ⟨e, he⟩)) r (t.val % 20 * 512 + e) ?_ ?_).trans (V_weight m c r _ hr (by omega))
  · refine (win0_1.rect_emb_val t _ (0 : Fin 2)).trans ?_
    rw [f0]; show 0 * 4096 + r = r; omega
  · rw [← f1]; exact win0_1.rect_emb_val t _ (1 : Fin 2)

/-- What the result array is shown to hold. -/
def result (c : Dev nD) : Buf (Elt Ideal) ((c : Thread nD τ).loc main_v1) :=
  (fun i : S16384x10240.Idx => (dot 4096 (at2 (n := 16384) (p := 4096) (m ((c : Thread nD τ).loc main_arg0)) (i 0))
    (fun j => weight m c j (i 1)) : Elt Ideal .bf16))

/-- What point `t` writes back is its block of the result. -/
theorem flushed_eq (c : Dev nD) (t : Fin cfg0.N) :
    (dats m 0 c).flushed 2 t = ((cfg0.win 2).blk t).view.read (Elt Ideal) (result m c) := by
  rw [Value.flushed2]
  funext y
  have h0 : (y 0).val < 1024 := (y 0).isLt
  have h1 : (y 1).val < 512 := (y 1).isLt
  obtain ⟨-, -, f0, f1⟩ := idx_facts t
  have e0 : (((win0_2.rect t).emb y 0 : Fin _) : ℕ) = t.val / 20 * 1024 + (y 0).val := by
    rw [← f0]; exact win0_2.rect_emb_val t y (0 : Fin 2)
  have e1 : (((win0_2.rect t).emb y 1 : Fin _) : ℕ) = t.val % 20 * 512 + (y 1).val := by
    rw [← f1]; exact win0_2.rect_emb_val t y (1 : Fin 2)
  refine (out_apply (iblk m c 0 t) (iblk m c 1 t) y).trans ?_
  show _ = dot 4096 (at2 (n := 16384) (p := 4096) (m ((c : Thread nD τ).loc main_arg0)) (((win0_2.rect t).emb y 0 : Fin _) : ℕ))
    (fun j => weight m c j (((win0_2.rect t).emb y 1 : Fin _) : ℕ))
  rw [e0, e1]
  exact dot_congr (fun j hj => blk0_at m c t _ j h0 hj) (fun j hj => blk1_at m c t j _ hj h1)

/-- Every index of the result array lies in the block of a point that is written back. -/
theorem cover (i : S16384x10240.Idx) :
    ∃ t : Fin cfg0.N, (cfg0.win 2).flush t = true ∧ i ∈ ((cfg0.win 2).blk t).view.set := by
  have h0 : (i 0).val < 16384 := (i 0).isLt
  have h1 : (i 1).val < 10240 := (i 1).isLt
  have hN : cfg0.N = 320 := N_0
  have ht : (i 0).val / 1024 * 20 + (i 1).val / 512 < cfg0.N := by omega
  refine ⟨⟨_, ht⟩, flush0_2 _, ?_⟩
  obtain ⟨-, -, f0, f1⟩ := idx_facts ⟨_, ht⟩
  have g0 : win0_2.index ⟨_, ht⟩ (0 : Fin 2) = (i 0).val / 1024 := by rw [f0]; dsimp only; omega
  have g1 : win0_2.index ⟨_, ht⟩ (1 : Fin 2) = (i 1).val / 512 := by rw [f1]; dsimp only; omega
  show i ∈ ((View.whole main_v1).slice (win0_2.rect ⟨_, ht⟩)).set
  rw [View.set_slice_whole, Rect.mem_set_unit]
  intro a
  match a with
  | ⟨0, _⟩ =>
    show win0_2.index ⟨_, ht⟩ (0 : Fin 2) * 1024 ≤ (i 0).val ∧ (i 0).val < win0_2.index ⟨_, ht⟩ (0 : Fin 2) * 1024 + 1024
    rw [g0]; omega
  | ⟨1, _⟩ =>
    show win0_2.index ⟨_, ht⟩ (1 : Fin 2) * 512 ≤ (i 1).val ∧ (i 1).val < win0_2.index ⟨_, ht⟩ (1 : Fin 2) * 512 + 512
    rw [g1]; omega

/-- So the array ends holding the product. -/
theorem final (c : Dev nD) : (dats m 0 c).arrAt 2 cfg0.N = result m c :=
  (dats m 0 c).arrAt_eq_of_cover 2 (result m c) (fun t _ => flushed_eq m c t) cover

/-- The reference's product, at an index. -/
theorem reference_eq (c : Dev nD) (i : S16384x10240.Idx) :
    Cert.MixRefIdeal.Read.val_main_v2 (F := Ideal) (m ((c : Thread nD τ).loc main_arg0)) (m ((c : Thread nD τ).loc main_arg1)) i
      = result m c i := by
  rw [Cert.MixRefIdeal.Read.val_main_v2_apply]
  refine (Cert.MixRefIdeal.Read.val_main_v1_apply _ _ i).trans ?_
  show _ = dot 4096 (at2 (n := 16384) (p := 4096) (m ((c : Thread nD τ).loc main_arg0)) (i 0)) (fun j => weight m c j (i 1))
  unfold dot
  refine Finset.sum_congr rfl fun k _ => congrArg₂ (fun a b : EReal => a * b) ?_ ?_
  · exact at2_of (n := 16384) (p := 4096) (m ((c : Thread nD τ).loc main_arg0)) _ _ _ rfl rfl
  · exact at2_of (n := 4096) (p := 10240) (m ((c : Thread nD τ).loc main_arg1)) _ _ _ rfl rfl

end Cert.MixIdeal.Block

end
-- ==== Proof.Context.lean ====
/-
  The projection of the context tokens in the attention layer: each grid point multiplies a tile of rows with a tile of columns, the tiles
  cover the result array, and the reference's product is the same sum.
-/
module

public import proofs.«01_k».proof.Proof.Products
public import proofs.«01_k».proof.Proof.Gen.ContextIdeal.Value
public import proofs.«01_k».proof.Proof.Gen.ContextRefIdeal.Read

@[expose] public section

set_option maxRecDepth 16384

noncomputable section

namespace Cert.ContextIdeal.Block

open Cert.ContextIdeal Cert.ContextIdeal.Gen Cert.Attention Idealize.ShloMosaic Idealize.ShloMosaic.ValueIdx
  Idealize.ShloMosaic.TcCoe Idealize.SL.Sem

/-- What a point leaves in its output block: its rows times its columns. -/
theorem out_apply (x : Vec Ideal S1024x4096 .bf16) (w : Vec Ideal S4096x512 .bf16) (y : S1024x512.Idx) :
    out0_2 (F := Ideal) x w y = dot 4096 (at2 x (y 0)) (fun j => at2 w j (y 1)) := by
  unfold out0_2
  rw [View.ld_unit_zero (S := S1024x4096) origin2, View.ld_unit_zero (S := S4096x512) origin2]
  refine View.canon_apply_of_pieces (Val := Elt Ideal) (fun y : S1024x512.Idx => (dot 4096 (at2 x (y 0)) (fun j => at2 w j (y 1)) : Elt Ideal .bf16))
    _ ?_ y (cover0_2 _ y)
  intro p hp z
  simp only [List.mem_singleton] at hp
  subst hp
  have e0 : ((r0_2.emb z 0 : Fin _) : ℕ) = (z 0).val := by rw [Rect.emb_apply]; show 0 + 1 * (z 0).val = _; omega
  have e1 : ((r0_2.emb z 1 : Fin _) : ℕ) = (z 1).val := by rw [Rect.emb_apply]; show 0 + 1 * (z 1).val = _; omega
  show k0_pay1 x w z = dot 4096 (at2 x ((r0_2.emb z 0 : Fin _) : ℕ)) (fun j => at2 w j ((r0_2.emb z 1 : Fin _) : ℕ))
  rw [e0, e1]
  unfold k0_pay1
  dsimp only
  rw [truncf_apply, shapeCast_self]
  refine (congrArg _ (eq_ix2 z)).trans ?_
  exact product_apply x w (z 0) (z 1)

/-- Which block each window reads or writes at point `t`: row tile `t / 10`, column tile `t % 10`. -/
theorem idx_facts : ∀ t : Fin cfg0.N,
    (win0_0.index t (0 : Fin 2) = t.val / 10 ∧ win0_0.index t (1 : Fin 2) = 0)
    ∧ (win0_1.index t (0 : Fin 2) = 0 ∧ win0_1.index t (1 : Fin 2) = t.val % 10)
    ∧ (win0_2.index t (0 : Fin 2) = t.val / 10 ∧ win0_2.index t (1 : Fin 2) = t.val % 10) :=
  (by decide +kernel : ∀ t : Fin grid0.N, _)

variable (m : (ℓ : Loc nD τ sig) → Buf (Elt Ideal) ℓ)

/-- The column of the attention layer's weights that holds the context's column `e`: the keys' and values' columns come after the queries'. -/
def column (e : ℕ) : ℕ := if e < 4096 then 2048 + e else 8192 + (e - 4096)

/-- The weights, as the kernel's second operand holds them. -/
def weight (c : Dev nD) (r e : ℕ) : EReal := at2 (n := 4096) (p := 9216) (m ((c : Thread nD τ).loc main_arg1)) r (column e)

/-- The operand the host builds from the weight argument. -/
def chosen (a : FVec Ideal S4096x9216 .f32) : FVec Ideal S4096x5120 .bf16 :=
  truncf .bf16 (concatenate S4096x5120 1
    [⟨S4096x4096, (extractStridedSlice S4096x4096 ![0, 2048] a slices_S4096x9216_S4096x4096_0_2048 : FVec Ideal S4096x4096 .f32)⟩,
     ⟨S4096x1024, (extractStridedSlice S4096x1024 ![0, 8192] a slices_S4096x9216_S4096x1024_0_8192 : FVec Ideal S4096x1024 .f32)⟩]
    concatenates_S4096x4096_S4096x1024_S4096x5120_d1 : FVec Ideal S4096x5120 .f32) bitsLt_bf16_f32

/-- It holds those columns. -/
theorem chosen_apply (a : FVec Ideal S4096x9216 .f32) (k : Fin 4096) (d : Fin 5120) :
    chosen a (ix2 k d) = at2 a k (column d) := by
  have hd := d.isLt
  unfold chosen column
  rw [truncf_apply]
  by_cases h0 : d.val < 4096
  · rw [if_pos h0]
    refine (concatenate_apply_piece 1 _ _ (ix2 k d) 0 (by show 0 < 2; omega) S4096x4096 _ rfl rfl 0 rfl (ix2 k ⟨d.val, h0⟩)
      (fun x hx => match x with | ⟨0, _⟩ => rfl | ⟨1, _⟩ => absurd rfl hx) (by show 0 + d.val = d.val; omega)).trans ?_
    exact at2_of a _ _ _ (by show 0 + k.val = k.val; omega) rfl
  · rw [if_neg h0]
    refine (concatenate_apply_piece 1 _ _ (ix2 k d) 1 (by show 1 < 2; omega) S4096x1024 _ rfl rfl 4096 rfl (ix2 k ⟨d.val - 4096, by omega⟩)
      (fun x hx => match x with | ⟨0, _⟩ => rfl | ⟨1, _⟩ => absurd rfl hx) (by show 4096 + (d.val - 4096) = d.val; omega)).trans ?_
    exact at2_of a _ _ _ (by show 0 + k.val = k.val; omega) rfl

/-- What the kernel's second operand holds when it starts. -/
theorem V_weight (c : Dev nD) (r e : ℕ) (hr : r < 4096) (he : e < 5120) :
    at2 (n := 4096) (p := 5120) (V m c main_v3) r e = weight m c r e := by
  have hV : @Eq (FVec Ideal S4096x5120 .bf16) (V m c main_v3) (chosen (m ((c : Thread nD τ).loc main_arg1))) := by
    show StableHlo.after hostOps0 _ _ = _
    after_results
    rfl
  rw [hV, ← at2_of (n := 4096) (p := 5120) _ (ix2 ⟨r, hr⟩ ⟨e, he⟩) r e rfl rfl]
  exact chosen_apply _ ⟨r, hr⟩ ⟨e, he⟩

/-- The rows point `t` reads, in the array. -/
theorem blk0_at (c : Dev nD) (t : Fin cfg0.N) (r e : ℕ) (hr : r < 1024) (he : e < 4096) :
    at2 (n := 1024) (p := 4096) (iblk m c 0 t) r e
      = at2 (n := 2048) (p := 4096) (m ((c : Thread nD τ).loc main_arg0)) (t.val / 10 * 1024 + r) e := by
  obtain ⟨⟨f0, f1⟩, -⟩ := idx_facts t
  rw [← at2_of (n := 1024) (p := 4096) (iblk m c 0 t) (ix2 ⟨r, hr⟩ ⟨e, he⟩) r e rfl rfl]
  refine at2_of (n := 2048) (p := 4096) (m ((c : Thread nD τ).loc main_arg0)) ((win0_0.rect t).emb (ix2 ⟨r, hr⟩ ⟨e, he⟩)) _ _ ?_ ?_
  · rw [← f0]; exact win0_0.rect_emb_val t _ (0 : Fin 2)
  · refine (win0_0.rect_emb_val t _ (1 : Fin 2)).trans ?_
    rw [f1]; show 0 * 4096 + e = e; omega

/-- The columns point `t` reads, in the weights. -/
theorem blk1_at (c : Dev nD) (t : Fin cfg0.N) (r e : ℕ) (hr : r < 4096) (he : e < 512) :
    at2 (n := 4096) (p := 512) (iblk m c 1 t) r e = weight m c r (t.val % 10 * 512 + e) := by
  obtain ⟨-, ⟨f0, f1⟩, -⟩ := idx_facts t
  rw [← at2_of (n := 4096) (p := 512) (iblk m c 1 t) (ix2 ⟨r, hr⟩ ⟨e, he⟩) r e rfl rfl]
  refine (at2_of (n := 4096) (p := 5120) (V m c main_v3) ((win0_1.rect t).emb (ix2 ⟨r, hr⟩ ⟨e, he⟩)) r (t.val % 10 * 512 + e) ?_ ?_).trans (V_weight m c r _ hr (by omega))
  · refine (win0_1.rect_emb_val t _ (0 : Fin 2)).trans ?_
    rw [f0]; show 0 * 4096 + r = r; omega
  · rw [← f1]; exact win0_1.rect_emb_val t _ (1 : Fin 2)

/-- What the result array is shown to hold. -/
def result (c : Dev nD) : Buf (Elt Ideal) ((c : Thread nD τ).loc main_v4) :=
  (fun i : S2048x5120.Idx => (dot 4096 (at2 (n := 2048) (p := 4096) (m ((c : Thread nD τ).loc main_arg0)) (i 0))
    (fun j => weight m c j (i 1)) : Elt Ideal .bf16))

/-- What point `t` writes back is its block of the result. -/
theorem flushed_eq (c : Dev nD) (t : Fin cfg0.N) :
    (dats m 0 c).flushed 2 t = ((cfg0.win 2).blk t).view.read (Elt Ideal) (result m c) := by
  rw [Value.flushed2]
  funext y
  have h0 : (y 0).val < 1024 := (y 0).isLt
  have h1 : (y 1).val < 512 := (y 1).isLt
  obtain ⟨-, -, f0, f1⟩ := idx_facts t
  have e0 : (((win0_2.rect t).emb y 0 : Fin _) : ℕ) = t.val / 10 * 1024 + (y 0).val := by
    rw [← f0]; exact win0_2.rect_emb_val t y (0 : Fin 2)
  have e1 : (((win0_2.rect t).emb y 1 : Fin _) : ℕ) = t.val % 10 * 512 + (y 1).val := by
    rw [← f1]; exact win0_2.rect_emb_val t y (1 : Fin 2)
  refine (out_apply (iblk m c 0 t) (iblk m c 1 t) y).trans ?_
  show _ = dot 4096 (at2 (n := 2048) (p := 4096) (m ((c : Thread nD τ).loc main_arg0)) (((win0_2.rect t).emb y 0 : Fin _) : ℕ))
    (fun j => weight m c j (((win0_2.rect t).emb y 1 : Fin _) : ℕ))
  rw [e0, e1]
  exact dot_congr (fun j hj => blk0_at m c t _ j h0 hj) (fun j hj => blk1_at m c t j _ hj h1)

/-- Every index of the result array lies in the block of a point that is written back. -/
theorem cover (i : S2048x5120.Idx) :
    ∃ t : Fin cfg0.N, (cfg0.win 2).flush t = true ∧ i ∈ ((cfg0.win 2).blk t).view.set := by
  have h0 : (i 0).val < 2048 := (i 0).isLt
  have h1 : (i 1).val < 5120 := (i 1).isLt
  have hN : cfg0.N = 20 := N_0
  have ht : (i 0).val / 1024 * 10 + (i 1).val / 512 < cfg0.N := by omega
  refine ⟨⟨_, ht⟩, flush0_2 _, ?_⟩
  obtain ⟨-, -, f0, f1⟩ := idx_facts ⟨_, ht⟩
  have g0 : win0_2.index ⟨_, ht⟩ (0 : Fin 2) = (i 0).val / 1024 := by rw [f0]; dsimp only; omega
  have g1 : win0_2.index ⟨_, ht⟩ (1 : Fin 2) = (i 1).val / 512 := by rw [f1]; dsimp only; omega
  show i ∈ ((View.whole main_v4).slice (win0_2.rect ⟨_, ht⟩)).set
  rw [View.set_slice_whole, Rect.mem_set_unit]
  intro a
  match a with
  | ⟨0, _⟩ =>
    show win0_2.index ⟨_, ht⟩ (0 : Fin 2) * 1024 ≤ (i 0).val ∧ (i 0).val < win0_2.index ⟨_, ht⟩ (0 : Fin 2) * 1024 + 1024
    rw [g0]; omega
  | ⟨1, _⟩ =>
    show win0_2.index ⟨_, ht⟩ (1 : Fin 2) * 512 ≤ (i 1).val ∧ (i 1).val < win0_2.index ⟨_, ht⟩ (1 : Fin 2) * 512 + 512
    rw [g1]; omega

/-- So the array ends holding the product. -/
theorem final (c : Dev nD) : (dats m 0 c).arrAt 2 cfg0.N = result m c :=
  (dats m 0 c).arrAt_eq_of_cover 2 (result m c) (fun t _ => flushed_eq m c t) cover

/-- The reference's product with all columns, at an index. -/
theorem product_reference (c : Dev nD) (i : Cert.ContextRefIdeal.S2048x9216.Idx) :
    Cert.ContextRefIdeal.Read.val_main_v1 (F := Ideal) (m ((c : Thread nD τ).loc main_arg0)) (m ((c : Thread nD τ).loc main_arg1)) i
      = dot 4096 (at2 (n := 2048) (p := 4096) (m ((c : Thread nD τ).loc main_arg0)) (i 0))
        (fun j => at2 (n := 4096) (p := 9216) (m ((c : Thread nD τ).loc main_arg1)) j (i 1)) := by
  refine (Cert.ContextRefIdeal.Read.val_main_v1_apply _ _ i).trans ?_
  unfold dot
  refine Finset.sum_congr rfl fun k _ => congrArg₂ (fun a b : EReal => a * b) ?_ ?_
  · exact at2_of (n := 2048) (p := 4096) (m ((c : Thread nD τ).loc main_arg0)) _ _ _ rfl rfl
  · exact at2_of (n := 4096) (p := 9216) (m ((c : Thread nD τ).loc main_arg1)) _ _ _ rfl rfl

/-- A column of that product, at the place it is read from. -/
theorem read_reference (c : Dev nD) (r e : ℕ) (i : Cert.ContextRefIdeal.S2048x9216.Idx) (h0 : (i 0).val = r) (h1 : (i 1).val = column e) :
    Cert.ContextRefIdeal.Read.val_main_v1 (F := Ideal) (m ((c : Thread nD τ).loc main_arg0)) (m ((c : Thread nD τ).loc main_arg1)) i
      = dot 4096 (at2 (n := 2048) (p := 4096) (m ((c : Thread nD τ).loc main_arg0)) r) (fun j => weight m c j e) := by
  rw [product_reference, h0, h1]
  rfl

/-- The reference's columns, at an index. -/
theorem reference_eq (c : Dev nD) (i : S2048x5120.Idx) :
    Cert.ContextRefIdeal.Read.val_main_v9 (F := Ideal) (m ((c : Thread nD τ).loc main_arg0)) (m ((c : Thread nD τ).loc main_arg1)) i
      = result m c i := by
  have hd : (i 1).val < 5120 := (i 1).isLt
  rw [Cert.ContextRefIdeal.Read.val_main_v9_apply]
  show _ = dot 4096 (at2 (n := 2048) (p := 4096) (m ((c : Thread nD τ).loc main_arg0)) (i 0)) (fun j => weight m c j (i 1))
  unfold Cert.ContextRefIdeal.Read.val_main_v8
  by_cases h0 : (i 1).val < 2048
  · refine (concatenate_apply_piece 1 _ _ i 0 (by show 0 < 4; omega) Cert.ContextRefIdeal.S2048x2048 _ rfl rfl 0 rfl (ix2 (i 0) ⟨(i 1).val, h0⟩)
      (fun x hx => match x with | ⟨0, _⟩ => rfl | ⟨1, _⟩ => absurd rfl hx) (by show 0 + (i 1).val = (i 1).val; omega)).trans ?_
    refine (Cert.ContextRefIdeal.Read.val_main_v3_apply _ _ _).trans (read_reference m c _ _ _ rfl ?_)
    unfold column
    rw [if_pos (by omega)]
  by_cases h1 : (i 1).val < 4096
  · refine (concatenate_apply_piece 1 _ _ i 1 (by show 1 < 4; omega) Cert.ContextRefIdeal.S2048x2048 _ rfl rfl 2048 rfl (ix2 (i 0) ⟨(i 1).val - 2048, by omega⟩)
      (fun x hx => match x with | ⟨0, _⟩ => rfl | ⟨1, _⟩ => absurd rfl hx) (by show 2048 + ((i 1).val - 2048) = (i 1).val; omega)).trans ?_
    refine (Cert.ContextRefIdeal.Read.val_main_v4_apply _ _ _).trans (read_reference m c _ _ _ rfl ?_)
    unfold column
    rw [if_pos h1]
    show 4096 + ((i 1).val - 2048) = _
    omega
  by_cases h2 : (i 1).val < 4608
  · refine (concatenate_apply_piece 1 _ _ i 2 (by show 2 < 4; omega) Cert.ContextRefIdeal.S2048x512 _ rfl rfl 4096 rfl (ix2 (i 0) ⟨(i 1).val - 4096, by omega⟩)
      (fun x hx => match x with | ⟨0, _⟩ => rfl | ⟨1, _⟩ => absurd rfl hx) (by show 4096 + ((i 1).val - 4096) = (i 1).val; omega)).trans ?_
    refine (Cert.ContextRefIdeal.Read.val_main_v6_apply _ _ _).trans (read_reference m c _ _ _ rfl ?_)
    unfold column
    rw [if_neg h1]
  · refine (concatenate_apply_piece 1 _ _ i 3 (by show 3 < 4; omega) Cert.ContextRefIdeal.S2048x512 _ rfl rfl 4608 rfl (ix2 (i 0) ⟨(i 1).val - 4608, by omega⟩)
      (fun x hx => match x with | ⟨0, _⟩ => rfl | ⟨1, _⟩ => absurd rfl hx) (by show 4608 + ((i 1).val - 4608) = (i 1).val; omega)).trans ?_
    refine (Cert.ContextRefIdeal.Read.val_main_v7_apply _ _ _).trans (read_reference m c _ _ _ rfl ?_)
    unfold column
    rw [if_neg h1]
    show 8704 + ((i 1).val - 4608) = _
    omega

end Cert.ContextIdeal.Block

end
-- ==== Proof.NextLoop.lean ====
/-
  One loop of the kernel: the strips of rows it normalises, as an invariant in which neither array's pieces depend on what
  the second result's buffer held before.
-/
module

public import proofs.«01_k».proof.Proof.Gen.NextIdeal.Loops

@[expose] public section

set_option maxRecDepth 8192

noncomputable section

namespace Cert.NextIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section

variable (𝒱 : Variants) (c : Dev nD) (bd : Option 𝒱.V) (i : grid0.Coords)
    (arg2 : Memref sig .tc .vmem S512x512 .bf16) (harg2 : arg2.IsWhole)
    (arg3 : Memref sig .tc .vmem S512x4096 .bf16) (harg3 : arg3.IsWhole)
    (arg4 : Memref sig .tc .vmem S512x4096 .f32) (harg4 : arg4.IsWhole)
    (arg5 : Memref sig .tc .vmem S1x1x4096 .f32) (harg5 : arg5.IsWhole)
    (arg6 : Memref sig .tc .vmem S1x4096 .f32) (harg6 : arg6.IsWhole)
    (arg7 : Memref sig .tc .vmem S1x4096 .f32) (harg7 : arg7.IsWhole)
    (arg8 : Memref sig .tc .vmem S1x1x4096 .f32) (harg8 : arg8.IsWhole)
    (arg9 : Memref sig .tc .vmem S1x1x4096 .f32) (harg9 : arg9.IsWhole)
    (arg10 : Memref sig .tc .vmem S512x4096 .f32) (harg10 : arg10.IsWhole)
    (arg11 : Memref sig .tc .vmem S512x4096 .bf16) (harg11 : arg11.IsWhole)
    (k0_h3 : k0_cond3 i = 1#1)
    (X4 : BufTy.Contents (Elt F) arg4.view.ty)
    (X5 : BufTy.Contents (Elt F) arg5.view.ty)
    (X6 : BufTy.Contents (Elt F) arg6.view.ty)
    (X7 : BufTy.Contents (Elt F) arg7.view.ty)
    (X8 : BufTy.Contents (Elt F) arg8.view.ty)
    (X9 : BufTy.Contents (Elt F) arg9.view.ty)

/-- What a trip holds: the blocks it reads, and the two results' buffers at the contents it finds. -/
abbrev strip (f : BufTy.Contents (Elt F) arg10.view.ty) (g : BufTy.Contents (Elt F) arg11.view.ty) : sProp 𝕄G :=
  iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f) ∗ (arg11.view.loc (c : Thread nD τ) ↦[arg11.view.set]{fullShare} g))

/-- One trip: the pieces it writes into either buffer, from the contents of the first. -/
@[irreducible] def strip_run (k : Fin k0_t1_loop.trips) :
    Σ' (L : BufTy.Contents (Elt F) arg10.view.ty → List (View.Piece (Elt F) S512x4096 .f32)),
      { L' : BufTy.Contents (Elt F) arg10.view.ty → List (View.Piece (Elt F) S512x4096 .bf16) //
        ∀ (E : Set ℕ) (f : BufTy.Contents (Elt F) arg10.view.ty) (g : BufTy.Contents (Elt F) arg11.view.ty),
          strip (F := F) c arg4 arg5 arg6 arg7 arg8 arg9 arg10 arg11 X4 X5 X6 X7 X8 X9 f g
          ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 k0_h3 k PUnit.unit)
              (fun _ => strip (F := F) c arg4 arg5 arg6 arg7 arg8 arg9 arg10 arg11 X4 X5 X6 X7 X8 X9
                (arg10.view.writes (Elt F) f (L f)) (arg11.view.writes (Elt F) g (L' f))) } := by
  have hk : k.val < 8 := Nat.lt_of_lt_of_le k.isLt k0_t1_abs.2.1
  refine ⟨?_, ?_, fun E f g => ?run⟩
  case run =>
    unfold k0_t1_body
    iintro ⟨R4, R5, R6, R7, R8, R9, W0, W1⟩
    sl_exec
    sl_step
    sl_close

/-- The pieces of the trips before `k`, the last first, from the first buffer's contents `G` when the loop begins. -/
def strips (G : BufTy.Contents (Elt F) arg10.view.ty) : ℕ → List (View.Piece (Elt F) S512x4096 .f32) × List (View.Piece (Elt F) S512x4096 .bf16)
  | 0 => ([], [])
  | k + 1 => if h : k < k0_t1_loop.trips then
      ((strip_run (F := F) 𝒱 c bd i arg2 harg2 arg3 harg3 arg4 harg4 arg5 harg5 arg6 harg6 arg7 harg7 arg8 harg8 arg9 harg9 arg10 harg10 arg11 harg11 k0_h3 X4 X5 X6 X7 X8 X9 ⟨k, h⟩).1 (arg10.view.writes (Elt F) G (strips G k).1) ++ (strips G k).1,
       (strip_run (F := F) 𝒱 c bd i arg2 harg2 arg3 harg3 arg4 harg4 arg5 harg5 arg6 harg6 arg7 harg7 arg8 harg8 arg9 harg9 arg10 harg10 arg11 harg11 k0_h3 X4 X5 X6 X7 X8 X9 ⟨k, h⟩).2.1 (arg10.view.writes (Elt F) G (strips G k).1) ++ (strips G k).2)
      else strips G k

theorem strips_succ (G : BufTy.Contents (Elt F) arg10.view.ty) (k : Fin k0_t1_loop.trips) :
    strips (F := F) 𝒱 c bd i arg2 harg2 arg3 harg3 arg4 harg4 arg5 harg5 arg6 harg6 arg7 harg7 arg8 harg8 arg9 harg9 arg10 harg10 arg11 harg11 k0_h3 X4 X5 X6 X7 X8 X9 G (k.val + 1)
      = ((strip_run (F := F) 𝒱 c bd i arg2 harg2 arg3 harg3 arg4 harg4 arg5 harg5 arg6 harg6 arg7 harg7 arg8 harg8 arg9 harg9 arg10 harg10 arg11 harg11 k0_h3 X4 X5 X6 X7 X8 X9 k).1 (arg10.view.writes (Elt F) G (strips (F := F) 𝒱 c bd i arg2 harg2 arg3 harg3 arg4 harg4 arg5 harg5 arg6 harg6 arg7 harg7 arg8 harg8 arg9 harg9 arg10 harg10 arg11 harg11 k0_h3 X4 X5 X6 X7 X8 X9 G k.val).1)
          ++ (strips (F := F) 𝒱 c bd i arg2 harg2 arg3 harg3 arg4 harg4 arg5 harg5 arg6 harg6 arg7 harg7 arg8 harg8 arg9 harg9 arg10 harg10 arg11 harg11 k0_h3 X4 X5 X6 X7 X8 X9 G k.val).1,
         (strip_run (F := F) 𝒱 c bd i arg2 harg2 arg3 harg3 arg4 harg4 arg5 harg5 arg6 harg6 arg7 harg7 arg8 harg8 arg9 harg9 arg10 harg10 arg11 harg11 k0_h3 X4 X5 X6 X7 X8 X9 k).2.1 (arg10.view.writes (Elt F) G (strips (F := F) 𝒱 c bd i arg2 harg2 arg3 harg3 arg4 harg4 arg5 harg5 arg6 harg6 arg7 harg7 arg8 harg8 arg9 harg9 arg10 harg10 arg11 harg11 k0_h3 X4 X5 X6 X7 X8 X9 G k.val).1)
          ++ (strips (F := F) 𝒱 c bd i arg2 harg2 arg3 harg3 arg4 harg4 arg5 harg5 arg6 harg6 arg7 harg7 arg8 harg8 arg9 harg9 arg10 harg10 arg11 harg11 k0_h3 X4 X5 X6 X7 X8 X9 G k.val).2) := by
  rw [strips]
  exact dif_pos k.isLt

/-- Before trip `k`: the blocks as they are, the two buffers with the pieces of the trips before. -/
abbrev strips_inv (G : BufTy.Contents (Elt F) arg10.view.ty) (G' : BufTy.Contents (Elt F) arg11.view.ty) (k : ℕ) (_u : PUnit) : sProp 𝕄G :=
  iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9)
    ∗ (∃ f, (arg10.view.loc (c : Thread nD τ) ↦[arg10.view.set]{fullShare} f) ∗ ⌜f = arg10.view.writes (Elt F) G (strips (F := F) 𝒱 c bd i arg2 harg2 arg3 harg3 arg4 harg4 arg5 harg5 arg6 harg6 arg7 harg7 arg8 harg8 arg9 harg9 arg10 harg10 arg11 harg11 k0_h3 X4 X5 X6 X7 X8 X9 G k).1⌝)
    ∗ (∃ f, (arg11.view.loc (c : Thread nD τ) ↦[arg11.view.set]{fullShare} f) ∗ ⌜f = arg11.view.writes (Elt F) G' (strips (F := F) 𝒱 c bd i arg2 harg2 arg3 harg3 arg4 harg4 arg5 harg5 arg6 harg6 arg7 harg7 arg8 harg8 arg9 harg9 arg10 harg10 arg11 harg11 k0_h3 X4 X5 X6 X7 X8 X9 G k).2⌝))

set_option warn.classDefReducibility false in
/-- The loop by that invariant. -/
@[sl_loop] def strips_loop (E : Set ℕ) (G : BufTy.Contents (Elt F) arg10.view.ty) (G' : BufTy.Contents (Elt F) arg11.view.ty) :
    Gen.LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 k0_h3 where
  inv := strips_inv (F := F) 𝒱 c bd i arg2 harg2 arg3 harg3 arg4 harg4 arg5 harg5 arg6 harg6 arg7 harg7 arg8 harg8 arg9 harg9 arg10 harg10 arg11 harg11 k0_h3 X4 X5 X6 X7 X8 X9 G G'
  step k acc := by
    iintro ⟨R4, R5, R6, R7, R8, R9, ⟨%f, W0, %h0⟩, ⟨%g, W1, %h1⟩⟩
    iapply (wp_wand_r Idealize.ShloMosaic.frame (wpE (defs₀ (F := F)) 𝒱 (c : Thread nD τ) bd) E)
    isplitl [R4 R5 R6 R7 R8 R9 W0 W1]
    · iapply ((strip_run (F := F) 𝒱 c bd i arg2 harg2 arg3 harg3 arg4 harg4 arg5 harg5 arg6 harg6 arg7 harg7 arg8 harg8 arg9 harg9 arg10 harg10 arg11 harg11 k0_h3 X4 X5 X6 X7 X8 X9 k).2.2 E f g)
      isplitl [R4]; · iexact R4
      isplitl [R5]; · iexact R5
      isplitl [R6]; · iexact R6
      isplitl [R7]; · iexact R7
      isplitl [R8]; · iexact R8
      isplitl [R9]; · iexact R9
      isplitl [W0]; · iexact W0
      iexact W1
    · iintro %_ ⟨R4, R5, R6, R7, R8, R9, W0, W1⟩
      isplitl [R4]; · iexact R4
      isplitl [R5]; · iexact R5
      isplitl [R6]; · iexact R6
      isplitl [R7]; · iexact R7
      isplitl [R8]; · iexact R8
      isplitl [R9]; · iexact R9
      rw [strips_succ]
      isplitl [W0]
      · iexists _; isplitl [W0]; · iexact W0
        ipureintro; rw [h0, ← View.writes_append]
      iexists _; isplitl [W1]; · iexact W1
      ipureintro; rw [h0, h1, ← View.writes_append]

end

end Cert.NextIdeal.Gen

end
-- ==== Proof.NextRun.lean ====
/-
  The last of a row's grid points: one more product is added, then the rows are normalised strip by strip.
-/
module

public import proofs.«01_k».proof.Proof.Gen.NextIdeal.Frame.RunB
public import proofs.«01_k».proof.Proof.NextLoop

@[expose] public section

set_option maxRecDepth 16384

noncomputable section

namespace Cert.NextIdeal.Own

open Cert.NextIdeal Cert.NextIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- What the last point leaves in the two results' buffers: the pieces written over the running sums, and those of the second
    result, whatever its buffer held. -/
noncomputable def last_run (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x4096 .f32) (harg8 : arg8.IsWhole) (arg9 : Memref sig .tc .vmem S1x1x4096 .f32) (harg9 : arg9.IsWhole) (arg10 : Memref sig .tc .vmem S512x4096 .f32) (harg10 : arg10.IsWhole) (arg11 : Memref sig .tc .vmem S512x4096 .bf16) (harg11 : arg11.IsWhole) (hc0 : ¬cond0_0 i) (hc1 : cond0_1 i) (hc2 : cond0_2 i)
    (x0 : Vec F S512x512 .bf16) (x1 : Vec F S512x4096 .bf16) (x2 : Vec F S512x4096 .f32) (x3 : Vec F S1x1x4096 .f32) (x4 : Vec F S1x4096 .f32) (x5 : Vec F S1x4096 .f32) (x6 : Vec F S1x1x4096 .f32) (x7 : Vec F S1x1x4096 .f32) (xo8 : Vec F S512x4096 .f32) :
    Σ' (L8 : List (View.Piece (Elt F) S512x4096 .f32)), { L9 : List (View.Piece (Elt F) S512x4096 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0_matmul_post i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_matmul_post_eq_skeleton]; unfold cc0_matmul_post_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact H9

end Cert.NextIdeal.Own

end
-- ==== Proof.NextFrame.lean ====
/-
  The launch: what the two results' buffers hold after each grid point, the body at a grid point, and the run of the whole
  call with its two arrays named and its arguments kept.
-/
module

public import proofs.«01_k».proof.Proof.NextRun
public import Idealize.ShloMosaic.Lib.Claim

@[expose] public section

set_option maxRecDepth 16384

noncomputable section

namespace Cert.NextIdeal.Own

open Cert.NextIdeal Cert.NextIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The pieces cover the buffers -/

section

variable (c : Dev nD) (i : grid0.Coords)
    (arg2 : Memref sig .tc .vmem S512x512 .bf16) (harg2 : arg2.IsWhole)
    (arg3 : Memref sig .tc .vmem S512x4096 .bf16) (harg3 : arg3.IsWhole)
    (arg4 : Memref sig .tc .vmem S512x4096 .f32) (harg4 : arg4.IsWhole)
    (arg5 : Memref sig .tc .vmem S1x1x4096 .f32) (harg5 : arg5.IsWhole)
    (arg6 : Memref sig .tc .vmem S1x4096 .f32) (harg6 : arg6.IsWhole)
    (arg7 : Memref sig .tc .vmem S1x4096 .f32) (harg7 : arg7.IsWhole)
    (arg8 : Memref sig .tc .vmem S1x1x4096 .f32) (harg8 : arg8.IsWhole)
    (arg9 : Memref sig .tc .vmem S1x1x4096 .f32) (harg9 : arg9.IsWhole)
    (arg10 : Memref sig .tc .vmem S512x4096 .f32) (harg10 : arg10.IsWhole)
    (arg11 : Memref sig .tc .vmem S512x4096 .bf16) (harg11 : arg11.IsWhole)
    (x0 : Vec F S512x512 .bf16) (x1 : Vec F S512x4096 .bf16) (x2 : Vec F S512x4096 .f32) (x3 : Vec F S1x1x4096 .f32) (x4 : Vec F S1x4096 .f32) (x5 : Vec F S1x4096 .f32) (x6 : Vec F S1x1x4096 .f32) (x7 : Vec F S1x1x4096 .f32) (xo8 : Vec F S512x4096 .f32)
    (y : S512x4096.Idx)

theorem cover_first (a : cond0_0 i) (b : ¬cond0_1 i) (d : ¬cond0_2 i) :
    ∃ p ∈ (kernelRun0_A c i arg2 harg2 arg3 harg3 arg4 harg4 arg5 harg5 arg6 harg6 arg7 harg7 arg8 harg8 arg9 harg9 arg10 harg10 arg11 harg11 a b d x0 x1 x2 x3 x4 x5 x6 x7).1, y ∈ p.1.set :=
  View.cover_of_tiledL (kernelRun0_A c i arg2 harg2 arg3 harg3 arg4 harg4 arg5 harg5 arg6 harg6 arg7 harg7 arg8 harg8 arg9 harg9 arg10 harg10 arg11 harg11 a b d x0 x1 x2 x3 x4 x5 x6 x7).1 S512x1024.size (by sl_kernel_rfl) y

theorem cover_middle (a : ¬cond0_0 i) (b : cond0_1 i) (d : ¬cond0_2 i) :
    ∃ p ∈ (kernelRun0_B c i arg2 harg2 arg3 harg3 arg4 harg4 arg5 harg5 arg6 harg6 arg7 harg7 arg8 harg8 arg9 harg9 arg10 harg10 arg11 harg11 a b d x0 x1 x2 x3 x4 x5 x6 x7 xo8).1, y ∈ p.1.set :=
  View.cover_of_tiledL (kernelRun0_B c i arg2 harg2 arg3 harg3 arg4 harg4 arg5 harg5 arg6 harg6 arg7 harg7 arg8 harg8 arg9 harg9 arg10 harg10 arg11 harg11 a b d x0 x1 x2 x3 x4 x5 x6 x7 xo8).1 S512x1024.size (by sl_kernel_rfl) y

theorem cover_last (a : ¬cond0_0 i) (b : cond0_1 i) (d : cond0_2 i) :
    ∃ p ∈ (last_run c i arg2 harg2 arg3 harg3 arg4 harg4 arg5 harg5 arg6 harg6 arg7 harg7 arg8 harg8 arg9 harg9 arg10 harg10 arg11 harg11 a b d x0 x1 x2 x3 x4 x5 x6 x7 xo8).1, y ∈ p.1.set :=
  View.cover_of_tiledBy (last_run c i arg2 harg2 arg3 harg3 arg4 harg4 arg5 harg5 arg6 harg6 arg7 harg7 arg8 harg8 arg9 harg9 arg10 harg10 arg11 harg11 a b d x0 x1 x2 x3 x4 x5 x6 x7 xo8).1 ![64, 1024] (by sl_kernel_rfl) y

theorem cover_last' (a : ¬cond0_0 i) (b : cond0_1 i) (d : cond0_2 i) :
    ∃ p ∈ (last_run c i arg2 harg2 arg3 harg3 arg4 harg4 arg5 harg5 arg6 harg6 arg7 harg7 arg8 harg8 arg9 harg9 arg10 harg10 arg11 harg11 a b d x0 x1 x2 x3 x4 x5 x6 x7 xo8).2.1, y ∈ p.1.set :=
  View.cover_of_tiledL (last_run c i arg2 harg2 arg3 harg3 arg4 harg4 arg5 harg5 arg6 harg6 arg7 harg7 arg8 harg8 arg9 harg9 arg10 harg10 arg11 harg11 a b d x0 x1 x2 x3 x4 x5 x6 x7 xo8).2.1 S64x4096.size (by sl_kernel_rfl) y

end

/-! ## The three kinds of grid point -/

variable (m : (ℓ : Loc nD τ sig) → Buf (Elt F) ℓ) (ρ : Dev nD → PrngReg)

section

variable (c : Dev nD) (t : Fin cfg0.N)

theorem at0 (h : t.val % 33 = 0) : cond0_0 (grid0.coords t) := (hcond0_0 t).mpr h
theorem not0 (h : ¬t.val % 33 = 0) : ¬cond0_0 (grid0.coords t) := fun e => h ((hcond0_0 t).mp e)
theorem at1 (h : ¬t.val % 33 = 0) : cond0_1 (grid0.coords t) := (hcond0_1 t).mpr (Nat.pos_of_ne_zero h)
theorem not1 (h : t.val % 33 = 0) : ¬cond0_1 (grid0.coords t) := fun e => by have := (hcond0_1 t).mp e; omega
theorem at2 (h : t.val % 33 = 32) : cond0_2 (grid0.coords t) := (hcond0_2 t).mpr h
theorem not2 (h : ¬t.val % 33 = 32) : ¬cond0_2 (grid0.coords t) := fun e => h ((hcond0_2 t).mp e)
theorem ne0 (h : t.val % 33 = 32) : ¬t.val % 33 = 0 := by omega
theorem neL (h : t.val % 33 = 0) : ¬t.val % 33 = 32 := by omega

/-- The first point of a block of rows. -/
abbrev first (h : t.val % 33 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (at0 t h) (not1 t h) (not2 t (neL t h)) (iblk m c 0 t) (iblk m c 1 t) (iblk m c 2 t) (iblk m c 3 t) (iblk m c 4 t) (iblk m c 5 t) (iblk m c 6 t) (iblk m c 7 t)

/-- A point between, over the running sums `s`. -/
abbrev middle (h : ¬t.val % 33 = 0) (h' : ¬t.val % 33 = 32) (s : Vec F S512x4096 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (not0 t h) (at1 t h) (not2 t h') (iblk m c 0 t) (iblk m c 1 t) (iblk m c 2 t) (iblk m c 3 t) (iblk m c 4 t) (iblk m c 5 t) (iblk m c 6 t) (iblk m c 7 t) s

/-- The last point. -/
abbrev last (h : t.val % 33 = 32) (s : Vec F S512x4096 .f32) :=
  last_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (not0 t (ne0 t h)) (at1 t (ne0 t h)) (at2 t h) (iblk m c 0 t) (iblk m c 1 t) (iblk m c 2 t) (iblk m c 3 t) (iblk m c 4 t) (iblk m c 5 t) (iblk m c 6 t) (iblk m c 7 t) s

end

/-- The first result's buffer after point `k`. -/
def sums (c : Dev nD) : (k : ℕ) → k < cfg0.N → Vec F S512x4096 .f32
  | 0, hk => VO0_8.read (Elt F) (VO0_8.writes (Elt F) VO0_8.junk (first m c ⟨0, hk⟩ (Nat.zero_mod _)).1)
  | k + 1, hk =>
    if h : (k + 1) % 33 = 0 then VO0_8.read (Elt F) (VO0_8.writes (Elt F) VO0_8.junk (first m c ⟨k + 1, hk⟩ h).1)
    else if h' : (k + 1) % 33 = 32 then
      VO0_8.read (Elt F) (VO0_8.writes (Elt F) VO0_8.junk (last m c ⟨k + 1, hk⟩ h' (sums c k (Nat.lt_of_succ_lt hk))).1)
    else VO0_8.read (Elt F) (VO0_8.writes (Elt F) VO0_8.junk (middle m c ⟨k + 1, hk⟩ h h' (sums c k (Nat.lt_of_succ_lt hk))).1)

/-- What the point before left. -/
abbrev before (c : Dev nD) (t : Fin cfg0.N) : Vec F S512x4096 .f32 := sums m c (t.val - 1) (Nat.lt_of_le_of_lt (Nat.sub_le _ _) t.isLt)

theorem sums_first (c : Dev nD) (t : Fin cfg0.N) (h : t.val % 33 = 0) :
    sums m c t.val t.isLt = VO0_8.read (Elt F) (VO0_8.writes (Elt F) VO0_8.junk (first m c t h).1) := by
  obtain ⟨k, hk⟩ := t
  cases k with
  | zero => exact rfl
  | succ k => exact (dif_pos h).trans rfl

theorem sums_middle (c : Dev nD) (t : Fin cfg0.N) (h : ¬t.val % 33 = 0) (h' : ¬t.val % 33 = 32) :
    sums m c t.val t.isLt = VO0_8.read (Elt F) (VO0_8.writes (Elt F) VO0_8.junk (middle m c t h h' (before m c t)).1) := by
  obtain ⟨k, hk⟩ := t
  cases k with
  | zero => exact absurd (Nat.zero_mod _) h
  | succ k => exact (dif_neg h).trans ((dif_neg h').trans rfl)

theorem sums_last (c : Dev nD) (t : Fin cfg0.N) (h : t.val % 33 = 32) :
    sums m c t.val t.isLt = VO0_8.read (Elt F) (VO0_8.writes (Elt F) VO0_8.junk (last m c t h (before m c t)).1) := by
  obtain ⟨k, hk⟩ := t
  cases k with
  | zero => exact absurd (Nat.zero_mod _) (ne0 ⟨0, hk⟩ h)
  | succ k => exact (dif_neg (ne0 ⟨k + 1, hk⟩ h)).trans ((dif_pos h).trans rfl)

/-- The second result's buffer after point `t`: nothing is said of it before the last point of a block of rows. -/
def normed (c : Dev nD) (t : Fin cfg0.N) : Vec F S512x4096 .bf16 :=
  if h : t.val % 33 = 32 then VO0_9.read (Elt F) (VO0_9.writes (Elt F) VO0_9.junk (last m c t h (before m c t)).2.1)
  else VO0_9.read (Elt F) VO0_9.junk

theorem normed_last (c : Dev nD) (t : Fin cfg0.N) (h : t.val % 33 = 32) :
    normed m c t = VO0_9.read (Elt F) (VO0_9.writes (Elt F) VO0_9.junk (last m c t h (before m c t)).2.1) := dif_pos h

/-! ## The proof data -/

/-- The arrays as the call finds them; after a point each block as it was and the two results' buffers as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => sums m c t.val t.isLt
    | ⟨9, _⟩ => normed m c t
  Φ _ := Pipeline.ΦA spec0 c
  q _ := fullShare
  owed _ := 0

theorem dats_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = sums m c t.val t.isLt := by dsimp only [dats]
theorem after_9 (c : Dev nD) (t : Fin cfg0.N) : (dats m 0 c).after 9 t = normed m c t := by dsimp only [dats]

theorem before_0 (c : Dev nD) (t : Fin cfg0.N) (d) : (dats m 0 c).before 0 t d = iblk m c 0 t := before0_0_of m (dats m 0 c) (dats_A m c 0) (after_0 m c) t d
theorem before_1 (c : Dev nD) (t : Fin cfg0.N) (d) : (dats m 0 c).before 1 t d = iblk m c 1 t := before0_1_of m (dats m 0 c) (dats_A m c 1) (after_1 m c) t d
theorem before_2 (c : Dev nD) (t : Fin cfg0.N) (d) : (dats m 0 c).before 2 t d = iblk m c 2 t := before0_2_of m (dats m 0 c) (dats_A m c 2) (after_2 m c) t d
theorem before_3 (c : Dev nD) (t : Fin cfg0.N) (d) : (dats m 0 c).before 3 t d = iblk m c 3 t := before0_3_of m (dats m 0 c) (dats_A m c 3) (after_3 m c) t d
theorem before_4 (c : Dev nD) (t : Fin cfg0.N) (d) : (dats m 0 c).before 4 t d = iblk m c 4 t := before0_4_of m (dats m 0 c) (dats_A m c 4) (after_4 m c) t d
theorem before_5 (c : Dev nD) (t : Fin cfg0.N) (d) : (dats m 0 c).before 5 t d = iblk m c 5 t := before0_5_of m (dats m 0 c) (dats_A m c 5) (after_5 m c) t d
theorem before_6 (c : Dev nD) (t : Fin cfg0.N) (d) : (dats m 0 c).before 6 t d = iblk m c 6 t := before0_6_of m (dats m 0 c) (dats_A m c 6) (after_6 m c) t d
theorem before_7 (c : Dev nD) (t : Fin cfg0.N) (d) : (dats m 0 c).before 7 t d = iblk m c 7 t := before0_7_of m (dats m 0 c) (dats_A m c 7) (after_7 m c) t d

/-- Every point writes the first result's buffer. -/
theorem live (t : Fin cfg0.N) : cfg0.idle 8 (grid0.coords t) = false := by
  by_cases h : t.val % 33 = 0
  · exact liveAt0_8_A t (at0 t h) (not1 t h) (not2 t (neL t h))
  by_cases h' : t.val % 33 = 32
  · exact liveAt0_8_C t (not0 t h) (at1 t h) (at2 t h')
  · exact liveAt0_8_B t (not0 t h) (at1 t h) (not2 t h')

/-- So after the first point of a block of rows it holds what the point before left. -/
theorem before_8 (c : Dev nD) (t : Fin cfg0.N) (h : ¬t.val % 33 = 0) (d) :
    (dats m 0 c).before 8 t d = before m c t := by
  have fresh : cfg0.fresh 8 t.val = false := by
    by_cases h' : t.val % 33 = 32
    · exact notFresh0_8_C t (not0 t h) (at1 t h) (at2 t h')
    · exact notFresh0_8_B t (not0 t h) (at1 t h) (not2 t h')
  rw [Dat.before_out_traj _ 8 rfl (fun _ _ => rfl)
    (fun t _ e _ => absurd ((live t).symm.trans e) Bool.false_ne_true) t.val t rfl d,
    if_neg (by rw [fresh]; exact Bool.false_ne_true)]
  dsimp only [dats]

/-! ## The body at a grid point -/

/-- What the body finds at point `t`, -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it leaves. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 2400000 in
theorem body_first (c : Dev nD) (t : Fin cfg0.N) (h : t.val % 33 = 0) :
    pre m c t ⊢ wp frame (wpE (defs₀ (F := F)) Variants.none c none) Set.univ (bodyAt0 t) (fun _ => post m c t) := by
  unfold pre post bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after_0]
  rw [show (dats m 0 c).leavesExact 1 t = owns (c : Thread nD τ) (ms0_1 t) fullShare ((dats m 0 c).after 1 t) from by
    unfold Dat.leavesExact; rw [liveAt0_1 t], after_1]
  rw [show (dats m 0 c).leavesExact 2 t = owns (c : Thread nD τ) (ms0_2 t) fullShare ((dats m 0 c).after 2 t) from by
    unfold Dat.leavesExact; rw [liveAt0_2 t], after_2]
  rw [show (dats m 0 c).leavesExact 3 t = owns (c : Thread nD τ) (ms0_3 t) fullShare ((dats m 0 c).after 3 t) from by
    unfold Dat.leavesExact; rw [liveAt0_3 t], after_3]
  rw [show (dats m 0 c).leavesExact 4 t = owns (c : Thread nD τ) (ms0_4 t) fullShare ((dats m 0 c).after 4 t) from by
    unfold Dat.leavesExact; rw [liveAt0_4 t], after_4]
  rw [show (dats m 0 c).leavesExact 5 t = owns (c : Thread nD τ) (ms0_5 t) fullShare ((dats m 0 c).after 5 t) from by
    unfold Dat.leavesExact; rw [liveAt0_5 t], after_5]
  rw [show (dats m 0 c).leavesExact 6 t = owns (c : Thread nD τ) (ms0_6 t) fullShare ((dats m 0 c).after 6 t) from by
    unfold Dat.leavesExact; rw [liveAt0_6 t], after_6]
  rw [show (dats m 0 c).leavesExact 7 t = owns (c : Thread nD τ) (ms0_7 t) fullShare ((dats m 0 c).after 7 t) from by
    unfold Dat.leavesExact; rw [liveAt0_7 t], after_7]
  rw [show (dats m 0 c).leavesExact 8 t = owns (c : Thread nD τ) (ms0_8 t) fullShare ((dats m 0 c).after 8 t) from by
    unfold Dat.leavesExact; rw [live t], after_8]
  rw [Dat.leavesExact_idle (dats m 0 c) 9 t (idleAt0_9_A t (at0 t h) (not1 t h) (not2 t (neL t h))) (noFlush0_9_A t (at0 t h) (not1 t h) (not2 t (neL t h)))]
  rw [sums_first m c t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((first m c t h).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  iintro ⟨H0, H1, H2, H3, H4, H5, H6, H7, ⟨%e, H8⟩, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (fun y => cover_first c _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) y (at0 t h) (not1 t h) (not2 t (neL t h)))
  iexists _; iexact H9

set_option maxHeartbeats 2400000 in
theorem body_middle (c : Dev nD) (t : Fin cfg0.N) (h : ¬t.val % 33 = 0) (h' : ¬t.val % 33 = 32) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8 m c t h]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after_0]
  rw [show (dats m 0 c).leavesExact 1 t = owns (c : Thread nD τ) (ms0_1 t) fullShare ((dats m 0 c).after 1 t) from by
    unfold Dat.leavesExact; rw [liveAt0_1 t], after_1]
  rw [show (dats m 0 c).leavesExact 2 t = owns (c : Thread nD τ) (ms0_2 t) fullShare ((dats m 0 c).after 2 t) from by
    unfold Dat.leavesExact; rw [liveAt0_2 t], after_2]
  rw [show (dats m 0 c).leavesExact 3 t = owns (c : Thread nD τ) (ms0_3 t) fullShare ((dats m 0 c).after 3 t) from by
    unfold Dat.leavesExact; rw [liveAt0_3 t], after_3]
  rw [show (dats m 0 c).leavesExact 4 t = owns (c : Thread nD τ) (ms0_4 t) fullShare ((dats m 0 c).after 4 t) from by
    unfold Dat.leavesExact; rw [liveAt0_4 t], after_4]
  rw [show (dats m 0 c).leavesExact 5 t = owns (c : Thread nD τ) (ms0_5 t) fullShare ((dats m 0 c).after 5 t) from by
    unfold Dat.leavesExact; rw [liveAt0_5 t], after_5]
  rw [show (dats m 0 c).leavesExact 6 t = owns (c : Thread nD τ) (ms0_6 t) fullShare ((dats m 0 c).after 6 t) from by
    unfold Dat.leavesExact; rw [liveAt0_6 t], after_6]
  rw [show (dats m 0 c).leavesExact 7 t = owns (c : Thread nD τ) (ms0_7 t) fullShare ((dats m 0 c).after 7 t) from by
    unfold Dat.leavesExact; rw [liveAt0_7 t], after_7]
  rw [show (dats m 0 c).leavesExact 8 t = owns (c : Thread nD τ) (ms0_8 t) fullShare ((dats m 0 c).after 8 t) from by
    unfold Dat.leavesExact; rw [live t], after_8]
  rw [Dat.leavesExact_idle (dats m 0 c) 9 t (idleAt0_9_B t (not0 t h) (at1 t h) (not2 t h')) (noFlush0_9_B t (not0 t h) (at1 t h) (not2 t h'))]
  rw [sums_middle m c t h h']
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((middle m c t h h' (before m c t)).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, ⟨%e, H8⟩, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (fun y => cover_middle c _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (before m c t) y (not0 t h) (at1 t h) (not2 t h'))
  iexists _; iexact H9

set_option maxHeartbeats 2400000 in
theorem body_last (c : Dev nD) (t : Fin cfg0.N) (h : t.val % 33 = 32) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8 m c t (ne0 t h)]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after_0]
  rw [show (dats m 0 c).leavesExact 1 t = owns (c : Thread nD τ) (ms0_1 t) fullShare ((dats m 0 c).after 1 t) from by
    unfold Dat.leavesExact; rw [liveAt0_1 t], after_1]
  rw [show (dats m 0 c).leavesExact 2 t = owns (c : Thread nD τ) (ms0_2 t) fullShare ((dats m 0 c).after 2 t) from by
    unfold Dat.leavesExact; rw [liveAt0_2 t], after_2]
  rw [show (dats m 0 c).leavesExact 3 t = owns (c : Thread nD τ) (ms0_3 t) fullShare ((dats m 0 c).after 3 t) from by
    unfold Dat.leavesExact; rw [liveAt0_3 t], after_3]
  rw [show (dats m 0 c).leavesExact 4 t = owns (c : Thread nD τ) (ms0_4 t) fullShare ((dats m 0 c).after 4 t) from by
    unfold Dat.leavesExact; rw [liveAt0_4 t], after_4]
  rw [show (dats m 0 c).leavesExact 5 t = owns (c : Thread nD τ) (ms0_5 t) fullShare ((dats m 0 c).after 5 t) from by
    unfold Dat.leavesExact; rw [liveAt0_5 t], after_5]
  rw [show (dats m 0 c).leavesExact 6 t = owns (c : Thread nD τ) (ms0_6 t) fullShare ((dats m 0 c).after 6 t) from by
    unfold Dat.leavesExact; rw [liveAt0_6 t], after_6]
  rw [show (dats m 0 c).leavesExact 7 t = owns (c : Thread nD τ) (ms0_7 t) fullShare ((dats m 0 c).after 7 t) from by
    unfold Dat.leavesExact; rw [liveAt0_7 t], after_7]
  rw [show (dats m 0 c).leavesExact 8 t = owns (c : Thread nD τ) (ms0_8 t) fullShare ((dats m 0 c).after 8 t) from by
    unfold Dat.leavesExact; rw [live t], after_8]
  rw [show (dats m 0 c).leavesExact 9 t = owns (c : Thread nD τ) (ms0_9 t) fullShare ((dats m 0 c).after 9 t) from by
    unfold Dat.leavesExact; rw [liveAt0_9_C t (not0 t (ne0 t h)) (at1 t (ne0 t h)) (at2 t h)], after_9, normed_last m c t h]
  rw [sums_last m c t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((last m c t h (before m c t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, ⟨%e, H8⟩, ⟨%e', H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (fun y => cover_last c _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (before m c t) y (not0 t (ne0 t h)) (at1 t (ne0 t h)) (at2 t h))
  unfold owns; iexists _; isplitr
  swap; · iexact H9
  ipureintro; exact View.read_writes_of_cover _ _ _ _ _ (fun y => cover_last' c _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (before m c t) y (not0 t (ne0 t h)) (at1 t (ne0 t h)) (at2 t h))

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  refine triple_restated (P := pre m c t) (Q := fun _ => post m c t) ?_ rfl .rfl fun _ => .rfl
  by_cases h : t.val % 33 = 0
  · exact body_first m c t h
  by_cases h' : t.val % 33 = 32
  · exact body_last m c t h'
  · exact body_middle m c t h h'

/-! ## The run -/

set_option backward.isDefEq.respectTransparency.types false in
theorem launched : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

theorem run : θ_run defs (onTc (τ := τ) (main (F := F))) (s₀ m ρ) (Pipeline.FramePost cfgs (dats m) 0 (V m)) :=
  (θ_run defs _ _).mono (fun _ h => h.1) (launched m ρ)

/-- The arguments are kept. -/
theorem kept : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)) :=
  frame_of m ρ (dats m) (dats_A m) (run m ρ)

/-- The call runs and keeps its arguments. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8))
    ∧ r.2.sem = fun _ => 0) :=
  θ_run_and (kept m ρ) ((θ_run defs _ _).mono (fun _ h => h.2) (launched m ρ))

/-- The same with the two arrays named. -/
theorem arrays : θ_run defs (onTc (τ := τ) (main (F := F))) ⟨m, fun _ => 0, ρ⟩ (fun r => ∀ c : Dev nD,
    r.2.mem ((c.tc : Thread nD τ).loc main_v7_0) = (dats m 0 c).arrAt 8 cfg0.N
    ∧ r.2.mem ((c.tc : Thread nD τ).loc main_v7_1) = (dats m 0 c).arrAt 9 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)) :=
  (θ_run defs _ _).mono (fun _ h c => ⟨(h.1 c).1 8, (h.1 c).1 9, h.2 c⟩) (θ_run_and (run m ρ) (kept m ρ))

theorem flushed_8 (c : Dev nD) (t : Fin cfg0.N) :
    (dats m 0 c).flushed 8 t = (cfg0.win 8).cut (grid0.coords t) (sums m c t.val t.isLt) := by
  show (cfg0.win 8).cut (grid0.coords t) ((dats m 0 c).after 8 t) = _
  rw [after_8]

theorem flushed_9 (c : Dev nD) (t : Fin cfg0.N) :
    (dats m 0 c).flushed 9 t = (cfg0.win 9).cut (grid0.coords t) (normed m c t) := by
  show (cfg0.win 9).cut (grid0.coords t) ((dats m 0 c).after 9 t) = _
  rw [after_9]

end Cert.NextIdeal.Own

end
-- ==== Proof.NextBlock.lean ====
/-
  What one grid point of the down-projection before another layer computes: the first of a row tile's points writes a product, the
  others add theirs to what stands, and the last then normalises every row, scales it and adds it to the residual stream,
  and into a second array normalises the row again for the layer that follows.
-/
module

public import proofs.«01_k».proof.Proof.Down
public import proofs.«01_k».proof.Proof.NextFrame

@[expose] public section

set_option maxRecDepth 16384

noncomputable section

namespace Cert.Attention

open Idealize.ShloMosaic

/-- A row normalised again, scaled by the next layer's gain `w`, and modulated. -/
def following (y : ℕ → EReal) (w scale shift : EReal) (d : ℕ) : EReal :=
  y d * Ideal.rsqrt (Ideal.div (∑ l : Fin 4096, y l * y l) (Ideal.ofBits .f32 0x45800000#32)
    + Ideal.ofBits .f32 0x358637BD#32) * w * (Ideal.ofBits .f32 0x3F800000#32 + scale) + shift

theorem following_congr {y y' : ℕ → EReal} {w w' a a' b b' : EReal} {d : ℕ} (hd : d < 4096) (hy : ∀ l < 4096, y l = y' l)
    (hw : w = w') (ha : a = a') (hb : b = b') : following y w a b d = following y' w' a' b' d := by
  subst hw ha hb
  unfold following
  rw [hy d hd, Finset.sum_congr rfl fun (l : Fin 4096) _ => congrArg₂ (fun a b : EReal => a * b) (hy l l.isLt) (hy l l.isLt)]

end Cert.Attention

namespace Cert.NextIdeal.Block

open Cert.NextIdeal Cert.NextIdeal.Gen Cert.NextIdeal.Own Cert.Attention Cert.DownIdeal.Block Idealize.ShloMosaic Idealize.ShloMosaic.ValueIdx
  Idealize.ShloMosaic.TcCoe Idealize.SL.Sem

/-- A product of a 512-by-512 block with 1024 columns, at a row and a column. -/
theorem new_apply (x : Vec Ideal S512x512 .bf16) (w : Vec Ideal S512x1024 .bf16) (r : Fin 512) (d : Fin 1024) :
    k0_pay1 (F := Ideal) x w (ix2 r d) = dot 512 (at2 x r) (fun k => at2 w k d) := by
  unfold k0_pay1
  rw [shapeCast_self]
  exact product_apply x w r d

/-- The same, added to what stands. -/
theorem add_apply (v : Vec Ideal S512x1024 .f32) (x : Vec Ideal S512x512 .bf16) (w : Vec Ideal S512x1024 .bf16) (r : Fin 512)
    (d : Fin 1024) : k0_pay7 (F := Ideal) v x w (ix2 r d) = v (ix2 r d) + dot 512 (at2 x r) (fun k => at2 w k d) := by
  unfold k0_pay7
  rw [shapeCast_self, shapeCast_self, addf_apply]
  exact congrArg (fun a : EReal => v (ix2 r d) + a) (product_apply x w r d)

/-- What the last point does to 64 rows, at a row and a column. -/
theorem post_apply (y x : Vec Ideal S64x4096 .f32) (g : Vec Ideal S1x1x4096 .f32) (w : Vec Ideal S1x4096 .f32) (r : Fin 64)
    (d : Fin 4096) :
    k0_pay11 (F := Ideal) y x g w (ix2 r d) = Cert.DownIdeal.Block.post (at2 y r) (x (ix2 r d)) (g (ix3 0 0 d)) (w (ix2 0 d)) d := by
  unfold k0_pay11 Cert.DownIdeal.Block.post
  dsimp only
  rw [shapeCast_self, shapeCast_self, addf_apply, mulf_apply, mulf_apply, mulf_apply,
    broadcastTo_apply _ broadcasts_S1x4096_S64x4096 (ix2 r d) (ix2 0 d) (fun a => match a with
      | ⟨0, _⟩ => by show 0 = if (1 : ℕ) = 1 then 0 else r.val; rw [if_pos rfl]
      | ⟨1, _⟩ => by show d.val = if (4096 : ℕ) = 1 then 0 else d.val; rw [if_neg (by decide)]),
    broadcastTo_apply _ broadcasts_S1x4096_S64x4096 (ix2 r d) (ix2 0 d) (fun a => match a with
      | ⟨0, _⟩ => by show 0 = if (1 : ℕ) = 1 then 0 else r.val; rw [if_pos rfl]
      | ⟨1, _⟩ => by show d.val = if (4096 : ℕ) = 1 then 0 else d.val; rw [if_neg (by decide)]),
    broadcastTo_apply _ broadcasts_S64x1_S64x4096 (ix2 r d) (ix2 r 0) (fun a => match a with
      | ⟨0, _⟩ => by show r.val = if (64 : ℕ) = 1 then 0 else r.val; rw [if_neg (by decide)]
      | ⟨1, _⟩ => by show 0 = if (1 : ℕ) = 1 then 0 else d.val; rw [if_pos rfl]),
    shapeCast_apply g shapeCasts_S1x1x4096_S1x4096 (ix2 0 d) (ix3 0 0 d) (by
      rw [Shape.rowMajor_val_three, Shape.rowMajor_val_two]; show (0 * 1 + 0) * 4096 + d.val = 0 * 4096 + d.val; omega)]
  refine congrArg (fun a : EReal => x (ix2 r d) + g (ix3 0 0 d) * a) ?_
  refine congrArg (fun a : EReal => a * w (ix2 0 d)) ?_
  refine congrArg₂ (fun a b : EReal => a * b) (at2_of y (ix2 r d) r d rfl rfl) ?_
  show Ideal.rsqrt (Ideal.div _ _ + _) = _
  refine congrArg (fun a : EReal => Ideal.rsqrt (Ideal.div a _ + _)) ?_
  rw [shapeCast_apply _ shapeCasts_S64_S64x1 (ix2 r 0) (ix1 r) (by
      rw [Shape.rowMajor_val_one, Shape.rowMajor_val_two]; show r.val = r.val * 1 + 0; omega)]
  have key : ∀ l : Fin 4096, mulf (F := Ideal) (s := S64x4096) (φ := .f32) y y (ix2 r l) = at2 y r l * at2 y r l := fun l => by
    rw [mulf_apply, at2_of y (ix2 r l) r l rfl rfl]
  refine (Ideal.multiReduction_add_single _ _ reduces_S64x4096_S64 _ _ (ix1 r)).trans ?_
  refine Finset.sum_congr rfl fun l _ => ?_
  refine Eq.trans ?_ (key l)
  exact congrArg _ (Shape.idx_ext₂ rfl rfl)

/-- One row of 4096 read at each of 64 rows. -/
theorem row_apply (w : Vec Ideal S1x4096 .f32) (r : Fin 64) (d : Fin 4096) :
    broadcastTo S64x4096 w broadcasts_S1x4096_S64x4096 (ix2 r d) = w (ix2 0 d) :=
  broadcastTo_apply _ broadcasts_S1x4096_S64x4096 (ix2 r d) (ix2 0 d) (fun a => match a with
    | ⟨0, _⟩ => by show 0 = if (1 : ℕ) = 1 then 0 else r.val; rw [if_pos rfl]
    | ⟨1, _⟩ => by show d.val = if (4096 : ℕ) = 1 then 0 else d.val; rw [if_neg (by decide)])

/-- A block of one row read as that row. -/
theorem flat_apply (g : Vec Ideal S1x1x4096 .f32) (d : Fin 4096) :
    shapeCast S1x4096 g shapeCasts_S1x1x4096_S1x4096 (ix2 0 d) = g (ix3 0 0 d) :=
  shapeCast_apply g shapeCasts_S1x1x4096_S1x4096 (ix2 0 d) (ix3 0 0 d) (by
    rw [Shape.rowMajor_val_three, Shape.rowMajor_val_two]; show (0 * 1 + 0) * 4096 + d.val = 0 * 4096 + d.val; omega)

/-- The second normalisation, at a row and a column. -/
theorem again_apply (y x : Vec Ideal S64x4096 .f32) (g : Vec Ideal S1x1x4096 .f32) (w : Vec Ideal S1x4096 .f32) (r : Fin 64)
    (d : Fin 4096) :
    k0_pay12 (F := Ideal) y x g w (ix2 r d)
      = k0_pay11 (F := Ideal) y x g w (ix2 r d)
        * Ideal.rsqrt (Ideal.div (∑ l : Fin 4096, at2 (k0_pay11 (F := Ideal) y x g w) r l * at2 (k0_pay11 (F := Ideal) y x g w) r l)
          (Ideal.ofBits .f32 0x45800000#32) + Ideal.ofBits .f32 0x358637BD#32) := by
  unfold k0_pay12
  dsimp only
  generalize k0_pay11 (F := Ideal) y x g w = z
  rw [mulf_apply,
    broadcastTo_apply _ broadcasts_S64x1_S64x4096 (ix2 r d) (ix2 r 0) (fun a => match a with
      | ⟨0, _⟩ => by show r.val = if (64 : ℕ) = 1 then 0 else r.val; rw [if_neg (by decide)]
      | ⟨1, _⟩ => by show 0 = if (1 : ℕ) = 1 then 0 else d.val; rw [if_pos rfl])]
  refine congrArg (fun a : EReal => z (ix2 r d) * a) ?_
  show Ideal.rsqrt (Ideal.div _ _ + _) = _
  refine congrArg (fun a : EReal => Ideal.rsqrt (Ideal.div a _ + _)) ?_
  rw [shapeCast_apply _ shapeCasts_S64_S64x1 (ix2 r 0) (ix1 r) (by
      rw [Shape.rowMajor_val_one, Shape.rowMajor_val_two]; show r.val = r.val * 1 + 0; omega)]
  have key : ∀ l : Fin 4096, mulf (F := Ideal) (s := S64x4096) (φ := .f32) z z (ix2 r l) = at2 z r l * at2 z r l := fun l => by
    rw [mulf_apply, at2_of z (ix2 r l) r l rfl rfl]
  refine (Ideal.multiReduction_add_single _ _ reduces_S64x4096_S64 _ _ (ix1 r)).trans ?_
  refine Finset.sum_congr rfl fun l _ => ?_
  refine Eq.trans ?_ (key l)
  exact congrArg _ (Shape.idx_ext₂ rfl rfl)

/-- What the second array receives, at a row and a column. -/
theorem following_apply (y x : Vec Ideal S64x4096 .f32) (g : Vec Ideal S1x1x4096 .f32) (w v : Vec Ideal S1x4096 .f32)
    (scale shift : Vec Ideal S1x1x4096 .f32) (r : Fin 64) (d : Fin 4096) :
    k0_pay6 (F := Ideal) (k0_pay12 y x g w) (k0_pay13 v) scale shift (ix2 r d)
      = following (at2 (k0_pay11 (F := Ideal) y x g w) r) (v (ix2 0 d)) (scale (ix3 0 0 d)) (shift (ix3 0 0 d)) d := by
  unfold k0_pay6 k0_pay13 following
  dsimp only
  rw [shapeCast_self, truncf_apply, addf_apply, mulf_apply, mulf_apply, row_apply, row_apply, row_apply, flat_apply, addf_apply, flat_apply,
    again_apply, at2_of (k0_pay11 (F := Ideal) y x g w) (ix2 r d) r d rfl rfl]
  rfl

section Point

variable (arg2 : Memref sig .tc .vmem S512x512 .bf16) (harg2 : arg2.IsWhole)
  (arg3 : Memref sig .tc .vmem S512x4096 .bf16) (harg3 : arg3.IsWhole)
  (arg4 : Memref sig .tc .vmem S512x4096 .f32) (harg4 : arg4.IsWhole)
  (arg5 : Memref sig .tc .vmem S1x1x4096 .f32) (harg5 : arg5.IsWhole)
  (arg6 : Memref sig .tc .vmem S1x4096 .f32) (harg6 : arg6.IsWhole)
  (arg7 : Memref sig .tc .vmem S1x4096 .f32) (harg7 : arg7.IsWhole)
  (arg8 : Memref sig .tc .vmem S1x1x4096 .f32) (harg8 : arg8.IsWhole)
  (arg9 : Memref sig .tc .vmem S1x1x4096 .f32) (harg9 : arg9.IsWhole)
  (arg10 : Memref sig .tc .vmem S512x4096 .f32) (harg10 : arg10.IsWhole)
  (arg11 : Memref sig .tc .vmem S512x4096 .bf16) (harg11 : arg11.IsWhole)
  (x0 : Vec Ideal S512x512 .bf16) (x1 : Vec Ideal S512x4096 .bf16) (x2 : Vec Ideal S512x4096 .f32)
  (x3 : Vec Ideal S1x1x4096 .f32) (x4 x5 : Vec Ideal S1x4096 .f32) (x6 x7 : Vec Ideal S1x1x4096 .f32) (xo8 : Vec Ideal S512x4096 .f32)

/-- A point's product, at a row and a column of the tile. -/
def prod (y : S512x4096.Idx) : EReal := dot 512 (at2 x0 (y 0)) (fun k => at2 x1 k (y 1))

/-- The left block as loaded is the block. -/
theorem left_load : View.readAt (Elt Ideal) arg2.view (Rect.unit (s := S512x512) ![0, 0] S512x512.size inb_S512x512_S512x512_0_0).toLoadRect
    (harg2.unread x0) = x0 := by
  funext z
  refine (harg2.readAt_unread x0 _ z).trans (congrArg x0 (Shape.idx_ext₂ ?_ ?_))
  · show 0 + 1 * (z 0).val = (z 0).val; omega
  · show 0 + 1 * (z 1).val = (z 1).val; omega

/-- A column chunk of the right block as loaded. -/
theorem right_load (o : ℕ) (inb : ∀ a : Fin 2, (![0, o] : Fin 2 → ℕ) a + S512x1024.size a ≤ S512x4096.size a) (k d : ℕ) (hk : k < 512)
    (hd : d < 1024) :
    at2 (n := 512) (p := 1024) (View.readAt (Elt Ideal) arg3.view (Rect.unit (s := S512x4096) ![0, o] S512x1024.size inb).toLoadRect (harg3.unread x1)) k d
      = at2 (n := 512) (p := 4096) x1 k (o + d) := by
  rw [← at2_of (n := 512) (p := 1024) _ (ix2 ⟨k, hk⟩ ⟨d, hd⟩) k d rfl rfl]
  refine (harg3.readAt_unread x1 _ _).trans (at2_of (n := 512) (p := 4096) x1 _ _ _ ?_ ?_)
  · show 0 + 1 * k = k; omega
  · show o + 1 * d = o + d; omega

/-- A chunk the first point writes. -/
theorem piece_new (o : ℕ) (inb : ∀ a : Fin 2, (![0, o] : Fin 2 → ℕ) a + S512x1024.size a ≤ S512x4096.size a) (z : S512x1024.Idx) :
    k0_pay1 (F := Ideal)
      (View.readAt (Elt Ideal) arg2.view (Rect.unit (s := S512x512) ![0, 0] S512x512.size inb_S512x512_S512x512_0_0).toLoadRect (harg2.unread x0))
      (View.readAt (Elt Ideal) arg3.view (Rect.unit (s := S512x4096) ![0, o] S512x1024.size inb).toLoadRect (harg3.unread x1)) z
      = prod x0 x1 ((Rect.unit (s := S512x4096) ![0, o] S512x1024.size inb).emb z) := by
  have h0 : (z 0).val < 512 := (z 0).isLt
  have h1 : (z 1).val < 1024 := (z 1).isLt
  rw [left_load]
  refine (congrArg _ (eq_ix2 z)).trans ((new_apply _ _ (z 0) (z 1)).trans ?_)
  unfold prod
  have e0 : (((Rect.unit (s := S512x4096) ![0, o] S512x1024.size inb).emb z 0 : Fin _) : ℕ) = (z 0).val := by
    show 0 + 1 * (z 0).val = _; omega
  have e1 : (((Rect.unit (s := S512x4096) ![0, o] S512x1024.size inb).emb z 1 : Fin _) : ℕ) = o + (z 1).val := by
    show o + 1 * (z 1).val = _; omega
  rw [e0, e1]
  exact dot_congr (fun _ _ => rfl) fun k hk => right_load arg3 harg3 x1 o inb k _ hk h1

/-- A chunk a later point writes. -/
theorem piece_add (o : ℕ) (inb : ∀ a : Fin 2, (![0, o] : Fin 2 → ℕ) a + S512x1024.size a ≤ S512x4096.size a) (z : S512x1024.Idx) :
    k0_pay7 (F := Ideal)
      (View.readAt (Elt Ideal) arg10.view (Rect.unit (s := S512x4096) ![0, o] S512x1024.size inb).toLoadRect (harg10.unread xo8))
      (View.readAt (Elt Ideal) arg2.view (Rect.unit (s := S512x512) ![0, 0] S512x512.size inb_S512x512_S512x512_0_0).toLoadRect (harg2.unread x0))
      (View.readAt (Elt Ideal) arg3.view (Rect.unit (s := S512x4096) ![0, o] S512x1024.size inb).toLoadRect (harg3.unread x1)) z
      = xo8 ((Rect.unit (s := S512x4096) ![0, o] S512x1024.size inb).emb z)
        + prod x0 x1 ((Rect.unit (s := S512x4096) ![0, o] S512x1024.size inb).emb z) := by
  refine (congrArg _ (eq_ix2 z)).trans ((add_apply _ _ _ (z 0) (z 1)).trans ?_)
  refine congrArg₂ (fun a b : EReal => a + b) ?_ ?_
  · exact (congrArg _ (eq_ix2 z).symm).trans
      ((harg10.readAt_unread xo8 (Rect.unit (s := S512x4096) ![0, o] S512x1024.size inb).toLoadRect z).trans
        (congrArg xo8 (Shape.idx_ext₂ rfl rfl)))
  · refine Eq.trans ?_ (piece_new arg2 harg2 arg3 harg3 x0 x1 o inb z)
    exact ((congrArg _ (eq_ix2 z)).trans (new_apply _ _ (z 0) (z 1))).symm

variable (c : Dev nD) (i : grid0.Coords)

/-- What a row tile's first point leaves. -/
theorem first_apply {κ : Kind} {sp : Space} (v : View sig κ sp S512x4096 .f32) (f : v.ty.Contents (Elt Ideal))
    (hc0 : cond0_0 i) (hc1 : ¬cond0_1 i) (hc2 : ¬cond0_2 i) (y : S512x4096.Idx) :
    v.read (Elt Ideal) (v.writes (Elt Ideal) f (kernelRun0_A (F := Ideal) c i arg2 harg2 arg3 harg3 arg4 harg4 arg5 harg5 arg6 harg6 arg7 harg7 arg8 harg8 arg9 harg9 arg10 harg10 arg11 harg11 hc0 hc1 hc2 x0 x1 x2 x3 x4 x5 x6 x7).1) y
      = prod x0 x1 y := by
  refine View.read_writes_apply_of_pieces (Val := Elt Ideal) _ _ (fun y => (prod x0 x1 y : Elt Ideal .f32)) _ ?_ y
    (cover_first c i arg2 harg2 arg3 harg3 arg4 harg4 arg5 harg5 arg6 harg6 arg7 harg7 arg8 harg8 arg9 harg9 arg10 harg10 arg11 harg11 x0 x1 x2 x3 x4 x5 x6 x7 y hc0 hc1 hc2)
  intro p hp z
  unfold kernelRun0_A at hp
  dsimp only at hp
  simp only [List.mem_cons, List.not_mem_nil, or_false] at hp
  rcases hp with rfl | rfl | rfl | rfl
  · exact piece_new arg2 harg2 arg3 harg3 x0 x1 3072 _ z
  · exact piece_new arg2 harg2 arg3 harg3 x0 x1 2048 _ z
  · exact piece_new arg2 harg2 arg3 harg3 x0 x1 1024 _ z
  · exact piece_new arg2 harg2 arg3 harg3 x0 x1 0 _ z

/-- What a point between leaves. -/
theorem middle_apply {κ : Kind} {sp : Space} (v : View sig κ sp S512x4096 .f32) (f : v.ty.Contents (Elt Ideal))
    (hc0 : ¬cond0_0 i) (hc1 : cond0_1 i) (hc2 : ¬cond0_2 i) (y : S512x4096.Idx) :
    v.read (Elt Ideal) (v.writes (Elt Ideal) f (kernelRun0_B (F := Ideal) c i arg2 harg2 arg3 harg3 arg4 harg4 arg5 harg5 arg6 harg6 arg7 harg7 arg8 harg8 arg9 harg9 arg10 harg10 arg11 harg11 hc0 hc1 hc2 x0 x1 x2 x3 x4 x5 x6 x7 xo8).1) y
      = xo8 y + prod x0 x1 y := by
  refine View.read_writes_apply_of_pieces (Val := Elt Ideal) _ _ (fun y => (xo8 y + prod x0 x1 y : EReal)) _ ?_ y
    (cover_middle c i arg2 harg2 arg3 harg3 arg4 harg4 arg5 harg5 arg6 harg6 arg7 harg7 arg8 harg8 arg9 harg9 arg10 harg10 arg11 harg11 x0 x1 x2 x3 x4 x5 x6 x7 xo8 y hc0 hc1 hc2)
  intro p hp z
  unfold kernelRun0_B at hp
  dsimp only at hp
  simp only [List.mem_cons, List.not_mem_nil, or_false] at hp
  rcases hp with rfl | rfl | rfl | rfl
  · exact piece_add arg2 harg2 arg3 harg3 arg10 harg10 x0 x1 xo8 3072 _ z
  · exact piece_add arg2 harg2 arg3 harg3 arg10 harg10 x0 x1 xo8 2048 _ z
  · exact piece_add arg2 harg2 arg3 harg3 arg10 harg10 x0 x1 xo8 1024 _ z
  · exact piece_add arg2 harg2 arg3 harg3 arg10 harg10 x0 x1 xo8 0 _ z

/-- What stands at the last point before its rows are normalised. -/
def standing (y : S512x4096.Idx) : EReal := xo8 y + prod x0 x1 y

/-- A row of the tile once normalised. -/
def normal (y : S512x4096.Idx) : EReal :=
  Cert.DownIdeal.Block.post (at2 (n := 512) (p := 4096) (standing x0 x1 xo8) (y 0)) (x2 y) (x3 (ix3 0 0 (y 1))) (x4 (ix2 0 (y 1))) (y 1)

/-- And once more, for the second array. -/
def normal2 (y : S512x4096.Idx) : EReal :=
  following (at2 (n := 512) (p := 4096) (normal x0 x1 x2 x3 x4 xo8) (y 0)) (x5 (ix2 0 (y 1))) (x7 (ix3 0 0 (y 1))) (x6 (ix3 0 0 (y 1))) (y 1)

/-- The pieces the last point writes before its loop. -/
theorem sums_apply {κ : Kind} {sp : Space} (v : View sig κ sp S512x4096 .f32) (f : v.ty.Contents (Elt Ideal)) (y : S512x4096.Idx) :
    v.read (Elt Ideal) (v.writes (Elt Ideal) f (last_run.sl.H8_4 c arg2 harg2 arg3 harg3 arg10 harg10 x0 x1 xo8)) y
      = standing x0 x1 xo8 y := by
  refine View.read_writes_apply_of_pieces (Val := Elt Ideal) v f (fun y => (standing x0 x1 xo8 y : Elt Ideal .f32)) _ ?_ y
    (View.cover_of_tiledL (last_run.sl.H8_4 c arg2 harg2 arg3 harg3 arg10 harg10 x0 x1 xo8) S512x1024.size (by sl_kernel_rfl) y)
  intro p hp z
  unfold last_run.sl.H8_4 at hp
  simp only [List.mem_cons, List.not_mem_nil, or_false] at hp
  rcases hp with rfl | rfl | rfl | rfl
  · exact piece_add arg2 harg2 arg3 harg3 arg10 harg10 x0 x1 xo8 3072 _ z
  · exact piece_add arg2 harg2 arg3 harg3 arg10 harg10 x0 x1 xo8 2048 _ z
  · exact piece_add arg2 harg2 arg3 harg3 arg10 harg10 x0 x1 xo8 1024 _ z
  · exact piece_add arg2 harg2 arg3 harg3 arg10 harg10 x0 x1 xo8 0 _ z

/-- Trip `k` of the loop is at row `64 k`. -/
theorem trip_row : ∀ k : Fin k0_t1_loop.trips, k0_off1 k = ![64 * k.val, 0] := by decide +kernel

theorem trips_eq : k0_t1_loop.trips = 8 := by decide +kernel

section Strip

variable (hc : k0_cond3 i = 1#1) (f : arg10.view.ty.Contents (Elt Ideal)) (k : Fin k0_t1_loop.trips)

/-- What trip `k` writes into the first array, over the contents `f` it finds, -/
def written : Vec Ideal S64x4096 .f32 :=
  k0_pay11 (F := Ideal) (View.readAt (Elt Ideal) arg10.view (Rect.unit (s := S512x4096) (k0_off1 k) S64x4096.size (k0_off1_inb i k hc)).toLoadRect f)
          (View.readAt (Elt Ideal) arg4.view (Rect.unit (s := S512x4096) (k0_off1 k) S64x4096.size (k0_off1_inb i k hc)).toLoadRect (harg4.unread x2))
          (View.readAt (Elt Ideal) arg5.view (Rect.unit (s := S1x1x4096) ![0, 0, 0] S1x1x4096.size inb_S1x1x4096_S1x1x4096_0_0_0).toLoadRect (harg5.unread x3))
          (View.readAt (Elt Ideal) arg6.view (Rect.unit (s := S1x4096) ![0, 0] S1x4096.size inb_S1x4096_S1x4096_0_0).toLoadRect (harg6.unread x4))

/-- and into the second. -/
def written2 : Vec Ideal S64x4096 .bf16 :=
  k0_pay6 (F := Ideal) (k0_pay12 (View.readAt (Elt Ideal) arg10.view (Rect.unit (s := S512x4096) (k0_off1 k) S64x4096.size (k0_off1_inb i k hc)).toLoadRect f)
          (View.readAt (Elt Ideal) arg4.view (Rect.unit (s := S512x4096) (k0_off1 k) S64x4096.size (k0_off1_inb i k hc)).toLoadRect (harg4.unread x2))
          (View.readAt (Elt Ideal) arg5.view (Rect.unit (s := S1x1x4096) ![0, 0, 0] S1x1x4096.size inb_S1x1x4096_S1x1x4096_0_0_0).toLoadRect (harg5.unread x3))
          (View.readAt (Elt Ideal) arg6.view (Rect.unit (s := S1x4096) ![0, 0] S1x4096.size inb_S1x4096_S1x4096_0_0).toLoadRect (harg6.unread x4)))
          (k0_pay13 (View.readAt (Elt Ideal) arg7.view (Rect.unit (s := S1x4096) ![0, 0] S1x4096.size inb_S1x4096_S1x4096_0_0).toLoadRect (harg7.unread x5))) (View.readAt (Elt Ideal) arg9.view (Rect.unit (s := S1x1x4096) ![0, 0, 0] S1x1x4096.size inb_S1x1x4096_S1x1x4096_0_0_0).toLoadRect (harg9.unread x7))
          (View.readAt (Elt Ideal) arg8.view (Rect.unit (s := S1x1x4096) ![0, 0, 0] S1x1x4096.size inb_S1x1x4096_S1x1x4096_0_0_0).toLoadRect (harg8.unread x6))

theorem trip_pieces :
    (strip_run (F := Ideal) Variants.none c none i arg2 harg2 arg3 harg3 arg4 harg4 arg5 harg5 arg6 harg6 arg7 harg7 arg8 harg8 arg9 harg9 arg10 harg10 arg11 harg11 hc (harg4.unread x2) (harg5.unread x3) (harg6.unread x4) (harg7.unread x5) (harg8.unread x6) (harg9.unread x7) k).1 f
      = [⟨(Rect.unit (s := S512x4096) (k0_off1 k) S64x4096.size (k0_off1_inb i k hc)), written arg4 harg4 arg5 harg5 arg6 harg6 arg10 x2 x3 x4 i hc f k⟩] := by
  unfold strip_run written
  dsimp only

theorem trip_pieces2 :
    (strip_run (F := Ideal) Variants.none c none i arg2 harg2 arg3 harg3 arg4 harg4 arg5 harg5 arg6 harg6 arg7 harg7 arg8 harg8 arg9 harg9 arg10 harg10 arg11 harg11 hc (harg4.unread x2) (harg5.unread x3) (harg6.unread x4) (harg7.unread x5) (harg8.unread x6) (harg9.unread x7) k).2.1 f
      = [⟨(Rect.unit (s := S512x4096) (k0_off1 k) S64x4096.size (k0_off1_inb i k hc)), written2 arg4 harg4 arg5 harg5 arg6 harg6 arg7 harg7 arg8 harg8 arg9 harg9 arg10 x2 x3 x4 x5 x6 x7 i hc f k⟩] := by
  unfold strip_run written2
  dsimp only
  rfl

variable (hk : k.val < 8) (hf : ∀ y : S512x4096.Idx, 64 * k.val ≤ (y 0).val → arg10.view.read (Elt Ideal) f y = standing x0 x1 xo8 y)

include hk hf

/-- At a row and a column, the rows it finds standing. -/
theorem trip_apply (r : Fin 64) (d : Fin 4096) :
    written arg4 harg4 arg5 harg5 arg6 harg6 arg10 x2 x3 x4 i hc f k (ix2 r d)
      = normal x0 x1 x2 x3 x4 xo8 (ix2 ⟨64 * k.val + r.val, by omega⟩ d) := by
  have hoff : k0_off1 k = ![64 * k.val, 0] := trip_row k
  have o0 : k0_off1 k 0 = 64 * k.val := by rw [hoff]; rfl
  have o1 : k0_off1 k 1 = 0 := by rw [hoff]; rfl
  refine (post_apply _ _ _ _ r d).trans ?_
  unfold normal
  refine post_congr d.isLt (fun l hl => ?_) ?_ ?_ ?_
  · rw [← at2_of (n := 64) (p := 4096) _ (ix2 r ⟨l, hl⟩) _ _ rfl rfl]
    refine Eq.trans ?_ (at2_of (n := 512) (p := 4096) (standing x0 x1 xo8) (ix2 ⟨64 * k.val + r.val, by omega⟩ ⟨l, hl⟩) _ _ rfl rfl)
    refine Eq.trans ?_ (hf (ix2 ⟨64 * k.val + r.val, by omega⟩ ⟨l, hl⟩) (by show 64 * k.val ≤ 64 * k.val + r.val; omega))
    refine congrArg (arg10.view.read (Elt Ideal) f) (Shape.idx_ext₂ ?_ ?_)
    · show k0_off1 k 0 + 1 * r.val = 64 * k.val + r.val
      rw [o0]; omega
    · show k0_off1 k 1 + 1 * l = l
      rw [o1]; omega
  · refine (harg4.readAt_unread x2 _ _).trans (congrArg x2 (Shape.idx_ext₂ ?_ ?_))
    · show k0_off1 k 0 + 1 * r.val = 64 * k.val + r.val
      rw [o0]; omega
    · show k0_off1 k 1 + 1 * d.val = d.val
      rw [o1]; omega
  · refine (harg5.readAt_unread x3 _ _).trans (congrArg x3 (funext fun a => Fin.ext ?_))
    match a with
    | ⟨0, _⟩ => rfl
    | ⟨1, _⟩ => rfl
    | ⟨2, _⟩ => show 0 + 1 * d.val = d.val; omega
  · refine (harg6.readAt_unread x4 _ _).trans (congrArg x4 (Shape.idx_ext₂ rfl ?_))
    show 0 + 1 * d.val = d.val; omega

theorem trip_apply2 (r : Fin 64) (d : Fin 4096) :
    written2 arg4 harg4 arg5 harg5 arg6 harg6 arg7 harg7 arg8 harg8 arg9 harg9 arg10 x2 x3 x4 x5 x6 x7 i hc f k (ix2 r d)
      = normal2 x0 x1 x2 x3 x4 x5 x6 x7 xo8 (ix2 ⟨64 * k.val + r.val, by omega⟩ d) := by
  refine (following_apply _ _ _ _ _ _ _ r d).trans ?_
  unfold normal2
  refine following_congr d.isLt (fun l hl => ?_) ?_ ?_ ?_
  · rw [← at2_of (n := 64) (p := 4096) _ (ix2 r ⟨l, hl⟩) _ _ rfl rfl]
    refine Eq.trans ?_ (at2_of (n := 512) (p := 4096) (normal x0 x1 x2 x3 x4 xo8) (ix2 ⟨64 * k.val + r.val, by omega⟩ ⟨l, hl⟩) _ _ rfl rfl)
    exact trip_apply arg4 harg4 arg5 harg5 arg6 harg6 arg10 x0 x1 x2 x3 x4 xo8 i hc f k hk hf r ⟨l, hl⟩
  · refine (harg7.readAt_unread x5 _ _).trans (congrArg x5 (Shape.idx_ext₂ rfl ?_))
    show 0 + 1 * d.val = d.val; omega
  · refine (harg9.readAt_unread x7 _ _).trans (congrArg x7 (funext fun a => Fin.ext ?_))
    match a with
    | ⟨0, _⟩ => rfl
    | ⟨1, _⟩ => rfl
    | ⟨2, _⟩ => show 0 + 1 * d.val = d.val; omega
  · refine (harg8.readAt_unread x6 _ _).trans (congrArg x6 (funext fun a => Fin.ext ?_))
    match a with
    | ⟨0, _⟩ => rfl
    | ⟨1, _⟩ => rfl
    | ⟨2, _⟩ => show 0 + 1 * d.val = d.val; omega

end Strip

/-- Writing 64 rows over others: they are written, the others stay. -/
theorem rows_cons {κ : Kind} {sp : Space} {φ : EltTy} (v : View sig κ sp S512x4096 φ) (f : v.ty.Contents (Elt Ideal))
    (k : ℕ) (hk : k < k0_t1_loop.trips) (inb : ∀ a, k0_off1 ⟨k, hk⟩ a + S64x4096.size a ≤ S512x4096.size a) (w : Vec Ideal S64x4096 φ)
    (L : List (View.Piece (Elt Ideal) S512x4096 φ)) (done rest : S512x4096.Idx → Elt Ideal φ)
    (hw : ∀ (r : Fin 64) (d : Fin 4096), w (ix2 r d) = done (ix2 ⟨64 * k + r.val, by have := trips_eq; omega⟩ d)) (y : S512x4096.Idx)
    (ht : (y 0).val < 64 * k → (v.read (Elt Ideal) (v.writes (Elt Ideal) f L) y) = done y)
    (hr : ¬ (y 0).val < 64 * k → (v.read (Elt Ideal) (v.writes (Elt Ideal) f L) y) = rest y) :
    (v.read (Elt Ideal) (v.writes (Elt Ideal) f (⟨Rect.unit (s := S512x4096) (k0_off1 ⟨k, hk⟩) S64x4096.size inb, w⟩ :: L)) y)
      = if (y 0).val < 64 * (k + 1) then done y else rest y := by
  have hoff : k0_off1 ⟨k, hk⟩ = ![64 * k, 0] := trip_row ⟨k, hk⟩
  have h0 : (y 0).val < 512 := (y 0).isLt
  have h1 : (y 1).val < 4096 := (y 1).isLt
  by_cases hy : 64 * k ≤ (y 0).val ∧ (y 0).val < 64 * k + 64
  · rw [if_pos (by omega)]
    refine (View.read_writes_cons_rows_of_mem (d := ![512, 4096]) (size := S64x4096.size) (o := 64 * k) v f _ w L y
      (ix2 ⟨(y 0).val - 64 * k, by omega⟩ ⟨(y 1).val, h1⟩) hoff
      (by show (y 0).val = 64 * k + ((y 0).val - 64 * k); omega) rfl).trans ?_
    refine (hw ⟨(y 0).val - 64 * k, by omega⟩ ⟨(y 1).val, h1⟩).trans (congrArg _ (Shape.idx_ext₂ ?_ rfl))
    show 64 * k + ((y 0).val - 64 * k) = (y 0).val
    omega
  · refine (View.read_writes_cons_rows_of_not_mem (d := ![512, 4096]) (size := S64x4096.size) (o := 64 * k) (W := 64) v f _ w L y
      hoff rfl (by omega)).trans ?_
    by_cases h : (y 0).val < 64 * k
    · rw [if_pos (by omega)]; exact ht h
    · rw [if_neg (by omega)]; exact hr h

/-- The rows of the trips before `k` are normalised, the others stand. -/
theorem rows_apply (hc : k0_cond3 i = 1#1) (G : arg10.view.ty.Contents (Elt Ideal))
    (hG : ∀ y, arg10.view.read (Elt Ideal) G y = standing x0 x1 xo8 y) (k : ℕ) (hk : k ≤ 8) :
    ∀ {κ : Kind} {sp : Space} (v : View sig κ sp S512x4096 .f32) (f : v.ty.Contents (Elt Ideal)),
      (∀ y, v.read (Elt Ideal) f y = standing x0 x1 xo8 y) → ∀ y : S512x4096.Idx,
      v.read (Elt Ideal) (v.writes (Elt Ideal) f (strips (F := Ideal) Variants.none c none i arg2 harg2 arg3 harg3 arg4 harg4 arg5 harg5 arg6 harg6 arg7 harg7 arg8 harg8 arg9 harg9 arg10 harg10 arg11 harg11 hc (harg4.unread x2) (harg5.unread x3) (harg6.unread x4) (harg7.unread x5) (harg8.unread x6) (harg9.unread x7) G k).1) y
        = if (y 0).val < 64 * k then normal x0 x1 x2 x3 x4 xo8 y else standing x0 x1 xo8 y := by
  induction k with
  | zero =>
    intro κ sp v f hf y
    rw [if_neg (by omega)]
    exact hf y
  | succ k ih =>
    intro κ sp v f hf y
    have hk' : k < k0_t1_loop.trips := by rw [trips_eq]; omega
    have hs := strips_succ (F := Ideal) Variants.none c none i arg2 harg2 arg3 harg3 arg4 harg4 arg5 harg5 arg6 harg6 arg7 harg7 arg8 harg8 arg9 harg9 arg10 harg10 arg11 harg11 hc (harg4.unread x2) (harg5.unread x3) (harg6.unread x4) (harg7.unread x5) (harg8.unread x6) (harg9.unread x7) G ⟨k, hk'⟩
    dsimp only at hs
    rw [hs]
    dsimp only
    rw [trip_pieces, List.singleton_append]
    exact rows_cons v f k hk' _ _ _ _ _
      (trip_apply arg4 harg4 arg5 harg5 arg6 harg6 arg10 x0 x1 x2 x3 x4 xo8 i hc _ ⟨k, hk'⟩ (by show k < 8; omega)
        (fun y hy => (ih (by omega) arg10.view G hG y).trans (if_neg (by show ¬ _ < _; exact Nat.not_lt.mpr hy))))
      y (fun h => (ih (by omega) v f hf y).trans (if_pos h)) (fun h => (ih (by omega) v f hf y).trans (if_neg h))

/-- The same rows of the second array, whatever it held. -/
theorem rows_apply2 (hc : k0_cond3 i = 1#1) (G : arg10.view.ty.Contents (Elt Ideal))
    (hG : ∀ y, arg10.view.read (Elt Ideal) G y = standing x0 x1 xo8 y) (k : ℕ) (hk : k ≤ 8)
    {κ : Kind} {sp : Space} (v : View sig κ sp S512x4096 .bf16) (f : v.ty.Contents (Elt Ideal)) (y : S512x4096.Idx)
    (hy : (y 0).val < 64 * k) :
    (v.read (Elt Ideal) (v.writes (Elt Ideal) f (strips (F := Ideal) Variants.none c none i arg2 harg2 arg3 harg3 arg4 harg4 arg5 harg5 arg6 harg6 arg7 harg7 arg8 harg8 arg9 harg9 arg10 harg10 arg11 harg11 hc (harg4.unread x2) (harg5.unread x3) (harg6.unread x4) (harg7.unread x5) (harg8.unread x6) (harg9.unread x7) G k).2) y : EReal) = normal2 x0 x1 x2 x3 x4 x5 x6 x7 xo8 y := by
  induction k with
  | zero => exact absurd hy (by omega)
  | succ k ih =>
    have hk' : k < k0_t1_loop.trips := by rw [trips_eq]; omega
    have hs := strips_succ (F := Ideal) Variants.none c none i arg2 harg2 arg3 harg3 arg4 harg4 arg5 harg5 arg6 harg6 arg7 harg7 arg8 harg8 arg9 harg9 arg10 harg10 arg11 harg11 hc (harg4.unread x2) (harg5.unread x3) (harg6.unread x4) (harg7.unread x5) (harg8.unread x6) (harg9.unread x7) G ⟨k, hk'⟩
    dsimp only at hs
    rw [hs]
    dsimp only
    rw [trip_pieces2, List.singleton_append]
    refine (rows_cons v f k hk' _ _ _ _ _
      (trip_apply2 arg4 harg4 arg5 harg5 arg6 harg6 arg7 harg7 arg8 harg8 arg9 harg9 arg10 x0 x1 x2 x3 x4 x5 x6 x7 xo8 i hc _ ⟨k, hk'⟩ (by show k < 8; omega)
        (fun y hy => (rows_apply arg2 harg2 arg3 harg3 arg4 harg4 arg5 harg5 arg6 harg6 arg7 harg7 arg8 harg8 arg9 harg9 arg10 harg10 arg11 harg11 x0 x1 x2 x3 x4 x5 x6 x7 xo8 c i hc G hG k (by omega) arg10.view G hG y).trans
          (if_neg (by show ¬ _ < _; exact Nat.not_lt.mpr hy))))
      y (fun h => ih (by omega) h) (fun _ => rfl)).trans (if_pos hy)

/-- What a row tile's last point leaves in the first array, -/
theorem last_apply {κ : Kind} {sp : Space} (v : View sig κ sp S512x4096 .f32) (f : v.ty.Contents (Elt Ideal))
    (hc0 : ¬cond0_0 i) (hc1 : cond0_1 i) (hc2 : cond0_2 i) (y : S512x4096.Idx) :
    v.read (Elt Ideal) (v.writes (Elt Ideal) f (last_run (F := Ideal) c i arg2 harg2 arg3 harg3 arg4 harg4 arg5 harg5 arg6 harg6 arg7 harg7 arg8 harg8 arg9 harg9 arg10 harg10 arg11 harg11 hc0 hc1 hc2 x0 x1 x2 x3 x4 x5 x6 x7 xo8).1) y
      = normal x0 x1 x2 x3 x4 xo8 y := by
  unfold last_run
  dsimp only
  rw [View.writes_append]
  have h0 : (y 0).val < 512 := (y 0).isLt
  refine (rows_apply arg2 harg2 arg3 harg3 arg4 harg4 arg5 harg5 arg6 harg6 arg7 harg7 arg8 harg8 arg9 harg9 arg10 harg10 arg11 harg11 x0 x1 x2 x3 x4 x5 x6 x7 xo8 c i _ _ ?_ 8 le_rfl v _ ?_ y).trans (if_pos (by omega))
  · exact sums_apply arg2 harg2 arg3 harg3 arg10 harg10 x0 x1 xo8 c arg10.view _
  · exact sums_apply arg2 harg2 arg3 harg3 arg10 harg10 x0 x1 xo8 c v _

/-- and in the second. -/
theorem last_apply2 {κ : Kind} {sp : Space} (v : View sig κ sp S512x4096 .bf16) (f : v.ty.Contents (Elt Ideal))
    (hc0 : ¬cond0_0 i) (hc1 : cond0_1 i) (hc2 : cond0_2 i) (y : S512x4096.Idx) :
    (v.read (Elt Ideal) (v.writes (Elt Ideal) f (last_run (F := Ideal) c i arg2 harg2 arg3 harg3 arg4 harg4 arg5 harg5 arg6 harg6 arg7 harg7 arg8 harg8 arg9 harg9 arg10 harg10 arg11 harg11 hc0 hc1 hc2 x0 x1 x2 x3 x4 x5 x6 x7 xo8).2.1) y : EReal)
      = normal2 x0 x1 x2 x3 x4 x5 x6 x7 xo8 y := by
  unfold last_run
  dsimp only
  have h0 : (y 0).val < 512 := (y 0).isLt
  refine rows_apply2 arg2 harg2 arg3 harg3 arg4 harg4 arg5 harg5 arg6 harg6 arg7 harg7 arg8 harg8 arg9 harg9 arg10 harg10 arg11 harg11 x0 x1 x2 x3 x4 x5 x6 x7 xo8 c i _ _ ?_ 8 le_rfl v _ y (by omega)
  exact sums_apply arg2 harg2 arg3 harg3 arg10 harg10 x0 x1 xo8 c arg10.view _

end Point

end Cert.NextIdeal.Block

end
-- ==== Proof.NextArray.lean ====
/-
  The down-projection before another layer as a whole: the blocks its points read, the sums a row tile's points run up, and
  the two arrays they leave.
-/
module

public import proofs.«01_k».proof.Proof.NextBlock

@[expose] public section

set_option maxRecDepth 16384

noncomputable section

namespace Cert.NextIdeal.Block

open Cert.NextIdeal Cert.NextIdeal.Gen Cert.NextIdeal.Own Cert.Attention Cert.DownIdeal.Block Idealize.ShloMosaic Idealize.ShloMosaic.ValueIdx
  Idealize.ShloMosaic.TcCoe Idealize.SL.Sem

/-- Which block each window reads or writes at point `t`: row tile `t / 33`, step `t % 33` of the shared coordinate. -/
theorem idx_facts : ∀ t : Fin cfg0.N,
    (win0_0.index t (0 : Fin 2) = t.val / 33 ∧ win0_0.index t (1 : Fin 2) = t.val % 33)
    ∧ (win0_1.index t (0 : Fin 2) = t.val % 33 ∧ win0_1.index t (1 : Fin 2) = 0)
    ∧ (win0_2.index t (0 : Fin 2) = t.val / 33 ∧ win0_2.index t (1 : Fin 2) = 0)
    ∧ (win0_3.index t (0 : Fin 3) = t.val / 33 / 4 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val / 33 / 4 ∧ win0_6.index t (1 : Fin 3) = 0 ∧ win0_6.index t (2 : Fin 3) = 0)
    ∧ (win0_7.index t (0 : Fin 3) = t.val / 33 / 4 ∧ win0_7.index t (1 : Fin 3) = 0 ∧ win0_7.index t (2 : Fin 3) = 0)
    ∧ (win0_8.index t (0 : Fin 2) = t.val / 33 ∧ win0_8.index t (1 : Fin 2) = 0)
    ∧ (win0_9.index t (0 : Fin 2) = t.val / 33 ∧ win0_9.index t (1 : Fin 2) = 0) :=
  (by decide +kernel : ∀ t : Fin grid0.N, _)

variable (m : (ℓ : Loc nD τ sig) → Buf (Elt Ideal) ℓ)

/-- The weights, from the arguments. -/
def weight (c : Dev nD) : ℕ → ℕ → EReal :=
  weights (at3 (n := 64) (p := 256) (q := 4096) (m ((c : Thread nD τ).loc main_arg1)))
    (at2 (n := 256) (p := 4096) (m ((c : Thread nD τ).loc main_arg2)))

/-- What the kernel's second operand holds when it starts. -/
theorem V_weight (c : Dev nD) (k d : ℕ) (hk : k < 16896) (hd : d < 4096) :
    at2 (n := 16896) (p := 4096) (V m c main_v4) k d = weight m c k d := by
  have hV : @Eq (FVec Ideal S16896x4096 .bf16) (V m c main_v4)
      (stacked (m ((c : Thread nD τ).loc main_arg1)) (m ((c : Thread nD τ).loc main_arg2))) := by
    show StableHlo.after hostOps0 _ _ = _
    after_results
    rfl
  rw [hV, ← at2_of (n := 16896) (p := 4096) _ (ix2 ⟨k, hk⟩ ⟨d, hd⟩) k d rfl rfl]
  exact stacked_apply _ _ ⟨k, hk⟩ ⟨d, hd⟩

/-- The normalisation's gain as the kernel reads it: the argument as one row. -/
theorem V_gain (c : Dev nD) (d : ℕ) (hd : d < 4096) :
    at2 (n := 1) (p := 4096) (V m c main_v5) 0 d = at1 (n := 4096) (m ((c : Thread nD τ).loc main_arg5)) d := by
  have hV : @Eq (FVec Ideal S1x4096 .f32) (V m c main_v5)
      (shapeCast S1x4096 (m ((c : Thread nD τ).loc main_arg5)) shapeCasts_S4096_S1x4096) := by
    show StableHlo.after hostOps0 _ _ = _
    after_results
    rfl
  rw [hV, ← at2_of (n := 1) (p := 4096) _ (ix2 0 ⟨d, hd⟩) 0 d rfl rfl,
    shapeCast_apply _ shapeCasts_S4096_S1x4096 (ix2 0 ⟨d, hd⟩) (ix1 ⟨d, hd⟩) (by
      rw [Shape.rowMajor_val_one, Shape.rowMajor_val_two]; show d = 0 * 4096 + d; omega)]
  exact at1_of (n := 4096) _ _ _ rfl

/-- And the second normalisation's. -/
theorem V_gain2 (c : Dev nD) (d : ℕ) (hd : d < 4096) :
    at2 (n := 1) (p := 4096) (V m c main_v6) 0 d = at1 (n := 4096) (m ((c : Thread nD τ).loc main_arg6)) d := by
  have hV : @Eq (FVec Ideal S1x4096 .f32) (V m c main_v6)
      (shapeCast S1x4096 (m ((c : Thread nD τ).loc main_arg6)) shapeCasts_S4096_S1x4096) := by
    show StableHlo.after hostOps0 _ _ = _
    after_results
    rfl
  rw [hV, ← at2_of (n := 1) (p := 4096) _ (ix2 0 ⟨d, hd⟩) 0 d rfl rfl,
    shapeCast_apply _ shapeCasts_S4096_S1x4096 (ix2 0 ⟨d, hd⟩) (ix1 ⟨d, hd⟩) (by
      rw [Shape.rowMajor_val_one, Shape.rowMajor_val_two]; show d = 0 * 4096 + d; omega)]
  exact at1_of (n := 4096) _ _ _ rfl

/-- The hidden layers point `t` reads. -/
theorem blk0_at (c : Dev nD) (t : Fin cfg0.N) (r e : ℕ) (hr : r < 512) (he : e < 512) :
    at2 (n := 512) (p := 512) (iblk m c 0 t) r e
      = at2 (n := 16384) (p := 16896) (m ((c : Thread nD τ).loc main_arg0)) (t.val / 33 * 512 + r) (512 * (t.val % 33) + e) := by
  obtain ⟨⟨f0, f1⟩, -⟩ := idx_facts t
  rw [← at2_of (n := 512) (p := 512) (iblk m c 0 t) (ix2 ⟨r, hr⟩ ⟨e, he⟩) r e rfl rfl]
  refine at2_of (n := 16384) (p := 16896) (m ((c : Thread nD τ).loc main_arg0)) ((win0_0.rect t).emb (ix2 ⟨r, hr⟩ ⟨e, he⟩)) _ _ ?_ ?_
  · rw [← f0]; exact win0_0.rect_emb_val t _ (0 : Fin 2)
  · refine (win0_0.rect_emb_val t _ (1 : Fin 2)).trans ?_
    rw [f1]; show t.val % 33 * 512 + e = 512 * (t.val % 33) + e; omega

/-- The weights point `t` reads: its step's rows. -/
theorem blk1_at (c : Dev nD) (t : Fin cfg0.N) (k d : ℕ) (hk : k < 512) (hd : d < 4096) :
    at2 (n := 512) (p := 4096) (iblk m c 1 t) k d = weight m c (512 * (t.val % 33) + k) d := by
  obtain ⟨-, ⟨f0, f1⟩, -⟩ := idx_facts t
  rw [← at2_of (n := 512) (p := 4096) (iblk m c 1 t) (ix2 ⟨k, hk⟩ ⟨d, hd⟩) k d rfl rfl]
  refine (at2_of (n := 16896) (p := 4096) (V m c main_v4) ((win0_1.rect t).emb (ix2 ⟨k, hk⟩ ⟨d, hd⟩)) (512 * (t.val % 33) + k) d ?_ ?_).trans
    (V_weight m c _ d (by omega) hd)
  · refine (win0_1.rect_emb_val t _ (0 : Fin 2)).trans ?_
    rw [f0]; show t.val % 33 * 512 + k = 512 * (t.val % 33) + k; omega
  · refine (win0_1.rect_emb_val t _ (1 : Fin 2)).trans ?_
    rw [f1]; show 0 * 4096 + d = d; omega

/-- The residual stream, the gate and the gain point `t` reads. -/
theorem blk2_at (c : Dev nD) (t : Fin cfg0.N) (y : S512x4096.Idx) :
    (iblk m c 2 t : S512x4096.Idx → EReal) y
      = at2 (n := 16384) (p := 4096) (m ((c : Thread nD τ).loc main_arg3)) (t.val / 33 * 512 + (y 0).val) (y 1).val := by
  obtain ⟨-, -, ⟨f0, f1⟩, -⟩ := idx_facts t
  refine at2_of (n := 16384) (p := 4096) (m ((c : Thread nD τ).loc main_arg3)) ((win0_2.rect t).emb y) _ _ ?_ ?_
  · rw [← f0]; exact win0_2.rect_emb_val t _ (0 : Fin 2)
  · refine (win0_2.rect_emb_val t _ (1 : Fin 2)).trans ?_
    rw [f1]; show 0 * 4096 + (y 1).val = (y 1).val; omega

theorem blk3_at (c : Dev nD) (t : Fin cfg0.N) (d : Fin 4096) :
    (iblk m c 3 t : S1x1x4096.Idx → EReal) (ix3 0 0 d)
      = at3 (n := 8) (p := 1) (q := 4096) (m ((c : Thread nD τ).loc main_arg4)) (t.val / 33 / 4) 0 d := by
  obtain ⟨-, -, -, ⟨f0, f1, f2⟩, -⟩ := idx_facts t
  refine at3_of (n := 8) (p := 1) (q := 4096) (m ((c : Thread nD τ).loc main_arg4)) ((win0_3.rect t).emb (ix3 0 0 d)) _ _ _ ?_ ?_ ?_
  · refine (win0_3.rect_emb_val t _ (0 : Fin 3)).trans ?_
    rw [f0]; show t.val / 33 / 4 * 1 + 0 = t.val / 33 / 4; omega
  · refine (win0_3.rect_emb_val t _ (1 : Fin 3)).trans ?_
    rw [f1]; rfl
  · refine (win0_3.rect_emb_val t _ (2 : Fin 3)).trans ?_
    rw [f2]; show 0 * 4096 + d.val = d.val; omega

theorem blk4_at (c : Dev nD) (t : Fin cfg0.N) (d : Fin 4096) :
    (iblk m c 4 t : S1x4096.Idx → EReal) (ix2 0 d) = at1 (n := 4096) (m ((c : Thread nD τ).loc main_arg5)) d := by
  obtain ⟨-, -, -, -, ⟨f0, f1⟩, -⟩ := idx_facts t
  refine (at2_of (n := 1) (p := 4096) (V m c main_v5) ((win0_4.rect t).emb (ix2 0 d)) 0 d ?_ ?_).trans (V_gain m c d d.isLt)
  · refine (win0_4.rect_emb_val t _ (0 : Fin 2)).trans ?_
    rw [f0]; rfl
  · refine (win0_4.rect_emb_val t _ (1 : Fin 2)).trans ?_
    rw [f1]; show 0 * 4096 + d.val = d.val; omega

/-- The next layer's gain, shift and scale. -/
theorem blk5_at (c : Dev nD) (t : Fin cfg0.N) (d : Fin 4096) :
    (iblk m c 5 t : S1x4096.Idx → EReal) (ix2 0 d) = at1 (n := 4096) (m ((c : Thread nD τ).loc main_arg6)) d := by
  obtain ⟨-, -, -, -, -, ⟨f0, f1⟩, -⟩ := idx_facts t
  refine (at2_of (n := 1) (p := 4096) (V m c main_v6) ((win0_5.rect t).emb (ix2 0 d)) 0 d ?_ ?_).trans (V_gain2 m c d d.isLt)
  · refine (win0_5.rect_emb_val t _ (0 : Fin 2)).trans ?_
    rw [f0]; rfl
  · refine (win0_5.rect_emb_val t _ (1 : Fin 2)).trans ?_
    rw [f1]; show 0 * 4096 + d.val = d.val; omega

theorem blk6_at (c : Dev nD) (t : Fin cfg0.N) (d : Fin 4096) :
    (iblk m c 6 t : S1x1x4096.Idx → EReal) (ix3 0 0 d)
      = at3 (n := 8) (p := 1) (q := 4096) (m ((c : Thread nD τ).loc main_arg7)) (t.val / 33 / 4) 0 d := by
  obtain ⟨-, -, -, -, -, -, ⟨f0, f1, f2⟩, -⟩ := idx_facts t
  refine at3_of (n := 8) (p := 1) (q := 4096) (m ((c : Thread nD τ).loc main_arg7)) ((win0_6.rect t).emb (ix3 0 0 d)) _ _ _ ?_ ?_ ?_
  · refine (win0_6.rect_emb_val t _ (0 : Fin 3)).trans ?_
    rw [f0]; show t.val / 33 / 4 * 1 + 0 = t.val / 33 / 4; omega
  · refine (win0_6.rect_emb_val t _ (1 : Fin 3)).trans ?_
    rw [f1]; rfl
  · refine (win0_6.rect_emb_val t _ (2 : Fin 3)).trans ?_
    rw [f2]; show 0 * 4096 + d.val = d.val; omega

theorem blk7_at (c : Dev nD) (t : Fin cfg0.N) (d : Fin 4096) :
    (iblk m c 7 t : S1x1x4096.Idx → EReal) (ix3 0 0 d)
      = at3 (n := 8) (p := 1) (q := 4096) (m ((c : Thread nD τ).loc main_arg8)) (t.val / 33 / 4) 0 d := by
  obtain ⟨-, -, -, -, -, -, -, ⟨f0, f1, f2⟩, -⟩ := idx_facts t
  refine at3_of (n := 8) (p := 1) (q := 4096) (m ((c : Thread nD τ).loc main_arg8)) ((win0_7.rect t).emb (ix3 0 0 d)) _ _ _ ?_ ?_ ?_
  · refine (win0_7.rect_emb_val t _ (0 : Fin 3)).trans ?_
    rw [f0]; show t.val / 33 / 4 * 1 + 0 = t.val / 33 / 4; omega
  · refine (win0_7.rect_emb_val t _ (1 : Fin 3)).trans ?_
    rw [f1]; rfl
  · refine (win0_7.rect_emb_val t _ (2 : Fin 3)).trans ?_
    rw [f2]; show 0 * 4096 + d.val = d.val; omega

/-- The product over the first `n` shared coordinates, at a row and a column. -/
def total (c : Dev nD) (n r d : ℕ) : EReal :=
  dot n (at2 (n := 16384) (p := 16896) (m ((c : Thread nD τ).loc main_arg0)) r) (fun k => weight m c k d)

/-- No coordinate, no product. -/
theorem total_zero (c : Dev nD) (r d : ℕ) : total m c 0 r d = 0 := by
  unfold total dot
  exact Finset.sum_empty

/-- What point `t` multiplies takes the sum 512 coordinates further. -/
theorem total_step (c : Dev nD) (t : Fin cfg0.N) (y : S512x4096.Idx) :
    total m c (512 * (t.val % 33) + 512) (t.val / 33 * 512 + (y 0).val) (y 1).val
      = total m c (512 * (t.val % 33)) (t.val / 33 * 512 + (y 0).val) (y 1).val + prod (iblk m c 0 t) (iblk m c 1 t) y := by
  have h0 : (y 0).val < 512 := (y 0).isLt
  have h1 : (y 1).val < 4096 := (y 1).isLt
  unfold total prod
  rw [dot_add]
  refine congrArg (fun a : EReal => _ + a) (dot_congr (fun k hk => ?_) fun k hk => ?_)
  · exact (blk0_at m c t _ k h0 hk).symm
  · exact (blk1_at m c t k _ hk h1).symm

/-- What stands after point `n` of a row tile other than its last. -/
theorem running (c : Dev nD) (n : ℕ) : ∀ (hn : n < cfg0.N), n % 33 ≠ 32 → ∀ y : S512x4096.Idx,
    sums m c n hn y = total m c (512 * (n % 33) + 512) (n / 33 * 512 + (y 0).val) (y 1).val := by
  induction n with
  | zero =>
    intro hn h2 y
    refine (congrFun (sums_first m c ⟨0, hn⟩ (Nat.zero_mod _)) y).trans ((first_apply _ _ _ _ _ _ _ _ _ _ _ _ _ _ _ _ _ _ _ _ _ _ _ _ _ _ _ _ _ _ _ _ _ _ _ y).trans ?_)
    refine Eq.trans ?_ (total_step m c ⟨0, hn⟩ y).symm
    rw [show 512 * ((⟨0, hn⟩ : Fin cfg0.N).val % 33) = 0 from rfl, total_zero, zero_add]
  | succ n ih =>
    intro hn h2 y
    by_cases h0 : (n + 1) % 33 = 0
    · refine (congrFun (sums_first m c ⟨n + 1, hn⟩ h0) y).trans ((first_apply _ _ _ _ _ _ _ _ _ _ _ _ _ _ _ _ _ _ _ _ _ _ _ _ _ _ _ _ _ _ _ _ _ _ _ y).trans ?_)
      refine Eq.trans ?_ (total_step m c ⟨n + 1, hn⟩ y).symm
      rw [show 512 * ((⟨n + 1, hn⟩ : Fin cfg0.N).val % 33) = 0 by show 512 * ((n + 1) % 33) = 0; omega, total_zero, zero_add]
    · refine (congrFun (sums_middle m c ⟨n + 1, hn⟩ h0 h2) y).trans ((middle_apply _ _ _ _ _ _ _ _ _ _ _ _ _ _ _ _ _ _ _ _ _ _ _ _ _ _ _ _ _ _ _ _ _ _ _ _ y).trans ?_)
      refine Eq.trans ?_ (total_step m c ⟨n + 1, hn⟩ y).symm
      refine congrArg (fun a : EReal => a + _) ((ih (Nat.lt_of_succ_lt hn) (by omega) y).trans ?_)
      show total m c (512 * (n % 33) + 512) (n / 33 * 512 + (y 0).val) (y 1).val
        = total m c (512 * ((n + 1) % 33)) ((n + 1) / 33 * 512 + (y 0).val) (y 1).val
      rw [show 512 * (n % 33) + 512 = 512 * ((n + 1) % 33) by omega, show n / 33 = (n + 1) / 33 by omega]

/-- What the last point of a row tile reads of the sums before it, with its own product. -/
theorem standing_last (c : Dev nD) (t : Fin cfg0.N) (ht : t.val % 33 = 32) (y : S512x4096.Idx) :
    standing (iblk m c 0 t) (iblk m c 1 t) (before m c t) y = total m c 16896 (t.val / 33 * 512 + (y 0).val) (y 1).val := by
  have hs := total_step m c t y
  rw [show 512 * (t.val % 33) + 512 = 16896 by omega] at hs
  unfold standing
  refine Eq.trans (congrArg (fun a : EReal => a + _) ?_) hs.symm
  refine (running m c (t.val - 1) _ (by omega) y).trans ?_
  rw [show 512 * ((t.val - 1) % 33) + 512 = 512 * (t.val % 33) by omega, show (t.val - 1) / 33 = t.val / 33 by omega]

/-- The residual stream with the normalised product added, at a row and a column. -/
def stream (c : Dev nD) (r d : ℕ) : EReal :=
  Cert.DownIdeal.Block.post (fun l => total m c 16896 r l)
    (at2 (n := 16384) (p := 4096) (m ((c : Thread nD τ).loc main_arg3)) r d)
    (at3 (n := 8) (p := 1) (q := 4096) (m ((c : Thread nD τ).loc main_arg4)) (r / 2048) 0 d)
    (at1 (n := 4096) (m ((c : Thread nD τ).loc main_arg5)) d) d

/-- What the first result array is shown to hold, -/
def result (c : Dev nD) : Buf (Elt Ideal) ((c : Thread nD τ).loc main_v7_0) :=
  (fun i : S16384x4096.Idx => (stream m c (i 0).val (i 1).val : Elt Ideal .f32))

/-- and the second. -/
def result2 (c : Dev nD) : Buf (Elt Ideal) ((c : Thread nD τ).loc main_v7_1) :=
  (fun i : S16384x4096.Idx => (following (stream m c (i 0).val)
    (at1 (n := 4096) (m ((c : Thread nD τ).loc main_arg6)) (i 1).val)
    (at3 (n := 8) (p := 1) (q := 4096) (m ((c : Thread nD τ).loc main_arg8)) ((i 0).val / 2048) 0 (i 1).val)
    (at3 (n := 8) (p := 1) (q := 4096) (m ((c : Thread nD τ).loc main_arg7)) ((i 0).val / 2048) 0 (i 1).val) (i 1).val : Elt Ideal .bf16))

/-- A normalised row of the last point is the stream's. -/
theorem normal_last (c : Dev nD) (t : Fin cfg0.N) (ht : t.val % 33 = 32) (y : S512x4096.Idx) :
    normal (iblk m c 0 t) (iblk m c 1 t) (iblk m c 2 t) (iblk m c 3 t) (iblk m c 4 t) (before m c t) y
      = stream m c (t.val / 33 * 512 + (y 0).val) (y 1).val := by
  have h0 : (y 0).val < 512 := (y 0).isLt
  have h1 : (y 1).val < 4096 := (y 1).isLt
  unfold normal stream
  refine post_congr h1 (fun l hl => ?_) (blk2_at m c t y) ((blk3_at m c t ⟨(y 1).val, h1⟩).trans ?_) (blk4_at m c t ⟨(y 1).val, h1⟩)
  · rw [← at2_of (n := 512) (p := 4096) _ (ix2 ⟨(y 0).val, h0⟩ ⟨l, hl⟩) _ _ rfl rfl]
    exact standing_last m c t ht (ix2 ⟨(y 0).val, h0⟩ ⟨l, hl⟩)
  · rw [show (t.val / 33 * 512 + (y 0).val) / 2048 = t.val / 33 / 4 by omega]

/-- What the last point of a row tile writes back of the first result is its block. -/
theorem flushed_eq (c : Dev nD) (t : Fin cfg0.N) (ht : t.val % 33 = 32) :
    (dats m 0 c).flushed 8 t = ((cfg0.win 8).blk t).view.read (Elt Ideal) (result m c) := by
  rw [flushed_8 m c t]
  funext y
  have h0 : (y 0).val < 512 := (y 0).isLt
  have h1 : (y 1).val < 4096 := (y 1).isLt
  obtain ⟨-, -, -, -, -, -, -, -, ⟨f0, f1⟩, -⟩ := idx_facts t
  have e0 : (((win0_8.rect t).emb y 0 : Fin _) : ℕ) = t.val / 33 * 512 + (y 0).val := by
    rw [← f0]; exact win0_8.rect_emb_val t y (0 : Fin 2)
  have e1 : (((win0_8.rect t).emb y 1 : Fin _) : ℕ) = (y 1).val := by
    refine (win0_8.rect_emb_val t y (1 : Fin 2)).trans ?_
    rw [f1]; show 0 * 4096 + (y 1).val = (y 1).val; omega
  refine (congrFun (sums_last m c t ht) y).trans ((last_apply _ _ _ _ _ _ _ _ _ _ _ _ _ _ _ _ _ _ _ _ _ _ _ _ _ _ _ _ _ _ _ _ _ _ _ _ y).trans ?_)
  show _ = stream m c (((win0_8.rect t).emb y 0 : Fin _) : ℕ) (((win0_8.rect t).emb y 1 : Fin _) : ℕ)
  rw [e0, e1]
  exact normal_last m c t ht y

/-- What the last point of a row tile writes back of the second result is its block. -/
theorem flushed_eq2 (c : Dev nD) (t : Fin cfg0.N) (ht : t.val % 33 = 32) :
    (dats m 0 c).flushed 9 t = ((cfg0.win 9).blk t).view.read (Elt Ideal) (result2 m c) := by
  rw [flushed_9 m c t]
  funext y
  have h0 : (y 0).val < 512 := (y 0).isLt
  have h1 : (y 1).val < 4096 := (y 1).isLt
  obtain ⟨-, -, -, -, -, -, -, -, -, ⟨f0, f1⟩⟩ := idx_facts t
  have e0 : (((win0_9.rect t).emb y 0 : Fin _) : ℕ) = t.val / 33 * 512 + (y 0).val := by
    rw [← f0]; exact win0_9.rect_emb_val t y (0 : Fin 2)
  have e1 : (((win0_9.rect t).emb y 1 : Fin _) : ℕ) = (y 1).val := by
    refine (win0_9.rect_emb_val t y (1 : Fin 2)).trans ?_
    rw [f1]; show 0 * 4096 + (y 1).val = (y 1).val; omega
  refine (congrFun (normed_last m c t ht) y).trans ((last_apply2 _ _ _ _ _ _ _ _ _ _ _ _ _ _ _ _ _ _ _ _ _ _ _ _ _ _ _ _ _ _ _ _ _ _ _ _ y).trans ?_)
  show _ = following (stream m c (((win0_9.rect t).emb y 0 : Fin _) : ℕ))
    (at1 (n := 4096) (m ((c : Thread nD τ).loc main_arg6)) (((win0_9.rect t).emb y 1 : Fin _) : ℕ))
    (at3 (n := 8) (p := 1) (q := 4096) (m ((c : Thread nD τ).loc main_arg8)) ((((win0_9.rect t).emb y 0 : Fin _) : ℕ) / 2048) 0 (((win0_9.rect t).emb y 1 : Fin _) : ℕ))
    (at3 (n := 8) (p := 1) (q := 4096) (m ((c : Thread nD τ).loc main_arg7)) ((((win0_9.rect t).emb y 0 : Fin _) : ℕ) / 2048) 0 (((win0_9.rect t).emb y 1 : Fin _) : ℕ)) (((win0_9.rect t).emb y 1 : Fin _) : ℕ)
  rw [e0, e1, show (t.val / 33 * 512 + (y 0).val) / 2048 = t.val / 33 / 4 by omega]
  unfold normal2
  refine following_congr h1 (fun l hl => ?_) (blk5_at m c t ⟨(y 1).val, h1⟩) (blk7_at m c t ⟨(y 1).val, h1⟩) (blk6_at m c t ⟨(y 1).val, h1⟩)
  rw [← at2_of (n := 512) (p := 4096) _ (ix2 ⟨(y 0).val, h0⟩ ⟨l, hl⟩) _ _ rfl rfl]
  exact normal_last m c t ht (ix2 ⟨(y 0).val, h0⟩ ⟨l, hl⟩)

/-- Every index of the first result array lies in the block of a point that is written back. -/
theorem cover_result (i : S16384x4096.Idx) :
    ∃ t : Fin cfg0.N, (cfg0.win 8).flush t = true ∧ i ∈ ((cfg0.win 8).blk t).view.set := by
  have h0 : (i 0).val < 16384 := (i 0).isLt
  have h1 : (i 1).val < 4096 := (i 1).isLt
  have hN : cfg0.N = 1056 := N_0
  have ht : (i 0).val / 512 * 33 + 32 < cfg0.N := by omega
  refine ⟨⟨_, ht⟩, (flush0_8 _).mpr (by show ((i 0).val / 512 * 33 + 32) % 33 = 32; omega), ?_⟩
  obtain ⟨-, -, -, -, -, -, -, -, ⟨f0, f1⟩, -⟩ := idx_facts ⟨_, ht⟩
  have g0 : win0_8.index ⟨_, ht⟩ (0 : Fin 2) = (i 0).val / 512 := by rw [f0]; dsimp only; omega
  show i ∈ ((View.whole main_v7_0).slice (win0_8.rect ⟨_, ht⟩)).set
  rw [View.set_slice_whole, Rect.mem_set_unit]
  intro a
  match a with
  | ⟨0, _⟩ =>
    show win0_8.index ⟨_, ht⟩ (0 : Fin 2) * 512 ≤ (i 0).val ∧ (i 0).val < win0_8.index ⟨_, ht⟩ (0 : Fin 2) * 512 + 512
    rw [g0]; omega
  | ⟨1, _⟩ =>
    show win0_8.index ⟨_, ht⟩ (1 : Fin 2) * 4096 ≤ (i 1).val ∧ (i 1).val < win0_8.index ⟨_, ht⟩ (1 : Fin 2) * 4096 + 4096
    rw [f1]; omega

/-- Every index of the second result array lies in the block of a point that is written back. -/
theorem cover_result2 (i : S16384x4096.Idx) :
    ∃ t : Fin cfg0.N, (cfg0.win 9).flush t = true ∧ i ∈ ((cfg0.win 9).blk t).view.set := by
  have h0 : (i 0).val < 16384 := (i 0).isLt
  have h1 : (i 1).val < 4096 := (i 1).isLt
  have hN : cfg0.N = 1056 := N_0
  have ht : (i 0).val / 512 * 33 + 32 < cfg0.N := by omega
  refine ⟨⟨_, ht⟩, (flush0_9 _).mpr (by show ((i 0).val / 512 * 33 + 32) % 33 = 32; omega), ?_⟩
  obtain ⟨-, -, -, -, -, -, -, -, -, ⟨f0, f1⟩⟩ := idx_facts ⟨_, ht⟩
  have g0 : win0_9.index ⟨_, ht⟩ (0 : Fin 2) = (i 0).val / 512 := by rw [f0]; dsimp only; omega
  show i ∈ ((View.whole main_v7_1).slice (win0_9.rect ⟨_, ht⟩)).set
  rw [View.set_slice_whole, Rect.mem_set_unit]
  intro a
  match a with
  | ⟨0, _⟩ =>
    show win0_9.index ⟨_, ht⟩ (0 : Fin 2) * 512 ≤ (i 0).val ∧ (i 0).val < win0_9.index ⟨_, ht⟩ (0 : Fin 2) * 512 + 512
    rw [g0]; omega
  | ⟨1, _⟩ =>
    show win0_9.index ⟨_, ht⟩ (1 : Fin 2) * 4096 ≤ (i 1).val ∧ (i 1).val < win0_9.index ⟨_, ht⟩ (1 : Fin 2) * 4096 + 4096
    rw [f1]; omega

/-- So the first array ends holding its result. -/
theorem final (c : Dev nD) : (dats m 0 c).arrAt 8 cfg0.N = result m c :=
  (dats m 0 c).arrAt_eq_of_cover 8 (result m c) (fun t hf => flushed_eq m c t ((flush0_8 t).mp hf)) cover_result

/-- So the second array ends holding its result. -/
theorem final2 (c : Dev nD) : (dats m 0 c).arrAt 9 cfg0.N = result2 m c :=
  (dats m 0 c).arrAt_eq_of_cover 9 (result2 m c) (fun t hf => flushed_eq2 m c t ((flush0_9 t).mp hf)) cover_result2

end Cert.NextIdeal.Block

end
-- ==== Proof.NextValue.lean ====
/-
  The reference of the down-projection before another layer: what its two results are at an index, and that the kernel's
  arrays hold just those.
-/
module

public import proofs.«01_k».proof.Proof.NextArray
public import proofs.«01_k».proof.Proof.DownValue
public import proofs.«01_k».proof.Proof.Gen.NextRefIdeal.Read

@[expose] public section

set_option maxRecDepth 16384

noncomputable section

namespace Cert.NextRefIdeal.Joined

open Cert.NextRefIdeal Cert.NextRefIdeal.Gen Cert.NextRefIdeal.Read Cert.Attention Cert.DownIdeal.Block Idealize.ShloMosaic
  Idealize.ShloMosaic.ValueIdx

variable (h : FVec Ideal S16384x16896 .bf16) (a : FVec Ideal S64x256x4096 .f32) (s : FVec Ideal S256x4096 .f32)
  (x : FVec Ideal S16384x4096 .f32) (g : FVec Ideal S8x1x4096 .f32) (w v : FVec Ideal S4096 .f32) (shift scale : FVec Ideal S8x1x4096 .f32)

/-- The first result at a row and a column: the lines up to it are the other down-projection's. -/
def stream (r d : ℕ) : EReal :=
  Cert.DownIdeal.Block.post (fun l => dot 16896 (at2 h r) (fun k => weights (at3 a) (at2 s) k l)) (at2 x r d) (at3 g (r / 2048) 0 d) (at1 w d) d

theorem stream_apply (r : Fin 16384) (d : Fin 4096) :
    val_main_v45 (F := Ideal) h a s x g w (ix2 r d) = stream h a s x g w r d :=
  Cert.DownRefIdeal.Joined.result_apply h a s x g w r d

/-- The same before it is laid out as one matrix. -/
theorem rows_apply (j : S8x2048x4096.Idx) (r : Fin 16384) (d : Fin 4096) (hr : 2048 * (j 0).val + (j 1).val = r.val) (hd : (j 2).val = d.val) :
    val_main_v25 (F := Ideal) h a s x g w j = stream h a s x g w r d := by
  have hj : idx_main_v45 (ix2 r d) = j := funext fun b => Fin.ext (by
    have h0 : (j 0).val < 8 := (j 0).isLt
    have h1 : (j 1).val < 2048 := (j 1).isLt
    have hr' := r.isLt
    have hd' := d.isLt
    match b with
    | ⟨0, _⟩ => show (r.val * 4096 + d.val) / 8388608 = (j 0).val; omega
    | ⟨1, _⟩ => show (r.val * 4096 + d.val) / 4096 % 2048 = (j 1).val; omega
    | ⟨2, _⟩ => show (r.val * 4096 + d.val) % 4096 = (j 2).val; omega)
  rw [← stream_apply, val_main_v45_apply, hj]

/-- The second result at a row and a column. -/
theorem following_apply (r : Fin 16384) (d : Fin 4096) :
    val_main_v47 (F := Ideal) h a s x g w v shift scale (ix2 r d)
      = following (stream h a s x g w r) (at1 v d) (at3 scale (r.val / 2048) 0 d) (at3 shift (r.val / 2048) 0 d) d := by
  have hr := r.isLt
  have hd := d.isLt
  have hs : ∀ i : S8x2048.Idx, 2048 * (i 0).val + (i 1).val = r.val → val_main_v27 (F := Ideal) h a s x g w i
      = ∑ l : Fin 4096, stream h a s x g w r l * stream h a s x g w r l := by
    intro i hi
    rw [val_main_v27_apply, val_main_cst_2_apply]
    refine (congrArg (fun z : EReal => z + _) Ideal.ofBits_zero_f32).trans ((zero_add _).trans ?_)
    refine Finset.sum_congr rfl fun l _ => ?_
    rw [val_main_v26_apply, rows_apply h a s x g w _ r l hi rfl]
    rfl
  rw [val_main_v47_apply, val_main_v46_apply, val_main_v44_apply, val_main_v42_apply, val_main_v38_apply, val_main_v35_apply,
    val_main_v34_apply, val_main_v33_apply, val_main_v32_apply, val_main_v30_apply, val_main_v28_apply, val_main_v29_apply, val_main_v31_apply,
    val_main_cst_3_apply, val_main_cst_4_apply, val_main_v37_apply, val_main_v36_apply, val_main_v41_apply, val_main_v40_apply,
    val_main_v39_apply, val_main_cst_5_apply, val_main_v43_apply,
    rows_apply h a s x g w (idx_main_v46 (ix2 r d)) r d
      (by show 2048 * ((r.val * 4096 + d.val) / 8388608) + (r.val * 4096 + d.val) / 4096 % 2048 = r.val; omega)
      (by show (r.val * 4096 + d.val) % 4096 = d.val; omega),
    hs _ (by show 2048 * ((r.val * 4096 + d.val) / 8388608) + (r.val * 4096 + d.val) / 4096 % 2048 = r.val; omega),
    at1_of v _ d.val (by show (r.val * 4096 + d.val) % 4096 = d.val; omega),
    at3_of scale _ (r.val / 2048) 0 d.val (by show (r.val * 4096 + d.val) / 8388608 = r.val / 2048; omega) rfl
      (by show (r.val * 4096 + d.val) % 4096 = d.val; omega),
    at3_of shift _ (r.val / 2048) 0 d.val (by show (r.val * 4096 + d.val) / 8388608 = r.val / 2048; omega) rfl
      (by show (r.val * 4096 + d.val) % 4096 = d.val; omega)]
  rfl

end Cert.NextRefIdeal.Joined

namespace Cert.NextIdeal.Block

open Cert.NextIdeal Cert.NextIdeal.Gen Cert.Attention Idealize.ShloMosaic Idealize.ShloMosaic.ValueIdx
  Idealize.ShloMosaic.TcCoe Idealize.SL.Sem

variable (m : (ℓ : Loc nD τ sig) → Buf (Elt Ideal) ℓ)

/-- The reference's first result is the kernel's, at an index, -/
theorem reference_eq (c : Dev nD) (i : S16384x4096.Idx) :
    Cert.NextRefIdeal.Read.val_main_v45 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) i = result m c i :=
  (congrArg _ (eq_ix2 i)).trans (Cert.NextRefIdeal.Joined.stream_apply _ _ _ _ _ _ (i 0) (i 1))

/-- and the second. -/
theorem reference_eq2 (c : Dev nD) (i : S16384x4096.Idx) :
    Cert.NextRefIdeal.Read.val_main_v47 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) i = result2 m c i :=
  (congrArg _ (eq_ix2 i)).trans (Cert.NextRefIdeal.Joined.following_apply _ _ _ _ _ _ _ _ _ (i 0) (i 1))

end Cert.NextIdeal.Block

end
-- ==== Proof.NextBits.lean ====
/-
  The run of the program at the machine's own numbers: its text is the idealised program's, which is proved to run whatever
  the numbers are.
-/
module

public import proofs.«01_k».proof.Defs
public import proofs.«01_k».proof.Proof.Gen.Next
public import proofs.«01_k».proof.Proof.NextFrame
public import Idealize.ShloMosaic.Lib.Tactic.ProgEq

@[expose] public section

set_option maxRecDepth 16384

noncomputable section

namespace Cert.NextIdeal.Own

open Idealize.ShloMosaic Idealize.SL.Sem

theorem same_main : Cert.Next.main (F := Bits) = Cert.NextIdeal.main (F := Bits) := by sl_kernel_rfl

theorem same_defs : Cert.Next.defs (F := Bits) = Cert.NextIdeal.defs (F := Bits) := by sl_kernel_rfl

/-- The program runs, keeps its arguments, and leaves every semaphore at zero. -/
theorem frame_bits : Cert.quiescent_Next := fun m ρ _ => by
  rw [same_main, same_defs]
  exact Cert.NextIdeal.Own.frame (F := Bits) m ρ

end Cert.NextIdeal.Own

end
-- ==== Proof.MergeLoop.lean ====
/-
  One loop of the kernel: the strips of rows it normalises, as an invariant in which neither array's pieces depend on what
  the second result's buffer held before.
-/
module

public import proofs.«01_k».proof.Proof.Gen.MergeIdeal.Loops

@[expose] public section

set_option maxRecDepth 8192

noncomputable section

namespace Cert.MergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section

variable (𝒱 : Variants) (c : Dev nD) (bd : Option 𝒱.V) (i : grid0.Coords)
    (arg2 : Memref sig .tc .vmem S512x512 .bf16) (harg2 : arg2.IsWhole)
    (arg3 : Memref sig .tc .vmem S512x4096 .bf16) (harg3 : arg3.IsWhole)
    (arg4 : Memref sig .tc .vmem S512x4096 .f32) (harg4 : arg4.IsWhole)
    (arg5 : Memref sig .tc .vmem S1x1x4096 .f32) (harg5 : arg5.IsWhole)
    (arg6 : Memref sig .tc .vmem S1x4096 .f32) (harg6 : arg6.IsWhole)
    (arg7 : Memref sig .tc .vmem S1x4096 .f32) (harg7 : arg7.IsWhole)
    (arg8 : Memref sig .tc .vmem S1x1x4096 .f32) (harg8 : arg8.IsWhole)
    (arg9 : Memref sig .tc .vmem S1x1x4096 .f32) (harg9 : arg9.IsWhole)
    (arg10 : Memref sig .tc .vmem S512x4096 .f32) (harg10 : arg10.IsWhole)
    (arg11 : Memref sig .tc .vmem S512x4096 .bf16) (harg11 : arg11.IsWhole)
    (k0_h3 : k0_cond3 i = 1#1)
    (X4 : BufTy.Contents (Elt F) arg4.view.ty)
    (X5 : BufTy.Contents (Elt F) arg5.view.ty)
    (X6 : BufTy.Contents (Elt F) arg6.view.ty)
    (X7 : BufTy.Contents (Elt F) arg7.view.ty)
    (X8 : BufTy.Contents (Elt F) arg8.view.ty)
    (X9 : BufTy.Contents (Elt F) arg9.view.ty)

/-- What a trip holds: the blocks it reads, and the two results' buffers at the contents it finds. -/
abbrev strip (f : BufTy.Contents (Elt F) arg10.view.ty) (g : BufTy.Contents (Elt F) arg11.view.ty) : sProp 𝕄G :=
  iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f) ∗ (arg11.view.loc (c : Thread nD τ) ↦[arg11.view.set]{fullShare} g))

/-- One trip: the pieces it writes into either buffer, from the contents of the first. -/
@[irreducible] def strip_run (k : Fin k0_t1_loop.trips) :
    Σ' (L : BufTy.Contents (Elt F) arg10.view.ty → List (View.Piece (Elt F) S512x4096 .f32)),
      { L' : BufTy.Contents (Elt F) arg10.view.ty → List (View.Piece (Elt F) S512x4096 .bf16) //
        ∀ (E : Set ℕ) (f : BufTy.Contents (Elt F) arg10.view.ty) (g : BufTy.Contents (Elt F) arg11.view.ty),
          strip (F := F) c arg4 arg5 arg6 arg7 arg8 arg9 arg10 arg11 X4 X5 X6 X7 X8 X9 f g
          ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 k0_h3 k PUnit.unit)
              (fun _ => strip (F := F) c arg4 arg5 arg6 arg7 arg8 arg9 arg10 arg11 X4 X5 X6 X7 X8 X9
                (arg10.view.writes (Elt F) f (L f)) (arg11.view.writes (Elt F) g (L' f))) } := by
  have hk : k.val < 8 := Nat.lt_of_lt_of_le k.isLt k0_t1_abs.2.1
  refine ⟨?_, ?_, fun E f g => ?run⟩
  case run =>
    unfold k0_t1_body
    iintro ⟨R4, R5, R6, R7, R8, R9, W0, W1⟩
    sl_exec
    sl_step
    sl_close

/-- The pieces of the trips before `k`, the last first, from the first buffer's contents `G` when the loop begins. -/
def strips (G : BufTy.Contents (Elt F) arg10.view.ty) : ℕ → List (View.Piece (Elt F) S512x4096 .f32) × List (View.Piece (Elt F) S512x4096 .bf16)
  | 0 => ([], [])
  | k + 1 => if h : k < k0_t1_loop.trips then
      ((strip_run (F := F) 𝒱 c bd i arg2 harg2 arg3 harg3 arg4 harg4 arg5 harg5 arg6 harg6 arg7 harg7 arg8 harg8 arg9 harg9 arg10 harg10 arg11 harg11 k0_h3 X4 X5 X6 X7 X8 X9 ⟨k, h⟩).1 (arg10.view.writes (Elt F) G (strips G k).1) ++ (strips G k).1,
       (strip_run (F := F) 𝒱 c bd i arg2 harg2 arg3 harg3 arg4 harg4 arg5 harg5 arg6 harg6 arg7 harg7 arg8 harg8 arg9 harg9 arg10 harg10 arg11 harg11 k0_h3 X4 X5 X6 X7 X8 X9 ⟨k, h⟩).2.1 (arg10.view.writes (Elt F) G (strips G k).1) ++ (strips G k).2)
      else strips G k

theorem strips_succ (G : BufTy.Contents (Elt F) arg10.view.ty) (k : Fin k0_t1_loop.trips) :
    strips (F := F) 𝒱 c bd i arg2 harg2 arg3 harg3 arg4 harg4 arg5 harg5 arg6 harg6 arg7 harg7 arg8 harg8 arg9 harg9 arg10 harg10 arg11 harg11 k0_h3 X4 X5 X6 X7 X8 X9 G (k.val + 1)
      = ((strip_run (F := F) 𝒱 c bd i arg2 harg2 arg3 harg3 arg4 harg4 arg5 harg5 arg6 harg6 arg7 harg7 arg8 harg8 arg9 harg9 arg10 harg10 arg11 harg11 k0_h3 X4 X5 X6 X7 X8 X9 k).1 (arg10.view.writes (Elt F) G (strips (F := F) 𝒱 c bd i arg2 harg2 arg3 harg3 arg4 harg4 arg5 harg5 arg6 harg6 arg7 harg7 arg8 harg8 arg9 harg9 arg10 harg10 arg11 harg11 k0_h3 X4 X5 X6 X7 X8 X9 G k.val).1)
          ++ (strips (F := F) 𝒱 c bd i arg2 harg2 arg3 harg3 arg4 harg4 arg5 harg5 arg6 harg6 arg7 harg7 arg8 harg8 arg9 harg9 arg10 harg10 arg11 harg11 k0_h3 X4 X5 X6 X7 X8 X9 G k.val).1,
         (strip_run (F := F) 𝒱 c bd i arg2 harg2 arg3 harg3 arg4 harg4 arg5 harg5 arg6 harg6 arg7 harg7 arg8 harg8 arg9 harg9 arg10 harg10 arg11 harg11 k0_h3 X4 X5 X6 X7 X8 X9 k).2.1 (arg10.view.writes (Elt F) G (strips (F := F) 𝒱 c bd i arg2 harg2 arg3 harg3 arg4 harg4 arg5 harg5 arg6 harg6 arg7 harg7 arg8 harg8 arg9 harg9 arg10 harg10 arg11 harg11 k0_h3 X4 X5 X6 X7 X8 X9 G k.val).1)
          ++ (strips (F := F) 𝒱 c bd i arg2 harg2 arg3 harg3 arg4 harg4 arg5 harg5 arg6 harg6 arg7 harg7 arg8 harg8 arg9 harg9 arg10 harg10 arg11 harg11 k0_h3 X4 X5 X6 X7 X8 X9 G k.val).2) := by
  rw [strips]
  exact dif_pos k.isLt

/-- Before trip `k`: the blocks as they are, the two buffers with the pieces of the trips before. -/
abbrev strips_inv (G : BufTy.Contents (Elt F) arg10.view.ty) (G' : BufTy.Contents (Elt F) arg11.view.ty) (k : ℕ) (_u : PUnit) : sProp 𝕄G :=
  iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9)
    ∗ (∃ f, (arg10.view.loc (c : Thread nD τ) ↦[arg10.view.set]{fullShare} f) ∗ ⌜f = arg10.view.writes (Elt F) G (strips (F := F) 𝒱 c bd i arg2 harg2 arg3 harg3 arg4 harg4 arg5 harg5 arg6 harg6 arg7 harg7 arg8 harg8 arg9 harg9 arg10 harg10 arg11 harg11 k0_h3 X4 X5 X6 X7 X8 X9 G k).1⌝)
    ∗ (∃ f, (arg11.view.loc (c : Thread nD τ) ↦[arg11.view.set]{fullShare} f) ∗ ⌜f = arg11.view.writes (Elt F) G' (strips (F := F) 𝒱 c bd i arg2 harg2 arg3 harg3 arg4 harg4 arg5 harg5 arg6 harg6 arg7 harg7 arg8 harg8 arg9 harg9 arg10 harg10 arg11 harg11 k0_h3 X4 X5 X6 X7 X8 X9 G k).2⌝))

set_option warn.classDefReducibility false in
/-- The loop by that invariant. -/
@[sl_loop] def strips_loop (E : Set ℕ) (G : BufTy.Contents (Elt F) arg10.view.ty) (G' : BufTy.Contents (Elt F) arg11.view.ty) :
    Gen.LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 k0_h3 where
  inv := strips_inv (F := F) 𝒱 c bd i arg2 harg2 arg3 harg3 arg4 harg4 arg5 harg5 arg6 harg6 arg7 harg7 arg8 harg8 arg9 harg9 arg10 harg10 arg11 harg11 k0_h3 X4 X5 X6 X7 X8 X9 G G'
  step k acc := by
    iintro ⟨R4, R5, R6, R7, R8, R9, ⟨%f, W0, %h0⟩, ⟨%g, W1, %h1⟩⟩
    iapply (wp_wand_r Idealize.ShloMosaic.frame (wpE (defs₀ (F := F)) 𝒱 (c : Thread nD τ) bd) E)
    isplitl [R4 R5 R6 R7 R8 R9 W0 W1]
    · iapply ((strip_run (F := F) 𝒱 c bd i arg2 harg2 arg3 harg3 arg4 harg4 arg5 harg5 arg6 harg6 arg7 harg7 arg8 harg8 arg9 harg9 arg10 harg10 arg11 harg11 k0_h3 X4 X5 X6 X7 X8 X9 k).2.2 E f g)
      isplitl [R4]; · iexact R4
      isplitl [R5]; · iexact R5
      isplitl [R6]; · iexact R6
      isplitl [R7]; · iexact R7
      isplitl [R8]; · iexact R8
      isplitl [R9]; · iexact R9
      isplitl [W0]; · iexact W0
      iexact W1
    · iintro %_ ⟨R4, R5, R6, R7, R8, R9, W0, W1⟩
      isplitl [R4]; · iexact R4
      isplitl [R5]; · iexact R5
      isplitl [R6]; · iexact R6
      isplitl [R7]; · iexact R7
      isplitl [R8]; · iexact R8
      isplitl [R9]; · iexact R9
      rw [strips_succ]
      isplitl [W0]
      · iexists _; isplitl [W0]; · iexact W0
        ipureintro; rw [h0, ← View.writes_append]
      iexists _; isplitl [W1]; · iexact W1
      ipureintro; rw [h0, h1, ← View.writes_append]

end

end Cert.MergeIdeal.Gen

end
-- ==== Proof.JoinLoop.lean ====
/-
  One loop of the kernel: the strips of rows it normalises, as an invariant in which neither array's pieces depend on what
  the second result's buffer held before.
-/
module

public import proofs.«01_k».proof.Proof.Gen.JoinIdeal.Loops

@[expose] public section

set_option maxRecDepth 8192

noncomputable section

namespace Cert.JoinIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section

variable (𝒱 : Variants) (c : Dev nD) (bd : Option 𝒱.V) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S256x4096 .bf16) (harg4 : arg4.IsWhole)
    (arg5 : Memref sig .tc .vmem S256x4096 .bf16) (harg5 : arg5.IsWhole)
    (arg6 : Memref sig .tc .vmem S512x4096 .f32) (harg6 : arg6.IsWhole)
    (arg7 : Memref sig .tc .vmem S1x1x4096 .f32) (harg7 : arg7.IsWhole)
    (arg8 : Memref sig .tc .vmem S1x4096 .f32) (harg8 : arg8.IsWhole)
    (arg9 : Memref sig .tc .vmem S1x4096 .f32) (harg9 : arg9.IsWhole)
    (arg10 : Memref sig .tc .vmem S1x1x4096 .f32) (harg10 : arg10.IsWhole)
    (arg11 : Memref sig .tc .vmem S1x1x4096 .f32) (harg11 : arg11.IsWhole)
    (arg12 : Memref sig .tc .vmem S512x4096 .f32) (harg12 : arg12.IsWhole)
    (arg13 : Memref sig .tc .vmem S512x4096 .bf16) (harg13 : arg13.IsWhole)
    (k0_h3 : k0_cond3 i = 1#1)
    (X6 : BufTy.Contents (Elt F) arg6.view.ty)
    (X7 : BufTy.Contents (Elt F) arg7.view.ty)
    (X8 : BufTy.Contents (Elt F) arg8.view.ty)
    (X9 : BufTy.Contents (Elt F) arg9.view.ty)
    (X10 : BufTy.Contents (Elt F) arg10.view.ty)
    (X11 : BufTy.Contents (Elt F) arg11.view.ty)

/-- What a trip holds: the blocks it reads, and the two results' buffers at the contents it finds. -/
abbrev strip (f : BufTy.Contents (Elt F) arg12.view.ty) (g : BufTy.Contents (Elt F) arg13.view.ty) : sProp 𝕄G :=
  iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} f) ∗ (arg13.view.loc (c : Thread nD τ) ↦[arg13.view.set]{fullShare} g))

/-- One trip: the pieces it writes into either buffer, from the contents of the first. -/
@[irreducible] def strip_run (k : Fin k0_t1_loop.trips) :
    Σ' (L : BufTy.Contents (Elt F) arg12.view.ty → List (View.Piece (Elt F) S512x4096 .f32)),
      { L' : BufTy.Contents (Elt F) arg12.view.ty → List (View.Piece (Elt F) S512x4096 .bf16) //
        ∀ (E : Set ℕ) (f : BufTy.Contents (Elt F) arg12.view.ty) (g : BufTy.Contents (Elt F) arg13.view.ty),
          strip (F := F) c arg6 arg7 arg8 arg9 arg10 arg11 arg12 arg13 X6 X7 X8 X9 X10 X11 f g
          ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 k0_h3 k PUnit.unit)
              (fun _ => strip (F := F) c arg6 arg7 arg8 arg9 arg10 arg11 arg12 arg13 X6 X7 X8 X9 X10 X11
                (arg12.view.writes (Elt F) f (L f)) (arg13.view.writes (Elt F) g (L' f))) } := by
  have hk : k.val < 8 := Nat.lt_of_lt_of_le k.isLt k0_t1_abs.2.1
  refine ⟨?_, ?_, fun E f g => ?run⟩
  case run =>
    unfold k0_t1_body
    iintro ⟨R6, R7, R8, R9, R10, R11, W0, W1⟩
    sl_exec
    sl_step
    sl_close

/-- The pieces of the trips before `k`, the last first, from the first buffer's contents `G` when the loop begins. -/
def strips (G : BufTy.Contents (Elt F) arg12.view.ty) : ℕ → List (View.Piece (Elt F) S512x4096 .f32) × List (View.Piece (Elt F) S512x4096 .bf16)
  | 0 => ([], [])
  | k + 1 => if h : k < k0_t1_loop.trips then
      ((strip_run (F := F) 𝒱 c bd i arg2 harg2 arg3 harg3 arg4 harg4 arg5 harg5 arg6 harg6 arg7 harg7 arg8 harg8 arg9 harg9 arg10 harg10 arg11 harg11 arg12 harg12 arg13 harg13 k0_h3 X6 X7 X8 X9 X10 X11 ⟨k, h⟩).1 (arg12.view.writes (Elt F) G (strips G k).1) ++ (strips G k).1,
       (strip_run (F := F) 𝒱 c bd i arg2 harg2 arg3 harg3 arg4 harg4 arg5 harg5 arg6 harg6 arg7 harg7 arg8 harg8 arg9 harg9 arg10 harg10 arg11 harg11 arg12 harg12 arg13 harg13 k0_h3 X6 X7 X8 X9 X10 X11 ⟨k, h⟩).2.1 (arg12.view.writes (Elt F) G (strips G k).1) ++ (strips G k).2)
      else strips G k

theorem strips_succ (G : BufTy.Contents (Elt F) arg12.view.ty) (k : Fin k0_t1_loop.trips) :
    strips (F := F) 𝒱 c bd i arg2 harg2 arg3 harg3 arg4 harg4 arg5 harg5 arg6 harg6 arg7 harg7 arg8 harg8 arg9 harg9 arg10 harg10 arg11 harg11 arg12 harg12 arg13 harg13 k0_h3 X6 X7 X8 X9 X10 X11 G (k.val + 1)
      = ((strip_run (F := F) 𝒱 c bd i arg2 harg2 arg3 harg3 arg4 harg4 arg5 harg5 arg6 harg6 arg7 harg7 arg8 harg8 arg9 harg9 arg10 harg10 arg11 harg11 arg12 harg12 arg13 harg13 k0_h3 X6 X7 X8 X9 X10 X11 k).1 (arg12.view.writes (Elt F) G (strips (F := F) 𝒱 c bd i arg2 harg2 arg3 harg3 arg4 harg4 arg5 harg5 arg6 harg6 arg7 harg7 arg8 harg8 arg9 harg9 arg10 harg10 arg11 harg11 arg12 harg12 arg13 harg13 k0_h3 X6 X7 X8 X9 X10 X11 G k.val).1)
          ++ (strips (F := F) 𝒱 c bd i arg2 harg2 arg3 harg3 arg4 harg4 arg5 harg5 arg6 harg6 arg7 harg7 arg8 harg8 arg9 harg9 arg10 harg10 arg11 harg11 arg12 harg12 arg13 harg13 k0_h3 X6 X7 X8 X9 X10 X11 G k.val).1,
         (strip_run (F := F) 𝒱 c bd i arg2 harg2 arg3 harg3 arg4 harg4 arg5 harg5 arg6 harg6 arg7 harg7 arg8 harg8 arg9 harg9 arg10 harg10 arg11 harg11 arg12 harg12 arg13 harg13 k0_h3 X6 X7 X8 X9 X10 X11 k).2.1 (arg12.view.writes (Elt F) G (strips (F := F) 𝒱 c bd i arg2 harg2 arg3 harg3 arg4 harg4 arg5 harg5 arg6 harg6 arg7 harg7 arg8 harg8 arg9 harg9 arg10 harg10 arg11 harg11 arg12 harg12 arg13 harg13 k0_h3 X6 X7 X8 X9 X10 X11 G k.val).1)
          ++ (strips (F := F) 𝒱 c bd i arg2 harg2 arg3 harg3 arg4 harg4 arg5 harg5 arg6 harg6 arg7 harg7 arg8 harg8 arg9 harg9 arg10 harg10 arg11 harg11 arg12 harg12 arg13 harg13 k0_h3 X6 X7 X8 X9 X10 X11 G k.val).2) := by
  rw [strips]
  exact dif_pos k.isLt

/-- Before trip `k`: the blocks as they are, the two buffers with the pieces of the trips before. -/
abbrev strips_inv (G : BufTy.Contents (Elt F) arg12.view.ty) (G' : BufTy.Contents (Elt F) arg13.view.ty) (k : ℕ) (_u : PUnit) : sProp 𝕄G :=
  iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
    ∗ (∃ f, (arg12.view.loc (c : Thread nD τ) ↦[arg12.view.set]{fullShare} f) ∗ ⌜f = arg12.view.writes (Elt F) G (strips (F := F) 𝒱 c bd i arg2 harg2 arg3 harg3 arg4 harg4 arg5 harg5 arg6 harg6 arg7 harg7 arg8 harg8 arg9 harg9 arg10 harg10 arg11 harg11 arg12 harg12 arg13 harg13 k0_h3 X6 X7 X8 X9 X10 X11 G k).1⌝)
    ∗ (∃ f, (arg13.view.loc (c : Thread nD τ) ↦[arg13.view.set]{fullShare} f) ∗ ⌜f = arg13.view.writes (Elt F) G' (strips (F := F) 𝒱 c bd i arg2 harg2 arg3 harg3 arg4 harg4 arg5 harg5 arg6 harg6 arg7 harg7 arg8 harg8 arg9 harg9 arg10 harg10 arg11 harg11 arg12 harg12 arg13 harg13 k0_h3 X6 X7 X8 X9 X10 X11 G k).2⌝))

set_option warn.classDefReducibility false in
/-- The loop by that invariant. -/
@[sl_loop] def strips_loop (E : Set ℕ) (G : BufTy.Contents (Elt F) arg12.view.ty) (G' : BufTy.Contents (Elt F) arg13.view.ty) :
    Gen.LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 k0_h3 where
  inv := strips_inv (F := F) 𝒱 c bd i arg2 harg2 arg3 harg3 arg4 harg4 arg5 harg5 arg6 harg6 arg7 harg7 arg8 harg8 arg9 harg9 arg10 harg10 arg11 harg11 arg12 harg12 arg13 harg13 k0_h3 X6 X7 X8 X9 X10 X11 G G'
  step k acc := by
    iintro ⟨R6, R7, R8, R9, R10, R11, ⟨%f, W0, %h0⟩, ⟨%g, W1, %h1⟩⟩
    iapply (wp_wand_r Idealize.ShloMosaic.frame (wpE (defs₀ (F := F)) 𝒱 (c : Thread nD τ) bd) E)
    isplitl [R6 R7 R8 R9 R10 R11 W0 W1]
    · iapply ((strip_run (F := F) 𝒱 c bd i arg2 harg2 arg3 harg3 arg4 harg4 arg5 harg5 arg6 harg6 arg7 harg7 arg8 harg8 arg9 harg9 arg10 harg10 arg11 harg11 arg12 harg12 arg13 harg13 k0_h3 X6 X7 X8 X9 X10 X11 k).2.2 E f g)
      isplitl [R6]; · iexact R6
      isplitl [R7]; · iexact R7
      isplitl [R8]; · iexact R8
      isplitl [R9]; · iexact R9
      isplitl [R10]; · iexact R10
      isplitl [R11]; · iexact R11
      isplitl [W0]; · iexact W0
      iexact W1
    · iintro %_ ⟨R6, R7, R8, R9, R10, R11, W0, W1⟩
      isplitl [R6]; · iexact R6
      isplitl [R7]; · iexact R7
      isplitl [R8]; · iexact R8
      isplitl [R9]; · iexact R9
      isplitl [R10]; · iexact R10
      isplitl [R11]; · iexact R11
      rw [strips_succ]
      isplitl [W0]
      · iexists _; isplitl [W0]; · iexact W0
        ipureintro; rw [h0, ← View.writes_append]
      iexists _; isplitl [W1]; · iexact W1
      ipureintro; rw [h0, h1, ← View.writes_append]

end

end Cert.JoinIdeal.Gen

end
-- ==== Proof.JoinRun.lean ====
/-
  The last of a row's grid points: one more product is added, then the rows are normalised strip by strip.
-/
module

public import proofs.«01_k».proof.Proof.Gen.JoinIdeal.Frame.RunB
public import proofs.«01_k».proof.Proof.JoinLoop

@[expose] public section

set_option maxRecDepth 16384

noncomputable section

namespace Cert.JoinIdeal.Own

open Cert.JoinIdeal Cert.JoinIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- What the last point leaves in the two results' buffers: the pieces written over the running sums, and those of the second
    result, whatever its buffer held. -/
noncomputable def last_run (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S512x4096 .f32) (harg6 : arg6.IsWhole) (arg7 : Memref sig .tc .vmem S1x1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x1x4096 .f32) (harg10 : arg10.IsWhole) (arg11 : Memref sig .tc .vmem S1x1x4096 .f32) (harg11 : arg11.IsWhole) (arg12 : Memref sig .tc .vmem S512x4096 .f32) (harg12 : arg12.IsWhole) (arg13 : Memref sig .tc .vmem S512x4096 .bf16) (harg13 : arg13.IsWhole) (hc0 : ¬cond0_0 i) (hc1 : cond0_1 i) (hc2 : cond0_2 i)
    (x0 : Vec F S512x256 .bf16) (x1 : Vec F S512x256 .bf16) (x2 : Vec F S256x4096 .bf16) (x3 : Vec F S256x4096 .bf16) (x4 : Vec F S512x4096 .f32) (x5 : Vec F S1x1x4096 .f32) (x6 : Vec F S1x4096 .f32) (x7 : Vec F S1x4096 .f32) (x8 : Vec F S1x1x4096 .f32) (x9 : Vec F S1x1x4096 .f32) (xo10 : Vec F S512x4096 .f32) :
    Σ' (L10 : List (View.Piece (Elt F) S512x4096 .f32)), { L11 : List (View.Piece (Elt F) S512x4096 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xo10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11)) -∗ K ⟨⟩))
          ⊢ wp frame (wpE (defs₀ (F := F)) Variants.none c none) E (cc0_matmul_post i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_matmul_post_eq_skeleton]; unfold cc0_matmul_post_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    iexists _; iexact H11

end Cert.JoinIdeal.Own

end
-- ==== Proof.JoinFrame.lean ====
/-
  The launch: what the two results' buffers hold after each grid point, the body at a grid point, and the run of the whole
  call with its two arrays named and its arguments kept.
-/
module

public import proofs.«01_k».proof.Proof.JoinRun
public import Idealize.ShloMosaic.Lib.Claim

@[expose] public section

set_option maxRecDepth 16384

noncomputable section

namespace Cert.JoinIdeal.Own

open Cert.JoinIdeal Cert.JoinIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The pieces cover the buffers -/

section

variable (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S256x4096 .bf16) (harg4 : arg4.IsWhole)
    (arg5 : Memref sig .tc .vmem S256x4096 .bf16) (harg5 : arg5.IsWhole)
    (arg6 : Memref sig .tc .vmem S512x4096 .f32) (harg6 : arg6.IsWhole)
    (arg7 : Memref sig .tc .vmem S1x1x4096 .f32) (harg7 : arg7.IsWhole)
    (arg8 : Memref sig .tc .vmem S1x4096 .f32) (harg8 : arg8.IsWhole)
    (arg9 : Memref sig .tc .vmem S1x4096 .f32) (harg9 : arg9.IsWhole)
    (arg10 : Memref sig .tc .vmem S1x1x4096 .f32) (harg10 : arg10.IsWhole)
    (arg11 : Memref sig .tc .vmem S1x1x4096 .f32) (harg11 : arg11.IsWhole)
    (arg12 : Memref sig .tc .vmem S512x4096 .f32) (harg12 : arg12.IsWhole)
    (arg13 : Memref sig .tc .vmem S512x4096 .bf16) (harg13 : arg13.IsWhole)
    (x0 : Vec F S512x256 .bf16) (x1 : Vec F S512x256 .bf16) (x2 : Vec F S256x4096 .bf16) (x3 : Vec F S256x4096 .bf16) (x4 : Vec F S512x4096 .f32) (x5 : Vec F S1x1x4096 .f32) (x6 : Vec F S1x4096 .f32) (x7 : Vec F S1x4096 .f32) (x8 : Vec F S1x1x4096 .f32) (x9 : Vec F S1x1x4096 .f32) (xo10 : Vec F S512x4096 .f32)
    (y : S512x4096.Idx)

theorem cover_first (a : cond0_0 i) (b : ¬cond0_1 i) (d : ¬cond0_2 i) :
    ∃ p ∈ (kernelRun0_A c i arg2 harg2 arg3 harg3 arg4 harg4 arg5 harg5 arg6 harg6 arg7 harg7 arg8 harg8 arg9 harg9 arg10 harg10 arg11 harg11 arg12 harg12 arg13 harg13 a b d x0 x1 x2 x3 x4 x5 x6 x7 x8 x9).1, y ∈ p.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 a b d x0 x1 x2 x3 x4 x5 x6 x7 x8 x9).1 S512x1024.size (by sl_kernel_rfl) y

theorem cover_middle (a : ¬cond0_0 i) (b : cond0_1 i) (d : ¬cond0_2 i) :
    ∃ p ∈ (kernelRun0_B c i arg2 harg2 arg3 harg3 arg4 harg4 arg5 harg5 arg6 harg6 arg7 harg7 arg8 harg8 arg9 harg9 arg10 harg10 arg11 harg11 arg12 harg12 arg13 harg13 a b d x0 x1 x2 x3 x4 x5 x6 x7 x8 x9 xo10).1, y ∈ p.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 a b d x0 x1 x2 x3 x4 x5 x6 x7 x8 x9 xo10).1 S512x1024.size (by sl_kernel_rfl) y

theorem cover_last (a : ¬cond0_0 i) (b : cond0_1 i) (d : cond0_2 i) :
    ∃ p ∈ (last_run c i arg2 harg2 arg3 harg3 arg4 harg4 arg5 harg5 arg6 harg6 arg7 harg7 arg8 harg8 arg9 harg9 arg10 harg10 arg11 harg11 arg12 harg12 arg13 harg13 a b d x0 x1 x2 x3 x4 x5 x6 x7 x8 x9 xo10).1, y ∈ p.1.set :=
  View.cover_of_tiledBy (last_run c i arg2 harg2 arg3 harg3 arg4 harg4 arg5 harg5 arg6 harg6 arg7 harg7 arg8 harg8 arg9 harg9 arg10 harg10 arg11 harg11 arg12 harg12 arg13 harg13 a b d x0 x1 x2 x3 x4 x5 x6 x7 x8 x9 xo10).1 ![64, 1024] (by sl_kernel_rfl) y

theorem cover_last' (a : ¬cond0_0 i) (b : cond0_1 i) (d : cond0_2 i) :
    ∃ p ∈ (last_run c i arg2 harg2 arg3 harg3 arg4 harg4 arg5 harg5 arg6 harg6 arg7 harg7 arg8 harg8 arg9 harg9 arg10 harg10 arg11 harg11 arg12 harg12 arg13 harg13 a b d x0 x1 x2 x3 x4 x5 x6 x7 x8 x9 xo10).2.1, y ∈ p.1.set :=
  View.cover_of_tiledL (last_run c i arg2 harg2 arg3 harg3 arg4 harg4 arg5 harg5 arg6 harg6 arg7 harg7 arg8 harg8 arg9 harg9 arg10 harg10 arg11 harg11 arg12 harg12 arg13 harg13 a b d x0 x1 x2 x3 x4 x5 x6 x7 x8 x9 xo10).2.1 S64x4096.size (by sl_kernel_rfl) y

end

/-! ## The three kinds of grid point -/

variable (m : (ℓ : Loc nD τ sig) → Buf (Elt F) ℓ) (ρ : Dev nD → PrngReg)

section

variable (c : Dev nD) (t : Fin cfg0.N)

theorem at0 (h : t.val % 8 = 0) : cond0_0 (grid0.coords t) := (hcond0_0 t).mpr h
theorem not0 (h : ¬t.val % 8 = 0) : ¬cond0_0 (grid0.coords t) := fun e => h ((hcond0_0 t).mp e)
theorem at1 (h : ¬t.val % 8 = 0) : cond0_1 (grid0.coords t) := (hcond0_1 t).mpr (Nat.pos_of_ne_zero h)
theorem not1 (h : t.val % 8 = 0) : ¬cond0_1 (grid0.coords t) := fun e => by have := (hcond0_1 t).mp e; omega
theorem at2 (h : t.val % 8 = 7) : cond0_2 (grid0.coords t) := (hcond0_2 t).mpr h
theorem not2 (h : ¬t.val % 8 = 7) : ¬cond0_2 (grid0.coords t) := fun e => h ((hcond0_2 t).mp e)
theorem ne0 (h : t.val % 8 = 7) : ¬t.val % 8 = 0 := by omega
theorem neL (h : t.val % 8 = 0) : ¬t.val % 8 = 7 := by omega

/-- The first point of a block of rows. -/
abbrev first (h : t.val % 8 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (at0 t h) (not1 t h) (not2 t (neL t h)) (iblk m c 0 t) (iblk m c 1 t) (iblk m c 2 t) (iblk m c 3 t) (iblk m c 4 t) (iblk m c 5 t) (iblk m c 6 t) (iblk m c 7 t) (iblk m c 8 t) (iblk m c 9 t)

/-- A point between, over the running sums `s`. -/
abbrev middle (h : ¬t.val % 8 = 0) (h' : ¬t.val % 8 = 7) (s : Vec F S512x4096 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (not0 t h) (at1 t h) (not2 t h') (iblk m c 0 t) (iblk m c 1 t) (iblk m c 2 t) (iblk m c 3 t) (iblk m c 4 t) (iblk m c 5 t) (iblk m c 6 t) (iblk m c 7 t) (iblk m c 8 t) (iblk m c 9 t) s

/-- The last point. -/
abbrev last (h : t.val % 8 = 7) (s : Vec F S512x4096 .f32) :=
  last_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (not0 t (ne0 t h)) (at1 t (ne0 t h)) (at2 t h) (iblk m c 0 t) (iblk m c 1 t) (iblk m c 2 t) (iblk m c 3 t) (iblk m c 4 t) (iblk m c 5 t) (iblk m c 6 t) (iblk m c 7 t) (iblk m c 8 t) (iblk m c 9 t) s

end

/-- The first result's buffer after point `k`. -/
def sums (c : Dev nD) : (k : ℕ) → k < cfg0.N → Vec F S512x4096 .f32
  | 0, hk => VO0_10.read (Elt F) (VO0_10.writes (Elt F) VO0_10.junk (first m c ⟨0, hk⟩ (Nat.zero_mod _)).1)
  | k + 1, hk =>
    if h : (k + 1) % 8 = 0 then VO0_10.read (Elt F) (VO0_10.writes (Elt F) VO0_10.junk (first m c ⟨k + 1, hk⟩ h).1)
    else if h' : (k + 1) % 8 = 7 then
      VO0_10.read (Elt F) (VO0_10.writes (Elt F) VO0_10.junk (last m c ⟨k + 1, hk⟩ h' (sums c k (Nat.lt_of_succ_lt hk))).1)
    else VO0_10.read (Elt F) (VO0_10.writes (Elt F) VO0_10.junk (middle m c ⟨k + 1, hk⟩ h h' (sums c k (Nat.lt_of_succ_lt hk))).1)

/-- What the point before left. -/
abbrev before (c : Dev nD) (t : Fin cfg0.N) : Vec F S512x4096 .f32 := sums m c (t.val - 1) (Nat.lt_of_le_of_lt (Nat.sub_le _ _) t.isLt)

theorem sums_first (c : Dev nD) (t : Fin cfg0.N) (h : t.val % 8 = 0) :
    sums m c t.val t.isLt = VO0_10.read (Elt F) (VO0_10.writes (Elt F) VO0_10.junk (first m c t h).1) := by
  obtain ⟨k, hk⟩ := t
  cases k with
  | zero => exact rfl
  | succ k => exact (dif_pos h).trans rfl

theorem sums_middle (c : Dev nD) (t : Fin cfg0.N) (h : ¬t.val % 8 = 0) (h' : ¬t.val % 8 = 7) :
    sums m c t.val t.isLt = VO0_10.read (Elt F) (VO0_10.writes (Elt F) VO0_10.junk (middle m c t h h' (before m c t)).1) := by
  obtain ⟨k, hk⟩ := t
  cases k with
  | zero => exact absurd (Nat.zero_mod _) h
  | succ k => exact (dif_neg h).trans ((dif_neg h').trans rfl)

theorem sums_last (c : Dev nD) (t : Fin cfg0.N) (h : t.val % 8 = 7) :
    sums m c t.val t.isLt = VO0_10.read (Elt F) (VO0_10.writes (Elt F) VO0_10.junk (last m c t h (before m c t)).1) := by
  obtain ⟨k, hk⟩ := t
  cases k with
  | zero => exact absurd (Nat.zero_mod _) (ne0 ⟨0, hk⟩ h)
  | succ k => exact (dif_neg (ne0 ⟨k + 1, hk⟩ h)).trans ((dif_pos h).trans rfl)

/-- The second result's buffer after point `t`: nothing is said of it before the last point of a block of rows. -/
def normed (c : Dev nD) (t : Fin cfg0.N) : Vec F S512x4096 .bf16 :=
  if h : t.val % 8 = 7 then VO0_11.read (Elt F) (VO0_11.writes (Elt F) VO0_11.junk (last m c t h (before m c t)).2.1)
  else VO0_11.read (Elt F) VO0_11.junk

theorem normed_last (c : Dev nD) (t : Fin cfg0.N) (h : t.val % 8 = 7) :
    normed m c t = VO0_11.read (Elt F) (VO0_11.writes (Elt F) VO0_11.junk (last m c t h (before m c t)).2.1) := dif_pos h

/-! ## The proof data -/

/-- The arrays as the call finds them; after a point each block as it was and the two results' buffers as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => sums m c t.val t.isLt
    | ⟨11, _⟩ => normed m c t
  Φ _ := Pipeline.ΦA spec0 c
  q w := Pipeline.shareOf spec0 w
  owed _ := 0

theorem dats_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = sums m c t.val t.isLt := by dsimp only [dats]
theorem after_11 (c : Dev nD) (t : Fin cfg0.N) : (dats m 0 c).after 11 t = normed m c t := by dsimp only [dats]

theorem before_0 (c : Dev nD) (t : Fin cfg0.N) (d) : (dats m 0 c).before 0 t d = iblk m c 0 t := before0_0_of m (dats m 0 c) (dats_A m c 0) (after_0 m c) t d
theorem before_1 (c : Dev nD) (t : Fin cfg0.N) (d) : (dats m 0 c).before 1 t d = iblk m c 1 t := before0_1_of m (dats m 0 c) (dats_A m c 1) (after_1 m c) t d
theorem before_2 (c : Dev nD) (t : Fin cfg0.N) (d) : (dats m 0 c).before 2 t d = iblk m c 2 t := before0_2_of m (dats m 0 c) (dats_A m c 2) (after_2 m c) t d
theorem before_3 (c : Dev nD) (t : Fin cfg0.N) (d) : (dats m 0 c).before 3 t d = iblk m c 3 t := before0_3_of m (dats m 0 c) (dats_A m c 3) (after_3 m c) t d
theorem before_4 (c : Dev nD) (t : Fin cfg0.N) (d) : (dats m 0 c).before 4 t d = iblk m c 4 t := before0_4_of m (dats m 0 c) (dats_A m c 4) (after_4 m c) t d
theorem before_5 (c : Dev nD) (t : Fin cfg0.N) (d) : (dats m 0 c).before 5 t d = iblk m c 5 t := before0_5_of m (dats m 0 c) (dats_A m c 5) (after_5 m c) t d
theorem before_6 (c : Dev nD) (t : Fin cfg0.N) (d) : (dats m 0 c).before 6 t d = iblk m c 6 t := before0_6_of m (dats m 0 c) (dats_A m c 6) (after_6 m c) t d
theorem before_7 (c : Dev nD) (t : Fin cfg0.N) (d) : (dats m 0 c).before 7 t d = iblk m c 7 t := before0_7_of m (dats m 0 c) (dats_A m c 7) (after_7 m c) t d
theorem before_8 (c : Dev nD) (t : Fin cfg0.N) (d) : (dats m 0 c).before 8 t d = iblk m c 8 t := before0_8_of m (dats m 0 c) (dats_A m c 8) (after_8 m c) t d
theorem before_9 (c : Dev nD) (t : Fin cfg0.N) (d) : (dats m 0 c).before 9 t d = iblk m c 9 t := before0_9_of m (dats m 0 c) (dats_A m c 9) (after_9 m c) t d

/-- Every point writes the first result's buffer. -/
theorem live (t : Fin cfg0.N) : cfg0.idle 10 (grid0.coords t) = false := by
  by_cases h : t.val % 8 = 0
  · exact liveAt0_10_A t (at0 t h) (not1 t h) (not2 t (neL t h))
  by_cases h' : t.val % 8 = 7
  · exact liveAt0_10_C t (not0 t h) (at1 t h) (at2 t h')
  · exact liveAt0_10_B t (not0 t h) (at1 t h) (not2 t h')

/-- So after the first point of a block of rows it holds what the point before left. -/
theorem before_10 (c : Dev nD) (t : Fin cfg0.N) (h : ¬t.val % 8 = 0) (d) :
    (dats m 0 c).before 10 t d = before m c t := by
  have fresh : cfg0.fresh 10 t.val = false := by
    by_cases h' : t.val % 8 = 7
    · exact notFresh0_10_C t (not0 t h) (at1 t h) (at2 t h')
    · exact notFresh0_10_B t (not0 t h) (at1 t h) (not2 t h')
  rw [Dat.before_out_traj _ 10 rfl (fun _ _ => rfl)
    (fun t _ e _ => absurd ((live t).symm.trans e) Bool.false_ne_true) t.val t rfl d,
    if_neg (by rw [fresh]; exact Bool.false_ne_true)]
  dsimp only [dats]

/-! ## The body at a grid point -/

/-- What the body finds at point `t`, -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it leaves. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 2400000 in
theorem body_first (c : Dev nD) (t : Fin cfg0.N) (h : t.val % 8 = 0) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after_0]
  rw [show (dats m 0 c).leavesExact 1 t = owns (c : Thread nD τ) (ms0_1 t) fullShare ((dats m 0 c).after 1 t) from by
    unfold Dat.leavesExact; rw [liveAt0_1 t], after_1]
  rw [show (dats m 0 c).leavesExact 2 t = owns (c : Thread nD τ) (ms0_2 t) fullShare ((dats m 0 c).after 2 t) from by
    unfold Dat.leavesExact; rw [liveAt0_2 t], after_2]
  rw [show (dats m 0 c).leavesExact 3 t = owns (c : Thread nD τ) (ms0_3 t) fullShare ((dats m 0 c).after 3 t) from by
    unfold Dat.leavesExact; rw [liveAt0_3 t], after_3]
  rw [show (dats m 0 c).leavesExact 4 t = owns (c : Thread nD τ) (ms0_4 t) fullShare ((dats m 0 c).after 4 t) from by
    unfold Dat.leavesExact; rw [liveAt0_4 t], after_4]
  rw [show (dats m 0 c).leavesExact 5 t = owns (c : Thread nD τ) (ms0_5 t) fullShare ((dats m 0 c).after 5 t) from by
    unfold Dat.leavesExact; rw [liveAt0_5 t], after_5]
  rw [show (dats m 0 c).leavesExact 6 t = owns (c : Thread nD τ) (ms0_6 t) fullShare ((dats m 0 c).after 6 t) from by
    unfold Dat.leavesExact; rw [liveAt0_6 t], after_6]
  rw [show (dats m 0 c).leavesExact 7 t = owns (c : Thread nD τ) (ms0_7 t) fullShare ((dats m 0 c).after 7 t) from by
    unfold Dat.leavesExact; rw [liveAt0_7 t], after_7]
  rw [show (dats m 0 c).leavesExact 8 t = owns (c : Thread nD τ) (ms0_8 t) fullShare ((dats m 0 c).after 8 t) from by
    unfold Dat.leavesExact; rw [liveAt0_8 t], after_8]
  rw [show (dats m 0 c).leavesExact 9 t = owns (c : Thread nD τ) (ms0_9 t) fullShare ((dats m 0 c).after 9 t) from by
    unfold Dat.leavesExact; rw [liveAt0_9 t], after_9]
  rw [show (dats m 0 c).leavesExact 10 t = owns (c : Thread nD τ) (ms0_10 t) fullShare ((dats m 0 c).after 10 t) from by
    unfold Dat.leavesExact; rw [live t], after_10]
  rw [Dat.leavesExact_idle (dats m 0 c) 11 t (idleAt0_11_A t (at0 t h) (not1 t h) (not2 t (neL t h))) (noFlush0_11_A t (at0 t h) (not1 t h) (not2 t (neL t h)))]
  rw [sums_first m c t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((first m c t h).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  iintro ⟨H0, H1, H2, H3, H4, H5, H6, H7, H8, H9, ⟨%e, H10⟩, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (fun y => cover_first c _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) y (at0 t h) (not1 t h) (not2 t (neL t h)))
  iexists _; iexact H11

set_option maxHeartbeats 2400000 in
theorem body_middle (c : Dev nD) (t : Fin cfg0.N) (h : ¬t.val % 8 = 0) (h' : ¬t.val % 8 = 7) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, before_10 m c t h]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after_0]
  rw [show (dats m 0 c).leavesExact 1 t = owns (c : Thread nD τ) (ms0_1 t) fullShare ((dats m 0 c).after 1 t) from by
    unfold Dat.leavesExact; rw [liveAt0_1 t], after_1]
  rw [show (dats m 0 c).leavesExact 2 t = owns (c : Thread nD τ) (ms0_2 t) fullShare ((dats m 0 c).after 2 t) from by
    unfold Dat.leavesExact; rw [liveAt0_2 t], after_2]
  rw [show (dats m 0 c).leavesExact 3 t = owns (c : Thread nD τ) (ms0_3 t) fullShare ((dats m 0 c).after 3 t) from by
    unfold Dat.leavesExact; rw [liveAt0_3 t], after_3]
  rw [show (dats m 0 c).leavesExact 4 t = owns (c : Thread nD τ) (ms0_4 t) fullShare ((dats m 0 c).after 4 t) from by
    unfold Dat.leavesExact; rw [liveAt0_4 t], after_4]
  rw [show (dats m 0 c).leavesExact 5 t = owns (c : Thread nD τ) (ms0_5 t) fullShare ((dats m 0 c).after 5 t) from by
    unfold Dat.leavesExact; rw [liveAt0_5 t], after_5]
  rw [show (dats m 0 c).leavesExact 6 t = owns (c : Thread nD τ) (ms0_6 t) fullShare ((dats m 0 c).after 6 t) from by
    unfold Dat.leavesExact; rw [liveAt0_6 t], after_6]
  rw [show (dats m 0 c).leavesExact 7 t = owns (c : Thread nD τ) (ms0_7 t) fullShare ((dats m 0 c).after 7 t) from by
    unfold Dat.leavesExact; rw [liveAt0_7 t], after_7]
  rw [show (dats m 0 c).leavesExact 8 t = owns (c : Thread nD τ) (ms0_8 t) fullShare ((dats m 0 c).after 8 t) from by
    unfold Dat.leavesExact; rw [liveAt0_8 t], after_8]
  rw [show (dats m 0 c).leavesExact 9 t = owns (c : Thread nD τ) (ms0_9 t) fullShare ((dats m 0 c).after 9 t) from by
    unfold Dat.leavesExact; rw [liveAt0_9 t], after_9]
  rw [show (dats m 0 c).leavesExact 10 t = owns (c : Thread nD τ) (ms0_10 t) fullShare ((dats m 0 c).after 10 t) from by
    unfold Dat.leavesExact; rw [live t], after_10]
  rw [Dat.leavesExact_idle (dats m 0 c) 11 t (idleAt0_11_B t (not0 t h) (at1 t h) (not2 t h')) (noFlush0_11_B t (not0 t h) (at1 t h) (not2 t h'))]
  rw [sums_middle m c t h h']
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((middle m c t h h' (before m c t)).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, ⟨%e, H10⟩, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (fun y => cover_middle c _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (before m c t) y (not0 t h) (at1 t h) (not2 t h'))
  iexists _; iexact H11

set_option maxHeartbeats 2400000 in
theorem body_last (c : Dev nD) (t : Fin cfg0.N) (h : t.val % 8 = 7) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, before_10 m c t (ne0 t h)]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after_0]
  rw [show (dats m 0 c).leavesExact 1 t = owns (c : Thread nD τ) (ms0_1 t) fullShare ((dats m 0 c).after 1 t) from by
    unfold Dat.leavesExact; rw [liveAt0_1 t], after_1]
  rw [show (dats m 0 c).leavesExact 2 t = owns (c : Thread nD τ) (ms0_2 t) fullShare ((dats m 0 c).after 2 t) from by
    unfold Dat.leavesExact; rw [liveAt0_2 t], after_2]
  rw [show (dats m 0 c).leavesExact 3 t = owns (c : Thread nD τ) (ms0_3 t) fullShare ((dats m 0 c).after 3 t) from by
    unfold Dat.leavesExact; rw [liveAt0_3 t], after_3]
  rw [show (dats m 0 c).leavesExact 4 t = owns (c : Thread nD τ) (ms0_4 t) fullShare ((dats m 0 c).after 4 t) from by
    unfold Dat.leavesExact; rw [liveAt0_4 t], after_4]
  rw [show (dats m 0 c).leavesExact 5 t = owns (c : Thread nD τ) (ms0_5 t) fullShare ((dats m 0 c).after 5 t) from by
    unfold Dat.leavesExact; rw [liveAt0_5 t], after_5]
  rw [show (dats m 0 c).leavesExact 6 t = owns (c : Thread nD τ) (ms0_6 t) fullShare ((dats m 0 c).after 6 t) from by
    unfold Dat.leavesExact; rw [liveAt0_6 t], after_6]
  rw [show (dats m 0 c).leavesExact 7 t = owns (c : Thread nD τ) (ms0_7 t) fullShare ((dats m 0 c).after 7 t) from by
    unfold Dat.leavesExact; rw [liveAt0_7 t], after_7]
  rw [show (dats m 0 c).leavesExact 8 t = owns (c : Thread nD τ) (ms0_8 t) fullShare ((dats m 0 c).after 8 t) from by
    unfold Dat.leavesExact; rw [liveAt0_8 t], after_8]
  rw [show (dats m 0 c).leavesExact 9 t = owns (c : Thread nD τ) (ms0_9 t) fullShare ((dats m 0 c).after 9 t) from by
    unfold Dat.leavesExact; rw [liveAt0_9 t], after_9]
  rw [show (dats m 0 c).leavesExact 10 t = owns (c : Thread nD τ) (ms0_10 t) fullShare ((dats m 0 c).after 10 t) from by
    unfold Dat.leavesExact; rw [live t], after_10]
  rw [show (dats m 0 c).leavesExact 11 t = owns (c : Thread nD τ) (ms0_11 t) fullShare ((dats m 0 c).after 11 t) from by
    unfold Dat.leavesExact; rw [liveAt0_11_C t (not0 t (ne0 t h)) (at1 t (ne0 t h)) (at2 t h)], after_11, normed_last m c t h]
  rw [sums_last m c t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((last m c t h (before m c t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, ⟨%e, H10⟩, ⟨%e', H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (fun y => cover_last c _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (before m c t) y (not0 t (ne0 t h)) (at1 t (ne0 t h)) (at2 t h))
  unfold owns; iexists _; isplitr
  swap; · iexact H11
  ipureintro; exact View.read_writes_of_cover _ _ _ _ _ (fun y => cover_last' c _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (before m c t) y (not0 t (ne0 t h)) (at1 t (ne0 t h)) (at2 t h))

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  refine triple_restated (P := pre m c t) (Q := fun _ => post m c t) ?_ rfl .rfl fun _ => .rfl
  by_cases h : t.val % 8 = 0
  · exact body_first m c t h
  by_cases h' : t.val % 8 = 7
  · exact body_last m c t h'
  · exact body_middle m c t h h'

/-! ## The run -/

set_option backward.isDefEq.respectTransparency.types false in
theorem launched : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := dats_A m) (hΦ := fun _ _ => rfl)

theorem run : θ_run defs (onTc (τ := τ) (main (F := F))) (s₀ m ρ) (Pipeline.FramePost cfgs (dats m) 0 (V m)) :=
  (θ_run defs _ _).mono (fun _ h => h.1) (launched m ρ)

/-- The arguments are kept. -/
theorem kept : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)) :=
  frame_of m ρ (dats m) (dats_A m) (run m ρ)

/-- The call runs and keeps its arguments. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8))
    ∧ r.2.sem = fun _ => 0) :=
  θ_run_and (kept m ρ) ((θ_run defs _ _).mono (fun _ h => h.2) (launched m ρ))

/-- The same with the two arrays named. -/
theorem arrays : θ_run defs (onTc (τ := τ) (main (F := F))) ⟨m, fun _ => 0, ρ⟩ (fun r => ∀ c : Dev nD,
    r.2.mem ((c.tc : Thread nD τ).loc main_v3_0) = (dats m 0 c).arrAt 10 cfg0.N
    ∧ r.2.mem ((c.tc : Thread nD τ).loc main_v3_1) = (dats m 0 c).arrAt 11 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)) :=
  (θ_run defs _ _).mono (fun _ h c => ⟨(h.1 c).1 10, (h.1 c).1 11, h.2 c⟩) (θ_run_and (run m ρ) (kept m ρ))

theorem flushed_10 (c : Dev nD) (t : Fin cfg0.N) :
    (dats m 0 c).flushed 10 t = (cfg0.win 10).cut (grid0.coords t) (sums m c t.val t.isLt) := by
  show (cfg0.win 10).cut (grid0.coords t) ((dats m 0 c).after 10 t) = _
  rw [after_10]

theorem flushed_11 (c : Dev nD) (t : Fin cfg0.N) :
    (dats m 0 c).flushed 11 t = (cfg0.win 11).cut (grid0.coords t) (normed m c t) := by
  show (cfg0.win 11).cut (grid0.coords t) ((dats m 0 c).after 11 t) = _
  rw [after_11]

end Cert.JoinIdeal.Own

end
-- ==== Proof.JoinBlock.lean ====
/-
  What one grid point of the attention layer's output projection computes: the first of a row tile's points writes a product, the
  others add theirs to what stands, and the last then normalises every row, scales it and adds it to the residual stream,
  and into a second array normalises the row again for the layer that follows.
-/
module

public import proofs.«01_k».proof.Proof.NextBlock
public import proofs.«01_k».proof.Proof.JoinFrame

@[expose] public section

set_option maxRecDepth 16384

noncomputable section

namespace Cert.JoinIdeal.Block

open Cert.JoinIdeal Cert.JoinIdeal.Gen Cert.JoinIdeal.Own Cert.Attention Cert.DownIdeal.Block Idealize.ShloMosaic Idealize.ShloMosaic.ValueIdx
  Idealize.ShloMosaic.TcCoe Idealize.SL.Sem

/-- Two products of a 512-by-256 block with 1024 columns, added, at a row and a column. -/
theorem new_apply (x : Vec Ideal S512x256 .bf16) (w : Vec Ideal S256x1024 .bf16) (x' : Vec Ideal S512x256 .bf16)
    (w' : Vec Ideal S256x1024 .bf16) (r : Fin 512) (d : Fin 1024) :
    k0_pay2 (F := Ideal) x w x' w' (ix2 r d) = dot 256 (at2 x r) (fun k => at2 w k d) + dot 256 (at2 x' r) (fun k => at2 w' k d) := by
  unfold k0_pay2
  rw [shapeCast_self, shapeCast_self, addf_apply]
  exact congrArg₂ (fun a b : EReal => a + b) (product_apply x w r d) (product_apply x' w' r d)

/-- The same, added to what stands. -/
theorem add_apply (v : Vec Ideal S512x1024 .f32) (x : Vec Ideal S512x256 .bf16) (w : Vec Ideal S256x1024 .bf16) (x' : Vec Ideal S512x256 .bf16)
    (w' : Vec Ideal S256x1024 .bf16) (r : Fin 512) (d : Fin 1024) :
    k0_pay4 (F := Ideal) v x w x' w' (ix2 r d)
      = v (ix2 r d) + (dot 256 (at2 x r) (fun k => at2 w k d) + dot 256 (at2 x' r) (fun k => at2 w' k d)) := by
  unfold k0_pay4
  rw [shapeCast_self, shapeCast_self, shapeCast_self, addf_apply, addf_apply]
  exact congrArg (fun a : EReal => v (ix2 r d) + a)
    (congrArg₂ (fun a b : EReal => a + b) (product_apply x w r d) (product_apply x' w' r d))

/-- What the last point stores is what the down-projection's does, at a row and a column. -/
theorem post_apply (y x : Vec Ideal S64x4096 .f32) (g : Vec Ideal S1x1x4096 .f32) (w : Vec Ideal S1x4096 .f32) (r : Fin 64)
    (d : Fin 4096) :
    k0_pay12 (F := Ideal) y x g w (ix2 r d) = Cert.DownIdeal.Block.post (at2 y r) (x (ix2 r d)) (g (ix3 0 0 d)) (w (ix2 0 d)) d :=
  Cert.NextIdeal.Block.post_apply y x g w r d

theorem following_apply (y x : Vec Ideal S64x4096 .f32) (g : Vec Ideal S1x1x4096 .f32) (w v : Vec Ideal S1x4096 .f32)
    (scale shift : Vec Ideal S1x1x4096 .f32) (r : Fin 64) (d : Fin 4096) :
    k0_pay5 (F := Ideal) (k0_pay13 y x g w) (k0_pay14 v) scale shift (ix2 r d)
      = following (at2 (k0_pay12 (F := Ideal) y x g w) r) (v (ix2 0 d)) (scale (ix3 0 0 d)) (shift (ix3 0 0 d)) d :=
  Cert.NextIdeal.Block.following_apply y x g w v scale shift r d

section Point

variable (arg2 : Memref sig .tc .vmem S512x256 .bf16) (harg2 : arg2.IsWhole)
  (arg3 : Memref sig .tc .vmem S512x256 .bf16) (harg3 : arg3.IsWhole)
  (arg4 : Memref sig .tc .vmem S256x4096 .bf16) (harg4 : arg4.IsWhole)
  (arg5 : Memref sig .tc .vmem S256x4096 .bf16) (harg5 : arg5.IsWhole)
  (arg6 : Memref sig .tc .vmem S512x4096 .f32) (harg6 : arg6.IsWhole)
  (arg7 : Memref sig .tc .vmem S1x1x4096 .f32) (harg7 : arg7.IsWhole)
  (arg8 : Memref sig .tc .vmem S1x4096 .f32) (harg8 : arg8.IsWhole)
  (arg9 : Memref sig .tc .vmem S1x4096 .f32) (harg9 : arg9.IsWhole)
  (arg10 : Memref sig .tc .vmem S1x1x4096 .f32) (harg10 : arg10.IsWhole)
  (arg11 : Memref sig .tc .vmem S1x1x4096 .f32) (harg11 : arg11.IsWhole)
  (arg12 : Memref sig .tc .vmem S512x4096 .f32) (harg12 : arg12.IsWhole)
  (arg13 : Memref sig .tc .vmem S512x4096 .bf16) (harg13 : arg13.IsWhole)
  (x0 x1 : Vec Ideal S512x256 .bf16) (x2 x3 : Vec Ideal S256x4096 .bf16) (x4 : Vec Ideal S512x4096 .f32)
  (x5 : Vec Ideal S1x1x4096 .f32) (x6 x7 : Vec Ideal S1x4096 .f32) (x8 x9 : Vec Ideal S1x1x4096 .f32) (xo10 : Vec Ideal S512x4096 .f32)

/-- A point's products, at a row and a column of the tile. -/
def prod (y : S512x4096.Idx) : EReal :=
  dot 256 (at2 x0 (y 0)) (fun k => at2 x2 k (y 1)) + dot 256 (at2 x1 (y 0)) (fun k => at2 x3 k (y 1))

/-- A left block as loaded is the block. -/
theorem left_load : View.readAt (Elt Ideal) arg2.view (Rect.unit (s := S512x256) ![0, 0] S512x256.size inb_S512x256_S512x256_0_0).toLoadRect
    (harg2.unread x0) = x0 := by
  funext z
  refine (harg2.readAt_unread x0 _ z).trans (congrArg x0 (Shape.idx_ext₂ ?_ ?_))
  · show 0 + 1 * (z 0).val = (z 0).val; omega
  · show 0 + 1 * (z 1).val = (z 1).val; omega

/-- A column chunk of a right block as loaded. -/
theorem right_load (o : ℕ) (inb : ∀ a : Fin 2, (![0, o] : Fin 2 → ℕ) a + S256x1024.size a ≤ S256x4096.size a) (k d : ℕ) (hk : k < 256)
    (hd : d < 1024) :
    at2 (n := 256) (p := 1024) (View.readAt (Elt Ideal) arg4.view (Rect.unit (s := S256x4096) ![0, o] S256x1024.size inb).toLoadRect (harg4.unread x2)) k d
      = at2 (n := 256) (p := 4096) x2 k (o + d) := by
  rw [← at2_of (n := 256) (p := 1024) _ (ix2 ⟨k, hk⟩ ⟨d, hd⟩) k d rfl rfl]
  refine (harg4.readAt_unread x2 _ _).trans (at2_of (n := 256) (p := 4096) x2 _ _ _ ?_ ?_)
  · show 0 + 1 * k = k; omega
  · show o + 1 * d = o + d; omega

/-- A chunk the first point writes. -/
theorem piece_new (o : ℕ) (inb : ∀ a : Fin 2, (![0, o] : Fin 2 → ℕ) a + S256x1024.size a ≤ S256x4096.size a)
    (inb' : ∀ a : Fin 2, (![0, o] : Fin 2 → ℕ) a + S512x1024.size a ≤ S512x4096.size a) (z : S512x1024.Idx) :
    k0_pay2 (F := Ideal)
      (View.readAt (Elt Ideal) arg2.view (Rect.unit (s := S512x256) ![0, 0] S512x256.size inb_S512x256_S512x256_0_0).toLoadRect (harg2.unread x0))
      (View.readAt (Elt Ideal) arg4.view (Rect.unit (s := S256x4096) ![0, o] S256x1024.size inb).toLoadRect (harg4.unread x2))
      (View.readAt (Elt Ideal) arg3.view (Rect.unit (s := S512x256) ![0, 0] S512x256.size inb_S512x256_S512x256_0_0).toLoadRect (harg3.unread x1))
      (View.readAt (Elt Ideal) arg5.view (Rect.unit (s := S256x4096) ![0, o] S256x1024.size inb).toLoadRect (harg5.unread x3)) z
      = prod x0 x1 x2 x3 ((Rect.unit (s := S512x4096) ![0, o] S512x1024.size inb').emb z) := by
  have h0 : (z 0).val < 512 := (z 0).isLt
  have h1 : (z 1).val < 1024 := (z 1).isLt
  rw [left_load, left_load]
  refine (congrArg _ (eq_ix2 z)).trans ((new_apply _ _ _ _ (z 0) (z 1)).trans ?_)
  unfold prod
  have e0 : (((Rect.unit (s := S512x4096) ![0, o] S512x1024.size inb').emb z 0 : Fin _) : ℕ) = (z 0).val := by
    show 0 + 1 * (z 0).val = _; omega
  have e1 : (((Rect.unit (s := S512x4096) ![0, o] S512x1024.size inb').emb z 1 : Fin _) : ℕ) = o + (z 1).val := by
    show o + 1 * (z 1).val = _; omega
  rw [e0, e1]
  exact congrArg₂ (fun a b : EReal => a + b)
    (dot_congr (fun _ _ => rfl) fun k hk => right_load arg4 harg4 x2 o inb k _ hk h1)
    (dot_congr (fun _ _ => rfl) fun k hk => right_load arg5 harg5 x3 o inb k _ hk h1)

/-- A chunk a later point writes. -/
theorem piece_add (o : ℕ) (inb : ∀ a : Fin 2, (![0, o] : Fin 2 → ℕ) a + S256x1024.size a ≤ S256x4096.size a)
    (inb' : ∀ a : Fin 2, (![0, o] : Fin 2 → ℕ) a + S512x1024.size a ≤ S512x4096.size a) (z : S512x1024.Idx) :
    k0_pay4 (F := Ideal)
      (View.readAt (Elt Ideal) arg12.view (Rect.unit (s := S512x4096) ![0, o] S512x1024.size inb').toLoadRect (harg12.unread xo10))
      (View.readAt (Elt Ideal) arg2.view (Rect.unit (s := S512x256) ![0, 0] S512x256.size inb_S512x256_S512x256_0_0).toLoadRect (harg2.unread x0))
      (View.readAt (Elt Ideal) arg4.view (Rect.unit (s := S256x4096) ![0, o] S256x1024.size inb).toLoadRect (harg4.unread x2))
      (View.readAt (Elt Ideal) arg3.view (Rect.unit (s := S512x256) ![0, 0] S512x256.size inb_S512x256_S512x256_0_0).toLoadRect (harg3.unread x1))
      (View.readAt (Elt Ideal) arg5.view (Rect.unit (s := S256x4096) ![0, o] S256x1024.size inb).toLoadRect (harg5.unread x3)) z
      = xo10 ((Rect.unit (s := S512x4096) ![0, o] S512x1024.size inb').emb z) + prod x0 x1 x2 x3 ((Rect.unit (s := S512x4096) ![0, o] S512x1024.size inb').emb z) := by
  refine (congrArg _ (eq_ix2 z)).trans ((add_apply _ _ _ _ _ (z 0) (z 1)).trans ?_)
  refine congrArg₂ (fun a b : EReal => a + b) ?_ ?_
  · exact (congrArg _ (eq_ix2 z).symm).trans
      ((harg12.readAt_unread xo10 (Rect.unit (s := S512x4096) ![0, o] S512x1024.size inb').toLoadRect z).trans
        (congrArg xo10 (Shape.idx_ext₂ rfl rfl)))
  · refine Eq.trans ?_ (piece_new arg2 harg2 arg3 harg3 arg4 harg4 arg5 harg5 x0 x1 x2 x3 o inb inb' z)
    exact ((congrArg _ (eq_ix2 z)).trans (new_apply _ _ _ _ (z 0) (z 1))).symm

variable (c : Dev nD) (i : grid0.Coords)

/-- What a row tile's first point leaves. -/
theorem first_apply {κ : Kind} {sp : Space} (v : View sig κ sp S512x4096 .f32) (f : v.ty.Contents (Elt Ideal))
    (hc0 : cond0_0 i) (hc1 : ¬cond0_1 i) (hc2 : ¬cond0_2 i) (y : S512x4096.Idx) :
    v.read (Elt Ideal) (v.writes (Elt Ideal) f (kernelRun0_A (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) y
      = prod x0 x1 x2 x3 y := by
  refine View.read_writes_apply_of_pieces (Val := Elt Ideal) _ _ (fun y => (prod x0 x1 x2 x3 y : Elt Ideal .f32)) _ ?_ y
    (cover_first c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 y hc0 hc1 hc2)
  intro p hp z
  unfold kernelRun0_A at hp
  dsimp only at hp
  simp only [List.mem_cons, List.not_mem_nil, or_false] at hp
  rcases hp with rfl | rfl | rfl | rfl
  · exact piece_new arg2 harg2 arg3 harg3 arg4 harg4 arg5 harg5 x0 x1 x2 x3 3072 _ inb_S512x4096_S512x1024_0_3072 z
  · exact piece_new arg2 harg2 arg3 harg3 arg4 harg4 arg5 harg5 x0 x1 x2 x3 2048 _ inb_S512x4096_S512x1024_0_2048 z
  · exact piece_new arg2 harg2 arg3 harg3 arg4 harg4 arg5 harg5 x0 x1 x2 x3 1024 _ inb_S512x4096_S512x1024_0_1024 z
  · exact piece_new arg2 harg2 arg3 harg3 arg4 harg4 arg5 harg5 x0 x1 x2 x3 0 _ inb_S512x4096_S512x1024_0_0 z

/-- What a point between leaves. -/
theorem middle_apply {κ : Kind} {sp : Space} (v : View sig κ sp S512x4096 .f32) (f : v.ty.Contents (Elt Ideal))
    (hc0 : ¬cond0_0 i) (hc1 : cond0_1 i) (hc2 : ¬cond0_2 i) (y : S512x4096.Idx) :
    v.read (Elt Ideal) (v.writes (Elt Ideal) f (kernelRun0_B (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo10).1) y
      = xo10 y + prod x0 x1 x2 x3 y := by
  refine View.read_writes_apply_of_pieces (Val := Elt Ideal) _ _ (fun y => (xo10 y + prod x0 x1 x2 x3 y : EReal)) _ ?_ y
    (cover_middle c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 xo10 y hc0 hc1 hc2)
  intro p hp z
  unfold kernelRun0_B at hp
  dsimp only at hp
  simp only [List.mem_cons, List.not_mem_nil, or_false] at hp
  rcases hp with rfl | rfl | rfl | rfl
  · exact piece_add arg2 harg2 arg3 harg3 arg4 harg4 arg5 harg5 arg12 harg12 x0 x1 x2 x3 xo10 3072 _ inb_S512x4096_S512x1024_0_3072 z
  · exact piece_add arg2 harg2 arg3 harg3 arg4 harg4 arg5 harg5 arg12 harg12 x0 x1 x2 x3 xo10 2048 _ inb_S512x4096_S512x1024_0_2048 z
  · exact piece_add arg2 harg2 arg3 harg3 arg4 harg4 arg5 harg5 arg12 harg12 x0 x1 x2 x3 xo10 1024 _ inb_S512x4096_S512x1024_0_1024 z
  · exact piece_add arg2 harg2 arg3 harg3 arg4 harg4 arg5 harg5 arg12 harg12 x0 x1 x2 x3 xo10 0 _ inb_S512x4096_S512x1024_0_0 z

/-- What stands at the last point before its rows are normalised. -/
def standing (y : S512x4096.Idx) : EReal := xo10 y + prod x0 x1 x2 x3 y

/-- A row of the tile once normalised. -/
def normal (y : S512x4096.Idx) : EReal :=
  Cert.DownIdeal.Block.post (at2 (n := 512) (p := 4096) (standing x0 x1 x2 x3 xo10) (y 0)) (x4 y) (x5 (ix3 0 0 (y 1))) (x6 (ix2 0 (y 1))) (y 1)

/-- And once more, for the second array. -/
def normal2 (y : S512x4096.Idx) : EReal :=
  following (at2 (n := 512) (p := 4096) (normal x0 x1 x2 x3 x4 x5 x6 xo10) (y 0)) (x7 (ix2 0 (y 1))) (x9 (ix3 0 0 (y 1))) (x8 (ix3 0 0 (y 1))) (y 1)

/-- The pieces the last point writes before its loop. -/
theorem sums_apply {κ : Kind} {sp : Space} (v : View sig κ sp S512x4096 .f32) (f : v.ty.Contents (Elt Ideal)) (y : S512x4096.Idx) :
    v.read (Elt Ideal) (v.writes (Elt Ideal) f (last_run.sl.H10_4 c arg2 harg2 arg3 harg3 arg4 harg4 arg5 harg5 arg12 harg12 x0 x1 x2 x3 xo10)) y
      = standing x0 x1 x2 x3 xo10 y := by
  refine View.read_writes_apply_of_pieces (Val := Elt Ideal) v f (fun y => (standing x0 x1 x2 x3 xo10 y : Elt Ideal .f32)) _ ?_ y
    (View.cover_of_tiledL (last_run.sl.H10_4 c arg2 harg2 arg3 harg3 arg4 harg4 arg5 harg5 arg12 harg12 x0 x1 x2 x3 xo10) S512x1024.size (by sl_kernel_rfl) y)
  intro p hp z
  unfold last_run.sl.H10_4 at hp
  simp only [List.mem_cons, List.not_mem_nil, or_false] at hp
  rcases hp with rfl | rfl | rfl | rfl
  · exact piece_add arg2 harg2 arg3 harg3 arg4 harg4 arg5 harg5 arg12 harg12 x0 x1 x2 x3 xo10 3072 _ inb_S512x4096_S512x1024_0_3072 z
  · exact piece_add arg2 harg2 arg3 harg3 arg4 harg4 arg5 harg5 arg12 harg12 x0 x1 x2 x3 xo10 2048 _ inb_S512x4096_S512x1024_0_2048 z
  · exact piece_add arg2 harg2 arg3 harg3 arg4 harg4 arg5 harg5 arg12 harg12 x0 x1 x2 x3 xo10 1024 _ inb_S512x4096_S512x1024_0_1024 z
  · exact piece_add arg2 harg2 arg3 harg3 arg4 harg4 arg5 harg5 arg12 harg12 x0 x1 x2 x3 xo10 0 _ inb_S512x4096_S512x1024_0_0 z

/-- Trip `k` of the loop is at row `64 k`. -/
theorem trip_row : ∀ k : Fin k0_t1_loop.trips, k0_off1 k = ![64 * k.val, 0] := by decide +kernel

theorem trips_eq : k0_t1_loop.trips = 8 := by decide +kernel

section Strip

variable (hc : k0_cond3 i = 1#1) (f : arg12.view.ty.Contents (Elt Ideal)) (k : Fin k0_t1_loop.trips)

/-- What trip `k` writes into the first array, over the contents `f` it finds, -/
def written : Vec Ideal S64x4096 .f32 :=
  k0_pay12 (F := Ideal) (View.readAt (Elt Ideal) arg12.view (Rect.unit (s := S512x4096) (k0_off1 k) S64x4096.size (k0_off1_inb i k hc)).toLoadRect f)
          (View.readAt (Elt Ideal) arg6.view (Rect.unit (s := S512x4096) (k0_off1 k) S64x4096.size (k0_off1_inb i k hc)).toLoadRect (harg6.unread x4))
          (View.readAt (Elt Ideal) arg7.view (Rect.unit (s := S1x1x4096) ![0, 0, 0] S1x1x4096.size inb_S1x1x4096_S1x1x4096_0_0_0).toLoadRect (harg7.unread x5))
          (View.readAt (Elt Ideal) arg8.view (Rect.unit (s := S1x4096) ![0, 0] S1x4096.size inb_S1x4096_S1x4096_0_0).toLoadRect (harg8.unread x6))

/-- and into the second. -/
def written2 : Vec Ideal S64x4096 .bf16 :=
  k0_pay5 (F := Ideal) (k0_pay13 (View.readAt (Elt Ideal) arg12.view (Rect.unit (s := S512x4096) (k0_off1 k) S64x4096.size (k0_off1_inb i k hc)).toLoadRect f)
          (View.readAt (Elt Ideal) arg6.view (Rect.unit (s := S512x4096) (k0_off1 k) S64x4096.size (k0_off1_inb i k hc)).toLoadRect (harg6.unread x4))
          (View.readAt (Elt Ideal) arg7.view (Rect.unit (s := S1x1x4096) ![0, 0, 0] S1x1x4096.size inb_S1x1x4096_S1x1x4096_0_0_0).toLoadRect (harg7.unread x5))
          (View.readAt (Elt Ideal) arg8.view (Rect.unit (s := S1x4096) ![0, 0] S1x4096.size inb_S1x4096_S1x4096_0_0).toLoadRect (harg8.unread x6)))
          (k0_pay14 (View.readAt (Elt Ideal) arg9.view (Rect.unit (s := S1x4096) ![0, 0] S1x4096.size inb_S1x4096_S1x4096_0_0).toLoadRect (harg9.unread x7))) (View.readAt (Elt Ideal) arg11.view (Rect.unit (s := S1x1x4096) ![0, 0, 0] S1x1x4096.size inb_S1x1x4096_S1x1x4096_0_0_0).toLoadRect (harg11.unread x9))
          (View.readAt (Elt Ideal) arg10.view (Rect.unit (s := S1x1x4096) ![0, 0, 0] S1x1x4096.size inb_S1x1x4096_S1x1x4096_0_0_0).toLoadRect (harg10.unread x8))

theorem trip_pieces :
    (strip_run (F := Ideal) Variants.none c none i arg2 harg2 arg3 harg3 arg4 harg4 arg5 harg5 arg6 harg6 arg7 harg7 arg8 harg8 arg9 harg9 arg10 harg10 arg11 harg11 arg12 harg12 arg13 harg13 hc (harg6.unread x4) (harg7.unread x5) (harg8.unread x6) (harg9.unread x7) (harg10.unread x8) (harg11.unread x9) k).1 f
      = [⟨(Rect.unit (s := S512x4096) (k0_off1 k) S64x4096.size (k0_off1_inb i k hc)), written arg6 harg6 arg7 harg7 arg8 harg8 arg12 x4 x5 x6 i hc f k⟩] := by
  unfold strip_run written
  dsimp only

theorem trip_pieces2 :
    (strip_run (F := Ideal) Variants.none c none i arg2 harg2 arg3 harg3 arg4 harg4 arg5 harg5 arg6 harg6 arg7 harg7 arg8 harg8 arg9 harg9 arg10 harg10 arg11 harg11 arg12 harg12 arg13 harg13 hc (harg6.unread x4) (harg7.unread x5) (harg8.unread x6) (harg9.unread x7) (harg10.unread x8) (harg11.unread x9) k).2.1 f
      = [⟨(Rect.unit (s := S512x4096) (k0_off1 k) S64x4096.size (k0_off1_inb i k hc)), written2 arg6 harg6 arg7 harg7 arg8 harg8 arg9 harg9 arg10 harg10 arg11 harg11 arg12 x4 x5 x6 x7 x8 x9 i hc f k⟩] := by
  unfold strip_run written2
  dsimp only
  rfl

variable (hk : k.val < 8) (hf : ∀ y : S512x4096.Idx, 64 * k.val ≤ (y 0).val → arg12.view.read (Elt Ideal) f y = standing x0 x1 x2 x3 xo10 y)

include hk hf

/-- At a row and a column, the rows it finds standing. -/
theorem trip_apply (r : Fin 64) (d : Fin 4096) :
    written arg6 harg6 arg7 harg7 arg8 harg8 arg12 x4 x5 x6 i hc f k (ix2 r d)
      = normal x0 x1 x2 x3 x4 x5 x6 xo10 (ix2 ⟨64 * k.val + r.val, by omega⟩ d) := by
  have hoff : k0_off1 k = ![64 * k.val, 0] := trip_row k
  have o0 : k0_off1 k 0 = 64 * k.val := by rw [hoff]; rfl
  have o1 : k0_off1 k 1 = 0 := by rw [hoff]; rfl
  refine (post_apply _ _ _ _ r d).trans ?_
  unfold normal
  refine post_congr d.isLt (fun l hl => ?_) ?_ ?_ ?_
  · rw [← at2_of (n := 64) (p := 4096) _ (ix2 r ⟨l, hl⟩) _ _ rfl rfl]
    refine Eq.trans ?_ (at2_of (n := 512) (p := 4096) (standing x0 x1 x2 x3 xo10) (ix2 ⟨64 * k.val + r.val, by omega⟩ ⟨l, hl⟩) _ _ rfl rfl)
    refine Eq.trans ?_ (hf (ix2 ⟨64 * k.val + r.val, by omega⟩ ⟨l, hl⟩) (by show 64 * k.val ≤ 64 * k.val + r.val; omega))
    refine congrArg (arg12.view.read (Elt Ideal) f) (Shape.idx_ext₂ ?_ ?_)
    · show k0_off1 k 0 + 1 * r.val = 64 * k.val + r.val
      rw [o0]; omega
    · show k0_off1 k 1 + 1 * l = l
      rw [o1]; omega
  · refine (harg6.readAt_unread x4 _ _).trans (congrArg x4 (Shape.idx_ext₂ ?_ ?_))
    · show k0_off1 k 0 + 1 * r.val = 64 * k.val + r.val
      rw [o0]; omega
    · show k0_off1 k 1 + 1 * d.val = d.val
      rw [o1]; omega
  · refine (harg7.readAt_unread x5 _ _).trans (congrArg x5 (funext fun a => Fin.ext ?_))
    match a with
    | ⟨0, _⟩ => rfl
    | ⟨1, _⟩ => rfl
    | ⟨2, _⟩ => show 0 + 1 * d.val = d.val; omega
  · refine (harg8.readAt_unread x6 _ _).trans (congrArg x6 (Shape.idx_ext₂ rfl ?_))
    show 0 + 1 * d.val = d.val; omega

theorem trip_apply2 (r : Fin 64) (d : Fin 4096) :
    written2 arg6 harg6 arg7 harg7 arg8 harg8 arg9 harg9 arg10 harg10 arg11 harg11 arg12 x4 x5 x6 x7 x8 x9 i hc f k (ix2 r d)
      = normal2 x0 x1 x2 x3 x4 x5 x6 x7 x8 x9 xo10 (ix2 ⟨64 * k.val + r.val, by omega⟩ d) := by
  refine (following_apply _ _ _ _ _ _ _ r d).trans ?_
  unfold normal2
  refine following_congr d.isLt (fun l hl => ?_) ?_ ?_ ?_
  · rw [← at2_of (n := 64) (p := 4096) _ (ix2 r ⟨l, hl⟩) _ _ rfl rfl]
    refine Eq.trans ?_ (at2_of (n := 512) (p := 4096) (normal x0 x1 x2 x3 x4 x5 x6 xo10) (ix2 ⟨64 * k.val + r.val, by omega⟩ ⟨l, hl⟩) _ _ rfl rfl)
    exact trip_apply arg6 harg6 arg7 harg7 arg8 harg8 arg12 x0 x1 x2 x3 x4 x5 x6 xo10 i hc f k hk hf r ⟨l, hl⟩
  · refine (harg9.readAt_unread x7 _ _).trans (congrArg x7 (Shape.idx_ext₂ rfl ?_))
    show 0 + 1 * d.val = d.val; omega
  · refine (harg11.readAt_unread x9 _ _).trans (congrArg x9 (funext fun a => Fin.ext ?_))
    match a with
    | ⟨0, _⟩ => rfl
    | ⟨1, _⟩ => rfl
    | ⟨2, _⟩ => show 0 + 1 * d.val = d.val; omega
  · refine (harg10.readAt_unread x8 _ _).trans (congrArg x8 (funext fun a => Fin.ext ?_))
    match a with
    | ⟨0, _⟩ => rfl
    | ⟨1, _⟩ => rfl
    | ⟨2, _⟩ => show 0 + 1 * d.val = d.val; omega

end Strip

/-- Writing 64 rows over others: they are written, the others stay. -/
theorem rows_cons {κ : Kind} {sp : Space} {φ : EltTy} (v : View sig κ sp S512x4096 φ) (f : v.ty.Contents (Elt Ideal))
    (k : ℕ) (hk : k < k0_t1_loop.trips) (inb : ∀ a, k0_off1 ⟨k, hk⟩ a + S64x4096.size a ≤ S512x4096.size a) (w : Vec Ideal S64x4096 φ)
    (L : List (View.Piece (Elt Ideal) S512x4096 φ)) (done rest : S512x4096.Idx → Elt Ideal φ)
    (hw : ∀ (r : Fin 64) (d : Fin 4096), w (ix2 r d) = done (ix2 ⟨64 * k + r.val, by have := trips_eq; omega⟩ d)) (y : S512x4096.Idx)
    (ht : (y 0).val < 64 * k → (v.read (Elt Ideal) (v.writes (Elt Ideal) f L) y) = done y)
    (hr : ¬ (y 0).val < 64 * k → (v.read (Elt Ideal) (v.writes (Elt Ideal) f L) y) = rest y) :
    (v.read (Elt Ideal) (v.writes (Elt Ideal) f (⟨Rect.unit (s := S512x4096) (k0_off1 ⟨k, hk⟩) S64x4096.size inb, w⟩ :: L)) y)
      = if (y 0).val < 64 * (k + 1) then done y else rest y := by
  have hoff : k0_off1 ⟨k, hk⟩ = ![64 * k, 0] := trip_row ⟨k, hk⟩
  have h0 : (y 0).val < 512 := (y 0).isLt
  have h1 : (y 1).val < 4096 := (y 1).isLt
  by_cases hy : 64 * k ≤ (y 0).val ∧ (y 0).val < 64 * k + 64
  · rw [if_pos (by omega)]
    refine (View.read_writes_cons_rows_of_mem (d := ![512, 4096]) (size := S64x4096.size) (o := 64 * k) v f _ w L y
      (ix2 ⟨(y 0).val - 64 * k, by omega⟩ ⟨(y 1).val, h1⟩) hoff
      (by show (y 0).val = 64 * k + ((y 0).val - 64 * k); omega) rfl).trans ?_
    refine (hw ⟨(y 0).val - 64 * k, by omega⟩ ⟨(y 1).val, h1⟩).trans (congrArg _ (Shape.idx_ext₂ ?_ rfl))
    show 64 * k + ((y 0).val - 64 * k) = (y 0).val
    omega
  · refine (View.read_writes_cons_rows_of_not_mem (d := ![512, 4096]) (size := S64x4096.size) (o := 64 * k) (W := 64) v f _ w L y
      hoff rfl (by omega)).trans ?_
    by_cases h : (y 0).val < 64 * k
    · rw [if_pos (by omega)]; exact ht h
    · rw [if_neg (by omega)]; exact hr h

/-- The rows of the trips before `k` are normalised, the others stand. -/
theorem rows_apply (hc : k0_cond3 i = 1#1) (G : arg12.view.ty.Contents (Elt Ideal))
    (hG : ∀ y, arg12.view.read (Elt Ideal) G y = standing x0 x1 x2 x3 xo10 y) (k : ℕ) (hk : k ≤ 8) :
    ∀ {κ : Kind} {sp : Space} (v : View sig κ sp S512x4096 .f32) (f : v.ty.Contents (Elt Ideal)),
      (∀ y, v.read (Elt Ideal) f y = standing x0 x1 x2 x3 xo10 y) → ∀ y : S512x4096.Idx,
      v.read (Elt Ideal) (v.writes (Elt Ideal) f (strips (F := Ideal) Variants.none c none i arg2 harg2 arg3 harg3 arg4 harg4 arg5 harg5 arg6 harg6 arg7 harg7 arg8 harg8 arg9 harg9 arg10 harg10 arg11 harg11 arg12 harg12 arg13 harg13 hc (harg6.unread x4) (harg7.unread x5) (harg8.unread x6) (harg9.unread x7) (harg10.unread x8) (harg11.unread x9) G k).1) y
        = if (y 0).val < 64 * k then normal x0 x1 x2 x3 x4 x5 x6 xo10 y else standing x0 x1 x2 x3 xo10 y := by
  induction k with
  | zero =>
    intro κ sp v f hf y
    rw [if_neg (by omega)]
    exact hf y
  | succ k ih =>
    intro κ sp v f hf y
    have hk' : k < k0_t1_loop.trips := by rw [trips_eq]; omega
    have hs := strips_succ (F := Ideal) Variants.none c none i arg2 harg2 arg3 harg3 arg4 harg4 arg5 harg5 arg6 harg6 arg7 harg7 arg8 harg8 arg9 harg9 arg10 harg10 arg11 harg11 arg12 harg12 arg13 harg13 hc (harg6.unread x4) (harg7.unread x5) (harg8.unread x6) (harg9.unread x7) (harg10.unread x8) (harg11.unread x9) G ⟨k, hk'⟩
    dsimp only at hs
    rw [hs]
    dsimp only
    rw [trip_pieces, List.singleton_append]
    exact rows_cons v f k hk' _ _ _ _ _
      (trip_apply arg6 harg6 arg7 harg7 arg8 harg8 arg12 x0 x1 x2 x3 x4 x5 x6 xo10 i hc _ ⟨k, hk'⟩ (by show k < 8; omega)
        (fun y hy => (ih (by omega) arg12.view G hG y).trans (if_neg (by show ¬ _ < _; exact Nat.not_lt.mpr hy))))
      y (fun h => (ih (by omega) v f hf y).trans (if_pos h)) (fun h => (ih (by omega) v f hf y).trans (if_neg h))

/-- The same rows of the second array, whatever it held. -/
theorem rows_apply2 (hc : k0_cond3 i = 1#1) (G : arg12.view.ty.Contents (Elt Ideal))
    (hG : ∀ y, arg12.view.read (Elt Ideal) G y = standing x0 x1 x2 x3 xo10 y) (k : ℕ) (hk : k ≤ 8)
    {κ : Kind} {sp : Space} (v : View sig κ sp S512x4096 .bf16) (f : v.ty.Contents (Elt Ideal)) (y : S512x4096.Idx)
    (hy : (y 0).val < 64 * k) :
    (v.read (Elt Ideal) (v.writes (Elt Ideal) f (strips (F := Ideal) Variants.none c none i arg2 harg2 arg3 harg3 arg4 harg4 arg5 harg5 arg6 harg6 arg7 harg7 arg8 harg8 arg9 harg9 arg10 harg10 arg11 harg11 arg12 harg12 arg13 harg13 hc (harg6.unread x4) (harg7.unread x5) (harg8.unread x6) (harg9.unread x7) (harg10.unread x8) (harg11.unread x9) G k).2) y : EReal) = normal2 x0 x1 x2 x3 x4 x5 x6 x7 x8 x9 xo10 y := by
  induction k with
  | zero => exact absurd hy (by omega)
  | succ k ih =>
    have hk' : k < k0_t1_loop.trips := by rw [trips_eq]; omega
    have hs := strips_succ (F := Ideal) Variants.none c none i arg2 harg2 arg3 harg3 arg4 harg4 arg5 harg5 arg6 harg6 arg7 harg7 arg8 harg8 arg9 harg9 arg10 harg10 arg11 harg11 arg12 harg12 arg13 harg13 hc (harg6.unread x4) (harg7.unread x5) (harg8.unread x6) (harg9.unread x7) (harg10.unread x8) (harg11.unread x9) G ⟨k, hk'⟩
    dsimp only at hs
    rw [hs]
    dsimp only
    rw [trip_pieces2, List.singleton_append]
    refine (rows_cons v f k hk' _ _ _ _ _
      (trip_apply2 arg6 harg6 arg7 harg7 arg8 harg8 arg9 harg9 arg10 harg10 arg11 harg11 arg12 x0 x1 x2 x3 x4 x5 x6 x7 x8 x9 xo10 i hc _ ⟨k, hk'⟩ (by show k < 8; omega)
        (fun y hy => (rows_apply arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 xo10 c i hc G hG k (by omega) arg12.view G hG y).trans
          (if_neg (by show ¬ _ < _; exact Nat.not_lt.mpr hy))))
      y (fun h => ih (by omega) h) (fun _ => rfl)).trans (if_pos hy)

/-- What a row tile's last point leaves in the first array, -/
theorem last_apply {κ : Kind} {sp : Space} (v : View sig κ sp S512x4096 .f32) (f : v.ty.Contents (Elt Ideal))
    (hc0 : ¬cond0_0 i) (hc1 : cond0_1 i) (hc2 : cond0_2 i) (y : S512x4096.Idx) :
    v.read (Elt Ideal) (v.writes (Elt Ideal) f (last_run (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo10).1) y
      = normal x0 x1 x2 x3 x4 x5 x6 xo10 y := by
  unfold last_run
  dsimp only
  rw [View.writes_append]
  have h0 : (y 0).val < 512 := (y 0).isLt
  refine (rows_apply arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 xo10 c i _ _ ?_ 8 le_rfl v _ ?_ y).trans (if_pos (by omega))
  · exact sums_apply arg2 harg2 arg3 harg3 arg4 harg4 arg5 harg5 arg12 harg12 x0 x1 x2 x3 xo10 c arg12.view _
  · exact sums_apply arg2 harg2 arg3 harg3 arg4 harg4 arg5 harg5 arg12 harg12 x0 x1 x2 x3 xo10 c v _

/-- and in the second. -/
theorem last_apply2 {κ : Kind} {sp : Space} (v : View sig κ sp S512x4096 .bf16) (f : v.ty.Contents (Elt Ideal))
    (hc0 : ¬cond0_0 i) (hc1 : cond0_1 i) (hc2 : cond0_2 i) (y : S512x4096.Idx) :
    (v.read (Elt Ideal) (v.writes (Elt Ideal) f (last_run (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo10).2.1) y : EReal)
      = normal2 x0 x1 x2 x3 x4 x5 x6 x7 x8 x9 xo10 y := by
  unfold last_run
  dsimp only
  have h0 : (y 0).val < 512 := (y 0).isLt
  refine rows_apply2 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 xo10 c i _ _ ?_ 8 le_rfl v _ y (by omega)
  exact sums_apply arg2 harg2 arg3 harg3 arg4 harg4 arg5 harg5 arg12 harg12 x0 x1 x2 x3 xo10 c arg12.view _

end Point

end Cert.JoinIdeal.Block

end
-- ==== Proof.JoinArray.lean ====
/-
  The attention layer's output projection as a whole: the blocks its points read, the sums a row tile's points run up, and
  the two arrays they leave.
-/
module

public import proofs.«01_k».proof.Proof.JoinBlock

@[expose] public section

set_option maxRecDepth 16384

noncomputable section

namespace Cert.JoinIdeal.Block

open Cert.JoinIdeal Cert.JoinIdeal.Gen Cert.JoinIdeal.Own Cert.Attention Cert.DownIdeal.Block Idealize.ShloMosaic Idealize.ShloMosaic.ValueIdx
  Idealize.ShloMosaic.TcCoe Idealize.SL.Sem

/-- Which block each window reads or writes at point `t`: row tile `t / 8`, step `t % 8` of the shared coordinate. -/
theorem idx_facts : ∀ t : Fin cfg0.N,
    (win0_0.index t (0 : Fin 2) = t.val / 8 ∧ win0_0.index t (1 : Fin 2) = t.val % 8)
    ∧ (win0_1.index t (0 : Fin 2) = t.val / 8 ∧ win0_1.index t (1 : Fin 2) = t.val % 8)
    ∧ (win0_2.index t (0 : Fin 2) = t.val % 8 ∧ win0_2.index t (1 : Fin 2) = 0)
    ∧ (win0_3.index t (0 : Fin 2) = t.val % 8 + 8 ∧ win0_3.index t (1 : Fin 2) = 0)
    ∧ (win0_4.index t (0 : Fin 2) = t.val / 8 ∧ win0_4.index t (1 : Fin 2) = 0)
    ∧ (win0_5.index t (0 : Fin 3) = t.val / 8 / 4 ∧ win0_5.index t (1 : Fin 3) = 0 ∧ win0_5.index t (2 : Fin 3) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 3) = t.val / 8 / 4 ∧ win0_8.index t (1 : Fin 3) = 0 ∧ win0_8.index t (2 : Fin 3) = 0)
    ∧ (win0_9.index t (0 : Fin 3) = t.val / 8 / 4 ∧ win0_9.index t (1 : Fin 3) = 0 ∧ win0_9.index t (2 : Fin 3) = 0)
    ∧ (win0_10.index t (0 : Fin 2) = t.val / 8 ∧ win0_10.index t (1 : Fin 2) = 0)
    ∧ (win0_11.index t (0 : Fin 2) = t.val / 8 ∧ win0_11.index t (1 : Fin 2) = 0) :=
  (by decide +kernel : ∀ t : Fin grid0.N, _)

variable (m : (ℓ : Loc nD τ sig) → Buf (Elt Ideal) ℓ)

/-- The weights, from the argument. -/
def weight (c : Dev nD) (k d : ℕ) : EReal := at2 (n := 4096) (p := 4096) (m ((c : Thread nD τ).loc main_arg2)) k d

/-- What the kernel's weight operand holds when it starts. -/
theorem V_weight (c : Dev nD) (k d : ℕ) (hk : k < 4096) (hd : d < 4096) :
    at2 (n := 4096) (p := 4096) (V m c main_v0) k d = weight m c k d := by
  have hV : @Eq (FVec Ideal S4096x4096 .bf16) (V m c main_v0)
      (truncf .bf16 (m ((c : Thread nD τ).loc main_arg2) : FVec Ideal S4096x4096 .f32) bitsLt_bf16_f32) := by
    show StableHlo.after hostOps0 _ _ = _
    after_results
  rw [hV]
  rfl

/-- The normalisation's gain as the kernel reads it: the argument as one row. -/
theorem V_gain (c : Dev nD) (d : ℕ) (hd : d < 4096) :
    at2 (n := 1) (p := 4096) (V m c main_v1) 0 d = at1 (n := 4096) (m ((c : Thread nD τ).loc main_arg5)) d := by
  have hV : @Eq (FVec Ideal S1x4096 .f32) (V m c main_v1)
      (shapeCast S1x4096 (m ((c : Thread nD τ).loc main_arg5)) shapeCasts_S4096_S1x4096) := by
    show StableHlo.after hostOps0 _ _ = _
    after_results
    rfl
  rw [hV, ← at2_of (n := 1) (p := 4096) _ (ix2 0 ⟨d, hd⟩) 0 d rfl rfl,
    shapeCast_apply _ shapeCasts_S4096_S1x4096 (ix2 0 ⟨d, hd⟩) (ix1 ⟨d, hd⟩) (by
      rw [Shape.rowMajor_val_one, Shape.rowMajor_val_two]; show d = 0 * 4096 + d; omega)]
  exact at1_of (n := 4096) _ _ _ rfl

/-- And the second normalisation's. -/
theorem V_gain2 (c : Dev nD) (d : ℕ) (hd : d < 4096) :
    at2 (n := 1) (p := 4096) (V m c main_v2) 0 d = at1 (n := 4096) (m ((c : Thread nD τ).loc main_arg6)) d := by
  have hV : @Eq (FVec Ideal S1x4096 .f32) (V m c main_v2)
      (shapeCast S1x4096 (m ((c : Thread nD τ).loc main_arg6)) shapeCasts_S4096_S1x4096) := by
    show StableHlo.after hostOps0 _ _ = _
    after_results
    rfl
  rw [hV, ← at2_of (n := 1) (p := 4096) _ (ix2 0 ⟨d, hd⟩) 0 d rfl rfl,
    shapeCast_apply _ shapeCasts_S4096_S1x4096 (ix2 0 ⟨d, hd⟩) (ix1 ⟨d, hd⟩) (by
      rw [Shape.rowMajor_val_one, Shape.rowMajor_val_two]; show d = 0 * 4096 + d; omega)]
  exact at1_of (n := 4096) _ _ _ rfl

/-- The rows point `t` reads of each array. -/
theorem blk0_at (c : Dev nD) (t : Fin cfg0.N) (r e : ℕ) (hr : r < 512) (he : e < 256) :
    at2 (n := 512) (p := 256) (iblk m c 0 t) r e
      = at2 (n := 16384) (p := 2048) (m ((c : Thread nD τ).loc main_arg0)) (t.val / 8 * 512 + r) (256 * (t.val % 8) + e) := by
  obtain ⟨⟨f0, f1⟩, -⟩ := idx_facts t
  rw [← at2_of (n := 512) (p := 256) (iblk m c 0 t) (ix2 ⟨r, hr⟩ ⟨e, he⟩) r e rfl rfl]
  refine at2_of (n := 16384) (p := 2048) (m ((c : Thread nD τ).loc main_arg0)) ((win0_0.rect t).emb (ix2 ⟨r, hr⟩ ⟨e, he⟩)) _ _ ?_ ?_
  · rw [← f0]; exact win0_0.rect_emb_val t _ (0 : Fin 2)
  · refine (win0_0.rect_emb_val t _ (1 : Fin 2)).trans ?_
    rw [f1]; show t.val % 8 * 256 + e = 256 * (t.val % 8) + e; omega

theorem blk1_at (c : Dev nD) (t : Fin cfg0.N) (r e : ℕ) (hr : r < 512) (he : e < 256) :
    at2 (n := 512) (p := 256) (iblk m c 1 t) r e
      = at2 (n := 16384) (p := 2048) (m ((c : Thread nD τ).loc main_arg1)) (t.val / 8 * 512 + r) (256 * (t.val % 8) + e) := by
  obtain ⟨-, ⟨f0, f1⟩, -⟩ := idx_facts t
  rw [← at2_of (n := 512) (p := 256) (iblk m c 1 t) (ix2 ⟨r, hr⟩ ⟨e, he⟩) r e rfl rfl]
  refine at2_of (n := 16384) (p := 2048) (m ((c : Thread nD τ).loc main_arg1)) ((win0_1.rect t).emb (ix2 ⟨r, hr⟩ ⟨e, he⟩)) _ _ ?_ ?_
  · rw [← f0]; exact win0_1.rect_emb_val t _ (0 : Fin 2)
  · refine (win0_1.rect_emb_val t _ (1 : Fin 2)).trans ?_
    rw [f1]; show t.val % 8 * 256 + e = 256 * (t.val % 8) + e; omega

/-- The weights point `t` reads: its step's rows of each half. -/
theorem blk2_at (c : Dev nD) (t : Fin cfg0.N) (k d : ℕ) (hk : k < 256) (hd : d < 4096) :
    at2 (n := 256) (p := 4096) (iblk m c 2 t) k d = weight m c (256 * (t.val % 8) + k) d := by
  obtain ⟨-, -, ⟨f0, f1⟩, -⟩ := idx_facts t
  rw [← at2_of (n := 256) (p := 4096) (iblk m c 2 t) (ix2 ⟨k, hk⟩ ⟨d, hd⟩) k d rfl rfl]
  refine (at2_of (n := 4096) (p := 4096) (V m c main_v0) ((win0_2.rect t).emb (ix2 ⟨k, hk⟩ ⟨d, hd⟩)) (256 * (t.val % 8) + k) d ?_ ?_).trans
    (V_weight m c _ d (by omega) hd)
  · refine (win0_2.rect_emb_val t _ (0 : Fin 2)).trans ?_
    rw [f0]; show t.val % 8 * 256 + k = 256 * (t.val % 8) + k; omega
  · refine (win0_2.rect_emb_val t _ (1 : Fin 2)).trans ?_
    rw [f1]; show 0 * 4096 + d = d; omega

theorem blk3_at (c : Dev nD) (t : Fin cfg0.N) (k d : ℕ) (hk : k < 256) (hd : d < 4096) :
    at2 (n := 256) (p := 4096) (iblk m c 3 t) k d = weight m c (2048 + (256 * (t.val % 8) + k)) d := by
  obtain ⟨-, -, -, ⟨f0, f1⟩, -⟩ := idx_facts t
  rw [← at2_of (n := 256) (p := 4096) (iblk m c 3 t) (ix2 ⟨k, hk⟩ ⟨d, hd⟩) k d rfl rfl]
  refine (at2_of (n := 4096) (p := 4096) (V m c main_v0) ((win0_3.rect t).emb (ix2 ⟨k, hk⟩ ⟨d, hd⟩)) (2048 + (256 * (t.val % 8) + k)) d ?_ ?_).trans
    (V_weight m c _ d (by omega) hd)
  · refine (win0_3.rect_emb_val t _ (0 : Fin 2)).trans ?_
    rw [f0]; show (t.val % 8 + 8) * 256 + k = 2048 + (256 * (t.val % 8) + k); omega
  · refine (win0_3.rect_emb_val t _ (1 : Fin 2)).trans ?_
    rw [f1]; show 0 * 4096 + d = d; omega

/-- The residual stream, the gate and the gain point `t` reads. -/
theorem blk4_at (c : Dev nD) (t : Fin cfg0.N) (y : S512x4096.Idx) :
    (iblk m c 4 t : S512x4096.Idx → EReal) y
      = at2 (n := 16384) (p := 4096) (m ((c : Thread nD τ).loc main_arg3)) (t.val / 8 * 512 + (y 0).val) (y 1).val := by
  obtain ⟨-, -, -, -, ⟨f0, f1⟩, -⟩ := idx_facts t
  refine at2_of (n := 16384) (p := 4096) (m ((c : Thread nD τ).loc main_arg3)) ((win0_4.rect t).emb y) _ _ ?_ ?_
  · rw [← f0]; exact win0_4.rect_emb_val t _ (0 : Fin 2)
  · refine (win0_4.rect_emb_val t _ (1 : Fin 2)).trans ?_
    rw [f1]; show 0 * 4096 + (y 1).val = (y 1).val; omega

theorem blk5_at (c : Dev nD) (t : Fin cfg0.N) (d : Fin 4096) :
    (iblk m c 5 t : S1x1x4096.Idx → EReal) (ix3 0 0 d)
      = at3 (n := 8) (p := 1) (q := 4096) (m ((c : Thread nD τ).loc main_arg4)) (t.val / 8 / 4) 0 d := by
  obtain ⟨-, -, -, -, -, ⟨f0, f1, f2⟩, -⟩ := idx_facts t
  refine at3_of (n := 8) (p := 1) (q := 4096) (m ((c : Thread nD τ).loc main_arg4)) ((win0_5.rect t).emb (ix3 0 0 d)) _ _ _ ?_ ?_ ?_
  · refine (win0_5.rect_emb_val t _ (0 : Fin 3)).trans ?_
    rw [f0]; show t.val / 8 / 4 * 1 + 0 = t.val / 8 / 4; omega
  · refine (win0_5.rect_emb_val t _ (1 : Fin 3)).trans ?_
    rw [f1]; rfl
  · refine (win0_5.rect_emb_val t _ (2 : Fin 3)).trans ?_
    rw [f2]; show 0 * 4096 + d.val = d.val; omega

theorem blk6_at (c : Dev nD) (t : Fin cfg0.N) (d : Fin 4096) :
    (iblk m c 6 t : S1x4096.Idx → EReal) (ix2 0 d) = at1 (n := 4096) (m ((c : Thread nD τ).loc main_arg5)) d := by
  obtain ⟨-, -, -, -, -, -, ⟨f0, f1⟩, -⟩ := idx_facts t
  refine (at2_of (n := 1) (p := 4096) (V m c main_v1) ((win0_6.rect t).emb (ix2 0 d)) 0 d ?_ ?_).trans (V_gain m c d d.isLt)
  · refine (win0_6.rect_emb_val t _ (0 : Fin 2)).trans ?_
    rw [f0]; rfl
  · refine (win0_6.rect_emb_val t _ (1 : Fin 2)).trans ?_
    rw [f1]; show 0 * 4096 + d.val = d.val; omega

/-- The next layer's gain, shift and scale. -/
theorem blk7_at (c : Dev nD) (t : Fin cfg0.N) (d : Fin 4096) :
    (iblk m c 7 t : S1x4096.Idx → EReal) (ix2 0 d) = at1 (n := 4096) (m ((c : Thread nD τ).loc main_arg6)) d := by
  obtain ⟨-, -, -, -, -, -, -, ⟨f0, f1⟩, -⟩ := idx_facts t
  refine (at2_of (n := 1) (p := 4096) (V m c main_v2) ((win0_7.rect t).emb (ix2 0 d)) 0 d ?_ ?_).trans (V_gain2 m c d d.isLt)
  · refine (win0_7.rect_emb_val t _ (0 : Fin 2)).trans ?_
    rw [f0]; rfl
  · refine (win0_7.rect_emb_val t _ (1 : Fin 2)).trans ?_
    rw [f1]; show 0 * 4096 + d.val = d.val; omega

theorem blk8_at (c : Dev nD) (t : Fin cfg0.N) (d : Fin 4096) :
    (iblk m c 8 t : S1x1x4096.Idx → EReal) (ix3 0 0 d)
      = at3 (n := 8) (p := 1) (q := 4096) (m ((c : Thread nD τ).loc main_arg7)) (t.val / 8 / 4) 0 d := by
  obtain ⟨-, -, -, -, -, -, -, -, ⟨f0, f1, f2⟩, -⟩ := idx_facts t
  refine at3_of (n := 8) (p := 1) (q := 4096) (m ((c : Thread nD τ).loc main_arg7)) ((win0_8.rect t).emb (ix3 0 0 d)) _ _ _ ?_ ?_ ?_
  · refine (win0_8.rect_emb_val t _ (0 : Fin 3)).trans ?_
    rw [f0]; show t.val / 8 / 4 * 1 + 0 = t.val / 8 / 4; omega
  · refine (win0_8.rect_emb_val t _ (1 : Fin 3)).trans ?_
    rw [f1]; rfl
  · refine (win0_8.rect_emb_val t _ (2 : Fin 3)).trans ?_
    rw [f2]; show 0 * 4096 + d.val = d.val; omega

theorem blk9_at (c : Dev nD) (t : Fin cfg0.N) (d : Fin 4096) :
    (iblk m c 9 t : S1x1x4096.Idx → EReal) (ix3 0 0 d)
      = at3 (n := 8) (p := 1) (q := 4096) (m ((c : Thread nD τ).loc main_arg8)) (t.val / 8 / 4) 0 d := by
  obtain ⟨-, -, -, -, -, -, -, -, -, ⟨f0, f1, f2⟩, -⟩ := idx_facts t
  refine at3_of (n := 8) (p := 1) (q := 4096) (m ((c : Thread nD τ).loc main_arg8)) ((win0_9.rect t).emb (ix3 0 0 d)) _ _ _ ?_ ?_ ?_
  · refine (win0_9.rect_emb_val t _ (0 : Fin 3)).trans ?_
    rw [f0]; show t.val / 8 / 4 * 1 + 0 = t.val / 8 / 4; omega
  · refine (win0_9.rect_emb_val t _ (1 : Fin 3)).trans ?_
    rw [f1]; rfl
  · refine (win0_9.rect_emb_val t _ (2 : Fin 3)).trans ?_
    rw [f2]; show 0 * 4096 + d.val = d.val; omega

/-- The two products over the first `n` shared coordinates, at a row and a column: one with the weights' first half,
one with their second. -/
def total (c : Dev nD) (n r d : ℕ) : EReal :=
  dot n (at2 (n := 16384) (p := 2048) (m ((c : Thread nD τ).loc main_arg0)) r) (fun k => weight m c k d)
    + dot n (at2 (n := 16384) (p := 2048) (m ((c : Thread nD τ).loc main_arg1)) r) (fun k => weight m c (2048 + k) d)

/-- No coordinate, no product. -/
theorem total_zero (c : Dev nD) (r d : ℕ) : total m c 0 r d = 0 := by
  unfold total dot
  exact (congrArg₂ (fun a b : EReal => a + b) Finset.sum_empty Finset.sum_empty).trans (add_zero 0)

/-- What point `t` multiplies takes the sums 256 coordinates further. -/
theorem total_step (c : Dev nD) (t : Fin cfg0.N) (y : S512x4096.Idx) :
    total m c (256 * (t.val % 8) + 256) (t.val / 8 * 512 + (y 0).val) (y 1).val
      = total m c (256 * (t.val % 8)) (t.val / 8 * 512 + (y 0).val) (y 1).val
        + prod (iblk m c 0 t) (iblk m c 1 t) (iblk m c 2 t) (iblk m c 3 t) y := by
  have h0 : (y 0).val < 512 := (y 0).isLt
  have h1 : (y 1).val < 4096 := (y 1).isLt
  unfold total prod
  rw [dot_add, dot_add, add_add_add_comm]
  refine congrArg (fun a : EReal => _ + a) (congrArg₂ (fun a b : EReal => a + b)
    (dot_congr (fun k hk => ?_) fun k hk => ?_) (dot_congr (fun k hk => ?_) fun k hk => ?_))
  · exact (blk0_at m c t _ k h0 hk).symm
  · exact (blk2_at m c t k _ hk h1).symm
  · exact (blk1_at m c t _ k h0 hk).symm
  · exact (blk3_at m c t k _ hk h1).symm

/-- What stands after point `n` of a row tile other than its last. -/
theorem running (c : Dev nD) (n : ℕ) : ∀ (hn : n < cfg0.N), n % 8 ≠ 7 → ∀ y : S512x4096.Idx,
    sums m c n hn y = total m c (256 * (n % 8) + 256) (n / 8 * 512 + (y 0).val) (y 1).val := by
  induction n with
  | zero =>
    intro hn h2 y
    refine (congrFun (sums_first m c ⟨0, hn⟩ (Nat.zero_mod _)) y).trans ((first_apply _ _ _ _ _ _ _ _ _ _ _ _ _ _ _ _ _ _ _ _ _ _ _ _ _ _ _ _ _ _ _ _ _ _ _ _ _ _ _ _ _ y).trans ?_)
    refine Eq.trans ?_ (total_step m c ⟨0, hn⟩ y).symm
    rw [show 256 * ((⟨0, hn⟩ : Fin cfg0.N).val % 8) = 0 from rfl, total_zero, zero_add]
  | succ n ih =>
    intro hn h2 y
    by_cases h0 : (n + 1) % 8 = 0
    · refine (congrFun (sums_first m c ⟨n + 1, hn⟩ h0) y).trans ((first_apply _ _ _ _ _ _ _ _ _ _ _ _ _ _ _ _ _ _ _ _ _ _ _ _ _ _ _ _ _ _ _ _ _ _ _ _ _ _ _ _ _ y).trans ?_)
      refine Eq.trans ?_ (total_step m c ⟨n + 1, hn⟩ y).symm
      rw [show 256 * ((⟨n + 1, hn⟩ : Fin cfg0.N).val % 8) = 0 by show 256 * ((n + 1) % 8) = 0; omega, total_zero, zero_add]
    · refine (congrFun (sums_middle m c ⟨n + 1, hn⟩ h0 h2) y).trans ((middle_apply _ _ _ _ _ _ _ _ _ _ _ _ _ _ _ _ _ _ _ _ _ _ _ _ _ _ _ _ _ _ _ _ _ _ _ _ _ _ _ _ _ _ y).trans ?_)
      refine Eq.trans ?_ (total_step m c ⟨n + 1, hn⟩ y).symm
      refine congrArg (fun a : EReal => a + _) ((ih (Nat.lt_of_succ_lt hn) (by omega) y).trans ?_)
      show total m c (256 * (n % 8) + 256) (n / 8 * 512 + (y 0).val) (y 1).val
        = total m c (256 * ((n + 1) % 8)) ((n + 1) / 8 * 512 + (y 0).val) (y 1).val
      rw [show 256 * (n % 8) + 256 = 256 * ((n + 1) % 8) by omega, show n / 8 = (n + 1) / 8 by omega]

/-- What the last point of a row tile reads of the sums before it, with its own product. -/
theorem standing_last (c : Dev nD) (t : Fin cfg0.N) (ht : t.val % 8 = 7) (y : S512x4096.Idx) :
    standing (iblk m c 0 t) (iblk m c 1 t) (iblk m c 2 t) (iblk m c 3 t) (before m c t) y = total m c 2048 (t.val / 8 * 512 + (y 0).val) (y 1).val := by
  have hs := total_step m c t y
  rw [show 256 * (t.val % 8) + 256 = 2048 by omega] at hs
  unfold standing
  refine Eq.trans (congrArg (fun a : EReal => a + _) ?_) hs.symm
  refine (running m c (t.val - 1) _ (by omega) y).trans ?_
  rw [show 256 * ((t.val - 1) % 8) + 256 = 256 * (t.val % 8) by omega, show (t.val - 1) / 8 = t.val / 8 by omega]

/-- The residual stream with the normalised product added, at a row and a column. -/
def stream (c : Dev nD) (r d : ℕ) : EReal :=
  Cert.DownIdeal.Block.post (fun l => total m c 2048 r l)
    (at2 (n := 16384) (p := 4096) (m ((c : Thread nD τ).loc main_arg3)) r d)
    (at3 (n := 8) (p := 1) (q := 4096) (m ((c : Thread nD τ).loc main_arg4)) (r / 2048) 0 d)
    (at1 (n := 4096) (m ((c : Thread nD τ).loc main_arg5)) d) d

/-- What the first result array is shown to hold, -/
def result (c : Dev nD) : Buf (Elt Ideal) ((c : Thread nD τ).loc main_v3_0) :=
  (fun i : S16384x4096.Idx => (stream m c (i 0).val (i 1).val : Elt Ideal .f32))

/-- and the second. -/
def result2 (c : Dev nD) : Buf (Elt Ideal) ((c : Thread nD τ).loc main_v3_1) :=
  (fun i : S16384x4096.Idx => (following (stream m c (i 0).val)
    (at1 (n := 4096) (m ((c : Thread nD τ).loc main_arg6)) (i 1).val)
    (at3 (n := 8) (p := 1) (q := 4096) (m ((c : Thread nD τ).loc main_arg8)) ((i 0).val / 2048) 0 (i 1).val)
    (at3 (n := 8) (p := 1) (q := 4096) (m ((c : Thread nD τ).loc main_arg7)) ((i 0).val / 2048) 0 (i 1).val) (i 1).val : Elt Ideal .bf16))

/-- A normalised row of the last point is the stream's. -/
theorem normal_last (c : Dev nD) (t : Fin cfg0.N) (ht : t.val % 8 = 7) (y : S512x4096.Idx) :
    normal (iblk m c 0 t) (iblk m c 1 t) (iblk m c 2 t) (iblk m c 3 t) (iblk m c 4 t) (iblk m c 5 t) (iblk m c 6 t) (before m c t) y
      = stream m c (t.val / 8 * 512 + (y 0).val) (y 1).val := by
  have h0 : (y 0).val < 512 := (y 0).isLt
  have h1 : (y 1).val < 4096 := (y 1).isLt
  unfold normal stream
  refine post_congr h1 (fun l hl => ?_) (blk4_at m c t y) ((blk5_at m c t ⟨(y 1).val, h1⟩).trans ?_) (blk6_at m c t ⟨(y 1).val, h1⟩)
  · rw [← at2_of (n := 512) (p := 4096) _ (ix2 ⟨(y 0).val, h0⟩ ⟨l, hl⟩) _ _ rfl rfl]
    exact standing_last m c t ht (ix2 ⟨(y 0).val, h0⟩ ⟨l, hl⟩)
  · rw [show (t.val / 8 * 512 + (y 0).val) / 2048 = t.val / 8 / 4 by omega]

/-- What the last point of a row tile writes back of the first result is its block. -/
theorem flushed_eq (c : Dev nD) (t : Fin cfg0.N) (ht : t.val % 8 = 7) :
    (dats m 0 c).flushed 10 t = ((cfg0.win 10).blk t).view.read (Elt Ideal) (result m c) := by
  rw [flushed_10 m c t]
  funext y
  have h0 : (y 0).val < 512 := (y 0).isLt
  have h1 : (y 1).val < 4096 := (y 1).isLt
  obtain ⟨-, -, -, -, -, -, -, -, -, -, ⟨f0, f1⟩, -⟩ := idx_facts t
  have e0 : (((win0_10.rect t).emb y 0 : Fin _) : ℕ) = t.val / 8 * 512 + (y 0).val := by
    rw [← f0]; exact win0_10.rect_emb_val t y (0 : Fin 2)
  have e1 : (((win0_10.rect t).emb y 1 : Fin _) : ℕ) = (y 1).val := by
    refine (win0_10.rect_emb_val t y (1 : Fin 2)).trans ?_
    rw [f1]; show 0 * 4096 + (y 1).val = (y 1).val; omega
  refine (congrFun (sums_last m c t ht) y).trans ((last_apply _ _ _ _ _ _ _ _ _ _ _ _ _ _ _ _ _ _ _ _ _ _ _ _ _ _ _ _ _ _ _ _ _ _ _ _ _ _ _ _ _ _ y).trans ?_)
  show _ = stream m c (((win0_10.rect t).emb y 0 : Fin _) : ℕ) (((win0_10.rect t).emb y 1 : Fin _) : ℕ)
  rw [e0, e1]
  exact normal_last m c t ht y

/-- What the last point of a row tile writes back of the second result is its block. -/
theorem flushed_eq2 (c : Dev nD) (t : Fin cfg0.N) (ht : t.val % 8 = 7) :
    (dats m 0 c).flushed 11 t = ((cfg0.win 11).blk t).view.read (Elt Ideal) (result2 m c) := by
  rw [flushed_11 m c t]
  funext y
  have h0 : (y 0).val < 512 := (y 0).isLt
  have h1 : (y 1).val < 4096 := (y 1).isLt
  obtain ⟨-, -, -, -, -, -, -, -, -, -, -, ⟨f0, f1⟩⟩ := idx_facts t
  have e0 : (((win0_11.rect t).emb y 0 : Fin _) : ℕ) = t.val / 8 * 512 + (y 0).val := by
    rw [← f0]; exact win0_11.rect_emb_val t y (0 : Fin 2)
  have e1 : (((win0_11.rect t).emb y 1 : Fin _) : ℕ) = (y 1).val := by
    refine (win0_11.rect_emb_val t y (1 : Fin 2)).trans ?_
    rw [f1]; show 0 * 4096 + (y 1).val = (y 1).val; omega
  refine (congrFun (normed_last m c t ht) y).trans ((last_apply2 _ _ _ _ _ _ _ _ _ _ _ _ _ _ _ _ _ _ _ _ _ _ _ _ _ _ _ _ _ _ _ _ _ _ _ _ _ _ _ _ _ _ y).trans ?_)
  show _ = following (stream m c (((win0_11.rect t).emb y 0 : Fin _) : ℕ))
    (at1 (n := 4096) (m ((c : Thread nD τ).loc main_arg6)) (((win0_11.rect t).emb y 1 : Fin _) : ℕ))
    (at3 (n := 8) (p := 1) (q := 4096) (m ((c : Thread nD τ).loc main_arg8)) ((((win0_11.rect t).emb y 0 : Fin _) : ℕ) / 2048) 0 (((win0_11.rect t).emb y 1 : Fin _) : ℕ))
    (at3 (n := 8) (p := 1) (q := 4096) (m ((c : Thread nD τ).loc main_arg7)) ((((win0_11.rect t).emb y 0 : Fin _) : ℕ) / 2048) 0 (((win0_11.rect t).emb y 1 : Fin _) : ℕ)) (((win0_11.rect t).emb y 1 : Fin _) : ℕ)
  rw [e0, e1, show (t.val / 8 * 512 + (y 0).val) / 2048 = t.val / 8 / 4 by omega]
  unfold normal2
  refine following_congr h1 (fun l hl => ?_) (blk7_at m c t ⟨(y 1).val, h1⟩) (blk9_at m c t ⟨(y 1).val, h1⟩) (blk8_at m c t ⟨(y 1).val, h1⟩)
  rw [← at2_of (n := 512) (p := 4096) _ (ix2 ⟨(y 0).val, h0⟩ ⟨l, hl⟩) _ _ rfl rfl]
  exact normal_last m c t ht (ix2 ⟨(y 0).val, h0⟩ ⟨l, hl⟩)

/-- Every index of the first result array lies in the block of a point that is written back. -/
theorem cover_result (i : S16384x4096.Idx) :
    ∃ t : Fin cfg0.N, (cfg0.win 10).flush t = true ∧ i ∈ ((cfg0.win 10).blk t).view.set := by
  have h0 : (i 0).val < 16384 := (i 0).isLt
  have h1 : (i 1).val < 4096 := (i 1).isLt
  have hN : cfg0.N = 256 := N_0
  have ht : (i 0).val / 512 * 8 + 7 < cfg0.N := by omega
  refine ⟨⟨_, ht⟩, (flush0_10 _).mpr (by show ((i 0).val / 512 * 8 + 7) % 8 = 7; omega), ?_⟩
  obtain ⟨-, -, -, -, -, -, -, -, -, -, ⟨f0, f1⟩, -⟩ := idx_facts ⟨_, ht⟩
  have g0 : win0_10.index ⟨_, ht⟩ (0 : Fin 2) = (i 0).val / 512 := by rw [f0]; dsimp only; omega
  show i ∈ ((View.whole main_v3_0).slice (win0_10.rect ⟨_, ht⟩)).set
  rw [View.set_slice_whole, Rect.mem_set_unit]
  intro a
  match a with
  | ⟨0, _⟩ =>
    show win0_10.index ⟨_, ht⟩ (0 : Fin 2) * 512 ≤ (i 0).val ∧ (i 0).val < win0_10.index ⟨_, ht⟩ (0 : Fin 2) * 512 + 512
    rw [g0]; omega
  | ⟨1, _⟩ =>
    show win0_10.index ⟨_, ht⟩ (1 : Fin 2) * 4096 ≤ (i 1).val ∧ (i 1).val < win0_10.index ⟨_, ht⟩ (1 : Fin 2) * 4096 + 4096
    rw [f1]; omega

/-- Every index of the second result array lies in the block of a point that is written back. -/
theorem cover_result2 (i : S16384x4096.Idx) :
    ∃ t : Fin cfg0.N, (cfg0.win 11).flush t = true ∧ i ∈ ((cfg0.win 11).blk t).view.set := by
  have h0 : (i 0).val < 16384 := (i 0).isLt
  have h1 : (i 1).val < 4096 := (i 1).isLt
  have hN : cfg0.N = 256 := N_0
  have ht : (i 0).val / 512 * 8 + 7 < cfg0.N := by omega
  refine ⟨⟨_, ht⟩, (flush0_11 _).mpr (by show ((i 0).val / 512 * 8 + 7) % 8 = 7; omega), ?_⟩
  obtain ⟨-, -, -, -, -, -, -, -, -, -, -, ⟨f0, f1⟩⟩ := idx_facts ⟨_, ht⟩
  have g0 : win0_11.index ⟨_, ht⟩ (0 : Fin 2) = (i 0).val / 512 := by rw [f0]; dsimp only; omega
  show i ∈ ((View.whole main_v3_1).slice (win0_11.rect ⟨_, ht⟩)).set
  rw [View.set_slice_whole, Rect.mem_set_unit]
  intro a
  match a with
  | ⟨0, _⟩ =>
    show win0_11.index ⟨_, ht⟩ (0 : Fin 2) * 512 ≤ (i 0).val ∧ (i 0).val < win0_11.index ⟨_, ht⟩ (0 : Fin 2) * 512 + 512
    rw [g0]; omega
  | ⟨1, _⟩ =>
    show win0_11.index ⟨_, ht⟩ (1 : Fin 2) * 4096 ≤ (i 1).val ∧ (i 1).val < win0_11.index ⟨_, ht⟩ (1 : Fin 2) * 4096 + 4096
    rw [f1]; omega

/-- So the first array ends holding its result. -/
theorem final (c : Dev nD) : (dats m 0 c).arrAt 10 cfg0.N = result m c :=
  (dats m 0 c).arrAt_eq_of_cover 10 (result m c) (fun t hf => flushed_eq m c t ((flush0_10 t).mp hf)) cover_result

/-- So the second array ends holding its result. -/
theorem final2 (c : Dev nD) : (dats m 0 c).arrAt 11 cfg0.N = result2 m c :=
  (dats m 0 c).arrAt_eq_of_cover 11 (result2 m c) (fun t hf => flushed_eq2 m c t ((flush0_11 t).mp hf)) cover_result2

end Cert.JoinIdeal.Block

end
-- ==== Proof.JoinValue.lean ====
/-
  The reference of the attention layer's output projection: what its two results are at an index, and that the kernel's arrays hold just those.
-/
module

public import proofs.«01_k».proof.Proof.JoinArray
public import proofs.«01_k».proof.Proof.DownValue
public import proofs.«01_k».proof.Proof.Gen.JoinRefIdeal.Read

@[expose] public section

set_option maxRecDepth 16384

noncomputable section

namespace Cert.JoinRefIdeal.Joined

open Cert.JoinRefIdeal Cert.JoinRefIdeal.Gen Cert.JoinRefIdeal.Read Cert.Attention Idealize.ShloMosaic Idealize.ShloMosaic.ValueIdx

variable (n q : FVec Ideal S16384x2048 .bf16) (o : FVec Ideal S4096x4096 .f32) (x : FVec Ideal S16384x4096 .f32)
  (g : FVec Ideal S8x1x4096 .f32) (w v : FVec Ideal S4096 .f32) (shift scale : FVec Ideal S8x1x4096 .f32)

/-- A row of the first array followed by one of the second. -/
def beside (r k : ℕ) : EReal := if k < 2048 then at2 n r k else at2 q r (k - 2048)

/-- The left operand at a row and a column: the two arrays side by side. -/
theorem left_apply (r : Fin 16384) (k : Fin 4096) : val_main_v1 (F := Ideal) n q (ix2 r k) = beside n q r k := by
  have hk := k.isLt
  rw [val_main_v1_apply]
  unfold val_main_v0 beside
  by_cases h : k.val < 2048
  · rw [if_pos h]
    refine (concatenate_apply_piece 1 _ _ (ix2 r k) 0 (by show 0 < 2; omega) S16384x2048 _ rfl rfl 0 rfl (ix2 r (⟨k.val, h⟩ : Fin 2048))
      (fun x hx => match x with | ⟨0, _⟩ => rfl | ⟨1, _⟩ => absurd rfl hx) (by show 0 + k.val = k.val; omega)).trans ?_
    exact at2_of n _ _ _ rfl rfl
  · rw [if_neg h]
    refine (concatenate_apply_piece 1 _ _ (ix2 r k) 1 (by show 1 < 2; omega) S16384x2048 _ rfl rfl 2048 rfl (ix2 r (⟨k.val - 2048, by omega⟩ : Fin 2048))
      (fun x hx => match x with | ⟨0, _⟩ => rfl | ⟨1, _⟩ => absurd rfl hx) (by show 2048 + (k.val - 2048) = k.val; omega)).trans ?_
    exact at2_of q _ _ _ rfl rfl

/-- The product at a row and a column. -/
def product (r d : ℕ) : EReal := dot 4096 (beside n q r) (fun k => at2 o k d)

theorem product_eq (r : Fin 16384) (d : Fin 4096) : val_main_v2 (F := Ideal) n q o (ix2 r d) = product n q o r d := by
  rw [val_main_v2_apply]
  unfold product dot
  refine Finset.sum_congr rfl fun k _ => congrArg₂ (fun a b : EReal => a * b) ?_ (at2_of o _ _ _ rfl rfl)
  refine Eq.trans ?_ (left_apply n q r k)
  exact congrArg _ (Shape.idx_ext₂ rfl rfl)

/-- The normalised product times the gain. -/
theorem normal_apply (r : Fin 16384) (d : Fin 4096) :
    val_main_v16 (F := Ideal) n q o w (ix2 r d)
      = product n q o r d * Ideal.rsqrt (Ideal.div (∑ l : Fin 4096, product n q o r l * product n q o r l) (Ideal.ofBits .f32 0x45800000#32)
          + Ideal.ofBits .f32 0x358637BD#32) * at1 w d := by
  have hs : ∀ i : S16384.Idx, i 0 = r → val_main_v5 (F := Ideal) n q o i = ∑ l : Fin 4096, product n q o r l * product n q o r l := by
    intro i hi
    rw [val_main_v5_apply, val_main_cst_apply]
    refine (congrArg (fun z : EReal => z + _) Ideal.ofBits_zero_f32).trans ((zero_add _).trans ?_)
    refine Finset.sum_congr rfl fun l _ => ?_
    have hl : idx_main_v5 i l = ix2 r l := funext fun x => Fin.ext (by
      match x with
      | ⟨0, _⟩ => exact congrArg Fin.val hi
      | ⟨1, _⟩ => rfl)
    rw [val_main_v4_apply, hl, product_eq]
    rfl
  rw [val_main_v16_apply, val_main_v13_apply, product_eq, val_main_v12_apply, val_main_v11_apply, val_main_v10_apply,
    val_main_v8_apply, val_main_v6_apply, hs _ rfl, val_main_v7_apply, val_main_v9_apply, val_main_cst_0_apply, val_main_cst_1_apply,
    val_main_v15_apply, val_main_v14_apply, at1_of w _ d rfl]
  rfl

/-- The first result at a row and a column. -/
def stream (r d : ℕ) : EReal :=
  Cert.DownIdeal.Block.post (fun l => product n q o r l) (at2 x r d) (at3 g (r / 2048) 0 d) (at1 w d) d

theorem stream_apply (r : Fin 16384) (d : Fin 4096) : val_main_v40 (F := Ideal) n q o x g w (ix2 r d) = stream n q o x g w r d := by
  have hr := r.isLt
  have hd := d.isLt
  have h8 : idx_main_v3 (idx_main_v40 (ix2 r d)) = ix2 r d := Shape.idx_ext₂ (y := ix2 r d)
    (by show (((r.val * 4096 + d.val) / 8388608 * 2048 + (r.val * 4096 + d.val) / 4096 % 2048) * 4096 + (r.val * 4096 + d.val) % 4096) / 4096 = r.val; omega)
    (by show (((r.val * 4096 + d.val) / 8388608 * 2048 + (r.val * 4096 + d.val) / 4096 % 2048) * 4096 + (r.val * 4096 + d.val) % 4096) % 4096 = d.val; omega)
  have h22 : idx_main_v17 (idx_main_v40 (ix2 r d)) = ix2 r d := h8
  rw [val_main_v40_apply, val_main_v20_apply, val_main_v3_apply, h8, val_main_v19_apply, val_main_v18_apply, val_main_v17_apply, h22,
    normal_apply, at2_of x _ r.val d.val rfl rfl,
    at3_of g _ (r.val / 2048) 0 d.val (by show (r.val * 4096 + d.val) / 8388608 = r.val / 2048; omega) rfl
      (by show (r.val * 4096 + d.val) % 4096 = d.val; omega)]
  rfl

/-- The same before it is laid out as one matrix. -/
theorem rows_apply (j : S8x2048x4096.Idx) (r : Fin 16384) (d : Fin 4096) (hr : 2048 * (j 0).val + (j 1).val = r.val) (hd : (j 2).val = d.val) :
    val_main_v20 (F := Ideal) n q o x g w j = stream n q o x g w r d := by
  have hj : idx_main_v40 (ix2 r d) = j := funext fun b => Fin.ext (by
    have h0 : (j 0).val < 8 := (j 0).isLt
    have h1 : (j 1).val < 2048 := (j 1).isLt
    have hr' := r.isLt
    have hd' := d.isLt
    match b with
    | ⟨0, _⟩ => show (r.val * 4096 + d.val) / 8388608 = (j 0).val; omega
    | ⟨1, _⟩ => show (r.val * 4096 + d.val) / 4096 % 2048 = (j 1).val; omega
    | ⟨2, _⟩ => show (r.val * 4096 + d.val) % 4096 = (j 2).val; omega)
  rw [← stream_apply, val_main_v40_apply, hj]

/-- The second result at a row and a column. -/
theorem following_apply (r : Fin 16384) (d : Fin 4096) :
    val_main_v42 (F := Ideal) n q o x g w v shift scale (ix2 r d)
      = following (stream n q o x g w r) (at1 v d) (at3 scale (r.val / 2048) 0 d) (at3 shift (r.val / 2048) 0 d) d := by
  have hr := r.isLt
  have hd := d.isLt
  have hs : ∀ i : S8x2048.Idx, 2048 * (i 0).val + (i 1).val = r.val → val_main_v22 (F := Ideal) n q o x g w i
      = ∑ l : Fin 4096, stream n q o x g w r l * stream n q o x g w r l := by
    intro i hi
    rw [val_main_v22_apply, val_main_cst_2_apply]
    refine (congrArg (fun z : EReal => z + _) Ideal.ofBits_zero_f32).trans ((zero_add _).trans ?_)
    refine Finset.sum_congr rfl fun l _ => ?_
    rw [val_main_v21_apply, rows_apply n q o x g w _ r l hi rfl]
    rfl
  rw [val_main_v42_apply, val_main_v41_apply, val_main_v39_apply, val_main_v37_apply, val_main_v33_apply, val_main_v30_apply,
    val_main_v29_apply, val_main_v28_apply, val_main_v27_apply, val_main_v25_apply, val_main_v23_apply, val_main_v24_apply, val_main_v26_apply,
    val_main_cst_3_apply, val_main_cst_4_apply, val_main_v32_apply, val_main_v31_apply, val_main_v36_apply, val_main_v35_apply,
    val_main_v34_apply, val_main_cst_5_apply, val_main_v38_apply,
    rows_apply n q o x g w (idx_main_v41 (ix2 r d)) r d
      (by show 2048 * ((r.val * 4096 + d.val) / 8388608) + (r.val * 4096 + d.val) / 4096 % 2048 = r.val; omega)
      (by show (r.val * 4096 + d.val) % 4096 = d.val; omega),
    hs _ (by show 2048 * ((r.val * 4096 + d.val) / 8388608) + (r.val * 4096 + d.val) / 4096 % 2048 = r.val; omega),
    at1_of v _ d.val (by show (r.val * 4096 + d.val) % 4096 = d.val; omega),
    at3_of scale _ (r.val / 2048) 0 d.val (by show (r.val * 4096 + d.val) / 8388608 = r.val / 2048; omega) rfl
      (by show (r.val * 4096 + d.val) % 4096 = d.val; omega),
    at3_of shift _ (r.val / 2048) 0 d.val (by show (r.val * 4096 + d.val) / 8388608 = r.val / 2048; omega) rfl
      (by show (r.val * 4096 + d.val) % 4096 = d.val; omega)]
  rfl

end Cert.JoinRefIdeal.Joined

namespace Cert.JoinIdeal.Block

open Cert.JoinIdeal Cert.JoinIdeal.Gen Cert.Attention Cert.DownIdeal.Block Idealize.ShloMosaic Idealize.ShloMosaic.ValueIdx
  Idealize.ShloMosaic.TcCoe Idealize.SL.Sem

variable (m : (ℓ : Loc nD τ sig) → Buf (Elt Ideal) ℓ)

/-- The sum a row tile's points run up is the reference's product. -/
theorem total_product (c : Dev nD) (r d : ℕ) :
    total m c 2048 r d = Cert.JoinRefIdeal.Joined.product (m ((c : Thread nD τ).loc main_arg0)) (m ((c : Thread nD τ).loc main_arg1)) (m ((c : Thread nD τ).loc main_arg2)) r d := by
  unfold total Cert.JoinRefIdeal.Joined.product
  refine Eq.symm ((dot_add 2048 2048 _ _).trans ?_)
  refine congrArg₂ (fun a b : EReal => a + b) (dot_congr (fun k hk => ?_) fun k hk => rfl) (dot_congr (fun k hk => ?_) fun k hk => rfl)
  · unfold Cert.JoinRefIdeal.Joined.beside
    rw [if_pos hk]
  · unfold Cert.JoinRefIdeal.Joined.beside
    rw [if_neg (by omega), Nat.add_sub_cancel_left]

theorem stream_eq (c : Dev nD) (r : ℕ) :
    stream m c r = Cert.JoinRefIdeal.Joined.stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r := by
  funext d
  unfold stream Cert.JoinRefIdeal.Joined.stream
  rw [show (fun l => total m c 2048 r l) = _ from funext fun l => total_product m c r l]

/-- The reference's first result is the kernel's, at an index, -/
theorem reference_eq (c : Dev nD) (i : S16384x4096.Idx) :
    Cert.JoinRefIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i = result m c i := by
  refine (congrArg _ (eq_ix2 i)).trans ((Cert.JoinRefIdeal.Joined.stream_apply _ _ _ _ _ _ (i 0) (i 1)).trans ?_)
  exact (congrFun (stream_eq m c (i 0).val) (i 1).val).symm

/-- and the second. -/
theorem reference_eq2 (c : Dev nD) (i : S16384x4096.Idx) :
    Cert.JoinRefIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) i = result2 m c i := by
  refine (congrArg _ (eq_ix2 i)).trans ((Cert.JoinRefIdeal.Joined.following_apply _ _ _ _ _ _ _ _ _ (i 0) (i 1)).trans ?_)
  rw [← stream_eq]
  rfl

end Cert.JoinIdeal.Block

end
-- ==== Proof.JoinBits.lean ====
/-
  The run of the program at the machine's own numbers: its text is the idealised program's, which is proved to run whatever
  the numbers are.
-/
module

public import proofs.«01_k».proof.Defs
public import proofs.«01_k».proof.Proof.Gen.Join
public import proofs.«01_k».proof.Proof.JoinFrame
public import Idealize.ShloMosaic.Lib.Tactic.ProgEq

@[expose] public section

set_option maxRecDepth 16384

noncomputable section

namespace Cert.JoinIdeal.Own

open Idealize.ShloMosaic Idealize.SL.Sem

theorem same_main : Cert.Join.main (F := Bits) = Cert.JoinIdeal.main (F := Bits) := by sl_kernel_rfl

theorem same_defs : Cert.Join.defs (F := Bits) = Cert.JoinIdeal.defs (F := Bits) := by sl_kernel_rfl

/-- The program runs, keeps its arguments, and leaves every semaphore at zero. -/
theorem frame_bits : Cert.quiescent_Join := fun m ρ _ => by
  rw [same_main, same_defs]
  exact Cert.JoinIdeal.Own.frame (F := Bits) m ρ

end Cert.JoinIdeal.Own

end
-- ==== Proof.MergeRun.lean ====
/-
  The last of a row's grid points: one more product is added, then the rows are normalised strip by strip.
-/
module

public import proofs.«01_k».proof.Proof.Gen.MergeIdeal.Frame.RunB
public import proofs.«01_k».proof.Proof.MergeLoop

@[expose] public section

set_option maxRecDepth 16384

noncomputable section

namespace Cert.MergeIdeal.Own

open Cert.MergeIdeal Cert.MergeIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- What the last point leaves in the two results' buffers: the pieces written over the running sums, and those of the second
    result, whatever its buffer held. -/
noncomputable def last_run (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x4096 .f32) (harg8 : arg8.IsWhole) (arg9 : Memref sig .tc .vmem S1x1x4096 .f32) (harg9 : arg9.IsWhole) (arg10 : Memref sig .tc .vmem S512x4096 .f32) (harg10 : arg10.IsWhole) (arg11 : Memref sig .tc .vmem S512x4096 .bf16) (harg11 : arg11.IsWhole) (hc0 : ¬cond0_0 i) (hc1 : cond0_1 i) (hc2 : cond0_2 i)
    (x0 : Vec F S512x512 .bf16) (x1 : Vec F S512x4096 .bf16) (x2 : Vec F S512x4096 .f32) (x3 : Vec F S1x1x4096 .f32) (x4 : Vec F S1x4096 .f32) (x5 : Vec F S1x4096 .f32) (x6 : Vec F S1x1x4096 .f32) (x7 : Vec F S1x1x4096 .f32) (xo8 : Vec F S512x4096 .f32) :
    Σ' (L8 : List (View.Piece (Elt F) S512x4096 .f32)), { L9 : List (View.Piece (Elt F) S512x4096 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0_matmul_post i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_matmul_post_eq_skeleton]; unfold cc0_matmul_post_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact H9

end Cert.MergeIdeal.Own

end
-- ==== Proof.MergeFrame.lean ====
/-
  The launch: what the two results' buffers hold after each grid point, the body at a grid point, and the run of the whole
  call with its two arrays named and its arguments kept.
-/
module

public import proofs.«01_k».proof.Proof.MergeRun
public import Idealize.ShloMosaic.Lib.Claim

@[expose] public section

set_option maxRecDepth 16384

noncomputable section

namespace Cert.MergeIdeal.Own

open Cert.MergeIdeal Cert.MergeIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The pieces cover the buffers -/

section

variable (c : Dev nD) (i : grid0.Coords)
    (arg2 : Memref sig .tc .vmem S512x512 .bf16) (harg2 : arg2.IsWhole)
    (arg3 : Memref sig .tc .vmem S512x4096 .bf16) (harg3 : arg3.IsWhole)
    (arg4 : Memref sig .tc .vmem S512x4096 .f32) (harg4 : arg4.IsWhole)
    (arg5 : Memref sig .tc .vmem S1x1x4096 .f32) (harg5 : arg5.IsWhole)
    (arg6 : Memref sig .tc .vmem S1x4096 .f32) (harg6 : arg6.IsWhole)
    (arg7 : Memref sig .tc .vmem S1x4096 .f32) (harg7 : arg7.IsWhole)
    (arg8 : Memref sig .tc .vmem S1x1x4096 .f32) (harg8 : arg8.IsWhole)
    (arg9 : Memref sig .tc .vmem S1x1x4096 .f32) (harg9 : arg9.IsWhole)
    (arg10 : Memref sig .tc .vmem S512x4096 .f32) (harg10 : arg10.IsWhole)
    (arg11 : Memref sig .tc .vmem S512x4096 .bf16) (harg11 : arg11.IsWhole)
    (x0 : Vec F S512x512 .bf16) (x1 : Vec F S512x4096 .bf16) (x2 : Vec F S512x4096 .f32) (x3 : Vec F S1x1x4096 .f32) (x4 : Vec F S1x4096 .f32) (x5 : Vec F S1x4096 .f32) (x6 : Vec F S1x1x4096 .f32) (x7 : Vec F S1x1x4096 .f32) (xo8 : Vec F S512x4096 .f32)
    (y : S512x4096.Idx)

theorem cover_first (a : cond0_0 i) (b : ¬cond0_1 i) (d : ¬cond0_2 i) :
    ∃ p ∈ (kernelRun0_A c i arg2 harg2 arg3 harg3 arg4 harg4 arg5 harg5 arg6 harg6 arg7 harg7 arg8 harg8 arg9 harg9 arg10 harg10 arg11 harg11 a b d x0 x1 x2 x3 x4 x5 x6 x7).1, y ∈ p.1.set :=
  View.cover_of_tiledL (kernelRun0_A c i arg2 harg2 arg3 harg3 arg4 harg4 arg5 harg5 arg6 harg6 arg7 harg7 arg8 harg8 arg9 harg9 arg10 harg10 arg11 harg11 a b d x0 x1 x2 x3 x4 x5 x6 x7).1 S512x1024.size (by sl_kernel_rfl) y

theorem cover_middle (a : ¬cond0_0 i) (b : cond0_1 i) (d : ¬cond0_2 i) :
    ∃ p ∈ (kernelRun0_B c i arg2 harg2 arg3 harg3 arg4 harg4 arg5 harg5 arg6 harg6 arg7 harg7 arg8 harg8 arg9 harg9 arg10 harg10 arg11 harg11 a b d x0 x1 x2 x3 x4 x5 x6 x7 xo8).1, y ∈ p.1.set :=
  View.cover_of_tiledL (kernelRun0_B c i arg2 harg2 arg3 harg3 arg4 harg4 arg5 harg5 arg6 harg6 arg7 harg7 arg8 harg8 arg9 harg9 arg10 harg10 arg11 harg11 a b d x0 x1 x2 x3 x4 x5 x6 x7 xo8).1 S512x1024.size (by sl_kernel_rfl) y

theorem cover_last (a : ¬cond0_0 i) (b : cond0_1 i) (d : cond0_2 i) :
    ∃ p ∈ (last_run c i arg2 harg2 arg3 harg3 arg4 harg4 arg5 harg5 arg6 harg6 arg7 harg7 arg8 harg8 arg9 harg9 arg10 harg10 arg11 harg11 a b d x0 x1 x2 x3 x4 x5 x6 x7 xo8).1, y ∈ p.1.set :=
  View.cover_of_tiledBy (last_run c i arg2 harg2 arg3 harg3 arg4 harg4 arg5 harg5 arg6 harg6 arg7 harg7 arg8 harg8 arg9 harg9 arg10 harg10 arg11 harg11 a b d x0 x1 x2 x3 x4 x5 x6 x7 xo8).1 ![64, 1024] (by sl_kernel_rfl) y

theorem cover_last' (a : ¬cond0_0 i) (b : cond0_1 i) (d : cond0_2 i) :
    ∃ p ∈ (last_run c i arg2 harg2 arg3 harg3 arg4 harg4 arg5 harg5 arg6 harg6 arg7 harg7 arg8 harg8 arg9 harg9 arg10 harg10 arg11 harg11 a b d x0 x1 x2 x3 x4 x5 x6 x7 xo8).2.1, y ∈ p.1.set :=
  View.cover_of_tiledL (last_run c i arg2 harg2 arg3 harg3 arg4 harg4 arg5 harg5 arg6 harg6 arg7 harg7 arg8 harg8 arg9 harg9 arg10 harg10 arg11 harg11 a b d x0 x1 x2 x3 x4 x5 x6 x7 xo8).2.1 S64x4096.size (by sl_kernel_rfl) y

end

/-! ## The three kinds of grid point -/

variable (m : (ℓ : Loc nD τ sig) → Buf (Elt F) ℓ) (ρ : Dev nD → PrngReg)

section

variable (c : Dev nD) (t : Fin cfg0.N)

theorem at0 (h : t.val % 8 = 0) : cond0_0 (grid0.coords t) := (hcond0_0 t).mpr h
theorem not0 (h : ¬t.val % 8 = 0) : ¬cond0_0 (grid0.coords t) := fun e => h ((hcond0_0 t).mp e)
theorem at1 (h : ¬t.val % 8 = 0) : cond0_1 (grid0.coords t) := (hcond0_1 t).mpr (Nat.pos_of_ne_zero h)
theorem not1 (h : t.val % 8 = 0) : ¬cond0_1 (grid0.coords t) := fun e => by have := (hcond0_1 t).mp e; omega
theorem at2 (h : t.val % 8 = 7) : cond0_2 (grid0.coords t) := (hcond0_2 t).mpr h
theorem not2 (h : ¬t.val % 8 = 7) : ¬cond0_2 (grid0.coords t) := fun e => h ((hcond0_2 t).mp e)
theorem ne0 (h : t.val % 8 = 7) : ¬t.val % 8 = 0 := by omega
theorem neL (h : t.val % 8 = 0) : ¬t.val % 8 = 7 := by omega

/-- The first point of a block of rows. -/
abbrev first (h : t.val % 8 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (at0 t h) (not1 t h) (not2 t (neL t h)) (iblk m c 0 t) (iblk m c 1 t) (iblk m c 2 t) (iblk m c 3 t) (iblk m c 4 t) (iblk m c 5 t) (iblk m c 6 t) (iblk m c 7 t)

/-- A point between, over the running sums `s`. -/
abbrev middle (h : ¬t.val % 8 = 0) (h' : ¬t.val % 8 = 7) (s : Vec F S512x4096 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (not0 t h) (at1 t h) (not2 t h') (iblk m c 0 t) (iblk m c 1 t) (iblk m c 2 t) (iblk m c 3 t) (iblk m c 4 t) (iblk m c 5 t) (iblk m c 6 t) (iblk m c 7 t) s

/-- The last point. -/
abbrev last (h : t.val % 8 = 7) (s : Vec F S512x4096 .f32) :=
  last_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (not0 t (ne0 t h)) (at1 t (ne0 t h)) (at2 t h) (iblk m c 0 t) (iblk m c 1 t) (iblk m c 2 t) (iblk m c 3 t) (iblk m c 4 t) (iblk m c 5 t) (iblk m c 6 t) (iblk m c 7 t) s

end

/-- The first result's buffer after point `k`. -/
def sums (c : Dev nD) : (k : ℕ) → k < cfg0.N → Vec F S512x4096 .f32
  | 0, hk => VO0_8.read (Elt F) (VO0_8.writes (Elt F) VO0_8.junk (first m c ⟨0, hk⟩ (Nat.zero_mod _)).1)
  | k + 1, hk =>
    if h : (k + 1) % 8 = 0 then VO0_8.read (Elt F) (VO0_8.writes (Elt F) VO0_8.junk (first m c ⟨k + 1, hk⟩ h).1)
    else if h' : (k + 1) % 8 = 7 then
      VO0_8.read (Elt F) (VO0_8.writes (Elt F) VO0_8.junk (last m c ⟨k + 1, hk⟩ h' (sums c k (Nat.lt_of_succ_lt hk))).1)
    else VO0_8.read (Elt F) (VO0_8.writes (Elt F) VO0_8.junk (middle m c ⟨k + 1, hk⟩ h h' (sums c k (Nat.lt_of_succ_lt hk))).1)

/-- What the point before left. -/
abbrev before (c : Dev nD) (t : Fin cfg0.N) : Vec F S512x4096 .f32 := sums m c (t.val - 1) (Nat.lt_of_le_of_lt (Nat.sub_le _ _) t.isLt)

theorem sums_first (c : Dev nD) (t : Fin cfg0.N) (h : t.val % 8 = 0) :
    sums m c t.val t.isLt = VO0_8.read (Elt F) (VO0_8.writes (Elt F) VO0_8.junk (first m c t h).1) := by
  obtain ⟨k, hk⟩ := t
  cases k with
  | zero => exact rfl
  | succ k => exact (dif_pos h).trans rfl

theorem sums_middle (c : Dev nD) (t : Fin cfg0.N) (h : ¬t.val % 8 = 0) (h' : ¬t.val % 8 = 7) :
    sums m c t.val t.isLt = VO0_8.read (Elt F) (VO0_8.writes (Elt F) VO0_8.junk (middle m c t h h' (before m c t)).1) := by
  obtain ⟨k, hk⟩ := t
  cases k with
  | zero => exact absurd (Nat.zero_mod _) h
  | succ k => exact (dif_neg h).trans ((dif_neg h').trans rfl)

theorem sums_last (c : Dev nD) (t : Fin cfg0.N) (h : t.val % 8 = 7) :
    sums m c t.val t.isLt = VO0_8.read (Elt F) (VO0_8.writes (Elt F) VO0_8.junk (last m c t h (before m c t)).1) := by
  obtain ⟨k, hk⟩ := t
  cases k with
  | zero => exact absurd (Nat.zero_mod _) (ne0 ⟨0, hk⟩ h)
  | succ k => exact (dif_neg (ne0 ⟨k + 1, hk⟩ h)).trans ((dif_pos h).trans rfl)

/-- The second result's buffer after point `t`: nothing is said of it before the last point of a block of rows. -/
def normed (c : Dev nD) (t : Fin cfg0.N) : Vec F S512x4096 .bf16 :=
  if h : t.val % 8 = 7 then VO0_9.read (Elt F) (VO0_9.writes (Elt F) VO0_9.junk (last m c t h (before m c t)).2.1)
  else VO0_9.read (Elt F) VO0_9.junk

theorem normed_last (c : Dev nD) (t : Fin cfg0.N) (h : t.val % 8 = 7) :
    normed m c t = VO0_9.read (Elt F) (VO0_9.writes (Elt F) VO0_9.junk (last m c t h (before m c t)).2.1) := dif_pos h

/-! ## The proof data -/

/-- The arrays as the call finds them; after a point each block as it was and the two results' buffers as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => sums m c t.val t.isLt
    | ⟨9, _⟩ => normed m c t
  Φ _ := Pipeline.ΦA spec0 c
  q _ := fullShare
  owed _ := 0

theorem dats_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = sums m c t.val t.isLt := by dsimp only [dats]
theorem after_9 (c : Dev nD) (t : Fin cfg0.N) : (dats m 0 c).after 9 t = normed m c t := by dsimp only [dats]

theorem before_0 (c : Dev nD) (t : Fin cfg0.N) (d) : (dats m 0 c).before 0 t d = iblk m c 0 t := before0_0_of m (dats m 0 c) (dats_A m c 0) (after_0 m c) t d
theorem before_1 (c : Dev nD) (t : Fin cfg0.N) (d) : (dats m 0 c).before 1 t d = iblk m c 1 t := before0_1_of m (dats m 0 c) (dats_A m c 1) (after_1 m c) t d
theorem before_2 (c : Dev nD) (t : Fin cfg0.N) (d) : (dats m 0 c).before 2 t d = iblk m c 2 t := before0_2_of m (dats m 0 c) (dats_A m c 2) (after_2 m c) t d
theorem before_3 (c : Dev nD) (t : Fin cfg0.N) (d) : (dats m 0 c).before 3 t d = iblk m c 3 t := before0_3_of m (dats m 0 c) (dats_A m c 3) (after_3 m c) t d
theorem before_4 (c : Dev nD) (t : Fin cfg0.N) (d) : (dats m 0 c).before 4 t d = iblk m c 4 t := before0_4_of m (dats m 0 c) (dats_A m c 4) (after_4 m c) t d
theorem before_5 (c : Dev nD) (t : Fin cfg0.N) (d) : (dats m 0 c).before 5 t d = iblk m c 5 t := before0_5_of m (dats m 0 c) (dats_A m c 5) (after_5 m c) t d
theorem before_6 (c : Dev nD) (t : Fin cfg0.N) (d) : (dats m 0 c).before 6 t d = iblk m c 6 t := before0_6_of m (dats m 0 c) (dats_A m c 6) (after_6 m c) t d
theorem before_7 (c : Dev nD) (t : Fin cfg0.N) (d) : (dats m 0 c).before 7 t d = iblk m c 7 t := before0_7_of m (dats m 0 c) (dats_A m c 7) (after_7 m c) t d

/-- Every point writes the first result's buffer. -/
theorem live (t : Fin cfg0.N) : cfg0.idle 8 (grid0.coords t) = false := by
  by_cases h : t.val % 8 = 0
  · exact liveAt0_8_A t (at0 t h) (not1 t h) (not2 t (neL t h))
  by_cases h' : t.val % 8 = 7
  · exact liveAt0_8_C t (not0 t h) (at1 t h) (at2 t h')
  · exact liveAt0_8_B t (not0 t h) (at1 t h) (not2 t h')

/-- So after the first point of a block of rows it holds what the point before left. -/
theorem before_8 (c : Dev nD) (t : Fin cfg0.N) (h : ¬t.val % 8 = 0) (d) :
    (dats m 0 c).before 8 t d = before m c t := by
  have fresh : cfg0.fresh 8 t.val = false := by
    by_cases h' : t.val % 8 = 7
    · exact notFresh0_8_C t (not0 t h) (at1 t h) (at2 t h')
    · exact notFresh0_8_B t (not0 t h) (at1 t h) (not2 t h')
  rw [Dat.before_out_traj _ 8 rfl (fun _ _ => rfl)
    (fun t _ e _ => absurd ((live t).symm.trans e) Bool.false_ne_true) t.val t rfl d,
    if_neg (by rw [fresh]; exact Bool.false_ne_true)]
  dsimp only [dats]

/-! ## The body at a grid point -/

/-- What the body finds at point `t`, -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it leaves. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 2400000 in
theorem body_first (c : Dev nD) (t : Fin cfg0.N) (h : t.val % 8 = 0) :
    pre m c t ⊢ wp frame (wpE (defs₀ (F := F)) Variants.none c none) Set.univ (bodyAt0 t) (fun _ => post m c t) := by
  unfold pre post bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after_0]
  rw [show (dats m 0 c).leavesExact 1 t = owns (c : Thread nD τ) (ms0_1 t) fullShare ((dats m 0 c).after 1 t) from by
    unfold Dat.leavesExact; rw [liveAt0_1 t], after_1]
  rw [show (dats m 0 c).leavesExact 2 t = owns (c : Thread nD τ) (ms0_2 t) fullShare ((dats m 0 c).after 2 t) from by
    unfold Dat.leavesExact; rw [liveAt0_2 t], after_2]
  rw [show (dats m 0 c).leavesExact 3 t = owns (c : Thread nD τ) (ms0_3 t) fullShare ((dats m 0 c).after 3 t) from by
    unfold Dat.leavesExact; rw [liveAt0_3 t], after_3]
  rw [show (dats m 0 c).leavesExact 4 t = owns (c : Thread nD τ) (ms0_4 t) fullShare ((dats m 0 c).after 4 t) from by
    unfold Dat.leavesExact; rw [liveAt0_4 t], after_4]
  rw [show (dats m 0 c).leavesExact 5 t = owns (c : Thread nD τ) (ms0_5 t) fullShare ((dats m 0 c).after 5 t) from by
    unfold Dat.leavesExact; rw [liveAt0_5 t], after_5]
  rw [show (dats m 0 c).leavesExact 6 t = owns (c : Thread nD τ) (ms0_6 t) fullShare ((dats m 0 c).after 6 t) from by
    unfold Dat.leavesExact; rw [liveAt0_6 t], after_6]
  rw [show (dats m 0 c).leavesExact 7 t = owns (c : Thread nD τ) (ms0_7 t) fullShare ((dats m 0 c).after 7 t) from by
    unfold Dat.leavesExact; rw [liveAt0_7 t], after_7]
  rw [show (dats m 0 c).leavesExact 8 t = owns (c : Thread nD τ) (ms0_8 t) fullShare ((dats m 0 c).after 8 t) from by
    unfold Dat.leavesExact; rw [live t], after_8]
  rw [Dat.leavesExact_idle (dats m 0 c) 9 t (idleAt0_9_A t (at0 t h) (not1 t h) (not2 t (neL t h))) (noFlush0_9_A t (at0 t h) (not1 t h) (not2 t (neL t h)))]
  rw [sums_first m c t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((first m c t h).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  iintro ⟨H0, H1, H2, H3, H4, H5, H6, H7, ⟨%e, H8⟩, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (fun y => cover_first c _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) y (at0 t h) (not1 t h) (not2 t (neL t h)))
  iexists _; iexact H9

set_option maxHeartbeats 2400000 in
theorem body_middle (c : Dev nD) (t : Fin cfg0.N) (h : ¬t.val % 8 = 0) (h' : ¬t.val % 8 = 7) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8 m c t h]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after_0]
  rw [show (dats m 0 c).leavesExact 1 t = owns (c : Thread nD τ) (ms0_1 t) fullShare ((dats m 0 c).after 1 t) from by
    unfold Dat.leavesExact; rw [liveAt0_1 t], after_1]
  rw [show (dats m 0 c).leavesExact 2 t = owns (c : Thread nD τ) (ms0_2 t) fullShare ((dats m 0 c).after 2 t) from by
    unfold Dat.leavesExact; rw [liveAt0_2 t], after_2]
  rw [show (dats m 0 c).leavesExact 3 t = owns (c : Thread nD τ) (ms0_3 t) fullShare ((dats m 0 c).after 3 t) from by
    unfold Dat.leavesExact; rw [liveAt0_3 t], after_3]
  rw [show (dats m 0 c).leavesExact 4 t = owns (c : Thread nD τ) (ms0_4 t) fullShare ((dats m 0 c).after 4 t) from by
    unfold Dat.leavesExact; rw [liveAt0_4 t], after_4]
  rw [show (dats m 0 c).leavesExact 5 t = owns (c : Thread nD τ) (ms0_5 t) fullShare ((dats m 0 c).after 5 t) from by
    unfold Dat.leavesExact; rw [liveAt0_5 t], after_5]
  rw [show (dats m 0 c).leavesExact 6 t = owns (c : Thread nD τ) (ms0_6 t) fullShare ((dats m 0 c).after 6 t) from by
    unfold Dat.leavesExact; rw [liveAt0_6 t], after_6]
  rw [show (dats m 0 c).leavesExact 7 t = owns (c : Thread nD τ) (ms0_7 t) fullShare ((dats m 0 c).after 7 t) from by
    unfold Dat.leavesExact; rw [liveAt0_7 t], after_7]
  rw [show (dats m 0 c).leavesExact 8 t = owns (c : Thread nD τ) (ms0_8 t) fullShare ((dats m 0 c).after 8 t) from by
    unfold Dat.leavesExact; rw [live t], after_8]
  rw [Dat.leavesExact_idle (dats m 0 c) 9 t (idleAt0_9_B t (not0 t h) (at1 t h) (not2 t h')) (noFlush0_9_B t (not0 t h) (at1 t h) (not2 t h'))]
  rw [sums_middle m c t h h']
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((middle m c t h h' (before m c t)).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, ⟨%e, H8⟩, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (fun y => cover_middle c _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (before m c t) y (not0 t h) (at1 t h) (not2 t h'))
  iexists _; iexact H9

set_option maxHeartbeats 2400000 in
theorem body_last (c : Dev nD) (t : Fin cfg0.N) (h : t.val % 8 = 7) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8 m c t (ne0 t h)]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after_0]
  rw [show (dats m 0 c).leavesExact 1 t = owns (c : Thread nD τ) (ms0_1 t) fullShare ((dats m 0 c).after 1 t) from by
    unfold Dat.leavesExact; rw [liveAt0_1 t], after_1]
  rw [show (dats m 0 c).leavesExact 2 t = owns (c : Thread nD τ) (ms0_2 t) fullShare ((dats m 0 c).after 2 t) from by
    unfold Dat.leavesExact; rw [liveAt0_2 t], after_2]
  rw [show (dats m 0 c).leavesExact 3 t = owns (c : Thread nD τ) (ms0_3 t) fullShare ((dats m 0 c).after 3 t) from by
    unfold Dat.leavesExact; rw [liveAt0_3 t], after_3]
  rw [show (dats m 0 c).leavesExact 4 t = owns (c : Thread nD τ) (ms0_4 t) fullShare ((dats m 0 c).after 4 t) from by
    unfold Dat.leavesExact; rw [liveAt0_4 t], after_4]
  rw [show (dats m 0 c).leavesExact 5 t = owns (c : Thread nD τ) (ms0_5 t) fullShare ((dats m 0 c).after 5 t) from by
    unfold Dat.leavesExact; rw [liveAt0_5 t], after_5]
  rw [show (dats m 0 c).leavesExact 6 t = owns (c : Thread nD τ) (ms0_6 t) fullShare ((dats m 0 c).after 6 t) from by
    unfold Dat.leavesExact; rw [liveAt0_6 t], after_6]
  rw [show (dats m 0 c).leavesExact 7 t = owns (c : Thread nD τ) (ms0_7 t) fullShare ((dats m 0 c).after 7 t) from by
    unfold Dat.leavesExact; rw [liveAt0_7 t], after_7]
  rw [show (dats m 0 c).leavesExact 8 t = owns (c : Thread nD τ) (ms0_8 t) fullShare ((dats m 0 c).after 8 t) from by
    unfold Dat.leavesExact; rw [live t], after_8]
  rw [show (dats m 0 c).leavesExact 9 t = owns (c : Thread nD τ) (ms0_9 t) fullShare ((dats m 0 c).after 9 t) from by
    unfold Dat.leavesExact; rw [liveAt0_9_C t (not0 t (ne0 t h)) (at1 t (ne0 t h)) (at2 t h)], after_9, normed_last m c t h]
  rw [sums_last m c t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((last m c t h (before m c t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, ⟨%e, H8⟩, ⟨%e', H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (fun y => cover_last c _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (before m c t) y (not0 t (ne0 t h)) (at1 t (ne0 t h)) (at2 t h))
  unfold owns; iexists _; isplitr
  swap; · iexact H9
  ipureintro; exact View.read_writes_of_cover _ _ _ _ _ (fun y => cover_last' c _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (before m c t) y (not0 t (ne0 t h)) (at1 t (ne0 t h)) (at2 t h))

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  refine triple_restated (P := pre m c t) (Q := fun _ => post m c t) ?_ rfl .rfl fun _ => .rfl
  by_cases h : t.val % 8 = 0
  · exact body_first m c t h
  by_cases h' : t.val % 8 = 7
  · exact body_last m c t h'
  · exact body_middle m c t h h'

/-! ## The run -/

set_option backward.isDefEq.respectTransparency.types false in
theorem launched : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

theorem run : θ_run defs (onTc (τ := τ) (main (F := F))) (s₀ m ρ) (Pipeline.FramePost cfgs (dats m) 0 (V m)) :=
  (θ_run defs _ _).mono (fun _ h => h.1) (launched m ρ)

/-- The arguments are kept. -/
theorem kept : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  frame_of m ρ (dats m) (dats_A m) (run m ρ)

/-- The call runs and keeps its arguments. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7))
    ∧ r.2.sem = fun _ => 0) :=
  θ_run_and (kept m ρ) ((θ_run defs _ _).mono (fun _ h => h.2) (launched m ρ))

/-- The same with the two arrays named. -/
theorem arrays : θ_run defs (onTc (τ := τ) (main (F := F))) ⟨m, fun _ => 0, ρ⟩ (fun r => ∀ c : Dev nD,
    r.2.mem ((c.tc : Thread nD τ).loc main_v9_0) = (dats m 0 c).arrAt 8 cfg0.N
    ∧ r.2.mem ((c.tc : Thread nD τ).loc main_v9_1) = (dats m 0 c).arrAt 9 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  (θ_run defs _ _).mono (fun _ h c => ⟨(h.1 c).1 8, (h.1 c).1 9, h.2 c⟩) (θ_run_and (run m ρ) (kept m ρ))

theorem flushed_8 (c : Dev nD) (t : Fin cfg0.N) :
    (dats m 0 c).flushed 8 t = (cfg0.win 8).cut (grid0.coords t) (sums m c t.val t.isLt) := by
  show (cfg0.win 8).cut (grid0.coords t) ((dats m 0 c).after 8 t) = _
  rw [after_8]

theorem flushed_9 (c : Dev nD) (t : Fin cfg0.N) :
    (dats m 0 c).flushed 9 t = (cfg0.win 9).cut (grid0.coords t) (normed m c t) := by
  show (cfg0.win 9).cut (grid0.coords t) ((dats m 0 c).after 9 t) = _
  rw [after_9]

end Cert.MergeIdeal.Own

end
-- ==== Proof.MergeBlock.lean ====
/-
  What one grid point of the mixing layer's output projection computes: the first of a row tile's points writes a product, the
  others add theirs to what stands, and the last then normalises every row, scales it and adds it to the residual stream,
  and into a second array normalises the row again for the layer that follows.
-/
module

public import proofs.«01_k».proof.Proof.NextBlock
public import proofs.«01_k».proof.Proof.MergeFrame

@[expose] public section

set_option maxRecDepth 16384

noncomputable section

namespace Cert.MergeIdeal.Block

open Cert.MergeIdeal Cert.MergeIdeal.Gen Cert.MergeIdeal.Own Cert.Attention Cert.DownIdeal.Block Idealize.ShloMosaic Idealize.ShloMosaic.ValueIdx
  Idealize.ShloMosaic.TcCoe Idealize.SL.Sem

/-- The values the body stores are those of the down-projection's body, at a row and a column. -/
theorem new_apply (x : Vec Ideal S512x512 .bf16) (w : Vec Ideal S512x1024 .bf16) (r : Fin 512) (d : Fin 1024) :
    k0_pay1 (F := Ideal) x w (ix2 r d) = dot 512 (at2 x r) (fun k => at2 w k d) := Cert.NextIdeal.Block.new_apply x w r d

theorem add_apply (v : Vec Ideal S512x1024 .f32) (x : Vec Ideal S512x512 .bf16) (w : Vec Ideal S512x1024 .bf16) (r : Fin 512)
    (d : Fin 1024) : k0_pay7 (F := Ideal) v x w (ix2 r d) = v (ix2 r d) + dot 512 (at2 x r) (fun k => at2 w k d) :=
  Cert.NextIdeal.Block.add_apply v x w r d

theorem post_apply (y x : Vec Ideal S64x4096 .f32) (g : Vec Ideal S1x1x4096 .f32) (w : Vec Ideal S1x4096 .f32) (r : Fin 64)
    (d : Fin 4096) :
    k0_pay11 (F := Ideal) y x g w (ix2 r d) = Cert.DownIdeal.Block.post (at2 y r) (x (ix2 r d)) (g (ix3 0 0 d)) (w (ix2 0 d)) d :=
  Cert.NextIdeal.Block.post_apply y x g w r d

theorem following_apply (y x : Vec Ideal S64x4096 .f32) (g : Vec Ideal S1x1x4096 .f32) (w v : Vec Ideal S1x4096 .f32)
    (scale shift : Vec Ideal S1x1x4096 .f32) (r : Fin 64) (d : Fin 4096) :
    k0_pay6 (F := Ideal) (k0_pay12 y x g w) (k0_pay13 v) scale shift (ix2 r d)
      = following (at2 (k0_pay11 (F := Ideal) y x g w) r) (v (ix2 0 d)) (scale (ix3 0 0 d)) (shift (ix3 0 0 d)) d :=
  Cert.NextIdeal.Block.following_apply y x g w v scale shift r d

section Point

variable (arg2 : Memref sig .tc .vmem S512x512 .bf16) (harg2 : arg2.IsWhole)
  (arg3 : Memref sig .tc .vmem S512x4096 .bf16) (harg3 : arg3.IsWhole)
  (arg4 : Memref sig .tc .vmem S512x4096 .f32) (harg4 : arg4.IsWhole)
  (arg5 : Memref sig .tc .vmem S1x1x4096 .f32) (harg5 : arg5.IsWhole)
  (arg6 : Memref sig .tc .vmem S1x4096 .f32) (harg6 : arg6.IsWhole)
  (arg7 : Memref sig .tc .vmem S1x4096 .f32) (harg7 : arg7.IsWhole)
  (arg8 : Memref sig .tc .vmem S1x1x4096 .f32) (harg8 : arg8.IsWhole)
  (arg9 : Memref sig .tc .vmem S1x1x4096 .f32) (harg9 : arg9.IsWhole)
  (arg10 : Memref sig .tc .vmem S512x4096 .f32) (harg10 : arg10.IsWhole)
  (arg11 : Memref sig .tc .vmem S512x4096 .bf16) (harg11 : arg11.IsWhole)
  (x0 : Vec Ideal S512x512 .bf16) (x1 : Vec Ideal S512x4096 .bf16) (x2 : Vec Ideal S512x4096 .f32)
  (x3 : Vec Ideal S1x1x4096 .f32) (x4 x5 : Vec Ideal S1x4096 .f32) (x6 x7 : Vec Ideal S1x1x4096 .f32) (xo8 : Vec Ideal S512x4096 .f32)

/-- A point's product, at a row and a column of the tile. -/
def prod (y : S512x4096.Idx) : EReal := dot 512 (at2 x0 (y 0)) (fun k => at2 x1 k (y 1))

/-- The left block as loaded is the block. -/
theorem left_load : View.readAt (Elt Ideal) arg2.view (Rect.unit (s := S512x512) ![0, 0] S512x512.size inb_S512x512_S512x512_0_0).toLoadRect
    (harg2.unread x0) = x0 := by
  funext z
  refine (harg2.readAt_unread x0 _ z).trans (congrArg x0 (Shape.idx_ext₂ ?_ ?_))
  · show 0 + 1 * (z 0).val = (z 0).val; omega
  · show 0 + 1 * (z 1).val = (z 1).val; omega

/-- A column chunk of the right block as loaded. -/
theorem right_load (o : ℕ) (inb : ∀ a : Fin 2, (![0, o] : Fin 2 → ℕ) a + S512x1024.size a ≤ S512x4096.size a) (k d : ℕ) (hk : k < 512)
    (hd : d < 1024) :
    at2 (n := 512) (p := 1024) (View.readAt (Elt Ideal) arg3.view (Rect.unit (s := S512x4096) ![0, o] S512x1024.size inb).toLoadRect (harg3.unread x1)) k d
      = at2 (n := 512) (p := 4096) x1 k (o + d) := by
  rw [← at2_of (n := 512) (p := 1024) _ (ix2 ⟨k, hk⟩ ⟨d, hd⟩) k d rfl rfl]
  refine (harg3.readAt_unread x1 _ _).trans (at2_of (n := 512) (p := 4096) x1 _ _ _ ?_ ?_)
  · show 0 + 1 * k = k; omega
  · show o + 1 * d = o + d; omega

/-- A chunk the first point writes. -/
theorem piece_new (o : ℕ) (inb : ∀ a : Fin 2, (![0, o] : Fin 2 → ℕ) a + S512x1024.size a ≤ S512x4096.size a) (z : S512x1024.Idx) :
    k0_pay1 (F := Ideal)
      (View.readAt (Elt Ideal) arg2.view (Rect.unit (s := S512x512) ![0, 0] S512x512.size inb_S512x512_S512x512_0_0).toLoadRect (harg2.unread x0))
      (View.readAt (Elt Ideal) arg3.view (Rect.unit (s := S512x4096) ![0, o] S512x1024.size inb).toLoadRect (harg3.unread x1)) z
      = prod x0 x1 ((Rect.unit (s := S512x4096) ![0, o] S512x1024.size inb).emb z) := by
  have h0 : (z 0).val < 512 := (z 0).isLt
  have h1 : (z 1).val < 1024 := (z 1).isLt
  rw [left_load]
  refine (congrArg _ (eq_ix2 z)).trans ((new_apply _ _ (z 0) (z 1)).trans ?_)
  unfold prod
  have e0 : (((Rect.unit (s := S512x4096) ![0, o] S512x1024.size inb).emb z 0 : Fin _) : ℕ) = (z 0).val := by
    show 0 + 1 * (z 0).val = _; omega
  have e1 : (((Rect.unit (s := S512x4096) ![0, o] S512x1024.size inb).emb z 1 : Fin _) : ℕ) = o + (z 1).val := by
    show o + 1 * (z 1).val = _; omega
  rw [e0, e1]
  exact dot_congr (fun _ _ => rfl) fun k hk => right_load arg3 harg3 x1 o inb k _ hk h1

/-- A chunk a later point writes. -/
theorem piece_add (o : ℕ) (inb : ∀ a : Fin 2, (![0, o] : Fin 2 → ℕ) a + S512x1024.size a ≤ S512x4096.size a) (z : S512x1024.Idx) :
    k0_pay7 (F := Ideal)
      (View.readAt (Elt Ideal) arg10.view (Rect.unit (s := S512x4096) ![0, o] S512x1024.size inb).toLoadRect (harg10.unread xo8))
      (View.readAt (Elt Ideal) arg2.view (Rect.unit (s := S512x512) ![0, 0] S512x512.size inb_S512x512_S512x512_0_0).toLoadRect (harg2.unread x0))
      (View.readAt (Elt Ideal) arg3.view (Rect.unit (s := S512x4096) ![0, o] S512x1024.size inb).toLoadRect (harg3.unread x1)) z
      = xo8 ((Rect.unit (s := S512x4096) ![0, o] S512x1024.size inb).emb z)
        + prod x0 x1 ((Rect.unit (s := S512x4096) ![0, o] S512x1024.size inb).emb z) := by
  refine (congrArg _ (eq_ix2 z)).trans ((add_apply _ _ _ (z 0) (z 1)).trans ?_)
  refine congrArg₂ (fun a b : EReal => a + b) ?_ ?_
  · exact (congrArg _ (eq_ix2 z).symm).trans
      ((harg10.readAt_unread xo8 (Rect.unit (s := S512x4096) ![0, o] S512x1024.size inb).toLoadRect z).trans
        (congrArg xo8 (Shape.idx_ext₂ rfl rfl)))
  · refine Eq.trans ?_ (piece_new arg2 harg2 arg3 harg3 x0 x1 o inb z)
    exact ((congrArg _ (eq_ix2 z)).trans (new_apply _ _ (z 0) (z 1))).symm

variable (c : Dev nD) (i : grid0.Coords)

/-- What a row tile's first point leaves. -/
theorem first_apply {κ : Kind} {sp : Space} (v : View sig κ sp S512x4096 .f32) (f : v.ty.Contents (Elt Ideal))
    (hc0 : cond0_0 i) (hc1 : ¬cond0_1 i) (hc2 : ¬cond0_2 i) (y : S512x4096.Idx) :
    v.read (Elt Ideal) (v.writes (Elt Ideal) f (kernelRun0_A (F := Ideal) c i arg2 harg2 arg3 harg3 arg4 harg4 arg5 harg5 arg6 harg6 arg7 harg7 arg8 harg8 arg9 harg9 arg10 harg10 arg11 harg11 hc0 hc1 hc2 x0 x1 x2 x3 x4 x5 x6 x7).1) y
      = prod x0 x1 y := by
  refine View.read_writes_apply_of_pieces (Val := Elt Ideal) _ _ (fun y => (prod x0 x1 y : Elt Ideal .f32)) _ ?_ y
    (cover_first c i arg2 harg2 arg3 harg3 arg4 harg4 arg5 harg5 arg6 harg6 arg7 harg7 arg8 harg8 arg9 harg9 arg10 harg10 arg11 harg11 x0 x1 x2 x3 x4 x5 x6 x7 y hc0 hc1 hc2)
  intro p hp z
  unfold kernelRun0_A at hp
  dsimp only at hp
  simp only [List.mem_cons, List.not_mem_nil, or_false] at hp
  rcases hp with rfl | rfl | rfl | rfl
  · exact piece_new arg2 harg2 arg3 harg3 x0 x1 3072 _ z
  · exact piece_new arg2 harg2 arg3 harg3 x0 x1 2048 _ z
  · exact piece_new arg2 harg2 arg3 harg3 x0 x1 1024 _ z
  · exact piece_new arg2 harg2 arg3 harg3 x0 x1 0 _ z

/-- What a point between leaves. -/
theorem middle_apply {κ : Kind} {sp : Space} (v : View sig κ sp S512x4096 .f32) (f : v.ty.Contents (Elt Ideal))
    (hc0 : ¬cond0_0 i) (hc1 : cond0_1 i) (hc2 : ¬cond0_2 i) (y : S512x4096.Idx) :
    v.read (Elt Ideal) (v.writes (Elt Ideal) f (kernelRun0_B (F := Ideal) c i arg2 harg2 arg3 harg3 arg4 harg4 arg5 harg5 arg6 harg6 arg7 harg7 arg8 harg8 arg9 harg9 arg10 harg10 arg11 harg11 hc0 hc1 hc2 x0 x1 x2 x3 x4 x5 x6 x7 xo8).1) y
      = xo8 y + prod x0 x1 y := by
  refine View.read_writes_apply_of_pieces (Val := Elt Ideal) _ _ (fun y => (xo8 y + prod x0 x1 y : EReal)) _ ?_ y
    (cover_middle c i arg2 harg2 arg3 harg3 arg4 harg4 arg5 harg5 arg6 harg6 arg7 harg7 arg8 harg8 arg9 harg9 arg10 harg10 arg11 harg11 x0 x1 x2 x3 x4 x5 x6 x7 xo8 y hc0 hc1 hc2)
  intro p hp z
  unfold kernelRun0_B at hp
  dsimp only at hp
  simp only [List.mem_cons, List.not_mem_nil, or_false] at hp
  rcases hp with rfl | rfl | rfl | rfl
  · exact piece_add arg2 harg2 arg3 harg3 arg10 harg10 x0 x1 xo8 3072 _ z
  · exact piece_add arg2 harg2 arg3 harg3 arg10 harg10 x0 x1 xo8 2048 _ z
  · exact piece_add arg2 harg2 arg3 harg3 arg10 harg10 x0 x1 xo8 1024 _ z
  · exact piece_add arg2 harg2 arg3 harg3 arg10 harg10 x0 x1 xo8 0 _ z

/-- What stands at the last point before its rows are normalised. -/
def standing (y : S512x4096.Idx) : EReal := xo8 y + prod x0 x1 y

/-- A row of the tile once normalised. -/
def normal (y : S512x4096.Idx) : EReal :=
  Cert.DownIdeal.Block.post (at2 (n := 512) (p := 4096) (standing x0 x1 xo8) (y 0)) (x2 y) (x3 (ix3 0 0 (y 1))) (x4 (ix2 0 (y 1))) (y 1)

/-- And once more, for the second array. -/
def normal2 (y : S512x4096.Idx) : EReal :=
  following (at2 (n := 512) (p := 4096) (normal x0 x1 x2 x3 x4 xo8) (y 0)) (x5 (ix2 0 (y 1))) (x7 (ix3 0 0 (y 1))) (x6 (ix3 0 0 (y 1))) (y 1)

/-- The pieces the last point writes before its loop. -/
theorem sums_apply {κ : Kind} {sp : Space} (v : View sig κ sp S512x4096 .f32) (f : v.ty.Contents (Elt Ideal)) (y : S512x4096.Idx) :
    v.read (Elt Ideal) (v.writes (Elt Ideal) f (last_run.sl.H8_4 c arg2 harg2 arg3 harg3 arg10 harg10 x0 x1 xo8)) y
      = standing x0 x1 xo8 y := by
  refine View.read_writes_apply_of_pieces (Val := Elt Ideal) v f (fun y => (standing x0 x1 xo8 y : Elt Ideal .f32)) _ ?_ y
    (View.cover_of_tiledL (last_run.sl.H8_4 c arg2 harg2 arg3 harg3 arg10 harg10 x0 x1 xo8) S512x1024.size (by sl_kernel_rfl) y)
  intro p hp z
  unfold last_run.sl.H8_4 at hp
  simp only [List.mem_cons, List.not_mem_nil, or_false] at hp
  rcases hp with rfl | rfl | rfl | rfl
  · exact piece_add arg2 harg2 arg3 harg3 arg10 harg10 x0 x1 xo8 3072 _ z
  · exact piece_add arg2 harg2 arg3 harg3 arg10 harg10 x0 x1 xo8 2048 _ z
  · exact piece_add arg2 harg2 arg3 harg3 arg10 harg10 x0 x1 xo8 1024 _ z
  · exact piece_add arg2 harg2 arg3 harg3 arg10 harg10 x0 x1 xo8 0 _ z

/-- Trip `k` of the loop is at row `64 k`. -/
theorem trip_row : ∀ k : Fin k0_t1_loop.trips, k0_off1 k = ![64 * k.val, 0] := by decide +kernel

theorem trips_eq : k0_t1_loop.trips = 8 := by decide +kernel

section Strip

variable (hc : k0_cond3 i = 1#1) (f : arg10.view.ty.Contents (Elt Ideal)) (k : Fin k0_t1_loop.trips)

/-- What trip `k` writes into the first array, over the contents `f` it finds, -/
def written : Vec Ideal S64x4096 .f32 :=
  k0_pay11 (F := Ideal) (View.readAt (Elt Ideal) arg10.view (Rect.unit (s := S512x4096) (k0_off1 k) S64x4096.size (k0_off1_inb i k hc)).toLoadRect f)
          (View.readAt (Elt Ideal) arg4.view (Rect.unit (s := S512x4096) (k0_off1 k) S64x4096.size (k0_off1_inb i k hc)).toLoadRect (harg4.unread x2))
          (View.readAt (Elt Ideal) arg5.view (Rect.unit (s := S1x1x4096) ![0, 0, 0] S1x1x4096.size inb_S1x1x4096_S1x1x4096_0_0_0).toLoadRect (harg5.unread x3))
          (View.readAt (Elt Ideal) arg6.view (Rect.unit (s := S1x4096) ![0, 0] S1x4096.size inb_S1x4096_S1x4096_0_0).toLoadRect (harg6.unread x4))

/-- and into the second. -/
def written2 : Vec Ideal S64x4096 .bf16 :=
  k0_pay6 (F := Ideal) (k0_pay12 (View.readAt (Elt Ideal) arg10.view (Rect.unit (s := S512x4096) (k0_off1 k) S64x4096.size (k0_off1_inb i k hc)).toLoadRect f)
          (View.readAt (Elt Ideal) arg4.view (Rect.unit (s := S512x4096) (k0_off1 k) S64x4096.size (k0_off1_inb i k hc)).toLoadRect (harg4.unread x2))
          (View.readAt (Elt Ideal) arg5.view (Rect.unit (s := S1x1x4096) ![0, 0, 0] S1x1x4096.size inb_S1x1x4096_S1x1x4096_0_0_0).toLoadRect (harg5.unread x3))
          (View.readAt (Elt Ideal) arg6.view (Rect.unit (s := S1x4096) ![0, 0] S1x4096.size inb_S1x4096_S1x4096_0_0).toLoadRect (harg6.unread x4)))
          (k0_pay13 (View.readAt (Elt Ideal) arg7.view (Rect.unit (s := S1x4096) ![0, 0] S1x4096.size inb_S1x4096_S1x4096_0_0).toLoadRect (harg7.unread x5))) (View.readAt (Elt Ideal) arg9.view (Rect.unit (s := S1x1x4096) ![0, 0, 0] S1x1x4096.size inb_S1x1x4096_S1x1x4096_0_0_0).toLoadRect (harg9.unread x7))
          (View.readAt (Elt Ideal) arg8.view (Rect.unit (s := S1x1x4096) ![0, 0, 0] S1x1x4096.size inb_S1x1x4096_S1x1x4096_0_0_0).toLoadRect (harg8.unread x6))

theorem trip_pieces :
    (strip_run (F := Ideal) Variants.none c none i arg2 harg2 arg3 harg3 arg4 harg4 arg5 harg5 arg6 harg6 arg7 harg7 arg8 harg8 arg9 harg9 arg10 harg10 arg11 harg11 hc (harg4.unread x2) (harg5.unread x3) (harg6.unread x4) (harg7.unread x5) (harg8.unread x6) (harg9.unread x7) k).1 f
      = [⟨(Rect.unit (s := S512x4096) (k0_off1 k) S64x4096.size (k0_off1_inb i k hc)), written arg4 harg4 arg5 harg5 arg6 harg6 arg10 x2 x3 x4 i hc f k⟩] := by
  unfold strip_run written
  dsimp only

theorem trip_pieces2 :
    (strip_run (F := Ideal) Variants.none c none i arg2 harg2 arg3 harg3 arg4 harg4 arg5 harg5 arg6 harg6 arg7 harg7 arg8 harg8 arg9 harg9 arg10 harg10 arg11 harg11 hc (harg4.unread x2) (harg5.unread x3) (harg6.unread x4) (harg7.unread x5) (harg8.unread x6) (harg9.unread x7) k).2.1 f
      = [⟨(Rect.unit (s := S512x4096) (k0_off1 k) S64x4096.size (k0_off1_inb i k hc)), written2 arg4 harg4 arg5 harg5 arg6 harg6 arg7 harg7 arg8 harg8 arg9 harg9 arg10 x2 x3 x4 x5 x6 x7 i hc f k⟩] := by
  unfold strip_run written2
  dsimp only
  rfl

variable (hk : k.val < 8) (hf : ∀ y : S512x4096.Idx, 64 * k.val ≤ (y 0).val → arg10.view.read (Elt Ideal) f y = standing x0 x1 xo8 y)

include hk hf

/-- At a row and a column, the rows it finds standing. -/
theorem trip_apply (r : Fin 64) (d : Fin 4096) :
    written arg4 harg4 arg5 harg5 arg6 harg6 arg10 x2 x3 x4 i hc f k (ix2 r d)
      = normal x0 x1 x2 x3 x4 xo8 (ix2 ⟨64 * k.val + r.val, by omega⟩ d) := by
  have hoff : k0_off1 k = ![64 * k.val, 0] := trip_row k
  have o0 : k0_off1 k 0 = 64 * k.val := by rw [hoff]; rfl
  have o1 : k0_off1 k 1 = 0 := by rw [hoff]; rfl
  refine (post_apply _ _ _ _ r d).trans ?_
  unfold normal
  refine post_congr d.isLt (fun l hl => ?_) ?_ ?_ ?_
  · rw [← at2_of (n := 64) (p := 4096) _ (ix2 r ⟨l, hl⟩) _ _ rfl rfl]
    refine Eq.trans ?_ (at2_of (n := 512) (p := 4096) (standing x0 x1 xo8) (ix2 ⟨64 * k.val + r.val, by omega⟩ ⟨l, hl⟩) _ _ rfl rfl)
    refine Eq.trans ?_ (hf (ix2 ⟨64 * k.val + r.val, by omega⟩ ⟨l, hl⟩) (by show 64 * k.val ≤ 64 * k.val + r.val; omega))
    refine congrArg (arg10.view.read (Elt Ideal) f) (Shape.idx_ext₂ ?_ ?_)
    · show k0_off1 k 0 + 1 * r.val = 64 * k.val + r.val
      rw [o0]; omega
    · show k0_off1 k 1 + 1 * l = l
      rw [o1]; omega
  · refine (harg4.readAt_unread x2 _ _).trans (congrArg x2 (Shape.idx_ext₂ ?_ ?_))
    · show k0_off1 k 0 + 1 * r.val = 64 * k.val + r.val
      rw [o0]; omega
    · show k0_off1 k 1 + 1 * d.val = d.val
      rw [o1]; omega
  · refine (harg5.readAt_unread x3 _ _).trans (congrArg x3 (funext fun a => Fin.ext ?_))
    match a with
    | ⟨0, _⟩ => rfl
    | ⟨1, _⟩ => rfl
    | ⟨2, _⟩ => show 0 + 1 * d.val = d.val; omega
  · refine (harg6.readAt_unread x4 _ _).trans (congrArg x4 (Shape.idx_ext₂ rfl ?_))
    show 0 + 1 * d.val = d.val; omega

theorem trip_apply2 (r : Fin 64) (d : Fin 4096) :
    written2 arg4 harg4 arg5 harg5 arg6 harg6 arg7 harg7 arg8 harg8 arg9 harg9 arg10 x2 x3 x4 x5 x6 x7 i hc f k (ix2 r d)
      = normal2 x0 x1 x2 x3 x4 x5 x6 x7 xo8 (ix2 ⟨64 * k.val + r.val, by omega⟩ d) := by
  refine (following_apply _ _ _ _ _ _ _ r d).trans ?_
  unfold normal2
  refine following_congr d.isLt (fun l hl => ?_) ?_ ?_ ?_
  · rw [← at2_of (n := 64) (p := 4096) _ (ix2 r ⟨l, hl⟩) _ _ rfl rfl]
    refine Eq.trans ?_ (at2_of (n := 512) (p := 4096) (normal x0 x1 x2 x3 x4 xo8) (ix2 ⟨64 * k.val + r.val, by omega⟩ ⟨l, hl⟩) _ _ rfl rfl)
    exact trip_apply arg4 harg4 arg5 harg5 arg6 harg6 arg10 x0 x1 x2 x3 x4 xo8 i hc f k hk hf r ⟨l, hl⟩
  · refine (harg7.readAt_unread x5 _ _).trans (congrArg x5 (Shape.idx_ext₂ rfl ?_))
    show 0 + 1 * d.val = d.val; omega
  · refine (harg9.readAt_unread x7 _ _).trans (congrArg x7 (funext fun a => Fin.ext ?_))
    match a with
    | ⟨0, _⟩ => rfl
    | ⟨1, _⟩ => rfl
    | ⟨2, _⟩ => show 0 + 1 * d.val = d.val; omega
  · refine (harg8.readAt_unread x6 _ _).trans (congrArg x6 (funext fun a => Fin.ext ?_))
    match a with
    | ⟨0, _⟩ => rfl
    | ⟨1, _⟩ => rfl
    | ⟨2, _⟩ => show 0 + 1 * d.val = d.val; omega

end Strip

/-- Writing 64 rows over others: they are written, the others stay. -/
theorem rows_cons {κ : Kind} {sp : Space} {φ : EltTy} (v : View sig κ sp S512x4096 φ) (f : v.ty.Contents (Elt Ideal))
    (k : ℕ) (hk : k < k0_t1_loop.trips) (inb : ∀ a, k0_off1 ⟨k, hk⟩ a + S64x4096.size a ≤ S512x4096.size a) (w : Vec Ideal S64x4096 φ)
    (L : List (View.Piece (Elt Ideal) S512x4096 φ)) (done rest : S512x4096.Idx → Elt Ideal φ)
    (hw : ∀ (r : Fin 64) (d : Fin 4096), w (ix2 r d) = done (ix2 ⟨64 * k + r.val, by have := trips_eq; omega⟩ d)) (y : S512x4096.Idx)
    (ht : (y 0).val < 64 * k → (v.read (Elt Ideal) (v.writes (Elt Ideal) f L) y) = done y)
    (hr : ¬ (y 0).val < 64 * k → (v.read (Elt Ideal) (v.writes (Elt Ideal) f L) y) = rest y) :
    (v.read (Elt Ideal) (v.writes (Elt Ideal) f (⟨Rect.unit (s := S512x4096) (k0_off1 ⟨k, hk⟩) S64x4096.size inb, w⟩ :: L)) y)
      = if (y 0).val < 64 * (k + 1) then done y else rest y := by
  have hoff : k0_off1 ⟨k, hk⟩ = ![64 * k, 0] := trip_row ⟨k, hk⟩
  have h0 : (y 0).val < 512 := (y 0).isLt
  have h1 : (y 1).val < 4096 := (y 1).isLt
  by_cases hy : 64 * k ≤ (y 0).val ∧ (y 0).val < 64 * k + 64
  · rw [if_pos (by omega)]
    refine (View.read_writes_cons_rows_of_mem (d := ![512, 4096]) (size := S64x4096.size) (o := 64 * k) v f _ w L y
      (ix2 ⟨(y 0).val - 64 * k, by omega⟩ ⟨(y 1).val, h1⟩) hoff
      (by show (y 0).val = 64 * k + ((y 0).val - 64 * k); omega) rfl).trans ?_
    refine (hw ⟨(y 0).val - 64 * k, by omega⟩ ⟨(y 1).val, h1⟩).trans (congrArg _ (Shape.idx_ext₂ ?_ rfl))
    show 64 * k + ((y 0).val - 64 * k) = (y 0).val
    omega
  · refine (View.read_writes_cons_rows_of_not_mem (d := ![512, 4096]) (size := S64x4096.size) (o := 64 * k) (W := 64) v f _ w L y
      hoff rfl (by omega)).trans ?_
    by_cases h : (y 0).val < 64 * k
    · rw [if_pos (by omega)]; exact ht h
    · rw [if_neg (by omega)]; exact hr h

/-- The rows of the trips before `k` are normalised, the others stand. -/
theorem rows_apply (hc : k0_cond3 i = 1#1) (G : arg10.view.ty.Contents (Elt Ideal))
    (hG : ∀ y, arg10.view.read (Elt Ideal) G y = standing x0 x1 xo8 y) (k : ℕ) (hk : k ≤ 8) :
    ∀ {κ : Kind} {sp : Space} (v : View sig κ sp S512x4096 .f32) (f : v.ty.Contents (Elt Ideal)),
      (∀ y, v.read (Elt Ideal) f y = standing x0 x1 xo8 y) → ∀ y : S512x4096.Idx,
      v.read (Elt Ideal) (v.writes (Elt Ideal) f (strips (F := Ideal) Variants.none c none i arg2 harg2 arg3 harg3 arg4 harg4 arg5 harg5 arg6 harg6 arg7 harg7 arg8 harg8 arg9 harg9 arg10 harg10 arg11 harg11 hc (harg4.unread x2) (harg5.unread x3) (harg6.unread x4) (harg7.unread x5) (harg8.unread x6) (harg9.unread x7) G k).1) y
        = if (y 0).val < 64 * k then normal x0 x1 x2 x3 x4 xo8 y else standing x0 x1 xo8 y := by
  induction k with
  | zero =>
    intro κ sp v f hf y
    rw [if_neg (by omega)]
    exact hf y
  | succ k ih =>
    intro κ sp v f hf y
    have hk' : k < k0_t1_loop.trips := by rw [trips_eq]; omega
    have hs := strips_succ (F := Ideal) Variants.none c none i arg2 harg2 arg3 harg3 arg4 harg4 arg5 harg5 arg6 harg6 arg7 harg7 arg8 harg8 arg9 harg9 arg10 harg10 arg11 harg11 hc (harg4.unread x2) (harg5.unread x3) (harg6.unread x4) (harg7.unread x5) (harg8.unread x6) (harg9.unread x7) G ⟨k, hk'⟩
    dsimp only at hs
    rw [hs]
    dsimp only
    rw [trip_pieces, List.singleton_append]
    exact rows_cons v f k hk' _ _ _ _ _
      (trip_apply arg4 harg4 arg5 harg5 arg6 harg6 arg10 x0 x1 x2 x3 x4 xo8 i hc _ ⟨k, hk'⟩ (by show k < 8; omega)
        (fun y hy => (ih (by omega) arg10.view G hG y).trans (if_neg (by show ¬ _ < _; exact Nat.not_lt.mpr hy))))
      y (fun h => (ih (by omega) v f hf y).trans (if_pos h)) (fun h => (ih (by omega) v f hf y).trans (if_neg h))

/-- The same rows of the second array, whatever it held. -/
theorem rows_apply2 (hc : k0_cond3 i = 1#1) (G : arg10.view.ty.Contents (Elt Ideal))
    (hG : ∀ y, arg10.view.read (Elt Ideal) G y = standing x0 x1 xo8 y) (k : ℕ) (hk : k ≤ 8)
    {κ : Kind} {sp : Space} (v : View sig κ sp S512x4096 .bf16) (f : v.ty.Contents (Elt Ideal)) (y : S512x4096.Idx)
    (hy : (y 0).val < 64 * k) :
    (v.read (Elt Ideal) (v.writes (Elt Ideal) f (strips (F := Ideal) Variants.none c none i arg2 harg2 arg3 harg3 arg4 harg4 arg5 harg5 arg6 harg6 arg7 harg7 arg8 harg8 arg9 harg9 arg10 harg10 arg11 harg11 hc (harg4.unread x2) (harg5.unread x3) (harg6.unread x4) (harg7.unread x5) (harg8.unread x6) (harg9.unread x7) G k).2) y : EReal) = normal2 x0 x1 x2 x3 x4 x5 x6 x7 xo8 y := by
  induction k with
  | zero => exact absurd hy (by omega)
  | succ k ih =>
    have hk' : k < k0_t1_loop.trips := by rw [trips_eq]; omega
    have hs := strips_succ (F := Ideal) Variants.none c none i arg2 harg2 arg3 harg3 arg4 harg4 arg5 harg5 arg6 harg6 arg7 harg7 arg8 harg8 arg9 harg9 arg10 harg10 arg11 harg11 hc (harg4.unread x2) (harg5.unread x3) (harg6.unread x4) (harg7.unread x5) (harg8.unread x6) (harg9.unread x7) G ⟨k, hk'⟩
    dsimp only at hs
    rw [hs]
    dsimp only
    rw [trip_pieces2, List.singleton_append]
    refine (rows_cons v f k hk' _ _ _ _ _
      (trip_apply2 arg4 harg4 arg5 harg5 arg6 harg6 arg7 harg7 arg8 harg8 arg9 harg9 arg10 x0 x1 x2 x3 x4 x5 x6 x7 xo8 i hc _ ⟨k, hk'⟩ (by show k < 8; omega)
        (fun y hy => (rows_apply arg2 harg2 arg3 harg3 arg4 harg4 arg5 harg5 arg6 harg6 arg7 harg7 arg8 harg8 arg9 harg9 arg10 harg10 arg11 harg11 x0 x1 x2 x3 x4 x5 x6 x7 xo8 c i hc G hG k (by omega) arg10.view G hG y).trans
          (if_neg (by show ¬ _ < _; exact Nat.not_lt.mpr hy))))
      y (fun h => ih (by omega) h) (fun _ => rfl)).trans (if_pos hy)

/-- What a row tile's last point leaves in the first array, -/
theorem last_apply {κ : Kind} {sp : Space} (v : View sig κ sp S512x4096 .f32) (f : v.ty.Contents (Elt Ideal))
    (hc0 : ¬cond0_0 i) (hc1 : cond0_1 i) (hc2 : cond0_2 i) (y : S512x4096.Idx) :
    v.read (Elt Ideal) (v.writes (Elt Ideal) f (last_run (F := Ideal) c i arg2 harg2 arg3 harg3 arg4 harg4 arg5 harg5 arg6 harg6 arg7 harg7 arg8 harg8 arg9 harg9 arg10 harg10 arg11 harg11 hc0 hc1 hc2 x0 x1 x2 x3 x4 x5 x6 x7 xo8).1) y
      = normal x0 x1 x2 x3 x4 xo8 y := by
  unfold last_run
  dsimp only
  rw [View.writes_append]
  have h0 : (y 0).val < 512 := (y 0).isLt
  refine (rows_apply arg2 harg2 arg3 harg3 arg4 harg4 arg5 harg5 arg6 harg6 arg7 harg7 arg8 harg8 arg9 harg9 arg10 harg10 arg11 harg11 x0 x1 x2 x3 x4 x5 x6 x7 xo8 c i _ _ ?_ 8 le_rfl v _ ?_ y).trans (if_pos (by omega))
  · exact sums_apply arg2 harg2 arg3 harg3 arg10 harg10 x0 x1 xo8 c arg10.view _
  · exact sums_apply arg2 harg2 arg3 harg3 arg10 harg10 x0 x1 xo8 c v _

/-- and in the second. -/
theorem last_apply2 {κ : Kind} {sp : Space} (v : View sig κ sp S512x4096 .bf16) (f : v.ty.Contents (Elt Ideal))
    (hc0 : ¬cond0_0 i) (hc1 : cond0_1 i) (hc2 : cond0_2 i) (y : S512x4096.Idx) :
    (v.read (Elt Ideal) (v.writes (Elt Ideal) f (last_run (F := Ideal) c i arg2 harg2 arg3 harg3 arg4 harg4 arg5 harg5 arg6 harg6 arg7 harg7 arg8 harg8 arg9 harg9 arg10 harg10 arg11 harg11 hc0 hc1 hc2 x0 x1 x2 x3 x4 x5 x6 x7 xo8).2.1) y : EReal)
      = normal2 x0 x1 x2 x3 x4 x5 x6 x7 xo8 y := by
  unfold last_run
  dsimp only
  have h0 : (y 0).val < 512 := (y 0).isLt
  refine rows_apply2 arg2 harg2 arg3 harg3 arg4 harg4 arg5 harg5 arg6 harg6 arg7 harg7 arg8 harg8 arg9 harg9 arg10 harg10 arg11 harg11 x0 x1 x2 x3 x4 x5 x6 x7 xo8 c i _ _ ?_ 8 le_rfl v _ y (by omega)
  exact sums_apply arg2 harg2 arg3 harg3 arg10 harg10 x0 x1 xo8 c arg10.view _

end Point

end Cert.MergeIdeal.Block

end
-- ==== Proof.MergeArray.lean ====
/-
  The mixing layer's output projection as a whole: the blocks its points read, the sums a row tile's points run up, and
  the two arrays they leave.
-/
module

public import proofs.«01_k».proof.Proof.MergeBlock

@[expose] public section

set_option maxRecDepth 16384

noncomputable section

namespace Cert.MergeIdeal.Block

open Cert.MergeIdeal Cert.MergeIdeal.Gen Cert.MergeIdeal.Own Cert.Attention Cert.DownIdeal.Block Idealize.ShloMosaic Idealize.ShloMosaic.ValueIdx
  Idealize.ShloMosaic.TcCoe Idealize.SL.Sem

/-- Which block each window reads or writes at point `t`: row tile `t / 8`, step `t % 8` of the shared coordinate. -/
theorem idx_facts : ∀ t : Fin cfg0.N,
    (win0_0.index t (0 : Fin 2) = t.val / 8 ∧ win0_0.index t (1 : Fin 2) = t.val % 8)
    ∧ (win0_1.index t (0 : Fin 2) = t.val % 8 ∧ win0_1.index t (1 : Fin 2) = 0)
    ∧ (win0_2.index t (0 : Fin 2) = t.val / 8 ∧ win0_2.index t (1 : Fin 2) = 0)
    ∧ (win0_3.index t (0 : Fin 3) = t.val / 8 / 4 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val / 8 / 4 ∧ win0_6.index t (1 : Fin 3) = 0 ∧ win0_6.index t (2 : Fin 3) = 0)
    ∧ (win0_7.index t (0 : Fin 3) = t.val / 8 / 4 ∧ win0_7.index t (1 : Fin 3) = 0 ∧ win0_7.index t (2 : Fin 3) = 0)
    ∧ (win0_8.index t (0 : Fin 2) = t.val / 8 ∧ win0_8.index t (1 : Fin 2) = 0)
    ∧ (win0_9.index t (0 : Fin 2) = t.val / 8 ∧ win0_9.index t (1 : Fin 2) = 0) :=
  (by decide +kernel : ∀ t : Fin grid0.N, _)

variable (m : (ℓ : Loc nD τ sig) → Buf (Elt Ideal) ℓ)

/-- A vector of 4096 entries in eight groups, each of 256 from the first half and 256 from the second. -/
def grouped (v : ℕ → EReal) (k : ℕ) : EReal :=
  if k % 512 < 256 then v (256 * (k / 512) + k % 512) else v (2048 + 256 * (k / 512) + (k % 512 - 256))

/-- The weights, from the argument: its rows group by group. -/
def weight (c : Dev nD) (k d : ℕ) : EReal :=
  grouped (fun l => at2 (n := 4096) (p := 4096) (m ((c : Thread nD τ).loc main_arg1)) l d) k

/-- The rows as the host lays them out. -/
def stacked (a : FVec Ideal S4096x4096 .f32) : FVec Ideal S4096x4096 .bf16 :=
  truncf .bf16 (shapeCast S4096x4096 (concatenate S8x512x4096 1
    [⟨S8x256x4096, (shapeCast S8x256x4096 (extractStridedSlice S2048x4096 ![0, 0] a slices_S4096x4096_S2048x4096_0_0 : FVec Ideal S2048x4096 .f32) shapeCasts_S2048x4096_S8x256x4096 : FVec Ideal S8x256x4096 .f32)⟩,
     ⟨S8x256x4096, (shapeCast S8x256x4096 (extractStridedSlice S2048x4096 ![2048, 0] a slices_S4096x4096_S2048x4096_2048_0 : FVec Ideal S2048x4096 .f32) shapeCasts_S2048x4096_S8x256x4096 : FVec Ideal S8x256x4096 .f32)⟩]
    concatenates_S8x256x4096_S8x256x4096_S8x512x4096_d1 : FVec Ideal S8x512x4096 .f32) shapeCasts_S8x512x4096_S4096x4096 : FVec Ideal S4096x4096 .f32) bitsLt_bf16_f32

/-- One half's rows in their groups. -/
theorem half_apply (a : FVec Ideal S4096x4096 .f32) (o : ℕ) (ho : o + 2048 ≤ 4096)
    (sl : S4096x4096.Slices ![o, 0] S2048x4096) (g : Fin 8) (b : Fin 256) (d : Fin 4096) :
    shapeCast S8x256x4096 (extractStridedSlice S2048x4096 ![o, 0] a sl : FVec Ideal S2048x4096 .f32) shapeCasts_S2048x4096_S8x256x4096 (ix3 g b d)
      = at2 (n := 4096) (p := 4096) a (o + 256 * g.val + b.val) d := by
  have hg := g.isLt
  have hb := b.isLt
  rw [shapeCast_apply _ shapeCasts_S2048x4096_S8x256x4096 (ix3 g b d) (ix2 ⟨256 * g.val + b.val, by omega⟩ d) (by
    rw [Shape.rowMajor_val_two, Shape.rowMajor_val_three]
    show (256 * g.val + b.val) * 4096 + d.val = (g.val * 256 + b.val) * 4096 + d.val
    omega)]
  refine at2_of (n := 4096) (p := 4096) a _ _ _ ?_ ?_
  · show o + (256 * g.val + b.val) = o + 256 * g.val + b.val; omega
  · show 0 + d.val = d.val; omega

theorem stacked_apply (a : FVec Ideal S4096x4096 .f32) (k d : Fin 4096) :
    stacked a (ix2 k d) = grouped (fun l => at2 (n := 4096) (p := 4096) a l d) k := by
  have hk := k.isLt
  unfold stacked grouped
  rw [truncf_apply]
  refine (shapeCast_apply _ shapeCasts_S8x512x4096_S4096x4096 (ix2 k d) (ix3 (⟨k.val / 512, by omega⟩ : Fin 8) (⟨k.val % 512, by omega⟩ : Fin 512) d) (by
    rw [Shape.rowMajor_val_two, Shape.rowMajor_val_three]
    show (k.val / 512 * 512 + k.val % 512) * 4096 + d.val = k.val * 4096 + d.val
    omega)).trans ?_
  by_cases h : k.val % 512 < 256
  · rw [if_pos h]
    refine (concatenate_apply_piece 1 _ _ (ix3 (⟨k.val / 512, by omega⟩ : Fin 8) (⟨k.val % 512, by omega⟩ : Fin 512) d) 0 (by show 0 < 2; omega) S8x256x4096 _ rfl rfl 0 rfl
      (ix3 (⟨k.val / 512, by omega⟩ : Fin 8) (⟨k.val % 512, h⟩ : Fin 256) d)
      (fun x hx => match x with | ⟨0, _⟩ => rfl | ⟨1, _⟩ => absurd rfl hx | ⟨2, _⟩ => rfl) (by show 0 + k.val % 512 = k.val % 512; omega)).trans ?_
    refine (half_apply a 0 (by omega) _ _ _ d).trans ?_
    show at2 a (0 + 256 * (k.val / 512) + k.val % 512) d = at2 a (256 * (k.val / 512) + k.val % 512) d
    rw [zero_add]
  · rw [if_neg h]
    refine (concatenate_apply_piece 1 _ _ (ix3 (⟨k.val / 512, by omega⟩ : Fin 8) (⟨k.val % 512, by omega⟩ : Fin 512) d) 1 (by show 1 < 2; omega) S8x256x4096 _ rfl rfl 256 rfl
      (ix3 (⟨k.val / 512, by omega⟩ : Fin 8) (⟨k.val % 512 - 256, by omega⟩ : Fin 256) d)
      (fun x hx => match x with | ⟨0, _⟩ => rfl | ⟨1, _⟩ => absurd rfl hx | ⟨2, _⟩ => rfl)
      (by show 256 + (k.val % 512 - 256) = k.val % 512; omega)).trans ?_
    exact half_apply a 2048 (by omega) _ _ _ d

/-- What the kernel's second operand holds when it starts. -/
theorem V_weight (c : Dev nD) (k d : ℕ) (hk : k < 4096) (hd : d < 4096) :
    at2 (n := 4096) (p := 4096) (V m c main_v6) k d = weight m c k d := by
  have hV : @Eq (FVec Ideal S4096x4096 .bf16) (V m c main_v6) (stacked (m ((c : Thread nD τ).loc main_arg1))) := by
    show StableHlo.after hostOps0 _ _ = _
    after_results
    rfl
  rw [hV, ← at2_of (n := 4096) (p := 4096) _ (ix2 ⟨k, hk⟩ ⟨d, hd⟩) k d rfl rfl]
  exact stacked_apply _ ⟨k, hk⟩ ⟨d, hd⟩

/-- The normalisation's gain as the kernel reads it: the argument as one row. -/
theorem V_gain (c : Dev nD) (d : ℕ) (hd : d < 4096) :
    at2 (n := 1) (p := 4096) (V m c main_v7) 0 d = at1 (n := 4096) (m ((c : Thread nD τ).loc main_arg4)) d := by
  have hV : @Eq (FVec Ideal S1x4096 .f32) (V m c main_v7)
      (shapeCast S1x4096 (m ((c : Thread nD τ).loc main_arg4)) shapeCasts_S4096_S1x4096) := by
    show StableHlo.after hostOps0 _ _ = _
    after_results
    rfl
  rw [hV, ← at2_of (n := 1) (p := 4096) _ (ix2 0 ⟨d, hd⟩) 0 d rfl rfl,
    shapeCast_apply _ shapeCasts_S4096_S1x4096 (ix2 0 ⟨d, hd⟩) (ix1 ⟨d, hd⟩) (by
      rw [Shape.rowMajor_val_one, Shape.rowMajor_val_two]; show d = 0 * 4096 + d; omega)]
  exact at1_of (n := 4096) _ _ _ rfl

/-- And the second normalisation's. -/
theorem V_gain2 (c : Dev nD) (d : ℕ) (hd : d < 4096) :
    at2 (n := 1) (p := 4096) (V m c main_v8) 0 d = at1 (n := 4096) (m ((c : Thread nD τ).loc main_arg5)) d := by
  have hV : @Eq (FVec Ideal S1x4096 .f32) (V m c main_v8)
      (shapeCast S1x4096 (m ((c : Thread nD τ).loc main_arg5)) shapeCasts_S4096_S1x4096) := by
    show StableHlo.after hostOps0 _ _ = _
    after_results
    rfl
  rw [hV, ← at2_of (n := 1) (p := 4096) _ (ix2 0 ⟨d, hd⟩) 0 d rfl rfl,
    shapeCast_apply _ shapeCasts_S4096_S1x4096 (ix2 0 ⟨d, hd⟩) (ix1 ⟨d, hd⟩) (by
      rw [Shape.rowMajor_val_one, Shape.rowMajor_val_two]; show d = 0 * 4096 + d; omega)]
  exact at1_of (n := 4096) _ _ _ rfl

/-- The rows point `t` reads. -/
theorem blk0_at (c : Dev nD) (t : Fin cfg0.N) (r e : ℕ) (hr : r < 512) (he : e < 512) :
    at2 (n := 512) (p := 512) (iblk m c 0 t) r e
      = at2 (n := 16384) (p := 4096) (m ((c : Thread nD τ).loc main_arg0)) (t.val / 8 * 512 + r) (512 * (t.val % 8) + e) := by
  obtain ⟨⟨f0, f1⟩, -⟩ := idx_facts t
  rw [← at2_of (n := 512) (p := 512) (iblk m c 0 t) (ix2 ⟨r, hr⟩ ⟨e, he⟩) r e rfl rfl]
  refine at2_of (n := 16384) (p := 4096) (m ((c : Thread nD τ).loc main_arg0)) ((win0_0.rect t).emb (ix2 ⟨r, hr⟩ ⟨e, he⟩)) _ _ ?_ ?_
  · rw [← f0]; exact win0_0.rect_emb_val t _ (0 : Fin 2)
  · refine (win0_0.rect_emb_val t _ (1 : Fin 2)).trans ?_
    rw [f1]; show t.val % 8 * 512 + e = 512 * (t.val % 8) + e; omega

/-- The weights point `t` reads: its step's rows. -/
theorem blk1_at (c : Dev nD) (t : Fin cfg0.N) (k d : ℕ) (hk : k < 512) (hd : d < 4096) :
    at2 (n := 512) (p := 4096) (iblk m c 1 t) k d = weight m c (512 * (t.val % 8) + k) d := by
  obtain ⟨-, ⟨f0, f1⟩, -⟩ := idx_facts t
  rw [← at2_of (n := 512) (p := 4096) (iblk m c 1 t) (ix2 ⟨k, hk⟩ ⟨d, hd⟩) k d rfl rfl]
  refine (at2_of (n := 4096) (p := 4096) (V m c main_v6) ((win0_1.rect t).emb (ix2 ⟨k, hk⟩ ⟨d, hd⟩)) (512 * (t.val % 8) + k) d ?_ ?_).trans
    (V_weight m c _ d (by omega) hd)
  · refine (win0_1.rect_emb_val t _ (0 : Fin 2)).trans ?_
    rw [f0]; show t.val % 8 * 512 + k = 512 * (t.val % 8) + k; omega
  · refine (win0_1.rect_emb_val t _ (1 : Fin 2)).trans ?_
    rw [f1]; show 0 * 4096 + d = d; omega

/-- The residual stream, the gate and the gain point `t` reads. -/
theorem blk2_at (c : Dev nD) (t : Fin cfg0.N) (y : S512x4096.Idx) :
    (iblk m c 2 t : S512x4096.Idx → EReal) y
      = at2 (n := 16384) (p := 4096) (m ((c : Thread nD τ).loc main_arg2)) (t.val / 8 * 512 + (y 0).val) (y 1).val := by
  obtain ⟨-, -, ⟨f0, f1⟩, -⟩ := idx_facts t
  refine at2_of (n := 16384) (p := 4096) (m ((c : Thread nD τ).loc main_arg2)) ((win0_2.rect t).emb y) _ _ ?_ ?_
  · rw [← f0]; exact win0_2.rect_emb_val t _ (0 : Fin 2)
  · refine (win0_2.rect_emb_val t _ (1 : Fin 2)).trans ?_
    rw [f1]; show 0 * 4096 + (y 1).val = (y 1).val; omega

theorem blk3_at (c : Dev nD) (t : Fin cfg0.N) (d : Fin 4096) :
    (iblk m c 3 t : S1x1x4096.Idx → EReal) (ix3 0 0 d)
      = at3 (n := 8) (p := 1) (q := 4096) (m ((c : Thread nD τ).loc main_arg3)) (t.val / 8 / 4) 0 d := by
  obtain ⟨-, -, -, ⟨f0, f1, f2⟩, -⟩ := idx_facts t
  refine at3_of (n := 8) (p := 1) (q := 4096) (m ((c : Thread nD τ).loc main_arg3)) ((win0_3.rect t).emb (ix3 0 0 d)) _ _ _ ?_ ?_ ?_
  · refine (win0_3.rect_emb_val t _ (0 : Fin 3)).trans ?_
    rw [f0]; show t.val / 8 / 4 * 1 + 0 = t.val / 8 / 4; omega
  · refine (win0_3.rect_emb_val t _ (1 : Fin 3)).trans ?_
    rw [f1]; rfl
  · refine (win0_3.rect_emb_val t _ (2 : Fin 3)).trans ?_
    rw [f2]; show 0 * 4096 + d.val = d.val; omega

theorem blk4_at (c : Dev nD) (t : Fin cfg0.N) (d : Fin 4096) :
    (iblk m c 4 t : S1x4096.Idx → EReal) (ix2 0 d) = at1 (n := 4096) (m ((c : Thread nD τ).loc main_arg4)) d := by
  obtain ⟨-, -, -, -, ⟨f0, f1⟩, -⟩ := idx_facts t
  refine (at2_of (n := 1) (p := 4096) (V m c main_v7) ((win0_4.rect t).emb (ix2 0 d)) 0 d ?_ ?_).trans (V_gain m c d d.isLt)
  · refine (win0_4.rect_emb_val t _ (0 : Fin 2)).trans ?_
    rw [f0]; rfl
  · refine (win0_4.rect_emb_val t _ (1 : Fin 2)).trans ?_
    rw [f1]; show 0 * 4096 + d.val = d.val; omega

/-- The next layer's gain, shift and scale. -/
theorem blk5_at (c : Dev nD) (t : Fin cfg0.N) (d : Fin 4096) :
    (iblk m c 5 t : S1x4096.Idx → EReal) (ix2 0 d) = at1 (n := 4096) (m ((c : Thread nD τ).loc main_arg5)) d := by
  obtain ⟨-, -, -, -, -, ⟨f0, f1⟩, -⟩ := idx_facts t
  refine (at2_of (n := 1) (p := 4096) (V m c main_v8) ((win0_5.rect t).emb (ix2 0 d)) 0 d ?_ ?_).trans (V_gain2 m c d d.isLt)
  · refine (win0_5.rect_emb_val t _ (0 : Fin 2)).trans ?_
    rw [f0]; rfl
  · refine (win0_5.rect_emb_val t _ (1 : Fin 2)).trans ?_
    rw [f1]; show 0 * 4096 + d.val = d.val; omega

theorem blk6_at (c : Dev nD) (t : Fin cfg0.N) (d : Fin 4096) :
    (iblk m c 6 t : S1x1x4096.Idx → EReal) (ix3 0 0 d)
      = at3 (n := 8) (p := 1) (q := 4096) (m ((c : Thread nD τ).loc main_arg6)) (t.val / 8 / 4) 0 d := by
  obtain ⟨-, -, -, -, -, -, ⟨f0, f1, f2⟩, -⟩ := idx_facts t
  refine at3_of (n := 8) (p := 1) (q := 4096) (m ((c : Thread nD τ).loc main_arg6)) ((win0_6.rect t).emb (ix3 0 0 d)) _ _ _ ?_ ?_ ?_
  · refine (win0_6.rect_emb_val t _ (0 : Fin 3)).trans ?_
    rw [f0]; show t.val / 8 / 4 * 1 + 0 = t.val / 8 / 4; omega
  · refine (win0_6.rect_emb_val t _ (1 : Fin 3)).trans ?_
    rw [f1]; rfl
  · refine (win0_6.rect_emb_val t _ (2 : Fin 3)).trans ?_
    rw [f2]; show 0 * 4096 + d.val = d.val; omega

theorem blk7_at (c : Dev nD) (t : Fin cfg0.N) (d : Fin 4096) :
    (iblk m c 7 t : S1x1x4096.Idx → EReal) (ix3 0 0 d)
      = at3 (n := 8) (p := 1) (q := 4096) (m ((c : Thread nD τ).loc main_arg7)) (t.val / 8 / 4) 0 d := by
  obtain ⟨-, -, -, -, -, -, -, ⟨f0, f1, f2⟩, -⟩ := idx_facts t
  refine at3_of (n := 8) (p := 1) (q := 4096) (m ((c : Thread nD τ).loc main_arg7)) ((win0_7.rect t).emb (ix3 0 0 d)) _ _ _ ?_ ?_ ?_
  · refine (win0_7.rect_emb_val t _ (0 : Fin 3)).trans ?_
    rw [f0]; show t.val / 8 / 4 * 1 + 0 = t.val / 8 / 4; omega
  · refine (win0_7.rect_emb_val t _ (1 : Fin 3)).trans ?_
    rw [f1]; rfl
  · refine (win0_7.rect_emb_val t _ (2 : Fin 3)).trans ?_
    rw [f2]; show 0 * 4096 + d.val = d.val; omega

/-- The product over the first `n` shared coordinates, at a row and a column. -/
def total (c : Dev nD) (n r d : ℕ) : EReal :=
  dot n (at2 (n := 16384) (p := 4096) (m ((c : Thread nD τ).loc main_arg0)) r) (fun k => weight m c k d)

/-- No coordinate, no product. -/
theorem total_zero (c : Dev nD) (r d : ℕ) : total m c 0 r d = 0 := by
  unfold total dot
  exact Finset.sum_empty

/-- What point `t` multiplies takes the sum 512 coordinates further. -/
theorem total_step (c : Dev nD) (t : Fin cfg0.N) (y : S512x4096.Idx) :
    total m c (512 * (t.val % 8) + 512) (t.val / 8 * 512 + (y 0).val) (y 1).val
      = total m c (512 * (t.val % 8)) (t.val / 8 * 512 + (y 0).val) (y 1).val + prod (iblk m c 0 t) (iblk m c 1 t) y := by
  have h0 : (y 0).val < 512 := (y 0).isLt
  have h1 : (y 1).val < 4096 := (y 1).isLt
  unfold total prod
  rw [dot_add]
  refine congrArg (fun a : EReal => _ + a) (dot_congr (fun k hk => ?_) fun k hk => ?_)
  · exact (blk0_at m c t _ k h0 hk).symm
  · exact (blk1_at m c t k _ hk h1).symm

/-- What stands after point `n` of a row tile other than its last. -/
theorem running (c : Dev nD) (n : ℕ) : ∀ (hn : n < cfg0.N), n % 8 ≠ 7 → ∀ y : S512x4096.Idx,
    sums m c n hn y = total m c (512 * (n % 8) + 512) (n / 8 * 512 + (y 0).val) (y 1).val := by
  induction n with
  | zero =>
    intro hn h2 y
    refine (congrFun (sums_first m c ⟨0, hn⟩ (Nat.zero_mod _)) y).trans ((first_apply _ _ _ _ _ _ _ _ _ _ _ _ _ _ _ _ _ _ _ _ _ _ _ _ _ _ _ _ _ _ _ _ _ _ _ y).trans ?_)
    refine Eq.trans ?_ (total_step m c ⟨0, hn⟩ y).symm
    rw [show 512 * ((⟨0, hn⟩ : Fin cfg0.N).val % 8) = 0 from rfl, total_zero, zero_add]
  | succ n ih =>
    intro hn h2 y
    by_cases h0 : (n + 1) % 8 = 0
    · refine (congrFun (sums_first m c ⟨n + 1, hn⟩ h0) y).trans ((first_apply _ _ _ _ _ _ _ _ _ _ _ _ _ _ _ _ _ _ _ _ _ _ _ _ _ _ _ _ _ _ _ _ _ _ _ y).trans ?_)
      refine Eq.trans ?_ (total_step m c ⟨n + 1, hn⟩ y).symm
      rw [show 512 * ((⟨n + 1, hn⟩ : Fin cfg0.N).val % 8) = 0 by show 512 * ((n + 1) % 8) = 0; omega, total_zero, zero_add]
    · refine (congrFun (sums_middle m c ⟨n + 1, hn⟩ h0 h2) y).trans ((middle_apply _ _ _ _ _ _ _ _ _ _ _ _ _ _ _ _ _ _ _ _ _ _ _ _ _ _ _ _ _ _ _ _ _ _ _ _ y).trans ?_)
      refine Eq.trans ?_ (total_step m c ⟨n + 1, hn⟩ y).symm
      refine congrArg (fun a : EReal => a + _) ((ih (Nat.lt_of_succ_lt hn) (by omega) y).trans ?_)
      show total m c (512 * (n % 8) + 512) (n / 8 * 512 + (y 0).val) (y 1).val
        = total m c (512 * ((n + 1) % 8)) ((n + 1) / 8 * 512 + (y 0).val) (y 1).val
      rw [show 512 * (n % 8) + 512 = 512 * ((n + 1) % 8) by omega, show n / 8 = (n + 1) / 8 by omega]

/-- What the last point of a row tile reads of the sums before it, with its own product. -/
theorem standing_last (c : Dev nD) (t : Fin cfg0.N) (ht : t.val % 8 = 7) (y : S512x4096.Idx) :
    standing (iblk m c 0 t) (iblk m c 1 t) (before m c t) y = total m c 4096 (t.val / 8 * 512 + (y 0).val) (y 1).val := by
  have hs := total_step m c t y
  rw [show 512 * (t.val % 8) + 512 = 4096 by omega] at hs
  unfold standing
  refine Eq.trans (congrArg (fun a : EReal => a + _) ?_) hs.symm
  refine (running m c (t.val - 1) _ (by omega) y).trans ?_
  rw [show 512 * ((t.val - 1) % 8) + 512 = 512 * (t.val % 8) by omega, show (t.val - 1) / 8 = t.val / 8 by omega]

/-- The residual stream with the normalised product added, at a row and a column. -/
def stream (c : Dev nD) (r d : ℕ) : EReal :=
  Cert.DownIdeal.Block.post (fun l => total m c 4096 r l)
    (at2 (n := 16384) (p := 4096) (m ((c : Thread nD τ).loc main_arg2)) r d)
    (at3 (n := 8) (p := 1) (q := 4096) (m ((c : Thread nD τ).loc main_arg3)) (r / 2048) 0 d)
    (at1 (n := 4096) (m ((c : Thread nD τ).loc main_arg4)) d) d

/-- What the first result array is shown to hold, -/
def result (c : Dev nD) : Buf (Elt Ideal) ((c : Thread nD τ).loc main_v9_0) :=
  (fun i : S16384x4096.Idx => (stream m c (i 0).val (i 1).val : Elt Ideal .f32))

/-- and the second. -/
def result2 (c : Dev nD) : Buf (Elt Ideal) ((c : Thread nD τ).loc main_v9_1) :=
  (fun i : S16384x4096.Idx => (following (stream m c (i 0).val)
    (at1 (n := 4096) (m ((c : Thread nD τ).loc main_arg5)) (i 1).val)
    (at3 (n := 8) (p := 1) (q := 4096) (m ((c : Thread nD τ).loc main_arg7)) ((i 0).val / 2048) 0 (i 1).val)
    (at3 (n := 8) (p := 1) (q := 4096) (m ((c : Thread nD τ).loc main_arg6)) ((i 0).val / 2048) 0 (i 1).val) (i 1).val : Elt Ideal .bf16))

/-- A normalised row of the last point is the stream's. -/
theorem normal_last (c : Dev nD) (t : Fin cfg0.N) (ht : t.val % 8 = 7) (y : S512x4096.Idx) :
    normal (iblk m c 0 t) (iblk m c 1 t) (iblk m c 2 t) (iblk m c 3 t) (iblk m c 4 t) (before m c t) y
      = stream m c (t.val / 8 * 512 + (y 0).val) (y 1).val := by
  have h0 : (y 0).val < 512 := (y 0).isLt
  have h1 : (y 1).val < 4096 := (y 1).isLt
  unfold normal stream
  refine post_congr h1 (fun l hl => ?_) (blk2_at m c t y) ((blk3_at m c t ⟨(y 1).val, h1⟩).trans ?_) (blk4_at m c t ⟨(y 1).val, h1⟩)
  · rw [← at2_of (n := 512) (p := 4096) _ (ix2 ⟨(y 0).val, h0⟩ ⟨l, hl⟩) _ _ rfl rfl]
    exact standing_last m c t ht (ix2 ⟨(y 0).val, h0⟩ ⟨l, hl⟩)
  · rw [show (t.val / 8 * 512 + (y 0).val) / 2048 = t.val / 8 / 4 by omega]

/-- What the last point of a row tile writes back of the first result is its block. -/
theorem flushed_eq (c : Dev nD) (t : Fin cfg0.N) (ht : t.val % 8 = 7) :
    (dats m 0 c).flushed 8 t = ((cfg0.win 8).blk t).view.read (Elt Ideal) (result m c) := by
  rw [flushed_8 m c t]
  funext y
  have h0 : (y 0).val < 512 := (y 0).isLt
  have h1 : (y 1).val < 4096 := (y 1).isLt
  obtain ⟨-, -, -, -, -, -, -, -, ⟨f0, f1⟩, -⟩ := idx_facts t
  have e0 : (((win0_8.rect t).emb y 0 : Fin _) : ℕ) = t.val / 8 * 512 + (y 0).val := by
    rw [← f0]; exact win0_8.rect_emb_val t y (0 : Fin 2)
  have e1 : (((win0_8.rect t).emb y 1 : Fin _) : ℕ) = (y 1).val := by
    refine (win0_8.rect_emb_val t y (1 : Fin 2)).trans ?_
    rw [f1]; show 0 * 4096 + (y 1).val = (y 1).val; omega
  refine (congrFun (sums_last m c t ht) y).trans ((last_apply _ _ _ _ _ _ _ _ _ _ _ _ _ _ _ _ _ _ _ _ _ _ _ _ _ _ _ _ _ _ _ _ _ _ _ _ y).trans ?_)
  show _ = stream m c (((win0_8.rect t).emb y 0 : Fin _) : ℕ) (((win0_8.rect t).emb y 1 : Fin _) : ℕ)
  rw [e0, e1]
  exact normal_last m c t ht y

/-- What the last point of a row tile writes back of the second result is its block. -/
theorem flushed_eq2 (c : Dev nD) (t : Fin cfg0.N) (ht : t.val % 8 = 7) :
    (dats m 0 c).flushed 9 t = ((cfg0.win 9).blk t).view.read (Elt Ideal) (result2 m c) := by
  rw [flushed_9 m c t]
  funext y
  have h0 : (y 0).val < 512 := (y 0).isLt
  have h1 : (y 1).val < 4096 := (y 1).isLt
  obtain ⟨-, -, -, -, -, -, -, -, -, ⟨f0, f1⟩⟩ := idx_facts t
  have e0 : (((win0_9.rect t).emb y 0 : Fin _) : ℕ) = t.val / 8 * 512 + (y 0).val := by
    rw [← f0]; exact win0_9.rect_emb_val t y (0 : Fin 2)
  have e1 : (((win0_9.rect t).emb y 1 : Fin _) : ℕ) = (y 1).val := by
    refine (win0_9.rect_emb_val t y (1 : Fin 2)).trans ?_
    rw [f1]; show 0 * 4096 + (y 1).val = (y 1).val; omega
  refine (congrFun (normed_last m c t ht) y).trans ((last_apply2 _ _ _ _ _ _ _ _ _ _ _ _ _ _ _ _ _ _ _ _ _ _ _ _ _ _ _ _ _ _ _ _ _ _ _ _ y).trans ?_)
  show _ = following (stream m c (((win0_9.rect t).emb y 0 : Fin _) : ℕ))
    (at1 (n := 4096) (m ((c : Thread nD τ).loc main_arg5)) (((win0_9.rect t).emb y 1 : Fin _) : ℕ))
    (at3 (n := 8) (p := 1) (q := 4096) (m ((c : Thread nD τ).loc main_arg7)) ((((win0_9.rect t).emb y 0 : Fin _) : ℕ) / 2048) 0 (((win0_9.rect t).emb y 1 : Fin _) : ℕ))
    (at3 (n := 8) (p := 1) (q := 4096) (m ((c : Thread nD τ).loc main_arg6)) ((((win0_9.rect t).emb y 0 : Fin _) : ℕ) / 2048) 0 (((win0_9.rect t).emb y 1 : Fin _) : ℕ)) (((win0_9.rect t).emb y 1 : Fin _) : ℕ)
  rw [e0, e1, show (t.val / 8 * 512 + (y 0).val) / 2048 = t.val / 8 / 4 by omega]
  unfold normal2
  refine following_congr h1 (fun l hl => ?_) (blk5_at m c t ⟨(y 1).val, h1⟩) (blk7_at m c t ⟨(y 1).val, h1⟩) (blk6_at m c t ⟨(y 1).val, h1⟩)
  rw [← at2_of (n := 512) (p := 4096) _ (ix2 ⟨(y 0).val, h0⟩ ⟨l, hl⟩) _ _ rfl rfl]
  exact normal_last m c t ht (ix2 ⟨(y 0).val, h0⟩ ⟨l, hl⟩)

/-- Every index of the first result array lies in the block of a point that is written back. -/
theorem cover_result (i : S16384x4096.Idx) :
    ∃ t : Fin cfg0.N, (cfg0.win 8).flush t = true ∧ i ∈ ((cfg0.win 8).blk t).view.set := by
  have h0 : (i 0).val < 16384 := (i 0).isLt
  have h1 : (i 1).val < 4096 := (i 1).isLt
  have hN : cfg0.N = 256 := N_0
  have ht : (i 0).val / 512 * 8 + 7 < cfg0.N := by omega
  refine ⟨⟨_, ht⟩, (flush0_8 _).mpr (by show ((i 0).val / 512 * 8 + 7) % 8 = 7; omega), ?_⟩
  obtain ⟨-, -, -, -, -, -, -, -, ⟨f0, f1⟩, -⟩ := idx_facts ⟨_, ht⟩
  have g0 : win0_8.index ⟨_, ht⟩ (0 : Fin 2) = (i 0).val / 512 := by rw [f0]; dsimp only; omega
  show i ∈ ((View.whole main_v9_0).slice (win0_8.rect ⟨_, ht⟩)).set
  rw [View.set_slice_whole, Rect.mem_set_unit]
  intro a
  match a with
  | ⟨0, _⟩ =>
    show win0_8.index ⟨_, ht⟩ (0 : Fin 2) * 512 ≤ (i 0).val ∧ (i 0).val < win0_8.index ⟨_, ht⟩ (0 : Fin 2) * 512 + 512
    rw [g0]; omega
  | ⟨1, _⟩ =>
    show win0_8.index ⟨_, ht⟩ (1 : Fin 2) * 4096 ≤ (i 1).val ∧ (i 1).val < win0_8.index ⟨_, ht⟩ (1 : Fin 2) * 4096 + 4096
    rw [f1]; omega

/-- Every index of the second result array lies in the block of a point that is written back. -/
theorem cover_result2 (i : S16384x4096.Idx) :
    ∃ t : Fin cfg0.N, (cfg0.win 9).flush t = true ∧ i ∈ ((cfg0.win 9).blk t).view.set := by
  have h0 : (i 0).val < 16384 := (i 0).isLt
  have h1 : (i 1).val < 4096 := (i 1).isLt
  have hN : cfg0.N = 256 := N_0
  have ht : (i 0).val / 512 * 8 + 7 < cfg0.N := by omega
  refine ⟨⟨_, ht⟩, (flush0_9 _).mpr (by show ((i 0).val / 512 * 8 + 7) % 8 = 7; omega), ?_⟩
  obtain ⟨-, -, -, -, -, -, -, -, -, ⟨f0, f1⟩⟩ := idx_facts ⟨_, ht⟩
  have g0 : win0_9.index ⟨_, ht⟩ (0 : Fin 2) = (i 0).val / 512 := by rw [f0]; dsimp only; omega
  show i ∈ ((View.whole main_v9_1).slice (win0_9.rect ⟨_, ht⟩)).set
  rw [View.set_slice_whole, Rect.mem_set_unit]
  intro a
  match a with
  | ⟨0, _⟩ =>
    show win0_9.index ⟨_, ht⟩ (0 : Fin 2) * 512 ≤ (i 0).val ∧ (i 0).val < win0_9.index ⟨_, ht⟩ (0 : Fin 2) * 512 + 512
    rw [g0]; omega
  | ⟨1, _⟩ =>
    show win0_9.index ⟨_, ht⟩ (1 : Fin 2) * 4096 ≤ (i 1).val ∧ (i 1).val < win0_9.index ⟨_, ht⟩ (1 : Fin 2) * 4096 + 4096
    rw [f1]; omega

/-- So the first array ends holding its result. -/
theorem final (c : Dev nD) : (dats m 0 c).arrAt 8 cfg0.N = result m c :=
  (dats m 0 c).arrAt_eq_of_cover 8 (result m c) (fun t hf => flushed_eq m c t ((flush0_8 t).mp hf)) cover_result

/-- So the second array ends holding its result. -/
theorem final2 (c : Dev nD) : (dats m 0 c).arrAt 9 cfg0.N = result2 m c :=
  (dats m 0 c).arrAt_eq_of_cover 9 (result2 m c) (fun t hf => flushed_eq2 m c t ((flush0_9 t).mp hf)) cover_result2

end Cert.MergeIdeal.Block

end
-- ==== Proof.MergeValue.lean ====
/-
  The reference of the mixing layer's output projection: what its two results are at an index, and that the kernel's arrays hold just those.
-/
module

public import proofs.«01_k».proof.Proof.MergeArray
public import proofs.«01_k».proof.Proof.DownValue
public import proofs.«01_k».proof.Proof.Gen.MergeRefIdeal.Read

@[expose] public section

set_option maxRecDepth 16384

noncomputable section

namespace Cert.Attention

open Cert.MergeIdeal.Block

/-- A vector whose eight groups of 512 are split in halves: the first halves, then the second ones. -/
def halved (u : ℕ → EReal) (k : ℕ) : EReal :=
  if k < 2048 then u (512 * (k / 256) + k % 256) else u (512 * ((k - 2048) / 256) + (256 + (k - 2048) % 256))

/-- A product is the same whichever of its two operands is put in the other's order. -/
theorem dot_grouped (u v : ℕ → EReal) : dot 4096 u (grouped v) = dot 4096 (halved u) v := by
  refine Eq.trans ?_ (dot_add 2048 2048 (halved u) v).symm
  have hl : dot 2048 (halved u) v = ∑ a : Fin 8, dot 256 (fun k => u (512 * a + k)) (fun k => v (k + 256 * a)) := by
    refine (dot_pairs 8 256 (halved u) v).symm.trans (Finset.sum_congr rfl fun a _ => Finset.sum_congr rfl fun b _ => ?_)
    have ha := a.isLt
    have hb := b.isLt
    unfold halved
    rw [if_pos (show b.val + 256 * a.val < 2048 by omega),
      show 512 * ((b.val + 256 * a.val) / 256) + (b.val + 256 * a.val) % 256 = 512 * a.val + b.val by omega]
  have hr : dot 2048 (fun k => halved u (2048 + k)) (fun k => v (2048 + k))
      = ∑ a : Fin 8, dot 256 (fun k => u (512 * a + (256 + k))) (fun k => v (2048 + (k + 256 * a))) := by
    refine (dot_pairs 8 256 (fun k => halved u (2048 + k)) (fun k => v (2048 + k))).symm.trans
      (Finset.sum_congr rfl fun a _ => Finset.sum_congr rfl fun b _ => ?_)
    have ha := a.isLt
    have hb := b.isLt
    unfold halved
    dsimp only
    rw [if_neg (show ¬ 2048 + (b.val + 256 * a.val) < 2048 by omega),
      show 512 * ((2048 + (b.val + 256 * a.val) - 2048) / 256) + (256 + (2048 + (b.val + 256 * a.val) - 2048) % 256)
        = 512 * a.val + (256 + b.val) by omega]
  rw [hl, hr, ← Finset.sum_add_distrib]
  refine (dot_pairs 8 512 u (grouped v)).symm.trans (Finset.sum_congr rfl fun a _ => ?_)
  have ha := a.isLt
  refine (dot_add 256 256 (fun k => u (k + 512 * a)) (fun k => grouped v (k + 512 * a))).trans
    (congrArg₂ (fun a b : EReal => a + b) (dot_congr (fun k hk => ?_) fun k hk => ?_) (dot_congr (fun k hk => ?_) fun k hk => ?_))
  · exact congrArg u (Nat.add_comm _ _)
  · unfold grouped
    rw [if_pos (show (k + 512 * a.val) % 512 < 256 by omega),
      show 256 * ((k + 512 * a.val) / 512) + (k + 512 * a.val) % 512 = k + 256 * a.val by omega]
  · exact congrArg u (Nat.add_comm _ _)
  · unfold grouped
    rw [if_neg (show ¬ (256 + k + 512 * a.val) % 512 < 256 by omega),
      show 2048 + 256 * ((256 + k + 512 * a.val) / 512) + ((256 + k + 512 * a.val) % 512 - 256) = 2048 + (k + 256 * a.val) by omega]

end Cert.Attention

namespace Cert.MergeRefIdeal.Joined

open Cert.MergeRefIdeal Cert.MergeRefIdeal.Gen Cert.MergeRefIdeal.Read Cert.Attention Idealize.ShloMosaic Idealize.ShloMosaic.ValueIdx

variable (p : FVec Ideal S16384x4096 .bf16) (o : FVec Ideal S4096x4096 .f32) (x : FVec Ideal S16384x4096 .f32)
  (g : FVec Ideal S8x1x4096 .f32) (w v : FVec Ideal S4096 .f32) (shift scale : FVec Ideal S8x1x4096 .f32)

/-- The left operand at a row and a column: the rows' halves side by side. -/
theorem left_apply (r : Fin 16384) (k : Fin 4096) : val_main_v6 (F := Ideal) p (ix2 r k) = halved (at2 p r) k := by
  have hr := r.isLt
  have hk := k.isLt
  unfold val_main_v6 halved
  by_cases h : k.val < 2048
  · rw [if_pos h]
    refine (concatenate_apply_piece 1 _ _ (ix2 r k) 0 (by show 0 < 2; omega) S16384x2048 _ rfl rfl 0 rfl (ix2 r (⟨k.val, h⟩ : Fin 2048))
      (fun x hx => match x with | ⟨0, _⟩ => rfl | ⟨1, _⟩ => absurd rfl hx) (by show 0 + k.val = k.val; omega)).trans ?_
    rw [val_main_v3_apply, val_main_v2_apply, val_main_v1_apply, val_main_v0_apply]
    have eA : (r.val * 2048 + k.val) / 2048 = r.val := by omega
    have eB : (r.val * 2048 + k.val) / 256 % 8 = k.val / 256 := by omega
    have eC : (r.val * 2048 + k.val) % 256 = k.val % 256 := by omega
    refine at2_of p _ _ _ ?_ ?_
    · show (((r.val * 2048 + k.val) / 2048 * 8 + (r.val * 2048 + k.val) / 256 % 8) * 512 + (r.val * 2048 + k.val) % 256) / 4096 = r.val
      rw [eA, eB, eC]; omega
    · show (((r.val * 2048 + k.val) / 2048 * 8 + (r.val * 2048 + k.val) / 256 % 8) * 512 + (r.val * 2048 + k.val) % 256) % 4096 = 512 * (k.val / 256) + k.val % 256
      rw [eA, eB, eC]; omega
  · rw [if_neg h]
    refine (concatenate_apply_piece 1 _ _ (ix2 r k) 1 (by show 1 < 2; omega) S16384x2048 _ rfl rfl 2048 rfl (ix2 r (⟨k.val - 2048, by omega⟩ : Fin 2048))
      (fun x hx => match x with | ⟨0, _⟩ => rfl | ⟨1, _⟩ => absurd rfl hx) (by show 2048 + (k.val - 2048) = k.val; omega)).trans ?_
    rw [val_main_v5_apply, val_main_v4_apply, val_main_v1_apply, val_main_v0_apply]
    have eA : (r.val * 2048 + (k.val - 2048)) / 2048 = r.val := by omega
    have eB : (r.val * 2048 + (k.val - 2048)) / 256 % 8 = (k.val - 2048) / 256 := by omega
    have eC : (r.val * 2048 + (k.val - 2048)) % 256 = (k.val - 2048) % 256 := by omega
    refine at2_of p _ _ _ ?_ ?_
    · show (((r.val * 2048 + (k.val - 2048)) / 2048 * 8 + (r.val * 2048 + (k.val - 2048)) / 256 % 8) * 512 + (256 + (r.val * 2048 + (k.val - 2048)) % 256)) / 4096 = r.val
      rw [eA, eB, eC]; omega
    · show (((r.val * 2048 + (k.val - 2048)) / 2048 * 8 + (r.val * 2048 + (k.val - 2048)) / 256 % 8) * 512 + (256 + (r.val * 2048 + (k.val - 2048)) % 256)) % 4096 = 512 * ((k.val - 2048) / 256) + (256 + (k.val - 2048) % 256)
      rw [eA, eB, eC]; omega

/-- The product at a row and a column. -/
def product (r d : ℕ) : EReal := dot 4096 (halved (at2 p r)) (fun k => at2 o k d)

theorem product_eq (r : Fin 16384) (d : Fin 4096) : val_main_v7 (F := Ideal) p o (ix2 r d) = product p o r d := by
  rw [val_main_v7_apply]
  unfold product dot
  refine Finset.sum_congr rfl fun k _ => congrArg₂ (fun a b : EReal => a * b) ?_ (at2_of o _ _ _ rfl rfl)
  refine Eq.trans ?_ (left_apply p r k)
  exact congrArg _ (Shape.idx_ext₂ rfl rfl)

/-- The normalised product times the gain. -/
theorem normal_apply (r : Fin 16384) (d : Fin 4096) :
    val_main_v21 (F := Ideal) p o w (ix2 r d)
      = product p o r d * Ideal.rsqrt (Ideal.div (∑ l : Fin 4096, product p o r l * product p o r l) (Ideal.ofBits .f32 0x45800000#32)
          + Ideal.ofBits .f32 0x358637BD#32) * at1 w d := by
  have hs : ∀ i : S16384.Idx, i 0 = r → val_main_v10 (F := Ideal) p o i = ∑ l : Fin 4096, product p o r l * product p o r l := by
    intro i hi
    rw [val_main_v10_apply, val_main_cst_apply]
    refine (congrArg (fun z : EReal => z + _) Ideal.ofBits_zero_f32).trans ((zero_add _).trans ?_)
    refine Finset.sum_congr rfl fun l _ => ?_
    have hl : idx_main_v10 i l = ix2 r l := funext fun x => Fin.ext (by
      match x with
      | ⟨0, _⟩ => exact congrArg Fin.val hi
      | ⟨1, _⟩ => rfl)
    rw [val_main_v9_apply, hl, product_eq]
    rfl
  rw [val_main_v21_apply, val_main_v18_apply, product_eq, val_main_v17_apply, val_main_v16_apply, val_main_v15_apply,
    val_main_v13_apply, val_main_v11_apply, hs _ rfl, val_main_v12_apply, val_main_v14_apply, val_main_cst_0_apply, val_main_cst_1_apply,
    val_main_v20_apply, val_main_v19_apply, at1_of w _ d rfl]
  rfl

/-- The first result at a row and a column. -/
def stream (r d : ℕ) : EReal :=
  Cert.DownIdeal.Block.post (fun l => product p o r l) (at2 x r d) (at3 g (r / 2048) 0 d) (at1 w d) d

theorem stream_apply (r : Fin 16384) (d : Fin 4096) : val_main_v45 (F := Ideal) p o x g w (ix2 r d) = stream p o x g w r d := by
  have hr := r.isLt
  have hd := d.isLt
  have h8 : idx_main_v8 (idx_main_v45 (ix2 r d)) = ix2 r d := Shape.idx_ext₂ (y := ix2 r d)
    (by show (((r.val * 4096 + d.val) / 8388608 * 2048 + (r.val * 4096 + d.val) / 4096 % 2048) * 4096 + (r.val * 4096 + d.val) % 4096) / 4096 = r.val; omega)
    (by show (((r.val * 4096 + d.val) / 8388608 * 2048 + (r.val * 4096 + d.val) / 4096 % 2048) * 4096 + (r.val * 4096 + d.val) % 4096) % 4096 = d.val; omega)
  have h22 : idx_main_v22 (idx_main_v45 (ix2 r d)) = ix2 r d := h8
  rw [val_main_v45_apply, val_main_v25_apply, val_main_v8_apply, h8, val_main_v24_apply, val_main_v23_apply, val_main_v22_apply, h22,
    normal_apply, at2_of x _ r.val d.val rfl rfl,
    at3_of g _ (r.val / 2048) 0 d.val (by show (r.val * 4096 + d.val) / 8388608 = r.val / 2048; omega) rfl
      (by show (r.val * 4096 + d.val) % 4096 = d.val; omega)]
  rfl

/-- The same before it is laid out as one matrix. -/
theorem rows_apply (j : S8x2048x4096.Idx) (r : Fin 16384) (d : Fin 4096) (hr : 2048 * (j 0).val + (j 1).val = r.val) (hd : (j 2).val = d.val) :
    val_main_v25 (F := Ideal) p o x g w j = stream p o x g w r d := by
  have hj : idx_main_v45 (ix2 r d) = j := funext fun b => Fin.ext (by
    have h0 : (j 0).val < 8 := (j 0).isLt
    have h1 : (j 1).val < 2048 := (j 1).isLt
    have hr' := r.isLt
    have hd' := d.isLt
    match b with
    | ⟨0, _⟩ => show (r.val * 4096 + d.val) / 8388608 = (j 0).val; omega
    | ⟨1, _⟩ => show (r.val * 4096 + d.val) / 4096 % 2048 = (j 1).val; omega
    | ⟨2, _⟩ => show (r.val * 4096 + d.val) % 4096 = (j 2).val; omega)
  rw [← stream_apply, val_main_v45_apply, hj]

/-- The second result at a row and a column. -/
theorem following_apply (r : Fin 16384) (d : Fin 4096) :
    val_main_v47 (F := Ideal) p o x g w v shift scale (ix2 r d)
      = following (stream p o x g w r) (at1 v d) (at3 scale (r.val / 2048) 0 d) (at3 shift (r.val / 2048) 0 d) d := by
  have hr := r.isLt
  have hd := d.isLt
  have hs : ∀ i : S8x2048.Idx, 2048 * (i 0).val + (i 1).val = r.val → val_main_v27 (F := Ideal) p o x g w i
      = ∑ l : Fin 4096, stream p o x g w r l * stream p o x g w r l := by
    intro i hi
    rw [val_main_v27_apply, val_main_cst_2_apply]
    refine (congrArg (fun z : EReal => z + _) Ideal.ofBits_zero_f32).trans ((zero_add _).trans ?_)
    refine Finset.sum_congr rfl fun l _ => ?_
    rw [val_main_v26_apply, rows_apply p o x g w _ r l hi rfl]
    rfl
  rw [val_main_v47_apply, val_main_v46_apply, val_main_v44_apply, val_main_v42_apply, val_main_v38_apply, val_main_v35_apply,
    val_main_v34_apply, val_main_v33_apply, val_main_v32_apply, val_main_v30_apply, val_main_v28_apply, val_main_v29_apply, val_main_v31_apply,
    val_main_cst_3_apply, val_main_cst_4_apply, val_main_v37_apply, val_main_v36_apply, val_main_v41_apply, val_main_v40_apply,
    val_main_v39_apply, val_main_cst_5_apply, val_main_v43_apply,
    rows_apply p o x g w (idx_main_v46 (ix2 r d)) r d
      (by show 2048 * ((r.val * 4096 + d.val) / 8388608) + (r.val * 4096 + d.val) / 4096 % 2048 = r.val; omega)
      (by show (r.val * 4096 + d.val) % 4096 = d.val; omega),
    hs _ (by show 2048 * ((r.val * 4096 + d.val) / 8388608) + (r.val * 4096 + d.val) / 4096 % 2048 = r.val; omega),
    at1_of v _ d.val (by show (r.val * 4096 + d.val) % 4096 = d.val; omega),
    at3_of scale _ (r.val / 2048) 0 d.val (by show (r.val * 4096 + d.val) / 8388608 = r.val / 2048; omega) rfl
      (by show (r.val * 4096 + d.val) % 4096 = d.val; omega),
    at3_of shift _ (r.val / 2048) 0 d.val (by show (r.val * 4096 + d.val) / 8388608 = r.val / 2048; omega) rfl
      (by show (r.val * 4096 + d.val) % 4096 = d.val; omega)]
  rfl

end Cert.MergeRefIdeal.Joined

namespace Cert.MergeIdeal.Block

open Cert.MergeIdeal Cert.MergeIdeal.Gen Cert.Attention Cert.DownIdeal.Block Idealize.ShloMosaic Idealize.ShloMosaic.ValueIdx
  Idealize.ShloMosaic.TcCoe Idealize.SL.Sem

variable (m : (ℓ : Loc nD τ sig) → Buf (Elt Ideal) ℓ)

/-- The sum a row tile's points run up is the reference's product. -/
theorem total_product (c : Dev nD) (r d : ℕ) : total m c 4096 r d = Cert.MergeRefIdeal.Joined.product (m ((c : Thread nD τ).loc main_arg0)) (m ((c : Thread nD τ).loc main_arg1)) r d :=
  dot_grouped _ _

theorem stream_eq (c : Dev nD) (r : ℕ) :
    stream m c r = Cert.MergeRefIdeal.Joined.stream (m ((c : Thread nD τ).loc main_arg0)) (m ((c : Thread nD τ).loc main_arg1)) (m ((c : Thread nD τ).loc main_arg2)) (m ((c : Thread nD τ).loc main_arg3)) (m ((c : Thread nD τ).loc main_arg4)) r := by
  funext d
  unfold stream Cert.MergeRefIdeal.Joined.stream
  rw [show (fun l => total m c 4096 r l) = _ from funext fun l => total_product m c r l]

/-- The reference's first result is the kernel's, at an index, -/
theorem reference_eq (c : Dev nD) (i : S16384x4096.Idx) :
    Cert.MergeRefIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i = result m c i := by
  refine (congrArg _ (eq_ix2 i)).trans ((Cert.MergeRefIdeal.Joined.stream_apply _ _ _ _ _ (i 0) (i 1)).trans ?_)
  exact (congrFun (stream_eq m c (i 0).val) (i 1).val).symm

/-- and the second. -/
theorem reference_eq2 (c : Dev nD) (i : S16384x4096.Idx) :
    Cert.MergeRefIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i = result2 m c i := by
  refine (congrArg _ (eq_ix2 i)).trans ((Cert.MergeRefIdeal.Joined.following_apply _ _ _ _ _ _ _ _ (i 0) (i 1)).trans ?_)
  rw [← stream_eq]
  rfl

end Cert.MergeIdeal.Block

end
-- ==== Proof.MergeBits.lean ====
/-
  The run of the program at the machine's own numbers: its text is the idealised program's, which is proved to run whatever
  the numbers are.
-/
module

public import proofs.«01_k».proof.Defs
public import proofs.«01_k».proof.Proof.Gen.Merge
public import proofs.«01_k».proof.Proof.MergeFrame
public import Idealize.ShloMosaic.Lib.Tactic.ProgEq

@[expose] public section

set_option maxRecDepth 16384

noncomputable section

namespace Cert.MergeIdeal.Own

open Idealize.ShloMosaic Idealize.SL.Sem

theorem same_main : Cert.Merge.main (F := Bits) = Cert.MergeIdeal.main (F := Bits) := by sl_kernel_rfl

theorem same_defs : Cert.Merge.defs (F := Bits) = Cert.MergeIdeal.defs (F := Bits) := by sl_kernel_rfl

/-- The program runs, keeps its arguments, and leaves every semaphore at zero. -/
theorem frame_bits : Cert.quiescent_Merge := fun m ρ _ => by
  rw [same_main, same_defs]
  exact Cert.MergeIdeal.Own.frame (F := Bits) m ρ

end Cert.MergeIdeal.Own

end
-- ==== Proof.MixerBlock.lean ====
/-
  What one grid point of the mixer computes: for its sequence and its group of 256 channels, a convolution of three taps along
  the sequence in the left half of the block, and in the right half, for each chunk of 128 positions, the mixture of the chunk's
  normalised rows that the group's matrix prescribes.
-/
module

public import proofs.«01_k».proof.Proof.Down
public import proofs.«01_k».proof.Proof.Gen.MixerIdeal.Value
public import Idealize.ShloMosaic.Lib.KernelVsHost

@[expose] public section

set_option maxRecDepth 16384

noncomputable section

namespace Cert.MixerIdeal.Block

open Cert.MixerIdeal Cert.MixerIdeal.Gen Cert.Attention Idealize.ShloMosaic Idealize.ShloMosaic.ValueIdx
  Idealize.ShloMosaic.TcCoe Idealize.SL.Sem

/-- An entry of a row of 256 channels after its normalisation and its gain. -/
def scaled (v : ℕ → EReal) (g : EReal) (d : ℕ) : EReal :=
  v d * Ideal.rsqrt (Ideal.div (∑ l : Fin 256, v l * v l) (Ideal.ofBits .f32 0x43800000#32) + Ideal.ofBits .f32 0x358637BD#32) * g

/-- An entry of a mixed chunk: `w` the position's row of the matrix, `v` the chunk's rows, `u` the entry it multiplies. -/
def mixed (w : ℕ → EReal) (v : ℕ → ℕ → EReal) (g b u : EReal) (d : ℕ) : EReal := u * (dot 128 w (fun s => scaled (v s) g d) + b)

/-- An entry of the convolution along a sequence `z` of 2048 positions, which ends in zeros on both sides. -/
def taps (z : ℕ → EReal) (r : ℕ) (w0 w1 w2 b : EReal) : EReal :=
  b * ((if r = 0 then 0 else z (r - 1)) * w0 + z r * w1 + (if r = 2047 then 0 else z (r + 1)) * w2)

theorem scaled_congr {v v' : ℕ → EReal} {g g' : EReal} {d : ℕ} (hd : d < 256) (hv : ∀ l < 256, v l = v' l) (hg : g = g') :
    scaled v g d = scaled v' g' d := by
  subst hg
  unfold scaled
  rw [hv d hd, Finset.sum_congr rfl fun (l : Fin 256) _ => congrArg₂ (fun a b : EReal => a * b) (hv l l.isLt) (hv l l.isLt)]

theorem mixed_congr {w w' : ℕ → EReal} {v v' : ℕ → ℕ → EReal} {g g' b b' u u' : EReal} {d : ℕ} (hd : d < 256)
    (hw : ∀ s < 128, w s = w' s) (hv : ∀ s < 128, ∀ l < 256, v s l = v' s l) (hg : g = g') (hb : b = b') (hu : u = u') :
    mixed w v g b u d = mixed w' v' g' b' u' d := by
  subst hb hu
  exact congrArg (fun a : EReal => u * (a + b)) (dot_congr hw fun s hs => scaled_congr hd (hv s hs) hg)

theorem taps_congr {z z' : ℕ → EReal} {r : ℕ} {w0 w0' w1 w1' w2 w2' b b' : EReal} (hr : r < 2048) (hz : ∀ k < 2048, z k = z' k)
    (h0 : w0 = w0') (h1 : w1 = w1') (h2 : w2 = w2') (hb : b = b') : taps z r w0 w1 w2 b = taps z' r w0' w1' w2' b' := by
  subst h0 h1 h2 hb
  unfold taps
  have e0 : (if r = 0 then 0 else z (r - 1)) = if r = 0 then 0 else z' (r - 1) := by rw [hz (r - 1) (by omega)]
  have e2 : (if r = 2047 then 0 else z (r + 1)) = if r = 2047 then 0 else z' (r + 1) := by
    by_cases h : r = 2047
    · rw [if_pos h, if_pos h]
    · rw [if_neg h, if_neg h, hz (r + 1) (by omega)]
  rw [e0, e2, hz r hr]

/-- The comparison of a row's number with another. -/
theorem row_eq (l e : ℕ) (hl : l < 2048) (he : e < 2048) : IntOp.cmpi .eq (BitVec.ofNat 32 l) (BitVec.ofNat 32 e) = 1 ↔ l = e := by
  show BitVec.ofBool (BitVec.ofNat 32 l == BitVec.ofNat 32 e) = 1 ↔ _
  constructor
  · intro h
    by_contra hne
    rw [beq_false_of_ne fun h' => hne (by
      have := congrArg BitVec.toNat h'
      simp only [BitVec.toNat_ofNat] at this
      omega)] at h
    exact absurd h (by decide)
  · rintro rfl
    rw [beq_self_eq_true]
    rfl

/-- One row spread over all. -/
theorem tap_apply (x : Vec Ideal S3x256 .f32) (o : ℕ) (ho : o < 3) (h : S3x256.Slices ![o, 0] S1x256) (r : Fin 2048) (d : Fin 256) :
    broadcastTo S2048x256 (extractStridedSlice S1x256 ![o, 0] x h) broadcasts_S1x256_S2048x256 (ix2 r d) = at2 (n := 3) (p := 256) x o d := by
  rw [broadcastTo_apply _ broadcasts_S1x256_S2048x256 (ix2 r d) (ix2 0 d) (fun a => match a with
      | ⟨0, _⟩ => by show 0 = if (1 : ℕ) = 1 then 0 else r.val; rw [if_pos rfl]
      | ⟨1, _⟩ => by show d.val = if (256 : ℕ) = 1 then 0 else d.val; rw [if_neg (by decide)]),
    extractStridedSlice_apply ![o, 0] _ h (ix2 0 d) (ix2 ⟨o, ho⟩ d)
      (fun a => match a with | ⟨0, _⟩ => rfl | ⟨1, _⟩ => (Nat.zero_add _).symm)]
  exact at2_of (n := 3) (p := 256) x _ _ _ rfl rfl

/-- A sequence moved by some positions around its end, with zero put at one of them. -/
theorem moved (z : FVec Ideal S2048x256 .f32) (s e : ℕ) (hs : s < 2048) (he : e < 2048) (r : Fin 2048) (d : Fin 256) :
    select (cmpi .eq (iota .tc S2048x256 32 [0] iota_S2048x256_d0_w32) (broadcast S2048x256 (BitVec.ofNat 32 e)))
      (broadcast S2048x256 (Scalar.ofBits (F := Ideal) .f32 0x00000000#32))
      (dynamicRotate 0 (BitVec.ofNat 32 s) none z rotates_S2048x256_d0) (ix2 r d)
      = if r.val = e then 0 else at2 (n := 2048) (p := 256) z ((r.val + 2048 - s) % 2048) d := by
  have hr := r.isLt
  rw [select_apply, broadcast_apply]
  show Scalar.select (IntOp.cmpi .eq _ _) _ _ = _
  rw [iota_single_apply, broadcast_apply,
    Idealize.ShloMosaic.dynamicRotate_apply (s := S2048x256) 0 (BitVec.ofNat 32 s) z rotates_S2048x256_d0 (ix2 r d)
      (ix2 ⟨(r.val + 2048 - s) % 2048, Nat.mod_lt _ (by decide)⟩ d) (fun b => match b with
      | ⟨0, _⟩ => by
        show (r.val + 2048 - s) % 2048 = if (0 : Fin 2) = 0 then (r.val + 2048 - (BitVec.ofNat 32 s).toNat % 2048) % 2048 else r.val
        rw [if_pos rfl, BitVec.toNat_ofNat, Nat.mod_eq_of_lt (show s < 2 ^ 32 by omega), Nat.mod_eq_of_lt hs]
      | ⟨1, _⟩ => by show d.val = if (1 : Fin 2) = 0 then _ else d.val; rw [if_neg (by decide)])]
  unfold Scalar.select
  by_cases h : r.val = e
  · rw [if_pos h, if_pos ((row_eq r.val e hr he).mpr h)]
    exact Ideal.ofBits_zero_f32
  · rw [if_neg h, if_neg (fun h' => h ((row_eq r.val e hr he).mp h'))]
    exact at2_of (n := 2048) (p := 256) z _ _ _ rfl rfl

/-- The left half of a point's block, at a row and a column. -/
theorem conv_apply (x y b : Vec Ideal S2048x256 .bf16) (w : Vec Ideal S3x256 .f32) (r : Fin 2048) (d : Fin 256) :
    k0_pay2 (F := Ideal) x y w b (ix2 r d)
      = taps (fun k => at2 (n := 2048) (p := 256) x k d * at2 (n := 2048) (p := 256) y k d) r (at2 (n := 3) (p := 256) w 0 d)
          (at2 (n := 3) (p := 256) w 1 d) (at2 (n := 3) (p := 256) w 2 d) (at2 (n := 2048) (p := 256) b r d) := by
  have hr := r.isLt
  unfold k0_pay2 taps
  dsimp only
  rw [truncf_apply, mulf_apply, addf_apply, addf_apply, mulf_apply, mulf_apply, mulf_apply, mulf_apply,
    tap_apply w 0 (by decide), tap_apply w 1 (by decide), tap_apply w 2 (by decide),
    moved _ 1 0 (by decide) (by decide), moved _ 2047 2047 (by decide) (by decide)]
  have hz : ∀ k, k < 2048 → at2 (n := 2048) (p := 256) (mulf (F := Ideal) (s := S2048x256) (φ := .f32)
      (extf .f32 x bitsLt_bf16_f32) (extf .f32 y bitsLt_bf16_f32)) k d = at2 (n := 2048) (p := 256) x k d * at2 (n := 2048) (p := 256) y k d := fun k hk => by
    rw [← at2_of (n := 2048) (p := 256) _ (ix2 ⟨k, hk⟩ d) k d rfl rfl, mulf_apply,
      ← at2_of (n := 2048) (p := 256) x (ix2 ⟨k, hk⟩ d) k d rfl rfl, ← at2_of (n := 2048) (p := 256) y (ix2 ⟨k, hk⟩ d) k d rfl rfl]
    rfl
  refine congrArg₂ (fun a b : EReal => a * b) (at2_of (n := 2048) (p := 256) b (ix2 r d) _ _ rfl rfl) ?_
  refine congrArg₂ (fun a b : EReal => a + b) (congrArg₂ (fun a b : EReal => a + b) ?_ ?_) ?_
  · refine congrArg (fun a : EReal => a * _) ?_
    by_cases h : r.val = 0
    · rw [if_pos h, if_pos h]
    · rw [if_neg h, if_neg h, show (r.val + 2048 - 1) % 2048 = r.val - 1 by omega]
      exact hz _ (by omega)
  · refine congrArg (fun a : EReal => a * _) ?_
    exact congrArg₂ (fun a b : EReal => a * b) (at2_of (n := 2048) (p := 256) x (ix2 r d) _ _ rfl rfl)
      (at2_of (n := 2048) (p := 256) y (ix2 r d) _ _ rfl rfl)
  · refine congrArg (fun a : EReal => a * _) ?_
    by_cases h : r.val = 2047
    · rw [if_pos h, if_pos h]
    · rw [if_neg h, if_neg h, show (r.val + 2048 - 2047) % 2048 = r.val + 1 by omega]
      exact hz _ (by omega)

/-- A row of a chunk after its normalisation and its gain. -/
theorem scaled_apply (v : Vec Ideal S128x256 .bf16) (g : Vec Ideal S1x1x256 .f32) (r : Fin 128) (d : Fin 256) :
    k0_pay24 (F := Ideal) v g (ix2 r d) = scaled (at2 (n := 128) (p := 256) v r) (at3 (n := 1) (p := 1) (q := 256) g 0 0 d) d := by
  unfold k0_pay24 scaled
  dsimp only
  rw [truncf_apply, mulf_apply, mulf_apply,
    broadcastTo_apply _ broadcasts_S1x256_S128x256 (ix2 r d) (ix2 0 d) (fun a => match a with
      | ⟨0, _⟩ => by show 0 = if (1 : ℕ) = 1 then 0 else r.val; rw [if_pos rfl]
      | ⟨1, _⟩ => by show d.val = if (256 : ℕ) = 1 then 0 else d.val; rw [if_neg (by decide)]),
    broadcastTo_apply _ broadcasts_S128x1_S128x256 (ix2 r d) (ix2 r 0) (fun a => match a with
      | ⟨0, _⟩ => by show r.val = if (128 : ℕ) = 1 then 0 else r.val; rw [if_neg (by decide)]
      | ⟨1, _⟩ => by show 0 = if (1 : ℕ) = 1 then 0 else d.val; rw [if_pos rfl]),
    shapeCast_apply g shapeCasts_S1x1x256_S1x256 (ix2 0 d) (ix3 0 0 d) (by
      rw [Shape.rowMajor_val_three, Shape.rowMajor_val_two]; show (0 * 1 + 0) * 256 + d.val = 0 * 256 + d.val; omega)]
  refine congrArg₂ (fun a b : EReal => a * b) ?_ (at3_of (n := 1) (p := 1) (q := 256) g (ix3 0 0 d) _ _ _ rfl rfl rfl)
  refine congrArg₂ (fun a b : EReal => a * b) (at2_of (n := 128) (p := 256) v (ix2 r d) _ _ rfl rfl) ?_
  show Ideal.rsqrt (Ideal.div _ _ + _) = _
  refine congrArg (fun a : EReal => Ideal.rsqrt (Ideal.div a _ + _)) ?_
  rw [shapeCast_apply _ shapeCasts_S128_S128x1 (ix2 r 0) (ix1 r) (by
      rw [Shape.rowMajor_val_one, Shape.rowMajor_val_two]; show r.val = r.val * 1 + 0; omega)]
  have key : ∀ l : Fin 256, mulf (F := Ideal) (s := S128x256) (φ := .f32) (extf .f32 v bitsLt_bf16_f32) (extf .f32 v bitsLt_bf16_f32)
      (ix2 r l) = at2 (n := 128) (p := 256) v r l * at2 (n := 128) (p := 256) v r l := fun l => by
    rw [mulf_apply, ← at2_of (n := 128) (p := 256) v (ix2 r l) r l rfl rfl]
    rfl
  refine (Ideal.multiReduction_add_single _ _ reduces_S128x256_S128 _ _ (ix1 r)).trans ?_
  refine Finset.sum_congr rfl fun l _ => ?_
  refine Eq.trans ?_ (key l)
  exact congrArg _ (Shape.idx_ext₂ rfl rfl)

/-- A chunk of the right half of a point's block, at a row and a column. -/
theorem strip_apply (w : Vec Ideal S1x128x128 .f32) (v u : Vec Ideal S128x256 .bf16) (g : Vec Ideal S1x1x256 .f32)
    (b : Vec Ideal S1x128x1 .f32) (r : Fin 128) (d : Fin 256) :
    k0_pay4 (F := Ideal) (k0_pay3 w) v g b u (ix2 r d)
      = mixed (at3 (n := 1) (p := 128) (q := 128) w 0 r) (at2 (n := 128) (p := 256) v) (at3 (n := 1) (p := 1) (q := 256) g 0 0 d)
          (at3 (n := 1) (p := 128) (q := 1) b 0 r 0) (at2 (n := 128) (p := 256) u r d) d := by
  show truncf (F := Ideal) .bf16 (mulf (extf .f32 u bitsLt_bf16_f32) (addf
    (matmul dot_S128x128_S128x256_S128x256_1_0_0_1_n_n none (k0_pay3 w) (k0_pay24 v g) (constant S128x256 .f32 0x00000000#32))
    (broadcastTo S128x256 (shapeCast S128x1 b shapeCasts_S1x128x1_S128x1) broadcasts_S128x1_S128x256))) bitsLt_bf16_f32 (ix2 r d) = _
  unfold mixed
  rw [truncf_apply, mulf_apply, addf_apply,
    broadcastTo_apply _ broadcasts_S128x1_S128x256 (ix2 r d) (ix2 r 0) (fun a => match a with
      | ⟨0, _⟩ => by show r.val = if (128 : ℕ) = 1 then 0 else r.val; rw [if_neg (by decide)]
      | ⟨1, _⟩ => by show 0 = if (1 : ℕ) = 1 then 0 else d.val; rw [if_pos rfl]),
    shapeCast_apply b shapeCasts_S1x128x1_S128x1 (ix2 r 0) (ix3 0 r 0) (by
      rw [Shape.rowMajor_val_three, Shape.rowMajor_val_two]; show (0 * 128 + r.val) * 1 + 0 = r.val * 1 + 0; omega)]
  refine congrArg₂ (fun a b : EReal => a * b) (at2_of (n := 128) (p := 256) u (ix2 r d) _ _ rfl rfl) ?_
  refine congrArg₂ (fun a b : EReal => a + b) ?_ (at3_of (n := 1) (p := 128) (q := 1) b (ix3 0 r 0) _ _ _ rfl rfl rfl)
  refine (product_apply (k0_pay3 w) (k0_pay24 v g) r d).trans (dot_congr (fun s hs => ?_) fun s hs => ?_)
  · rw [← at2_of (n := 128) (p := 128) (k0_pay3 (F := Ideal) w) (ix2 r ⟨s, hs⟩) r s rfl rfl]
    unfold k0_pay3
    rw [truncf_apply, shapeCast_apply w shapeCasts_S1x128x128_S128x128 (ix2 r ⟨s, hs⟩) (ix3 0 r ⟨s, hs⟩) (by
      rw [Shape.rowMajor_val_three, Shape.rowMajor_val_two]; show (0 * 128 + r.val) * 128 + s = r.val * 128 + s; omega)]
    exact at3_of (n := 1) (p := 128) (q := 128) w _ _ _ _ rfl rfl rfl
  · rw [← at2_of (n := 128) (p := 256) (k0_pay24 (F := Ideal) v g) (ix2 ⟨s, hs⟩ d) s d rfl rfl]
    exact scaled_apply v g ⟨s, hs⟩ d

section Point

variable (arg2 : Memref sig .tc .vmem S2048x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S2048x256 .bf16) (harg5 : arg5.IsWhole)
  (arg6 : Memref sig .tc .vmem S2048x256 .bf16) (harg6 : arg6.IsWhole)
  (arg7 : Memref sig .tc .vmem S3x256 .f32) (harg7 : arg7.IsWhole)
  (arg8 : Memref sig .tc .vmem S1x128x128 .f32) (harg8 : arg8.IsWhole)
  (arg9 : Memref sig .tc .vmem S1x128x1 .f32) (harg9 : arg9.IsWhole)
  (arg10 : Memref sig .tc .vmem S1x1x256 .f32) (harg10 : arg10.IsWhole)
  (arg11 : Memref sig .tc .vmem S2048x512 .bf16) (harg11 : arg11.IsWhole)
  (x0 x1 x2 x3 x4 : Vec Ideal S2048x256 .bf16) (x5 : Vec Ideal S3x256 .f32) (x6 : Vec Ideal S1x128x128 .f32)
  (x7 : Vec Ideal S1x128x1 .f32) (x8 : Vec Ideal S1x1x256 .f32)

/-- What a point leaves in its block, at a row and a column. -/
def value (r d : ℕ) : EReal :=
  if d < 256 then
    taps (fun k => at2 (n := 2048) (p := 256) x1 k d * at2 (n := 2048) (p := 256) x2 k d) r (at2 (n := 3) (p := 256) x5 0 d)
      (at2 (n := 3) (p := 256) x5 1 d) (at2 (n := 3) (p := 256) x5 2 d) (at2 (n := 2048) (p := 256) x0 r d)
  else
    mixed (at3 (n := 1) (p := 128) (q := 128) x6 0 (r % 128)) (fun s => at2 (n := 2048) (p := 256) x4 (r / 128 * 128 + s))
      (at3 (n := 1) (p := 1) (q := 256) x8 0 0 (d - 256)) (at3 (n := 1) (p := 128) (q := 1) x7 0 (r % 128) 0)
      (at2 (n := 2048) (p := 256) x3 r (d - 256)) (d - 256)

/-- A whole block as loaded, and some rows of it. -/
theorem rows_load (a : Memref sig .tc .vmem S2048x256 .bf16) (h : a.IsWhole) (x : Vec Ideal S2048x256 .bf16) (o n : ℕ)
    (inb : ∀ b : Fin 2, (![o, 0] : Fin 2 → ℕ) b + (![n, 256] : Fin 2 → ℕ) b ≤ S2048x256.size b) (k d : ℕ) (hk : k < n) (hd : d < 256) :
    at2 (n := n) (p := 256) (View.readAt (Elt Ideal) a.view (Rect.unit (s := S2048x256) ![o, 0] ![n, 256] inb).toLoadRect (h.unread x)) k d
      = at2 (n := 2048) (p := 256) x (o + k) d := by
  rw [← at2_of (n := n) (p := 256) _ (ix2 ⟨k, hk⟩ ⟨d, hd⟩) k d rfl rfl]
  refine (h.readAt_unread x _ _).trans (at2_of (n := 2048) (p := 256) x _ _ _ ?_ ?_)
  · show o + 1 * k = o + k; omega
  · show 0 + 1 * d = d; omega

theorem taps_load (o d : ℕ) (ho : o < 3) (hd : d < 256) :
    at2 (n := 3) (p := 256) (View.readAt (Elt Ideal) arg7.view (Rect.unit (s := S3x256) ![0, 0] S3x256.size inb_S3x256_S3x256_0_0).toLoadRect
      (harg7.unread x5)) o d = at2 (n := 3) (p := 256) x5 o d := by
  rw [← at2_of (n := 3) (p := 256) _ (ix2 ⟨o, ho⟩ ⟨d, hd⟩) o d rfl rfl]
  refine (harg7.readAt_unread x5 _ _).trans (at2_of (n := 3) (p := 256) x5 _ _ _ ?_ ?_)
  · show 0 + 1 * o = o; omega
  · show 0 + 1 * d = d; omega

/-- The group's matrix, its offsets and its gains as loaded. -/
theorem cube_load {n p q : ℕ} (a : Memref sig .tc .vmem ⟨3, ![n, p, q]⟩ .f32) (h : a.IsWhole) (x : Vec Ideal ⟨3, ![n, p, q]⟩ .f32)
    (inb : ∀ b : Fin 3, (![0, 0, 0] : Fin 3 → ℕ) b + (![n, p, q] : Fin 3 → ℕ) b ≤ (⟨3, ![n, p, q]⟩ : Shape).size b) (i j k : ℕ)
    (hi : i < n) (hj : j < p) (hk : k < q) :
    at3 (n := n) (p := p) (q := q) (View.readAt (Elt Ideal) a.view
      (Rect.unit (s := ⟨3, ![n, p, q]⟩) ![0, 0, 0] ![n, p, q] inb).toLoadRect (h.unread x)) i j k = at3 (n := n) (p := p) (q := q) x i j k := by
  rw [← at3_of (n := n) (p := p) (q := q) _ (ix3 ⟨i, hi⟩ ⟨j, hj⟩ ⟨k, hk⟩) i j k rfl rfl rfl]
  refine (h.readAt_unread x _ _).trans (at3_of (n := n) (p := p) (q := q) x _ _ _ _ ?_ ?_ ?_)
  · show 0 + 1 * i = i; omega
  · show 0 + 1 * j = j; omega
  · show 0 + 1 * k = k; omega

/-- The left half as the body stores it. -/
theorem piece_conv (z : S2048x256.Idx) :
    k0_pay2 (F := Ideal)
      (View.readAt (Elt Ideal) arg3.view (Rect.unit (s := S2048x256) ![0, 0] S2048x256.size inb_S2048x256_S2048x256_0_0).toLoadRect (harg3.unread x1))
      (View.readAt (Elt Ideal) arg4.view (Rect.unit (s := S2048x256) ![0, 0] S2048x256.size inb_S2048x256_S2048x256_0_0).toLoadRect (harg4.unread x2))
      (View.readAt (Elt Ideal) arg7.view (Rect.unit (s := S3x256) ![0, 0] S3x256.size inb_S3x256_S3x256_0_0).toLoadRect (harg7.unread x5))
      (View.readAt (Elt Ideal) arg2.view (Rect.unit (s := S2048x256) ![0, 0] S2048x256.size inb_S2048x256_S2048x256_0_0).toLoadRect (harg2.unread x0)) z
      = value x0 x1 x2 x3 x4 x5 x6 x7 x8 (((Rect.unit (s := S2048x512) ![0, 0] S2048x256.size inb_S2048x512_S2048x256_0_0).emb z 0 : Fin _) : ℕ)
          (((Rect.unit (s := S2048x512) ![0, 0] S2048x256.size inb_S2048x512_S2048x256_0_0).emb z 1 : Fin _) : ℕ) := by
  have h0 : (z 0).val < 2048 := (z 0).isLt
  have h1 : (z 1).val < 256 := (z 1).isLt
  have e0 : (((Rect.unit (s := S2048x512) ![0, 0] S2048x256.size inb_S2048x512_S2048x256_0_0).emb z 0 : Fin _) : ℕ) = (z 0).val := by
    show 0 + 1 * (z 0).val = _; omega
  have e1 : (((Rect.unit (s := S2048x512) ![0, 0] S2048x256.size inb_S2048x512_S2048x256_0_0).emb z 1 : Fin _) : ℕ) = (z 1).val := by
    show 0 + 1 * (z 1).val = _; omega
  have hl : ∀ (a : Memref sig .tc .vmem S2048x256 .bf16) (h : a.IsWhole) (x : Vec Ideal S2048x256 .bf16), ∀ k < 2048,
      at2 (n := 2048) (p := 256) (View.readAt (Elt Ideal) a.view (Rect.unit (s := S2048x256) ![0, 0] S2048x256.size inb_S2048x256_S2048x256_0_0).toLoadRect
        (h.unread x)) k (z 1).val = at2 (n := 2048) (p := 256) x k (z 1).val := fun a h x k hk =>
    (rows_load a h x 0 2048 _ k _ hk h1).trans (by rw [Nat.zero_add])
  rw [e0, e1]
  unfold value
  rw [if_pos h1]
  refine (congrArg _ (eq_ix2 z)).trans ((conv_apply _ _ _ _ (z 0) (z 1)).trans ?_)
  exact taps_congr h0 (fun k hk => congrArg₂ (fun a b : EReal => a * b) (hl arg3 harg3 x1 k hk) (hl arg4 harg4 x2 k hk))
    (taps_load arg7 harg7 x5 0 _ (by decide) h1) (taps_load arg7 harg7 x5 1 _ (by decide) h1) (taps_load arg7 harg7 x5 2 _ (by decide) h1)
    (hl arg2 harg2 x0 _ h0)

/-- A chunk of the right half as the body stores it. -/
theorem piece_strip (o : ℕ) (ho : o % 128 = 0) (inb : ∀ a : Fin 2, (![o, 256] : Fin 2 → ℕ) a + S128x256.size a ≤ S2048x512.size a)
    (inl : ∀ a : Fin 2, (![o, 0] : Fin 2 → ℕ) a + S128x256.size a ≤ S2048x256.size a) (z : S128x256.Idx) :
    k0_pay4 (F := Ideal)
      (k0_pay3 (View.readAt (Elt Ideal) arg8.view (Rect.unit (s := S1x128x128) ![0, 0, 0] S1x128x128.size inb_S1x128x128_S1x128x128_0_0_0).toLoadRect (harg8.unread x6)))
      (View.readAt (Elt Ideal) arg6.view (Rect.unit (s := S2048x256) ![o, 0] S128x256.size inl).toLoadRect (harg6.unread x4))
      (View.readAt (Elt Ideal) arg10.view (Rect.unit (s := S1x1x256) ![0, 0, 0] S1x1x256.size inb_S1x1x256_S1x1x256_0_0_0).toLoadRect (harg10.unread x8))
      (View.readAt (Elt Ideal) arg9.view (Rect.unit (s := S1x128x1) ![0, 0, 0] S1x128x1.size inb_S1x128x1_S1x128x1_0_0_0).toLoadRect (harg9.unread x7))
      (View.readAt (Elt Ideal) arg5.view (Rect.unit (s := S2048x256) ![o, 0] S128x256.size inl).toLoadRect (harg5.unread x3)) z
      = value x0 x1 x2 x3 x4 x5 x6 x7 x8 (((Rect.unit (s := S2048x512) ![o, 256] S128x256.size inb).emb z 0 : Fin _) : ℕ)
          (((Rect.unit (s := S2048x512) ![o, 256] S128x256.size inb).emb z 1 : Fin _) : ℕ) := by
  have h0 : (z 0).val < 128 := (z 0).isLt
  have h1 : (z 1).val < 256 := (z 1).isLt
  have e0 : (((Rect.unit (s := S2048x512) ![o, 256] S128x256.size inb).emb z 0 : Fin _) : ℕ) = o + (z 0).val := by
    show o + 1 * (z 0).val = _; omega
  have e1 : (((Rect.unit (s := S2048x512) ![o, 256] S128x256.size inb).emb z 1 : Fin _) : ℕ) = 256 + (z 1).val := by
    show 256 + 1 * (z 1).val = _; omega
  rw [e0, e1]
  unfold value
  rw [if_neg (by omega), show (o + (z 0).val) % 128 = (z 0).val by omega, show (o + (z 0).val) / 128 * 128 = o by omega,
    show 256 + (z 1).val - 256 = (z 1).val by omega]
  refine (congrArg _ (eq_ix2 z)).trans ((strip_apply _ _ _ _ _ (z 0) (z 1)).trans ?_)
  exact mixed_congr h1 (fun s hs => cube_load arg8 harg8 x6 _ 0 _ s (by decide) h0 hs)
    (fun s hs l hl => rows_load arg6 harg6 x4 o 128 _ s l hs hl)
    (cube_load arg10 harg10 x8 _ 0 0 _ (by decide) (by decide) h1)
    (cube_load arg9 harg9 x7 _ 0 _ 0 (by decide) h0 (by decide))
    (rows_load arg5 harg5 x3 o 128 _ _ _ h0 h1)

variable (c : Dev nD) (i : grid0.Coords)

/-- What a point leaves in its block. -/
theorem out_apply (y : S2048x512.Idx) :
    (out0_A_9 (F := Ideal) c i arg2 harg2 arg3 harg3 arg4 harg4 arg5 harg5 arg6 harg6 arg7 harg7 arg8 harg8 arg9 harg9 arg10 harg10 arg11 harg11 x0 x1 x2 x3 x4 x5 x6 x7 x8 y : EReal)
      = value x0 x1 x2 x3 x4 x5 x6 x7 x8 (y 0) (y 1) := by
  unfold out0_A_9
  refine View.read_writes_apply_of_pieces (Val := Elt Ideal) _ _
    (fun y : S2048x512.Idx => (value x0 x1 x2 x3 x4 x5 x6 x7 x8 (y 0) (y 1) : Elt Ideal .bf16)) _ ?_ y
    (cover0_A_9 c i arg2 harg2 arg3 harg3 arg4 harg4 arg5 harg5 arg6 harg6 arg7 harg7 arg8 harg8 arg9 harg9 arg10 harg10 arg11 harg11 x0 x1 x2 x3 x4 x5 x6 x7 x8 y)
  intro p hp z
  unfold kernelRun0_A at hp
  dsimp only at hp
  simp only [List.mem_cons, List.not_mem_nil, or_false] at hp
  rcases hp with rfl | rfl | rfl | rfl | rfl | rfl | rfl | rfl | rfl | rfl | rfl | rfl | rfl | rfl | rfl | rfl | rfl
  · exact piece_strip arg5 harg5 arg6 harg6 arg8 harg8 arg9 harg9 arg10 harg10 x0 x1 x2 x3 x4 x5 x6 x7 x8 1920 rfl inb_S2048x512_S128x256_1920_256 inb_S2048x256_S128x256_1920_0 z
  · exact piece_strip arg5 harg5 arg6 harg6 arg8 harg8 arg9 harg9 arg10 harg10 x0 x1 x2 x3 x4 x5 x6 x7 x8 1792 rfl inb_S2048x512_S128x256_1792_256 inb_S2048x256_S128x256_1792_0 z
  · exact piece_strip arg5 harg5 arg6 harg6 arg8 harg8 arg9 harg9 arg10 harg10 x0 x1 x2 x3 x4 x5 x6 x7 x8 1664 rfl inb_S2048x512_S128x256_1664_256 inb_S2048x256_S128x256_1664_0 z
  · exact piece_strip arg5 harg5 arg6 harg6 arg8 harg8 arg9 harg9 arg10 harg10 x0 x1 x2 x3 x4 x5 x6 x7 x8 1536 rfl inb_S2048x512_S128x256_1536_256 inb_S2048x256_S128x256_1536_0 z
  · exact piece_strip arg5 harg5 arg6 harg6 arg8 harg8 arg9 harg9 arg10 harg10 x0 x1 x2 x3 x4 x5 x6 x7 x8 1408 rfl inb_S2048x512_S128x256_1408_256 inb_S2048x256_S128x256_1408_0 z
  · exact piece_strip arg5 harg5 arg6 harg6 arg8 harg8 arg9 harg9 arg10 harg10 x0 x1 x2 x3 x4 x5 x6 x7 x8 1280 rfl inb_S2048x512_S128x256_1280_256 inb_S2048x256_S128x256_1280_0 z
  · exact piece_strip arg5 harg5 arg6 harg6 arg8 harg8 arg9 harg9 arg10 harg10 x0 x1 x2 x3 x4 x5 x6 x7 x8 1152 rfl inb_S2048x512_S128x256_1152_256 inb_S2048x256_S128x256_1152_0 z
  · exact piece_strip arg5 harg5 arg6 harg6 arg8 harg8 arg9 harg9 arg10 harg10 x0 x1 x2 x3 x4 x5 x6 x7 x8 1024 rfl inb_S2048x512_S128x256_1024_256 inb_S2048x256_S128x256_1024_0 z
  · exact piece_strip arg5 harg5 arg6 harg6 arg8 harg8 arg9 harg9 arg10 harg10 x0 x1 x2 x3 x4 x5 x6 x7 x8 896 rfl inb_S2048x512_S128x256_896_256 inb_S2048x256_S128x256_896_0 z
  · exact piece_strip arg5 harg5 arg6 harg6 arg8 harg8 arg9 harg9 arg10 harg10 x0 x1 x2 x3 x4 x5 x6 x7 x8 768 rfl inb_S2048x512_S128x256_768_256 inb_S2048x256_S128x256_768_0 z
  · exact piece_strip arg5 harg5 arg6 harg6 arg8 harg8 arg9 harg9 arg10 harg10 x0 x1 x2 x3 x4 x5 x6 x7 x8 640 rfl inb_S2048x512_S128x256_640_256 inb_S2048x256_S128x256_640_0 z
  · exact piece_strip arg5 harg5 arg6 harg6 arg8 harg8 arg9 harg9 arg10 harg10 x0 x1 x2 x3 x4 x5 x6 x7 x8 512 rfl inb_S2048x512_S128x256_512_256 inb_S2048x256_S128x256_512_0 z
  · exact piece_strip arg5 harg5 arg6 harg6 arg8 harg8 arg9 harg9 arg10 harg10 x0 x1 x2 x3 x4 x5 x6 x7 x8 384 rfl inb_S2048x512_S128x256_384_256 inb_S2048x256_S128x256_384_0 z
  · exact piece_strip arg5 harg5 arg6 harg6 arg8 harg8 arg9 harg9 arg10 harg10 x0 x1 x2 x3 x4 x5 x6 x7 x8 256 rfl inb_S2048x512_S128x256_256_256 inb_S2048x256_S128x256_256_0 z
  · exact piece_strip arg5 harg5 arg6 harg6 arg8 harg8 arg9 harg9 arg10 harg10 x0 x1 x2 x3 x4 x5 x6 x7 x8 128 rfl inb_S2048x512_S128x256_128_256 inb_S2048x256_S128x256_128_0 z
  · exact piece_strip arg5 harg5 arg6 harg6 arg8 harg8 arg9 harg9 arg10 harg10 x0 x1 x2 x3 x4 x5 x6 x7 x8 0 rfl inb_S2048x512_S128x256_0_256 inb_S2048x256_S128x256_0_0 z
  · exact piece_conv arg2 harg2 arg3 harg3 arg4 harg4 arg7 harg7 x0 x1 x2 x3 x4 x5 x6 x7 x8 z

end Point

end Cert.MixerIdeal.Block

end
-- ==== Proof.MixerValue.lean ====
/-
  The mixer as a whole: the blocks its points read, the array they leave, and that its reference computes the same.
-/
module

public import proofs.«01_k».proof.Proof.MixerBlock
public import proofs.«01_k».proof.Proof.Gen.MixerRefIdeal.Read

@[expose] public section

set_option maxRecDepth 16384

noncomputable section

namespace Cert.MixerIdeal.Block

open Cert.Attention Idealize.ShloMosaic Idealize.ShloMosaic.ValueIdx

/-- The mixer's result at a row, a group and one of its 512 columns, from the projections `p`, the taps `w`, the groups'
    matrices `a`, their offsets `b` and their gains `g`. -/
def entire (p w : ℕ → ℕ → EReal) (a : ℕ → ℕ → ℕ → EReal) (b g : ℕ → ℕ → EReal) (r e d : ℕ) : EReal :=
  if d < 256 then
    taps (fun k => p (r / 2048 * 2048 + k) (2048 + (e * 256 + d)) * p (r / 2048 * 2048 + k) (4096 + (e * 256 + d))) (r % 2048)
      (w 0 (e * 256 + d)) (w 1 (e * 256 + d)) (w 2 (e * 256 + d)) (p r (e * 256 + d))
  else
    mixed (a e (r % 128)) (fun s l => p (r / 128 * 128 + s) (8192 + (e * 256 + l))) (g e (d - 256)) (b e (r % 128))
      (p r (6144 + (e * 256 + (d - 256)))) (d - 256)

end Cert.MixerIdeal.Block

namespace Cert.MixerRefIdeal.Mixer

open Cert.MixerRefIdeal Cert.MixerRefIdeal.Gen Cert.MixerRefIdeal.Read Cert.Attention Cert.MixerIdeal.Block Idealize.ShloMosaic
  Idealize.ShloMosaic.ValueIdx

variable (p : FVec Ideal S16384x10240 .bf16) (w : FVec Ideal S3x2048 .f32) (a : FVec Ideal S8x128x128 .f32)
  (b : FVec Ideal S8x128 .f32) (g : FVec Ideal S8x256 .f32)

/-- The projections of one sequence, read at its position. -/
theorem seq_apply (i : S8x2048x10240.Idx) :
    val_main_v1 (F := Ideal) p i = at2 (n := 16384) (p := 10240) p ((i 0).val * 2048 + (i 1).val) (i 2).val := by
  have h0 : (i 0).val < 8 := (i 0).isLt
  have h1 : (i 1).val < 2048 := (i 1).isLt
  have h2 : (i 2).val < 10240 := (i 2).isLt
  rw [val_main_v1_apply, val_main_v0_apply]
  refine at2_of (n := 16384) (p := 10240) p (idx_main_v1 i) _ _ ?_ ?_
  · show (((i 0).val * 2048 + (i 1).val) * 10240 + (i 2).val) / 10240 = _; omega
  · show (((i 0).val * 2048 + (i 1).val) * 10240 + (i 2).val) % 10240 = _; omega

/-- Its five parts. -/
theorem part0 (i : S8x2048x2048.Idx) :
    val_main_v2 (F := Ideal) p i = at2 (n := 16384) (p := 10240) p ((i 0).val * 2048 + (i 1).val) (i 2).val := by
  rw [val_main_v2_apply]
  exact seq_apply p _

theorem part1 (i : S8x2048x2048.Idx) :
    val_main_v3 (F := Ideal) p i = at2 (n := 16384) (p := 10240) p ((i 0).val * 2048 + (i 1).val) (2048 + (i 2).val) := by
  rw [val_main_v3_apply]
  exact seq_apply p _

theorem part2 (i : S8x2048x2048.Idx) :
    val_main_v4 (F := Ideal) p i = at2 (n := 16384) (p := 10240) p ((i 0).val * 2048 + (i 1).val) (4096 + (i 2).val) := by
  rw [val_main_v4_apply]
  exact seq_apply p _

theorem part3 (i : S8x2048x2048.Idx) :
    val_main_v5 (F := Ideal) p i = at2 (n := 16384) (p := 10240) p ((i 0).val * 2048 + (i 1).val) (6144 + (i 2).val) := by
  rw [val_main_v5_apply]
  exact seq_apply p _

theorem part4 (i : S8x2048x2048.Idx) :
    val_main_v6 (F := Ideal) p i = at2 (n := 16384) (p := 10240) p ((i 0).val * 2048 + (i 1).val) (8192 + (i 2).val) := by
  rw [val_main_v6_apply]
  exact seq_apply p _

/-- What the convolution runs over. -/
def along (s d k : ℕ) : EReal :=
  at2 (n := 16384) (p := 10240) p (s * 2048 + k) (2048 + d) * at2 (n := 16384) (p := 10240) p (s * 2048 + k) (4096 + d)

/-- The same with a zero before and a zero after each sequence. -/
theorem padded (j : S8x2050x2048.Idx) :
    val_main_v8 (F := Ideal) p j
      = if (j 1).val = 0 ∨ (j 1).val = 2049 then 0 else along p (j 0).val (j 2).val ((j 1).val - 1) := by
  have h1 : (j 1).val < 2050 := (j 1).isLt
  unfold val_main_v8
  by_cases h : (j 1).val = 0 ∨ (j 1).val = 2049
  · rw [if_pos h]
    refine (pad_apply_of_not_inside _ _ _ _ _ pads_S8x2048x2048_S8x2050x2048_000_110_000 h_S_ j (1 : Fin 3) ?_).trans ?_
    · rintro ⟨ha, -, hb⟩
      have ha' : 1 ≤ (j 1).val := ha
      have hb' : ((j 1).val - 1) / 1 < 2048 := hb
      omega
    · rw [val_main_call0_v0_apply, val_main_c_apply]
      show (((0#32 : BitVec 32).toInt : ℝ) : EReal) = 0
      simp
  · rw [if_neg h]
    refine (pad_apply_of_inside _ _ _ _ _ pads_S8x2048x2048_S8x2050x2048_000_110_000 h_S_ j
      (ix3 ⟨(j 0).val, (j 0).isLt⟩ ⟨(j 1).val - 1, by omega⟩ ⟨(j 2).val, (j 2).isLt⟩) (fun x => match x with
        | ⟨0, _⟩ => by show (j 0).val = 0 + (j 0).val * 1; omega
        | ⟨1, _⟩ => by show (j 1).val = 1 + ((j 1).val - 1) * 1; omega
        | ⟨2, _⟩ => by show (j 2).val = 0 + (j 2).val * 1; omega)).trans ?_
    rw [val_main_v7_apply, part1, part2]
    rfl

/-- A tap, spread over the sequences. -/
theorem tap0 (i : S8x2048x2048.Idx) : val_main_v13 (F := Ideal) w i = at2 (n := 3) (p := 2048) w 0 (i 2).val := by
  rw [val_main_v13_apply, val_main_v12_apply, val_main_v11_apply, val_main_v10_apply]
  exact at2_of (n := 3) (p := 2048) w _ _ _ rfl (Nat.mod_eq_of_lt (i 2).isLt)

theorem tap1 (i : S8x2048x2048.Idx) : val_main_v19 (F := Ideal) w i = at2 (n := 3) (p := 2048) w 1 (i 2).val := by
  rw [val_main_v19_apply, val_main_v18_apply, val_main_v17_apply, val_main_v16_apply]
  exact at2_of (n := 3) (p := 2048) w _ _ _ rfl (Nat.mod_eq_of_lt (i 2).isLt)

theorem tap2 (i : S8x2048x2048.Idx) : val_main_v26 (F := Ideal) w i = at2 (n := 3) (p := 2048) w 2 (i 2).val := by
  rw [val_main_v26_apply, val_main_v25_apply, val_main_v24_apply, val_main_v23_apply]
  exact at2_of (n := 3) (p := 2048) w _ _ _ rfl (Nat.mod_eq_of_lt (i 2).isLt)

/-- The convolution. -/
theorem conv_apply (i : S8x2048x2048.Idx) :
    val_main_v29 (F := Ideal) p w i
      = taps (along p (i 0).val (i 2).val) (i 1).val (at2 (n := 3) (p := 2048) w 0 (i 2).val) (at2 (n := 3) (p := 2048) w 1 (i 2).val)
          (at2 (n := 3) (p := 2048) w 2 (i 2).val) (at2 (n := 16384) (p := 10240) p ((i 0).val * 2048 + (i 1).val) (i 2).val) := by
  have h1 : (i 1).val < 2048 := (i 1).isLt
  rw [val_main_v29_apply, val_main_v28_apply, val_main_v21_apply, val_main_v27_apply, val_main_v20_apply, val_main_v14_apply,
    part0, tap0, tap1, tap2, val_main_v9_apply, val_main_v15_apply, val_main_v22_apply, padded, padded, padded]
  unfold taps
  refine congrArg (fun c : EReal => _ * c) ?_
  refine congrArg₂ (fun c d : EReal => c + d) (congrArg₂ (fun c d : EReal => c + d) ?_ ?_) ?_
  · refine congrArg (fun c : EReal => c * _) ?_
    show (if (i 1).val = 0 ∨ (i 1).val = 2049 then 0 else along p (i 0).val (i 2).val ((i 1).val - 1)) = _
    by_cases h : (i 1).val = 0
    · rw [if_pos (Or.inl h), if_pos h]
    · rw [if_neg (by omega), if_neg h]
  · refine congrArg (fun c : EReal => c * _) ?_
    show (if 1 + (i 1).val = 0 ∨ 1 + (i 1).val = 2049 then 0 else along p (i 0).val (i 2).val (1 + (i 1).val - 1)) = _
    rw [if_neg (by omega), Nat.add_sub_cancel_left]
  · refine congrArg (fun c : EReal => c * _) ?_
    show (if 2 + (i 1).val = 0 ∨ 2 + (i 1).val = 2049 then 0 else along p (i 0).val (i 2).val (2 + (i 1).val - 1)) = _
    by_cases h : (i 1).val = 2047
    · rw [if_pos (by omega), if_pos h]
    · rw [if_neg (by omega), if_neg h, show 2 + (i 1).val - 1 = (i 1).val + 1 by omega]

/-- The rows to mix, cut into chunks and groups. -/
theorem chunk_apply (i : S8x16x128x8x256.Idx) :
    val_main_v30 (F := Ideal) p i = at2 (n := 16384) (p := 10240) p ((i 0).val * 2048 + ((i 1).val * 128 + (i 2).val))
      (8192 + ((i 3).val * 256 + (i 4).val)) := by
  have h0 : (i 0).val < 8 := (i 0).isLt
  have h1 : (i 1).val < 16 := (i 1).isLt
  have h2 : (i 2).val < 128 := (i 2).isLt
  have h3 : (i 3).val < 8 := (i 3).isLt
  have h4 : (i 4).val < 256 := (i 4).isLt
  rw [val_main_v30_apply, part4]
  show at2 p ((((((i 0).val * 16 + (i 1).val) * 128 + (i 2).val) * 8 + (i 3).val) * 256 + (i 4).val) / 4194304 * 2048
      + (((((i 0).val * 16 + (i 1).val) * 128 + (i 2).val) * 8 + (i 3).val) * 256 + (i 4).val) / 2048 % 2048)
    (8192 + (((((i 0).val * 16 + (i 1).val) * 128 + (i 2).val) * 8 + (i 3).val) * 256 + (i 4).val) % 2048) = _
  refine congrArg₂ (at2 (n := 16384) (p := 10240) p) ?_ ?_ <;> omega

/-- The same after the normalisation. -/
theorem scaled_apply (i : S8x16x128x8x256.Idx) :
    val_main_v43 (F := Ideal) p g i = scaled (fun l => at2 (n := 16384) (p := 10240) p ((i 0).val * 2048 + ((i 1).val * 128 + (i 2).val))
      (8192 + ((i 3).val * 256 + l))) (at2 (n := 8) (p := 256) g (i 3).val (i 4).val) (i 4).val := by
  rw [val_main_v43_apply, val_main_v40_apply, chunk_apply, val_main_v39_apply, val_main_v38_apply, val_main_v37_apply,
    val_main_v36_apply, val_main_cst_1_apply, val_main_v35_apply, val_main_v34_apply, val_main_cst_0_apply, val_main_v33_apply,
    val_main_v32_apply, val_main_cst_apply, val_main_v42_apply, val_main_v41_apply]
  unfold scaled
  refine congrArg₂ (fun c d : EReal => c * d) ?_ (at2_of (n := 8) (p := 256) g _ _ _ rfl rfl)
  refine congrArg (fun c : EReal => _ * c) ?_
  show Ideal.rsqrt (Ideal.div (Ideal.ofBits .f32 0x00000000#32 + _) _ + _) = _
  refine congrArg (fun c : EReal => Ideal.rsqrt (Ideal.div c _ + _)) ?_
  rw [Ideal.ofBits_zero_f32, zero_add]
  refine Finset.sum_congr rfl fun l _ => ?_
  rw [val_main_v31_apply, chunk_apply]
  rfl

/-- The mixed chunks. -/
theorem mixed_apply (i : S8x16x128x8x256.Idx) :
    val_main_v49 (F := Ideal) p a b g i
      = dot 128 (at3 (n := 8) (p := 128) (q := 128) a (i 3).val (i 2).val) (fun s => scaled (fun l => at2 (n := 16384) (p := 10240) p
          ((i 0).val * 2048 + ((i 1).val * 128 + s)) (8192 + ((i 3).val * 256 + l))) (at2 (n := 8) (p := 256) g (i 3).val (i 4).val) (i 4).val)
        + at2 (n := 8) (p := 128) b (i 3).val (i 2).val := by
  rw [val_main_v49_apply, val_main_v45_apply, val_main_v44_apply, val_main_v48_apply, val_main_v47_apply, val_main_v46_apply]
  refine congrArg₂ (fun c d : EReal => c + d) ?_ (at2_of (n := 8) (p := 128) b _ _ _ rfl rfl)
  unfold dot
  refine Finset.sum_congr rfl fun k _ => ?_
  rw [scaled_apply, mul_comm]
  exact congrArg (fun c : EReal => c * _) (at3_of (n := 8) (p := 128) (q := 128) a _ _ _ _ rfl rfl rfl)

/-- The two halves of a group's columns. -/
theorem left_apply (i : S16384x8x256.Idx) :
    val_main_v52 (F := Ideal) p w i
      = entire (at2 (n := 16384) (p := 10240) p) (at2 (n := 3) (p := 2048) w) (at3 (n := 8) (p := 128) (q := 128) a)
          (at2 (n := 8) (p := 128) b) (at2 (n := 8) (p := 256) g) (i 0).val (i 1).val (i 2).val := by
  have h0 : (i 0).val < 16384 := (i 0).isLt
  have h1 : (i 1).val < 8 := (i 1).isLt
  have h2 : (i 2).val < 256 := (i 2).isLt
  rw [val_main_v52_apply, conv_apply]
  unfold entire
  rw [if_pos h2]
  have e0 : ((idx_main_v52 i 0 : Fin _) : ℕ) = (i 0).val / 2048 := by
    show (((i 0).val * 8 + (i 1).val) * 256 + (i 2).val) / 4194304 = _; omega
  have e1 : ((idx_main_v52 i 1 : Fin _) : ℕ) = (i 0).val % 2048 := by
    show (((i 0).val * 8 + (i 1).val) * 256 + (i 2).val) / 2048 % 2048 = _; omega
  have e2 : ((idx_main_v52 i 2 : Fin _) : ℕ) = (i 1).val * 256 + (i 2).val := by
    show (((i 0).val * 8 + (i 1).val) * 256 + (i 2).val) % 2048 = _; omega
  rw [e0, e1, e2, show (i 0).val / 2048 * 2048 + (i 0).val % 2048 = (i 0).val by omega]
  rfl

theorem right_apply (i : S16384x8x256.Idx) :
    val_main_v53 (F := Ideal) p a b g i
      = entire (at2 (n := 16384) (p := 10240) p) (at2 (n := 3) (p := 2048) w) (at3 (n := 8) (p := 128) (q := 128) a)
          (at2 (n := 8) (p := 128) b) (at2 (n := 8) (p := 256) g) (i 0).val (i 1).val (256 + (i 2).val) := by
  have h0 : (i 0).val < 16384 := (i 0).isLt
  have h1 : (i 1).val < 8 := (i 1).isLt
  have h2 : (i 2).val < 256 := (i 2).isLt
  rw [val_main_v53_apply, val_main_v51_apply, part3, val_main_v50_apply, mixed_apply]
  unfold entire mixed
  rw [if_neg (by omega), Nat.add_sub_cancel_left]
  have e0 : ((idx_main_v53 i 0 : Fin _) : ℕ) = (i 0).val / 2048 := by
    show (((i 0).val * 8 + (i 1).val) * 256 + (i 2).val) / 4194304 = _; omega
  have e1 : ((idx_main_v53 i 1 : Fin _) : ℕ) = (i 0).val % 2048 := by
    show (((i 0).val * 8 + (i 1).val) * 256 + (i 2).val) / 2048 % 2048 = _; omega
  have e2 : ((idx_main_v53 i 2 : Fin _) : ℕ) = (i 1).val * 256 + (i 2).val := by
    show (((i 0).val * 8 + (i 1).val) * 256 + (i 2).val) % 2048 = _; omega
  generalize idx_main_v53 i = j at e0 e1 e2
  have f0 : ((idx_main_v50 j 0 : Fin _) : ℕ) = (i 0).val / 2048 := by
    show (((j 0).val * 2048 + (j 1).val) * 2048 + (j 2).val) / 4194304 = _; rw [e0, e1, e2]; omega
  have f1 : ((idx_main_v50 j 1 : Fin _) : ℕ) = (i 0).val % 2048 / 128 := by
    show (((j 0).val * 2048 + (j 1).val) * 2048 + (j 2).val) / 262144 % 16 = _; rw [e0, e1, e2]; omega
  have f2 : ((idx_main_v50 j 2 : Fin _) : ℕ) = (i 0).val % 128 := by
    show (((j 0).val * 2048 + (j 1).val) * 2048 + (j 2).val) / 2048 % 128 = _; rw [e0, e1, e2]; omega
  have f3 : ((idx_main_v50 j 3 : Fin _) : ℕ) = (i 1).val := by
    show (((j 0).val * 2048 + (j 1).val) * 2048 + (j 2).val) / 256 % 8 = _; rw [e0, e1, e2]; omega
  have f4 : ((idx_main_v50 j 4 : Fin _) : ℕ) = (i 2).val := by
    show (((j 0).val * 2048 + (j 1).val) * 2048 + (j 2).val) % 256 = _; rw [e0, e1, e2]; omega
  rw [e0, e1, e2, f0, f1, f2, f3, f4, show (i 0).val / 2048 * 2048 + (i 0).val % 2048 = (i 0).val by omega]
  have hs : ∀ s, (i 0).val / 2048 * 2048 + ((i 0).val % 2048 / 128 * 128 + s) = (i 0).val / 128 * 128 + s := fun s => by omega
  simp only [hs]
  rfl

/-- The reference's result. -/
theorem whole_apply (i : S16384x4096.Idx) :
    val_main_v56 (F := Ideal) p w a b g i
      = entire (at2 (n := 16384) (p := 10240) p) (at2 (n := 3) (p := 2048) w) (at3 (n := 8) (p := 128) (q := 128) a)
          (at2 (n := 8) (p := 128) b) (at2 (n := 8) (p := 256) g) (i 0).val ((i 1).val / 512) ((i 1).val % 512) := by
  have h0 : (i 0).val < 16384 := (i 0).isLt
  have h1 : (i 1).val < 4096 := (i 1).isLt
  rw [val_main_v56_apply, val_main_v55_apply]
  show val_main_v54 (F := Ideal) p w a b g (idx_main_v55 i) = _
  have e : idx_main_v55 i = ix3 ⟨(i 0).val, h0⟩ ⟨(i 1).val / 512, by omega⟩ ⟨(i 1).val % 512, by omega⟩ := funext fun x => Fin.ext (by
    match x with
    | ⟨0, _⟩ => show ((i 0).val * 4096 + (i 1).val) / 4096 = (i 0).val; omega
    | ⟨1, _⟩ => show ((i 0).val * 4096 + (i 1).val) / 512 % 8 = (i 1).val / 512; omega
    | ⟨2, _⟩ => show ((i 0).val * 4096 + (i 1).val) % 512 = (i 1).val % 512; omega)
  rw [e]
  generalize hj : (ix3 ⟨(i 0).val, h0⟩ ⟨(i 1).val / 512, by omega⟩ ⟨(i 1).val % 512, by omega⟩ : S16384x8x512.Idx) = j
  have hj0 : (j 0).val = (i 0).val := by rw [← hj]
  have hj1 : (j 1).val = (i 1).val / 512 := by rw [← hj]
  have hj2 : (j 2).val = (i 1).val % 512 := by rw [← hj]
  unfold val_main_v54
  by_cases h : (i 1).val % 512 < 256
  · refine (concatenate_apply_piece 2 _ _ j 0 (by show 0 < 2; omega) S16384x8x256 _ rfl rfl 0 rfl
      (ix3 ⟨(i 0).val, h0⟩ ⟨(i 1).val / 512, by omega⟩ ⟨(i 1).val % 512, h⟩)
      (fun x hx => match x with | ⟨0, _⟩ => hj0.symm | ⟨1, _⟩ => hj1.symm | ⟨2, _⟩ => absurd rfl hx)
      (by show 0 + (i 1).val % 512 = (j 2).val; omega)).trans ?_
    exact left_apply p w a b g _
  · refine (concatenate_apply_piece 2 _ _ j 1 (by show 1 < 2; omega) S16384x8x256 _ rfl rfl 256 rfl
      (ix3 ⟨(i 0).val, h0⟩ ⟨(i 1).val / 512, by omega⟩ ⟨(i 1).val % 512 - 256, by omega⟩)
      (fun x hx => match x with | ⟨0, _⟩ => hj0.symm | ⟨1, _⟩ => hj1.symm | ⟨2, _⟩ => absurd rfl hx)
      (by show 256 + ((i 1).val % 512 - 256) = (j 2).val; omega)).trans ?_
    refine (right_apply p w a b g _).trans ?_
    show entire _ _ _ _ _ (i 0).val ((i 1).val / 512) (256 + ((i 1).val % 512 - 256)) = _
    rw [show 256 + ((i 1).val % 512 - 256) = (i 1).val % 512 by omega]

end Cert.MixerRefIdeal.Mixer

namespace Cert.MixerIdeal.Block

open Cert.MixerIdeal Cert.MixerIdeal.Gen Cert.Attention Idealize.ShloMosaic Idealize.ShloMosaic.ValueIdx
  Idealize.ShloMosaic.TcCoe Idealize.SL.Sem

/-- Which block each window reads or writes at point `t`: sequence `t / 8`, group `t % 8`. -/
theorem idx_facts : ∀ t : Fin cfg0.N,
    (win0_0.index t (0 : Fin 2) = t.val / 8 ∧ win0_0.index t (1 : Fin 2) = t.val % 8)
    ∧ (win0_1.index t (0 : Fin 2) = t.val / 8 ∧ win0_1.index t (1 : Fin 2) = t.val % 8 + 8)
    ∧ (win0_2.index t (0 : Fin 2) = t.val / 8 ∧ win0_2.index t (1 : Fin 2) = t.val % 8 + 16)
    ∧ (win0_3.index t (0 : Fin 2) = t.val / 8 ∧ win0_3.index t (1 : Fin 2) = t.val % 8 + 24)
    ∧ (win0_4.index t (0 : Fin 2) = t.val / 8 ∧ win0_4.index t (1 : Fin 2) = t.val % 8 + 32)
    ∧ (win0_5.index t (0 : Fin 2) = 0 ∧ win0_5.index t (1 : Fin 2) = t.val % 8)
    ∧ (win0_6.index t (0 : Fin 3) = t.val % 8 ∧ win0_6.index t (1 : Fin 3) = 0 ∧ win0_6.index t (2 : Fin 3) = 0)
    ∧ (win0_7.index t (0 : Fin 3) = t.val % 8 ∧ win0_7.index t (1 : Fin 3) = 0 ∧ win0_7.index t (2 : Fin 3) = 0)
    ∧ (win0_8.index t (0 : Fin 3) = t.val % 8 ∧ win0_8.index t (1 : Fin 3) = 0 ∧ win0_8.index t (2 : Fin 3) = 0)
    ∧ (win0_9.index t (0 : Fin 2) = t.val / 8 ∧ win0_9.index t (1 : Fin 2) = t.val % 8) :=
  (by decide +kernel : ∀ t : Fin grid0.N, _)

variable (m : (ℓ : Loc nD τ sig) → Buf (Elt Ideal) ℓ)

/-- The five parts of the projections point `t` reads. -/
theorem blk0_at (c : Dev nD) (t : Fin cfg0.N) (k d : ℕ) (hk : k < 2048) (hd : d < 256) :
    at2 (n := 2048) (p := 256) (iblk m c 0 t) k d
      = at2 (n := 16384) (p := 10240) (m ((c : Thread nD τ).loc main_arg0)) (t.val / 8 * 2048 + k) (t.val % 8 * 256 + d) := by
  obtain ⟨⟨f0, f1⟩, -⟩ := idx_facts t
  rw [← at2_of (n := 2048) (p := 256) (iblk m c 0 t) (ix2 ⟨k, hk⟩ ⟨d, hd⟩) k d rfl rfl]
  refine at2_of (n := 16384) (p := 10240) (m ((c : Thread nD τ).loc main_arg0)) ((win0_0.rect t).emb (ix2 ⟨k, hk⟩ ⟨d, hd⟩)) _ _ ?_ ?_
  · rw [← f0]; exact win0_0.rect_emb_val t _ (0 : Fin 2)
  · rw [← f1]; exact win0_0.rect_emb_val t _ (1 : Fin 2)

theorem blk1_at (c : Dev nD) (t : Fin cfg0.N) (k d : ℕ) (hk : k < 2048) (hd : d < 256) :
    at2 (n := 2048) (p := 256) (iblk m c 1 t) k d
      = at2 (n := 16384) (p := 10240) (m ((c : Thread nD τ).loc main_arg0)) (t.val / 8 * 2048 + k) (2048 + (t.val % 8 * 256 + d)) := by
  obtain ⟨-, ⟨f0, f1⟩, -⟩ := idx_facts t
  rw [← at2_of (n := 2048) (p := 256) (iblk m c 1 t) (ix2 ⟨k, hk⟩ ⟨d, hd⟩) k d rfl rfl]
  refine at2_of (n := 16384) (p := 10240) (m ((c : Thread nD τ).loc main_arg0)) ((win0_1.rect t).emb (ix2 ⟨k, hk⟩ ⟨d, hd⟩)) _ _ ?_ ?_
  · rw [← f0]; exact win0_1.rect_emb_val t _ (0 : Fin 2)
  · refine (win0_1.rect_emb_val t _ (1 : Fin 2)).trans ?_
    rw [f1]; show (t.val % 8 + 8) * 256 + d = 2048 + (t.val % 8 * 256 + d); omega

theorem blk2_at (c : Dev nD) (t : Fin cfg0.N) (k d : ℕ) (hk : k < 2048) (hd : d < 256) :
    at2 (n := 2048) (p := 256) (iblk m c 2 t) k d
      = at2 (n := 16384) (p := 10240) (m ((c : Thread nD τ).loc main_arg0)) (t.val / 8 * 2048 + k) (4096 + (t.val % 8 * 256 + d)) := by
  obtain ⟨-, -, ⟨f0, f1⟩, -⟩ := idx_facts t
  rw [← at2_of (n := 2048) (p := 256) (iblk m c 2 t) (ix2 ⟨k, hk⟩ ⟨d, hd⟩) k d rfl rfl]
  refine at2_of (n := 16384) (p := 10240) (m ((c : Thread nD τ).loc main_arg0)) ((win0_2.rect t).emb (ix2 ⟨k, hk⟩ ⟨d, hd⟩)) _ _ ?_ ?_
  · rw [← f0]; exact win0_2.rect_emb_val t _ (0 : Fin 2)
  · refine (win0_2.rect_emb_val t _ (1 : Fin 2)).trans ?_
    rw [f1]; show (t.val % 8 + 16) * 256 + d = 4096 + (t.val % 8 * 256 + d); omega

theorem blk3_at (c : Dev nD) (t : Fin cfg0.N) (k d : ℕ) (hk : k < 2048) (hd : d < 256) :
    at2 (n := 2048) (p := 256) (iblk m c 3 t) k d
      = at2 (n := 16384) (p := 10240) (m ((c : Thread nD τ).loc main_arg0)) (t.val / 8 * 2048 + k) (6144 + (t.val % 8 * 256 + d)) := by
  obtain ⟨-, -, -, ⟨f0, f1⟩, -⟩ := idx_facts t
  rw [← at2_of (n := 2048) (p := 256) (iblk m c 3 t) (ix2 ⟨k, hk⟩ ⟨d, hd⟩) k d rfl rfl]
  refine at2_of (n := 16384) (p := 10240) (m ((c : Thread nD τ).loc main_arg0)) ((win0_3.rect t).emb (ix2 ⟨k, hk⟩ ⟨d, hd⟩)) _ _ ?_ ?_
  · rw [← f0]; exact win0_3.rect_emb_val t _ (0 : Fin 2)
  · refine (win0_3.rect_emb_val t _ (1 : Fin 2)).trans ?_
    rw [f1]; show (t.val % 8 + 24) * 256 + d = 6144 + (t.val % 8 * 256 + d); omega

theorem blk4_at (c : Dev nD) (t : Fin cfg0.N) (k d : ℕ) (hk : k < 2048) (hd : d < 256) :
    at2 (n := 2048) (p := 256) (iblk m c 4 t) k d
      = at2 (n := 16384) (p := 10240) (m ((c : Thread nD τ).loc main_arg0)) (t.val / 8 * 2048 + k) (8192 + (t.val % 8 * 256 + d)) := by
  obtain ⟨-, -, -, -, ⟨f0, f1⟩, -⟩ := idx_facts t
  rw [← at2_of (n := 2048) (p := 256) (iblk m c 4 t) (ix2 ⟨k, hk⟩ ⟨d, hd⟩) k d rfl rfl]
  refine at2_of (n := 16384) (p := 10240) (m ((c : Thread nD τ).loc main_arg0)) ((win0_4.rect t).emb (ix2 ⟨k, hk⟩ ⟨d, hd⟩)) _ _ ?_ ?_
  · rw [← f0]; exact win0_4.rect_emb_val t _ (0 : Fin 2)
  · refine (win0_4.rect_emb_val t _ (1 : Fin 2)).trans ?_
    rw [f1]; show (t.val % 8 + 32) * 256 + d = 8192 + (t.val % 8 * 256 + d); omega

/-- The taps point `t` reads, -/
theorem blk5_at (c : Dev nD) (t : Fin cfg0.N) (k d : ℕ) (hk : k < 3) (hd : d < 256) :
    at2 (n := 3) (p := 256) (iblk m c 5 t) k d = at2 (n := 3) (p := 2048) (m ((c : Thread nD τ).loc main_arg1)) k (t.val % 8 * 256 + d) := by
  obtain ⟨-, -, -, -, -, ⟨f0, f1⟩, -⟩ := idx_facts t
  rw [← at2_of (n := 3) (p := 256) (iblk m c 5 t) (ix2 ⟨k, hk⟩ ⟨d, hd⟩) k d rfl rfl]
  refine at2_of (n := 3) (p := 2048) (m ((c : Thread nD τ).loc main_arg1)) ((win0_5.rect t).emb (ix2 ⟨k, hk⟩ ⟨d, hd⟩)) _ _ ?_ ?_
  · refine (win0_5.rect_emb_val t _ (0 : Fin 2)).trans ?_
    rw [f0]; show 0 * 3 + k = k; omega
  · rw [← f1]; exact win0_5.rect_emb_val t _ (1 : Fin 2)

/-- its group's matrix, -/
theorem blk6_at (c : Dev nD) (t : Fin cfg0.N) (r s : ℕ) (hr : r < 128) (hs : s < 128) :
    at3 (n := 1) (p := 128) (q := 128) (iblk m c 6 t) 0 r s
      = at3 (n := 8) (p := 128) (q := 128) (m ((c : Thread nD τ).loc main_arg2)) (t.val % 8) r s := by
  obtain ⟨-, -, -, -, -, -, ⟨f0, f1, f2⟩, -⟩ := idx_facts t
  rw [← at3_of (n := 1) (p := 128) (q := 128) (iblk m c 6 t) (ix3 0 ⟨r, hr⟩ ⟨s, hs⟩) 0 r s rfl rfl rfl]
  refine at3_of (n := 8) (p := 128) (q := 128) (m ((c : Thread nD τ).loc main_arg2)) ((win0_6.rect t).emb (ix3 0 ⟨r, hr⟩ ⟨s, hs⟩)) _ _ _ ?_ ?_ ?_
  · refine (win0_6.rect_emb_val t _ (0 : Fin 3)).trans ?_
    rw [f0]; show t.val % 8 * 1 + 0 = t.val % 8; omega
  · refine (win0_6.rect_emb_val t _ (1 : Fin 3)).trans ?_
    rw [f1]; show 0 * 128 + r = r; omega
  · refine (win0_6.rect_emb_val t _ (2 : Fin 3)).trans ?_
    rw [f2]; show 0 * 128 + s = s; omega

/-- the offsets, -/
theorem blk7_at (c : Dev nD) (t : Fin cfg0.N) (r : ℕ) (hr : r < 128) :
    at3 (n := 1) (p := 128) (q := 1) (iblk m c 7 t) 0 r 0 = at2 (n := 8) (p := 128) (m ((c : Thread nD τ).loc main_arg3)) (t.val % 8) r := by
  obtain ⟨-, -, -, -, -, -, -, ⟨f0, f1, f2⟩, -⟩ := idx_facts t
  have ht : t.val % 8 < 8 := Nat.mod_lt _ (by decide)
  have hV : @Eq (FVec Ideal S8x128x1 .f32) (V m c main_v0)
      (shapeCast S8x128x1 (m ((c : Thread nD τ).loc main_arg3)) shapeCasts_S8x128_S8x128x1) := by
    show StableHlo.after hostOps0 _ _ = _
    after_results
    rfl
  rw [← at3_of (n := 1) (p := 128) (q := 1) (iblk m c 7 t) (ix3 0 ⟨r, hr⟩ 0) 0 r 0 rfl rfl rfl]
  refine (at3_of (n := 8) (p := 128) (q := 1) (V m c main_v0) ((win0_7.rect t).emb (ix3 0 ⟨r, hr⟩ 0)) (t.val % 8) r 0 ?_ ?_ ?_).trans ?_
  · refine (win0_7.rect_emb_val t _ (0 : Fin 3)).trans ?_
    rw [f0]; show t.val % 8 * 1 + 0 = t.val % 8; omega
  · refine (win0_7.rect_emb_val t _ (1 : Fin 3)).trans ?_
    rw [f1]; show 0 * 128 + r = r; omega
  · refine (win0_7.rect_emb_val t _ (2 : Fin 3)).trans ?_
    rw [f2]; rfl
  · rw [hV, ← at3_of (n := 8) (p := 128) (q := 1) _ (ix3 ⟨t.val % 8, ht⟩ ⟨r, hr⟩ 0) (t.val % 8) r 0 rfl rfl rfl,
      shapeCast_apply _ shapeCasts_S8x128_S8x128x1 (ix3 ⟨t.val % 8, ht⟩ ⟨r, hr⟩ 0) (ix2 ⟨t.val % 8, ht⟩ ⟨r, hr⟩) (by
        rw [Shape.rowMajor_val_two, Shape.rowMajor_val_three]; show t.val % 8 * 128 + r = (t.val % 8 * 128 + r) * 1 + 0; omega)]
    exact at2_of (n := 8) (p := 128) _ _ _ _ rfl rfl

/-- and the gains. -/
theorem blk8_at (c : Dev nD) (t : Fin cfg0.N) (d : ℕ) (hd : d < 256) :
    at3 (n := 1) (p := 1) (q := 256) (iblk m c 8 t) 0 0 d = at2 (n := 8) (p := 256) (m ((c : Thread nD τ).loc main_arg4)) (t.val % 8) d := by
  obtain ⟨-, -, -, -, -, -, -, -, ⟨f0, f1, f2⟩, -⟩ := idx_facts t
  have ht : t.val % 8 < 8 := Nat.mod_lt _ (by decide)
  have hV : @Eq (FVec Ideal S8x1x256 .f32) (V m c main_v1)
      (shapeCast S8x1x256 (m ((c : Thread nD τ).loc main_arg4)) shapeCasts_S8x256_S8x1x256) := by
    show StableHlo.after hostOps0 _ _ = _
    after_results
    rfl
  rw [← at3_of (n := 1) (p := 1) (q := 256) (iblk m c 8 t) (ix3 0 0 ⟨d, hd⟩) 0 0 d rfl rfl rfl]
  refine (at3_of (n := 8) (p := 1) (q := 256) (V m c main_v1) ((win0_8.rect t).emb (ix3 0 0 ⟨d, hd⟩)) (t.val % 8) 0 d ?_ ?_ ?_).trans ?_
  · refine (win0_8.rect_emb_val t _ (0 : Fin 3)).trans ?_
    rw [f0]; show t.val % 8 * 1 + 0 = t.val % 8; omega
  · refine (win0_8.rect_emb_val t _ (1 : Fin 3)).trans ?_
    rw [f1]; rfl
  · refine (win0_8.rect_emb_val t _ (2 : Fin 3)).trans ?_
    rw [f2]; show 0 * 256 + d = d; omega
  · rw [hV, ← at3_of (n := 8) (p := 1) (q := 256) _ (ix3 ⟨t.val % 8, ht⟩ 0 ⟨d, hd⟩) (t.val % 8) 0 d rfl rfl rfl,
      shapeCast_apply _ shapeCasts_S8x256_S8x1x256 (ix3 ⟨t.val % 8, ht⟩ 0 ⟨d, hd⟩) (ix2 ⟨t.val % 8, ht⟩ ⟨d, hd⟩) (by
        rw [Shape.rowMajor_val_two, Shape.rowMajor_val_three]; show t.val % 8 * 256 + d = (t.val % 8 * 1 + 0) * 256 + d; omega)]
    exact at2_of (n := 8) (p := 256) _ _ _ _ rfl rfl

/-- The result at a row, a group and a column, from the arguments. -/
def entry (c : Dev nD) (r e d : ℕ) : EReal :=
  entire (at2 (n := 16384) (p := 10240) (m ((c : Thread nD τ).loc main_arg0))) (at2 (n := 3) (p := 2048) (m ((c : Thread nD τ).loc main_arg1)))
    (at3 (n := 8) (p := 128) (q := 128) (m ((c : Thread nD τ).loc main_arg2))) (at2 (n := 8) (p := 128) (m ((c : Thread nD τ).loc main_arg3)))
    (at2 (n := 8) (p := 256) (m ((c : Thread nD τ).loc main_arg4))) r e d

/-- What the result array is shown to hold. -/
def result (c : Dev nD) : Buf (Elt Ideal) ((c : Thread nD τ).loc main_v2) :=
  (fun i : S16384x4096.Idx => (entry m c (i 0).val ((i 1).val / 512) ((i 1).val % 512) : Elt Ideal .bf16))

/-- What point `t` leaves in its block, from the arguments. -/
theorem value_at (c : Dev nD) (t : Fin cfg0.N) (r d : ℕ) (hr : r < 2048) (hd : d < 512) :
    value (iblk m c 0 t) (iblk m c 1 t) (iblk m c 2 t) (iblk m c 3 t) (iblk m c 4 t) (iblk m c 5 t) (iblk m c 6 t) (iblk m c 7 t)
      (iblk m c 8 t) r d = entry m c (t.val / 8 * 2048 + r) (t.val % 8) d := by
  unfold value entry entire
  by_cases h : d < 256
  · rw [if_pos h, if_pos h, show (t.val / 8 * 2048 + r) / 2048 = t.val / 8 by omega, show (t.val / 8 * 2048 + r) % 2048 = r by omega]
    exact taps_congr hr (fun k hk => congrArg₂ (fun a b : EReal => a * b) (blk1_at m c t k d hk h) (blk2_at m c t k d hk h))
      (blk5_at m c t 0 d (by decide) h) (blk5_at m c t 1 d (by decide) h) (blk5_at m c t 2 d (by decide) h) (blk0_at m c t r d hr h)
  · have h' : d - 256 < 256 := by omega
    have h128 : r % 128 < 128 := Nat.mod_lt _ (by decide)
    rw [if_neg h, if_neg h, show (t.val / 8 * 2048 + r) % 128 = r % 128 by omega,
      show (t.val / 8 * 2048 + r) / 128 * 128 = t.val / 8 * 2048 + r / 128 * 128 by omega]
    refine mixed_congr h' (fun s hs => blk6_at m c t _ s h128 hs) (fun s hs l hl => ?_) (blk8_at m c t _ h') (blk7_at m c t _ h128)
      (blk3_at m c t r _ hr h')
    rw [Nat.add_assoc]
    exact blk4_at m c t (r / 128 * 128 + s) l (by omega) hl

/-- What a point writes back is its block of the result. -/
theorem flushed_eq (c : Dev nD) (t : Fin cfg0.N) :
    (dats m 0 c).flushed 9 t = ((cfg0.win 9).blk t).view.read (Elt Ideal) (result m c) := by
  rw [Value.flushed9_A m c t]
  funext y
  have h0 : (y 0).val < 2048 := (y 0).isLt
  have h1 : (y 1).val < 512 := (y 1).isLt
  obtain ⟨-, -, -, -, -, -, -, -, -, ⟨f0, f1⟩⟩ := idx_facts t
  have e0 : (((win0_9.rect t).emb y 0 : Fin _) : ℕ) = t.val / 8 * 2048 + (y 0).val := by
    rw [← f0]; exact win0_9.rect_emb_val t y (0 : Fin 2)
  have e1 : (((win0_9.rect t).emb y 1 : Fin _) : ℕ) = t.val % 8 * 512 + (y 1).val := by
    rw [← f1]; exact win0_9.rect_emb_val t y (1 : Fin 2)
  refine (out_apply _ _ _ _ _ _ _ _ _ _ _ _ _ _ _ _ _ _ _ _ _ _ _ _ _ _ _ _ _ _ _ y).trans ?_
  show _ = entry m c (((win0_9.rect t).emb y 0 : Fin _) : ℕ) ((((win0_9.rect t).emb y 1 : Fin _) : ℕ) / 512)
    ((((win0_9.rect t).emb y 1 : Fin _) : ℕ) % 512)
  rw [e0, e1, show (t.val % 8 * 512 + (y 1).val) / 512 = t.val % 8 by omega, show (t.val % 8 * 512 + (y 1).val) % 512 = (y 1).val by omega]
  exact value_at m c t _ _ h0 h1

/-- Every index of the result array lies in the block of a point. -/
theorem cover (i : S16384x4096.Idx) :
    ∃ t : Fin cfg0.N, (cfg0.win 9).flush t = true ∧ i ∈ ((cfg0.win 9).blk t).view.set := by
  have h0 : (i 0).val < 16384 := (i 0).isLt
  have h1 : (i 1).val < 4096 := (i 1).isLt
  have hN : cfg0.N = 64 := N_0
  have ht : (i 0).val / 2048 * 8 + (i 1).val / 512 < cfg0.N := by omega
  refine ⟨⟨_, ht⟩, flush0_9 _, ?_⟩
  obtain ⟨-, -, -, -, -, -, -, -, -, ⟨f0, f1⟩⟩ := idx_facts ⟨_, ht⟩
  have g0 : win0_9.index ⟨_, ht⟩ (0 : Fin 2) = (i 0).val / 2048 := by rw [f0]; dsimp only; omega
  have g1 : win0_9.index ⟨_, ht⟩ (1 : Fin 2) = (i 1).val / 512 := by rw [f1]; dsimp only; omega
  show i ∈ ((View.whole main_v2).slice (win0_9.rect ⟨_, ht⟩)).set
  rw [View.set_slice_whole, Rect.mem_set_unit]
  intro a
  match a with
  | ⟨0, _⟩ =>
    show win0_9.index ⟨_, ht⟩ (0 : Fin 2) * 2048 ≤ (i 0).val ∧ (i 0).val < win0_9.index ⟨_, ht⟩ (0 : Fin 2) * 2048 + 2048
    rw [g0]; omega
  | ⟨1, _⟩ =>
    show win0_9.index ⟨_, ht⟩ (1 : Fin 2) * 512 ≤ (i 1).val ∧ (i 1).val < win0_9.index ⟨_, ht⟩ (1 : Fin 2) * 512 + 512
    rw [g1]; omega

/-- So the array ends holding the result. -/
theorem final (c : Dev nD) : (dats m 0 c).arrAt 9 cfg0.N = result m c :=
  (dats m 0 c).arrAt_eq_of_cover 9 (result m c) (fun t _ => flushed_eq m c t) cover

/-- The reference's result is the kernel's, at an index. -/
theorem reference_eq (c : Dev nD) (i : S16384x4096.Idx) :
    Cert.MixerRefIdeal.Read.val_main_v56 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) i = result m c i :=
  Cert.MixerRefIdeal.Mixer.whole_apply _ _ _ _ _ i

end Cert.MixerIdeal.Block

end
-- ==== Proof.AdaValue.lean ====
/-
  The scales and shifts of both layers, from the conditioning: each grid point multiplies the activated rows with a tile of one layer's
  columns and adds the offsets, the tiles cover the result array, and the reference's product is the same sum.
-/
module

public import proofs.«01_k».proof.Proof.Silu
public import proofs.«01_k».proof.Proof.Gen.AdaIdeal.Value
public import proofs.«01_k».proof.Proof.Gen.AdaRefIdeal.Read

@[expose] public section

set_option maxRecDepth 16384

noncomputable section

namespace Cert.AdaIdeal.Block

open Cert.AdaIdeal Cert.AdaIdeal.Gen Cert.Attention Idealize.ShloMosaic Idealize.ShloMosaic.ValueIdx
  Idealize.ShloMosaic.TcCoe Idealize.SL.Sem

/-- One entry: `x` a row of conditioning, `w` a column of weights, `b` its offset. -/
def entry (x w : ℕ → EReal) (b : EReal) : EReal := dot 4096 (fun k => silu (x k)) w + b

theorem entry_congr {x x' w w' : ℕ → EReal} {b b' : EReal} (hx : ∀ k < 4096, x k = x' k) (hw : ∀ k < 4096, w k = w' k) (hb : b = b') :
    entry x w b = entry x' w' b' :=
  congrArg₂ (fun a c : EReal => a + c) (dot_congr (fun k hk => congrArg silu (hx k hk)) hw) hb

/-- What a point computes, at a row and a column. -/
theorem pay_apply (x : Vec Ideal S16x4096 .f32) (w : Vec Ideal S1x4096x512 .f32) (b : Vec Ideal S1x1x512 .f32) (r : Fin 16) (d : Fin 512) :
    k0_pay1 (F := Ideal) x w b (ix3 0 r d)
      = entry (at2 (n := 16) (p := 4096) x r) (fun k => at3 (n := 1) (p := 4096) (q := 512) w 0 k d) (at3 (n := 1) (p := 1) (q := 512) b 0 0 d) := by
  unfold k0_pay1 entry
  rw [shapeCast_apply _ shapeCasts_S16x512_S1x16x512 (ix3 0 r d) (ix2 r d) (by
      rw [Shape.rowMajor_val_three, Shape.rowMajor_val_two]; show r.val * 512 + d.val = (0 * 16 + r.val) * 512 + d.val; omega),
    addf_apply,
    broadcastTo_apply _ broadcasts_S1x512_S16x512 (ix2 r d) (ix2 0 d) (fun a => match a with
      | ⟨0, _⟩ => by show 0 = if (1 : ℕ) = 1 then 0 else r.val; rw [if_pos rfl]
      | ⟨1, _⟩ => by show d.val = if (512 : ℕ) = 1 then 0 else d.val; rw [if_neg (by decide)]),
    shapeCast_apply b shapeCasts_S1x1x512_S1x512 (ix2 0 d) (ix3 0 0 d) (by
      rw [Shape.rowMajor_val_three, Shape.rowMajor_val_two]; show (0 * 1 + 0) * 512 + d.val = 0 * 512 + d.val; omega)]
  refine congrArg₂ (fun a c : EReal => a + c) ?_ (at3_of (n := 1) (p := 1) (q := 512) b (ix3 0 0 d) _ _ _ rfl rfl rfl)
  refine (product_apply _ _ r d).trans (dot_congr (fun k hk => ?_) fun k hk => ?_)
  · rw [← at2_of (n := 16) (p := 4096) _ (ix2 r ⟨k, hk⟩) r.val k rfl rfl, ← at2_of (n := 16) (p := 4096) x (ix2 r ⟨k, hk⟩) r.val k rfl rfl]
    show Ideal.div _ (Ideal.ofBits .f32 0x3F800000#32 + Ideal.exp (Ideal.ofBits .f32 0x00000000#32 - _)) = _
    rw [one_f32, Ideal.ofBits_zero_f32]
    exact silu_quotient _
  · rw [← at2_of (n := 4096) (p := 512) _ (ix2 ⟨k, hk⟩ d) k d rfl rfl, truncf_apply,
      shapeCast_apply w shapeCasts_S1x4096x512_S4096x512 (ix2 ⟨k, hk⟩ d) (ix3 0 ⟨k, hk⟩ d) (by
        rw [Shape.rowMajor_val_three, Shape.rowMajor_val_two]; show (0 * 4096 + k) * 512 + d.val = k * 512 + d.val; omega)]
    exact at3_of (n := 1) (p := 4096) (q := 512) w _ _ _ _ rfl rfl rfl

/-- What a point leaves in its output block. -/
theorem out_apply (x : Vec Ideal S16x4096 .f32) (w : Vec Ideal S1x4096x512 .f32) (b : Vec Ideal S1x1x512 .f32) (y : S1x16x512.Idx) :
    out0_3 (F := Ideal) x w b y = entry (at2 (n := 16) (p := 4096) x (y 1).val)
      (fun k => at3 (n := 1) (p := 4096) (q := 512) w 0 k (y 2).val) (at3 (n := 1) (p := 1) (q := 512) b 0 0 (y 2).val) := by
  unfold out0_3
  rw [View.ld_unit_zero (S := S16x4096) origin2, View.ld_unit_zero (S := S1x4096x512) origin3, View.ld_unit_zero (S := S1x1x512) origin3]
  refine View.canon_apply_of_pieces (Val := Elt Ideal) (fun y : S1x16x512.Idx => (entry (at2 (n := 16) (p := 4096) x (y 1).val)
      (fun k => at3 (n := 1) (p := 4096) (q := 512) w 0 k (y 2).val) (at3 (n := 1) (p := 1) (q := 512) b 0 0 (y 2).val) : Elt Ideal .f32))
    _ ?_ y (cover0_3 _ y)
  intro p hp z
  simp only [List.mem_singleton] at hp
  subst hp
  have e1 : ((r0_3.emb z 1 : Fin _) : ℕ) = (z 1).val := by rw [Rect.emb_apply]; show 0 + 1 * (z 1).val = _; omega
  have e2 : ((r0_3.emb z 2 : Fin _) : ℕ) = (z 2).val := by rw [Rect.emb_apply]; show 0 + 1 * (z 2).val = _; omega
  have hz : z = ix3 0 (z 1) (z 2) := funext fun a => Fin.ext (by
    match a with
    | ⟨0, _⟩ => have h : (z 0).val < 1 := (z 0).isLt; show (z 0).val = 0; omega
    | ⟨1, _⟩ => rfl
    | ⟨2, _⟩ => rfl)
  show k0_pay1 x w b z = entry (at2 (n := 16) (p := 4096) x ((r0_3.emb z 1 : Fin _) : ℕ))
    (fun k => at3 (n := 1) (p := 4096) (q := 512) w 0 k ((r0_3.emb z 2 : Fin _) : ℕ)) (at3 (n := 1) (p := 1) (q := 512) b 0 0 ((r0_3.emb z 2 : Fin _) : ℕ))
  rw [e1, e2]
  exact (congrArg _ hz).trans (pay_apply x w b (z 1) (z 2))

/-- Which block each window reads or writes at point `t`: layer `t / 48`, column tile `t % 48`. -/
theorem idx_facts : ∀ t : Fin cfg0.N,
    (win0_0.index t (0 : Fin 2) = 0 ∧ win0_0.index t (1 : Fin 2) = 0)
    ∧ (win0_1.index t (0 : Fin 3) = t.val / 48 ∧ win0_1.index t (1 : Fin 3) = 0 ∧ win0_1.index t (2 : Fin 3) = t.val % 48)
    ∧ (win0_2.index t (0 : Fin 3) = t.val / 48 ∧ win0_2.index t (1 : Fin 3) = 0 ∧ win0_2.index t (2 : Fin 3) = t.val % 48)
    ∧ (win0_3.index t (0 : Fin 3) = t.val / 48 ∧ win0_3.index t (1 : Fin 3) = 0 ∧ win0_3.index t (2 : Fin 3) = t.val % 48) :=
  (by decide +kernel : ∀ t : Fin grid0.N, _)

variable (m : (ℓ : Loc nD τ sig) → Buf (Elt Ideal) ℓ)

/-- The conditioning point `t` reads, -/
theorem blk0_at (c : Dev nD) (t : Fin cfg0.N) (r k : ℕ) (hr : r < 16) (hk : k < 4096) :
    at2 (n := 16) (p := 4096) (iblk m c 0 t) r k = at2 (n := 16) (p := 4096) (m ((c : Thread nD τ).loc main_arg0)) r k := by
  obtain ⟨⟨f0, f1⟩, -⟩ := idx_facts t
  rw [← at2_of (n := 16) (p := 4096) (iblk m c 0 t) (ix2 ⟨r, hr⟩ ⟨k, hk⟩) r k rfl rfl]
  refine at2_of (n := 16) (p := 4096) (m ((c : Thread nD τ).loc main_arg0)) ((win0_0.rect t).emb (ix2 ⟨r, hr⟩ ⟨k, hk⟩)) _ _ ?_ ?_
  · refine (win0_0.rect_emb_val t _ (0 : Fin 2)).trans ?_
    rw [f0]; show 0 * 16 + r = r; omega
  · refine (win0_0.rect_emb_val t _ (1 : Fin 2)).trans ?_
    rw [f1]; show 0 * 4096 + k = k; omega

/-- the weights, -/
theorem blk1_at (c : Dev nD) (t : Fin cfg0.N) (k d : ℕ) (hk : k < 4096) (hd : d < 512) :
    at3 (n := 1) (p := 4096) (q := 512) (iblk m c 1 t) 0 k d
      = at3 (n := 2) (p := 4096) (q := 24576) (m ((c : Thread nD τ).loc main_arg1)) (t.val / 48) k (t.val % 48 * 512 + d) := by
  obtain ⟨-, ⟨f0, f1, f2⟩, -⟩ := idx_facts t
  rw [← at3_of (n := 1) (p := 4096) (q := 512) (iblk m c 1 t) (ix3 0 ⟨k, hk⟩ ⟨d, hd⟩) 0 k d rfl rfl rfl]
  refine at3_of (n := 2) (p := 4096) (q := 24576) (m ((c : Thread nD τ).loc main_arg1)) ((win0_1.rect t).emb (ix3 0 ⟨k, hk⟩ ⟨d, hd⟩)) _ _ _ ?_ ?_ ?_
  · refine (win0_1.rect_emb_val t _ (0 : Fin 3)).trans ?_
    rw [f0]; show t.val / 48 * 1 + 0 = t.val / 48; omega
  · refine (win0_1.rect_emb_val t _ (1 : Fin 3)).trans ?_
    rw [f1]; show 0 * 4096 + k = k; omega
  · rw [← f2]; exact win0_1.rect_emb_val t _ (2 : Fin 3)

/-- and the offsets, which the host hands over with an axis more. -/
theorem blk2_at (c : Dev nD) (t : Fin cfg0.N) (d : ℕ) (hd : d < 512) :
    at3 (n := 1) (p := 1) (q := 512) (iblk m c 2 t) 0 0 d
      = at2 (n := 2) (p := 24576) (m ((c : Thread nD τ).loc main_arg2)) (t.val / 48) (t.val % 48 * 512 + d) := by
  obtain ⟨-, -, ⟨f0, f1, f2⟩, -⟩ := idx_facts t
  have hN : t.val < 96 := lt_of_lt_of_eq t.isLt N_0
  have hl : t.val / 48 < 2 := by omega
  have hc : t.val % 48 * 512 + d < 24576 := by omega
  have hV : @Eq (FVec Ideal S2x1x24576 .f32) (V m c main_v0)
      (shapeCast S2x1x24576 (m ((c : Thread nD τ).loc main_arg2)) shapeCasts_S2x24576_S2x1x24576) := by
    show StableHlo.after hostOps0 _ _ = _
    after_results
    rfl
  rw [← at3_of (n := 1) (p := 1) (q := 512) (iblk m c 2 t) (ix3 0 0 ⟨d, hd⟩) 0 0 d rfl rfl rfl]
  refine (at3_of (n := 2) (p := 1) (q := 24576) (V m c main_v0) ((win0_2.rect t).emb (ix3 0 0 ⟨d, hd⟩)) (t.val / 48) 0 (t.val % 48 * 512 + d) ?_ ?_ ?_).trans ?_
  · refine (win0_2.rect_emb_val t _ (0 : Fin 3)).trans ?_
    rw [f0]; show t.val / 48 * 1 + 0 = t.val / 48; omega
  · refine (win0_2.rect_emb_val t _ (1 : Fin 3)).trans ?_
    rw [f1]; rfl
  · rw [← f2]; exact win0_2.rect_emb_val t _ (2 : Fin 3)
  · rw [hV, ← at3_of (n := 2) (p := 1) (q := 24576) _ (ix3 ⟨t.val / 48, hl⟩ 0 ⟨t.val % 48 * 512 + d, hc⟩) (t.val / 48) 0 (t.val % 48 * 512 + d) rfl rfl rfl,
      shapeCast_apply _ shapeCasts_S2x24576_S2x1x24576 (ix3 ⟨t.val / 48, hl⟩ 0 ⟨t.val % 48 * 512 + d, hc⟩)
        (ix2 ⟨t.val / 48, hl⟩ ⟨t.val % 48 * 512 + d, hc⟩) (by
        rw [Shape.rowMajor_val_two, Shape.rowMajor_val_three]
        show t.val / 48 * 24576 + (t.val % 48 * 512 + d) = (t.val / 48 * 1 + 0) * 24576 + (t.val % 48 * 512 + d)
        omega)]
    exact at2_of (n := 2) (p := 24576) _ _ _ _ rfl rfl

/-- The result for a layer, a row and a column, from the arguments. -/
def mods (c : Dev nD) (l r d : ℕ) : EReal :=
  entry (at2 (n := 16) (p := 4096) (m ((c : Thread nD τ).loc main_arg0)) r)
    (fun k => at3 (n := 2) (p := 4096) (q := 24576) (m ((c : Thread nD τ).loc main_arg1)) l k d)
    (at2 (n := 2) (p := 24576) (m ((c : Thread nD τ).loc main_arg2)) l d)

/-- What the result array is shown to hold. -/
def result (c : Dev nD) : Buf (Elt Ideal) ((c : Thread nD τ).loc main_v1) :=
  (fun i : S2x16x24576.Idx => (mods m c (i 0).val (i 1).val (i 2).val : Elt Ideal .f32))

/-- What point `t` writes back is its block of the result. -/
theorem flushed_eq (c : Dev nD) (t : Fin cfg0.N) :
    (dats m 0 c).flushed 3 t = ((cfg0.win 3).blk t).view.read (Elt Ideal) (result m c) := by
  rw [Value.flushed3]
  funext y
  have h0 : (y 0).val < 1 := (y 0).isLt
  have h1 : (y 1).val < 16 := (y 1).isLt
  have h2 : (y 2).val < 512 := (y 2).isLt
  obtain ⟨-, -, -, f0, f1, f2⟩ := idx_facts t
  have e0 : (((win0_3.rect t).emb y 0 : Fin _) : ℕ) = t.val / 48 := by
    refine (win0_3.rect_emb_val t y (0 : Fin 3)).trans ?_
    rw [f0]; show t.val / 48 * 1 + (y 0).val = t.val / 48; omega
  have e1 : (((win0_3.rect t).emb y 1 : Fin _) : ℕ) = (y 1).val := by
    refine (win0_3.rect_emb_val t y (1 : Fin 3)).trans ?_
    rw [f1]; show 0 * 16 + (y 1).val = (y 1).val; omega
  have e2 : (((win0_3.rect t).emb y 2 : Fin _) : ℕ) = t.val % 48 * 512 + (y 2).val := by
    rw [← f2]; exact win0_3.rect_emb_val t y (2 : Fin 3)
  refine (out_apply (iblk m c 0 t) (iblk m c 1 t) (iblk m c 2 t) y).trans ?_
  show _ = mods m c (((win0_3.rect t).emb y 0 : Fin _) : ℕ) (((win0_3.rect t).emb y 1 : Fin _) : ℕ) (((win0_3.rect t).emb y 2 : Fin _) : ℕ)
  rw [e0, e1, e2]
  exact entry_congr (fun k hk => blk0_at m c t _ k h1 hk) (fun k hk => blk1_at m c t k _ hk h2) (blk2_at m c t _ h2)

/-- Every index of the result array lies in the block of a point that is written back. -/
theorem cover (i : S2x16x24576.Idx) :
    ∃ t : Fin cfg0.N, (cfg0.win 3).flush t = true ∧ i ∈ ((cfg0.win 3).blk t).view.set := by
  have h0 : (i 0).val < 2 := (i 0).isLt
  have h1 : (i 1).val < 16 := (i 1).isLt
  have h2 : (i 2).val < 24576 := (i 2).isLt
  have hN : cfg0.N = 96 := N_0
  have ht : (i 0).val * 48 + (i 2).val / 512 < cfg0.N := by omega
  refine ⟨⟨_, ht⟩, flush0_3 _, ?_⟩
  obtain ⟨-, -, -, f0, f1, f2⟩ := idx_facts ⟨_, ht⟩
  have g0 : win0_3.index ⟨_, ht⟩ (0 : Fin 3) = (i 0).val := by rw [f0]; dsimp only; omega
  have g2 : win0_3.index ⟨_, ht⟩ (2 : Fin 3) = (i 2).val / 512 := by rw [f2]; dsimp only; omega
  show i ∈ ((View.whole main_v1).slice (win0_3.rect ⟨_, ht⟩)).set
  rw [View.set_slice_whole, Rect.mem_set_unit]
  intro a
  match a with
  | ⟨0, _⟩ =>
    show win0_3.index ⟨_, ht⟩ (0 : Fin 3) * 1 ≤ (i 0).val ∧ (i 0).val < win0_3.index ⟨_, ht⟩ (0 : Fin 3) * 1 + 1
    rw [g0]; omega
  | ⟨1, _⟩ =>
    show win0_3.index ⟨_, ht⟩ (1 : Fin 3) * 16 ≤ (i 1).val ∧ (i 1).val < win0_3.index ⟨_, ht⟩ (1 : Fin 3) * 16 + 16
    rw [f1]; omega
  | ⟨2, _⟩ =>
    show win0_3.index ⟨_, ht⟩ (2 : Fin 3) * 512 ≤ (i 2).val ∧ (i 2).val < win0_3.index ⟨_, ht⟩ (2 : Fin 3) * 512 + 512
    rw [g2]; omega

/-- So the array ends holding the result. -/
theorem final (c : Dev nD) : (dats m 0 c).arrAt 3 cfg0.N = result m c :=
  (dats m 0 c).arrAt_eq_of_cover 3 (result m c) (fun t _ => flushed_eq m c t) cover

end Cert.AdaIdeal.Block

namespace Cert.AdaIdeal.Block

open Cert.AdaRefIdeal.Read Cert.AdaIdeal Cert.AdaIdeal.Gen Cert.Attention Idealize.ShloMosaic Idealize.ShloMosaic.ValueIdx
  Idealize.ShloMosaic.TcCoe

/-- The reference's activation. -/
theorem silu_apply (x : FVec Ideal S16x4096 .f32) (i : S16x4096.Idx) : val_main_v0 (F := Ideal) x i = silu (x i) := by
  rw [val_main_v0_apply, val_main_call0_v5_apply, val_main_call0_v4_apply, val_main_call0_cst_0_apply, val_main_call0_v3_apply,
    val_main_call0_v2_apply, val_main_call0_cst_apply, val_main_call0_v1_apply, val_main_call0_v0_apply, ← silu_product, ← one_f32]
  rfl

variable (m : (ℓ : Loc nD τ sig) → Buf (Elt Ideal) ℓ)

/-- The reference's result is the kernel's, at an index. -/
theorem reference_eq (c : Dev nD) (i : S2x16x24576.Idx) :
    val_main_v5 (F := Ideal) (m ((c : Thread nD τ).loc main_arg0)) (m ((c : Thread nD τ).loc main_arg1))
      (m ((c : Thread nD τ).loc main_arg2)) i = result m c i := by
  rw [val_main_v5_apply, val_main_v2_apply, val_main_v4_apply, val_main_v3_apply]
  show _ = mods m c (i 0).val (i 1).val (i 2).val
  unfold mods entry
  refine congrArg₂ (fun a b : EReal => a + b) ((val_main_v1_apply _ _ _).trans ?_)
    (at2_of (n := 2) (p := 24576) (m ((c : Thread nD τ).loc main_arg2)) _ _ _ rfl rfl)
  unfold dot
  refine Finset.sum_congr rfl fun k _ => ?_
  rw [silu_apply, mul_comm]
  refine congrArg₂ (fun a b : EReal => a * b) (congrArg silu ?_) ?_
  · exact at2_of (n := 16) (p := 4096) (m ((c : Thread nD τ).loc main_arg0)) _ _ _ rfl rfl
  · exact at3_of (n := 2) (p := 4096) (q := 24576) (m ((c : Thread nD τ).loc main_arg1)) _ _ _ _ rfl rfl rfl

end Cert.AdaIdeal.Block

end
-- ==== Proof.FirstValue.lean ====
/-
  The norm before the first layer, with its scale and shift: each grid point treats a tile of rows, the tiles cover the result array, and
  the reference's rows are the same.
-/
module

public import proofs.«01_k».proof.Proof.Down
public import proofs.«01_k».proof.Proof.Gen.FirstIdeal.Value
public import proofs.«01_k».proof.Proof.Gen.FirstRefIdeal.Read

@[expose] public section

set_option maxRecDepth 16384

noncomputable section

namespace Cert.FirstIdeal.Block

open Cert.FirstIdeal Cert.FirstIdeal.Gen Cert.Attention Idealize.ShloMosaic Idealize.ShloMosaic.ValueIdx
  Idealize.ShloMosaic.TcCoe Idealize.SL.Sem

/-- An entry of the row `y` after its normalisation, its gain `g`, its scale `s` and its shift `h`. -/
def shifted (y : ℕ → EReal) (g s h : EReal) (d : ℕ) : EReal :=
  y d * Ideal.rsqrt (Ideal.div (∑ l : Fin 4096, y l * y l) (Ideal.ofBits .f32 0x45800000#32) + Ideal.ofBits .f32 0x358637BD#32) * g
    * (Ideal.ofBits .f32 0x3F800000#32 + s) + h

theorem shifted_congr {y y' : ℕ → EReal} {g g' s s' h h' : EReal} {d : ℕ} (hd : d < 4096) (hy : ∀ l < 4096, y l = y' l) (hg : g = g')
    (hs : s = s') (hh : h = h') : shifted y g s h d = shifted y' g' s' h' d := by
  subst hg hs hh
  unfold shifted
  rw [hy d hd, Finset.sum_congr rfl fun (l : Fin 4096) _ => congrArg₂ (fun a b : EReal => a * b) (hy l l.isLt) (hy l l.isLt)]

/-- One row of 4096 read at each of 256 rows. -/
theorem row_apply (w : Vec Ideal S1x4096 .f32) (r : Fin 256) (d : Fin 4096) :
    broadcastTo S256x4096 w broadcasts_S1x4096_S256x4096 (ix2 r d) = w (ix2 0 d) :=
  broadcastTo_apply _ broadcasts_S1x4096_S256x4096 (ix2 r d) (ix2 0 d) (fun a => match a with
    | ⟨0, _⟩ => by show 0 = if (1 : ℕ) = 1 then 0 else r.val; rw [if_pos rfl]
    | ⟨1, _⟩ => by show d.val = if (4096 : ℕ) = 1 then 0 else d.val; rw [if_neg (by decide)])

/-- A block of one row read as that row. -/
theorem flat_apply (g : Vec Ideal S1x1x4096 .f32) (d : Fin 4096) :
    shapeCast S1x4096 g shapeCasts_S1x1x4096_S1x4096 (ix2 0 d) = g (ix3 0 0 d) :=
  shapeCast_apply g shapeCasts_S1x1x4096_S1x4096 (ix2 0 d) (ix3 0 0 d) (by
    rw [Shape.rowMajor_val_three, Shape.rowMajor_val_two]; show (0 * 1 + 0) * 4096 + d.val = 0 * 4096 + d.val; omega)

/-- What a point computes, at a row and a column. -/
theorem pay_apply (x : Vec Ideal S256x4096 .f32) (g : Vec Ideal S1x4096 .f32) (s h : Vec Ideal S1x1x4096 .f32) (r : Fin 256) (d : Fin 4096) :
    k0_pay1 (F := Ideal) x g s h (ix2 r d)
      = shifted (at2 (n := 256) (p := 4096) x r) (g (ix2 0 d)) (s (ix3 0 0 d)) (h (ix3 0 0 d)) d := by
  unfold k0_pay1 shifted
  dsimp only
  rw [truncf_apply, shapeCast_self, addf_apply, mulf_apply, mulf_apply, mulf_apply, row_apply, row_apply, row_apply, addf_apply,
    flat_apply, flat_apply,
    broadcastTo_apply _ broadcasts_S256x1_S256x4096 (ix2 r d) (ix2 r 0) (fun a => match a with
      | ⟨0, _⟩ => by show r.val = if (256 : ℕ) = 1 then 0 else r.val; rw [if_neg (by decide)]
      | ⟨1, _⟩ => by show 0 = if (1 : ℕ) = 1 then 0 else d.val; rw [if_pos rfl])]
  refine congrArg (fun a : EReal => a + h (ix3 0 0 d)) ?_
  refine congrArg (fun a : EReal => a * (Ideal.ofBits .f32 0x3F800000#32 + s (ix3 0 0 d))) ?_
  refine congrArg (fun a : EReal => a * g (ix2 0 d)) ?_
  refine congrArg₂ (fun a b : EReal => a * b) (at2_of (n := 256) (p := 4096) x (ix2 r d) r d rfl rfl) ?_
  show Ideal.rsqrt (Ideal.div _ _ + _) = _
  refine congrArg (fun a : EReal => Ideal.rsqrt (Ideal.div a _ + _)) ?_
  rw [shapeCast_apply _ shapeCasts_S256_S256x1 (ix2 r 0) (ix1 r) (by
      rw [Shape.rowMajor_val_one, Shape.rowMajor_val_two]; show r.val = r.val * 1 + 0; omega)]
  have key : ∀ l : Fin 4096, mulf (F := Ideal) (s := S256x4096) (φ := .f32) x x (ix2 r l)
      = at2 (n := 256) (p := 4096) x r l * at2 (n := 256) (p := 4096) x r l := fun l => by
    rw [mulf_apply, at2_of (n := 256) (p := 4096) x (ix2 r l) r l rfl rfl]
  refine (Ideal.multiReduction_add_single _ _ reduces_S256x4096_S256 _ _ (ix1 r)).trans ?_
  refine Finset.sum_congr rfl fun l _ => ?_
  refine Eq.trans ?_ (key l)
  exact congrArg _ (Shape.idx_ext₂ rfl rfl)

/-- What a point leaves in its output block. -/
theorem out_apply (x : Vec Ideal S256x4096 .f32) (g : Vec Ideal S1x4096 .f32) (h s : Vec Ideal S1x1x4096 .f32) (y : S256x4096.Idx) :
    out0_4 (F := Ideal) x g h s y = shifted (at2 (n := 256) (p := 4096) x (y 0).val) (at2 (n := 1) (p := 4096) g 0 (y 1).val)
      (at3 (n := 1) (p := 1) (q := 4096) s 0 0 (y 1).val) (at3 (n := 1) (p := 1) (q := 4096) h 0 0 (y 1).val) (y 1).val := by
  unfold out0_4
  rw [View.ld_unit_zero (S := S256x4096) origin2, View.ld_unit_zero (S := S1x4096) origin2, View.ld_unit_zero (S := S1x1x4096) origin3,
    View.ld_unit_zero (S := S1x1x4096) origin3]
  refine View.canon_apply_of_pieces (Val := Elt Ideal) (fun y : S256x4096.Idx => (shifted (at2 (n := 256) (p := 4096) x (y 0).val)
      (at2 (n := 1) (p := 4096) g 0 (y 1).val) (at3 (n := 1) (p := 1) (q := 4096) s 0 0 (y 1).val)
      (at3 (n := 1) (p := 1) (q := 4096) h 0 0 (y 1).val) (y 1).val : Elt Ideal .bf16))
    _ ?_ y (cover0_4 _ y)
  intro p hp z
  simp only [List.mem_singleton] at hp
  subst hp
  have e0 : ((r0_0.emb z 0 : Fin _) : ℕ) = (z 0).val := by rw [Rect.emb_apply]; show 0 + 1 * (z 0).val = _; omega
  have e1 : ((r0_0.emb z 1 : Fin _) : ℕ) = (z 1).val := by rw [Rect.emb_apply]; show 0 + 1 * (z 1).val = _; omega
  show k0_pay1 x g s h z = shifted (at2 (n := 256) (p := 4096) x ((r0_0.emb z 0 : Fin _) : ℕ)) (at2 (n := 1) (p := 4096) g 0 ((r0_0.emb z 1 : Fin _) : ℕ))
    (at3 (n := 1) (p := 1) (q := 4096) s 0 0 ((r0_0.emb z 1 : Fin _) : ℕ)) (at3 (n := 1) (p := 1) (q := 4096) h 0 0 ((r0_0.emb z 1 : Fin _) : ℕ))
    ((r0_0.emb z 1 : Fin _) : ℕ)
  rw [e0, e1]
  refine ((congrArg _ (eq_ix2 z)).trans (pay_apply x g s h (z 0) (z 1))).trans ?_
  exact shifted_congr (z 1).isLt (fun _ _ => rfl) (at2_of (n := 1) (p := 4096) g (ix2 0 (z 1)) _ _ rfl rfl)
    (at3_of (n := 1) (p := 1) (q := 4096) s (ix3 0 0 (z 1)) _ _ _ rfl rfl rfl) (at3_of (n := 1) (p := 1) (q := 4096) h (ix3 0 0 (z 1)) _ _ _ rfl rfl rfl)

/-- Which block each window reads or writes at point `t`: row tile `t`, of sequence `t / 8`. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = 0 ∧ win0_3.index t (2 : Fin 3) = 0)
    ∧ (win0_4.index t (0 : Fin 2) = t.val ∧ win0_4.index t (1 : Fin 2) = 0) :=
  (by decide +kernel : ∀ t : Fin grid0.N, _)

variable (m : (ℓ : Loc nD τ sig) → Buf (Elt Ideal) ℓ)

/-- The rows point `t` reads, -/
theorem blk0_at (c : Dev nD) (t : Fin cfg0.N) (r d : ℕ) (hr : r < 256) (hd : d < 4096) :
    at2 (n := 256) (p := 4096) (iblk m c 0 t) r d
      = at2 (n := 16384) (p := 4096) (m ((c : Thread nD τ).loc main_arg0)) (t.val * 256 + r) d := by
  obtain ⟨⟨f0, f1⟩, -⟩ := idx_facts t
  rw [← at2_of (n := 256) (p := 4096) (iblk m c 0 t) (ix2 ⟨r, hr⟩ ⟨d, hd⟩) r d rfl rfl]
  refine at2_of (n := 16384) (p := 4096) (m ((c : Thread nD τ).loc main_arg0)) ((win0_0.rect t).emb (ix2 ⟨r, hr⟩ ⟨d, hd⟩)) _ _ ?_ ?_
  · refine (win0_0.rect_emb_val t _ (0 : Fin 2)).trans ?_
    rw [f0]; rfl
  · refine (win0_0.rect_emb_val t _ (1 : Fin 2)).trans ?_
    rw [f1]; show 0 * 4096 + d = d; omega

/-- the gain, which the host hands over as one row, -/
theorem blk1_at (c : Dev nD) (t : Fin cfg0.N) (d : ℕ) (hd : d < 4096) :
    at2 (n := 1) (p := 4096) (iblk m c 1 t) 0 d = at1 (n := 4096) (m ((c : Thread nD τ).loc main_arg1)) d := by
  obtain ⟨-, ⟨f0, f1⟩, -⟩ := idx_facts t
  have hV : @Eq (FVec Ideal S1x4096 .f32) (V m c main_v0)
      (shapeCast S1x4096 (m ((c : Thread nD τ).loc main_arg1)) shapeCasts_S4096_S1x4096) := by
    show StableHlo.after hostOps0 _ _ = _
    after_results
    rfl
  rw [← at2_of (n := 1) (p := 4096) (iblk m c 1 t) (ix2 0 ⟨d, hd⟩) 0 d rfl rfl]
  refine (at2_of (n := 1) (p := 4096) (V m c main_v0) ((win0_1.rect t).emb (ix2 0 ⟨d, hd⟩)) 0 d ?_ ?_).trans ?_
  · refine (win0_1.rect_emb_val t _ (0 : Fin 2)).trans ?_
    rw [f0]; rfl
  · refine (win0_1.rect_emb_val t _ (1 : Fin 2)).trans ?_
    rw [f1]; show 0 * 4096 + d = d; omega
  · rw [hV, ← at2_of (n := 1) (p := 4096) _ (ix2 0 ⟨d, hd⟩) 0 d rfl rfl,
      shapeCast_apply _ shapeCasts_S4096_S1x4096 (ix2 0 ⟨d, hd⟩) (ix1 ⟨d, hd⟩) (by
        rw [Shape.rowMajor_val_one, Shape.rowMajor_val_two]; show d = 0 * 4096 + d; omega)]
    exact at1_of (n := 4096) _ _ _ rfl

/-- its sequence's shift, -/
theorem blk2_at (c : Dev nD) (t : Fin cfg0.N) (d : ℕ) (hd : d < 4096) :
    at3 (n := 1) (p := 1) (q := 4096) (iblk m c 2 t) 0 0 d
      = at3 (n := 8) (p := 1) (q := 4096) (m ((c : Thread nD τ).loc main_arg2)) (t.val / 8) 0 d := by
  obtain ⟨-, -, ⟨f0, f1, f2⟩, -⟩ := idx_facts t
  rw [← at3_of (n := 1) (p := 1) (q := 4096) (iblk m c 2 t) (ix3 0 0 ⟨d, hd⟩) 0 0 d rfl rfl rfl]
  refine at3_of (n := 8) (p := 1) (q := 4096) (m ((c : Thread nD τ).loc main_arg2)) ((win0_2.rect t).emb (ix3 0 0 ⟨d, hd⟩)) _ _ _ ?_ ?_ ?_
  · refine (win0_2.rect_emb_val t _ (0 : Fin 3)).trans ?_
    rw [f0]; show t.val / 8 * 1 + 0 = t.val / 8; omega
  · refine (win0_2.rect_emb_val t _ (1 : Fin 3)).trans ?_
    rw [f1]; rfl
  · refine (win0_2.rect_emb_val t _ (2 : Fin 3)).trans ?_
    rw [f2]; show 0 * 4096 + d = d; omega

/-- and its scale. -/
theorem blk3_at (c : Dev nD) (t : Fin cfg0.N) (d : ℕ) (hd : d < 4096) :
    at3 (n := 1) (p := 1) (q := 4096) (iblk m c 3 t) 0 0 d
      = at3 (n := 8) (p := 1) (q := 4096) (m ((c : Thread nD τ).loc main_arg3)) (t.val / 8) 0 d := by
  obtain ⟨-, -, -, ⟨f0, f1, f2⟩, -⟩ := idx_facts t
  rw [← at3_of (n := 1) (p := 1) (q := 4096) (iblk m c 3 t) (ix3 0 0 ⟨d, hd⟩) 0 0 d rfl rfl rfl]
  refine at3_of (n := 8) (p := 1) (q := 4096) (m ((c : Thread nD τ).loc main_arg3)) ((win0_3.rect t).emb (ix3 0 0 ⟨d, hd⟩)) _ _ _ ?_ ?_ ?_
  · refine (win0_3.rect_emb_val t _ (0 : Fin 3)).trans ?_
    rw [f0]; show t.val / 8 * 1 + 0 = t.val / 8; omega
  · refine (win0_3.rect_emb_val t _ (1 : Fin 3)).trans ?_
    rw [f1]; rfl
  · refine (win0_3.rect_emb_val t _ (2 : Fin 3)).trans ?_
    rw [f2]; show 0 * 4096 + d = d; omega

/-- The result at a row and a column, from the arguments. -/
def entry (c : Dev nD) (r d : ℕ) : EReal :=
  shifted (at2 (n := 16384) (p := 4096) (m ((c : Thread nD τ).loc main_arg0)) r) (at1 (n := 4096) (m ((c : Thread nD τ).loc main_arg1)) d)
    (at3 (n := 8) (p := 1) (q := 4096) (m ((c : Thread nD τ).loc main_arg3)) (r / 2048) 0 d)
    (at3 (n := 8) (p := 1) (q := 4096) (m ((c : Thread nD τ).loc main_arg2)) (r / 2048) 0 d) d

/-- What the result array is shown to hold. -/
def result (c : Dev nD) : Buf (Elt Ideal) ((c : Thread nD τ).loc main_v1) :=
  (fun i : S16384x4096.Idx => (entry m c (i 0).val (i 1).val : Elt Ideal .bf16))

/-- What point `t` writes back is its block of the result. -/
theorem flushed_eq (c : Dev nD) (t : Fin cfg0.N) :
    (dats m 0 c).flushed 4 t = ((cfg0.win 4).blk t).view.read (Elt Ideal) (result m c) := by
  rw [Value.flushed4]
  funext y
  have h0 : (y 0).val < 256 := (y 0).isLt
  have h1 : (y 1).val < 4096 := (y 1).isLt
  obtain ⟨-, -, -, -, f0, f1⟩ := idx_facts t
  have e0 : (((win0_4.rect t).emb y 0 : Fin _) : ℕ) = t.val * 256 + (y 0).val := by
    refine (win0_4.rect_emb_val t y (0 : Fin 2)).trans ?_
    rw [f0]; rfl
  have e1 : (((win0_4.rect t).emb y 1 : Fin _) : ℕ) = (y 1).val := by
    refine (win0_4.rect_emb_val t y (1 : Fin 2)).trans ?_
    rw [f1]; show 0 * 4096 + (y 1).val = (y 1).val; omega
  refine (out_apply (iblk m c 0 t) (iblk m c 1 t) (iblk m c 2 t) (iblk m c 3 t) y).trans ?_
  show _ = entry m c (((win0_4.rect t).emb y 0 : Fin _) : ℕ) (((win0_4.rect t).emb y 1 : Fin _) : ℕ)
  rw [e0, e1]
  unfold entry
  rw [show (t.val * 256 + (y 0).val) / 2048 = t.val / 8 by omega]
  exact shifted_congr h1 (fun l hl => blk0_at m c t _ l h0 hl) (blk1_at m c t _ h1) (blk3_at m c t _ h1) (blk2_at m c t _ h1)

/-- Every index of the result array lies in the block of a point that is written back. -/
theorem cover (i : S16384x4096.Idx) :
    ∃ t : Fin cfg0.N, (cfg0.win 4).flush t = true ∧ i ∈ ((cfg0.win 4).blk t).view.set := by
  have h0 : (i 0).val < 16384 := (i 0).isLt
  have h1 : (i 1).val < 4096 := (i 1).isLt
  have hN : cfg0.N = 64 := N_0
  have ht : (i 0).val / 256 < cfg0.N := by omega
  refine ⟨⟨_, ht⟩, flush0_4 _, ?_⟩
  obtain ⟨-, -, -, -, f0, f1⟩ := idx_facts ⟨_, ht⟩
  have g0 : win0_4.index ⟨_, ht⟩ (0 : Fin 2) = (i 0).val / 256 := f0
  show i ∈ ((View.whole main_v1).slice (win0_4.rect ⟨_, ht⟩)).set
  rw [View.set_slice_whole, Rect.mem_set_unit]
  intro a
  match a with
  | ⟨0, _⟩ =>
    show win0_4.index ⟨_, ht⟩ (0 : Fin 2) * 256 ≤ (i 0).val ∧ (i 0).val < win0_4.index ⟨_, ht⟩ (0 : Fin 2) * 256 + 256
    rw [g0]; omega
  | ⟨1, _⟩ =>
    show win0_4.index ⟨_, ht⟩ (1 : Fin 2) * 4096 ≤ (i 1).val ∧ (i 1).val < win0_4.index ⟨_, ht⟩ (1 : Fin 2) * 4096 + 4096
    rw [f1]; omega

/-- So the array ends holding the result. -/
theorem final (c : Dev nD) : (dats m 0 c).arrAt 4 cfg0.N = result m c :=
  (dats m 0 c).arrAt_eq_of_cover 4 (result m c) (fun t _ => flushed_eq m c t) cover

end Cert.FirstIdeal.Block

namespace Cert.FirstIdeal.Block

open Cert.FirstRefIdeal.Read Cert.FirstIdeal Cert.FirstIdeal.Gen Cert.Attention Idealize.ShloMosaic Idealize.ShloMosaic.ValueIdx
  Idealize.ShloMosaic.TcCoe

/-- A row of the reference, read at its position in its sequence. -/
theorem seq_apply (x : FVec Ideal S16384x4096 .f32) (i : Cert.FirstRefIdeal.S8x2048x4096.Idx) :
    val_main_v0 (F := Ideal) x i = at2 (n := 16384) (p := 4096) x ((i 0).val * 2048 + (i 1).val) (i 2).val := by
  have h2 : (i 2).val < 4096 := (i 2).isLt
  rw [val_main_v0_apply]
  refine at2_of (n := 16384) (p := 4096) x (idx_main_v0 i) _ _ ?_ ?_
  · show (((i 0).val * 2048 + (i 1).val) * 4096 + (i 2).val) / 4096 = _; omega
  · show (((i 0).val * 2048 + (i 1).val) * 4096 + (i 2).val) % 4096 = _; omega

/-- An entry of the reference, before the sequences are joined. -/
theorem shifted_apply (x : FVec Ideal S16384x4096 .f32) (g : FVec Ideal S4096 .f32) (h s : FVec Ideal S8x1x4096 .f32)
    (i : Cert.FirstRefIdeal.S8x2048x4096.Idx) :
    val_main_v19 (F := Ideal) x g h s i = shifted (at2 (n := 16384) (p := 4096) x ((i 0).val * 2048 + (i 1).val)) (at1 (n := 4096) g (i 2).val)
      (at3 (n := 8) (p := 1) (q := 4096) s (i 0).val 0 (i 2).val) (at3 (n := 8) (p := 1) (q := 4096) h (i 0).val 0 (i 2).val) (i 2).val := by
  rw [val_main_v19_apply, val_main_v17_apply, val_main_v18_apply, val_main_v16_apply, val_main_v15_apply, val_main_v14_apply,
    val_main_cst_2_apply, val_main_v13_apply, val_main_v12_apply, val_main_v11_apply, val_main_v10_apply, seq_apply, val_main_v9_apply,
    val_main_v8_apply, val_main_v7_apply, val_main_v6_apply, val_main_cst_1_apply, val_main_v5_apply, val_main_v4_apply,
    val_main_cst_0_apply, val_main_v3_apply, val_main_v2_apply, val_main_cst_apply]
  unfold shifted
  refine congrArg₂ (fun a b : EReal => a + b) ?_ (at3_of (n := 8) (p := 1) (q := 4096) h _ _ _ _ rfl rfl rfl)
  refine congrArg₂ (fun a b : EReal => a * b) ?_ (congrArg (fun a : EReal => _ + a) (at3_of (n := 8) (p := 1) (q := 4096) s _ _ _ _ rfl rfl rfl))
  refine congrArg₂ (fun a b : EReal => a * b) ?_ (at1_of (n := 4096) g _ _ rfl)
  refine congrArg (fun a : EReal => _ * a) ?_
  show Ideal.rsqrt (Ideal.div (Ideal.ofBits .f32 0x00000000#32 + _) _ + _) = _
  refine congrArg (fun a : EReal => Ideal.rsqrt (Ideal.div a _ + _)) ?_
  rw [Ideal.ofBits_zero_f32, zero_add]
  refine Finset.sum_congr rfl fun l _ => ?_
  rw [val_main_v1_apply, seq_apply]
  rfl

variable (m : (ℓ : Loc nD τ sig) → Buf (Elt Ideal) ℓ)

/-- The reference's result is the kernel's, at an index. -/
theorem reference_eq (c : Dev nD) (i : S16384x4096.Idx) :
    val_main_v21 (F := Ideal) (m ((c : Thread nD τ).loc main_arg0)) (m ((c : Thread nD τ).loc main_arg1))
      (m ((c : Thread nD τ).loc main_arg2)) (m ((c : Thread nD τ).loc main_arg3)) i = result m c i := by
  have h0 : (i 0).val < 16384 := (i 0).isLt
  have h1 : (i 1).val < 4096 := (i 1).isLt
  rw [val_main_v21_apply, val_main_v20_apply]
  refine (shifted_apply _ _ _ _ (idx_main_v20 i)).trans ?_
  have e0 : ((idx_main_v20 i 0 : Fin _) : ℕ) = (i 0).val / 2048 := by
    show ((i 0).val * 4096 + (i 1).val) / 8388608 = _; omega
  have e1 : ((idx_main_v20 i 1 : Fin _) : ℕ) = (i 0).val % 2048 := by
    show ((i 0).val * 4096 + (i 1).val) / 4096 % 2048 = _; omega
  have e2 : ((idx_main_v20 i 2 : Fin _) : ℕ) = (i 1).val := by
    show ((i 0).val * 4096 + (i 1).val) % 4096 = _; omega
  rw [e0, e1, e2, show (i 0).val / 2048 * 2048 + (i 0).val % 2048 = (i 0).val by omega]
  rfl

end Cert.FirstIdeal.Block

end
-- ==== Proof.lean ====
/-
  The proof of `Cert.Claim`: each of the layer's calls and its reference both run and leave their arguments alone, and
  over the extended reals they compute the same array (the attention for real queries and keys, the others for every argument).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Experts
public import proofs.«01_k».proof.Proof.Gen.Experts.Frame
public import proofs.«01_k».proof.Proof.Gen.ExpertsIdeal
public import proofs.«01_k».proof.Proof.Gen.ExpertsIdeal.Frame
public import proofs.«01_k».proof.Proof.Gen.ExpertsIdeal.Value
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Project
public import proofs.«01_k».proof.Proof.Gen.Project.Frame
public import proofs.«01_k».proof.Proof.Gen.ProjectIdeal
public import proofs.«01_k».proof.Proof.Gen.ProjectIdeal.Frame
public import proofs.«01_k».proof.Proof.Gen.ProjectIdeal.Value
public import proofs.«01_k».proof.Proof.Gen.ProjectRefIdeal
public import proofs.«01_k».proof.Proof.Gen.ProjectRefIdeal.Run
public import proofs.«01_k».proof.Proof.Gen.ProjectRefIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Next
public import proofs.«01_k».proof.Proof.Gen.NextIdeal
public import proofs.«01_k».proof.Proof.Gen.NextIdeal.Frame.RunB
public import proofs.«01_k».proof.Proof.Gen.NextRefIdeal
public import proofs.«01_k».proof.Proof.Gen.NextRefIdeal.Run
public import proofs.«01_k».proof.Proof.Gen.NextRefIdeal.Read
public import proofs.«01_k».proof.Proof.Gen.Context
public import proofs.«01_k».proof.Proof.Gen.Context.Frame
public import proofs.«01_k».proof.Proof.Gen.ContextIdeal
public import proofs.«01_k».proof.Proof.Gen.ContextIdeal.Frame
public import proofs.«01_k».proof.Proof.Gen.ContextIdeal.Value
public import proofs.«01_k».proof.Proof.Gen.ContextRefIdeal
public import proofs.«01_k».proof.Proof.Gen.ContextRefIdeal.Run
public import proofs.«01_k».proof.Proof.Gen.ContextRefIdeal.Read
public import proofs.«01_k».proof.Proof.Gen.Pre_finite
public import proofs.«01_k».proof.Proof.Finite
public import proofs.«01_k».proof.Proof.Equation
public import proofs.«01_k».proof.Proof.ExpertsValue
public import proofs.«01_k».proof.Proof.DownValue
public import proofs.«01_k».proof.Proof.Project
public import proofs.«01_k».proof.Proof.Mix
public import proofs.«01_k».proof.Proof.Context
public import proofs.«01_k».proof.Proof.NextValue
public import proofs.«01_k».proof.Proof.NextBits
public import proofs.«01_k».proof.Proof.Gen.Merge
public import proofs.«01_k».proof.Proof.Gen.MergeIdeal
public import proofs.«01_k».proof.Proof.Gen.MergeIdeal.Frame.RunB
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Join
public import proofs.«01_k».proof.Proof.Gen.JoinIdeal
public import proofs.«01_k».proof.Proof.Gen.JoinIdeal.Frame.RunB
public import proofs.«01_k».proof.Proof.Gen.JoinRefIdeal
public import proofs.«01_k».proof.Proof.Gen.JoinRefIdeal.Run
public import proofs.«01_k».proof.Proof.Gen.JoinRefIdeal.Read
public import proofs.«01_k».proof.Proof.MergeLoop
public import proofs.«01_k».proof.Proof.JoinLoop
public import proofs.«01_k».proof.Proof.JoinValue
public import proofs.«01_k».proof.Proof.JoinBits
public import proofs.«01_k».proof.Proof.MergeValue
public import proofs.«01_k».proof.Proof.MergeBits
public import proofs.«01_k».proof.Proof.Gen.Mixer
public import proofs.«01_k».proof.Proof.Gen.Mixer.Frame
public import proofs.«01_k».proof.Proof.Gen.MixerIdeal
public import proofs.«01_k».proof.Proof.Gen.MixerIdeal.Frame
public import proofs.«01_k».proof.Proof.Gen.MixerIdeal.Value
public import proofs.«01_k».proof.Proof.Gen.MixerRefIdeal
public import proofs.«01_k».proof.Proof.Gen.MixerRefIdeal.Run
public import proofs.«01_k».proof.Proof.Gen.MixerRefIdeal.Read
public import proofs.«01_k».proof.Proof.MixerValue
public import proofs.«01_k».proof.Proof.AdaValue
public import proofs.«01_k».proof.Proof.FirstValue
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.First
public import proofs.«01_k».proof.Proof.Gen.First.Frame
public import proofs.«01_k».proof.Proof.Gen.FirstIdeal
public import proofs.«01_k».proof.Proof.Gen.FirstIdeal.Frame
public import proofs.«01_k».proof.Proof.Gen.FirstIdeal.Value
public import proofs.«01_k».proof.Proof.Gen.FirstRefIdeal
public import proofs.«01_k».proof.Proof.Gen.FirstRefIdeal.Run
public import proofs.«01_k».proof.Proof.Gen.FirstRefIdeal.Read
public import Idealize.ShloMosaic.Adequacy
public import Idealize.ShloMosaic.Init

@[expose] public section

noncomputable section

-- The claims about the programs also say that every semaphore counter ends at zero; a program without semaphores has none to end otherwise.

namespace Cert.Proof

open Idealize.ShloMosaic Idealize.SL.Sem

/-- The reference runs, keeps its arguments, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The attention call computes the reference's attention. -/
theorem attention : Cert.algebraic_KernelIdeal_ReferenceIdeal_pre_finite := by
  intro m ρ m' ρ' hpre hagree
  refine ⟨fun c => Cert.KernelIdeal.Block.result m c, ?_, ?_⟩
  · exact (θ_run Cert.KernelIdeal.defs _ _).mono
      (fun _ h c => ⟨(h c).1.trans (Cert.KernelIdeal.Block.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4⟩ := hagree c
    obtain ⟨h0, h1, h3⟩ := Cert.Attention.real_args _ _ _ _ _ (hpre c)
    rw [Cert.ReferenceIdeal.Read.val_main_v33_eq, e0, e1, e2, e3, e4]
    funext i
    exact Cert.Attention.reference_eq _ _ _ _ _ h0 h1 h3 i

/-- The reference of the experts runs and keeps its arguments. -/
theorem frame_experts_reference : Cert.quiescent_ExpertsRefIdeal := fun m ρ _ =>
  (θ_run Cert.ExpertsRefIdeal.defs _ _).mono (fun r h => ⟨fun c => (h c).2, sem_eq_zero_of_no_sems (by decide) r.2⟩)
    (Cert.ExpertsRefIdeal.Value.run (F := Ideal) m ρ)

/-- The experts' call computes the reference's hidden layers. -/
theorem experts : Cert.algebraic_ExpertsIdeal_ExpertsRefIdeal := by
  intro m ρ m' ρ' _ hagree
  refine ⟨fun c => Cert.ExpertsIdeal.Block.result m c, ?_, ?_⟩
  · exact (θ_run Cert.ExpertsIdeal.defs _ _).mono
      (fun _ h c => ⟨(h c).1.trans (Cert.ExpertsIdeal.Block.final m c), (h c).2⟩)
      (Cert.ExpertsIdeal.Value.run_blocks (F := Ideal) m ρ)
  · refine (θ_run Cert.ExpertsRefIdeal.defs _ _).mono (fun _ h c => ⟨(h c).1.trans ?_, (h c).2⟩)
      (Cert.ExpertsRefIdeal.Value.run (F := Ideal) m' ρ')
    obtain ⟨e0, e1, e2, e3, e4, e5⟩ := hagree c
    rw [Cert.ExpertsRefIdeal.Read.val_main_v16_eq, e0, e1, e2, e3, e4, e5]
    funext i
    exact Cert.ExpertsIdeal.Block.reference_eq m c i

/-- The reference of the down-projection runs and keeps its arguments. -/
theorem frame_down_reference : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- The down-projection computes the reference of the result. -/
theorem down : Cert.algebraic_DownIdeal_DownRefIdeal := by
  intro m ρ m' ρ' _ hagree
  refine ⟨fun c => Cert.DownIdeal.Block.result m c, ?_, ?_⟩
  · exact (θ_run Cert.DownIdeal.defs _ _).mono
      (fun _ h c => ⟨(h c).1.trans (Cert.DownIdeal.Block.final m c), (h c).2⟩)
      (Cert.DownIdeal.Value.run_blocks (F := Ideal) m ρ)
  · refine (θ_run Cert.DownRefIdeal.defs _ _).mono (fun _ h c => ⟨(h c).1.trans ?_, (h c).2⟩)
      (Cert.DownRefIdeal.Value.run (F := Ideal) m' ρ')
    obtain ⟨e0, e1, e2, e3, e4, e5⟩ := hagree c
    rw [Cert.DownRefIdeal.Read.val_main_v26_eq, e0, e1, e2, e3, e4, e5]
    funext i
    exact Cert.DownIdeal.Block.reference_eq m c i

/-- The reference of the projection runs and keeps its arguments. -/
theorem frame_project_reference : Cert.quiescent_ProjectRefIdeal := fun m ρ _ =>
  (θ_run Cert.ProjectRefIdeal.defs _ _).mono (fun r h => ⟨fun c => (h c).2, sem_eq_zero_of_no_sems (by decide) r.2⟩)
    (Cert.ProjectRefIdeal.Value.run (F := Ideal) m ρ)

/-- The projection computes the reference product. -/
theorem project : Cert.algebraic_ProjectIdeal_ProjectRefIdeal := by
  intro m ρ m' ρ' _ hagree
  refine ⟨fun c => Cert.ProjectIdeal.Block.result m c, ?_, ?_⟩
  · exact (θ_run Cert.ProjectIdeal.defs _ _).mono
      (fun _ h c => ⟨(h c).1.trans (Cert.ProjectIdeal.Block.final m c), (h c).2⟩)
      (Cert.ProjectIdeal.Value.run_blocks (F := Ideal) m ρ)
  · refine (θ_run Cert.ProjectRefIdeal.defs _ _).mono (fun _ h c => ⟨(h c).1.trans ?_, (h c).2⟩)
      (Cert.ProjectRefIdeal.Value.run (F := Ideal) m' ρ')
    obtain ⟨e0, e1⟩ := hagree c
    rw [Cert.ProjectRefIdeal.Read.val_main_v2_eq, e0, e1]
    funext i
    exact Cert.ProjectIdeal.Block.reference_eq m c i

/-- The reference of the mixing layer's projection runs and keeps its arguments. -/
theorem frame_mix_reference : Cert.quiescent_MixRefIdeal := fun m ρ _ =>
  (θ_run Cert.MixRefIdeal.defs _ _).mono (fun r h => ⟨fun c => (h c).2, sem_eq_zero_of_no_sems (by decide) r.2⟩)
    (Cert.MixRefIdeal.Value.run (F := Ideal) m ρ)

/-- The projection of the mixing layer computes the reference product. -/
theorem mix : Cert.algebraic_MixIdeal_MixRefIdeal := by
  intro m ρ m' ρ' _ hagree
  refine ⟨fun c => Cert.MixIdeal.Block.result m c, ?_, ?_⟩
  · exact (θ_run Cert.MixIdeal.defs _ _).mono
      (fun _ h c => ⟨(h c).1.trans (Cert.MixIdeal.Block.final m c), (h c).2⟩)
      (Cert.MixIdeal.Value.run_blocks (F := Ideal) m ρ)
  · refine (θ_run Cert.MixRefIdeal.defs _ _).mono (fun _ h c => ⟨(h c).1.trans ?_, (h c).2⟩)
      (Cert.MixRefIdeal.Value.run (F := Ideal) m' ρ')
    obtain ⟨e0, e1⟩ := hagree c
    rw [Cert.MixRefIdeal.Read.val_main_v2_eq, e0, e1]
    funext i
    exact Cert.MixIdeal.Block.reference_eq m c i

/-- The reference of the context's projection runs and keeps its arguments. -/
theorem frame_context_reference : Cert.quiescent_ContextRefIdeal := fun m ρ _ =>
  (θ_run Cert.ContextRefIdeal.defs _ _).mono (fun r h => ⟨fun c => (h c).2, sem_eq_zero_of_no_sems (by decide) r.2⟩)
    (Cert.ContextRefIdeal.Value.run (F := Ideal) m ρ)

/-- The projection of the context computes the reference product. -/
theorem context : Cert.algebraic_ContextIdeal_ContextRefIdeal := by
  intro m ρ m' ρ' _ hagree
  refine ⟨fun c => Cert.ContextIdeal.Block.result m c, ?_, ?_⟩
  · exact (θ_run Cert.ContextIdeal.defs _ _).mono
      (fun _ h c => ⟨(h c).1.trans (Cert.ContextIdeal.Block.final m c), (h c).2⟩)
      (Cert.ContextIdeal.Value.run_blocks (F := Ideal) m ρ)
  · refine (θ_run Cert.ContextRefIdeal.defs _ _).mono (fun _ h c => ⟨(h c).1.trans ?_, (h c).2⟩)
      (Cert.ContextRefIdeal.Value.run (F := Ideal) m' ρ')
    obtain ⟨e0, e1⟩ := hagree c
    rw [Cert.ContextRefIdeal.Read.val_main_v9_eq, e0, e1]
    funext i
    exact Cert.ContextIdeal.Block.reference_eq m c i

/-- The reference of the down-projection before another layer runs and keeps its arguments. -/
theorem frame_next_down_reference : Cert.quiescent_NextRefIdeal := fun m ρ _ =>
  (θ_run Cert.NextRefIdeal.defs _ _).mono (fun r h => ⟨fun c => (h c).2.2, sem_eq_zero_of_no_sems (by decide) r.2⟩)
    (Cert.NextRefIdeal.Value.run (F := Ideal) m ρ)

/-- That down-projection computes both of the reference's results. -/
theorem next_down : Cert.algebraic_NextIdeal_NextRefIdeal := by
  intro m ρ m' ρ' _ hagree
  refine ⟨fun c => Cert.NextIdeal.Block.result m c, fun c => Cert.NextIdeal.Block.result2 m c, ?_, ?_⟩
  · exact (θ_run Cert.NextIdeal.defs _ _).mono
      (fun _ h c => ⟨(h c).1.trans (Cert.NextIdeal.Block.final m c), (h c).2.1.trans (Cert.NextIdeal.Block.final2 m c), (h c).2.2⟩)
      (Cert.NextIdeal.Own.arrays (F := Ideal) m ρ)
  · refine (θ_run Cert.NextRefIdeal.defs _ _).mono (fun _ h c => ⟨(h c).1.trans ?_, (h c).2.1.trans ?_, (h c).2.2⟩)
      (Cert.NextRefIdeal.Value.run (F := Ideal) m' ρ')
    · obtain ⟨e0, e1, e2, e3, e4, e5, e6, e7, e8⟩ := hagree c
      refine (Cert.NextRefIdeal.Read.val_main_v45_eq _ _ _ _ _ _).trans ?_
      rw [e0, e1, e2, e3, e4, e5]
      exact funext fun i => Cert.NextIdeal.Block.reference_eq m c i
    · obtain ⟨e0, e1, e2, e3, e4, e5, e6, e7, e8⟩ := hagree c
      refine (Cert.NextRefIdeal.Read.val_main_v47_eq m' c).trans ?_
      rw [e0, e1, e2, e3, e4, e5, e6, e7, e8]
      exact funext fun i => Cert.NextIdeal.Block.reference_eq2 m c i

/-- The reference of the attention layer's output projection runs and keeps its arguments. -/
theorem frame_attention_out_reference : Cert.quiescent_JoinRefIdeal := fun m ρ _ =>
  (θ_run Cert.JoinRefIdeal.defs _ _).mono (fun r h => ⟨fun c => (h c).2.2, sem_eq_zero_of_no_sems (by decide) r.2⟩)
    (Cert.JoinRefIdeal.Value.run (F := Ideal) m ρ)

/-- The attention layer's output projection computes both of the reference's results. -/
theorem attention_out : Cert.algebraic_JoinIdeal_JoinRefIdeal := by
  intro m ρ m' ρ' _ hagree
  refine ⟨fun c => Cert.JoinIdeal.Block.result m c, fun c => Cert.JoinIdeal.Block.result2 m c, ?_, ?_⟩
  · exact (θ_run Cert.JoinIdeal.defs _ _).mono
      (fun _ h c => ⟨(h c).1.trans (Cert.JoinIdeal.Block.final m c), (h c).2.1.trans (Cert.JoinIdeal.Block.final2 m c), (h c).2.2⟩)
      (Cert.JoinIdeal.Own.arrays (F := Ideal) m ρ)
  · refine (θ_run Cert.JoinRefIdeal.defs _ _).mono (fun _ h c => ⟨(h c).1.trans ?_, (h c).2.1.trans ?_, (h c).2.2⟩)
      (Cert.JoinRefIdeal.Value.run (F := Ideal) m' ρ')
    · obtain ⟨e0, e1, e2, e3, e4, e5, e6, e7, e8⟩ := hagree c
      refine (Cert.JoinRefIdeal.Read.val_main_v40_eq _ _ _ _ _ _).trans ?_
      rw [e0, e1, e2, e3, e4, e5]
      exact funext fun i => Cert.JoinIdeal.Block.reference_eq m c i
    · obtain ⟨e0, e1, e2, e3, e4, e5, e6, e7, e8⟩ := hagree c
      refine (Cert.JoinRefIdeal.Read.val_main_v42_eq m' c).trans ?_
      rw [e0, e1, e2, e3, e4, e5, e6, e7, e8]
      exact funext fun i => Cert.JoinIdeal.Block.reference_eq2 m c i

/-- The reference of the mixing layer's output projection runs and keeps its arguments. -/
theorem frame_mixing_out_reference : Cert.quiescent_MergeRefIdeal := fun m ρ _ =>
  (θ_run Cert.MergeRefIdeal.defs _ _).mono (fun r h => ⟨fun c => (h c).2.2, sem_eq_zero_of_no_sems (by decide) r.2⟩)
    (Cert.MergeRefIdeal.Value.run (F := Ideal) m ρ)

/-- The mixing layer's output projection computes both of the reference's results. -/
theorem mixing_out : Cert.algebraic_MergeIdeal_MergeRefIdeal := by
  intro m ρ m' ρ' _ hagree
  refine ⟨fun c => Cert.MergeIdeal.Block.result m c, fun c => Cert.MergeIdeal.Block.result2 m c, ?_, ?_⟩
  · exact (θ_run Cert.MergeIdeal.defs _ _).mono
      (fun _ h c => ⟨(h c).1.trans (Cert.MergeIdeal.Block.final m c), (h c).2.1.trans (Cert.MergeIdeal.Block.final2 m c), (h c).2.2⟩)
      (Cert.MergeIdeal.Own.arrays (F := Ideal) m ρ)
  · refine (θ_run Cert.MergeRefIdeal.defs _ _).mono (fun _ h c => ⟨(h c).1.trans ?_, (h c).2.1.trans ?_, (h c).2.2⟩)
      (Cert.MergeRefIdeal.Value.run (F := Ideal) m' ρ')
    · obtain ⟨e0, e1, e2, e3, e4, e5, e6, e7⟩ := hagree c
      refine (Cert.MergeRefIdeal.Read.val_main_v45_eq _ _ _ _ _).trans ?_
      rw [e0, e1, e2, e3, e4]
      exact funext fun i => Cert.MergeIdeal.Block.reference_eq m c i
    · obtain ⟨e0, e1, e2, e3, e4, e5, e6, e7⟩ := hagree c
      refine (Cert.MergeRefIdeal.Read.val_main_v47_eq m' c).trans ?_
      rw [e0, e1, e2, e3, e4, e5, e6, e7]
      exact funext fun i => Cert.MergeIdeal.Block.reference_eq2 m c i

/-- The reference of the mixer runs and keeps its arguments. -/
theorem frame_mixer_reference : Cert.quiescent_MixerRefIdeal := fun m ρ _ =>
  (θ_run Cert.MixerRefIdeal.defs _ _).mono (fun r h => ⟨fun c => (h c).2, sem_eq_zero_of_no_sems (by decide) r.2⟩)
    (Cert.MixerRefIdeal.Value.run (F := Ideal) m ρ)

/-- The mixer computes its reference. -/
theorem mixer : Cert.algebraic_MixerIdeal_MixerRefIdeal := by
  intro m ρ m' ρ' _ hagree
  refine ⟨fun c => Cert.MixerIdeal.Block.result m c, ?_, ?_⟩
  · exact (θ_run Cert.MixerIdeal.defs _ _).mono
      (fun _ h c => ⟨(h c).1.trans (Cert.MixerIdeal.Block.final m c), (h c).2⟩)
      (Cert.MixerIdeal.Value.run_blocks (F := Ideal) m ρ)
  · refine (θ_run Cert.MixerRefIdeal.defs _ _).mono (fun _ h c => ⟨(h c).1.trans ?_, (h c).2⟩)
      (Cert.MixerRefIdeal.Value.run (F := Ideal) m' ρ')
    obtain ⟨e0, e1, e2, e3, e4⟩ := hagree c
    rw [Cert.MixerRefIdeal.Read.val_main_v56_eq, e0, e1, e2, e3, e4]
    funext i
    exact Cert.MixerIdeal.Block.reference_eq m c i

theorem frame_modulation_reference : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

/-- The scales and shifts are the reference's. -/
theorem modulation : Cert.algebraic_AdaIdeal_AdaRefIdeal := by
  intro m ρ m' ρ' _ hagree
  refine ⟨fun c => Cert.AdaIdeal.Block.result m c, ?_, ?_⟩
  · exact (θ_run Cert.AdaIdeal.defs _ _).mono
      (fun _ h c => ⟨(h c).1.trans (Cert.AdaIdeal.Block.final m c), (h c).2⟩)
      (Cert.AdaIdeal.Value.run_blocks (F := Ideal) m ρ)
  · refine (θ_run Cert.AdaRefIdeal.defs _ _).mono (fun _ h c => ⟨(h c).1.trans ?_, (h c).2⟩)
      (Cert.AdaRefIdeal.Value.run (F := Ideal) m' ρ')
    obtain ⟨e0, e1, e2⟩ := hagree c
    rw [Cert.AdaRefIdeal.Read.val_main_v5_eq, e0, e1, e2]
    funext i
    exact Cert.AdaIdeal.Block.reference_eq m c i

theorem frame_first_norm_reference : Cert.quiescent_FirstRefIdeal := fun m ρ _ =>
  (θ_run Cert.FirstRefIdeal.defs _ _).mono (fun r h => ⟨fun c => (h c).2, sem_eq_zero_of_no_sems (by decide) r.2⟩)
    (Cert.FirstRefIdeal.Value.run (F := Ideal) m ρ)

/-- The first layer's norm computes its reference. -/
theorem first_norm : Cert.algebraic_FirstIdeal_FirstRefIdeal := by
  intro m ρ m' ρ' _ hagree
  refine ⟨fun c => Cert.FirstIdeal.Block.result m c, ?_, ?_⟩
  · exact (θ_run Cert.FirstIdeal.defs _ _).mono
      (fun _ h c => ⟨(h c).1.trans (Cert.FirstIdeal.Block.final m c), (h c).2⟩)
      (Cert.FirstIdeal.Value.run_blocks (F := Ideal) m ρ)
  · refine (θ_run Cert.FirstRefIdeal.defs _ _).mono (fun _ h c => ⟨(h c).1.trans ?_, (h c).2⟩)
      (Cert.FirstRefIdeal.Value.run (F := Ideal) m' ρ')
    obtain ⟨e0, e1, e2, e3⟩ := hagree c
    rw [Cert.FirstRefIdeal.Read.val_main_v21_eq, e0, e1, e2, e3]
    funext i
    exact Cert.FirstIdeal.Block.reference_eq m c i

theorem claim : Cert.Claim := ⟨Cert.Kernel.Gen.facts, Cert.KernelIdeal.Gen.facts, Cert.ReferenceIdeal.Gen.facts, Cert.Experts.Gen.facts, Cert.ExpertsIdeal.Gen.facts, Cert.ExpertsRefIdeal.Gen.facts, Cert.Down.Gen.facts, Cert.DownIdeal.Gen.facts, Cert.DownRefIdeal.Gen.facts, Cert.Project.Gen.facts, Cert.ProjectIdeal.Gen.facts, Cert.ProjectRefIdeal.Gen.facts, Cert.Mix.Gen.facts, Cert.MixIdeal.Gen.facts, Cert.MixRefIdeal.Gen.facts, Cert.Context.Gen.facts, Cert.ContextIdeal.Gen.facts, Cert.ContextRefIdeal.Gen.facts, Cert.Next.Gen.facts, Cert.NextIdeal.Gen.facts, Cert.NextRefIdeal.Gen.facts, Cert.Join.Gen.facts, Cert.JoinIdeal.Gen.facts, Cert.JoinRefIdeal.Gen.facts, Cert.Merge.Gen.facts, Cert.MergeIdeal.Gen.facts, Cert.MergeRefIdeal.Gen.facts, Cert.Mixer.Gen.facts, Cert.MixerIdeal.Gen.facts, Cert.MixerRefIdeal.Gen.facts, Cert.Ada.Gen.facts, Cert.AdaIdeal.Gen.facts, Cert.AdaRefIdeal.Gen.facts, Cert.First.Gen.facts, Cert.FirstIdeal.Gen.facts, Cert.FirstRefIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Experts.Gen.frame m ρ,
  fun m ρ _ => Cert.ExpertsIdeal.Gen.frame m ρ,
  frame_experts_reference,
  fun m ρ _ => Cert.Down.Gen.frame m ρ,
  fun m ρ _ => Cert.DownIdeal.Gen.frame m ρ,
  frame_down_reference,
  fun m ρ _ => Cert.Project.Gen.frame m ρ,
  fun m ρ _ => Cert.ProjectIdeal.Gen.frame m ρ,
  frame_project_reference,
  fun m ρ _ => Cert.Mix.Gen.frame m ρ,
  fun m ρ _ => Cert.MixIdeal.Gen.frame m ρ,
  frame_mix_reference,
  fun m ρ _ => Cert.Context.Gen.frame m ρ,
  fun m ρ _ => Cert.ContextIdeal.Gen.frame m ρ,
  frame_context_reference,
  Cert.NextIdeal.Own.frame_bits,
  fun m ρ _ => Cert.NextIdeal.Own.frame m ρ,
  frame_next_down_reference,
  Cert.JoinIdeal.Own.frame_bits,
  fun m ρ _ => Cert.JoinIdeal.Own.frame m ρ,
  frame_attention_out_reference,
  Cert.MergeIdeal.Own.frame_bits,
  fun m ρ _ => Cert.MergeIdeal.Own.frame m ρ,
  frame_mixing_out_reference,
  fun m ρ _ => Cert.Mixer.Gen.frame m ρ,
  fun m ρ _ => Cert.MixerIdeal.Gen.frame m ρ,
  frame_mixer_reference,
  fun m ρ _ => Cert.Ada.Gen.frame m ρ,
  fun m ρ _ => Cert.AdaIdeal.Gen.frame m ρ,
  frame_modulation_reference,
  fun m ρ _ => Cert.First.Gen.frame m ρ,
  fun m ρ _ => Cert.FirstIdeal.Gen.frame m ρ,
  frame_first_norm_reference,
  trivial,
  attention,
  trivial,
  experts,
  trivial,
  down,
  trivial,
  project,
  trivial,
  mix,
  trivial,
  context,
  trivial,
  next_down,
  trivial,
  attention_out,
  trivial,
  mixing_out,
  trivial,
  mixer,
  trivial,
  modulation,
  trivial,
  first_norm⟩

end Cert.Proof

end
